-- ==== Defs.lean ====
def Pre_Fgate (m : (ℓ : Loc Cert.Fgate.nD Cert.Fgate.τ Cert.Fgate.sig) → Buf (Elt Bits) ℓ) : Prop :=
  True

def Pre_FgateIdeal (m : (ℓ : Loc Cert.FgateIdeal.nD Cert.FgateIdeal.τ Cert.FgateIdeal.sig) → Buf (Elt Ideal) ℓ) : Prop :=
  True

def Pre_FgateRefIdeal (m : (ℓ : Loc Cert.FgateRefIdeal.nD Cert.FgateRefIdeal.τ Cert.FgateRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_arguments [hPre_finite_arguments : Cert.Pre_finite_arguments.Facts] (m : (ℓ : Loc Cert.AttnIdeal.nD Cert.AttnIdeal.τ Cert.AttnIdeal.sig) → Buf (Elt Ideal) ℓ) : Prop :=
  ∀ c : Dev Cert.AttnIdeal.nD,
    (Cert.Pre_finite_arguments.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_arguments [hPre_finite_arguments : Cert.Pre_finite_arguments.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_arguments.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_projection [hPre_finite_projection : Cert.Pre_finite_projection.Facts] (m : (ℓ : Loc Cert.ProjIdeal.nD Cert.ProjIdeal.τ Cert.ProjIdeal.sig) → Buf (Elt Ideal) ℓ) : Prop :=
  ∀ c : Dev Cert.ProjIdeal.nD,
    (Cert.Pre_finite_projection.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12)) (m ((c.tc : Thread Cert.ProjIdeal.nD Cert.ProjIdeal.τ).loc Cert.ProjIdeal.main_arg13)) (m ((c.tc : Thread Cert.ProjIdeal.nD Cert.ProjIdeal.τ).loc Cert.ProjIdeal.main_arg14))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_projection [hPre_finite_projection : Cert.Pre_finite_projection.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_projection.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10)) (m ((c.tc : Thread Cert.ProjRefIdeal.nD Cert.ProjRefIdeal.τ).loc Cert.ProjRefIdeal.main_arg11)) (m ((c.tc : Thread Cert.ProjRefIdeal.nD Cert.ProjRefIdeal.τ).loc Cert.ProjRefIdeal.main_arg12)) (m ((c.tc : Thread Cert.ProjRefIdeal.nD Cert.ProjRefIdeal.τ).loc Cert.ProjRefIdeal.main_arg13)) (m ((c.tc : Thread Cert.ProjRefIdeal.nD Cert.ProjRefIdeal.τ).loc Cert.ProjRefIdeal.main_arg14))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mix [hPre_finite_mix : Cert.Pre_finite_mix.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14))) = (fun _ => 1#1)

def Pre_Afwd (m : (ℓ : Loc Cert.Afwd.nD Cert.Afwd.τ Cert.Afwd.sig) → Buf (Elt Bits) ℓ) : Prop :=
  True

def Pre_AfwdIdeal (m : (ℓ : Loc Cert.AfwdIdeal.nD Cert.AfwdIdeal.τ Cert.AfwdIdeal.sig) → Buf (Elt Ideal) ℓ) : Prop :=
  True

def Pre_AfwdIdeal_finite_inputs [hPre_finite_inputs : Cert.Pre_finite_inputs.Facts] (m : (ℓ : Loc Cert.AfwdIdeal.nD Cert.AfwdIdeal.τ Cert.AfwdIdeal.sig) → Buf (Elt Ideal) ℓ) : Prop :=
  ∀ c : Dev Cert.AfwdIdeal.nD,
    (Cert.Pre_finite_inputs.fn (F := Ideal) (m ((c.tc : Thread Cert.AfwdIdeal.nD Cert.AfwdIdeal.τ).loc Cert.AfwdIdeal.main_arg0)) (m ((c.tc : Thread Cert.AfwdIdeal.nD Cert.AfwdIdeal.τ).loc Cert.AfwdIdeal.main_arg1)) (m ((c.tc : Thread Cert.AfwdIdeal.nD Cert.AfwdIdeal.τ).loc Cert.AfwdIdeal.main_arg2)) (m ((c.tc : Thread Cert.AfwdIdeal.nD Cert.AfwdIdeal.τ).loc Cert.AfwdIdeal.main_arg3)) (m ((c.tc : Thread Cert.AfwdIdeal.nD Cert.AfwdIdeal.τ).loc Cert.AfwdIdeal.main_arg4))) = (fun _ => 1#1)

def Pre_AfwdRefIdeal (m : (ℓ : Loc Cert.AfwdRefIdeal.nD Cert.AfwdRefIdeal.τ Cert.AfwdRefIdeal.sig) → Buf (Elt Ideal) ℓ) : Prop :=
  True

def Pre_AfwdRefIdeal_finite_inputs [hPre_finite_inputs : Cert.Pre_finite_inputs.Facts] (m : (ℓ : Loc Cert.AfwdRefIdeal.nD Cert.AfwdRefIdeal.τ Cert.AfwdRefIdeal.sig) → Buf (Elt Ideal) ℓ) : Prop :=
  ∀ c : Dev Cert.AfwdRefIdeal.nD,
    (Cert.Pre_finite_inputs.fn (F := Ideal) (m ((c.tc : Thread Cert.AfwdRefIdeal.nD Cert.AfwdRefIdeal.τ).loc Cert.AfwdRefIdeal.main_arg0)) (m ((c.tc : Thread Cert.AfwdRefIdeal.nD Cert.AfwdRefIdeal.τ).loc Cert.AfwdRefIdeal.main_arg1)) (m ((c.tc : Thread Cert.AfwdRefIdeal.nD Cert.AfwdRefIdeal.τ).loc Cert.AfwdRefIdeal.main_arg2)) (m ((c.tc : Thread Cert.AfwdRefIdeal.nD Cert.AfwdRefIdeal.τ).loc Cert.AfwdRefIdeal.main_arg3)) (m ((c.tc : Thread Cert.AfwdRefIdeal.nD Cert.AfwdRefIdeal.τ).loc Cert.AfwdRefIdeal.main_arg4))) = (fun _ => 1#1)

def Pre_Parts (m : (ℓ : Loc Cert.Parts.nD Cert.Parts.τ Cert.Parts.sig) → Buf (Elt Bits) ℓ) : Prop :=
  True

def Pre_PartsIdeal (m : (ℓ : Loc Cert.PartsIdeal.nD Cert.PartsIdeal.τ Cert.PartsIdeal.sig) → Buf (Elt Ideal) ℓ) : Prop :=
  True

def Pre_PartsRefIdeal (m : (ℓ : Loc Cert.PartsRefIdeal.nD Cert.PartsRefIdeal.τ Cert.PartsRefIdeal.sig) → Buf (Elt Ideal) ℓ) : Prop :=
  True

def Pre_Update (m : (ℓ : Loc Cert.Update.nD Cert.Update.τ Cert.Update.sig) → Buf (Elt Bits) ℓ) : Prop :=
  True

def Pre_UpdateIdeal (m : (ℓ : Loc Cert.UpdateIdeal.nD Cert.UpdateIdeal.τ Cert.UpdateIdeal.sig) → Buf (Elt Ideal) ℓ) : Prop :=
  True

def Pre_UpdateRefIdeal (m : (ℓ : Loc Cert.UpdateRefIdeal.nD Cert.UpdateRefIdeal.τ Cert.UpdateRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Narrow (m : (ℓ : Loc Cert.Narrow.nD Cert.Narrow.τ Cert.Narrow.sig) → Buf (Elt Bits) ℓ) : Prop :=
  True

def Pre_NarrowIdeal (m : (ℓ : Loc Cert.NarrowIdeal.nD Cert.NarrowIdeal.τ Cert.NarrowIdeal.sig) → Buf (Elt Ideal) ℓ) : Prop :=
  True

def Pre_NarrowRefIdeal (m : (ℓ : Loc Cert.NarrowRefIdeal.nD Cert.NarrowRefIdeal.τ Cert.NarrowRefIdeal.sig) → Buf (Elt Ideal) ℓ) : Prop :=
  True

def Pre_Wada (m : (ℓ : Loc Cert.Wada.nD Cert.Wada.τ Cert.Wada.sig) → Buf (Elt Bits) ℓ) : Prop :=
  True

def Pre_WadaIdeal (m : (ℓ : Loc Cert.WadaIdeal.nD Cert.WadaIdeal.τ Cert.WadaIdeal.sig) → Buf (Elt Ideal) ℓ) : Prop :=
  True

def Pre_WadaRefIdeal (m : (ℓ : Loc Cert.WadaRefIdeal.nD Cert.WadaRefIdeal.τ Cert.WadaRefIdeal.sig) → Buf (Elt Ideal) ℓ) : Prop :=
  True

def quiescent_Fgate [hFgate : Cert.Fgate.Facts] : Prop :=
  ∀ (m : (ℓ : Loc Cert.Fgate.nD Cert.Fgate.τ Cert.Fgate.sig) → Buf (Elt Bits) ℓ) (g : Dev Cert.Fgate.nD → PrngReg), Pre_Fgate m →
    θ_run (Cert.Fgate.defs (F := Bits)) (onTc (τ := Cert.Fgate.τ) (Cert.Fgate.main (F := Bits))) ⟨m, fun _ => 0, g⟩ (fun r => (∀ c : Dev Cert.Fgate.nD,
      r.2.mem ((c.tc : Thread Cert.Fgate.nD Cert.Fgate.τ).loc Cert.Fgate.main_arg0) = m ((c.tc : Thread Cert.Fgate.nD Cert.Fgate.τ).loc Cert.Fgate.main_arg0)
      ∧ r.2.mem ((c.tc : Thread Cert.Fgate.nD Cert.Fgate.τ).loc Cert.Fgate.main_arg1) = m ((c.tc : Thread Cert.Fgate.nD Cert.Fgate.τ).loc Cert.Fgate.main_arg1)
      ∧ r.2.mem ((c.tc : Thread Cert.Fgate.nD Cert.Fgate.τ).loc Cert.Fgate.main_arg2) = m ((c.tc : Thread Cert.Fgate.nD Cert.Fgate.τ).loc Cert.Fgate.main_arg2))
      ∧ r.2.sem = fun _ => 0)

def quiescent_FgateIdeal [hFgateIdeal : Cert.FgateIdeal.Facts] : Prop :=
  ∀ (m : (ℓ : Loc Cert.FgateIdeal.nD Cert.FgateIdeal.τ Cert.FgateIdeal.sig) → Buf (Elt Ideal) ℓ) (g : Dev Cert.FgateIdeal.nD → PrngReg), Pre_FgateIdeal m →
    θ_run (Cert.FgateIdeal.defs (F := Ideal)) (onTc (τ := Cert.FgateIdeal.τ) (Cert.FgateIdeal.main (F := Ideal))) ⟨m, fun _ => 0, g⟩ (fun r => (∀ c : Dev Cert.FgateIdeal.nD,
      r.2.mem ((c.tc : Thread Cert.FgateIdeal.nD Cert.FgateIdeal.τ).loc Cert.FgateIdeal.main_arg0) = m ((c.tc : Thread Cert.FgateIdeal.nD Cert.FgateIdeal.τ).loc Cert.FgateIdeal.main_arg0)
      ∧ r.2.mem ((c.tc : Thread Cert.FgateIdeal.nD Cert.FgateIdeal.τ).loc Cert.FgateIdeal.main_arg1) = m ((c.tc : Thread Cert.FgateIdeal.nD Cert.FgateIdeal.τ).loc Cert.FgateIdeal.main_arg1)
      ∧ r.2.mem ((c.tc : Thread Cert.FgateIdeal.nD Cert.FgateIdeal.τ).loc Cert.FgateIdeal.main_arg2) = m ((c.tc : Thread Cert.FgateIdeal.nD Cert.FgateIdeal.τ).loc Cert.FgateIdeal.main_arg2))
      ∧ r.2.sem = fun _ => 0)

def quiescent_FgateRefIdeal [hFgateRefIdeal : Cert.FgateRefIdeal.Facts] : Prop :=
  ∀ (m : (ℓ : Loc Cert.FgateRefIdeal.nD Cert.FgateRefIdeal.τ Cert.FgateRefIdeal.sig) → Buf (Elt Ideal) ℓ) (g : Dev Cert.FgateRefIdeal.nD → PrngReg), Pre_FgateRefIdeal m →
    θ_run (Cert.FgateRefIdeal.defs (F := Ideal)) (onTc (τ := Cert.FgateRefIdeal.τ) (Cert.FgateRefIdeal.main (F := Ideal))) ⟨m, fun _ => 0, g⟩ (fun r => (∀ c : Dev Cert.FgateRefIdeal.nD,
      r.2.mem ((c.tc : Thread Cert.FgateRefIdeal.nD Cert.FgateRefIdeal.τ).loc Cert.FgateRefIdeal.main_arg0) = m ((c.tc : Thread Cert.FgateRefIdeal.nD Cert.FgateRefIdeal.τ).loc Cert.FgateRefIdeal.main_arg0)
      ∧ r.2.mem ((c.tc : Thread Cert.FgateRefIdeal.nD Cert.FgateRefIdeal.τ).loc Cert.FgateRefIdeal.main_arg1) = m ((c.tc : Thread Cert.FgateRefIdeal.nD Cert.FgateRefIdeal.τ).loc Cert.FgateRefIdeal.main_arg1)
      ∧ r.2.mem ((c.tc : Thread Cert.FgateRefIdeal.nD Cert.FgateRefIdeal.τ).loc Cert.FgateRefIdeal.main_arg2) = m ((c.tc : Thread Cert.FgateRefIdeal.nD Cert.FgateRefIdeal.τ).loc Cert.FgateRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite_arguments [hAttnIdeal : Cert.AttnIdeal.Facts] [hPre_finite_arguments : Cert.Pre_finite_arguments.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_arguments m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite_arguments [hAttnRefIdeal : Cert.AttnRefIdeal.Facts] [hPre_finite_arguments : Cert.Pre_finite_arguments.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_arguments m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11)
      ∧ r.2.mem ((c.tc : Thread Cert.Proj.nD Cert.Proj.τ).loc Cert.Proj.main_arg12) = m ((c.tc : Thread Cert.Proj.nD Cert.Proj.τ).loc Cert.Proj.main_arg12)
      ∧ r.2.mem ((c.tc : Thread Cert.Proj.nD Cert.Proj.τ).loc Cert.Proj.main_arg13) = m ((c.tc : Thread Cert.Proj.nD Cert.Proj.τ).loc Cert.Proj.main_arg13)
      ∧ r.2.mem ((c.tc : Thread Cert.Proj.nD Cert.Proj.τ).loc Cert.Proj.main_arg14) = m ((c.tc : Thread Cert.Proj.nD Cert.Proj.τ).loc Cert.Proj.main_arg14))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
      ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
      ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14))
      ∧ r.2.sem = fun _ => 0)

def quiescent_ProjIdeal_pre_finite_projection [hProjIdeal : Cert.ProjIdeal.Facts] [hPre_finite_projection : Cert.Pre_finite_projection.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_projection m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
      ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
      ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)
      ∧ r.2.mem ((c.tc : Thread Cert.ProjRefIdeal.nD Cert.ProjRefIdeal.τ).loc Cert.ProjRefIdeal.main_arg11) = m ((c.tc : Thread Cert.ProjRefIdeal.nD Cert.ProjRefIdeal.τ).loc Cert.ProjRefIdeal.main_arg11)
      ∧ r.2.mem ((c.tc : Thread Cert.ProjRefIdeal.nD Cert.ProjRefIdeal.τ).loc Cert.ProjRefIdeal.main_arg12) = m ((c.tc : Thread Cert.ProjRefIdeal.nD Cert.ProjRefIdeal.τ).loc Cert.ProjRefIdeal.main_arg12)
      ∧ r.2.mem ((c.tc : Thread Cert.ProjRefIdeal.nD Cert.ProjRefIdeal.τ).loc Cert.ProjRefIdeal.main_arg13) = m ((c.tc : Thread Cert.ProjRefIdeal.nD Cert.ProjRefIdeal.τ).loc Cert.ProjRefIdeal.main_arg13)
      ∧ r.2.mem ((c.tc : Thread Cert.ProjRefIdeal.nD Cert.ProjRefIdeal.τ).loc Cert.ProjRefIdeal.main_arg14) = m ((c.tc : Thread Cert.ProjRefIdeal.nD Cert.ProjRefIdeal.τ).loc Cert.ProjRefIdeal.main_arg14))
      ∧ r.2.sem = fun _ => 0)

def quiescent_ProjRefIdeal_pre_finite_projection [hProjRefIdeal : Cert.ProjRefIdeal.Facts] [hPre_finite_projection : Cert.Pre_finite_projection.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_projection m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)
      ∧ r.2.mem ((c.tc : Thread Cert.ProjRefIdeal.nD Cert.ProjRefIdeal.τ).loc Cert.ProjRefIdeal.main_arg11) = m ((c.tc : Thread Cert.ProjRefIdeal.nD Cert.ProjRefIdeal.τ).loc Cert.ProjRefIdeal.main_arg11)
      ∧ r.2.mem ((c.tc : Thread Cert.ProjRefIdeal.nD Cert.ProjRefIdeal.τ).loc Cert.ProjRefIdeal.main_arg12) = m ((c.tc : Thread Cert.ProjRefIdeal.nD Cert.ProjRefIdeal.τ).loc Cert.ProjRefIdeal.main_arg12)
      ∧ r.2.mem ((c.tc : Thread Cert.ProjRefIdeal.nD Cert.ProjRefIdeal.τ).loc Cert.ProjRefIdeal.main_arg13) = m ((c.tc : Thread Cert.ProjRefIdeal.nD Cert.ProjRefIdeal.τ).loc Cert.ProjRefIdeal.main_arg13)
      ∧ r.2.mem ((c.tc : Thread Cert.ProjRefIdeal.nD Cert.ProjRefIdeal.τ).loc Cert.ProjRefIdeal.main_arg14) = m ((c.tc : Thread Cert.ProjRefIdeal.nD Cert.ProjRefIdeal.τ).loc Cert.ProjRefIdeal.main_arg14))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14))
      ∧ r.2.sem = fun _ => 0)

def quiescent_MixRefIdeal_pre_finite_mix [hMixRefIdeal : Cert.MixRefIdeal.Facts] [hPre_finite_mix : Cert.Pre_finite_mix.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mix m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14))
      ∧ r.2.sem = fun _ => 0)

def quiescent_Afwd [hAfwd : Cert.Afwd.Facts] : Prop :=
  ∀ (m : (ℓ : Loc Cert.Afwd.nD Cert.Afwd.τ Cert.Afwd.sig) → Buf (Elt Bits) ℓ) (g : Dev Cert.Afwd.nD → PrngReg), Pre_Afwd m →
    θ_run (Cert.Afwd.defs (F := Bits)) (onTc (τ := Cert.Afwd.τ) (Cert.Afwd.main (F := Bits))) ⟨m, fun _ => 0, g⟩ (fun r => (∀ c : Dev Cert.Afwd.nD,
      r.2.mem ((c.tc : Thread Cert.Afwd.nD Cert.Afwd.τ).loc Cert.Afwd.main_arg0) = m ((c.tc : Thread Cert.Afwd.nD Cert.Afwd.τ).loc Cert.Afwd.main_arg0)
      ∧ r.2.mem ((c.tc : Thread Cert.Afwd.nD Cert.Afwd.τ).loc Cert.Afwd.main_arg1) = m ((c.tc : Thread Cert.Afwd.nD Cert.Afwd.τ).loc Cert.Afwd.main_arg1)
      ∧ r.2.mem ((c.tc : Thread Cert.Afwd.nD Cert.Afwd.τ).loc Cert.Afwd.main_arg2) = m ((c.tc : Thread Cert.Afwd.nD Cert.Afwd.τ).loc Cert.Afwd.main_arg2)
      ∧ r.2.mem ((c.tc : Thread Cert.Afwd.nD Cert.Afwd.τ).loc Cert.Afwd.main_arg3) = m ((c.tc : Thread Cert.Afwd.nD Cert.Afwd.τ).loc Cert.Afwd.main_arg3)
      ∧ r.2.mem ((c.tc : Thread Cert.Afwd.nD Cert.Afwd.τ).loc Cert.Afwd.main_arg4) = m ((c.tc : Thread Cert.Afwd.nD Cert.Afwd.τ).loc Cert.Afwd.main_arg4))
      ∧ r.2.sem = fun _ => 0)

def quiescent_AfwdIdeal [hAfwdIdeal : Cert.AfwdIdeal.Facts] : Prop :=
  ∀ (m : (ℓ : Loc Cert.AfwdIdeal.nD Cert.AfwdIdeal.τ Cert.AfwdIdeal.sig) → Buf (Elt Ideal) ℓ) (g : Dev Cert.AfwdIdeal.nD → PrngReg), Pre_AfwdIdeal m →
    θ_run (Cert.AfwdIdeal.defs (F := Ideal)) (onTc (τ := Cert.AfwdIdeal.τ) (Cert.AfwdIdeal.main (F := Ideal))) ⟨m, fun _ => 0, g⟩ (fun r => (∀ c : Dev Cert.AfwdIdeal.nD,
      r.2.mem ((c.tc : Thread Cert.AfwdIdeal.nD Cert.AfwdIdeal.τ).loc Cert.AfwdIdeal.main_arg0) = m ((c.tc : Thread Cert.AfwdIdeal.nD Cert.AfwdIdeal.τ).loc Cert.AfwdIdeal.main_arg0)
      ∧ r.2.mem ((c.tc : Thread Cert.AfwdIdeal.nD Cert.AfwdIdeal.τ).loc Cert.AfwdIdeal.main_arg1) = m ((c.tc : Thread Cert.AfwdIdeal.nD Cert.AfwdIdeal.τ).loc Cert.AfwdIdeal.main_arg1)
      ∧ r.2.mem ((c.tc : Thread Cert.AfwdIdeal.nD Cert.AfwdIdeal.τ).loc Cert.AfwdIdeal.main_arg2) = m ((c.tc : Thread Cert.AfwdIdeal.nD Cert.AfwdIdeal.τ).loc Cert.AfwdIdeal.main_arg2)
      ∧ r.2.mem ((c.tc : Thread Cert.AfwdIdeal.nD Cert.AfwdIdeal.τ).loc Cert.AfwdIdeal.main_arg3) = m ((c.tc : Thread Cert.AfwdIdeal.nD Cert.AfwdIdeal.τ).loc Cert.AfwdIdeal.main_arg3)
      ∧ r.2.mem ((c.tc : Thread Cert.AfwdIdeal.nD Cert.AfwdIdeal.τ).loc Cert.AfwdIdeal.main_arg4) = m ((c.tc : Thread Cert.AfwdIdeal.nD Cert.AfwdIdeal.τ).loc Cert.AfwdIdeal.main_arg4))
      ∧ r.2.sem = fun _ => 0)

def quiescent_AfwdIdeal_pre_finite_inputs [hAfwdIdeal : Cert.AfwdIdeal.Facts] [hPre_finite_inputs : Cert.Pre_finite_inputs.Facts] : Prop :=
  ∀ (m : (ℓ : Loc Cert.AfwdIdeal.nD Cert.AfwdIdeal.τ Cert.AfwdIdeal.sig) → Buf (Elt Ideal) ℓ) (g : Dev Cert.AfwdIdeal.nD → PrngReg), Pre_AfwdIdeal_finite_inputs m →
    θ_run (Cert.AfwdIdeal.defs (F := Ideal)) (onTc (τ := Cert.AfwdIdeal.τ) (Cert.AfwdIdeal.main (F := Ideal))) ⟨m, fun _ => 0, g⟩ (fun r => (∀ c : Dev Cert.AfwdIdeal.nD,
      r.2.mem ((c.tc : Thread Cert.AfwdIdeal.nD Cert.AfwdIdeal.τ).loc Cert.AfwdIdeal.main_arg0) = m ((c.tc : Thread Cert.AfwdIdeal.nD Cert.AfwdIdeal.τ).loc Cert.AfwdIdeal.main_arg0)
      ∧ r.2.mem ((c.tc : Thread Cert.AfwdIdeal.nD Cert.AfwdIdeal.τ).loc Cert.AfwdIdeal.main_arg1) = m ((c.tc : Thread Cert.AfwdIdeal.nD Cert.AfwdIdeal.τ).loc Cert.AfwdIdeal.main_arg1)
      ∧ r.2.mem ((c.tc : Thread Cert.AfwdIdeal.nD Cert.AfwdIdeal.τ).loc Cert.AfwdIdeal.main_arg2) = m ((c.tc : Thread Cert.AfwdIdeal.nD Cert.AfwdIdeal.τ).loc Cert.AfwdIdeal.main_arg2)
      ∧ r.2.mem ((c.tc : Thread Cert.AfwdIdeal.nD Cert.AfwdIdeal.τ).loc Cert.AfwdIdeal.main_arg3) = m ((c.tc : Thread Cert.AfwdIdeal.nD Cert.AfwdIdeal.τ).loc Cert.AfwdIdeal.main_arg3)
      ∧ r.2.mem ((c.tc : Thread Cert.AfwdIdeal.nD Cert.AfwdIdeal.τ).loc Cert.AfwdIdeal.main_arg4) = m ((c.tc : Thread Cert.AfwdIdeal.nD Cert.AfwdIdeal.τ).loc Cert.AfwdIdeal.main_arg4))
      ∧ r.2.sem = fun _ => 0)

def quiescent_AfwdRefIdeal [hAfwdRefIdeal : Cert.AfwdRefIdeal.Facts] : Prop :=
  ∀ (m : (ℓ : Loc Cert.AfwdRefIdeal.nD Cert.AfwdRefIdeal.τ Cert.AfwdRefIdeal.sig) → Buf (Elt Ideal) ℓ) (g : Dev Cert.AfwdRefIdeal.nD → PrngReg), Pre_AfwdRefIdeal m →
    θ_run (Cert.AfwdRefIdeal.defs (F := Ideal)) (onTc (τ := Cert.AfwdRefIdeal.τ) (Cert.AfwdRefIdeal.main (F := Ideal))) ⟨m, fun _ => 0, g⟩ (fun r => (∀ c : Dev Cert.AfwdRefIdeal.nD,
      r.2.mem ((c.tc : Thread Cert.AfwdRefIdeal.nD Cert.AfwdRefIdeal.τ).loc Cert.AfwdRefIdeal.main_arg0) = m ((c.tc : Thread Cert.AfwdRefIdeal.nD Cert.AfwdRefIdeal.τ).loc Cert.AfwdRefIdeal.main_arg0)
      ∧ r.2.mem ((c.tc : Thread Cert.AfwdRefIdeal.nD Cert.AfwdRefIdeal.τ).loc Cert.AfwdRefIdeal.main_arg1) = m ((c.tc : Thread Cert.AfwdRefIdeal.nD Cert.AfwdRefIdeal.τ).loc Cert.AfwdRefIdeal.main_arg1)
      ∧ r.2.mem ((c.tc : Thread Cert.AfwdRefIdeal.nD Cert.AfwdRefIdeal.τ).loc Cert.AfwdRefIdeal.main_arg2) = m ((c.tc : Thread Cert.AfwdRefIdeal.nD Cert.AfwdRefIdeal.τ).loc Cert.AfwdRefIdeal.main_arg2)
      ∧ r.2.mem ((c.tc : Thread Cert.AfwdRefIdeal.nD Cert.AfwdRefIdeal.τ).loc Cert.AfwdRefIdeal.main_arg3) = m ((c.tc : Thread Cert.AfwdRefIdeal.nD Cert.AfwdRefIdeal.τ).loc Cert.AfwdRefIdeal.main_arg3)
      ∧ r.2.mem ((c.tc : Thread Cert.AfwdRefIdeal.nD Cert.AfwdRefIdeal.τ).loc Cert.AfwdRefIdeal.main_arg4) = m ((c.tc : Thread Cert.AfwdRefIdeal.nD Cert.AfwdRefIdeal.τ).loc Cert.AfwdRefIdeal.main_arg4))
      ∧ r.2.sem = fun _ => 0)

def quiescent_AfwdRefIdeal_pre_finite_inputs [hAfwdRefIdeal : Cert.AfwdRefIdeal.Facts] [hPre_finite_inputs : Cert.Pre_finite_inputs.Facts] : Prop :=
  ∀ (m : (ℓ : Loc Cert.AfwdRefIdeal.nD Cert.AfwdRefIdeal.τ Cert.AfwdRefIdeal.sig) → Buf (Elt Ideal) ℓ) (g : Dev Cert.AfwdRefIdeal.nD → PrngReg), Pre_AfwdRefIdeal_finite_inputs m →
    θ_run (Cert.AfwdRefIdeal.defs (F := Ideal)) (onTc (τ := Cert.AfwdRefIdeal.τ) (Cert.AfwdRefIdeal.main (F := Ideal))) ⟨m, fun _ => 0, g⟩ (fun r => (∀ c : Dev Cert.AfwdRefIdeal.nD,
      r.2.mem ((c.tc : Thread Cert.AfwdRefIdeal.nD Cert.AfwdRefIdeal.τ).loc Cert.AfwdRefIdeal.main_arg0) = m ((c.tc : Thread Cert.AfwdRefIdeal.nD Cert.AfwdRefIdeal.τ).loc Cert.AfwdRefIdeal.main_arg0)
      ∧ r.2.mem ((c.tc : Thread Cert.AfwdRefIdeal.nD Cert.AfwdRefIdeal.τ).loc Cert.AfwdRefIdeal.main_arg1) = m ((c.tc : Thread Cert.AfwdRefIdeal.nD Cert.AfwdRefIdeal.τ).loc Cert.AfwdRefIdeal.main_arg1)
      ∧ r.2.mem ((c.tc : Thread Cert.AfwdRefIdeal.nD Cert.AfwdRefIdeal.τ).loc Cert.AfwdRefIdeal.main_arg2) = m ((c.tc : Thread Cert.AfwdRefIdeal.nD Cert.AfwdRefIdeal.τ).loc Cert.AfwdRefIdeal.main_arg2)
      ∧ r.2.mem ((c.tc : Thread Cert.AfwdRefIdeal.nD Cert.AfwdRefIdeal.τ).loc Cert.AfwdRefIdeal.main_arg3) = m ((c.tc : Thread Cert.AfwdRefIdeal.nD Cert.AfwdRefIdeal.τ).loc Cert.AfwdRefIdeal.main_arg3)
      ∧ r.2.mem ((c.tc : Thread Cert.AfwdRefIdeal.nD Cert.AfwdRefIdeal.τ).loc Cert.AfwdRefIdeal.main_arg4) = m ((c.tc : Thread Cert.AfwdRefIdeal.nD Cert.AfwdRefIdeal.τ).loc Cert.AfwdRefIdeal.main_arg4))
      ∧ r.2.sem = fun _ => 0)

def quiescent_Parts [hParts : Cert.Parts.Facts] : Prop :=
  ∀ (m : (ℓ : Loc Cert.Parts.nD Cert.Parts.τ Cert.Parts.sig) → Buf (Elt Bits) ℓ) (g : Dev Cert.Parts.nD → PrngReg), Pre_Parts m →
    θ_run (Cert.Parts.defs (F := Bits)) (onTc (τ := Cert.Parts.τ) (Cert.Parts.main (F := Bits))) ⟨m, fun _ => 0, g⟩ (fun r => (∀ c : Dev Cert.Parts.nD,
      r.2.mem ((c.tc : Thread Cert.Parts.nD Cert.Parts.τ).loc Cert.Parts.main_arg0) = m ((c.tc : Thread Cert.Parts.nD Cert.Parts.τ).loc Cert.Parts.main_arg0)
      ∧ r.2.mem ((c.tc : Thread Cert.Parts.nD Cert.Parts.τ).loc Cert.Parts.main_arg1) = m ((c.tc : Thread Cert.Parts.nD Cert.Parts.τ).loc Cert.Parts.main_arg1)
      ∧ r.2.mem ((c.tc : Thread Cert.Parts.nD Cert.Parts.τ).loc Cert.Parts.main_arg2) = m ((c.tc : Thread Cert.Parts.nD Cert.Parts.τ).loc Cert.Parts.main_arg2)
      ∧ r.2.mem ((c.tc : Thread Cert.Parts.nD Cert.Parts.τ).loc Cert.Parts.main_arg3) = m ((c.tc : Thread Cert.Parts.nD Cert.Parts.τ).loc Cert.Parts.main_arg3)
      ∧ r.2.mem ((c.tc : Thread Cert.Parts.nD Cert.Parts.τ).loc Cert.Parts.main_arg4) = m ((c.tc : Thread Cert.Parts.nD Cert.Parts.τ).loc Cert.Parts.main_arg4))
      ∧ r.2.sem = fun _ => 0)

def quiescent_PartsIdeal [hPartsIdeal : Cert.PartsIdeal.Facts] : Prop :=
  ∀ (m : (ℓ : Loc Cert.PartsIdeal.nD Cert.PartsIdeal.τ Cert.PartsIdeal.sig) → Buf (Elt Ideal) ℓ) (g : Dev Cert.PartsIdeal.nD → PrngReg), Pre_PartsIdeal m →
    θ_run (Cert.PartsIdeal.defs (F := Ideal)) (onTc (τ := Cert.PartsIdeal.τ) (Cert.PartsIdeal.main (F := Ideal))) ⟨m, fun _ => 0, g⟩ (fun r => (∀ c : Dev Cert.PartsIdeal.nD,
      r.2.mem ((c.tc : Thread Cert.PartsIdeal.nD Cert.PartsIdeal.τ).loc Cert.PartsIdeal.main_arg0) = m ((c.tc : Thread Cert.PartsIdeal.nD Cert.PartsIdeal.τ).loc Cert.PartsIdeal.main_arg0)
      ∧ r.2.mem ((c.tc : Thread Cert.PartsIdeal.nD Cert.PartsIdeal.τ).loc Cert.PartsIdeal.main_arg1) = m ((c.tc : Thread Cert.PartsIdeal.nD Cert.PartsIdeal.τ).loc Cert.PartsIdeal.main_arg1)
      ∧ r.2.mem ((c.tc : Thread Cert.PartsIdeal.nD Cert.PartsIdeal.τ).loc Cert.PartsIdeal.main_arg2) = m ((c.tc : Thread Cert.PartsIdeal.nD Cert.PartsIdeal.τ).loc Cert.PartsIdeal.main_arg2)
      ∧ r.2.mem ((c.tc : Thread Cert.PartsIdeal.nD Cert.PartsIdeal.τ).loc Cert.PartsIdeal.main_arg3) = m ((c.tc : Thread Cert.PartsIdeal.nD Cert.PartsIdeal.τ).loc Cert.PartsIdeal.main_arg3)
      ∧ r.2.mem ((c.tc : Thread Cert.PartsIdeal.nD Cert.PartsIdeal.τ).loc Cert.PartsIdeal.main_arg4) = m ((c.tc : Thread Cert.PartsIdeal.nD Cert.PartsIdeal.τ).loc Cert.PartsIdeal.main_arg4))
      ∧ r.2.sem = fun _ => 0)

def quiescent_PartsRefIdeal [hPartsRefIdeal : Cert.PartsRefIdeal.Facts] : Prop :=
  ∀ (m : (ℓ : Loc Cert.PartsRefIdeal.nD Cert.PartsRefIdeal.τ Cert.PartsRefIdeal.sig) → Buf (Elt Ideal) ℓ) (g : Dev Cert.PartsRefIdeal.nD → PrngReg), Pre_PartsRefIdeal m →
    θ_run (Cert.PartsRefIdeal.defs (F := Ideal)) (onTc (τ := Cert.PartsRefIdeal.τ) (Cert.PartsRefIdeal.main (F := Ideal))) ⟨m, fun _ => 0, g⟩ (fun r => (∀ c : Dev Cert.PartsRefIdeal.nD,
      r.2.mem ((c.tc : Thread Cert.PartsRefIdeal.nD Cert.PartsRefIdeal.τ).loc Cert.PartsRefIdeal.main_arg0) = m ((c.tc : Thread Cert.PartsRefIdeal.nD Cert.PartsRefIdeal.τ).loc Cert.PartsRefIdeal.main_arg0)
      ∧ r.2.mem ((c.tc : Thread Cert.PartsRefIdeal.nD Cert.PartsRefIdeal.τ).loc Cert.PartsRefIdeal.main_arg1) = m ((c.tc : Thread Cert.PartsRefIdeal.nD Cert.PartsRefIdeal.τ).loc Cert.PartsRefIdeal.main_arg1)
      ∧ r.2.mem ((c.tc : Thread Cert.PartsRefIdeal.nD Cert.PartsRefIdeal.τ).loc Cert.PartsRefIdeal.main_arg2) = m ((c.tc : Thread Cert.PartsRefIdeal.nD Cert.PartsRefIdeal.τ).loc Cert.PartsRefIdeal.main_arg2)
      ∧ r.2.mem ((c.tc : Thread Cert.PartsRefIdeal.nD Cert.PartsRefIdeal.τ).loc Cert.PartsRefIdeal.main_arg3) = m ((c.tc : Thread Cert.PartsRefIdeal.nD Cert.PartsRefIdeal.τ).loc Cert.PartsRefIdeal.main_arg3)
      ∧ r.2.mem ((c.tc : Thread Cert.PartsRefIdeal.nD Cert.PartsRefIdeal.τ).loc Cert.PartsRefIdeal.main_arg4) = m ((c.tc : Thread Cert.PartsRefIdeal.nD Cert.PartsRefIdeal.τ).loc Cert.PartsRefIdeal.main_arg4))
      ∧ r.2.sem = fun _ => 0)

def quiescent_Update [hUpdate : Cert.Update.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2)
      ∧ r.2.mem ((c.tc : Thread Cert.Update.nD Cert.Update.τ).loc Cert.Update.main_arg3) = m ((c.tc : Thread Cert.Update.nD Cert.Update.τ).loc Cert.Update.main_arg3))
      ∧ r.2.sem = fun _ => 0)

def quiescent_UpdateIdeal [hUpdateIdeal : Cert.UpdateIdeal.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3))
      ∧ r.2.sem = fun _ => 0)

def quiescent_UpdateRefIdeal [hUpdateRefIdeal : Cert.UpdateRefIdeal.Facts] : Prop :=
  ∀ (m : (ℓ : Loc Cert.UpdateRefIdeal.nD Cert.UpdateRefIdeal.τ Cert.UpdateRefIdeal.sig) → Buf (Elt Ideal) ℓ) (g : Dev Cert.UpdateRefIdeal.nD → PrngReg), Pre_UpdateRefIdeal m →
    θ_run (Cert.UpdateRefIdeal.defs (F := Ideal)) (onTc (τ := Cert.UpdateRefIdeal.τ) (Cert.UpdateRefIdeal.main (F := Ideal))) ⟨m, fun _ => 0, g⟩ (fun r => (∀ c : Dev Cert.UpdateRefIdeal.nD,
      r.2.mem ((c.tc : Thread Cert.UpdateRefIdeal.nD Cert.UpdateRefIdeal.τ).loc Cert.UpdateRefIdeal.main_arg0) = m ((c.tc : Thread Cert.UpdateRefIdeal.nD Cert.UpdateRefIdeal.τ).loc Cert.UpdateRefIdeal.main_arg0)
      ∧ r.2.mem ((c.tc : Thread Cert.UpdateRefIdeal.nD Cert.UpdateRefIdeal.τ).loc Cert.UpdateRefIdeal.main_arg1) = m ((c.tc : Thread Cert.UpdateRefIdeal.nD Cert.UpdateRefIdeal.τ).loc Cert.UpdateRefIdeal.main_arg1)
      ∧ r.2.mem ((c.tc : Thread Cert.UpdateRefIdeal.nD Cert.UpdateRefIdeal.τ).loc Cert.UpdateRefIdeal.main_arg2) = m ((c.tc : Thread Cert.UpdateRefIdeal.nD Cert.UpdateRefIdeal.τ).loc Cert.UpdateRefIdeal.main_arg2)
      ∧ r.2.mem ((c.tc : Thread Cert.UpdateRefIdeal.nD Cert.UpdateRefIdeal.τ).loc Cert.UpdateRefIdeal.main_arg3) = m ((c.tc : Thread Cert.UpdateRefIdeal.nD Cert.UpdateRefIdeal.τ).loc Cert.UpdateRefIdeal.main_arg3))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1))
      ∧ r.2.sem = fun _ => 0)

def quiescent_Narrow [hNarrow : Cert.Narrow.Facts] : Prop :=
  ∀ (m : (ℓ : Loc Cert.Narrow.nD Cert.Narrow.τ Cert.Narrow.sig) → Buf (Elt Bits) ℓ) (g : Dev Cert.Narrow.nD → PrngReg), Pre_Narrow m →
    θ_run (Cert.Narrow.defs (F := Bits)) (onTc (τ := Cert.Narrow.τ) (Cert.Narrow.main (F := Bits))) ⟨m, fun _ => 0, g⟩ (fun r => (∀ c : Dev Cert.Narrow.nD,
      r.2.mem ((c.tc : Thread Cert.Narrow.nD Cert.Narrow.τ).loc Cert.Narrow.main_arg0) = m ((c.tc : Thread Cert.Narrow.nD Cert.Narrow.τ).loc Cert.Narrow.main_arg0)
      ∧ r.2.mem ((c.tc : Thread Cert.Narrow.nD Cert.Narrow.τ).loc Cert.Narrow.main_arg1) = m ((c.tc : Thread Cert.Narrow.nD Cert.Narrow.τ).loc Cert.Narrow.main_arg1)
      ∧ r.2.mem ((c.tc : Thread Cert.Narrow.nD Cert.Narrow.τ).loc Cert.Narrow.main_arg2) = m ((c.tc : Thread Cert.Narrow.nD Cert.Narrow.τ).loc Cert.Narrow.main_arg2)
      ∧ r.2.mem ((c.tc : Thread Cert.Narrow.nD Cert.Narrow.τ).loc Cert.Narrow.main_arg3) = m ((c.tc : Thread Cert.Narrow.nD Cert.Narrow.τ).loc Cert.Narrow.main_arg3)
      ∧ r.2.mem ((c.tc : Thread Cert.Narrow.nD Cert.Narrow.τ).loc Cert.Narrow.main_arg4) = m ((c.tc : Thread Cert.Narrow.nD Cert.Narrow.τ).loc Cert.Narrow.main_arg4)
      ∧ r.2.mem ((c.tc : Thread Cert.Narrow.nD Cert.Narrow.τ).loc Cert.Narrow.main_arg5) = m ((c.tc : Thread Cert.Narrow.nD Cert.Narrow.τ).loc Cert.Narrow.main_arg5)
      ∧ r.2.mem ((c.tc : Thread Cert.Narrow.nD Cert.Narrow.τ).loc Cert.Narrow.main_arg6) = m ((c.tc : Thread Cert.Narrow.nD Cert.Narrow.τ).loc Cert.Narrow.main_arg6)
      ∧ r.2.mem ((c.tc : Thread Cert.Narrow.nD Cert.Narrow.τ).loc Cert.Narrow.main_arg7) = m ((c.tc : Thread Cert.Narrow.nD Cert.Narrow.τ).loc Cert.Narrow.main_arg7))
      ∧ r.2.sem = fun _ => 0)

def quiescent_NarrowIdeal [hNarrowIdeal : Cert.NarrowIdeal.Facts] : Prop :=
  ∀ (m : (ℓ : Loc Cert.NarrowIdeal.nD Cert.NarrowIdeal.τ Cert.NarrowIdeal.sig) → Buf (Elt Ideal) ℓ) (g : Dev Cert.NarrowIdeal.nD → PrngReg), Pre_NarrowIdeal m →
    θ_run (Cert.NarrowIdeal.defs (F := Ideal)) (onTc (τ := Cert.NarrowIdeal.τ) (Cert.NarrowIdeal.main (F := Ideal))) ⟨m, fun _ => 0, g⟩ (fun r => (∀ c : Dev Cert.NarrowIdeal.nD,
      r.2.mem ((c.tc : Thread Cert.NarrowIdeal.nD Cert.NarrowIdeal.τ).loc Cert.NarrowIdeal.main_arg0) = m ((c.tc : Thread Cert.NarrowIdeal.nD Cert.NarrowIdeal.τ).loc Cert.NarrowIdeal.main_arg0)
      ∧ r.2.mem ((c.tc : Thread Cert.NarrowIdeal.nD Cert.NarrowIdeal.τ).loc Cert.NarrowIdeal.main_arg1) = m ((c.tc : Thread Cert.NarrowIdeal.nD Cert.NarrowIdeal.τ).loc Cert.NarrowIdeal.main_arg1)
      ∧ r.2.mem ((c.tc : Thread Cert.NarrowIdeal.nD Cert.NarrowIdeal.τ).loc Cert.NarrowIdeal.main_arg2) = m ((c.tc : Thread Cert.NarrowIdeal.nD Cert.NarrowIdeal.τ).loc Cert.NarrowIdeal.main_arg2)
      ∧ r.2.mem ((c.tc : Thread Cert.NarrowIdeal.nD Cert.NarrowIdeal.τ).loc Cert.NarrowIdeal.main_arg3) = m ((c.tc : Thread Cert.NarrowIdeal.nD Cert.NarrowIdeal.τ).loc Cert.NarrowIdeal.main_arg3)
      ∧ r.2.mem ((c.tc : Thread Cert.NarrowIdeal.nD Cert.NarrowIdeal.τ).loc Cert.NarrowIdeal.main_arg4) = m ((c.tc : Thread Cert.NarrowIdeal.nD Cert.NarrowIdeal.τ).loc Cert.NarrowIdeal.main_arg4)
      ∧ r.2.mem ((c.tc : Thread Cert.NarrowIdeal.nD Cert.NarrowIdeal.τ).loc Cert.NarrowIdeal.main_arg5) = m ((c.tc : Thread Cert.NarrowIdeal.nD Cert.NarrowIdeal.τ).loc Cert.NarrowIdeal.main_arg5)
      ∧ r.2.mem ((c.tc : Thread Cert.NarrowIdeal.nD Cert.NarrowIdeal.τ).loc Cert.NarrowIdeal.main_arg6) = m ((c.tc : Thread Cert.NarrowIdeal.nD Cert.NarrowIdeal.τ).loc Cert.NarrowIdeal.main_arg6)
      ∧ r.2.mem ((c.tc : Thread Cert.NarrowIdeal.nD Cert.NarrowIdeal.τ).loc Cert.NarrowIdeal.main_arg7) = m ((c.tc : Thread Cert.NarrowIdeal.nD Cert.NarrowIdeal.τ).loc Cert.NarrowIdeal.main_arg7))
      ∧ r.2.sem = fun _ => 0)

def quiescent_NarrowRefIdeal [hNarrowRefIdeal : Cert.NarrowRefIdeal.Facts] : Prop :=
  ∀ (m : (ℓ : Loc Cert.NarrowRefIdeal.nD Cert.NarrowRefIdeal.τ Cert.NarrowRefIdeal.sig) → Buf (Elt Ideal) ℓ) (g : Dev Cert.NarrowRefIdeal.nD → PrngReg), Pre_NarrowRefIdeal m →
    θ_run (Cert.NarrowRefIdeal.defs (F := Ideal)) (onTc (τ := Cert.NarrowRefIdeal.τ) (Cert.NarrowRefIdeal.main (F := Ideal))) ⟨m, fun _ => 0, g⟩ (fun r => (∀ c : Dev Cert.NarrowRefIdeal.nD,
      r.2.mem ((c.tc : Thread Cert.NarrowRefIdeal.nD Cert.NarrowRefIdeal.τ).loc Cert.NarrowRefIdeal.main_arg0) = m ((c.tc : Thread Cert.NarrowRefIdeal.nD Cert.NarrowRefIdeal.τ).loc Cert.NarrowRefIdeal.main_arg0)
      ∧ r.2.mem ((c.tc : Thread Cert.NarrowRefIdeal.nD Cert.NarrowRefIdeal.τ).loc Cert.NarrowRefIdeal.main_arg1) = m ((c.tc : Thread Cert.NarrowRefIdeal.nD Cert.NarrowRefIdeal.τ).loc Cert.NarrowRefIdeal.main_arg1)
      ∧ r.2.mem ((c.tc : Thread Cert.NarrowRefIdeal.nD Cert.NarrowRefIdeal.τ).loc Cert.NarrowRefIdeal.main_arg2) = m ((c.tc : Thread Cert.NarrowRefIdeal.nD Cert.NarrowRefIdeal.τ).loc Cert.NarrowRefIdeal.main_arg2)
      ∧ r.2.mem ((c.tc : Thread Cert.NarrowRefIdeal.nD Cert.NarrowRefIdeal.τ).loc Cert.NarrowRefIdeal.main_arg3) = m ((c.tc : Thread Cert.NarrowRefIdeal.nD Cert.NarrowRefIdeal.τ).loc Cert.NarrowRefIdeal.main_arg3)
      ∧ r.2.mem ((c.tc : Thread Cert.NarrowRefIdeal.nD Cert.NarrowRefIdeal.τ).loc Cert.NarrowRefIdeal.main_arg4) = m ((c.tc : Thread Cert.NarrowRefIdeal.nD Cert.NarrowRefIdeal.τ).loc Cert.NarrowRefIdeal.main_arg4)
      ∧ r.2.mem ((c.tc : Thread Cert.NarrowRefIdeal.nD Cert.NarrowRefIdeal.τ).loc Cert.NarrowRefIdeal.main_arg5) = m ((c.tc : Thread Cert.NarrowRefIdeal.nD Cert.NarrowRefIdeal.τ).loc Cert.NarrowRefIdeal.main_arg5)
      ∧ r.2.mem ((c.tc : Thread Cert.NarrowRefIdeal.nD Cert.NarrowRefIdeal.τ).loc Cert.NarrowRefIdeal.main_arg6) = m ((c.tc : Thread Cert.NarrowRefIdeal.nD Cert.NarrowRefIdeal.τ).loc Cert.NarrowRefIdeal.main_arg6)
      ∧ r.2.mem ((c.tc : Thread Cert.NarrowRefIdeal.nD Cert.NarrowRefIdeal.τ).loc Cert.NarrowRefIdeal.main_arg7) = m ((c.tc : Thread Cert.NarrowRefIdeal.nD Cert.NarrowRefIdeal.τ).loc Cert.NarrowRefIdeal.main_arg7))
      ∧ r.2.sem = fun _ => 0)

def quiescent_Wada [hWada : Cert.Wada.Facts] : Prop :=
  ∀ (m : (ℓ : Loc Cert.Wada.nD Cert.Wada.τ Cert.Wada.sig) → Buf (Elt Bits) ℓ) (g : Dev Cert.Wada.nD → PrngReg), Pre_Wada m →
    θ_run (Cert.Wada.defs (F := Bits)) (onTc (τ := Cert.Wada.τ) (Cert.Wada.main (F := Bits))) ⟨m, fun _ => 0, g⟩ (fun r => (∀ c : Dev Cert.Wada.nD,
      r.2.mem ((c.tc : Thread Cert.Wada.nD Cert.Wada.τ).loc Cert.Wada.main_arg0) = m ((c.tc : Thread Cert.Wada.nD Cert.Wada.τ).loc Cert.Wada.main_arg0)
      ∧ r.2.mem ((c.tc : Thread Cert.Wada.nD Cert.Wada.τ).loc Cert.Wada.main_arg1) = m ((c.tc : Thread Cert.Wada.nD Cert.Wada.τ).loc Cert.Wada.main_arg1))
      ∧ r.2.sem = fun _ => 0)

def quiescent_WadaIdeal [hWadaIdeal : Cert.WadaIdeal.Facts] : Prop :=
  ∀ (m : (ℓ : Loc Cert.WadaIdeal.nD Cert.WadaIdeal.τ Cert.WadaIdeal.sig) → Buf (Elt Ideal) ℓ) (g : Dev Cert.WadaIdeal.nD → PrngReg), Pre_WadaIdeal m →
    θ_run (Cert.WadaIdeal.defs (F := Ideal)) (onTc (τ := Cert.WadaIdeal.τ) (Cert.WadaIdeal.main (F := Ideal))) ⟨m, fun _ => 0, g⟩ (fun r => (∀ c : Dev Cert.WadaIdeal.nD,
      r.2.mem ((c.tc : Thread Cert.WadaIdeal.nD Cert.WadaIdeal.τ).loc Cert.WadaIdeal.main_arg0) = m ((c.tc : Thread Cert.WadaIdeal.nD Cert.WadaIdeal.τ).loc Cert.WadaIdeal.main_arg0)
      ∧ r.2.mem ((c.tc : Thread Cert.WadaIdeal.nD Cert.WadaIdeal.τ).loc Cert.WadaIdeal.main_arg1) = m ((c.tc : Thread Cert.WadaIdeal.nD Cert.WadaIdeal.τ).loc Cert.WadaIdeal.main_arg1))
      ∧ r.2.sem = fun _ => 0)

def quiescent_WadaRefIdeal [hWadaRefIdeal : Cert.WadaRefIdeal.Facts] : Prop :=
  ∀ (m : (ℓ : Loc Cert.WadaRefIdeal.nD Cert.WadaRefIdeal.τ Cert.WadaRefIdeal.sig) → Buf (Elt Ideal) ℓ) (g : Dev Cert.WadaRefIdeal.nD → PrngReg), Pre_WadaRefIdeal m →
    θ_run (Cert.WadaRefIdeal.defs (F := Ideal)) (onTc (τ := Cert.WadaRefIdeal.τ) (Cert.WadaRefIdeal.main (F := Ideal))) ⟨m, fun _ => 0, g⟩ (fun r => (∀ c : Dev Cert.WadaRefIdeal.nD,
      r.2.mem ((c.tc : Thread Cert.WadaRefIdeal.nD Cert.WadaRefIdeal.τ).loc Cert.WadaRefIdeal.main_arg0) = m ((c.tc : Thread Cert.WadaRefIdeal.nD Cert.WadaRefIdeal.τ).loc Cert.WadaRefIdeal.main_arg0)
      ∧ r.2.mem ((c.tc : Thread Cert.WadaRefIdeal.nD Cert.WadaRefIdeal.τ).loc Cert.WadaRefIdeal.main_arg1) = m ((c.tc : Thread Cert.WadaRefIdeal.nD Cert.WadaRefIdeal.τ).loc Cert.WadaRefIdeal.main_arg1))
      ∧ r.2.sem = fun _ => 0)

def preserves_Fgate_FgateIdeal : Prop :=
  True

def algebraic_FgateIdeal_FgateRefIdeal [hFgateIdeal : Cert.FgateIdeal.Facts] [hFgateRefIdeal : Cert.FgateRefIdeal.Facts] : Prop :=
  ∀ (m : (ℓ : Loc Cert.FgateIdeal.nD Cert.FgateIdeal.τ Cert.FgateIdeal.sig) → Buf (Elt Ideal) ℓ) (g : Dev Cert.FgateIdeal.nD → PrngReg)
    (m' : (ℓ : Loc Cert.FgateRefIdeal.nD Cert.FgateRefIdeal.τ Cert.FgateRefIdeal.sig) → Buf (Elt Ideal) ℓ) (g' : Dev Cert.FgateRefIdeal.nD → PrngReg), Pre_FgateIdeal m →
    (∀ c : Dev Cert.FgateIdeal.nD,
      m' ((c.tc : Thread Cert.FgateRefIdeal.nD Cert.FgateRefIdeal.τ).loc Cert.FgateRefIdeal.main_arg0) = m ((c.tc : Thread Cert.FgateIdeal.nD Cert.FgateIdeal.τ).loc Cert.FgateIdeal.main_arg0)
      ∧ m' ((c.tc : Thread Cert.FgateRefIdeal.nD Cert.FgateRefIdeal.τ).loc Cert.FgateRefIdeal.main_arg1) = m ((c.tc : Thread Cert.FgateIdeal.nD Cert.FgateIdeal.τ).loc Cert.FgateIdeal.main_arg1)
      ∧ m' ((c.tc : Thread Cert.FgateRefIdeal.nD Cert.FgateRefIdeal.τ).loc Cert.FgateRefIdeal.main_arg2) = m ((c.tc : Thread Cert.FgateIdeal.nD Cert.FgateIdeal.τ).loc Cert.FgateIdeal.main_arg2)) →
    ∃ (v0 : (c : Dev Cert.FgateIdeal.nD) → Buf (Elt Ideal) ((c.tc : Thread Cert.FgateIdeal.nD Cert.FgateIdeal.τ).loc Cert.FgateIdeal.main_v0_0)) (v1 : (c : Dev Cert.FgateIdeal.nD) → Buf (Elt Ideal) ((c.tc : Thread Cert.FgateIdeal.nD Cert.FgateIdeal.τ).loc Cert.FgateIdeal.main_v0_1)),
      θ_run (Cert.FgateIdeal.defs (F := Ideal)) (onTc (τ := Cert.FgateIdeal.τ) (Cert.FgateIdeal.main (F := Ideal))) ⟨m, fun _ => 0, g⟩ (fun r => ∀ c : Dev Cert.FgateIdeal.nD,
          r.2.mem ((c.tc : Thread Cert.FgateIdeal.nD Cert.FgateIdeal.τ).loc Cert.FgateIdeal.main_v0_0) = v0 c
          ∧ r.2.mem ((c.tc : Thread Cert.FgateIdeal.nD Cert.FgateIdeal.τ).loc Cert.FgateIdeal.main_v0_1) = v1 c
          ∧ r.2.mem ((c.tc : Thread Cert.FgateIdeal.nD Cert.FgateIdeal.τ).loc Cert.FgateIdeal.main_arg0) = m ((c.tc : Thread Cert.FgateIdeal.nD Cert.FgateIdeal.τ).loc Cert.FgateIdeal.main_arg0)
          ∧ r.2.mem ((c.tc : Thread Cert.FgateIdeal.nD Cert.FgateIdeal.τ).loc Cert.FgateIdeal.main_arg1) = m ((c.tc : Thread Cert.FgateIdeal.nD Cert.FgateIdeal.τ).loc Cert.FgateIdeal.main_arg1)
          ∧ r.2.mem ((c.tc : Thread Cert.FgateIdeal.nD Cert.FgateIdeal.τ).loc Cert.FgateIdeal.main_arg2) = m ((c.tc : Thread Cert.FgateIdeal.nD Cert.FgateIdeal.τ).loc Cert.FgateIdeal.main_arg2))
      ∧ θ_run (Cert.FgateRefIdeal.defs (F := Ideal)) (onTc (τ := Cert.FgateRefIdeal.τ) (Cert.FgateRefIdeal.main (F := Ideal))) ⟨m', fun _ => 0, g'⟩ (fun r => ∀ c : Dev Cert.FgateRefIdeal.nD,
          r.2.mem ((c.tc : Thread Cert.FgateRefIdeal.nD Cert.FgateRefIdeal.τ).loc Cert.FgateRefIdeal.main_v5) = v0 c
          ∧ r.2.mem ((c.tc : Thread Cert.FgateRefIdeal.nD Cert.FgateRefIdeal.τ).loc Cert.FgateRefIdeal.main_v7) = v1 c
          ∧ r.2.mem ((c.tc : Thread Cert.FgateRefIdeal.nD Cert.FgateRefIdeal.τ).loc Cert.FgateRefIdeal.main_arg0) = m' ((c.tc : Thread Cert.FgateRefIdeal.nD Cert.FgateRefIdeal.τ).loc Cert.FgateRefIdeal.main_arg0)
          ∧ r.2.mem ((c.tc : Thread Cert.FgateRefIdeal.nD Cert.FgateRefIdeal.τ).loc Cert.FgateRefIdeal.main_arg1) = m' ((c.tc : Thread Cert.FgateRefIdeal.nD Cert.FgateRefIdeal.τ).loc Cert.FgateRefIdeal.main_arg1)
          ∧ r.2.mem ((c.tc : Thread Cert.FgateRefIdeal.nD Cert.FgateRefIdeal.τ).loc Cert.FgateRefIdeal.main_arg2) = m' ((c.tc : Thread Cert.FgateRefIdeal.nD Cert.FgateRefIdeal.τ).loc Cert.FgateRefIdeal.main_arg2))

def preserves_Attn_AttnIdeal : Prop :=
  IdealRules.named_const.Statement Cert.AttnIdeal.κ "mask" .f32 0xFF7FFFFF#32 ⊥

def algebraic_AttnIdeal_AttnRefIdeal_pre_finite_arguments [hAttnIdeal : Cert.AttnIdeal.Facts] [hAttnRefIdeal : Cert.AttnRefIdeal.Facts] [hPre_finite_arguments : Cert.Pre_finite_arguments.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_arguments m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v118_0)) (v1 : (c : Dev Cert.AttnIdeal.nD) → Buf (Elt Ideal) ((c.tc : Thread Cert.AttnIdeal.nD Cert.AttnIdeal.τ).loc Cert.AttnIdeal.main_v118_1)) (v2 : (c : Dev Cert.AttnIdeal.nD) → Buf (Elt Ideal) ((c.tc : Thread Cert.AttnIdeal.nD Cert.AttnIdeal.τ).loc Cert.AttnIdeal.main_v118_2)) (v3 : (c : Dev Cert.AttnIdeal.nD) → Buf (Elt Ideal) ((c.tc : Thread Cert.AttnIdeal.nD Cert.AttnIdeal.τ).loc Cert.AttnIdeal.main_v118_3)) (v4 : (c : Dev Cert.AttnIdeal.nD) → Buf (Elt Ideal) ((c.tc : Thread Cert.AttnIdeal.nD Cert.AttnIdeal.τ).loc Cert.AttnIdeal.main_v118_4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v118_0) = v0 c
          ∧ r.2.mem ((c.tc : Thread Cert.AttnIdeal.nD Cert.AttnIdeal.τ).loc Cert.AttnIdeal.main_v118_1) = v1 c
          ∧ r.2.mem ((c.tc : Thread Cert.AttnIdeal.nD Cert.AttnIdeal.τ).loc Cert.AttnIdeal.main_v118_2) = v2 c
          ∧ r.2.mem ((c.tc : Thread Cert.AttnIdeal.nD Cert.AttnIdeal.τ).loc Cert.AttnIdeal.main_v118_3) = v3 c
          ∧ r.2.mem ((c.tc : Thread Cert.AttnIdeal.nD Cert.AttnIdeal.τ).loc Cert.AttnIdeal.main_v118_4) = v4 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v88) = v0 c
          ∧ r.2.mem ((c.tc : Thread Cert.AttnRefIdeal.nD Cert.AttnRefIdeal.τ).loc Cert.AttnRefIdeal.main_v89) = v1 c
          ∧ r.2.mem ((c.tc : Thread Cert.AttnRefIdeal.nD Cert.AttnRefIdeal.τ).loc Cert.AttnRefIdeal.main_v90) = v2 c
          ∧ r.2.mem ((c.tc : Thread Cert.AttnRefIdeal.nD Cert.AttnRefIdeal.τ).loc Cert.AttnRefIdeal.main_v93) = v3 c
          ∧ r.2.mem ((c.tc : Thread Cert.AttnRefIdeal.nD Cert.AttnRefIdeal.τ).loc Cert.AttnRefIdeal.main_v96) = v4 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Proj_ProjIdeal : Prop :=
  True

def algebraic_ProjIdeal_ProjRefIdeal_pre_finite_projection [hProjIdeal : Cert.ProjIdeal.Facts] [hProjRefIdeal : Cert.ProjRefIdeal.Facts] [hPre_finite_projection : Cert.Pre_finite_projection.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_finite_projection m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)
      ∧ m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10)
      ∧ m' ((c.tc : Thread Cert.ProjRefIdeal.nD Cert.ProjRefIdeal.τ).loc Cert.ProjRefIdeal.main_arg11) = m ((c.tc : Thread Cert.ProjIdeal.nD Cert.ProjIdeal.τ).loc Cert.ProjIdeal.main_arg11)
      ∧ m' ((c.tc : Thread Cert.ProjRefIdeal.nD Cert.ProjRefIdeal.τ).loc Cert.ProjRefIdeal.main_arg12) = m ((c.tc : Thread Cert.ProjIdeal.nD Cert.ProjIdeal.τ).loc Cert.ProjIdeal.main_arg12)
      ∧ m' ((c.tc : Thread Cert.ProjRefIdeal.nD Cert.ProjRefIdeal.τ).loc Cert.ProjRefIdeal.main_arg13) = m ((c.tc : Thread Cert.ProjIdeal.nD Cert.ProjIdeal.τ).loc Cert.ProjIdeal.main_arg13)
      ∧ m' ((c.tc : Thread Cert.ProjRefIdeal.nD Cert.ProjRefIdeal.τ).loc Cert.ProjRefIdeal.main_arg14) = m ((c.tc : Thread Cert.ProjIdeal.nD Cert.ProjIdeal.τ).loc Cert.ProjIdeal.main_arg14)) →
    ∃ (v0 : (c : Dev Cert.ProjIdeal.nD) → Buf (Elt Ideal) ((c.tc : Thread Cert.ProjIdeal.nD Cert.ProjIdeal.τ).loc Cert.ProjIdeal.main_v13_0)) (v1 : (c : Dev Cert.ProjIdeal.nD) → Buf (Elt Ideal) ((c.tc : Thread Cert.ProjIdeal.nD Cert.ProjIdeal.τ).loc Cert.ProjIdeal.main_v13_1)) (v2 : (c : Dev Cert.ProjIdeal.nD) → Buf (Elt Ideal) ((c.tc : Thread Cert.ProjIdeal.nD Cert.ProjIdeal.τ).loc Cert.ProjIdeal.main_v13_2)) (v3 : (c : Dev Cert.ProjIdeal.nD) → Buf (Elt Ideal) ((c.tc : Thread Cert.ProjIdeal.nD Cert.ProjIdeal.τ).loc Cert.ProjIdeal.main_v13_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v13_0) = v0 c
          ∧ r.2.mem ((c.tc : Thread Cert.ProjIdeal.nD Cert.ProjIdeal.τ).loc Cert.ProjIdeal.main_v13_1) = v1 c
          ∧ r.2.mem ((c.tc : Thread Cert.ProjIdeal.nD Cert.ProjIdeal.τ).loc Cert.ProjIdeal.main_v13_2) = v2 c
          ∧ r.2.mem ((c.tc : Thread Cert.ProjIdeal.nD Cert.ProjIdeal.τ).loc Cert.ProjIdeal.main_v13_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
          ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
          ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
          ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v59) = v0 c
          ∧ r.2.mem ((c.tc : Thread Cert.ProjRefIdeal.nD Cert.ProjRefIdeal.τ).loc Cert.ProjRefIdeal.main_v34) = v1 c
          ∧ r.2.mem ((c.tc : Thread Cert.ProjRefIdeal.nD Cert.ProjRefIdeal.τ).loc Cert.ProjRefIdeal.main_v37) = v2 c
          ∧ r.2.mem ((c.tc : Thread Cert.ProjRefIdeal.nD Cert.ProjRefIdeal.τ).loc Cert.ProjRefIdeal.main_v42) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9)
          ∧ r.2.mem ((c.tc : Thread Cert.ProjRefIdeal.nD Cert.ProjRefIdeal.τ).loc Cert.ProjRefIdeal.main_arg10) = m' ((c.tc : Thread Cert.ProjRefIdeal.nD Cert.ProjRefIdeal.τ).loc Cert.ProjRefIdeal.main_arg10)
          ∧ r.2.mem ((c.tc : Thread Cert.ProjRefIdeal.nD Cert.ProjRefIdeal.τ).loc Cert.ProjRefIdeal.main_arg11) = m' ((c.tc : Thread Cert.ProjRefIdeal.nD Cert.ProjRefIdeal.τ).loc Cert.ProjRefIdeal.main_arg11)
          ∧ r.2.mem ((c.tc : Thread Cert.ProjRefIdeal.nD Cert.ProjRefIdeal.τ).loc Cert.ProjRefIdeal.main_arg12) = m' ((c.tc : Thread Cert.ProjRefIdeal.nD Cert.ProjRefIdeal.τ).loc Cert.ProjRefIdeal.main_arg12)
          ∧ r.2.mem ((c.tc : Thread Cert.ProjRefIdeal.nD Cert.ProjRefIdeal.τ).loc Cert.ProjRefIdeal.main_arg13) = m' ((c.tc : Thread Cert.ProjRefIdeal.nD Cert.ProjRefIdeal.τ).loc Cert.ProjRefIdeal.main_arg13)
          ∧ r.2.mem ((c.tc : Thread Cert.ProjRefIdeal.nD Cert.ProjRefIdeal.τ).loc Cert.ProjRefIdeal.main_arg14) = m' ((c.tc : Thread Cert.ProjRefIdeal.nD Cert.ProjRefIdeal.τ).loc Cert.ProjRefIdeal.main_arg14))

def preserves_Mix_MixIdeal : Prop :=
  IdealRules.named_const.Statement Cert.MixIdeal.κ "cubic" .f32 0x3D372713#32 ((8943 / 200000 : ℝ) : EReal)
  ∧ IdealRules.named_const.Statement Cert.MixIdeal.κ "slope" .f32 0x3E095D4F#32 ((26829 / 200000 : ℝ) : EReal)

def algebraic_MixIdeal_MixRefIdeal_pre_finite_mix [hMixIdeal : Cert.MixIdeal.Facts] [hMixRefIdeal : Cert.MixRefIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_mix m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)) →
    ∃ (v0 : (c : Dev Cert.MixIdeal.nD) → Buf (Elt Ideal) ((c.tc : Thread Cert.MixIdeal.nD Cert.MixIdeal.τ).loc Cert.MixIdeal.main_v5_0)) (v1 : (c : Dev Cert.MixIdeal.nD) → Buf (Elt Ideal) ((c.tc : Thread Cert.MixIdeal.nD Cert.MixIdeal.τ).loc Cert.MixIdeal.main_v5_1)) (v2 : (c : Dev Cert.MixIdeal.nD) → Buf (Elt Ideal) ((c.tc : Thread Cert.MixIdeal.nD Cert.MixIdeal.τ).loc Cert.MixIdeal.main_v5_2)) (v3 : (c : Dev Cert.MixIdeal.nD) → Buf (Elt Ideal) ((c.tc : Thread Cert.MixIdeal.nD Cert.MixIdeal.τ).loc Cert.MixIdeal.main_v5_3)) (v4 : (c : Dev Cert.MixIdeal.nD) → Buf (Elt Ideal) ((c.tc : Thread Cert.MixIdeal.nD Cert.MixIdeal.τ).loc Cert.MixIdeal.main_v5_4)) (v5 : (c : Dev Cert.MixIdeal.nD) → Buf (Elt Ideal) ((c.tc : Thread Cert.MixIdeal.nD Cert.MixIdeal.τ).loc Cert.MixIdeal.main_v5_5)) (v6 : (c : Dev Cert.MixIdeal.nD) → Buf (Elt Ideal) ((c.tc : Thread Cert.MixIdeal.nD Cert.MixIdeal.τ).loc Cert.MixIdeal.main_v5_6)) (v7 : (c : Dev Cert.MixIdeal.nD) → Buf (Elt Ideal) ((c.tc : Thread Cert.MixIdeal.nD Cert.MixIdeal.τ).loc Cert.MixIdeal.main_v5_7)) (v8 : (c : Dev Cert.MixIdeal.nD) → Buf (Elt Ideal) ((c.tc : Thread Cert.MixIdeal.nD Cert.MixIdeal.τ).loc Cert.MixIdeal.main_v5_8)) (v9 : (c : Dev Cert.MixIdeal.nD) → Buf (Elt Ideal) ((c.tc : Thread Cert.MixIdeal.nD Cert.MixIdeal.τ).loc Cert.MixIdeal.main_v5_9)) (v10 : (c : Dev Cert.MixIdeal.nD) → Buf (Elt Ideal) ((c.tc : Thread Cert.MixIdeal.nD Cert.MixIdeal.τ).loc Cert.MixIdeal.main_v5_10)) (v11 : (c : Dev Cert.MixIdeal.nD) → Buf (Elt Ideal) ((c.tc : Thread Cert.MixIdeal.nD Cert.MixIdeal.τ).loc Cert.MixIdeal.main_v5_11)) (v12 : (c : Dev Cert.MixIdeal.nD) → Buf (Elt Ideal) ((c.tc : Thread Cert.MixIdeal.nD Cert.MixIdeal.τ).loc Cert.MixIdeal.main_v5_12)) (v13 : (c : Dev Cert.MixIdeal.nD) → Buf (Elt Ideal) ((c.tc : Thread Cert.MixIdeal.nD Cert.MixIdeal.τ).loc Cert.MixIdeal.main_v5_13)) (v14 : (c : Dev Cert.MixIdeal.nD) → Buf (Elt Ideal) ((c.tc : Thread Cert.MixIdeal.nD Cert.MixIdeal.τ).loc Cert.MixIdeal.main_v5_14)) (v15 : (c : Dev Cert.MixIdeal.nD) → Buf (Elt Ideal) ((c.tc : Thread Cert.MixIdeal.nD Cert.MixIdeal.τ).loc Cert.MixIdeal.main_v5_15)) (v16 : (c : Dev Cert.MixIdeal.nD) → Buf (Elt Ideal) ((c.tc : Thread Cert.MixIdeal.nD Cert.MixIdeal.τ).loc Cert.MixIdeal.main_v5_16)) (v17 : (c : Dev Cert.MixIdeal.nD) → Buf (Elt Ideal) ((c.tc : Thread Cert.MixIdeal.nD Cert.MixIdeal.τ).loc Cert.MixIdeal.main_v5_17)) (v18 : (c : Dev Cert.MixIdeal.nD) → Buf (Elt Ideal) ((c.tc : Thread Cert.MixIdeal.nD Cert.MixIdeal.τ).loc Cert.MixIdeal.main_v5_18)) (v19 : (c : Dev Cert.MixIdeal.nD) → Buf (Elt Ideal) ((c.tc : Thread Cert.MixIdeal.nD Cert.MixIdeal.τ).loc Cert.MixIdeal.main_v5_19)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5_0) = v0 c
          ∧ r.2.mem ((c.tc : Thread Cert.MixIdeal.nD Cert.MixIdeal.τ).loc Cert.MixIdeal.main_v5_1) = v1 c
          ∧ r.2.mem ((c.tc : Thread Cert.MixIdeal.nD Cert.MixIdeal.τ).loc Cert.MixIdeal.main_v5_2) = v2 c
          ∧ r.2.mem ((c.tc : Thread Cert.MixIdeal.nD Cert.MixIdeal.τ).loc Cert.MixIdeal.main_v5_3) = v3 c
          ∧ r.2.mem ((c.tc : Thread Cert.MixIdeal.nD Cert.MixIdeal.τ).loc Cert.MixIdeal.main_v5_4) = v4 c
          ∧ r.2.mem ((c.tc : Thread Cert.MixIdeal.nD Cert.MixIdeal.τ).loc Cert.MixIdeal.main_v5_5) = v5 c
          ∧ r.2.mem ((c.tc : Thread Cert.MixIdeal.nD Cert.MixIdeal.τ).loc Cert.MixIdeal.main_v5_6) = v6 c
          ∧ r.2.mem ((c.tc : Thread Cert.MixIdeal.nD Cert.MixIdeal.τ).loc Cert.MixIdeal.main_v5_7) = v7 c
          ∧ r.2.mem ((c.tc : Thread Cert.MixIdeal.nD Cert.MixIdeal.τ).loc Cert.MixIdeal.main_v5_8) = v8 c
          ∧ r.2.mem ((c.tc : Thread Cert.MixIdeal.nD Cert.MixIdeal.τ).loc Cert.MixIdeal.main_v5_9) = v9 c
          ∧ r.2.mem ((c.tc : Thread Cert.MixIdeal.nD Cert.MixIdeal.τ).loc Cert.MixIdeal.main_v5_10) = v10 c
          ∧ r.2.mem ((c.tc : Thread Cert.MixIdeal.nD Cert.MixIdeal.τ).loc Cert.MixIdeal.main_v5_11) = v11 c
          ∧ r.2.mem ((c.tc : Thread Cert.MixIdeal.nD Cert.MixIdeal.τ).loc Cert.MixIdeal.main_v5_12) = v12 c
          ∧ r.2.mem ((c.tc : Thread Cert.MixIdeal.nD Cert.MixIdeal.τ).loc Cert.MixIdeal.main_v5_13) = v13 c
          ∧ r.2.mem ((c.tc : Thread Cert.MixIdeal.nD Cert.MixIdeal.τ).loc Cert.MixIdeal.main_v5_14) = v14 c
          ∧ r.2.mem ((c.tc : Thread Cert.MixIdeal.nD Cert.MixIdeal.τ).loc Cert.MixIdeal.main_v5_15) = v15 c
          ∧ r.2.mem ((c.tc : Thread Cert.MixIdeal.nD Cert.MixIdeal.τ).loc Cert.MixIdeal.main_v5_16) = v16 c
          ∧ r.2.mem ((c.tc : Thread Cert.MixIdeal.nD Cert.MixIdeal.τ).loc Cert.MixIdeal.main_v5_17) = v17 c
          ∧ r.2.mem ((c.tc : Thread Cert.MixIdeal.nD Cert.MixIdeal.τ).loc Cert.MixIdeal.main_v5_18) = v18 c
          ∧ r.2.mem ((c.tc : Thread Cert.MixIdeal.nD Cert.MixIdeal.τ).loc Cert.MixIdeal.main_v5_19) = v19 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v123) = v0 c
          ∧ r.2.mem ((c.tc : Thread Cert.MixRefIdeal.nD Cert.MixRefIdeal.τ).loc Cert.MixRefIdeal.main_v167) = v1 c
          ∧ r.2.mem ((c.tc : Thread Cert.MixRefIdeal.nD Cert.MixRefIdeal.τ).loc Cert.MixRefIdeal.main_v168) = v2 c
          ∧ r.2.mem ((c.tc : Thread Cert.MixRefIdeal.nD Cert.MixRefIdeal.τ).loc Cert.MixRefIdeal.main_v169) = v3 c
          ∧ r.2.mem ((c.tc : Thread Cert.MixRefIdeal.nD Cert.MixRefIdeal.τ).loc Cert.MixRefIdeal.main_v170) = v4 c
          ∧ r.2.mem ((c.tc : Thread Cert.MixRefIdeal.nD Cert.MixRefIdeal.τ).loc Cert.MixRefIdeal.main_v171) = v5 c
          ∧ r.2.mem ((c.tc : Thread Cert.MixRefIdeal.nD Cert.MixRefIdeal.τ).loc Cert.MixRefIdeal.main_v159) = v6 c
          ∧ r.2.mem ((c.tc : Thread Cert.MixRefIdeal.nD Cert.MixRefIdeal.τ).loc Cert.MixRefIdeal.main_v166) = v7 c
          ∧ r.2.mem ((c.tc : Thread Cert.MixRefIdeal.nD Cert.MixRefIdeal.τ).loc Cert.MixRefIdeal.main_v172) = v8 c
          ∧ r.2.mem ((c.tc : Thread Cert.MixRefIdeal.nD Cert.MixRefIdeal.τ).loc Cert.MixRefIdeal.main_v173) = v9 c
          ∧ r.2.mem ((c.tc : Thread Cert.MixRefIdeal.nD Cert.MixRefIdeal.τ).loc Cert.MixRefIdeal.main_v174) = v10 c
          ∧ r.2.mem ((c.tc : Thread Cert.MixRefIdeal.nD Cert.MixRefIdeal.τ).loc Cert.MixRefIdeal.main_v175) = v11 c
          ∧ r.2.mem ((c.tc : Thread Cert.MixRefIdeal.nD Cert.MixRefIdeal.τ).loc Cert.MixRefIdeal.main_v176) = v12 c
          ∧ r.2.mem ((c.tc : Thread Cert.MixRefIdeal.nD Cert.MixRefIdeal.τ).loc Cert.MixRefIdeal.main_v177) = v13 c
          ∧ r.2.mem ((c.tc : Thread Cert.MixRefIdeal.nD Cert.MixRefIdeal.τ).loc Cert.MixRefIdeal.main_v178) = v14 c
          ∧ r.2.mem ((c.tc : Thread Cert.MixRefIdeal.nD Cert.MixRefIdeal.τ).loc Cert.MixRefIdeal.main_v179) = v15 c
          ∧ r.2.mem ((c.tc : Thread Cert.MixRefIdeal.nD Cert.MixRefIdeal.τ).loc Cert.MixRefIdeal.main_v145) = v16 c
          ∧ r.2.mem ((c.tc : Thread Cert.MixRefIdeal.nD Cert.MixRefIdeal.τ).loc Cert.MixRefIdeal.main_v128) = v17 c
          ∧ r.2.mem ((c.tc : Thread Cert.MixRefIdeal.nD Cert.MixRefIdeal.τ).loc Cert.MixRefIdeal.main_v180) = v18 c
          ∧ r.2.mem ((c.tc : Thread Cert.MixRefIdeal.nD Cert.MixRefIdeal.τ).loc Cert.MixRefIdeal.main_v181) = v19 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14))

def preserves_Afwd_AfwdIdeal : Prop :=
  True

def algebraic_AfwdIdeal_AfwdRefIdeal_pre_finite_inputs [hAfwdIdeal : Cert.AfwdIdeal.Facts] [hAfwdRefIdeal : Cert.AfwdRefIdeal.Facts] [hPre_finite_inputs : Cert.Pre_finite_inputs.Facts] : Prop :=
  ∀ (m : (ℓ : Loc Cert.AfwdIdeal.nD Cert.AfwdIdeal.τ Cert.AfwdIdeal.sig) → Buf (Elt Ideal) ℓ) (g : Dev Cert.AfwdIdeal.nD → PrngReg)
    (m' : (ℓ : Loc Cert.AfwdRefIdeal.nD Cert.AfwdRefIdeal.τ Cert.AfwdRefIdeal.sig) → Buf (Elt Ideal) ℓ) (g' : Dev Cert.AfwdRefIdeal.nD → PrngReg), Pre_AfwdIdeal_finite_inputs m →
    (∀ c : Dev Cert.AfwdIdeal.nD,
      m' ((c.tc : Thread Cert.AfwdRefIdeal.nD Cert.AfwdRefIdeal.τ).loc Cert.AfwdRefIdeal.main_arg0) = m ((c.tc : Thread Cert.AfwdIdeal.nD Cert.AfwdIdeal.τ).loc Cert.AfwdIdeal.main_arg0)
      ∧ m' ((c.tc : Thread Cert.AfwdRefIdeal.nD Cert.AfwdRefIdeal.τ).loc Cert.AfwdRefIdeal.main_arg1) = m ((c.tc : Thread Cert.AfwdIdeal.nD Cert.AfwdIdeal.τ).loc Cert.AfwdIdeal.main_arg1)
      ∧ m' ((c.tc : Thread Cert.AfwdRefIdeal.nD Cert.AfwdRefIdeal.τ).loc Cert.AfwdRefIdeal.main_arg2) = m ((c.tc : Thread Cert.AfwdIdeal.nD Cert.AfwdIdeal.τ).loc Cert.AfwdIdeal.main_arg2)
      ∧ m' ((c.tc : Thread Cert.AfwdRefIdeal.nD Cert.AfwdRefIdeal.τ).loc Cert.AfwdRefIdeal.main_arg3) = m ((c.tc : Thread Cert.AfwdIdeal.nD Cert.AfwdIdeal.τ).loc Cert.AfwdIdeal.main_arg3)
      ∧ m' ((c.tc : Thread Cert.AfwdRefIdeal.nD Cert.AfwdRefIdeal.τ).loc Cert.AfwdRefIdeal.main_arg4) = m ((c.tc : Thread Cert.AfwdIdeal.nD Cert.AfwdIdeal.τ).loc Cert.AfwdIdeal.main_arg4)) →
    ∃ (v0 : (c : Dev Cert.AfwdIdeal.nD) → Buf (Elt Ideal) ((c.tc : Thread Cert.AfwdIdeal.nD Cert.AfwdIdeal.τ).loc Cert.AfwdIdeal.main_v91_0)) (v1 : (c : Dev Cert.AfwdIdeal.nD) → Buf (Elt Ideal) ((c.tc : Thread Cert.AfwdIdeal.nD Cert.AfwdIdeal.τ).loc Cert.AfwdIdeal.main_v91_1)),
      θ_run (Cert.AfwdIdeal.defs (F := Ideal)) (onTc (τ := Cert.AfwdIdeal.τ) (Cert.AfwdIdeal.main (F := Ideal))) ⟨m, fun _ => 0, g⟩ (fun r => ∀ c : Dev Cert.AfwdIdeal.nD,
          r.2.mem ((c.tc : Thread Cert.AfwdIdeal.nD Cert.AfwdIdeal.τ).loc Cert.AfwdIdeal.main_v91_0) = v0 c
          ∧ r.2.mem ((c.tc : Thread Cert.AfwdIdeal.nD Cert.AfwdIdeal.τ).loc Cert.AfwdIdeal.main_v91_1) = v1 c
          ∧ r.2.mem ((c.tc : Thread Cert.AfwdIdeal.nD Cert.AfwdIdeal.τ).loc Cert.AfwdIdeal.main_arg0) = m ((c.tc : Thread Cert.AfwdIdeal.nD Cert.AfwdIdeal.τ).loc Cert.AfwdIdeal.main_arg0)
          ∧ r.2.mem ((c.tc : Thread Cert.AfwdIdeal.nD Cert.AfwdIdeal.τ).loc Cert.AfwdIdeal.main_arg1) = m ((c.tc : Thread Cert.AfwdIdeal.nD Cert.AfwdIdeal.τ).loc Cert.AfwdIdeal.main_arg1)
          ∧ r.2.mem ((c.tc : Thread Cert.AfwdIdeal.nD Cert.AfwdIdeal.τ).loc Cert.AfwdIdeal.main_arg2) = m ((c.tc : Thread Cert.AfwdIdeal.nD Cert.AfwdIdeal.τ).loc Cert.AfwdIdeal.main_arg2)
          ∧ r.2.mem ((c.tc : Thread Cert.AfwdIdeal.nD Cert.AfwdIdeal.τ).loc Cert.AfwdIdeal.main_arg3) = m ((c.tc : Thread Cert.AfwdIdeal.nD Cert.AfwdIdeal.τ).loc Cert.AfwdIdeal.main_arg3)
          ∧ r.2.mem ((c.tc : Thread Cert.AfwdIdeal.nD Cert.AfwdIdeal.τ).loc Cert.AfwdIdeal.main_arg4) = m ((c.tc : Thread Cert.AfwdIdeal.nD Cert.AfwdIdeal.τ).loc Cert.AfwdIdeal.main_arg4))
      ∧ θ_run (Cert.AfwdRefIdeal.defs (F := Ideal)) (onTc (τ := Cert.AfwdRefIdeal.τ) (Cert.AfwdRefIdeal.main (F := Ideal))) ⟨m', fun _ => 0, g'⟩ (fun r => ∀ c : Dev Cert.AfwdRefIdeal.nD,
          r.2.mem ((c.tc : Thread Cert.AfwdRefIdeal.nD Cert.AfwdRefIdeal.τ).loc Cert.AfwdRefIdeal.main_v35) = v0 c
          ∧ r.2.mem ((c.tc : Thread Cert.AfwdRefIdeal.nD Cert.AfwdRefIdeal.τ).loc Cert.AfwdRefIdeal.main_v45) = v1 c
          ∧ r.2.mem ((c.tc : Thread Cert.AfwdRefIdeal.nD Cert.AfwdRefIdeal.τ).loc Cert.AfwdRefIdeal.main_arg0) = m' ((c.tc : Thread Cert.AfwdRefIdeal.nD Cert.AfwdRefIdeal.τ).loc Cert.AfwdRefIdeal.main_arg0)
          ∧ r.2.mem ((c.tc : Thread Cert.AfwdRefIdeal.nD Cert.AfwdRefIdeal.τ).loc Cert.AfwdRefIdeal.main_arg1) = m' ((c.tc : Thread Cert.AfwdRefIdeal.nD Cert.AfwdRefIdeal.τ).loc Cert.AfwdRefIdeal.main_arg1)
          ∧ r.2.mem ((c.tc : Thread Cert.AfwdRefIdeal.nD Cert.AfwdRefIdeal.τ).loc Cert.AfwdRefIdeal.main_arg2) = m' ((c.tc : Thread Cert.AfwdRefIdeal.nD Cert.AfwdRefIdeal.τ).loc Cert.AfwdRefIdeal.main_arg2)
          ∧ r.2.mem ((c.tc : Thread Cert.AfwdRefIdeal.nD Cert.AfwdRefIdeal.τ).loc Cert.AfwdRefIdeal.main_arg3) = m' ((c.tc : Thread Cert.AfwdRefIdeal.nD Cert.AfwdRefIdeal.τ).loc Cert.AfwdRefIdeal.main_arg3)
          ∧ r.2.mem ((c.tc : Thread Cert.AfwdRefIdeal.nD Cert.AfwdRefIdeal.τ).loc Cert.AfwdRefIdeal.main_arg4) = m' ((c.tc : Thread Cert.AfwdRefIdeal.nD Cert.AfwdRefIdeal.τ).loc Cert.AfwdRefIdeal.main_arg4))

def preserves_Parts_PartsIdeal : Prop :=
  True

def algebraic_PartsIdeal_PartsRefIdeal [hPartsIdeal : Cert.PartsIdeal.Facts] [hPartsRefIdeal : Cert.PartsRefIdeal.Facts] : Prop :=
  ∀ (m : (ℓ : Loc Cert.PartsIdeal.nD Cert.PartsIdeal.τ Cert.PartsIdeal.sig) → Buf (Elt Ideal) ℓ) (g : Dev Cert.PartsIdeal.nD → PrngReg)
    (m' : (ℓ : Loc Cert.PartsRefIdeal.nD Cert.PartsRefIdeal.τ Cert.PartsRefIdeal.sig) → Buf (Elt Ideal) ℓ) (g' : Dev Cert.PartsRefIdeal.nD → PrngReg), Pre_PartsIdeal m →
    (∀ c : Dev Cert.PartsIdeal.nD,
      m' ((c.tc : Thread Cert.PartsRefIdeal.nD Cert.PartsRefIdeal.τ).loc Cert.PartsRefIdeal.main_arg0) = m ((c.tc : Thread Cert.PartsIdeal.nD Cert.PartsIdeal.τ).loc Cert.PartsIdeal.main_arg0)
      ∧ m' ((c.tc : Thread Cert.PartsRefIdeal.nD Cert.PartsRefIdeal.τ).loc Cert.PartsRefIdeal.main_arg1) = m ((c.tc : Thread Cert.PartsIdeal.nD Cert.PartsIdeal.τ).loc Cert.PartsIdeal.main_arg1)
      ∧ m' ((c.tc : Thread Cert.PartsRefIdeal.nD Cert.PartsRefIdeal.τ).loc Cert.PartsRefIdeal.main_arg2) = m ((c.tc : Thread Cert.PartsIdeal.nD Cert.PartsIdeal.τ).loc Cert.PartsIdeal.main_arg2)
      ∧ m' ((c.tc : Thread Cert.PartsRefIdeal.nD Cert.PartsRefIdeal.τ).loc Cert.PartsRefIdeal.main_arg3) = m ((c.tc : Thread Cert.PartsIdeal.nD Cert.PartsIdeal.τ).loc Cert.PartsIdeal.main_arg3)
      ∧ m' ((c.tc : Thread Cert.PartsRefIdeal.nD Cert.PartsRefIdeal.τ).loc Cert.PartsRefIdeal.main_arg4) = m ((c.tc : Thread Cert.PartsIdeal.nD Cert.PartsIdeal.τ).loc Cert.PartsIdeal.main_arg4)) →
    ∃ (v0 : (c : Dev Cert.PartsIdeal.nD) → Buf (Elt Ideal) ((c.tc : Thread Cert.PartsIdeal.nD Cert.PartsIdeal.τ).loc Cert.PartsIdeal.main_v6_0)) (v1 : (c : Dev Cert.PartsIdeal.nD) → Buf (Elt Ideal) ((c.tc : Thread Cert.PartsIdeal.nD Cert.PartsIdeal.τ).loc Cert.PartsIdeal.main_v6_1)) (v2 : (c : Dev Cert.PartsIdeal.nD) → Buf (Elt Ideal) ((c.tc : Thread Cert.PartsIdeal.nD Cert.PartsIdeal.τ).loc Cert.PartsIdeal.main_v6_2)) (v3 : (c : Dev Cert.PartsIdeal.nD) → Buf (Elt Ideal) ((c.tc : Thread Cert.PartsIdeal.nD Cert.PartsIdeal.τ).loc Cert.PartsIdeal.main_v6_3)) (v4 : (c : Dev Cert.PartsIdeal.nD) → Buf (Elt Ideal) ((c.tc : Thread Cert.PartsIdeal.nD Cert.PartsIdeal.τ).loc Cert.PartsIdeal.main_v6_4)) (v5 : (c : Dev Cert.PartsIdeal.nD) → Buf (Elt Ideal) ((c.tc : Thread Cert.PartsIdeal.nD Cert.PartsIdeal.τ).loc Cert.PartsIdeal.main_v6_5)) (v6 : (c : Dev Cert.PartsIdeal.nD) → Buf (Elt Ideal) ((c.tc : Thread Cert.PartsIdeal.nD Cert.PartsIdeal.τ).loc Cert.PartsIdeal.main_v6_6)) (v7 : (c : Dev Cert.PartsIdeal.nD) → Buf (Elt Ideal) ((c.tc : Thread Cert.PartsIdeal.nD Cert.PartsIdeal.τ).loc Cert.PartsIdeal.main_v6_7)) (v8 : (c : Dev Cert.PartsIdeal.nD) → Buf (Elt Ideal) ((c.tc : Thread Cert.PartsIdeal.nD Cert.PartsIdeal.τ).loc Cert.PartsIdeal.main_v6_8)) (v9 : (c : Dev Cert.PartsIdeal.nD) → Buf (Elt Ideal) ((c.tc : Thread Cert.PartsIdeal.nD Cert.PartsIdeal.τ).loc Cert.PartsIdeal.main_v6_9)),
      θ_run (Cert.PartsIdeal.defs (F := Ideal)) (onTc (τ := Cert.PartsIdeal.τ) (Cert.PartsIdeal.main (F := Ideal))) ⟨m, fun _ => 0, g⟩ (fun r => ∀ c : Dev Cert.PartsIdeal.nD,
          r.2.mem ((c.tc : Thread Cert.PartsIdeal.nD Cert.PartsIdeal.τ).loc Cert.PartsIdeal.main_v6_0) = v0 c
          ∧ r.2.mem ((c.tc : Thread Cert.PartsIdeal.nD Cert.PartsIdeal.τ).loc Cert.PartsIdeal.main_v6_1) = v1 c
          ∧ r.2.mem ((c.tc : Thread Cert.PartsIdeal.nD Cert.PartsIdeal.τ).loc Cert.PartsIdeal.main_v6_2) = v2 c
          ∧ r.2.mem ((c.tc : Thread Cert.PartsIdeal.nD Cert.PartsIdeal.τ).loc Cert.PartsIdeal.main_v6_3) = v3 c
          ∧ r.2.mem ((c.tc : Thread Cert.PartsIdeal.nD Cert.PartsIdeal.τ).loc Cert.PartsIdeal.main_v6_4) = v4 c
          ∧ r.2.mem ((c.tc : Thread Cert.PartsIdeal.nD Cert.PartsIdeal.τ).loc Cert.PartsIdeal.main_v6_5) = v5 c
          ∧ r.2.mem ((c.tc : Thread Cert.PartsIdeal.nD Cert.PartsIdeal.τ).loc Cert.PartsIdeal.main_v6_6) = v6 c
          ∧ r.2.mem ((c.tc : Thread Cert.PartsIdeal.nD Cert.PartsIdeal.τ).loc Cert.PartsIdeal.main_v6_7) = v7 c
          ∧ r.2.mem ((c.tc : Thread Cert.PartsIdeal.nD Cert.PartsIdeal.τ).loc Cert.PartsIdeal.main_v6_8) = v8 c
          ∧ r.2.mem ((c.tc : Thread Cert.PartsIdeal.nD Cert.PartsIdeal.τ).loc Cert.PartsIdeal.main_v6_9) = v9 c
          ∧ r.2.mem ((c.tc : Thread Cert.PartsIdeal.nD Cert.PartsIdeal.τ).loc Cert.PartsIdeal.main_arg0) = m ((c.tc : Thread Cert.PartsIdeal.nD Cert.PartsIdeal.τ).loc Cert.PartsIdeal.main_arg0)
          ∧ r.2.mem ((c.tc : Thread Cert.PartsIdeal.nD Cert.PartsIdeal.τ).loc Cert.PartsIdeal.main_arg1) = m ((c.tc : Thread Cert.PartsIdeal.nD Cert.PartsIdeal.τ).loc Cert.PartsIdeal.main_arg1)
          ∧ r.2.mem ((c.tc : Thread Cert.PartsIdeal.nD Cert.PartsIdeal.τ).loc Cert.PartsIdeal.main_arg2) = m ((c.tc : Thread Cert.PartsIdeal.nD Cert.PartsIdeal.τ).loc Cert.PartsIdeal.main_arg2)
          ∧ r.2.mem ((c.tc : Thread Cert.PartsIdeal.nD Cert.PartsIdeal.τ).loc Cert.PartsIdeal.main_arg3) = m ((c.tc : Thread Cert.PartsIdeal.nD Cert.PartsIdeal.τ).loc Cert.PartsIdeal.main_arg3)
          ∧ r.2.mem ((c.tc : Thread Cert.PartsIdeal.nD Cert.PartsIdeal.τ).loc Cert.PartsIdeal.main_arg4) = m ((c.tc : Thread Cert.PartsIdeal.nD Cert.PartsIdeal.τ).loc Cert.PartsIdeal.main_arg4))
      ∧ θ_run (Cert.PartsRefIdeal.defs (F := Ideal)) (onTc (τ := Cert.PartsRefIdeal.τ) (Cert.PartsRefIdeal.main (F := Ideal))) ⟨m', fun _ => 0, g'⟩ (fun r => ∀ c : Dev Cert.PartsRefIdeal.nD,
          r.2.mem ((c.tc : Thread Cert.PartsRefIdeal.nD Cert.PartsRefIdeal.τ).loc Cert.PartsRefIdeal.main_v30) = v0 c
          ∧ r.2.mem ((c.tc : Thread Cert.PartsRefIdeal.nD Cert.PartsRefIdeal.τ).loc Cert.PartsRefIdeal.main_v31) = v1 c
          ∧ r.2.mem ((c.tc : Thread Cert.PartsRefIdeal.nD Cert.PartsRefIdeal.τ).loc Cert.PartsRefIdeal.main_v32) = v2 c
          ∧ r.2.mem ((c.tc : Thread Cert.PartsRefIdeal.nD Cert.PartsRefIdeal.τ).loc Cert.PartsRefIdeal.main_v23) = v3 c
          ∧ r.2.mem ((c.tc : Thread Cert.PartsRefIdeal.nD Cert.PartsRefIdeal.τ).loc Cert.PartsRefIdeal.main_v24) = v4 c
          ∧ r.2.mem ((c.tc : Thread Cert.PartsRefIdeal.nD Cert.PartsRefIdeal.τ).loc Cert.PartsRefIdeal.main_v25) = v5 c
          ∧ r.2.mem ((c.tc : Thread Cert.PartsRefIdeal.nD Cert.PartsRefIdeal.τ).loc Cert.PartsRefIdeal.main_v26) = v6 c
          ∧ r.2.mem ((c.tc : Thread Cert.PartsRefIdeal.nD Cert.PartsRefIdeal.τ).loc Cert.PartsRefIdeal.main_v27) = v7 c
          ∧ r.2.mem ((c.tc : Thread Cert.PartsRefIdeal.nD Cert.PartsRefIdeal.τ).loc Cert.PartsRefIdeal.main_v22) = v8 c
          ∧ r.2.mem ((c.tc : Thread Cert.PartsRefIdeal.nD Cert.PartsRefIdeal.τ).loc Cert.PartsRefIdeal.main_v33) = v9 c
          ∧ r.2.mem ((c.tc : Thread Cert.PartsRefIdeal.nD Cert.PartsRefIdeal.τ).loc Cert.PartsRefIdeal.main_arg0) = m' ((c.tc : Thread Cert.PartsRefIdeal.nD Cert.PartsRefIdeal.τ).loc Cert.PartsRefIdeal.main_arg0)
          ∧ r.2.mem ((c.tc : Thread Cert.PartsRefIdeal.nD Cert.PartsRefIdeal.τ).loc Cert.PartsRefIdeal.main_arg1) = m' ((c.tc : Thread Cert.PartsRefIdeal.nD Cert.PartsRefIdeal.τ).loc Cert.PartsRefIdeal.main_arg1)
          ∧ r.2.mem ((c.tc : Thread Cert.PartsRefIdeal.nD Cert.PartsRefIdeal.τ).loc Cert.PartsRefIdeal.main_arg2) = m' ((c.tc : Thread Cert.PartsRefIdeal.nD Cert.PartsRefIdeal.τ).loc Cert.PartsRefIdeal.main_arg2)
          ∧ r.2.mem ((c.tc : Thread Cert.PartsRefIdeal.nD Cert.PartsRefIdeal.τ).loc Cert.PartsRefIdeal.main_arg3) = m' ((c.tc : Thread Cert.PartsRefIdeal.nD Cert.PartsRefIdeal.τ).loc Cert.PartsRefIdeal.main_arg3)
          ∧ r.2.mem ((c.tc : Thread Cert.PartsRefIdeal.nD Cert.PartsRefIdeal.τ).loc Cert.PartsRefIdeal.main_arg4) = m' ((c.tc : Thread Cert.PartsRefIdeal.nD Cert.PartsRefIdeal.τ).loc Cert.PartsRefIdeal.main_arg4))

def preserves_Update_UpdateIdeal : Prop :=
  True

def algebraic_UpdateIdeal_UpdateRefIdeal [hUpdateIdeal : Cert.UpdateIdeal.Facts] [hUpdateRefIdeal : Cert.UpdateRefIdeal.Facts] : Prop :=
  ∀ (m : (ℓ : Loc Cert.UpdateIdeal.nD Cert.UpdateIdeal.τ Cert.UpdateIdeal.sig) → Buf (Elt Ideal) ℓ) (g : Dev Cert.UpdateIdeal.nD → PrngReg)
    (m' : (ℓ : Loc Cert.UpdateRefIdeal.nD Cert.UpdateRefIdeal.τ Cert.UpdateRefIdeal.sig) → Buf (Elt Ideal) ℓ) (g' : Dev Cert.UpdateRefIdeal.nD → PrngReg), Pre_UpdateIdeal m →
    (∀ c : Dev Cert.UpdateIdeal.nD,
      m' ((c.tc : Thread Cert.UpdateRefIdeal.nD Cert.UpdateRefIdeal.τ).loc Cert.UpdateRefIdeal.main_arg0) = m ((c.tc : Thread Cert.UpdateIdeal.nD Cert.UpdateIdeal.τ).loc Cert.UpdateIdeal.main_arg0)
      ∧ m' ((c.tc : Thread Cert.UpdateRefIdeal.nD Cert.UpdateRefIdeal.τ).loc Cert.UpdateRefIdeal.main_arg1) = m ((c.tc : Thread Cert.UpdateIdeal.nD Cert.UpdateIdeal.τ).loc Cert.UpdateIdeal.main_arg1)
      ∧ m' ((c.tc : Thread Cert.UpdateRefIdeal.nD Cert.UpdateRefIdeal.τ).loc Cert.UpdateRefIdeal.main_arg2) = m ((c.tc : Thread Cert.UpdateIdeal.nD Cert.UpdateIdeal.τ).loc Cert.UpdateIdeal.main_arg2)
      ∧ m' ((c.tc : Thread Cert.UpdateRefIdeal.nD Cert.UpdateRefIdeal.τ).loc Cert.UpdateRefIdeal.main_arg3) = m ((c.tc : Thread Cert.UpdateIdeal.nD Cert.UpdateIdeal.τ).loc Cert.UpdateIdeal.main_arg3)) →
    ∃ (v0 : (c : Dev Cert.UpdateIdeal.nD) → Buf (Elt Ideal) ((c.tc : Thread Cert.UpdateIdeal.nD Cert.UpdateIdeal.τ).loc Cert.UpdateIdeal.main_v0_0)) (v1 : (c : Dev Cert.UpdateIdeal.nD) → Buf (Elt Ideal) ((c.tc : Thread Cert.UpdateIdeal.nD Cert.UpdateIdeal.τ).loc Cert.UpdateIdeal.main_v0_1)) (v2 : (c : Dev Cert.UpdateIdeal.nD) → Buf (Elt Ideal) ((c.tc : Thread Cert.UpdateIdeal.nD Cert.UpdateIdeal.τ).loc Cert.UpdateIdeal.main_v0_2)) (v3 : (c : Dev Cert.UpdateIdeal.nD) → Buf (Elt Ideal) ((c.tc : Thread Cert.UpdateIdeal.nD Cert.UpdateIdeal.τ).loc Cert.UpdateIdeal.main_v0_3)),
      θ_run (Cert.UpdateIdeal.defs (F := Ideal)) (onTc (τ := Cert.UpdateIdeal.τ) (Cert.UpdateIdeal.main (F := Ideal))) ⟨m, fun _ => 0, g⟩ (fun r => ∀ c : Dev Cert.UpdateIdeal.nD,
          r.2.mem ((c.tc : Thread Cert.UpdateIdeal.nD Cert.UpdateIdeal.τ).loc Cert.UpdateIdeal.main_v0_0) = v0 c
          ∧ r.2.mem ((c.tc : Thread Cert.UpdateIdeal.nD Cert.UpdateIdeal.τ).loc Cert.UpdateIdeal.main_v0_1) = v1 c
          ∧ r.2.mem ((c.tc : Thread Cert.UpdateIdeal.nD Cert.UpdateIdeal.τ).loc Cert.UpdateIdeal.main_v0_2) = v2 c
          ∧ r.2.mem ((c.tc : Thread Cert.UpdateIdeal.nD Cert.UpdateIdeal.τ).loc Cert.UpdateIdeal.main_v0_3) = v3 c
          ∧ r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
          ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
          ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
          ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3))
      ∧ θ_run (Cert.UpdateRefIdeal.defs (F := Ideal)) (onTc (τ := Cert.UpdateRefIdeal.τ) (Cert.UpdateRefIdeal.main (F := Ideal))) ⟨m', fun _ => 0, g'⟩ (fun r => ∀ c : Dev Cert.UpdateRefIdeal.nD,
          r.2.mem ((c.tc : Thread Cert.UpdateRefIdeal.nD Cert.UpdateRefIdeal.τ).loc Cert.UpdateRefIdeal.main_v1) = v0 c
          ∧ r.2.mem ((c.tc : Thread Cert.UpdateRefIdeal.nD Cert.UpdateRefIdeal.τ).loc Cert.UpdateRefIdeal.main_v25) = v1 c
          ∧ r.2.mem ((c.tc : Thread Cert.UpdateRefIdeal.nD Cert.UpdateRefIdeal.τ).loc Cert.UpdateRefIdeal.main_v6) = v2 c
          ∧ r.2.mem ((c.tc : Thread Cert.UpdateRefIdeal.nD Cert.UpdateRefIdeal.τ).loc Cert.UpdateRefIdeal.main_v12) = v3 c
          ∧ r.2.mem ((c.tc : Thread Cert.UpdateRefIdeal.nD Cert.UpdateRefIdeal.τ).loc Cert.UpdateRefIdeal.main_arg0) = m' ((c.tc : Thread Cert.UpdateRefIdeal.nD Cert.UpdateRefIdeal.τ).loc Cert.UpdateRefIdeal.main_arg0)
          ∧ r.2.mem ((c.tc : Thread Cert.UpdateRefIdeal.nD Cert.UpdateRefIdeal.τ).loc Cert.UpdateRefIdeal.main_arg1) = m' ((c.tc : Thread Cert.UpdateRefIdeal.nD Cert.UpdateRefIdeal.τ).loc Cert.UpdateRefIdeal.main_arg1)
          ∧ r.2.mem ((c.tc : Thread Cert.UpdateRefIdeal.nD Cert.UpdateRefIdeal.τ).loc Cert.UpdateRefIdeal.main_arg2) = m' ((c.tc : Thread Cert.UpdateRefIdeal.nD Cert.UpdateRefIdeal.τ).loc Cert.UpdateRefIdeal.main_arg2)
          ∧ r.2.mem ((c.tc : Thread Cert.UpdateRefIdeal.nD Cert.UpdateRefIdeal.τ).loc Cert.UpdateRefIdeal.main_arg3) = m' ((c.tc : Thread Cert.UpdateRefIdeal.nD Cert.UpdateRefIdeal.τ).loc Cert.UpdateRefIdeal.main_arg3))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)) →
    ∃ (v0 : (c : Dev Cert.WoutIdeal.nD) → Buf (Elt Ideal) ((c.tc : Thread Cert.WoutIdeal.nD Cert.WoutIdeal.τ).loc Cert.WoutIdeal.main_v0)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v0) = v0 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v1) = v0 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1))

def preserves_Narrow_NarrowIdeal : Prop :=
  True

def algebraic_NarrowIdeal_NarrowRefIdeal [hNarrowIdeal : Cert.NarrowIdeal.Facts] [hNarrowRefIdeal : Cert.NarrowRefIdeal.Facts] : Prop :=
  ∀ (m : (ℓ : Loc Cert.NarrowIdeal.nD Cert.NarrowIdeal.τ Cert.NarrowIdeal.sig) → Buf (Elt Ideal) ℓ) (g : Dev Cert.NarrowIdeal.nD → PrngReg)
    (m' : (ℓ : Loc Cert.NarrowRefIdeal.nD Cert.NarrowRefIdeal.τ Cert.NarrowRefIdeal.sig) → Buf (Elt Ideal) ℓ) (g' : Dev Cert.NarrowRefIdeal.nD → PrngReg), Pre_NarrowIdeal m →
    (∀ c : Dev Cert.NarrowIdeal.nD,
      m' ((c.tc : Thread Cert.NarrowRefIdeal.nD Cert.NarrowRefIdeal.τ).loc Cert.NarrowRefIdeal.main_arg0) = m ((c.tc : Thread Cert.NarrowIdeal.nD Cert.NarrowIdeal.τ).loc Cert.NarrowIdeal.main_arg0)
      ∧ m' ((c.tc : Thread Cert.NarrowRefIdeal.nD Cert.NarrowRefIdeal.τ).loc Cert.NarrowRefIdeal.main_arg1) = m ((c.tc : Thread Cert.NarrowIdeal.nD Cert.NarrowIdeal.τ).loc Cert.NarrowIdeal.main_arg1)
      ∧ m' ((c.tc : Thread Cert.NarrowRefIdeal.nD Cert.NarrowRefIdeal.τ).loc Cert.NarrowRefIdeal.main_arg2) = m ((c.tc : Thread Cert.NarrowIdeal.nD Cert.NarrowIdeal.τ).loc Cert.NarrowIdeal.main_arg2)
      ∧ m' ((c.tc : Thread Cert.NarrowRefIdeal.nD Cert.NarrowRefIdeal.τ).loc Cert.NarrowRefIdeal.main_arg3) = m ((c.tc : Thread Cert.NarrowIdeal.nD Cert.NarrowIdeal.τ).loc Cert.NarrowIdeal.main_arg3)
      ∧ m' ((c.tc : Thread Cert.NarrowRefIdeal.nD Cert.NarrowRefIdeal.τ).loc Cert.NarrowRefIdeal.main_arg4) = m ((c.tc : Thread Cert.NarrowIdeal.nD Cert.NarrowIdeal.τ).loc Cert.NarrowIdeal.main_arg4)
      ∧ m' ((c.tc : Thread Cert.NarrowRefIdeal.nD Cert.NarrowRefIdeal.τ).loc Cert.NarrowRefIdeal.main_arg5) = m ((c.tc : Thread Cert.NarrowIdeal.nD Cert.NarrowIdeal.τ).loc Cert.NarrowIdeal.main_arg5)
      ∧ m' ((c.tc : Thread Cert.NarrowRefIdeal.nD Cert.NarrowRefIdeal.τ).loc Cert.NarrowRefIdeal.main_arg6) = m ((c.tc : Thread Cert.NarrowIdeal.nD Cert.NarrowIdeal.τ).loc Cert.NarrowIdeal.main_arg6)
      ∧ m' ((c.tc : Thread Cert.NarrowRefIdeal.nD Cert.NarrowRefIdeal.τ).loc Cert.NarrowRefIdeal.main_arg7) = m ((c.tc : Thread Cert.NarrowIdeal.nD Cert.NarrowIdeal.τ).loc Cert.NarrowIdeal.main_arg7)) →
    ∃ (v0 : (c : Dev Cert.NarrowIdeal.nD) → Buf (Elt Ideal) ((c.tc : Thread Cert.NarrowIdeal.nD Cert.NarrowIdeal.τ).loc Cert.NarrowIdeal.main_v0_0)) (v1 : (c : Dev Cert.NarrowIdeal.nD) → Buf (Elt Ideal) ((c.tc : Thread Cert.NarrowIdeal.nD Cert.NarrowIdeal.τ).loc Cert.NarrowIdeal.main_v0_1)) (v2 : (c : Dev Cert.NarrowIdeal.nD) → Buf (Elt Ideal) ((c.tc : Thread Cert.NarrowIdeal.nD Cert.NarrowIdeal.τ).loc Cert.NarrowIdeal.main_v0_2)) (v3 : (c : Dev Cert.NarrowIdeal.nD) → Buf (Elt Ideal) ((c.tc : Thread Cert.NarrowIdeal.nD Cert.NarrowIdeal.τ).loc Cert.NarrowIdeal.main_v0_3)) (v4 : (c : Dev Cert.NarrowIdeal.nD) → Buf (Elt Ideal) ((c.tc : Thread Cert.NarrowIdeal.nD Cert.NarrowIdeal.τ).loc Cert.NarrowIdeal.main_v0_4)) (v5 : (c : Dev Cert.NarrowIdeal.nD) → Buf (Elt Ideal) ((c.tc : Thread Cert.NarrowIdeal.nD Cert.NarrowIdeal.τ).loc Cert.NarrowIdeal.main_v0_5)) (v6 : (c : Dev Cert.NarrowIdeal.nD) → Buf (Elt Ideal) ((c.tc : Thread Cert.NarrowIdeal.nD Cert.NarrowIdeal.τ).loc Cert.NarrowIdeal.main_v0_6)),
      θ_run (Cert.NarrowIdeal.defs (F := Ideal)) (onTc (τ := Cert.NarrowIdeal.τ) (Cert.NarrowIdeal.main (F := Ideal))) ⟨m, fun _ => 0, g⟩ (fun r => ∀ c : Dev Cert.NarrowIdeal.nD,
          r.2.mem ((c.tc : Thread Cert.NarrowIdeal.nD Cert.NarrowIdeal.τ).loc Cert.NarrowIdeal.main_v0_0) = v0 c
          ∧ r.2.mem ((c.tc : Thread Cert.NarrowIdeal.nD Cert.NarrowIdeal.τ).loc Cert.NarrowIdeal.main_v0_1) = v1 c
          ∧ r.2.mem ((c.tc : Thread Cert.NarrowIdeal.nD Cert.NarrowIdeal.τ).loc Cert.NarrowIdeal.main_v0_2) = v2 c
          ∧ r.2.mem ((c.tc : Thread Cert.NarrowIdeal.nD Cert.NarrowIdeal.τ).loc Cert.NarrowIdeal.main_v0_3) = v3 c
          ∧ r.2.mem ((c.tc : Thread Cert.NarrowIdeal.nD Cert.NarrowIdeal.τ).loc Cert.NarrowIdeal.main_v0_4) = v4 c
          ∧ r.2.mem ((c.tc : Thread Cert.NarrowIdeal.nD Cert.NarrowIdeal.τ).loc Cert.NarrowIdeal.main_v0_5) = v5 c
          ∧ r.2.mem ((c.tc : Thread Cert.NarrowIdeal.nD Cert.NarrowIdeal.τ).loc Cert.NarrowIdeal.main_v0_6) = v6 c
          ∧ r.2.mem ((c.tc : Thread Cert.NarrowIdeal.nD Cert.NarrowIdeal.τ).loc Cert.NarrowIdeal.main_arg0) = m ((c.tc : Thread Cert.NarrowIdeal.nD Cert.NarrowIdeal.τ).loc Cert.NarrowIdeal.main_arg0)
          ∧ r.2.mem ((c.tc : Thread Cert.NarrowIdeal.nD Cert.NarrowIdeal.τ).loc Cert.NarrowIdeal.main_arg1) = m ((c.tc : Thread Cert.NarrowIdeal.nD Cert.NarrowIdeal.τ).loc Cert.NarrowIdeal.main_arg1)
          ∧ r.2.mem ((c.tc : Thread Cert.NarrowIdeal.nD Cert.NarrowIdeal.τ).loc Cert.NarrowIdeal.main_arg2) = m ((c.tc : Thread Cert.NarrowIdeal.nD Cert.NarrowIdeal.τ).loc Cert.NarrowIdeal.main_arg2)
          ∧ r.2.mem ((c.tc : Thread Cert.NarrowIdeal.nD Cert.NarrowIdeal.τ).loc Cert.NarrowIdeal.main_arg3) = m ((c.tc : Thread Cert.NarrowIdeal.nD Cert.NarrowIdeal.τ).loc Cert.NarrowIdeal.main_arg3)
          ∧ r.2.mem ((c.tc : Thread Cert.NarrowIdeal.nD Cert.NarrowIdeal.τ).loc Cert.NarrowIdeal.main_arg4) = m ((c.tc : Thread Cert.NarrowIdeal.nD Cert.NarrowIdeal.τ).loc Cert.NarrowIdeal.main_arg4)
          ∧ r.2.mem ((c.tc : Thread Cert.NarrowIdeal.nD Cert.NarrowIdeal.τ).loc Cert.NarrowIdeal.main_arg5) = m ((c.tc : Thread Cert.NarrowIdeal.nD Cert.NarrowIdeal.τ).loc Cert.NarrowIdeal.main_arg5)
          ∧ r.2.mem ((c.tc : Thread Cert.NarrowIdeal.nD Cert.NarrowIdeal.τ).loc Cert.NarrowIdeal.main_arg6) = m ((c.tc : Thread Cert.NarrowIdeal.nD Cert.NarrowIdeal.τ).loc Cert.NarrowIdeal.main_arg6)
          ∧ r.2.mem ((c.tc : Thread Cert.NarrowIdeal.nD Cert.NarrowIdeal.τ).loc Cert.NarrowIdeal.main_arg7) = m ((c.tc : Thread Cert.NarrowIdeal.nD Cert.NarrowIdeal.τ).loc Cert.NarrowIdeal.main_arg7))
      ∧ θ_run (Cert.NarrowRefIdeal.defs (F := Ideal)) (onTc (τ := Cert.NarrowRefIdeal.τ) (Cert.NarrowRefIdeal.main (F := Ideal))) ⟨m', fun _ => 0, g'⟩ (fun r => ∀ c : Dev Cert.NarrowRefIdeal.nD,
          r.2.mem ((c.tc : Thread Cert.NarrowRefIdeal.nD Cert.NarrowRefIdeal.τ).loc Cert.NarrowRefIdeal.main_v2) = v0 c
          ∧ r.2.mem ((c.tc : Thread Cert.NarrowRefIdeal.nD Cert.NarrowRefIdeal.τ).loc Cert.NarrowRefIdeal.main_v4) = v1 c
          ∧ r.2.mem ((c.tc : Thread Cert.NarrowRefIdeal.nD Cert.NarrowRefIdeal.τ).loc Cert.NarrowRefIdeal.main_v6) = v2 c
          ∧ r.2.mem ((c.tc : Thread Cert.NarrowRefIdeal.nD Cert.NarrowRefIdeal.τ).loc Cert.NarrowRefIdeal.main_v9) = v3 c
          ∧ r.2.mem ((c.tc : Thread Cert.NarrowRefIdeal.nD Cert.NarrowRefIdeal.τ).loc Cert.NarrowRefIdeal.main_v11) = v4 c
          ∧ r.2.mem ((c.tc : Thread Cert.NarrowRefIdeal.nD Cert.NarrowRefIdeal.τ).loc Cert.NarrowRefIdeal.main_v14) = v5 c
          ∧ r.2.mem ((c.tc : Thread Cert.NarrowRefIdeal.nD Cert.NarrowRefIdeal.τ).loc Cert.NarrowRefIdeal.main_v16) = v6 c
          ∧ r.2.mem ((c.tc : Thread Cert.NarrowRefIdeal.nD Cert.NarrowRefIdeal.τ).loc Cert.NarrowRefIdeal.main_arg0) = m' ((c.tc : Thread Cert.NarrowRefIdeal.nD Cert.NarrowRefIdeal.τ).loc Cert.NarrowRefIdeal.main_arg0)
          ∧ r.2.mem ((c.tc : Thread Cert.NarrowRefIdeal.nD Cert.NarrowRefIdeal.τ).loc Cert.NarrowRefIdeal.main_arg1) = m' ((c.tc : Thread Cert.NarrowRefIdeal.nD Cert.NarrowRefIdeal.τ).loc Cert.NarrowRefIdeal.main_arg1)
          ∧ r.2.mem ((c.tc : Thread Cert.NarrowRefIdeal.nD Cert.NarrowRefIdeal.τ).loc Cert.NarrowRefIdeal.main_arg2) = m' ((c.tc : Thread Cert.NarrowRefIdeal.nD Cert.NarrowRefIdeal.τ).loc Cert.NarrowRefIdeal.main_arg2)
          ∧ r.2.mem ((c.tc : Thread Cert.NarrowRefIdeal.nD Cert.NarrowRefIdeal.τ).loc Cert.NarrowRefIdeal.main_arg3) = m' ((c.tc : Thread Cert.NarrowRefIdeal.nD Cert.NarrowRefIdeal.τ).loc Cert.NarrowRefIdeal.main_arg3)
          ∧ r.2.mem ((c.tc : Thread Cert.NarrowRefIdeal.nD Cert.NarrowRefIdeal.τ).loc Cert.NarrowRefIdeal.main_arg4) = m' ((c.tc : Thread Cert.NarrowRefIdeal.nD Cert.NarrowRefIdeal.τ).loc Cert.NarrowRefIdeal.main_arg4)
          ∧ r.2.mem ((c.tc : Thread Cert.NarrowRefIdeal.nD Cert.NarrowRefIdeal.τ).loc Cert.NarrowRefIdeal.main_arg5) = m' ((c.tc : Thread Cert.NarrowRefIdeal.nD Cert.NarrowRefIdeal.τ).loc Cert.NarrowRefIdeal.main_arg5)
          ∧ r.2.mem ((c.tc : Thread Cert.NarrowRefIdeal.nD Cert.NarrowRefIdeal.τ).loc Cert.NarrowRefIdeal.main_arg6) = m' ((c.tc : Thread Cert.NarrowRefIdeal.nD Cert.NarrowRefIdeal.τ).loc Cert.NarrowRefIdeal.main_arg6)
          ∧ r.2.mem ((c.tc : Thread Cert.NarrowRefIdeal.nD Cert.NarrowRefIdeal.τ).loc Cert.NarrowRefIdeal.main_arg7) = m' ((c.tc : Thread Cert.NarrowRefIdeal.nD Cert.NarrowRefIdeal.τ).loc Cert.NarrowRefIdeal.main_arg7))

def preserves_Wada_WadaIdeal : Prop :=
  True

def algebraic_WadaIdeal_WadaRefIdeal [hWadaIdeal : Cert.WadaIdeal.Facts] [hWadaRefIdeal : Cert.WadaRefIdeal.Facts] : Prop :=
  ∀ (m : (ℓ : Loc Cert.WadaIdeal.nD Cert.WadaIdeal.τ Cert.WadaIdeal.sig) → Buf (Elt Ideal) ℓ) (g : Dev Cert.WadaIdeal.nD → PrngReg)
    (m' : (ℓ : Loc Cert.WadaRefIdeal.nD Cert.WadaRefIdeal.τ Cert.WadaRefIdeal.sig) → Buf (Elt Ideal) ℓ) (g' : Dev Cert.WadaRefIdeal.nD → PrngReg), Pre_WadaIdeal m →
    (∀ c : Dev Cert.WadaIdeal.nD,
      m' ((c.tc : Thread Cert.WadaRefIdeal.nD Cert.WadaRefIdeal.τ).loc Cert.WadaRefIdeal.main_arg0) = m ((c.tc : Thread Cert.WadaIdeal.nD Cert.WadaIdeal.τ).loc Cert.WadaIdeal.main_arg0)
      ∧ m' ((c.tc : Thread Cert.WadaRefIdeal.nD Cert.WadaRefIdeal.τ).loc Cert.WadaRefIdeal.main_arg1) = m ((c.tc : Thread Cert.WadaIdeal.nD Cert.WadaIdeal.τ).loc Cert.WadaIdeal.main_arg1)) →
    ∃ (v0 : (c : Dev Cert.WadaIdeal.nD) → Buf (Elt Ideal) ((c.tc : Thread Cert.WadaIdeal.nD Cert.WadaIdeal.τ).loc Cert.WadaIdeal.main_v0)),
      θ_run (Cert.WadaIdeal.defs (F := Ideal)) (onTc (τ := Cert.WadaIdeal.τ) (Cert.WadaIdeal.main (F := Ideal))) ⟨m, fun _ => 0, g⟩ (fun r => ∀ c : Dev Cert.WadaIdeal.nD,
          r.2.mem ((c.tc : Thread Cert.WadaIdeal.nD Cert.WadaIdeal.τ).loc Cert.WadaIdeal.main_v0) = v0 c
          ∧ r.2.mem ((c.tc : Thread Cert.WadaIdeal.nD Cert.WadaIdeal.τ).loc Cert.WadaIdeal.main_arg0) = m ((c.tc : Thread Cert.WadaIdeal.nD Cert.WadaIdeal.τ).loc Cert.WadaIdeal.main_arg0)
          ∧ r.2.mem ((c.tc : Thread Cert.WadaIdeal.nD Cert.WadaIdeal.τ).loc Cert.WadaIdeal.main_arg1) = m ((c.tc : Thread Cert.WadaIdeal.nD Cert.WadaIdeal.τ).loc Cert.WadaIdeal.main_arg1))
      ∧ θ_run (Cert.WadaRefIdeal.defs (F := Ideal)) (onTc (τ := Cert.WadaRefIdeal.τ) (Cert.WadaRefIdeal.main (F := Ideal))) ⟨m', fun _ => 0, g'⟩ (fun r => ∀ c : Dev Cert.WadaRefIdeal.nD,
          r.2.mem ((c.tc : Thread Cert.WadaRefIdeal.nD Cert.WadaRefIdeal.τ).loc Cert.WadaRefIdeal.main_v2) = v0 c
          ∧ r.2.mem ((c.tc : Thread Cert.WadaRefIdeal.nD Cert.WadaRefIdeal.τ).loc Cert.WadaRefIdeal.main_arg0) = m' ((c.tc : Thread Cert.WadaRefIdeal.nD Cert.WadaRefIdeal.τ).loc Cert.WadaRefIdeal.main_arg0)
          ∧ r.2.mem ((c.tc : Thread Cert.WadaRefIdeal.nD Cert.WadaRefIdeal.τ).loc Cert.WadaRefIdeal.main_arg1) = m' ((c.tc : Thread Cert.WadaRefIdeal.nD Cert.WadaRefIdeal.τ).loc Cert.WadaRefIdeal.main_arg1))

def Claim : Prop :=
  ∃ (hFgate : Cert.Fgate.Facts) (hFgateIdeal : Cert.FgateIdeal.Facts) (hFgateRefIdeal : Cert.FgateRefIdeal.Facts) (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hAfwd : Cert.Afwd.Facts) (hAfwdIdeal : Cert.AfwdIdeal.Facts) (hAfwdRefIdeal : Cert.AfwdRefIdeal.Facts) (hParts : Cert.Parts.Facts) (hPartsIdeal : Cert.PartsIdeal.Facts) (hPartsRefIdeal : Cert.PartsRefIdeal.Facts) (hUpdate : Cert.Update.Facts) (hUpdateIdeal : Cert.UpdateIdeal.Facts) (hUpdateRefIdeal : Cert.UpdateRefIdeal.Facts) (hWout : Cert.Wout.Facts) (hWoutIdeal : Cert.WoutIdeal.Facts) (hWoutRefIdeal : Cert.WoutRefIdeal.Facts) (hNarrow : Cert.Narrow.Facts) (hNarrowIdeal : Cert.NarrowIdeal.Facts) (hNarrowRefIdeal : Cert.NarrowRefIdeal.Facts) (hWada : Cert.Wada.Facts) (hWadaIdeal : Cert.WadaIdeal.Facts) (hWadaRefIdeal : Cert.WadaRefIdeal.Facts) (hPre_finite_arguments : Cert.Pre_finite_arguments.Facts) (hPre_finite_projection : Cert.Pre_finite_projection.Facts) (hPre_finite_mix : Cert.Pre_finite_mix.Facts) (hPre_finite_inputs : Cert.Pre_finite_inputs.Facts),
    quiescent_Fgate (hFgate := hFgate)
    ∧ quiescent_FgateIdeal (hFgateIdeal := hFgateIdeal)
    ∧ quiescent_FgateRefIdeal (hFgateRefIdeal := hFgateRefIdeal)
    ∧ quiescent_Attn (hAttn := hAttn)
    ∧ quiescent_AttnIdeal (hAttnIdeal := hAttnIdeal)
    ∧ quiescent_AttnIdeal_pre_finite_arguments (hAttnIdeal := hAttnIdeal) (hPre_finite_arguments := hPre_finite_arguments)
    ∧ quiescent_AttnRefIdeal (hAttnRefIdeal := hAttnRefIdeal)
    ∧ quiescent_AttnRefIdeal_pre_finite_arguments (hAttnRefIdeal := hAttnRefIdeal) (hPre_finite_arguments := hPre_finite_arguments)
    ∧ quiescent_Proj (hProj := hProj)
    ∧ quiescent_ProjIdeal (hProjIdeal := hProjIdeal)
    ∧ quiescent_ProjIdeal_pre_finite_projection (hProjIdeal := hProjIdeal) (hPre_finite_projection := hPre_finite_projection)
    ∧ quiescent_ProjRefIdeal (hProjRefIdeal := hProjRefIdeal)
    ∧ quiescent_ProjRefIdeal_pre_finite_projection (hProjRefIdeal := hProjRefIdeal) (hPre_finite_projection := hPre_finite_projection)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixRefIdeal (hMixRefIdeal := hMixRefIdeal)
    ∧ quiescent_MixRefIdeal_pre_finite_mix (hMixRefIdeal := hMixRefIdeal) (hPre_finite_mix := hPre_finite_mix)
    ∧ quiescent_Afwd (hAfwd := hAfwd)
    ∧ quiescent_AfwdIdeal (hAfwdIdeal := hAfwdIdeal)
    ∧ quiescent_AfwdIdeal_pre_finite_inputs (hAfwdIdeal := hAfwdIdeal) (hPre_finite_inputs := hPre_finite_inputs)
    ∧ quiescent_AfwdRefIdeal (hAfwdRefIdeal := hAfwdRefIdeal)
    ∧ quiescent_AfwdRefIdeal_pre_finite_inputs (hAfwdRefIdeal := hAfwdRefIdeal) (hPre_finite_inputs := hPre_finite_inputs)
    ∧ quiescent_Parts (hParts := hParts)
    ∧ quiescent_PartsIdeal (hPartsIdeal := hPartsIdeal)
    ∧ quiescent_PartsRefIdeal (hPartsRefIdeal := hPartsRefIdeal)
    ∧ quiescent_Update (hUpdate := hUpdate)
    ∧ quiescent_UpdateIdeal (hUpdateIdeal := hUpdateIdeal)
    ∧ quiescent_UpdateRefIdeal (hUpdateRefIdeal := hUpdateRefIdeal)
    ∧ quiescent_Wout (hWout := hWout)
    ∧ quiescent_WoutIdeal (hWoutIdeal := hWoutIdeal)
    ∧ quiescent_WoutRefIdeal (hWoutRefIdeal := hWoutRefIdeal)
    ∧ quiescent_Narrow (hNarrow := hNarrow)
    ∧ quiescent_NarrowIdeal (hNarrowIdeal := hNarrowIdeal)
    ∧ quiescent_NarrowRefIdeal (hNarrowRefIdeal := hNarrowRefIdeal)
    ∧ quiescent_Wada (hWada := hWada)
    ∧ quiescent_WadaIdeal (hWadaIdeal := hWadaIdeal)
    ∧ quiescent_WadaRefIdeal (hWadaRefIdeal := hWadaRefIdeal)
    ∧ preserves_Fgate_FgateIdeal
    ∧ algebraic_FgateIdeal_FgateRefIdeal (hFgateIdeal := hFgateIdeal) (hFgateRefIdeal := hFgateRefIdeal)
    ∧ preserves_Attn_AttnIdeal
    ∧ algebraic_AttnIdeal_AttnRefIdeal_pre_finite_arguments (hAttnIdeal := hAttnIdeal) (hAttnRefIdeal := hAttnRefIdeal) (hPre_finite_arguments := hPre_finite_arguments)
    ∧ preserves_Proj_ProjIdeal
    ∧ algebraic_ProjIdeal_ProjRefIdeal_pre_finite_projection (hProjIdeal := hProjIdeal) (hProjRefIdeal := hProjRefIdeal) (hPre_finite_projection := hPre_finite_projection)
    ∧ preserves_Mix_MixIdeal
    ∧ algebraic_MixIdeal_MixRefIdeal_pre_finite_mix (hMixIdeal := hMixIdeal) (hMixRefIdeal := hMixRefIdeal) (hPre_finite_mix := hPre_finite_mix)
    ∧ preserves_Afwd_AfwdIdeal
    ∧ algebraic_AfwdIdeal_AfwdRefIdeal_pre_finite_inputs (hAfwdIdeal := hAfwdIdeal) (hAfwdRefIdeal := hAfwdRefIdeal) (hPre_finite_inputs := hPre_finite_inputs)
    ∧ preserves_Parts_PartsIdeal
    ∧ algebraic_PartsIdeal_PartsRefIdeal (hPartsIdeal := hPartsIdeal) (hPartsRefIdeal := hPartsRefIdeal)
    ∧ preserves_Update_UpdateIdeal
    ∧ algebraic_UpdateIdeal_UpdateRefIdeal (hUpdateIdeal := hUpdateIdeal) (hUpdateRefIdeal := hUpdateRefIdeal)
    ∧ preserves_Wout_WoutIdeal
    ∧ algebraic_WoutIdeal_WoutRefIdeal (hWoutIdeal := hWoutIdeal) (hWoutRefIdeal := hWoutRefIdeal)
    ∧ preserves_Narrow_NarrowIdeal
    ∧ algebraic_NarrowIdeal_NarrowRefIdeal (hNarrowIdeal := hNarrowIdeal) (hNarrowRefIdeal := hNarrowRefIdeal)
    ∧ preserves_Wada_WadaIdeal
    ∧ algebraic_WadaIdeal_WadaRefIdeal (hWadaIdeal := hWadaIdeal) (hWadaRefIdeal := hWadaRefIdeal)
-- ==== Pre_finite_arguments.lean ====
abbrev S8192x512 : Shape := ⟨2, ![8192, 512]⟩
abbrev S8192x8 : Shape := ⟨2, ![8192, 8]⟩
abbrev S1x8 : Shape := ⟨2, ![1, 8]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8 : S_.BroadcastsInDim S8192x8 (![] : Fin 0 → Fin S8192x8.rank)
  reducesTo_S8192x8_S_d0_1 : S8192x8.ReducesTo [0, 1] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_arg4 : FVec F S1x8 .f32) (main_arg5 : FVec F S8192x512 .f32) (main_v13 : IVec S_ 1) (main_v16 : IVec S8192x8 1) : IVec S_ 1 :=
  let main_c_5 : IVec S_ 1 := constantI S_ 1 1#1
  let main_v17 : IVec S_ 1 := (fun x v => Host.reduce IntOp.andi x v reducesTo_S8192x8_S_d0_1 h_S_) main_v16 main_c_5
  let main_v18 : IVec S_ 1 := andi main_v13 main_v17
  let main_v19 : FVec F S1x8 .f32 := Host.absf main_arg4
  let main_cst_6 : FVec F S_ .f32 := constant S_ .f32 0x7F800000#32
  let main_v20 : FVec F S1x8 .f32 := broadcastInDim S1x8 ![] bcast_S_S1x8 main_cst_6
  let main_v21 : IVec S1x8 1 := cmpf .olt main_v19 main_v20
  let main_c_7 : IVec S_ 1 := constantI S_ 1 1#1
  let main_v22 : IVec S_ 1 := (fun x v => Host.reduce IntOp.andi x v reducesTo_S1x8_S_d0_1 h_S_) main_v21 main_c_7
  let main_v23 : IVec S_ 1 := andi main_v18 main_v22
  let main_v24 : FVec F S8192x512 .f32 := Host.absf main_arg5
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  main_v28

def fn {F : FTy → Type} [FloatOps F] (main_arg0 : FVec F S8192x512 .f32) (main_arg1 : FVec F S8192x512 .f32) (main_arg2 : FVec F S8192x512 .f32) (main_arg3 : FVec F S8192x8 .f32) (main_arg4 : FVec F S1x8 .f32) (main_arg5 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x8 .f32 := Host.absf main_arg3
  let main_cst_4 : FVec F S_ .f32 := constant S_ .f32 0x7F800000#32
  let main_v15 : FVec F S8192x8 .f32 := broadcastInDim S8192x8 ![] bcast_S_S8192x8 main_cst_4
  let main_v16 : IVec S8192x8 1 := cmpf .olt main_v14 main_v15
  fn_part1 (F := F) main_arg4 main_arg5 main_v13 main_v16
-- ==== Pre_finite_inputs.lean ====
abbrev S8192x512 : Shape := ⟨2, ![8192, 512]⟩
abbrev S8192x8 : Shape := ⟨2, ![8192, 8]⟩
abbrev S1x8 : Shape := ⟨2, ![1, 8]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8 : S_.BroadcastsInDim S8192x8 (![] : Fin 0 → Fin S8192x8.rank)
  reducesTo_S8192x8_S_d0_1 : S8192x8.ReducesTo [0, 1] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_arg4 : FVec F S1x8 .f32) (main_v13 : IVec S_ 1) (main_v16 : IVec S8192x8 1) : IVec S_ 1 :=
  let main_c_5 : IVec S_ 1 := constantI S_ 1 1#1
  let main_v17 : IVec S_ 1 := (fun x v => Host.reduce IntOp.andi x v reducesTo_S8192x8_S_d0_1 h_S_) main_v16 main_c_5
  let main_v18 : IVec S_ 1 := andi main_v13 main_v17
  let main_v19 : FVec F S1x8 .f32 := Host.absf main_arg4
  let main_cst_6 : FVec F S_ .f32 := constant S_ .f32 0x7F800000#32
  let main_v20 : FVec F S1x8 .f32 := broadcastInDim S1x8 ![] bcast_S_S1x8 main_cst_6
  let main_v21 : IVec S1x8 1 := cmpf .olt main_v19 main_v20
  let main_c_7 : IVec S_ 1 := constantI S_ 1 1#1
  let main_v22 : IVec S_ 1 := (fun x v => Host.reduce IntOp.andi x v reducesTo_S1x8_S_d0_1 h_S_) main_v21 main_c_7
  let main_v23 : IVec S_ 1 := andi main_v18 main_v22
  main_v23

def fn {F : FTy → Type} [FloatOps F] (main_arg0 : FVec F S8192x512 .f32) (main_arg1 : FVec F S8192x512 .f32) (main_arg2 : FVec F S8192x512 .f32) (main_arg3 : FVec F S8192x8 .f32) (main_arg4 : FVec F S1x8 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x8 .f32 := Host.absf main_arg3
  let main_cst_4 : FVec F S_ .f32 := constant S_ .f32 0x7F800000#32
  let main_v15 : FVec F S8192x8 .f32 := broadcastInDim S8192x8 ![] bcast_S_S8192x8 main_cst_4
  let main_v16 : IVec S8192x8 1 := cmpf .olt main_v14 main_v15
  fn_part1 (F := F) main_arg4 main_v13 main_v16
-- ==== Pre_finite_mix.lean ====
abbrev S8192x512 : Shape := ⟨2, ![8192, 512]⟩
abbrev S8192x1024 : Shape := ⟨2, ![8192, 1024]⟩
abbrev S1x1024 : Shape := ⟨2, ![1, 1024]⟩
abbrev S1x512 : Shape := ⟨2, ![1, 512]⟩
abbrev S1024 : Shape := ⟨1, ![1024]⟩
abbrev S512x512 : Shape := ⟨2, ![512, 512]⟩
abbrev S512x1024 : Shape := ⟨2, ![512, 1024]⟩
abbrev S1024x1024 : Shape := ⟨2, ![1024, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x512 : S_.BroadcastsInDim S1x512 (![] : Fin 0 → Fin S1x512.rank)
  reducesTo_S1x512_S_d0_1 : S1x512.ReducesTo [0, 1] S_
  bcast_S_S1024 : S_.BroadcastsInDim S1024 (![] : Fin 0 → Fin S1024.rank)
  reducesTo_S1024_S_d0 : S1024.ReducesTo [0] S_
  bcast_S_S512x512 : S_.BroadcastsInDim S512x512 (![] : Fin 0 → Fin S512x512.rank)
  reducesTo_S512x512_S_d0_1 : S512x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part4 {F : FTy → Type} [FloatOps F] (main_arg14 : FVec F S1024x1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  main_v73

def fn_part3 {F : FTy → Type} [FloatOps F] (main_arg11 : FVec F S512x512 .f32) (main_arg12 : FVec F S512x1024 .f32) (main_arg13 : FVec F S512x1024 .f32) (main_arg14 : FVec F S1024x1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512x1024 .f32 := Host.absf main_arg12
  let main_cst_22 : FVec F S_ .f32 := constant S_ .f32 0x7F800000#32
  let main_v60 : FVec F S512x1024 .f32 := broadcastInDim S512x1024 ![] bcast_S_S512x1024 main_cst_22
  let main_v61 : IVec S512x1024 1 := cmpf .olt main_v59 main_v60
  let main_c_23 : IVec S_ 1 := constantI S_ 1 1#1
  let main_v62 : IVec S_ 1 := (fun x v => Host.reduce IntOp.andi x v reducesTo_S512x1024_S_d0_1 h_S_) main_v61 main_c_23
  let main_v63 : IVec S_ 1 := andi main_v58 main_v62
  let main_v64 : FVec F S512x1024 .f32 := Host.absf main_arg13
  let main_cst_24 : FVec F S_ .f32 := constant S_ .f32 0x7F800000#32
  let main_v65 : FVec F S512x1024 .f32 := broadcastInDim S512x1024 ![] bcast_S_S512x1024 main_cst_24
  let main_v66 : IVec S512x1024 1 := cmpf .olt main_v64 main_v65
  let main_c_25 : IVec S_ 1 := constantI S_ 1 1#1
  let main_v67 : IVec S_ 1 := (fun x v => Host.reduce IntOp.andi x v reducesTo_S512x1024_S_d0_1 h_S_) main_v66 main_c_25
  fn_part4 (F := F) main_arg14 main_v63 main_v67

def fn_part2 {F : FTy → Type} [FloatOps F] (main_arg7 : FVec F S8192x1024 .f32) (main_arg8 : FVec F S1x1024 .f32) (main_arg9 : FVec F S1x512 .f32) (main_arg10 : FVec F S1024 .f32) (main_arg11 : FVec F S512x512 .f32) (main_arg12 : FVec F S512x1024 .f32) (main_arg13 : FVec F S512x1024 .f32) (main_arg14 : FVec F S1024x1024 .f32) (main_v33 : IVec S_ 1) : IVec S_ 1 :=
  let main_v34 : FVec F S8192x1024 .f32 := Host.absf main_arg7
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  let main_v39 : FVec F S1x1024 .f32 := Host.absf main_arg8
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  let main_v44 : FVec F S1x512 .f32 := Host.absf main_arg9
  let main_cst_16 : FVec F S_ .f32 := constant S_ .f32 0x7F800000#32
  let main_v45 : FVec F S1x512 .f32 := broadcastInDim S1x512 ![] bcast_S_S1x512 main_cst_16
  let main_v46 : IVec S1x512 1 := cmpf .olt main_v44 main_v45
  let main_c_17 : IVec S_ 1 := constantI S_ 1 1#1
  let main_v47 : IVec S_ 1 := (fun x v => Host.reduce IntOp.andi x v reducesTo_S1x512_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S8192x1024 .f32) (main_arg5 : FVec F S8192x1024 .f32) (main_arg6 : FVec F S8192x1024 .f32) (main_arg7 : FVec F S8192x1024 .f32) (main_arg8 : FVec F S1x1024 .f32) (main_arg9 : FVec F S1x512 .f32) (main_arg10 : FVec F S1024 .f32) (main_arg11 : FVec F S512x512 .f32) (main_arg12 : FVec F S512x1024 .f32) (main_arg13 : FVec F S512x1024 .f32) (main_arg14 : FVec F S1024x1024 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x512 .f32) (main_arg1 : FVec F S8192x512 .f32) (main_arg2 : FVec F S8192x512 .f32) (main_arg3 : FVec F S8192x512 .f32) (main_arg4 : FVec F S8192x1024 .f32) (main_arg5 : FVec F S8192x1024 .f32) (main_arg6 : FVec F S8192x1024 .f32) (main_arg7 : FVec F S8192x1024 .f32) (main_arg8 : FVec F S1x1024 .f32) (main_arg9 : FVec F S1x512 .f32) (main_arg10 : FVec F S1024 .f32) (main_arg11 : FVec F S512x512 .f32) (main_arg12 : FVec F S512x1024 .f32) (main_arg13 : FVec F S512x1024 .f32) (main_arg14 : FVec F S1024x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_arg5 main_arg6 main_arg7 main_arg8 main_arg9 main_arg10 main_arg11 main_arg12 main_arg13 main_arg14 main_v13 main_v16
-- ==== Pre_finite_projection.lean ====
abbrev S8192x1024 : Shape := ⟨2, ![8192, 1024]⟩
abbrev S1x1024 : Shape := ⟨2, ![1, 1024]⟩
abbrev S1024x5128 : Shape := ⟨2, ![1024, 5128]⟩
abbrev S8192x512 : Shape := ⟨2, ![8192, 512]⟩
abbrev S8192x8 : Shape := ⟨2, ![8192, 8]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5128 : S_.BroadcastsInDim S1024x5128 (![] : Fin 0 → Fin S1024x5128.rank)
  reducesTo_S1024x5128_S_d0_1 : S1024x5128.ReducesTo [0, 1] S_
  bcast_S_S8192x512 : S_.BroadcastsInDim S8192x512 (![] : Fin 0 → Fin S8192x512.rank)
  reducesTo_S8192x512_S_d0_1 : S8192x512.ReducesTo [0, 1] S_
  bcast_S_S8192x8 : S_.BroadcastsInDim S8192x8 (![] : Fin 0 → Fin S8192x8.rank)
  reducesTo_S8192x8_S_d0_1 : S8192x8.ReducesTo [0, 1] S_

variable [Facts]

def fn_part3 {F : FTy → Type} [FloatOps F] (main_arg13 : FVec F S8192x1024 .f32) (main_arg14 : FVec F S8192x1024 .f32) (main_v48 : IVec S_ 1) (main_v49 : FVec F S8192x512 .f32) (main_v50 : FVec F S8192x512 .f32) : IVec S_ 1 :=
  let main_v51 : IVec S8192x512 1 := cmpf .olt main_v49 main_v50
  let main_c_19 : IVec S_ 1 := constantI S_ 1 1#1
  let main_v52 : IVec S_ 1 := (fun x v => Host.reduce IntOp.andi x v reducesTo_S8192x512_S_d0_1 h_S_) main_v51 main_c_19
  let main_v53 : IVec S_ 1 := andi main_v48 main_v52
  let main_v54 : FVec F S8192x1024 .f32 := Host.absf main_arg13
  let main_cst_20 : FVec F S_ .f32 := constant S_ .f32 0x7F800000#32
  let main_v55 : FVec F S8192x1024 .f32 := broadcastInDim S8192x1024 ![] bcast_S_S8192x1024 main_cst_20
  let main_v56 : IVec S8192x1024 1 := cmpf .olt main_v54 main_v55
  let main_c_21 : IVec S_ 1 := constantI S_ 1 1#1
  let main_v57 : IVec S_ 1 := (fun x v => Host.reduce IntOp.andi x v reducesTo_S8192x1024_S_d0_1 h_S_) main_v56 main_c_21
  let main_v58 : IVec S_ 1 := andi main_v53 main_v57
  let main_v59 : FVec F S8192x1024 .f32 := Host.absf main_arg14
  let main_cst_22 : FVec F S_ .f32 := constant S_ .f32 0x7F800000#32
  let main_v60 : FVec F S8192x1024 .f32 := broadcastInDim S8192x1024 ![] bcast_S_S8192x1024 main_cst_22
  let main_v61 : IVec S8192x1024 1 := cmpf .olt main_v59 main_v60
  let main_c_23 : IVec S_ 1 := constantI S_ 1 1#1
  let main_v62 : IVec S_ 1 := (fun x v => Host.reduce IntOp.andi x v reducesTo_S8192x1024_S_d0_1 h_S_) main_v61 main_c_23
  let main_v63 : IVec S_ 1 := andi main_v58 main_v62
  main_v63

def fn_part2 {F : FTy → Type} [FloatOps F] (main_arg9 : FVec F S8192x8 .f32) (main_arg10 : FVec F S8192x512 .f32) (main_arg11 : FVec F S8192x512 .f32) (main_arg12 : FVec F S8192x512 .f32) (main_arg13 : FVec F S8192x1024 .f32) (main_arg14 : FVec F S8192x1024 .f32) (main_v33 : IVec S_ 1) : IVec S_ 1 :=
  let main_v34 : FVec F S8192x8 .f32 := Host.absf main_arg9
  let main_cst_12 : FVec F S_ .f32 := constant S_ .f32 0x7F800000#32
  let main_v35 : FVec F S8192x8 .f32 := broadcastInDim S8192x8 ![] bcast_S_S8192x8 main_cst_12
  let main_v36 : IVec S8192x8 1 := cmpf .olt main_v34 main_v35
  let main_c_13 : IVec S_ 1 := constantI S_ 1 1#1
  let main_v37 : IVec S_ 1 := (fun x v => Host.reduce IntOp.andi x v reducesTo_S8192x8_S_d0_1 h_S_) main_v36 main_c_13
  let main_v38 : IVec S_ 1 := andi main_v33 main_v37
  let main_v39 : FVec F S8192x512 .f32 := Host.absf main_arg10
  let main_cst_14 : FVec F S_ .f32 := constant S_ .f32 0x7F800000#32
  let main_v40 : FVec F S8192x512 .f32 := broadcastInDim S8192x512 ![] bcast_S_S8192x512 main_cst_14
  let main_v41 : IVec S8192x512 1 := cmpf .olt main_v39 main_v40
  let main_c_15 : IVec S_ 1 := constantI S_ 1 1#1
  let main_v42 : IVec S_ 1 := (fun x v => Host.reduce IntOp.andi x v reducesTo_S8192x512_S_d0_1 h_S_) main_v41 main_c_15
  let main_v43 : IVec S_ 1 := andi main_v38 main_v42
  let main_v44 : FVec F S8192x512 .f32 := Host.absf main_arg11
  let main_cst_16 : FVec F S_ .f32 := constant S_ .f32 0x7F800000#32
  let main_v45 : FVec F S8192x512 .f32 := broadcastInDim S8192x512 ![] bcast_S_S8192x512 main_cst_16
  let main_v46 : IVec S8192x512 1 := cmpf .olt main_v44 main_v45
  let main_c_17 : IVec S_ 1 := constantI S_ 1 1#1
  let main_v47 : IVec S_ 1 := (fun x v => Host.reduce IntOp.andi x v reducesTo_S8192x512_S_d0_1 h_S_) main_v46 main_c_17
  let main_v48 : IVec S_ 1 := andi main_v43 main_v47
  let main_v49 : FVec F S8192x512 .f32 := Host.absf main_arg12
  let main_cst_18 : FVec F S_ .f32 := constant S_ .f32 0x7F800000#32
  let main_v50 : FVec F S8192x512 .f32 := broadcastInDim S8192x512 ![] bcast_S_S8192x512 main_cst_18
  fn_part3 (F := F) main_arg13 main_arg14 main_v48 main_v49 main_v50

def fn_part1 {F : FTy → Type} [FloatOps F] (main_arg6 : FVec F S8192x512 .f32) (main_arg7 : FVec F S8192x512 .f32) (main_arg8 : FVec F S8192x512 .f32) (main_arg9 : FVec F S8192x8 .f32) (main_arg10 : FVec F S8192x512 .f32) (main_arg11 : FVec F S8192x512 .f32) (main_arg12 : FVec F S8192x512 .f32) (main_arg13 : FVec F S8192x1024 .f32) (main_arg14 : FVec F S8192x1024 .f32) (main_v13 : IVec S_ 1) (main_v16 : IVec S1024x5128 1) : IVec S_ 1 :=
  let main_c_5 : IVec S_ 1 := constantI S_ 1 1#1
  let main_v17 : IVec S_ 1 := (fun x v => Host.reduce IntOp.andi x v reducesTo_S1024x5128_S_d0_1 h_S_) main_v16 main_c_5
  let main_v18 : IVec S_ 1 := andi main_v13 main_v17
  let main_v19 : FVec F S8192x512 .f32 := Host.absf main_arg6
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  let main_v24 : FVec F S8192x512 .f32 := Host.absf main_arg7
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  let main_v29 : FVec F S8192x512 .f32 := Host.absf main_arg8
  let main_cst_10 : FVec F S_ .f32 := constant S_ .f32 0x7F800000#32
  let main_v30 : FVec F S8192x512 .f32 := broadcastInDim S8192x512 ![] bcast_S_S8192x512 main_cst_10
  let main_v31 : IVec S8192x512 1 := cmpf .olt main_v29 main_v30
  let main_c_11 : IVec S_ 1 := constantI S_ 1 1#1
  let main_v32 : IVec S_ 1 := (fun x v => Host.reduce IntOp.andi x v reducesTo_S8192x512_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S8192x1024 .f32) (main_arg1 : FVec F S1x1024 .f32) (main_arg2 : FVec F S1x1024 .f32) (main_arg3 : FVec F S1x1024 .f32) (main_arg4 : FVec F S1024x5128 .f32) (main_arg5 : FVec F S8192x1024 .f32) (main_arg6 : FVec F S8192x512 .f32) (main_arg7 : FVec F S8192x512 .f32) (main_arg8 : FVec F S8192x512 .f32) (main_arg9 : FVec F S8192x8 .f32) (main_arg10 : FVec F S8192x512 .f32) (main_arg11 : FVec F S8192x512 .f32) (main_arg12 : FVec F S8192x512 .f32) (main_arg13 : FVec F S8192x1024 .f32) (main_arg14 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x5128 .f32 := Host.absf main_arg4
  let main_cst_4 : FVec F S_ .f32 := constant S_ .f32 0x7F800000#32
  let main_v15 : FVec F S1024x5128 .f32 := broadcastInDim S1024x5128 ![] bcast_S_S1024x5128 main_cst_4
  let main_v16 : IVec S1024x5128 1 := cmpf .olt main_v14 main_v15
  fn_part1 (F := F) main_arg6 main_arg7 main_arg8 main_arg9 main_arg10 main_arg11 main_arg12 main_arg13 main_arg14 main_v13 main_v16
-- ==== Fgate.lean ====
abbrev S8192x8 : Shape := ⟨2, ![8192, 8]⟩
abbrev S1x8 : Shape := ⟨2, ![1, 8]⟩
abbrev S512x8 : Shape := ⟨2, ![512, 8]⟩
abbrev S512x512 : Shape := ⟨2, ![512, 512]⟩
abbrev S8 : Shape := ⟨1, ![8]⟩

abbrev nBuf : Space → Nat
  | .hbm => 5
  | .vmem => 9
  | .smem => 0
  | _ => 0

abbrev bufTy : (tb : Table) → Fin (tcTables nBuf tb) → BufTy
  | .hbm, ⟨0, _⟩ => ⟨S8192x8, .f32⟩
  | .hbm, ⟨1, _⟩ => ⟨S8192x8, .f32⟩
  | .hbm, ⟨2, _⟩ => ⟨S1x8, .f32⟩
  | .hbm, ⟨3, _⟩ => ⟨S8192x8, .f32⟩
  | .hbm, ⟨4, _⟩ => ⟨S1x8, .f32⟩
  | .local _ .vmem, ⟨0, _⟩ => ⟨S512x8, .f32⟩
  | .local _ .vmem, ⟨1, _⟩ => ⟨S512x8, .f32⟩
  | .local _ .vmem, ⟨2, _⟩ => ⟨S512x8, .f32⟩
  | .local _ .vmem, ⟨3, _⟩ => ⟨S512x8, .f32⟩
  | .local _ .vmem, ⟨4, _⟩ => ⟨S1x8, .f32⟩
  | .local _ .vmem, ⟨5, _⟩ => ⟨S512x8, .f32⟩
  | .local _ .vmem, ⟨6, _⟩ => ⟨S512x8, .f32⟩
  | .local _ .vmem, ⟨7, _⟩ => ⟨S1x8, .f32⟩
  | .local _ .vmem, ⟨8, _⟩ => ⟨S1x8, .f32⟩
  | _, _ => ⟨S8192x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== FgateRefIdeal.lean ====
abbrev S8192x8 : Shape := ⟨2, ![8192, 8]⟩
abbrev S1x8 : Shape := ⟨2, ![1, 8]⟩
abbrev S_ : Shape := ⟨0, ![]⟩
abbrev S8 : Shape := ⟨1, ![8]⟩

abbrev nBuf : Space → Nat
  | .hbm => 65
  | .vmem => 0
  | .smem => 0
  | _ => 0

abbrev bufTy : (tb : Table) → Fin (tcTables nBuf tb) → BufTy
  | .hbm, ⟨0, _⟩ => ⟨S8192x8, .f32⟩
  | .hbm, ⟨1, _⟩ => ⟨S8192x8, .f32⟩
  | .hbm, ⟨2, _⟩ => ⟨S1x8, .f32⟩
  | .hbm, ⟨3, _⟩ => ⟨S8192x8, .f32⟩
  | .hbm, ⟨4, _⟩ => ⟨S8192x8, .f32⟩
  | .hbm, ⟨5, _⟩ => ⟨S8192x8, .f32⟩
  | .hbm, ⟨6, _⟩ => ⟨S_, .f32⟩
  | .hbm, ⟨7, _⟩ => ⟨S8192x8, .f32⟩
  | .hbm, ⟨8, _⟩ => ⟨S8192x8, .f32⟩
  | .hbm, ⟨9, _⟩ => ⟨S8192x8, .f32⟩
  | .hbm, ⟨10, _⟩ => ⟨S8192x8, .f32⟩
  | .hbm, ⟨11, _⟩ => ⟨S8192x8, .i1⟩
  | .hbm, ⟨12, _⟩ => ⟨S8192x8, .f32⟩
  | .hbm, ⟨13, _⟩ => ⟨S8192x8, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S_, .f32⟩
  | .hbm, ⟨21, _⟩ => ⟨S8192x8, .f32⟩
  | .hbm, ⟨22, _⟩ => ⟨S8192x8, .i1⟩
  | .hbm, ⟨23, _⟩ => ⟨S_, .f32⟩
  | .hbm, ⟨24, _⟩ => ⟨S8192x8, .f32⟩
  | .hbm, ⟨25, _⟩ => ⟨S8192x8, .f32⟩
  | .hbm, ⟨26, _⟩ => ⟨S_, .f32⟩
  | .hbm, ⟨27, _⟩ => ⟨S8192x8, .f32⟩
  | .hbm, ⟨28, _⟩ => ⟨S8192x8, .i1⟩
  | .hbm, ⟨29, _⟩ => ⟨S_, .f32⟩
  | .hbm, ⟨30, _⟩ => ⟨S8192x8, .f32⟩
  | .hbm, ⟨31, _⟩ => ⟨S8192x8, .f32⟩
  | .hbm, ⟨32, _⟩ => ⟨S8192x8, .f32⟩
  | .hbm, ⟨33, _⟩ => ⟨S8192x8, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192x8, .f32⟩
  | .hbm, ⟨42, _⟩ => ⟨S8192x8, .i1⟩
  | .hbm, ⟨43, _⟩ => ⟨S_, .f32⟩
  | .hbm, ⟨44, _⟩ => ⟨S8192x8, .f32⟩
  | .hbm, ⟨45, _⟩ => ⟨S8192x8, .f32⟩
  | .hbm, ⟨46, _⟩ => ⟨S8192x8, .f32⟩
  | .hbm, ⟨47, _⟩ => ⟨S8192x8, .f32⟩
  | .hbm, ⟨48, _⟩ => ⟨S8192x8, .f32⟩
  | .hbm, ⟨49, _⟩ => ⟨S_, .f32⟩
  | .hbm, ⟨50, _⟩ => ⟨S8192x8, .f32⟩
  | .hbm, ⟨51, _⟩ => ⟨S8192x8, .f32⟩
  | .hbm, ⟨52, _⟩ => ⟨S8192x8, .f32⟩
  | .hbm, ⟨53, _⟩ => ⟨S_, .f32⟩
  | .hbm, ⟨54, _⟩ => ⟨S_, .f32⟩
  | .hbm, ⟨55, _⟩ => ⟨S8192x8, .f32⟩
  | .hbm, ⟨56, _⟩ => ⟨S_, .f32⟩
  | .hbm, ⟨57, _⟩ => ⟨S_, .f32⟩
  | .hbm, ⟨58, _⟩ => ⟨S8192x8, .f32⟩
  | .hbm, ⟨59, _⟩ => ⟨S8192x8, .f32⟩
  | .hbm, ⟨60, _⟩ => ⟨S8192x8, .f32⟩
  | .hbm, ⟨61, _⟩ => ⟨S8192x8, .f32⟩
  | .hbm, ⟨62, _⟩ => ⟨S_, .f32⟩
  | .hbm, ⟨63, _⟩ => ⟨S8, .f32⟩
  | .hbm, ⟨64, _⟩ => ⟨S1x8, .f32⟩
  | _, _ => ⟨S8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1_0 : Ref sig .tc := ⟨.hbm, 19, rfl⟩
abbrev main_call0_call0_cst_0 : Ref sig .tc := ⟨.hbm, 20, rfl⟩
abbrev main_call0_call0_v13 : Ref sig .tc := ⟨.hbm, 21, rfl⟩
abbrev main_call0_call0_v14 : Ref sig .tc := ⟨.hbm, 22, rfl⟩
abbrev main_call0_call0_cst_1 : Ref sig .tc := ⟨.hbm, 23, rfl⟩
abbrev main_call0_call0_v15 : Ref sig .tc := ⟨.hbm, 24, rfl⟩
abbrev main_call0_call0_v16 : Ref sig .tc := ⟨.hbm, 25, rfl⟩
abbrev main_call0_call0_cst_2 : Ref sig .tc := ⟨.hbm, 26, rfl⟩
abbrev main_call0_call0_v17 : Ref sig .tc := ⟨.hbm, 27, rfl⟩
abbrev main_call0_call0_v18 : Ref sig .tc := ⟨.hbm, 28, rfl⟩
abbrev main_call0_call0_cst_3 : Ref sig .tc := ⟨.hbm, 29, rfl⟩
abbrev main_call0_call0_v19 : Ref sig .tc := ⟨.hbm, 30, rfl⟩
abbrev main_call0_call0_v20 : Ref sig .tc := ⟨.hbm, 31, rfl⟩
abbrev main_call0_call0_v21 : Ref sig .tc := ⟨.hbm, 32, rfl⟩
abbrev main_v2_1 : Ref sig .tc := ⟨.hbm, 33, rfl⟩
abbrev main_call0_call0_cst_4 : Ref sig .tc := ⟨.hbm, 34, rfl⟩
abbrev main_call0_call0_cst_5 : Ref sig .tc := ⟨.hbm, 35, rfl⟩
abbrev main_call0_call0_v23 : Ref sig .tc := ⟨.hbm, 36, rfl⟩
abbrev main_call0_call0_cst_6 : Ref sig .tc := ⟨.hbm, 37, rfl⟩
abbrev main_call0_call0_cst_7 : Ref sig .tc := ⟨.hbm, 38, rfl⟩
abbrev main_call0_call0_v24 : Ref sig .tc := ⟨.hbm, 39, rfl⟩
abbrev main_call0_call0_cst_8 : Ref sig .tc := ⟨.hbm, 40, rfl⟩
abbrev main_call0_call0_v25 : Ref sig .tc := ⟨.hbm, 41, rfl⟩
abbrev main_call0_call0_v26 : Ref sig .tc := ⟨.hbm, 42, rfl⟩
abbrev main_call0_call0_cst_9 : Ref sig .tc := ⟨.hbm, 43, rfl⟩
abbrev main_call0_call0_v27 : Ref sig .tc := ⟨.hbm, 44, rfl⟩
abbrev main_call0_call0_v28 : Ref sig .tc := ⟨.hbm, 45, rfl⟩
abbrev main_call0_call0_v29 : Ref sig .tc := ⟨.hbm, 46, rfl⟩
abbrev main_call0_call0_v30 : Ref sig .tc := ⟨.hbm, 47, rfl⟩
abbrev main_call0_call0_v31 : Ref sig .tc := ⟨.hbm, 48, rfl⟩
abbrev main_call0_call0_cst_10 : Ref sig .tc := ⟨.hbm, 49, rfl⟩
abbrev main_call0_call0_v32 : Ref sig .tc := ⟨.hbm, 50, rfl⟩
abbrev main_v2_2 : Ref sig .tc := ⟨.hbm, 51, rfl⟩
abbrev main_v2_0 : Ref sig .tc := ⟨.hbm, 52, rfl⟩
abbrev main_call1_call0_cst : Ref sig .tc := ⟨.hbm, 53, rfl⟩
abbrev main_call1_call0_v0 : Ref sig .tc := ⟨.hbm, 54, rfl⟩
abbrev main_v3 : Ref sig .tc := ⟨.hbm, 55, rfl⟩
abbrev main_call2_call0_cst : Ref sig .tc := ⟨.hbm, 56, rfl⟩
abbrev main_call2_call0_v0 : Ref sig .tc := ⟨.hbm, 57, rfl⟩
abbrev main_v4 : Ref sig .tc := ⟨.hbm, 58, rfl⟩
abbrev main_call3_v0 : Ref sig .tc := ⟨.hbm, 59, rfl⟩
abbrev main_call3_v1 : Ref sig .tc := ⟨.hbm, 60, rfl⟩
abbrev main_v5 : Ref sig .tc := ⟨.hbm, 61, rfl⟩
abbrev main_cst : Ref sig .tc := ⟨.hbm, 62, rfl⟩
abbrev main_v6 : Ref sig .tc := ⟨.hbm, 63, rfl⟩
abbrev main_v7 : Ref sig .tc := ⟨.hbm, 64, rfl⟩

abbrev nD : Nat := 1
abbrev τ : Topo := Topo.v7x

variable {F : FTy → Type} [FloatOps F]
-- ==== Attn.lean ====
abbrev S8192x512 : Shape := ⟨2, ![8192, 512]⟩
abbrev S8192x8 : Shape := ⟨2, ![8192, 8]⟩
abbrev S1x8 : Shape := ⟨2, ![1, 8]⟩
abbrev S_ : Shape := ⟨0, ![]⟩
abbrev S4x2x8192x128 : Shape := ⟨4, ![4, 2, 8192, 128]⟩
abbrev S8x8192 : Shape := ⟨2, ![8, 8192]⟩
abbrev S4x2x8192x1 : Shape := ⟨4, ![4, 2, 8192, 1]⟩
abbrev S8192x4x1x128 : Shape := ⟨4, ![8192, 4, 1, 128]⟩
abbrev S4x1x8192x128 : Shape := ⟨4, ![4, 1, 8192, 128]⟩
abbrev S8x8192x128 : Shape := ⟨3, ![8, 8192, 128]⟩
abbrev S8x8192x8192 : Shape := ⟨3, ![8, 8192, 8192]⟩
abbrev S8x1x8192 : Shape := ⟨3, ![8, 1, 8192]⟩
abbrev S8192x8x64 : Shape := ⟨3, ![8192, 8, 64]⟩
abbrev S8x64x8192 : Shape := ⟨3, ![8, 64, 8192]⟩
abbrev S512x8192 : Shape := ⟨2, ![512, 8192]⟩
abbrev S4x2x16x512 : Shape := ⟨4, ![4, 2, 16, 512]⟩
abbrev S4x16x2x512 : Shape := ⟨4, ![4, 16, 2, 512]⟩
abbrev S4x8192x2 : Shape := ⟨3, ![4, 8192, 2]⟩
abbrev S2x8192x128 : Shape := ⟨3, ![2, 8192, 128]⟩
abbrev S8192x128 : Shape := ⟨2, ![8192, 128]⟩
abbrev S2x512x128 : Shape := ⟨3, ![2, 512, 128]⟩
abbrev S512x128 : Shape := ⟨2, ![512, 128]⟩
abbrev S1x16x2x512 : Shape := ⟨4, ![1, 16, 2, 512]⟩
abbrev S1x512x2 : Shape := ⟨3, ![1, 512, 2]⟩
abbrev S2x512x1 : Shape := ⟨3, ![2, 512, 1]⟩
abbrev S16x2x512 : Shape := ⟨3, ![16, 2, 512]⟩
abbrev S1x512x128 : Shape := ⟨3, ![1, 512, 128]⟩
abbrev S1x1x2x512 : Shape := ⟨4, ![1, 1, 2, 512]⟩
abbrev S2x512 : Shape := ⟨2, ![2, 512]⟩
abbrev S512x512 : Shape := ⟨2, ![512, 512]⟩
abbrev S1x512 : Shape := ⟨2, ![1, 512]⟩
abbrev S1x512x1 : Shape := ⟨3, ![1, 512, 1]⟩
abbrev S512x1 : Shape := ⟨2, ![512, 1]⟩
abbrev S512 : Shape := ⟨1, ![512]⟩
abbrev S512x2 : Shape := ⟨2, ![512, 2]⟩

abbrev nBuf : Space → Nat
  | .hbm => 169
  | .vmem => 27
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x8, .f32⟩
  | 4 => ⟨S1x8, .f32⟩
  | 5 => ⟨S8192x512, .f32⟩
  | 6 => ⟨S_, .f32⟩
  | 7 => ⟨S8192x512, .f32⟩
  | 8 => ⟨S8192x512, .f32⟩
  | 9 => ⟨S8192x512, .bf16⟩
  | 10 => ⟨S8192x512, .bf16⟩
  | 11 => ⟨S8192x512, .bf16⟩
  | 12 => ⟨S8192x8, .f32⟩
  | 13 => ⟨S8192x8, .f32⟩
  | 14 => ⟨S_, .f32⟩
  | 15 => ⟨S8192x8, .f32⟩
  | 16 => ⟨S8192x8, .f32⟩
  | 17 => ⟨S8192x8, .f32⟩
  | 18 => ⟨S8192x8, .f32⟩
  | 19 => ⟨S8192x8, .f32⟩
  | 20 => ⟨S_, .f32⟩
  | 21 => ⟨S8192x8, .f32⟩
  | 22 => ⟨S8192x8, .f32⟩
  | 23 => ⟨S8192x8, .f32⟩
  | 24 => ⟨S8192x8, .f32⟩
  | 25 => ⟨S_, .f32⟩
  | 26 => ⟨S_, .f32⟩
  | 27 => ⟨S8192x8, .f32⟩
  | 28 => ⟨S4x2x8192x128, .i32⟩
  | 29 => ⟨S4x2x8192x128, .i32⟩
  | 30 => ⟨S_, .i32⟩
  | 31 => ⟨S4x2x8192x128, .i32⟩
  | 32 => ⟨S4x2x8192x128, .i1⟩
  | 33 => ⟨S_, .i32⟩
  | 34 => ⟨S4x2x8192x128, .i32⟩
  | 35 => ⟨S4x2x8192x128, .i1⟩
  | 36 => ⟨S_, .i32⟩
  | 37 => ⟨S4x2x8192x128, .i32⟩
  | 38 => ⟨S4x2x8192x128, .i1⟩
  | 39 => ⟨S4x2x8192x128, .i1⟩
  | 40 => ⟨S_, .i32⟩
  | 41 => ⟨S_, .i32⟩
  | 42 => ⟨S4x2x8192x128, .i32⟩
  | 43 => ⟨S4x2x8192x128, .i32⟩
  | 44 => ⟨S4x2x8192x128, .i32⟩
  | 45 => ⟨S4x2x8192x128, .i32⟩
  | 46 => ⟨S4x2x8192x128, .i32⟩
  | 47 => ⟨S8x8192, .f32⟩
  | 48 => ⟨S4x2x8192x1, .f32⟩
  | 49 => ⟨S_, .bf16⟩
  | 50 => ⟨S4x2x8192x128, .bf16⟩
  | 51 => ⟨S_, .bf16⟩
  | 52 => ⟨S4x2x8192x128, .bf16⟩
  | 53 => ⟨S4x2x8192x1, .bf16⟩
  | 54 => ⟨S4x2x8192x1, .f32⟩
  | 55 => ⟨S4x2x8192x1, .f32⟩
  | 56 => ⟨S_, .i32⟩
  | 57 => ⟨S4x2x8192x128, .i32⟩
  | 58 => ⟨S4x2x8192x128, .i1⟩
  | 59 => ⟨S4x2x8192x128, .bf16⟩
  | 60 => ⟨S4x2x8192x128, .bf16⟩
  | 61 => ⟨S_, .i32⟩
  | 62 => ⟨S4x2x8192x128, .i32⟩
  | 63 => ⟨S4x2x8192x128, .i1⟩
  | 64 => ⟨S4x2x8192x128, .bf16⟩
  | 65 => ⟨S_, .i32⟩
  | 66 => ⟨S4x2x8192x128, .i32⟩
  | 67 => ⟨S4x2x8192x128, .i1⟩
  | 68 => ⟨S4x2x8192x128, .bf16⟩
  | 69 => ⟨S_, .i32⟩
  | 70 => ⟨S4x2x8192x128, .i32⟩
  | 71 => ⟨S4x2x8192x128, .i1⟩
  | 72 => ⟨S4x2x8192x1, .bf16⟩
  | 73 => ⟨S4x2x8192x128, .bf16⟩
  | 74 => ⟨S4x2x8192x128, .bf16⟩
  | 75 => ⟨S4x2x8192x1, .bf16⟩
  | 76 => ⟨S4x2x8192x1, .f32⟩
  | 77 => ⟨S4x2x8192x1, .f32⟩
  | 78 => ⟨S_, .i32⟩
  | 79 => ⟨S4x2x8192x128, .i32⟩
  | 80 => ⟨S4x2x8192x128, .i1⟩
  | 81 => ⟨S4x2x8192x128, .bf16⟩
  | 82 => ⟨S4x2x8192x128, .bf16⟩
  | 83 => ⟨S_, .i32⟩
  | 84 => ⟨S4x2x8192x128, .i32⟩
  | 85 => ⟨S4x2x8192x128, .i1⟩
  | 86 => ⟨S4x2x8192x128, .bf16⟩
  | 87 => ⟨S_, .i32⟩
  | 88 => ⟨S4x2x8192x128, .i32⟩
  | 89 => ⟨S4x2x8192x128, .i1⟩
  | 90 => ⟨S4x2x8192x128, .bf16⟩
  | 91 => ⟨S_, .i32⟩
  | 92 => ⟨S4x2x8192x128, .i32⟩
  | 93 => ⟨S4x2x8192x128, .i1⟩
  | 94 => ⟨S4x2x8192x1, .bf16⟩
  | 95 => ⟨S4x2x8192x128, .bf16⟩
  | 96 => ⟨S4x2x8192x128, .bf16⟩
  | 97 => ⟨S4x2x8192x1, .bf16⟩
  | 98 => ⟨S4x2x8192x1, .f32⟩
  | 99 => ⟨S4x2x8192x1, .f32⟩
  | 100 => ⟨S_, .i32⟩
  | 101 => ⟨S4x2x8192x128, .i32⟩
  | 102 => ⟨S4x2x8192x128, .i1⟩
  | 103 => ⟨S4x2x8192x128, .bf16⟩
  | 104 => ⟨S4x2x8192x128, .bf16⟩
  | 105 => ⟨S_, .i32⟩
  | 106 => ⟨S4x2x8192x128, .i32⟩
  | 107 => ⟨S4x2x8192x128, .i1⟩
  | 108 => ⟨S4x2x8192x128, .bf16⟩
  | 109 => ⟨S_, .i32⟩
  | 110 => ⟨S4x2x8192x128, .i32⟩
  | 111 => ⟨S4x2x8192x128, .i1⟩
  | 112 => ⟨S4x2x8192x128, .bf16⟩
  | 113 => ⟨S_, .i32⟩
  | 114 => ⟨S4x2x8192x128, .i32⟩
  | 115 => ⟨S4x2x8192x128, .i1⟩
  | 116 => ⟨S4x2x8192x1, .bf16⟩
  | 117 => ⟨S4x2x8192x128, .bf16⟩
  | 118 => ⟨S4x2x8192x128, .bf16⟩
  | 119 => ⟨S8192x4x1x128, .bf16⟩
  | 120 => ⟨S4x1x8192x128, .bf16⟩
  | 121 => ⟨S4x2x8192x128, .bf16⟩
  | 122 => ⟨S4x2x8192x128, .bf16⟩
  | 123 => ⟨S8x8192x128, .bf16⟩
  | 124 => ⟨S8192x4x1x128, .bf16⟩
  | 125 => ⟨S4x1x8192x128, .bf16⟩
  | 126 => ⟨S4x2x8192x128, .bf16⟩
  | 127 => ⟨S4x2x8192x128, .bf16⟩
  | _ => ⟨S8192x512, .f32⟩

abbrev hbmTy0_1 (i : Nat) : BufTy := match i % 128 with
  | 0 => ⟨S8x8192x128, .bf16⟩
  | 1 => ⟨S8x8192x8192, .f32⟩
  | 2 => ⟨S8x8192x8192, .i32⟩
  | 3 => ⟨S8x8192x8192, .i32⟩
  | 4 => ⟨S8x8192x8192, .i1⟩
  | 5 => ⟨S_, .f32⟩
  | 6 => ⟨S_, .f32⟩
  | 7 => ⟨S8x8192x8192, .f32⟩
  | 8 => ⟨S8x8192x8192, .f32⟩
  | 9 => ⟨S_, .f32⟩
  | 10 => ⟨S8x8192, .f32⟩
  | 11 => ⟨S8x1x8192, .f32⟩
  | 12 => ⟨S8x8192x8192, .f32⟩
  | 13 => ⟨S8x8192x8192, .f32⟩
  | 14 => ⟨S8x8192x8192, .f32⟩
  | 15 => ⟨S_, .f32⟩
  | 16 => ⟨S8x8192, .f32⟩
  | 17 => ⟨S8x1x8192, .f32⟩
  | 18 => ⟨S8192x8x64, .bf16⟩
  | 19 => ⟨S8x8192x8192, .bf16⟩
  | 20 => ⟨S8x64x8192, .f32⟩
  | 21 => ⟨S8x64x8192, .f32⟩
  | 22 => ⟨S8x64x8192, .f32⟩
  | 23 => ⟨S8x1x8192, .f32⟩
  | 24 => ⟨S8x1x8192, .f32⟩
  | 25 => ⟨S8x8192, .f32⟩
  | 26 => ⟨S512x8192, .f32⟩
  | 27 => ⟨S8x64x8192, .f32⟩
  | 28 => ⟨S8x64x8192, .f32⟩
  | 29 => ⟨S_, .f32⟩
  | 30 => ⟨S8x8192, .f32⟩
  | 31 => ⟨S8192x512, .bf16⟩
  | 32 => ⟨S4x2x16x512, .f32⟩
  | 33 => ⟨S4x16x2x512, .f32⟩
  | 34 => ⟨S4x2x16x512, .f32⟩
  | 35 => ⟨S4x16x2x512, .f32⟩
  | 36 => ⟨S8192x512, .f32⟩
  | 37 => ⟨S8192x512, .bf16⟩
  | 38 => ⟨S8192x512, .bf16⟩
  | 39 => ⟨S4x16x2x512, .f32⟩
  | 40 => ⟨S4x8192x2, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S2x8192x128, .bf16⟩
  | .local _ .vmem, ⟨1, _⟩ => ⟨S2x8192x128, .bf16⟩
  | .local _ .vmem, ⟨2, _⟩ => ⟨S8192x128, .bf16⟩
  | .local _ .vmem, ⟨3, _⟩ => ⟨S8192x128, .bf16⟩
  | .local _ .vmem, ⟨4, _⟩ => ⟨S2x512x128, .bf16⟩
  | .local _ .vmem, ⟨5, _⟩ => ⟨S2x512x128, .bf16⟩
  | .local _ .vmem, ⟨6, _⟩ => ⟨S512x128, .bf16⟩
  | .local _ .vmem, ⟨7, _⟩ => ⟨S512x128, .bf16⟩
  | .local _ .vmem, ⟨8, _⟩ => ⟨S1x16x2x512, .f32⟩
  | .local _ .vmem, ⟨9, _⟩ => ⟨S1x16x2x512, .f32⟩
  | .local _ .vmem, ⟨10, _⟩ => ⟨S1x16x2x512, .f32⟩
  | .local _ .vmem, ⟨11, _⟩ => ⟨S1x16x2x512, .f32⟩
  | .local _ .vmem, ⟨12, _⟩ => ⟨S8192x128, .f32⟩
  | .local _ .vmem, ⟨13, _⟩ => ⟨S8192x128, .f32⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S1x16x2x512, .f32⟩
  | .local _ .vmem, ⟨19, _⟩ => ⟨S1x16x2x512, .f32⟩
  | .local _ .vmem, ⟨20, _⟩ => ⟨S1x512x2, .f32⟩
  | .local _ .vmem, ⟨21, _⟩ => ⟨S1x512x2, .f32⟩
  | .local _ .vmem, ⟨22, _⟩ => ⟨S2x512x128, .bf16⟩
  | .local _ .vmem, ⟨23, _⟩ => ⟨S2x512x128, .bf16⟩
  | .local _ .vmem, ⟨24, _⟩ => ⟨S512x128, .f32⟩
  | .local _ .vmem, ⟨25, _⟩ => ⟨S512x128, .f32⟩
  | .local _ .vmem, ⟨26, _⟩ => ⟨S2x512x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_call0_cst : Ref sig .tc := ⟨.hbm, 25, rfl⟩
abbrev main_call0_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_c_5 : Ref sig .tc := ⟨.hbm, 41, rfl⟩
abbrev main_call2_v0 : Ref sig .tc := ⟨.hbm, 42, rfl⟩
abbrev main_call2_v1 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_call3_v0 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call6_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_12 : Ref sig .tc := ⟨.hbm, 78, rfl⟩
abbrev main_v52 : Ref sig .tc := ⟨.hbm, 79, rfl⟩
abbrev main_v53 : Ref sig .tc := ⟨.hbm, 80, rfl⟩
abbrev main_call7_v0 : Ref sig .tc := ⟨.hbm, 81, rfl⟩
abbrev main_v54 : Ref sig .tc := ⟨.hbm, 82, rfl⟩
abbrev main_c_13 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_14 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_15 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_call10_v0 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_call11_v0 : Ref sig .tc := ⟨.hbm, 103, rfl⟩
abbrev main_v70 : Ref sig .tc := ⟨.hbm, 104, rfl⟩
abbrev main_c_17 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_18 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_c_19 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_call14_v0 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_call15_v0 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_call16_v0 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_20 : Ref sig .tc := ⟨.hbm, 133, rfl⟩
abbrev main_call17_v0 : Ref sig .tc := ⟨.hbm, 134, rfl⟩
abbrev main_call17_v1 : Ref sig .tc := ⟨.hbm, 135, rfl⟩
abbrev main_v93 : Ref sig .tc := ⟨.hbm, 136, rfl⟩
abbrev main_cst_21 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_22 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_23 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118_0 : Ref sig .tc := ⟨.hbm, 164, rfl⟩
abbrev main_v118_1 : Ref sig .tc := ⟨.hbm, 165, rfl⟩
abbrev main_v118_2 : Ref sig .tc := ⟨.hbm, 166, rfl⟩
abbrev main_v118_3 : Ref sig .tc := ⟨.hbm, 167, rfl⟩
abbrev main_v118_4 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let arg1 : BitVec 32 := BitVec.ofNat 32 (i 1).val
  let c1_i32 : BitVec 32 := 1#32
  let v41 : BitVec 32 := Scalar.addi arg1 c1_i32
  let v42 : BitVec 32 := Scalar.subi v41 arg1
  let c1_i32_30 : BitVec 32 := 1#32
  let v44 : BitVec 32 := Scalar.divsi v42 c1_i32_30
  let v45 : BitVec 32 := Scalar.muli v44 c1_i32_30
  let v46 : BitVec 32 := Scalar.addi arg1 v45
  let c1_i32_31 : BitVec 32 := 1#32
  ⟨arg1, v46, c1_i32_31⟩
def k0_mult1 (i : grid0.Coords) (k0_t1 : Fin (k0_t1_loop i).trips) : BitVec 32 :=
  let arg1 : BitVec 32 := BitVec.ofNat 32 (i 1).val
  let c1_i32_31 : BitVec 32 := 1#32
  let arg18 : BitVec 32 := Scf.iv arg1 c1_i32_31 k0_t1
  let c512_i32 : BitVec 32 := 512#32
  let v77 : BitVec 32 := Scalar.muli arg18 c512_i32
  v77
def k0_off1 (i : grid0.Coords) (k0_t1 : Fin (k0_t1_loop i).trips) : Fin 2 → Nat :=
  let arg1 : BitVec 32 := BitVec.ofNat 32 (i 1).val
  let c1_i32_31 : BitVec 32 := 1#32
  let arg18 : BitVec 32 := Scf.iv arg1 c1_i32_31 k0_t1
  let c512_i32 : BitVec 32 := 512#32
  let v77 : BitVec 32 := Scalar.muli arg18 c512_i32
  let v78 : BitVec 32 := v77
  let v79 : Index := Scalar.indexCast v78
  let c0_57 : Index := 0#32
  ![v79.toNat, 0]
def k0_off2 (i : grid0.Coords) (k0_t1 : Fin (k0_t1_loop i).trips) : Fin 4 → Nat :=
  let c0_58 : Index := 0#32
  let arg1 : BitVec 32 := BitVec.ofNat 32 (i 1).val
  let c1_i32_31 : BitVec 32 := 1#32
  let arg18 : BitVec 32 := Scf.iv arg1 c1_i32_31 k0_t1
  let v82 : Index := Scalar.indexCast arg18
  let c0_59 : Index := 0#32
  let c0_60 : Index := 0#32
  ![0, v82.toNat, 0, 0]
def k0_off3 (i : grid0.Coords) (k0_t1 : Fin (k0_t1_loop i).trips) : Fin 3 → Nat :=
  let c0_65 : Index := 0#32
  let arg1 : BitVec 32 := BitVec.ofNat 32 (i 1).val
  let c1_i32_31 : BitVec 32 := 1#32
  let arg18 : BitVec 32 := Scf.iv arg1 c1_i32_31 k0_t1
  let c512_i32 : BitVec 32 := 512#32
  let v77 : BitVec 32 := Scalar.muli arg18 c512_i32
  let v78 : BitVec 32 := v77
  let v89 : Index := Scalar.indexCast v78
  let c0_66 : Index := 0#32
  ![0, v89.toNat, 0]
def k0_off4 (i : grid0.Coords) (k0_t1 : Fin (k0_t1_loop i).trips) : Fin 3 → Nat :=
  let c1_102 : Index := 1#32
  let arg1 : BitVec 32 := BitVec.ofNat 32 (i 1).val
  let c1_i32_31 : BitVec 32 := 1#32
  let arg18 : BitVec 32 := Scf.iv arg1 c1_i32_31 k0_t1
  let c512_i32 : BitVec 32 := 512#32
  let v77 : BitVec 32 := Scalar.muli arg18 c512_i32
  let v78 : BitVec 32 := v77
  let v149 : Index := Scalar.indexCast v78
  let c0_103 : Index := 0#32
  ![1, v149.toNat, 0]
@[reducible] def k0_t2_loop (i : grid0.Coords) : Scf.Loop 32 :=
  let arg1 : BitVec 32 := BitVec.ofNat 32 (i 1).val
  let c1_i32 : BitVec 32 := 1#32
  let v41 : BitVec 32 := Scalar.addi arg1 c1_i32
  let v42 : BitVec 32 := Scalar.subi v41 arg1
  let c1_i32_30 : BitVec 32 := 1#32
  let v44 : BitVec 32 := Scalar.divsi v42 c1_i32_30
  let v45 : BitVec 32 := Scalar.muli v44 c1_i32_30
  let v46 : BitVec 32 := Scalar.addi arg1 v45
  let v43 : BitVec 32 := Scalar.addi arg1 v42
  let c1_i32_32 : BitVec 32 := 1#32
  ⟨v46, v43, c1_i32_32⟩
def k0_mult2 (i : grid0.Coords) (k0_t2 : Fin (k0_t2_loop i).trips) : BitVec 32 :=
  let arg1 : BitVec 32 := BitVec.ofNat 32 (i 1).val
  let c1_i32 : BitVec 32 := 1#32
  let v41 : BitVec 32 := Scalar.addi arg1 c1_i32
  let v42 : BitVec 32 := Scalar.subi v41 arg1
  let c1_i32_30 : BitVec 32 := 1#32
  let v44 : BitVec 32 := Scalar.divsi v42 c1_i32_30
  let v45 : BitVec 32 := Scalar.muli v44 c1_i32_30
  let v46 : BitVec 32 := Scalar.addi arg1 v45
  let c1_i32_32 : BitVec 32 := 1#32
  let arg18 : BitVec 32 := Scf.iv v46 c1_i32_32 k0_t2
  let c512_i32 : BitVec 32 := 512#32
  let v77 : BitVec 32 := Scalar.muli arg18 c512_i32
  v77
def k0_off5 (i : grid0.Coords) (k0_t2 : Fin (k0_t2_loop i).trips) : Fin 2 → Nat :=
  let arg1 : BitVec 32 := BitVec.ofNat 32 (i 1).val
  let c1_i32 : BitVec 32 := 1#32
  let v41 : BitVec 32 := Scalar.addi arg1 c1_i32
  let v42 : BitVec 32 := Scalar.subi v41 arg1
  let c1_i32_30 : BitVec 32 := 1#32
  let v44 : BitVec 32 := Scalar.divsi v42 c1_i32_30
  let v45 : BitVec 32 := Scalar.muli v44 c1_i32_30
  let v46 : BitVec 32 := Scalar.addi arg1 v45
  let c1_i32_32 : BitVec 32 := 1#32
  let arg18 : BitVec 32 := Scf.iv v46 c1_i32_32 k0_t2
  let c512_i32 : BitVec 32 := 512#32
  let v77 : BitVec 32 := Scalar.muli arg18 c512_i32
  let v78 : BitVec 32 := v77
  let v79 : Index := Scalar.indexCast v78
  let c0_57 : Index := 0#32
  ![v79.toNat, 0]
def k0_off6 (i : grid0.Coords) (k0_t2 : Fin (k0_t2_loop i).trips) : Fin 4 → Nat :=
  let c0_58 : Index := 0#32
  let arg1 : BitVec 32 := BitVec.ofNat 32 (i 1).val
  let c1_i32 : BitVec 32 := 1#32
  let v41 : BitVec 32 := Scalar.addi arg1 c1_i32
  let v42 : BitVec 32 := Scalar.subi v41 arg1
  let c1_i32_30 : BitVec 32 := 1#32
  let v44 : BitVec 32 := Scalar.divsi v42 c1_i32_30
  let v45 : BitVec 32 := Scalar.muli v44 c1_i32_30
  let v46 : BitVec 32 := Scalar.addi arg1 v45
  let c1_i32_32 : BitVec 32 := 1#32
  let arg18 : BitVec 32 := Scf.iv v46 c1_i32_32 k0_t2
  let v82 : Index := Scalar.indexCast arg18
  let c0_59 : Index := 0#32
  let c0_60 : Index := 0#32
  ![0, v82.toNat, 0, 0]
def k0_off7 (i : grid0.Coords) (k0_t2 : Fin (k0_t2_loop i).trips) : Fin 3 → Nat :=
  let c0_65 : Index := 0#32
  let arg1 : BitVec 32 := BitVec.ofNat 32 (i 1).val
  let c1_i32 : BitVec 32 := 1#32
  let v41 : BitVec 32 := Scalar.addi arg1 c1_i32
  let v42 : BitVec 32 := Scalar.subi v41 arg1
  let c1_i32_30 : BitVec 32 := 1#32
  let v44 : BitVec 32 := Scalar.divsi v42 c1_i32_30
  let v45 : BitVec 32 := Scalar.muli v44 c1_i32_30
  let v46 : BitVec 32 := Scalar.addi arg1 v45
  let c1_i32_32 : BitVec 32 := 1#32
  let arg18 : BitVec 32 := Scf.iv v46 c1_i32_32 k0_t2
  let c512_i32 : BitVec 32 := 512#32
  let v77 : BitVec 32 := Scalar.muli arg18 c512_i32
  let v78 : BitVec 32 := v77
  let v89 : Index := Scalar.indexCast v78
  let c0_66 : Index := 0#32
  ![0, v89.toNat, 0]
def k0_off8 (i : grid0.Coords) (k0_t2 : Fin (k0_t2_loop i).trips) : Fin 3 → Nat :=
  let c1_102 : Index := 1#32
  let arg1 : BitVec 32 := BitVec.ofNat 32 (i 1).val
  let c1_i32 : BitVec 32 := 1#32
  let v41 : BitVec 32 := Scalar.addi arg1 c1_i32
  let v42 : BitVec 32 := Scalar.subi v41 arg1
  let c1_i32_30 : BitVec 32 := 1#32
  let v44 : BitVec 32 := Scalar.divsi v42 c1_i32_30
  let v45 : BitVec 32 := Scalar.muli v44 c1_i32_30
  let v46 : BitVec 32 := Scalar.addi arg1 v45
  let c1_i32_32 : BitVec 32 := 1#32
  let arg18 : BitVec 32 := Scf.iv v46 c1_i32_32 k0_t2
  let c512_i32 : BitVec 32 := 512#32
  let v77 : BitVec 32 := Scalar.muli arg18 c512_i32
  let v78 : BitVec 32 := v77
  let v149 : Index := Scalar.indexCast v78
  let c0_103 : Index := 0#32
  ![1, v149.toNat, 0]
@[reducible] def k0_t3_loop (i : grid0.Coords) : Scf.Loop 32 :=
  let arg1 : BitVec 32 := BitVec.ofNat 32 (i 1).val
  let c1_i32_33 : BitVec 32 := 1#32
  let v47 : BitVec 32 := Scalar.addi arg1 c1_i32_33
  let c16_i32 : BitVec 32 := 16#32
  let v48 : BitVec 32 := Scalar.subi c16_i32 v47
  let c1_i32_35 : BitVec 32 := 1#32
  let v50 : BitVec 32 := Scalar.divsi v48 c1_i32_35
  let v51 : BitVec 32 := Scalar.muli v50 c1_i32_35
  let v52 : BitVec 32 := Scalar.addi v47 v51
  let c1_i32_36 : BitVec 32 := 1#32
  ⟨v47, v52, c1_i32_36⟩
def k0_mult3 (i : grid0.Coords) (k0_t3 : Fin (k0_t3_loop i).trips) : BitVec 32 :=
  let arg1 : BitVec 32 := BitVec.ofNat 32 (i 1).val
  let c1_i32_33 : BitVec 32 := 1#32
  let v47 : BitVec 32 := Scalar.addi arg1 c1_i32_33
  let c1_i32_36 : BitVec 32 := 1#32
  let arg18 : BitVec 32 := Scf.iv v47 c1_i32_36 k0_t3
  let c512_i32 : BitVec 32 := 512#32
  let v77 : BitVec 32 := Scalar.muli arg18 c512_i32
  v77
def k0_off9 (i : grid0.Coords) (k0_t3 : Fin (k0_t3_loop i).trips) : Fin 2 → Nat :=
  let arg1 : BitVec 32 := BitVec.ofNat 32 (i 1).val
  let c1_i32_33 : BitVec 32 := 1#32
  let v47 : BitVec 32 := Scalar.addi arg1 c1_i32_33
  let c1_i32_36 : BitVec 32 := 1#32
  let arg18 : BitVec 32 := Scf.iv v47 c1_i32_36 k0_t3
  let c512_i32 : BitVec 32 := 512#32
  let v77 : BitVec 32 := Scalar.muli arg18 c512_i32
  let v78 : BitVec 32 := v77
  let v79 : Index := Scalar.indexCast v78
  let c0_57 : Index := 0#32
  ![v79.toNat, 0]
def k0_off10 (i : grid0.Coords) (k0_t3 : Fin (k0_t3_loop i).trips) : Fin 4 → Nat :=
  let c0_58 : Index := 0#32
  let arg1 : BitVec 32 := BitVec.ofNat 32 (i 1).val
  let c1_i32_33 : BitVec 32 := 1#32
  let v47 : BitVec 32 := Scalar.addi arg1 c1_i32_33
  let c1_i32_36 : BitVec 32 := 1#32
  let arg18 : BitVec 32 := Scf.iv v47 c1_i32_36 k0_t3
  let v82 : Index := Scalar.indexCast arg18
  let c0_59 : Index := 0#32
  let c0_60 : Index := 0#32
  ![0, v82.toNat, 0, 0]
def k0_off11 (i : grid0.Coords) (k0_t3 : Fin (k0_t3_loop i).trips) : Fin 3 → Nat :=
  let c0_65 : Index := 0#32
  let arg1 : BitVec 32 := BitVec.ofNat 32 (i 1).val
  let c1_i32_33 : BitVec 32 := 1#32
  let v47 : BitVec 32 := Scalar.addi arg1 c1_i32_33
  let c1_i32_36 : BitVec 32 := 1#32
  let arg18 : BitVec 32 := Scf.iv v47 c1_i32_36 k0_t3
  let c512_i32 : BitVec 32 := 512#32
  let v77 : BitVec 32 := Scalar.muli arg18 c512_i32
  let v78 : BitVec 32 := v77
  let v89 : Index := Scalar.indexCast v78
  let c0_66 : Index := 0#32
  ![0, v89.toNat, 0]
def k0_off12 (i : grid0.Coords) (k0_t3 : Fin (k0_t3_loop i).trips) : Fin 3 → Nat :=
  let c1_101 : Index := 1#32
  let arg1 : BitVec 32 := BitVec.ofNat 32 (i 1).val
  let c1_i32_33 : BitVec 32 := 1#32
  let v47 : BitVec 32 := Scalar.addi arg1 c1_i32_33
  let c1_i32_36 : BitVec 32 := 1#32
  let arg18 : BitVec 32 := Scf.iv v47 c1_i32_36 k0_t3
  let c512_i32 : BitVec 32 := 512#32
  let v77 : BitVec 32 := Scalar.muli arg18 c512_i32
  let v78 : BitVec 32 := v77
  let v144 : Index := Scalar.indexCast v78
  let c0_102 : Index := 0#32
  ![1, v144.toNat, 0]
@[reducible] def k0_t4_loop (i : grid0.Coords) : Scf.Loop 32 :=
  let arg1 : BitVec 32 := BitVec.ofNat 32 (i 1).val
  let c1_i32_33 : BitVec 32 := 1#32
  let v47 : BitVec 32 := Scalar.addi arg1 c1_i32_33
  let c16_i32 : BitVec 32 := 16#32
  let v48 : BitVec 32 := Scalar.subi c16_i32 v47
  let c1_i32_35 : BitVec 32 := 1#32
  let v50 : BitVec 32 := Scalar.divsi v48 c1_i32_35
  let v51 : BitVec 32 := Scalar.muli v50 c1_i32_35
  let v52 : BitVec 32 := Scalar.addi v47 v51
  let v49 : BitVec 32 := Scalar.addi v47 v48
  let c1_i32_37 : BitVec 32 := 1#32
  ⟨v52, v49, c1_i32_37⟩
def k0_mult4 (i : grid0.Coords) (k0_t4 : Fin (k0_t4_loop i).trips) : BitVec 32 :=
  let arg1 : BitVec 32 := BitVec.ofNat 32 (i 1).val
  let c1_i32_33 : BitVec 32 := 1#32
  let v47 : BitVec 32 := Scalar.addi arg1 c1_i32_33
  let c16_i32 : BitVec 32 := 16#32
  let v48 : BitVec 32 := Scalar.subi c16_i32 v47
  let c1_i32_35 : BitVec 32 := 1#32
  let v50 : BitVec 32 := Scalar.divsi v48 c1_i32_35
  let v51 : BitVec 32 := Scalar.muli v50 c1_i32_35
  let v52 : BitVec 32 := Scalar.addi v47 v51
  let c1_i32_37 : BitVec 32 := 1#32
  let arg18 : BitVec 32 := Scf.iv v52 c1_i32_37 k0_t4
  let c512_i32 : BitVec 32 := 512#32
  let v77 : BitVec 32 := Scalar.muli arg18 c512_i32
  v77
def k0_off13 (i : grid0.Coords) (k0_t4 : Fin (k0_t4_loop i).trips) : Fin 2 → Nat :=
  let arg1 : BitVec 32 := BitVec.ofNat 32 (i 1).val
  let c1_i32_33 : BitVec 32 := 1#32
  let v47 : BitVec 32 := Scalar.addi arg1 c1_i32_33
  let c16_i32 : BitVec 32 := 16#32
  let v48 : BitVec 32 := Scalar.subi c16_i32 v47
  let c1_i32_35 : BitVec 32 := 1#32
  let v50 : BitVec 32 := Scalar.divsi v48 c1_i32_35
  let v51 : BitVec 32 := Scalar.muli v50 c1_i32_35
  let v52 : BitVec 32 := Scalar.addi v47 v51
  let c1_i32_37 : BitVec 32 := 1#32
  let arg18 : BitVec 32 := Scf.iv v52 c1_i32_37 k0_t4
  let c512_i32 : BitVec 32 := 512#32
  let v77 : BitVec 32 := Scalar.muli arg18 c512_i32
  let v78 : BitVec 32 := v77
  let v79 : Index := Scalar.indexCast v78
  let c0_57 : Index := 0#32
  ![v79.toNat, 0]
def k0_off14 (i : grid0.Coords) (k0_t4 : Fin (k0_t4_loop i).trips) : Fin 4 → Nat :=
  let c0_58 : Index := 0#32
  let arg1 : BitVec 32 := BitVec.ofNat 32 (i 1).val
  let c1_i32_33 : BitVec 32 := 1#32
  let v47 : BitVec 32 := Scalar.addi arg1 c1_i32_33
  let c16_i32 : BitVec 32 := 16#32
  let v48 : BitVec 32 := Scalar.subi c16_i32 v47
  let c1_i32_35 : BitVec 32 := 1#32
  let v50 : BitVec 32 := Scalar.divsi v48 c1_i32_35
  let v51 : BitVec 32 := Scalar.muli v50 c1_i32_35
  let v52 : BitVec 32 := Scalar.addi v47 v51
  let c1_i32_37 : BitVec 32 := 1#32
  let arg18 : BitVec 32 := Scf.iv v52 c1_i32_37 k0_t4
  let v82 : Index := Scalar.indexCast arg18
  let c0_59 : Index := 0#32
  let c0_60 : Index := 0#32
  ![0, v82.toNat, 0, 0]
def k0_off15 (i : grid0.Coords) (k0_t4 : Fin (k0_t4_loop i).trips) : Fin 3 → Nat :=
  let c0_65 : Index := 0#32
  let arg1 : BitVec 32 := BitVec.ofNat 32 (i 1).val
  let c1_i32_33 : BitVec 32 := 1#32
  let v47 : BitVec 32 := Scalar.addi arg1 c1_i32_33
  let c16_i32 : BitVec 32 := 16#32
  let v48 : BitVec 32 := Scalar.subi c16_i32 v47
  let c1_i32_35 : BitVec 32 := 1#32
  let v50 : BitVec 32 := Scalar.divsi v48 c1_i32_35
  let v51 : BitVec 32 := Scalar.muli v50 c1_i32_35
  let v52 : BitVec 32 := Scalar.addi v47 v51
  let c1_i32_37 : BitVec 32 := 1#32
  let arg18 : BitVec 32 := Scf.iv v52 c1_i32_37 k0_t4
  let c512_i32 : BitVec 32 := 512#32
  let v77 : BitVec 32 := Scalar.muli arg18 c512_i32
  let v78 : BitVec 32 := v77
  let v89 : Index := Scalar.indexCast v78
  let c0_66 : Index := 0#32
  ![0, v89.toNat, 0]
def k0_off16 (i : grid0.Coords) (k0_t4 : Fin (k0_t4_loop i).trips) : Fin 3 → Nat :=
  let c1_101 : Index := 1#32
  let arg1 : BitVec 32 := BitVec.ofNat 32 (i 1).val
  let c1_i32_33 : BitVec 32 := 1#32
  let v47 : BitVec 32 := Scalar.addi arg1 c1_i32_33
  let c16_i32 : BitVec 32 := 16#32
  let v48 : BitVec 32 := Scalar.subi c16_i32 v47
  let c1_i32_35 : BitVec 32 := 1#32
  let v50 : BitVec 32 := Scalar.divsi v48 c1_i32_35
  let v51 : BitVec 32 := Scalar.muli v50 c1_i32_35
  let v52 : BitVec 32 := Scalar.addi v47 v51
  let c1_i32_37 : BitVec 32 := 1#32
  let arg18 : BitVec 32 := Scf.iv v52 c1_i32_37 k0_t4
  let c512_i32 : BitVec 32 := 512#32
  let v77 : BitVec 32 := Scalar.muli arg18 c512_i32
  let v78 : BitVec 32 := v77
  let v144 : Index := Scalar.indexCast v78
  let c0_102 : Index := 0#32
  ![1, v144.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x2x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S8192x512 : Shape := ⟨2, ![8192, 512]⟩
abbrev S8192x8 : Shape := ⟨2, ![8192, 8]⟩
abbrev S1x8 : Shape := ⟨2, ![1, 8]⟩
abbrev S_ : Shape := ⟨0, ![]⟩
abbrev S8192x8x64 : Shape := ⟨3, ![8192, 8, 64]⟩
abbrev S8x8192x8192 : Shape := ⟨3, ![8, 8192, 8192]⟩
abbrev S8x8192 : Shape := ⟨2, ![8, 8192]⟩
abbrev S8x8192x1 : Shape := ⟨3, ![8, 8192, 1]⟩
abbrev S8x1x8192 : Shape := ⟨3, ![8, 1, 8192]⟩
abbrev S8x64x8192 : Shape := ⟨3, ![8, 64, 8192]⟩
abbrev S8x8192x64 : Shape := ⟨3, ![8, 8192, 64]⟩
abbrev S4x2x16x512 : Shape := ⟨4, ![4, 2, 16, 512]⟩
abbrev S4x16x2x512 : Shape := ⟨4, ![4, 16, 2, 512]⟩
abbrev S8192x4x2 : Shape := ⟨3, ![8192, 4, 2]⟩
abbrev S4x8192x2 : Shape := ⟨3, ![4, 8192, 2]⟩

abbrev nBuf : Space → Nat
  | .hbm => 145
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x8, .f32⟩
  | 4 => ⟨S1x8, .f32⟩
  | 5 => ⟨S8192x512, .f32⟩
  | 6 => ⟨S8192x8, .f32⟩
  | 7 => ⟨S8192x8, .f32⟩
  | 8 => ⟨S8192x8, .f32⟩
  | 9 => ⟨S_, .f32⟩
  | 10 => ⟨S8192x8, .f32⟩
  | 11 => ⟨S8192x8, .f32⟩
  | 12 => ⟨S8192x8, .f32⟩
  | 13 => ⟨S8192x8, .f32⟩
  | 14 => ⟨S8192x8, .i1⟩
  | 15 => ⟨S8192x8, .f32⟩
  | 16 => ⟨S8192x8, .f32⟩
  | 17 => ⟨S8192x8, .f32⟩
  | 18 => ⟨S8192x8, .f32⟩
  | 19 => ⟨S8192x8, .f32⟩
  | 20 => ⟨S8192x8, .f32⟩
  | 21 => ⟨S8192x8, .f32⟩
  | 22 => ⟨S8192x8, .f32⟩
  | 23 => ⟨S8192x8, .f32⟩
  | 24 => ⟨S_, .f32⟩
  | 25 => ⟨S_, .f32⟩
  | 26 => ⟨S8192x8, .f32⟩
  | 27 => ⟨S8192x8x64, .f32⟩
  | 28 => ⟨S8192x8x64, .f32⟩
  | 29 => ⟨S8192x8x64, .f32⟩
  | 30 => ⟨S8x8192x8192, .f32⟩
  | 31 => ⟨S_, .f32⟩
  | 32 => ⟨S8x8192x8192, .f32⟩
  | 33 => ⟨S8x8192x8192, .f32⟩
  | 34 => ⟨S8x8192, .f32⟩
  | 35 => ⟨S8x8192x1, .f32⟩
  | 36 => ⟨S8x8192x8192, .f32⟩
  | 37 => ⟨S8x8192x8192, .f32⟩
  | 38 => ⟨S8x8192, .f32⟩
  | 39 => ⟨S8x1x8192, .f32⟩
  | 40 => ⟨S8x8192x8192, .f32⟩
  | 41 => ⟨S8x8192x8192, .f32⟩
  | 42 => ⟨S8x8192x8192, .i32⟩
  | 43 => ⟨S8x8192x8192, .i32⟩
  | 44 => ⟨S8x8192x8192, .i1⟩
  | 45 => ⟨S_, .f32⟩
  | 46 => ⟨S_, .f32⟩
  | 47 => ⟨S8x8192x8192, .f32⟩
  | 48 => ⟨S8x8192x8192, .f32⟩
  | 49 => ⟨S_, .f32⟩
  | 50 => ⟨S8x8192x8192, .f32⟩
  | 51 => ⟨S_, .f32⟩
  | 52 => ⟨S8x8192, .f32⟩
  | 53 => ⟨S8x8192x1, .f32⟩
  | 54 => ⟨S8x8192x8192, .f32⟩
  | 55 => ⟨S8x8192x8192, .i1⟩
  | 56 => ⟨S8x8192x8192, .f32⟩
  | 57 => ⟨S_, .f32⟩
  | 58 => ⟨S8x8192, .f32⟩
  | 59 => ⟨S_, .f32⟩
  | 60 => ⟨S8x8192, .f32⟩
  | 61 => ⟨S8x8192, .f32⟩
  | 62 => ⟨S_, .f32⟩
  | 63 => ⟨S8x8192, .f32⟩
  | 64 => ⟨S8x8192, .i1⟩
  | 65 => ⟨S_, .f32⟩
  | 66 => ⟨S8x8192, .f32⟩
  | 67 => ⟨S8x8192, .i1⟩
  | 68 => ⟨S_, .f32⟩
  | 69 => ⟨S8x8192, .f32⟩
  | 70 => ⟨S_, .f32⟩
  | 71 => ⟨S8x8192, .f32⟩
  | 72 => ⟨S_, .f32⟩
  | 73 => ⟨S8x8192, .f32⟩
  | 74 => ⟨S8x8192, .f32⟩
  | 75 => ⟨S8x8192, .f32⟩
  | 76 => ⟨S8x8192x1, .f32⟩
  | 77 => ⟨S8x8192x8192, .f32⟩
  | 78 => ⟨S8x8192x8192, .f32⟩
  | 79 => ⟨S8x8192x8192, .f32⟩
  | 80 => ⟨S_, .f32⟩
  | 81 => ⟨S8x8192, .f32⟩
  | 82 => ⟨S8x8192x1, .f32⟩
  | 83 => ⟨S8x8192x8192, .f32⟩
  | 84 => ⟨S8x8192x8192, .f32⟩
  | 85 => ⟨S8x8192x1, .f32⟩
  | 86 => ⟨S_, .f32⟩
  | 87 => ⟨S8x8192x1, .f32⟩
  | 88 => ⟨S8x8192x1, .f32⟩
  | 89 => ⟨S8x64x8192, .f32⟩
  | 90 => ⟨S8192x8x64, .f32⟩
  | 91 => ⟨S8192x512, .f32⟩
  | 92 => ⟨S8192x8x64, .f32⟩
  | 93 => ⟨S8x64x8192, .f32⟩
  | 94 => ⟨S8x8192x8192, .f32⟩
  | 95 => ⟨S8x64x8192, .f32⟩
  | 96 => ⟨S8192x8x64, .f32⟩
  | 97 => ⟨S8x8192x8192, .f32⟩
  | 98 => ⟨S8x8192x8192, .f32⟩
  | 99 => ⟨S8x8192x8192, .f32⟩
  | 100 => ⟨S_, .f32⟩
  | 101 => ⟨S8x8192, .f32⟩
  | 102 => ⟨S8x8192x1, .f32⟩
  | 103 => ⟨S8x8192x1, .f32⟩
  | 104 => ⟨S8x8192x8192, .f32⟩
  | 105 => ⟨S8x8192x8192, .f32⟩
  | 106 => ⟨S_, .f32⟩
  | 107 => ⟨S8x8192, .f32⟩
  | 108 => ⟨S8x8192x8192, .f32⟩
  | 109 => ⟨S8x8192x8192, .f32⟩
  | 110 => ⟨S8x8192x8192, .f32⟩
  | 111 => ⟨S_, .f32⟩
  | 112 => ⟨S8x8192x8192, .f32⟩
  | 113 => ⟨S8x8192x8192, .f32⟩
  | 114 => ⟨S8x8192x8192, .f32⟩
  | 115 => ⟨S_, .f32⟩
  | 116 => ⟨S8x8192, .f32⟩
  | 117 => ⟨S8x1x8192, .f32⟩
  | 118 => ⟨S_, .f32⟩
  | 119 => ⟨S8x8192, .f32⟩
  | 120 => ⟨S8192x8, .f32⟩
  | 121 => ⟨S_, .f32⟩
  | 122 => ⟨S8x8192, .f32⟩
  | 123 => ⟨S8x8192x1, .f32⟩
  | 124 => ⟨S_, .f32⟩
  | 125 => ⟨S8x8192, .f32⟩
  | 126 => ⟨S8192x8, .f32⟩
  | 127 => ⟨S_, .f32⟩
  | _ => ⟨S8192x512, .f32⟩

abbrev hbmTy0_1 (i : Nat) : BufTy := match i % 128 with
  | 0 => ⟨S8x8192x8192, .f32⟩
  | 1 => ⟨S8x8192x8192, .f32⟩
  | 2 => ⟨S8x8192x64, .f32⟩
  | 3 => ⟨S8192x8x64, .f32⟩
  | 4 => ⟨S8x8192x64, .f32⟩
  | 5 => ⟨S8192x8x64, .f32⟩
  | 6 => ⟨S8192x512, .f32⟩
  | 7 => ⟨S8192x512, .f32⟩
  | 8 => ⟨S8192x512, .f32⟩
  | 9 => ⟨S8192x512, .bf16⟩
  | 10 => ⟨S8192x512, .bf16⟩
  | 11 => ⟨S8x8192, .f32⟩
  | 12 => ⟨S4x2x16x512, .f32⟩
  | 13 => ⟨S4x16x2x512, .f32⟩
  | 14 => ⟨S8192x4x2, .f32⟩
  | 15 => ⟨S4x8192x2, .f32⟩
  | 16 => ⟨S4x8192x2, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v2 : Ref sig .tc := ⟨.hbm, 23, rfl⟩
abbrev main_call1_call0_cst : Ref sig .tc := ⟨.hbm, 24, rfl⟩
abbrev main_call1_call0_v0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_0 : Ref sig .tc := ⟨.hbm, 45, rfl⟩
abbrev main_call2_v0 : Ref sig .tc := ⟨.hbm, 46, rfl⟩
abbrev main_call2_v1 : Ref sig .tc := ⟨.hbm, 47, rfl⟩
abbrev main_v21_0 : Ref sig .tc := ⟨.hbm, 48, rfl⟩
abbrev main_call2_cst : Ref sig .tc := ⟨.hbm, 49, rfl⟩
abbrev main_v21_1 : Ref sig .tc := ⟨.hbm, 50, rfl⟩
abbrev main_cst_1 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_2 : Ref sig .tc := ⟨.hbm, 57, rfl⟩
abbrev main_v27 : Ref sig .tc := ⟨.hbm, 58, rfl⟩
abbrev main_cst_3 : Ref sig .tc := ⟨.hbm, 59, rfl⟩
abbrev main_v28 : Ref sig .tc := ⟨.hbm, 60, rfl⟩
abbrev main_v29 : Ref sig .tc := ⟨.hbm, 61, rfl⟩
abbrev main_cst_4 : Ref sig .tc := ⟨.hbm, 62, rfl⟩
abbrev main_v30 : Ref sig .tc := ⟨.hbm, 63, rfl⟩
abbrev main_v31 : Ref sig .tc := ⟨.hbm, 64, rfl⟩
abbrev main_cst_5 : Ref sig .tc := ⟨.hbm, 65, rfl⟩
abbrev main_v32 : Ref sig .tc := ⟨.hbm, 66, rfl⟩
abbrev main_v33 : Ref sig .tc := ⟨.hbm, 67, rfl⟩
abbrev main_cst_6 : Ref sig .tc := ⟨.hbm, 68, rfl⟩
abbrev main_v34 : Ref sig .tc := ⟨.hbm, 69, rfl⟩
abbrev main_cst_7 : Ref sig .tc := ⟨.hbm, 70, rfl⟩
abbrev main_v35 : Ref sig .tc := ⟨.hbm, 71, rfl⟩
abbrev main_cst_8 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_9 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_10 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_11 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_12 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_call3_cst : Ref sig .tc := ⟨.hbm, 111, rfl⟩
abbrev main_call3_v0 : Ref sig .tc := ⟨.hbm, 112, rfl⟩
abbrev main_v70 : Ref sig .tc := ⟨.hbm, 113, rfl⟩
abbrev main_v71 : Ref sig .tc := ⟨.hbm, 114, rfl⟩
abbrev main_cst_13 : Ref sig .tc := ⟨.hbm, 115, rfl⟩
abbrev main_v72 : Ref sig .tc := ⟨.hbm, 116, rfl⟩
abbrev main_v73 : Ref sig .tc := ⟨.hbm, 117, rfl⟩
abbrev main_cst_14 : Ref sig .tc := ⟨.hbm, 118, rfl⟩
abbrev main_v74 : Ref sig .tc := ⟨.hbm, 119, rfl⟩
abbrev main_v75 : Ref sig .tc := ⟨.hbm, 120, rfl⟩
abbrev main_cst_15 : Ref sig .tc := ⟨.hbm, 121, rfl⟩
abbrev main_v76 : Ref sig .tc := ⟨.hbm, 122, rfl⟩
abbrev main_v77 : Ref sig .tc := ⟨.hbm, 123, rfl⟩
abbrev main_cst_16 : Ref sig .tc := ⟨.hbm, 124, rfl⟩
abbrev main_v78 : Ref sig .tc := ⟨.hbm, 125, rfl⟩
abbrev main_v79 : Ref sig .tc := ⟨.hbm, 126, rfl⟩
abbrev main_cst_17 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩

abbrev nD : Nat := 1
abbrev τ : Topo := Topo.v7x

variable {F : FTy → Type} [FloatOps F]
-- ==== Proj.lean ====
abbrev S8192x1024 : Shape := ⟨2, ![8192, 1024]⟩
abbrev S1x1024 : Shape := ⟨2, ![1, 1024]⟩
abbrev S1024x5128 : Shape := ⟨2, ![1024, 5128]⟩
abbrev S8192x512 : Shape := ⟨2, ![8192, 512]⟩
abbrev S8192x8 : Shape := ⟨2, ![8192, 8]⟩
abbrev S1024x1536 : Shape := ⟨2, ![1024, 1536]⟩
abbrev S1024x3584 : Shape := ⟨2, ![1024, 3584]⟩
abbrev S1024x5120 : Shape := ⟨2, ![1024, 5120]⟩
abbrev S1024x8 : Shape := ⟨2, ![1024, 8]⟩
abbrev S8x1024 : Shape := ⟨2, ![8, 1024]⟩
abbrev S256x512 : Shape := ⟨2, ![256, 512]⟩
abbrev S256x1024 : Shape := ⟨2, ![256, 1024]⟩
abbrev S256x8 : Shape := ⟨2, ![256, 8]⟩
abbrev S1024x512 : Shape := ⟨2, ![1024, 512]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 32
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5128, .f32⟩
  | .hbm, ⟨5, _⟩ => ⟨S8192x1024, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x8, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x1024, .f32⟩
  | .hbm, ⟨14, _⟩ => ⟨S8192x1024, .f32⟩
  | .hbm, ⟨15, _⟩ => ⟨S1024x5128, .bf16⟩
  | .hbm, ⟨16, _⟩ => ⟨S1024x1536, .bf16⟩
  | .hbm, ⟨17, _⟩ => ⟨S1024x3584, .bf16⟩
  | .hbm, ⟨18, _⟩ => ⟨S1024x5120, .bf16⟩
  | .hbm, ⟨19, _⟩ => ⟨S1024x8, .bf16⟩
  | .hbm, ⟨20, _⟩ => ⟨S1024x8, .f32⟩
  | .hbm, ⟨21, _⟩ => ⟨S8x1024, .f32⟩
  | .hbm, ⟨22, _⟩ => ⟨S8192x512, .bf16⟩
  | .hbm, ⟨23, _⟩ => ⟨S8192x512, .bf16⟩
  | .hbm, ⟨24, _⟩ => ⟨S8192x512, .bf16⟩
  | .hbm, ⟨25, _⟩ => ⟨S8192x512, .bf16⟩
  | .hbm, ⟨26, _⟩ => ⟨S8192x1024, .bf16⟩
  | .hbm, ⟨27, _⟩ => ⟨S8192x1024, .bf16⟩
  | .hbm, ⟨28, _⟩ => ⟨S8192x1024, .f32⟩
  | .hbm, ⟨29, _⟩ => ⟨S1x1024, .f32⟩
  | .hbm, ⟨30, _⟩ => ⟨S1x1024, .f32⟩
  | .hbm, ⟨31, _⟩ => ⟨S1x1024, .f32⟩
  | .local _ .vmem, ⟨0, _⟩ => ⟨S256x512, .f32⟩
  | .local _ .vmem, ⟨1, _⟩ => ⟨S256x512, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x8, .f32⟩
  | .local _ .vmem, ⟨17, _⟩ => ⟨S256x8, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | .local _ .vmem, ⟨23, _⟩ => ⟨S1x1024, .f32⟩
  | .local _ .vmem, ⟨24, _⟩ => ⟨S1024x5120, .bf16⟩
  | .local _ .vmem, ⟨25, _⟩ => ⟨S8x1024, .f32⟩
  | .local _ .vmem, ⟨26, _⟩ => ⟨S256x1024, .f32⟩
  | .local _ .vmem, ⟨27, _⟩ => ⟨S256x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev main_v13_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x5120 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ProjRefIdeal.lean ====
abbrev S8192x1024 : Shape := ⟨2, ![8192, 1024]⟩
abbrev S1x1024 : Shape := ⟨2, ![1, 1024]⟩
abbrev S1024x5128 : Shape := ⟨2, ![1024, 5128]⟩
abbrev S8192x512 : Shape := ⟨2, ![8192, 512]⟩
abbrev S8192x8 : Shape := ⟨2, ![8192, 8]⟩
abbrev S_ : Shape := ⟨0, ![]⟩
abbrev S8192 : Shape := ⟨1, ![8192]⟩
abbrev S8192x1 : Shape := ⟨2, ![8192, 1]⟩
abbrev S8192x5128 : Shape := ⟨2, ![8192, 5128]⟩
abbrev S1024 : Shape := ⟨1, ![1024]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5128, .f32⟩
  | .hbm, ⟨5, _⟩ => ⟨S8192x1024, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x8, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x5128, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x8, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x1024, .f32⟩
  | .hbm, ⟨50, _⟩ => ⟨S8192x1024, .f32⟩
  | .hbm, ⟨51, _⟩ => ⟨S8192x5128, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]
-- ==== Mix.lean ====
abbrev S8192x512 : Shape := ⟨2, ![8192, 512]⟩
abbrev S8192x1024 : Shape := ⟨2, ![8192, 1024]⟩
abbrev S1x1024 : Shape := ⟨2, ![1, 1024]⟩
abbrev S1x512 : Shape := ⟨2, ![1, 512]⟩
abbrev S1024 : Shape := ⟨1, ![1024]⟩
abbrev S512x512 : Shape := ⟨2, ![512, 512]⟩
abbrev S512x1024 : Shape := ⟨2, ![512, 1024]⟩
abbrev S1024x1024 : Shape := ⟨2, ![1024, 1024]⟩
abbrev S8x512 : Shape := ⟨2, ![8, 512]⟩
abbrev S8x8192 : Shape := ⟨2, ![8, 8192]⟩
abbrev S1x1 : Shape := ⟨2, ![1, 1]⟩
abbrev S256x512 : Shape := ⟨2, ![256, 512]⟩
abbrev S256x1024 : Shape := ⟨2, ![256, 1024]⟩
abbrev S8x256 : Shape := ⟨2, ![8, 256]⟩
abbrev S256 : Shape := ⟨1, ![256]⟩
abbrev S256x1 : Shape := ⟨2, ![256, 1]⟩
abbrev S1 : Shape := ⟨1, ![1]⟩
abbrev S512 : Shape := ⟨1, ![512]⟩

abbrev nBuf : Space → Nat
  | .hbm => 41
  | .vmem => 60
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S1x512, .f32⟩
  | .hbm, ⟨10, _⟩ => ⟨S1024, .f32⟩
  | .hbm, ⟨11, _⟩ => ⟨S512x512, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S8x512, .f32⟩
  | .hbm, ⟨16, _⟩ => ⟨S1x1024, .f32⟩
  | .hbm, ⟨17, _⟩ => ⟨S512x512, .bf16⟩
  | .hbm, ⟨18, _⟩ => ⟨S512x1024, .bf16⟩
  | .hbm, ⟨19, _⟩ => ⟨S512x1024, .bf16⟩
  | .hbm, ⟨20, _⟩ => ⟨S1024x1024, .bf16⟩
  | .hbm, ⟨21, _⟩ => ⟨S8192x1024, .f32⟩
  | .hbm, ⟨22, _⟩ => ⟨S8192x512, .bf16⟩
  | .hbm, ⟨23, _⟩ => ⟨S8192x512, .bf16⟩
  | .hbm, ⟨24, _⟩ => ⟨S8192x512, .bf16⟩
  | .hbm, ⟨25, _⟩ => ⟨S8192x1024, .bf16⟩
  | .hbm, ⟨26, _⟩ => ⟨S8192x1024, .bf16⟩
  | .hbm, ⟨27, _⟩ => ⟨S8192x512, .f32⟩
  | .hbm, ⟨28, _⟩ => ⟨S8x8192, .f32⟩
  | .hbm, ⟨29, _⟩ => ⟨S8192x1024, .bf16⟩
  | .hbm, ⟨30, _⟩ => ⟨S8192x1024, .bf16⟩
  | .hbm, ⟨31, _⟩ => ⟨S8192x512, .bf16⟩
  | .hbm, ⟨32, _⟩ => ⟨S8192x1024, .bf16⟩
  | .hbm, ⟨33, _⟩ => ⟨S8192x512, .bf16⟩
  | .hbm, ⟨34, _⟩ => ⟨S8192x1024, .bf16⟩
  | .hbm, ⟨35, _⟩ => ⟨S8192x512, .bf16⟩
  | .hbm, ⟨36, _⟩ => ⟨S8192x512, .bf16⟩
  | .hbm, ⟨37, _⟩ => ⟨S1x512, .f32⟩
  | .hbm, ⟨38, _⟩ => ⟨S1x1024, .f32⟩
  | .hbm, ⟨39, _⟩ => ⟨S1x1024, .f32⟩
  | .hbm, ⟨40, _⟩ => ⟨S1x1, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1x512, .f32⟩
  | .local _ .vmem, ⟨18, _⟩ => ⟨S1x1024, .f32⟩
  | .local _ .vmem, ⟨19, _⟩ => ⟨S512x512, .bf16⟩
  | .local _ .vmem, ⟨20, _⟩ => ⟨S512x1024, .bf16⟩
  | .local _ .vmem, ⟨21, _⟩ => ⟨S512x1024, .bf16⟩
  | .local _ .vmem, ⟨22, _⟩ => ⟨S1024x1024, .bf16⟩
  | .local _ .vmem, ⟨23, _⟩ => ⟨S8x512, .f32⟩
  | .local _ .vmem, ⟨24, _⟩ => ⟨S256x1024, .f32⟩
  | .local _ .vmem, ⟨25, _⟩ => ⟨S256x1024, .f32⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S256x512, .f32⟩
  | .local _ .vmem, ⟨37, _⟩ => ⟨S256x512, .f32⟩
  | .local _ .vmem, ⟨38, _⟩ => ⟨S8x256, .f32⟩
  | .local _ .vmem, ⟨39, _⟩ => ⟨S8x256, .f32⟩
  | .local _ .vmem, ⟨40, _⟩ => ⟨S256x1024, .bf16⟩
  | .local _ .vmem, ⟨41, _⟩ => ⟨S256x1024, .bf16⟩
  | .local _ .vmem, ⟨42, _⟩ => ⟨S256x1024, .bf16⟩
  | .local _ .vmem, ⟨43, _⟩ => ⟨S256x1024, .bf16⟩
  | .local _ .vmem, ⟨44, _⟩ => ⟨S256x512, .bf16⟩
  | .local _ .vmem, ⟨45, _⟩ => ⟨S256x512, .bf16⟩
  | .local _ .vmem, ⟨46, _⟩ => ⟨S256x1024, .bf16⟩
  | .local _ .vmem, ⟨47, _⟩ => ⟨S256x1024, .bf16⟩
  | .local _ .vmem, ⟨48, _⟩ => ⟨S256x512, .bf16⟩
  | .local _ .vmem, ⟨49, _⟩ => ⟨S256x512, .bf16⟩
  | .local _ .vmem, ⟨50, _⟩ => ⟨S256x1024, .bf16⟩
  | .local _ .vmem, ⟨51, _⟩ => ⟨S256x1024, .bf16⟩
  | .local _ .vmem, ⟨52, _⟩ => ⟨S256x512, .bf16⟩
  | .local _ .vmem, ⟨53, _⟩ => ⟨S256x512, .bf16⟩
  | .local _ .vmem, ⟨54, _⟩ => ⟨S256x512, .bf16⟩
  | .local _ .vmem, ⟨55, _⟩ => ⟨S256x512, .bf16⟩
  | .local _ .vmem, ⟨56, _⟩ => ⟨S1x512, .f32⟩
  | .local _ .vmem, ⟨57, _⟩ => ⟨S1x1024, .f32⟩
  | .local _ .vmem, ⟨58, _⟩ => ⟨S1x1024, .f32⟩
  | .local _ .vmem, ⟨59, _⟩ => ⟨S1x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5_0 : Ref sig .tc := ⟨.hbm, 21, rfl⟩
abbrev main_v5_1 : Ref sig .tc := ⟨.hbm, 22, rfl⟩
abbrev main_v5_2 : Ref sig .tc := ⟨.hbm, 23, rfl⟩
abbrev main_v5_3 : Ref sig .tc := ⟨.hbm, 24, rfl⟩
abbrev main_v5_4 : Ref sig .tc := ⟨.hbm, 25, rfl⟩
abbrev main_v5_5 : Ref sig .tc := ⟨.hbm, 26, rfl⟩
abbrev main_v5_6 : Ref sig .tc := ⟨.hbm, 27, rfl⟩
abbrev main_v5_7 : Ref sig .tc := ⟨.hbm, 28, rfl⟩
abbrev main_v5_8 : Ref sig .tc := ⟨.hbm, 29, rfl⟩
abbrev main_v5_9 : Ref sig .tc := ⟨.hbm, 30, rfl⟩
abbrev main_v5_10 : Ref sig .tc := ⟨.hbm, 31, rfl⟩
abbrev main_v5_11 : Ref sig .tc := ⟨.hbm, 32, rfl⟩
abbrev main_v5_12 : Ref sig .tc := ⟨.hbm, 33, rfl⟩
abbrev main_v5_13 : Ref sig .tc := ⟨.hbm, 34, rfl⟩
abbrev main_v5_14 : Ref sig .tc := ⟨.hbm, 35, rfl⟩
abbrev main_v5_15 : Ref sig .tc := ⟨.hbm, 36, rfl⟩
abbrev main_v5_16 : Ref sig .tc := ⟨.hbm, 37, rfl⟩
abbrev main_v5_17 : Ref sig .tc := ⟨.hbm, 38, rfl⟩
abbrev main_v5_18 : Ref sig .tc := ⟨.hbm, 39, rfl⟩
abbrev main_v5_19 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_stg24_0 : Ref sig .tc := ⟨.vmem, 40, rfl⟩
abbrev cc0_stg24_1 : Ref sig .tc := ⟨.vmem, 41, rfl⟩
abbrev cc0_stg25_0 : Ref sig .tc := ⟨.vmem, 42, rfl⟩
abbrev cc0_stg25_1 : Ref sig .tc := ⟨.vmem, 43, rfl⟩
abbrev cc0_stg26_0 : Ref sig .tc := ⟨.vmem, 44, rfl⟩
abbrev cc0_stg26_1 : Ref sig .tc := ⟨.vmem, 45, rfl⟩
abbrev cc0_stg27_0 : Ref sig .tc := ⟨.vmem, 46, rfl⟩
abbrev cc0_stg27_1 : Ref sig .tc := ⟨.vmem, 47, rfl⟩
abbrev cc0_stg28_0 : Ref sig .tc := ⟨.vmem, 48, rfl⟩
abbrev cc0_stg28_1 : Ref sig .tc := ⟨.vmem, 49, rfl⟩
abbrev cc0_stg29_0 : Ref sig .tc := ⟨.vmem, 50, rfl⟩
abbrev cc0_stg29_1 : Ref sig .tc := ⟨.vmem, 51, rfl⟩
abbrev cc0_stg30_0 : Ref sig .tc := ⟨.vmem, 52, rfl⟩
abbrev cc0_stg30_1 : Ref sig .tc := ⟨.vmem, 53, rfl⟩
abbrev cc0_stg31_0 : Ref sig .tc := ⟨.vmem, 54, rfl⟩
abbrev cc0_stg31_1 : Ref sig .tc := ⟨.vmem, 55, rfl⟩
abbrev cc0_stg32_0 : Ref sig .tc := ⟨.vmem, 56, rfl⟩
abbrev cc0_stg33_0 : Ref sig .tc := ⟨.vmem, 57, rfl⟩
abbrev cc0_stg34_0 : Ref sig .tc := ⟨.vmem, 58, rfl⟩
abbrev cc0_stg35_0 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39
abbrev cc0_sem24_0 : DmaSem sig := 40
abbrev cc0_sem24_1 : DmaSem sig := 41
abbrev cc0_sem25_0 : DmaSem sig := 42
abbrev cc0_sem25_1 : DmaSem sig := 43
abbrev cc0_sem26_0 : DmaSem sig := 44
abbrev cc0_sem26_1 : DmaSem sig := 45
abbrev cc0_sem27_0 : DmaSem sig := 46
abbrev cc0_sem27_1 : DmaSem sig := 47
abbrev cc0_sem28_0 : DmaSem sig := 48
abbrev cc0_sem28_1 : DmaSem sig := 49
abbrev cc0_sem29_0 : DmaSem sig := 50
abbrev cc0_sem29_1 : DmaSem sig := 51
abbrev cc0_sem30_0 : DmaSem sig := 52
abbrev cc0_sem30_1 : DmaSem sig := 53
abbrev cc0_sem31_0 : DmaSem sig := 54
abbrev cc0_sem31_1 : DmaSem sig := 55
abbrev cc0_sem32_0 : DmaSem sig := 56
abbrev cc0_sem33_0 : DmaSem sig := 57
abbrev cc0_sem34_0 : DmaSem sig := 58
abbrev cc0_sem35_0 : DmaSem sig := 59

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S8x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x512 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S256x512 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S256x1024 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S256x512 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S256x512 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 1 → Memref sig .tc .vmem S1x512 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S1x1 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]
-- ==== MixIdeal.lean ====
variable {F : FTy → Type} [FloatOps F] [Named F]
def κ : String → Option EReal := fun
  | "cubic" => some ((8943 / 200000 : ℝ) : EReal)
  | "slope" => some ((26829 / 200000 : ℝ) : EReal)
  | _ => none
-- ==== MixRefIdeal.lean ====
abbrev S8192x512 : Shape := ⟨2, ![8192, 512]⟩
abbrev S8192x1024 : Shape := ⟨2, ![8192, 1024]⟩
abbrev S1x1024 : Shape := ⟨2, ![1, 1024]⟩
abbrev S1x512 : Shape := ⟨2, ![1, 512]⟩
abbrev S1024 : Shape := ⟨1, ![1024]⟩
abbrev S512x512 : Shape := ⟨2, ![512, 512]⟩
abbrev S512x1024 : Shape := ⟨2, ![512, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S512 : Shape := ⟨1, ![512]⟩
abbrev S8192x8x64 : Shape := ⟨3, ![8192, 8, 64]⟩
abbrev S8192x8 : Shape := ⟨2, ![8192, 8]⟩
abbrev S8x8192 : Shape := ⟨2, ![8, 8192]⟩
abbrev S1x1 : Shape := ⟨2, ![1, 1]⟩

abbrev nBuf : Space → Nat
  | .hbm => 268
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x1024, .f32⟩
  | 5 => ⟨S8192x1024, .f32⟩
  | 6 => ⟨S8192x1024, .f32⟩
  | 7 => ⟨S8192x1024, .f32⟩
  | 8 => ⟨S1x1024, .f32⟩
  | 9 => ⟨S1x512, .f32⟩
  | 10 => ⟨S1024, .f32⟩
  | 11 => ⟨S512x512, .f32⟩
  | 12 => ⟨S512x1024, .f32⟩
  | 13 => ⟨S512x1024, .f32⟩
  | 14 => ⟨S1024x1024, .f32⟩
  | 15 => ⟨S_, .f32⟩
  | 16 => ⟨S8192x1024, .f32⟩
  | 17 => ⟨S_, .f32⟩
  | 18 => ⟨S8192x512, .f32⟩
  | 19 => ⟨S8192x512, .f32⟩
  | 20 => ⟨S8192x512, .f32⟩
  | 21 => ⟨S_, .f32⟩
  | 22 => ⟨S8192x512, .f32⟩
  | 23 => ⟨S8192x512, .f32⟩
  | 24 => ⟨S_, .f32⟩
  | 25 => ⟨S8192x512, .f32⟩
  | 26 => ⟨S8192x512, .f32⟩
  | 27 => ⟨S_, .f32⟩
  | 28 => ⟨S8192x512, .f32⟩
  | 29 => ⟨S8192x512, .f32⟩
  | 30 => ⟨S8192x512, .f32⟩
  | 31 => ⟨S8192x512, .f32⟩
  | 32 => ⟨S8192x512, .f32⟩
  | 33 => ⟨S_, .f32⟩
  | 34 => ⟨S_, .f32⟩
  | 35 => ⟨S_, .f32⟩
  | 36 => ⟨S8192x512, .f32⟩
  | 37 => ⟨S8192x512, .f32⟩
  | 38 => ⟨S8192x512, .f32⟩
  | 39 => ⟨S_, .f32⟩
  | 40 => ⟨S8192x512, .f32⟩
  | 41 => ⟨S8192x512, .f32⟩
  | 42 => ⟨S_, .f32⟩
  | 43 => ⟨S8192x512, .f32⟩
  | 44 => ⟨S8192x512, .f32⟩
  | 45 => ⟨S8192x512, .f32⟩
  | 46 => ⟨S_, .f32⟩
  | 47 => ⟨S8192x512, .f32⟩
  | 48 => ⟨S8192x512, .f32⟩
  | 49 => ⟨S8192x512, .f32⟩
  | 50 => ⟨S_, .f32⟩
  | 51 => ⟨S8192x512, .f32⟩
  | 52 => ⟨S8192x512, .f32⟩
  | 53 => ⟨S_, .f32⟩
  | 54 => ⟨S8192x512, .f32⟩
  | 55 => ⟨S8192x512, .f32⟩
  | 56 => ⟨S8192x512, .f32⟩
  | 57 => ⟨S_, .f32⟩
  | 58 => ⟨S8192x512, .f32⟩
  | 59 => ⟨S8192x512, .f32⟩
  | 60 => ⟨S_, .f32⟩
  | 61 => ⟨S8192x512, .f32⟩
  | 62 => ⟨S8192x512, .f32⟩
  | 63 => ⟨S8192x512, .f32⟩
  | 64 => ⟨S8192x512, .f32⟩
  | 65 => ⟨S8192x512, .f32⟩
  | 66 => ⟨S8192x512, .f32⟩
  | 67 => ⟨S8192x512, .f32⟩
  | 68 => ⟨S8192x512, .f32⟩
  | 69 => ⟨S8192x512, .f32⟩
  | 70 => ⟨S_, .f32⟩
  | 71 => ⟨S8192x512, .f32⟩
  | 72 => ⟨S8192x512, .f32⟩
  | 73 => ⟨S_, .f32⟩
  | 74 => ⟨S8192x512, .f32⟩
  | 75 => ⟨S8192x512, .f32⟩
  | 76 => ⟨S_, .f32⟩
  | 77 => ⟨S8192x512, .f32⟩
  | 78 => ⟨S8192x512, .f32⟩
  | 79 => ⟨S8192x512, .f32⟩
  | 80 => ⟨S8192x512, .f32⟩
  | 81 => ⟨S8192x512, .f32⟩
  | 82 => ⟨S8192x512, .f32⟩
  | 83 => ⟨S_, .f32⟩
  | 84 => ⟨S8192x512, .f32⟩
  | 85 => ⟨S8192x512, .f32⟩
  | 86 => ⟨S_, .f32⟩
  | 87 => ⟨S8192x512, .f32⟩
  | 88 => ⟨S8192x512, .f32⟩
  | 89 => ⟨S_, .f32⟩
  | 90 => ⟨S8192x512, .f32⟩
  | 91 => ⟨S8192x512, .f32⟩
  | 92 => ⟨S8192x512, .f32⟩
  | 93 => ⟨S8192x512, .f32⟩
  | 94 => ⟨S8192x512, .f32⟩
  | 95 => ⟨S8192x1024, .f32⟩
  | 96 => ⟨S8192x1024, .f32⟩
  | 97 => ⟨S_, .f32⟩
  | 98 => ⟨S8192x1024, .f32⟩
  | 99 => ⟨S8192x1024, .f32⟩
  | 100 => ⟨S_, .f32⟩
  | 101 => ⟨S8192x1024, .f32⟩
  | 102 => ⟨S8192x1024, .f32⟩
  | 103 => ⟨S_, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S_, .f32⟩
  | 113 => ⟨S8192x1024, .f32⟩
  | 114 => ⟨S8192x1024, .f32⟩
  | 115 => ⟨S_, .f32⟩
  | 116 => ⟨S8192x1024, .f32⟩
  | 117 => ⟨S8192x1024, .f32⟩
  | 118 => ⟨S_, .f32⟩
  | 119 => ⟨S8192x1024, .f32⟩
  | 120 => ⟨S8192x1024, .f32⟩
  | 121 => ⟨S8192x1024, .f32⟩
  | 122 => ⟨S8192x1024, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x512, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S_, .f32⟩
  | 5 => ⟨S8192, .f32⟩
  | 6 => ⟨S8192x1, .f32⟩
  | 7 => ⟨S_, .f32⟩
  | 8 => ⟨S8192x1, .f32⟩
  | 9 => ⟨S8192x1, .f32⟩
  | 10 => ⟨S_, .f32⟩
  | 11 => ⟨S8192x1, .f32⟩
  | 12 => ⟨S8192x1, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1024, .f32⟩
  | 19 => ⟨S8192x1024, .f32⟩
  | 20 => ⟨S1x1024, .f32⟩
  | 21 => ⟨S8192x1024, .f32⟩
  | 22 => ⟨S8192x1024, .f32⟩
  | 23 => ⟨S8192x1024, .f32⟩
  | 24 => ⟨S8192x1024, .f32⟩
  | 25 => ⟨S_, .f32⟩
  | 26 => ⟨S8192x1024, .f32⟩
  | 27 => ⟨S8192x1024, .f32⟩
  | 28 => ⟨S_, .f32⟩
  | 29 => ⟨S8192, .f32⟩
  | 30 => ⟨S_, .f32⟩
  | 31 => ⟨S8192, .f32⟩
  | 32 => ⟨S8192, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S8192, .f32⟩
  | 41 => ⟨S_, .f32⟩
  | 42 => ⟨S8192, .f32⟩
  | 43 => ⟨S8192, .f32⟩
  | 44 => ⟨S8192x1024, .f32⟩
  | 45 => ⟨S8192x1024, .f32⟩
  | 46 => ⟨S8192x1024, .f32⟩
  | 47 => ⟨S_, .f32⟩
  | 48 => ⟨S1024, .f32⟩
  | 49 => ⟨S1x1024, .f32⟩
  | 50 => ⟨S8192x1024, .f32⟩
  | 51 => ⟨S8192x1024, .f32⟩
  | 52 => ⟨S_, .f32⟩
  | 53 => ⟨S1024, .f32⟩
  | 54 => ⟨S8192x1024, .f32⟩
  | 55 => ⟨S_, .f32⟩
  | 56 => ⟨S8192, .f32⟩
  | 57 => ⟨S8192x1, .f32⟩
  | 58 => ⟨S8192x1024, .f32⟩
  | 59 => ⟨S8192x1024, .f32⟩
  | 60 => ⟨S8192x1, .f32⟩
  | 61 => ⟨S_, .f32⟩
  | 62 => ⟨S8192x1, .f32⟩
  | 63 => ⟨S8192x1, .f32⟩
  | 64 => ⟨S_, .f32⟩
  | 65 => ⟨S8192, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S_, .f32⟩
  | 75 => ⟨S1024, .f32⟩
  | 76 => ⟨S1x1024, .f32⟩
  | 77 => ⟨S8192x1024, .f32⟩
  | 78 => ⟨S8192x1024, .f32⟩
  | 79 => ⟨S8192x1024, .f32⟩
  | 80 => ⟨S8192x512, .f32⟩
  | 81 => ⟨S8192x1024, .f32⟩
  | 82 => ⟨S8192x1024, .f32⟩
  | 83 => ⟨S8192x1024, .f32⟩
  | 84 => ⟨S8192x512, .f32⟩
  | 85 => ⟨S8192x1024, .f32⟩
  | 86 => ⟨S8192x512, .f32⟩
  | 87 => ⟨S8192x512, .f32⟩
  | 88 => ⟨S8192x512, .f32⟩
  | 89 => ⟨S8192x512, .f32⟩
  | 90 => ⟨S8192x512, .f32⟩
  | 91 => ⟨S8192x512, .f32⟩
  | 92 => ⟨S8192x512, .f32⟩
  | 93 => ⟨S8192x512, .f32⟩
  | 94 => ⟨S8192x512, .f32⟩
  | 95 => ⟨S_, .f32⟩
  | 96 => ⟨S512, .f32⟩
  | 97 => ⟨S1x512, .f32⟩
  | 98 => ⟨S8192x512, .f32⟩
  | 99 => ⟨S8192x512, .f32⟩
  | 100 => ⟨S8192x512, .f32⟩
  | 101 => ⟨S8192x512, .f32⟩
  | 102 => ⟨S_, .f32⟩
  | 103 => ⟨S8192x512, .f32⟩
  | 104 => ⟨S8192x512, .f32⟩
  | 105 => ⟨S8192x512, .f32⟩
  | 106 => ⟨S_, .f32⟩
  | 107 => ⟨S8192x512, .f32⟩
  | 108 => ⟨S8192x512, .f32⟩
  | 109 => ⟨S8192x512, .f32⟩
  | 110 => ⟨S8192x512, .f32⟩
  | 111 => ⟨S8192x512, .f32⟩
  | 112 => ⟨S8192x512, .f32⟩
  | 113 => ⟨S8192x512, .f32⟩
  | 114 => ⟨S8192x512, .f32⟩
  | 115 => ⟨S8192x512, .f32⟩
  | 116 => ⟨S8192x512, .f32⟩
  | 117 => ⟨S8192x512, .f32⟩
  | 118 => ⟨S8192x512, .f32⟩
  | 119 => ⟨S8192x512, .f32⟩
  | 120 => ⟨S8192x512, .f32⟩
  | 121 => ⟨S8192x8x64, .f32⟩
  | 122 => ⟨S_, .f32⟩
  | 123 => ⟨S8192x8, .f32⟩
  | 124 => ⟨S8x8192, .f32⟩
  | 125 => ⟨S8192x512, .bf16⟩
  | 126 => ⟨S8192x512, .bf16⟩
  | 127 => ⟨S8192x512, .bf16⟩
  | _ => ⟨S8192x512, .f32⟩

abbrev hbmTy0_2 (i : Nat) : BufTy := match i % 128 with
  | 0 => ⟨S8192x1024, .bf16⟩
  | 1 => ⟨S8192x1024, .bf16⟩
  | 2 => ⟨S8192x1024, .bf16⟩
  | 3 => ⟨S8192x1024, .bf16⟩
  | 4 => ⟨S8192x512, .bf16⟩
  | 5 => ⟨S8192x1024, .bf16⟩
  | 6 => ⟨S8192x512, .bf16⟩
  | 7 => ⟨S8192x1024, .bf16⟩
  | 8 => ⟨S8192x512, .bf16⟩
  | 9 => ⟨S8192x512, .bf16⟩
  | 10 => ⟨S1x1024, .f32⟩
  | 11 => ⟨S1x1, .f32⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_v2_2 : Ref sig .tc := ⟨.hbm, 26, rfl⟩
abbrev main_call0_cst_1 : Ref sig .tc := ⟨.hbm, 27, rfl⟩
abbrev main_call0_v6 : Ref sig .tc := ⟨.hbm, 28, rfl⟩
abbrev main_call0_v7 : Ref sig .tc := ⟨.hbm, 29, rfl⟩
abbrev main_v2_1 : Ref sig .tc := ⟨.hbm, 30, rfl⟩
abbrev main_v2_0 : Ref sig .tc := ⟨.hbm, 31, rfl⟩
abbrev main_v3 : Ref sig .tc := ⟨.hbm, 32, rfl⟩
abbrev main_cst_1 : Ref sig .tc := ⟨.hbm, 33, rfl⟩
abbrev main_cst_2 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_3 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_4 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_cst_5 : Ref sig .tc := ⟨.hbm, 50, rfl⟩
abbrev main_v17 : Ref sig .tc := ⟨.hbm, 51, rfl⟩
abbrev main_v18 : Ref sig .tc := ⟨.hbm, 52, rfl⟩
abbrev main_cst_6 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_cst_7 : Ref sig .tc := ⟨.hbm, 57, rfl⟩
abbrev main_v22 : Ref sig .tc := ⟨.hbm, 58, rfl⟩
abbrev main_v23 : Ref sig .tc := ⟨.hbm, 59, rfl⟩
abbrev main_cst_8 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_9 : Ref sig .tc := ⟨.hbm, 70, rfl⟩
abbrev main_v33 : Ref sig .tc := ⟨.hbm, 71, rfl⟩
abbrev main_v34 : Ref sig .tc := ⟨.hbm, 72, rfl⟩
abbrev main_cst_10 : Ref sig .tc := ⟨.hbm, 73, rfl⟩
abbrev main_v35 : Ref sig .tc := ⟨.hbm, 74, rfl⟩
abbrev main_v36 : Ref sig .tc := ⟨.hbm, 75, rfl⟩
abbrev main_cst_11 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_v41_2 : Ref sig .tc := ⟨.hbm, 88, rfl⟩
abbrev main_call1_cst_1 : Ref sig .tc := ⟨.hbm, 89, rfl⟩
abbrev main_call1_v6 : Ref sig .tc := ⟨.hbm, 90, rfl⟩
abbrev main_call1_v7 : Ref sig .tc := ⟨.hbm, 91, rfl⟩
abbrev main_v41_1 : Ref sig .tc := ⟨.hbm, 92, rfl⟩
abbrev main_v41_0 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_cst_12 : Ref sig .tc := ⟨.hbm, 97, rfl⟩
abbrev main_v45 : Ref sig .tc := ⟨.hbm, 98, rfl⟩
abbrev main_v46 : Ref sig .tc := ⟨.hbm, 99, rfl⟩
abbrev main_cst_13 : Ref sig .tc := ⟨.hbm, 100, rfl⟩
abbrev main_v47 : Ref sig .tc := ⟨.hbm, 101, rfl⟩
abbrev main_v48 : Ref sig .tc := ⟨.hbm, 102, rfl⟩
abbrev main_cst_14 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_cst_15 : Ref sig .tc := ⟨.hbm, 112, rfl⟩
abbrev main_v57 : Ref sig .tc := ⟨.hbm, 113, rfl⟩
abbrev main_v58 : Ref sig .tc := ⟨.hbm, 114, rfl⟩
abbrev main_cst_16 : Ref sig .tc := ⟨.hbm, 115, rfl⟩
abbrev main_v59 : Ref sig .tc := ⟨.hbm, 116, rfl⟩
abbrev main_v60 : Ref sig .tc := ⟨.hbm, 117, rfl⟩
abbrev main_cst_17 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_cst_18 : Ref sig .tc := ⟨.hbm, 132, rfl⟩
abbrev main_v74 : Ref sig .tc := ⟨.hbm, 133, rfl⟩
abbrev main_v75 : Ref sig .tc := ⟨.hbm, 134, rfl⟩
abbrev main_cst_19 : Ref sig .tc := ⟨.hbm, 135, rfl⟩
abbrev main_v76 : Ref sig .tc := ⟨.hbm, 136, rfl⟩
abbrev main_v77 : Ref sig .tc := ⟨.hbm, 137, rfl⟩
abbrev main_cst_20 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_cst_21 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_22 : Ref sig .tc := ⟨.hbm, 153, rfl⟩
abbrev main_v91 : Ref sig .tc := ⟨.hbm, 154, rfl⟩
abbrev main_v92 : Ref sig .tc := ⟨.hbm, 155, rfl⟩
abbrev main_cst_23 : Ref sig .tc := ⟨.hbm, 156, rfl⟩
abbrev main_v93 : Ref sig .tc := ⟨.hbm, 157, rfl⟩
abbrev main_cst_24 : Ref sig .tc := ⟨.hbm, 158, rfl⟩
abbrev main_v94 : Ref sig .tc := ⟨.hbm, 159, rfl⟩
abbrev main_v95 : Ref sig .tc := ⟨.hbm, 160, rfl⟩
abbrev main_cst_25 : Ref sig .tc := ⟨.hbm, 161, rfl⟩
abbrev main_v96 : Ref sig .tc := ⟨.hbm, 162, rfl⟩
abbrev main_cst_26 : Ref sig .tc := ⟨.hbm, 163, rfl⟩
abbrev main_v97 : Ref sig .tc := ⟨.hbm, 164, rfl⟩
abbrev main_cst_27 : Ref sig .tc := ⟨.hbm, 165, rfl⟩
abbrev main_cst_28 : Ref sig .tc := ⟨.hbm, 166, rfl⟩
abbrev main_v98 : Ref sig .tc := ⟨.hbm, 167, rfl⟩
abbrev main_v99 : Ref sig .tc := ⟨.hbm, 168, rfl⟩
abbrev main_cst_29 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_cst_30 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_cst_31 : Ref sig .tc := ⟨.hbm, 180, rfl⟩
abbrev main_v109 : Ref sig .tc := ⟨.hbm, 181, rfl⟩
abbrev main_v110 : Ref sig .tc := ⟨.hbm, 182, rfl⟩
abbrev main_cst_32 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_cst_33 : Ref sig .tc := ⟨.hbm, 189, rfl⟩
abbrev main_v116 : Ref sig .tc := ⟨.hbm, 190, rfl⟩
abbrev main_v117 : Ref sig .tc := ⟨.hbm, 191, rfl⟩
abbrev main_cst_34 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_cst_35 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_call2_v0 : Ref sig .tc := ⟨.hbm, 216, rfl⟩
abbrev main_call2_v1 : Ref sig .tc := ⟨.hbm, 217, rfl⟩
abbrev main_call2_v2 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_cst_36 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_cst_37 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_cst_38 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_v160 : Ref sig .tc := ⟨.hbm, 242, rfl⟩
abbrev main_v161 : Ref sig .tc := ⟨.hbm, 243, rfl⟩
abbrev main_call3_v0 : Ref sig .tc := ⟨.hbm, 244, rfl⟩
abbrev main_call3_v1 : Ref sig .tc := ⟨.hbm, 245, rfl⟩
abbrev main_call3_v2 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_cst_39 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩

abbrev nD : Nat := 1
abbrev τ : Topo := Topo.v7x

variable {F : FTy → Type} [FloatOps F]
-- ==== Afwd.lean ====
abbrev S8192x512 : Shape := ⟨2, ![8192, 512]⟩
abbrev S8192x8 : Shape := ⟨2, ![8192, 8]⟩
abbrev S1x8 : Shape := ⟨2, ![1, 8]⟩
abbrev S_ : Shape := ⟨0, ![]⟩
abbrev S4x2x8192x128 : Shape := ⟨4, ![4, 2, 8192, 128]⟩
abbrev S8x8192 : Shape := ⟨2, ![8, 8192]⟩
abbrev S4x2x8192x1 : Shape := ⟨4, ![4, 2, 8192, 1]⟩
abbrev S8192x4x1x128 : Shape := ⟨4, ![8192, 4, 1, 128]⟩
abbrev S4x1x8192x128 : Shape := ⟨4, ![4, 1, 8192, 128]⟩
abbrev S8x8192x128 : Shape := ⟨3, ![8, 8192, 128]⟩
abbrev S16x512x4x128 : Shape := ⟨4, ![16, 512, 4, 128]⟩
abbrev S4x16x128x512 : Shape := ⟨4, ![4, 16, 128, 512]⟩
abbrev S4x16x2x512 : Shape := ⟨4, ![4, 16, 2, 512]⟩
abbrev S2x512x128 : Shape := ⟨3, ![2, 512, 128]⟩
abbrev S2x8192x128 : Shape := ⟨3, ![2, 8192, 128]⟩
abbrev S1x16x128x512 : Shape := ⟨4, ![1, 16, 128, 512]⟩
abbrev S512x128 : Shape := ⟨2, ![512, 128]⟩
abbrev S1x1x2x512 : Shape := ⟨4, ![1, 1, 2, 512]⟩
abbrev S2x128x512 : Shape := ⟨3, ![2, 128, 512]⟩
abbrev S1x512 : Shape := ⟨2, ![1, 512]⟩
abbrev S1x1024x128 : Shape := ⟨3, ![1, 1024, 128]⟩
abbrev S1024x128 : Shape := ⟨2, ![1024, 128]⟩
abbrev S1x512x128 : Shape := ⟨3, ![1, 512, 128]⟩
abbrev S1024x512 : Shape := ⟨2, ![1024, 512]⟩
abbrev S512 : Shape := ⟨1, ![512]⟩
abbrev S1x1x128x512 : Shape := ⟨4, ![1, 1, 128, 512]⟩
abbrev S128x512 : Shape := ⟨2, ![128, 512]⟩
abbrev S512x512 : Shape := ⟨2, ![512, 512]⟩
abbrev S1x128x512 : Shape := ⟨3, ![1, 128, 512]⟩
abbrev S2x512 : Shape := ⟨2, ![2, 512]⟩

abbrev nBuf : Space → Nat
  | .hbm => 132
  | .vmem => 11
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x8, .f32⟩
  | 4 => ⟨S1x8, .f32⟩
  | 5 => ⟨S_, .f32⟩
  | 6 => ⟨S8192x512, .f32⟩
  | 7 => ⟨S8192x512, .f32⟩
  | 8 => ⟨S8192x512, .bf16⟩
  | 9 => ⟨S8192x512, .bf16⟩
  | 10 => ⟨S8192x512, .bf16⟩
  | 11 => ⟨S8192x8, .f32⟩
  | 12 => ⟨S8192x8, .f32⟩
  | 13 => ⟨S_, .f32⟩
  | 14 => ⟨S8192x8, .f32⟩
  | 15 => ⟨S8192x8, .f32⟩
  | 16 => ⟨S8192x8, .f32⟩
  | 17 => ⟨S8192x8, .f32⟩
  | 18 => ⟨S8192x8, .f32⟩
  | 19 => ⟨S_, .f32⟩
  | 20 => ⟨S8192x8, .f32⟩
  | 21 => ⟨S8192x8, .f32⟩
  | 22 => ⟨S8192x8, .f32⟩
  | 23 => ⟨S8192x8, .f32⟩
  | 24 => ⟨S_, .f32⟩
  | 25 => ⟨S_, .f32⟩
  | 26 => ⟨S8192x8, .f32⟩
  | 27 => ⟨S4x2x8192x128, .i32⟩
  | 28 => ⟨S4x2x8192x128, .i32⟩
  | 29 => ⟨S_, .i32⟩
  | 30 => ⟨S4x2x8192x128, .i32⟩
  | 31 => ⟨S4x2x8192x128, .i1⟩
  | 32 => ⟨S_, .i32⟩
  | 33 => ⟨S4x2x8192x128, .i32⟩
  | 34 => ⟨S4x2x8192x128, .i1⟩
  | 35 => ⟨S_, .i32⟩
  | 36 => ⟨S4x2x8192x128, .i32⟩
  | 37 => ⟨S4x2x8192x128, .i1⟩
  | 38 => ⟨S4x2x8192x128, .i1⟩
  | 39 => ⟨S_, .i32⟩
  | 40 => ⟨S_, .i32⟩
  | 41 => ⟨S4x2x8192x128, .i32⟩
  | 42 => ⟨S4x2x8192x128, .i32⟩
  | 43 => ⟨S4x2x8192x128, .i32⟩
  | 44 => ⟨S4x2x8192x128, .i32⟩
  | 45 => ⟨S4x2x8192x128, .i32⟩
  | 46 => ⟨S8x8192, .f32⟩
  | 47 => ⟨S4x2x8192x1, .f32⟩
  | 48 => ⟨S_, .bf16⟩
  | 49 => ⟨S4x2x8192x128, .bf16⟩
  | 50 => ⟨S_, .bf16⟩
  | 51 => ⟨S4x2x8192x128, .bf16⟩
  | 52 => ⟨S4x2x8192x1, .bf16⟩
  | 53 => ⟨S4x2x8192x1, .f32⟩
  | 54 => ⟨S4x2x8192x1, .f32⟩
  | 55 => ⟨S_, .i32⟩
  | 56 => ⟨S4x2x8192x128, .i32⟩
  | 57 => ⟨S4x2x8192x128, .i1⟩
  | 58 => ⟨S4x2x8192x128, .bf16⟩
  | 59 => ⟨S4x2x8192x128, .bf16⟩
  | 60 => ⟨S_, .i32⟩
  | 61 => ⟨S4x2x8192x128, .i32⟩
  | 62 => ⟨S4x2x8192x128, .i1⟩
  | 63 => ⟨S4x2x8192x128, .bf16⟩
  | 64 => ⟨S_, .i32⟩
  | 65 => ⟨S4x2x8192x128, .i32⟩
  | 66 => ⟨S4x2x8192x128, .i1⟩
  | 67 => ⟨S4x2x8192x128, .bf16⟩
  | 68 => ⟨S_, .i32⟩
  | 69 => ⟨S4x2x8192x128, .i32⟩
  | 70 => ⟨S4x2x8192x128, .i1⟩
  | 71 => ⟨S4x2x8192x1, .bf16⟩
  | 72 => ⟨S4x2x8192x128, .bf16⟩
  | 73 => ⟨S4x2x8192x128, .bf16⟩
  | 74 => ⟨S4x2x8192x1, .bf16⟩
  | 75 => ⟨S4x2x8192x1, .f32⟩
  | 76 => ⟨S4x2x8192x1, .f32⟩
  | 77 => ⟨S_, .i32⟩
  | 78 => ⟨S4x2x8192x128, .i32⟩
  | 79 => ⟨S4x2x8192x128, .i1⟩
  | 80 => ⟨S4x2x8192x128, .bf16⟩
  | 81 => ⟨S4x2x8192x128, .bf16⟩
  | 82 => ⟨S_, .i32⟩
  | 83 => ⟨S4x2x8192x128, .i32⟩
  | 84 => ⟨S4x2x8192x128, .i1⟩
  | 85 => ⟨S4x2x8192x128, .bf16⟩
  | 86 => ⟨S_, .i32⟩
  | 87 => ⟨S4x2x8192x128, .i32⟩
  | 88 => ⟨S4x2x8192x128, .i1⟩
  | 89 => ⟨S4x2x8192x128, .bf16⟩
  | 90 => ⟨S_, .i32⟩
  | 91 => ⟨S4x2x8192x128, .i32⟩
  | 92 => ⟨S4x2x8192x128, .i1⟩
  | 93 => ⟨S4x2x8192x1, .bf16⟩
  | 94 => ⟨S4x2x8192x128, .bf16⟩
  | 95 => ⟨S4x2x8192x128, .bf16⟩
  | 96 => ⟨S4x2x8192x1, .bf16⟩
  | 97 => ⟨S4x2x8192x1, .f32⟩
  | 98 => ⟨S4x2x8192x1, .f32⟩
  | 99 => ⟨S_, .i32⟩
  | 100 => ⟨S4x2x8192x128, .i32⟩
  | 101 => ⟨S4x2x8192x128, .i1⟩
  | 102 => ⟨S4x2x8192x128, .bf16⟩
  | 103 => ⟨S4x2x8192x128, .bf16⟩
  | 104 => ⟨S_, .i32⟩
  | 105 => ⟨S4x2x8192x128, .i32⟩
  | 106 => ⟨S4x2x8192x128, .i1⟩
  | 107 => ⟨S4x2x8192x128, .bf16⟩
  | 108 => ⟨S_, .i32⟩
  | 109 => ⟨S4x2x8192x128, .i32⟩
  | 110 => ⟨S4x2x8192x128, .i1⟩
  | 111 => ⟨S4x2x8192x128, .bf16⟩
  | 112 => ⟨S_, .i32⟩
  | 113 => ⟨S4x2x8192x128, .i32⟩
  | 114 => ⟨S4x2x8192x128, .i1⟩
  | 115 => ⟨S4x2x8192x1, .bf16⟩
  | 116 => ⟨S4x2x8192x128, .bf16⟩
  | 117 => ⟨S4x2x8192x128, .bf16⟩
  | 118 => ⟨S8192x4x1x128, .bf16⟩
  | 119 => ⟨S4x1x8192x128, .bf16⟩
  | 120 => ⟨S4x2x8192x128, .bf16⟩
  | 121 => ⟨S4x2x8192x128, .bf16⟩
  | 122 => ⟨S8x8192x128, .bf16⟩
  | 123 => ⟨S8192x4x1x128, .bf16⟩
  | 124 => ⟨S4x1x8192x128, .bf16⟩
  | 125 => ⟨S4x2x8192x128, .bf16⟩
  | 126 => ⟨S4x2x8192x128, .bf16⟩
  | 127 => ⟨S8x8192x128, .bf16⟩
  | _ => ⟨S8192x512, .f32⟩

abbrev hbmTy0_1 (i : Nat) : BufTy := match i % 128 with
  | 0 => ⟨S16x512x4x128, .bf16⟩
  | 1 => ⟨S4x16x128x512, .bf16⟩
  | 2 => ⟨S8192x512, .f32⟩
  | 3 => ⟨S4x16x2x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S2x512x128, .bf16⟩
  | .local _ .vmem, ⟨1, _⟩ => ⟨S2x512x128, .bf16⟩
  | .local _ .vmem, ⟨2, _⟩ => ⟨S2x8192x128, .bf16⟩
  | .local _ .vmem, ⟨3, _⟩ => ⟨S2x8192x128, .bf16⟩
  | .local _ .vmem, ⟨4, _⟩ => ⟨S1x16x128x512, .bf16⟩
  | .local _ .vmem, ⟨5, _⟩ => ⟨S1x16x128x512, .bf16⟩
  | .local _ .vmem, ⟨6, _⟩ => ⟨S512x128, .f32⟩
  | .local _ .vmem, ⟨7, _⟩ => ⟨S512x128, .f32⟩
  | .local _ .vmem, ⟨8, _⟩ => ⟨S1x1x2x512, .f32⟩
  | .local _ .vmem, ⟨9, _⟩ => ⟨S1x1x2x512, .f32⟩
  | .local _ .vmem, ⟨10, _⟩ => ⟨S2x128x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_call0_cst : Ref sig .tc := ⟨.hbm, 24, rfl⟩
abbrev main_call0_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_c_5 : Ref sig .tc := ⟨.hbm, 40, rfl⟩
abbrev main_call2_v0 : Ref sig .tc := ⟨.hbm, 41, rfl⟩
abbrev main_call2_v1 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_call3_v0 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call6_v0 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_12 : Ref sig .tc := ⟨.hbm, 77, rfl⟩
abbrev main_v52 : Ref sig .tc := ⟨.hbm, 78, rfl⟩
abbrev main_v53 : Ref sig .tc := ⟨.hbm, 79, rfl⟩
abbrev main_call7_v0 : Ref sig .tc := ⟨.hbm, 80, rfl⟩
abbrev main_v54 : Ref sig .tc := ⟨.hbm, 81, rfl⟩
abbrev main_c_13 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call10_v0 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_16 : Ref sig .tc := ⟨.hbm, 99, rfl⟩
abbrev main_v68 : Ref sig .tc := ⟨.hbm, 100, rfl⟩
abbrev main_v69 : Ref sig .tc := ⟨.hbm, 101, rfl⟩
abbrev main_call11_v0 : Ref sig .tc := ⟨.hbm, 102, rfl⟩
abbrev main_v70 : Ref sig .tc := ⟨.hbm, 103, rfl⟩
abbrev main_c_17 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_19 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_call14_v0 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_call15_v0 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_call16_v0 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91_0 : Ref sig .tc := ⟨.hbm, 130, rfl⟩
abbrev main_v91_1 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_8 : BitVec 32 := 0#32
  let arg1 : BitVec 32 := BitVec.ofNat 32 (i 1).val
  let c0_i32 : BitVec 32 := 0#32
  let v7 : BitVec 1 := Scalar.cmpi .sgt arg1 c0_i32
  let v8 : BitVec 32 := Scalar.extui v7
  let c0_i32_4 : BitVec 32 := 0#32
  let v9 : BitVec 1 := Scalar.cmpi .slt arg1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg1 c2_i32
  let c0_i32_7 : BitVec 32 := 0#32
  let v19 : BitVec 1 := Scalar.cmpi .ne v18 c0_i32_7
  let v20 : BitVec 1 := Scalar.andi v17 v19
  let v6 : BitVec 32 := Scalar.divsi arg1 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_10 : BitVec 32 := 1#32
  ⟨c0_i32_8, v27, c1_i32_10⟩
def k0_mult1 (i : grid0.Coords) (k0_t1 : Fin (k0_t1_loop i).trips) : BitVec 32 :=
  let c2_i32_38 : BitVec 32 := 2#32
  let c0_i32_8 : BitVec 32 := 0#32
  let c1_i32_10 : BitVec 32 := 1#32
  let arg8 : BitVec 32 := Scf.iv c0_i32_8 c1_i32_10 k0_t1
  let v77 : BitVec 32 := Scalar.muli c2_i32_38 arg8
  let c512_i32 : BitVec 32 := 512#32
  let v78 : BitVec 32 := Scalar.muli v77 c512_i32
  v78
def k0_off1 (i : grid0.Coords) (k0_t1 : Fin (k0_t1_loop i).trips) : Fin 3 → Nat :=
  let c0_39 : Index := 0#32
  let c2_i32_38 : BitVec 32 := 2#32
  let c0_i32_8 : BitVec 32 := 0#32
  let c1_i32_10 : BitVec 32 := 1#32
  let arg8 : BitVec 32 := Scf.iv c0_i32_8 c1_i32_10 k0_t1
  let v77 : BitVec 32 := Scalar.muli c2_i32_38 arg8
  let c512_i32 : BitVec 32 := 512#32
  let v78 : BitVec 32 := Scalar.muli v77 c512_i32
  let v79 : BitVec 32 := v78
  let v80 : Index := Scalar.indexCast v79
  let c0_40 : Index := 0#32
  ![0, v80.toNat, 0]
def k0_off2 (i : grid0.Coords) (k0_t1 : Fin (k0_t1_loop i).trips) : Fin 3 → Nat :=
  let c1_45 : Index := 1#32
  let c2_i32_38 : BitVec 32 := 2#32
  let c0_i32_8 : BitVec 32 := 0#32
  let c1_i32_10 : BitVec 32 := 1#32
  let arg8 : BitVec 32 := Scf.iv c0_i32_8 c1_i32_10 k0_t1
  let v77 : BitVec 32 := Scalar.muli c2_i32_38 arg8
  let c512_i32 : BitVec 32 := 512#32
  let v78 : BitVec 32 := Scalar.muli v77 c512_i32
  let v79 : BitVec 32 := v78
  let v86 : Index := Scalar.indexCast v79
  let c0_46 : Index := 0#32
  ![1, v86.toNat, 0]
def k0_off3 (i : grid0.Coords) (k0_t1 : Fin (k0_t1_loop i).trips) : Fin 4 → Nat :=
  let c0_55 : Index := 0#32
  let c2_i32_38 : BitVec 32 := 2#32
  let c0_i32_8 : BitVec 32 := 0#32
  let c1_i32_10 : BitVec 32 := 1#32
  let arg8 : BitVec 32 := Scf.iv c0_i32_8 c1_i32_10 k0_t1
  let v77 : BitVec 32 := Scalar.muli c2_i32_38 arg8
  let v116 : Index := Scalar.indexCast v77
  let c0_56 : Index := 0#32
  let c0_57 : Index := 0#32
  ![0, v116.toNat, 0, 0]
def k0_off4 (i : grid0.Coords) (k0_t1 : Fin (k0_t1_loop i).trips) : Fin 4 → Nat :=
  let c0_60 : Index := 0#32
  let c2_i32_38 : BitVec 32 := 2#32
  let c0_i32_8 : BitVec 32 := 0#32
  let c1_i32_10 : BitVec 32 := 1#32
  let arg8 : BitVec 32 := Scf.iv c0_i32_8 c1_i32_10 k0_t1
  let v77 : BitVec 32 := Scalar.muli c2_i32_38 arg8
  let c1_i32_59 : BitVec 32 := 1#32
  let v122 : BitVec 32 := Scalar.addi v77 c1_i32_59
  let v123 : Index := Scalar.indexCast v122
  let c0_61 : Index := 0#32
  let c0_62 : Index := 0#32
  ![0, v123.toNat, 0, 0]
@[reducible] def k0_t2_loop (i : grid0.Coords) : Scf.Loop 32 :=
  let c0_i32_8 : BitVec 32 := 0#32
  let arg1 : BitVec 32 := BitVec.ofNat 32 (i 1).val
  let c0_i32 : BitVec 32 := 0#32
  let v7 : BitVec 1 := Scalar.cmpi .sgt arg1 c0_i32
  let v8 : BitVec 32 := Scalar.extui v7
  let c0_i32_4 : BitVec 32 := 0#32
  let v9 : BitVec 1 := Scalar.cmpi .slt arg1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg1 c2_i32
  let c0_i32_7 : BitVec 32 := 0#32
  let v19 : BitVec 1 := Scalar.cmpi .ne v18 c0_i32_7
  let v20 : BitVec 1 := Scalar.andi v17 v19
  let v6 : BitVec 32 := Scalar.divsi arg1 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let v24 : BitVec 32 := Scalar.addi c0_i32_8 v23
  let c1_i32_11 : BitVec 32 := 1#32
  ⟨v27, v24, c1_i32_11⟩
def k0_mult2 (i : grid0.Coords) (k0_t2 : Fin (k0_t2_loop i).trips) : BitVec 32 :=
  let c2_i32_38 : BitVec 32 := 2#32
  let c0_i32_8 : BitVec 32 := 0#32
  let arg1 : BitVec 32 := BitVec.ofNat 32 (i 1).val
  let c0_i32 : BitVec 32 := 0#32
  let v7 : BitVec 1 := Scalar.cmpi .sgt arg1 c0_i32
  let v8 : BitVec 32 := Scalar.extui v7
  let c0_i32_4 : BitVec 32 := 0#32
  let v9 : BitVec 1 := Scalar.cmpi .slt arg1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg1 c2_i32
  let c0_i32_7 : BitVec 32 := 0#32
  let v19 : BitVec 1 := Scalar.cmpi .ne v18 c0_i32_7
  let v20 : BitVec 1 := Scalar.andi v17 v19
  let v6 : BitVec 32 := Scalar.divsi arg1 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg8 : BitVec 32 := Scf.iv v27 c1_i32_11 k0_t2
  let v77 : BitVec 32 := Scalar.muli c2_i32_38 arg8
  let c512_i32 : BitVec 32 := 512#32
  let v78 : BitVec 32 := Scalar.muli v77 c512_i32
  v78
def k0_off5 (i : grid0.Coords) (k0_t2 : Fin (k0_t2_loop i).trips) : Fin 3 → Nat :=
  let c0_39 : Index := 0#32
  let c2_i32_38 : BitVec 32 := 2#32
  let c0_i32_8 : BitVec 32 := 0#32
  let arg1 : BitVec 32 := BitVec.ofNat 32 (i 1).val
  let c0_i32 : BitVec 32 := 0#32
  let v7 : BitVec 1 := Scalar.cmpi .sgt arg1 c0_i32
  let v8 : BitVec 32 := Scalar.extui v7
  let c0_i32_4 : BitVec 32 := 0#32
  let v9 : BitVec 1 := Scalar.cmpi .slt arg1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg1 c2_i32
  let c0_i32_7 : BitVec 32 := 0#32
  let v19 : BitVec 1 := Scalar.cmpi .ne v18 c0_i32_7
  let v20 : BitVec 1 := Scalar.andi v17 v19
  let v6 : BitVec 32 := Scalar.divsi arg1 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg8 : BitVec 32 := Scf.iv v27 c1_i32_11 k0_t2
  let v77 : BitVec 32 := Scalar.muli c2_i32_38 arg8
  let c512_i32 : BitVec 32 := 512#32
  let v78 : BitVec 32 := Scalar.muli v77 c512_i32
  let v79 : BitVec 32 := v78
  let v80 : Index := Scalar.indexCast v79
  let c0_40 : Index := 0#32
  ![0, v80.toNat, 0]
def k0_off6 (i : grid0.Coords) (k0_t2 : Fin (k0_t2_loop i).trips) : Fin 3 → Nat :=
  let c1_45 : Index := 1#32
  let c2_i32_38 : BitVec 32 := 2#32
  let c0_i32_8 : BitVec 32 := 0#32
  let arg1 : BitVec 32 := BitVec.ofNat 32 (i 1).val
  let c0_i32 : BitVec 32 := 0#32
  let v7 : BitVec 1 := Scalar.cmpi .sgt arg1 c0_i32
  let v8 : BitVec 32 := Scalar.extui v7
  let c0_i32_4 : BitVec 32 := 0#32
  let v9 : BitVec 1 := Scalar.cmpi .slt arg1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg1 c2_i32
  let c0_i32_7 : BitVec 32 := 0#32
  let v19 : BitVec 1 := Scalar.cmpi .ne v18 c0_i32_7
  let v20 : BitVec 1 := Scalar.andi v17 v19
  let v6 : BitVec 32 := Scalar.divsi arg1 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg8 : BitVec 32 := Scf.iv v27 c1_i32_11 k0_t2
  let v77 : BitVec 32 := Scalar.muli c2_i32_38 arg8
  let c512_i32 : BitVec 32 := 512#32
  let v78 : BitVec 32 := Scalar.muli v77 c512_i32
  let v79 : BitVec 32 := v78
  let v86 : Index := Scalar.indexCast v79
  let c0_46 : Index := 0#32
  ![1, v86.toNat, 0]
def k0_off7 (i : grid0.Coords) (k0_t2 : Fin (k0_t2_loop i).trips) : Fin 4 → Nat :=
  let c0_55 : Index := 0#32
  let c2_i32_38 : BitVec 32 := 2#32
  let c0_i32_8 : BitVec 32 := 0#32
  let arg1 : BitVec 32 := BitVec.ofNat 32 (i 1).val
  let c0_i32 : BitVec 32 := 0#32
  let v7 : BitVec 1 := Scalar.cmpi .sgt arg1 c0_i32
  let v8 : BitVec 32 := Scalar.extui v7
  let c0_i32_4 : BitVec 32 := 0#32
  let v9 : BitVec 1 := Scalar.cmpi .slt arg1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg1 c2_i32
  let c0_i32_7 : BitVec 32 := 0#32
  let v19 : BitVec 1 := Scalar.cmpi .ne v18 c0_i32_7
  let v20 : BitVec 1 := Scalar.andi v17 v19
  let v6 : BitVec 32 := Scalar.divsi arg1 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg8 : BitVec 32 := Scf.iv v27 c1_i32_11 k0_t2
  let v77 : BitVec 32 := Scalar.muli c2_i32_38 arg8
  let v116 : Index := Scalar.indexCast v77
  let c0_56 : Index := 0#32
  let c0_57 : Index := 0#32
  ![0, v116.toNat, 0, 0]
def k0_off8 (i : grid0.Coords) (k0_t2 : Fin (k0_t2_loop i).trips) : Fin 4 → Nat :=
  let c0_60 : Index := 0#32
  let c2_i32_38 : BitVec 32 := 2#32
  let c0_i32_8 : BitVec 32 := 0#32
  let arg1 : BitVec 32 := BitVec.ofNat 32 (i 1).val
  let c0_i32 : BitVec 32 := 0#32
  let v7 : BitVec 1 := Scalar.cmpi .sgt arg1 c0_i32
  let v8 : BitVec 32 := Scalar.extui v7
  let c0_i32_4 : BitVec 32 := 0#32
  let v9 : BitVec 1 := Scalar.cmpi .slt arg1 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg1 c2_i32
  let c0_i32_7 : BitVec 32 := 0#32
  let v19 : BitVec 1 := Scalar.cmpi .ne v18 c0_i32_7
  let v20 : BitVec 1 := Scalar.andi v17 v19
  let v6 : BitVec 32 := Scalar.divsi arg1 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg8 : BitVec 32 := Scf.iv v27 c1_i32_11 k0_t2
  let v77 : BitVec 32 := Scalar.muli c2_i32_38 arg8
  let c1_i32_59 : BitVec 32 := 1#32
  let v122 : BitVec 32 := Scalar.addi v77 c1_i32_59
  let v123 : Index := Scalar.indexCast v122
  let c0_61 : Index := 0#32
  let c0_62 : Index := 0#32
  ![0, v123.toNat, 0, 0]
@[reducible] def k0_t3_loop (i : grid0.Coords) : Scf.Loop 32 :=
  let c0_i32_18 : BitVec 32 := 0#32
  let arg1 : BitVec 32 := BitVec.ofNat 32 (i 1).val
  let c2_i32_12 : BitVec 32 := 2#32
  let c0_i32_13 : BitVec 32 := 0#32
  let v30 : BitVec 1 := Scalar.cmpi .eq c2_i32_12 c0_i32_13
  let c1_i32_14 : BitVec 32 := 1#32
  let v31 : BitVec 32 := Scalar.select v30 c1_i32_14 c2_i32_12
  let v32 : BitVec 32 := Scalar.remsi arg1 v31
  let c0_i32_16 : BitVec 32 := 0#32
  let v34 : BitVec 1 := Scalar.cmpi .slt v32 c0_i32_16
  let c0_i32_17 : BitVec 32 := 0#32
  let v35 : BitVec 1 := Scalar.cmpi .slt v31 c0_i32_17
  let v36 : BitVec 1 := Scalar.xori v34 v35
  let c0_i32_15 : BitVec 32 := 0#32
  let v33 : BitVec 1 := Scalar.cmpi .ne v32 c0_i32_15
  let v37 : BitVec 1 := Scalar.andi v36 v33
  let v38 : BitVec 32 := Scalar.addi v32 v31
  let v39 : BitVec 32 := Scalar.select v37 v38 v32
  let v40 : BitVec 32 := Scalar.subi v39 c0_i32_18
  let c1_i32_19 : BitVec 32 := 1#32
  let v42 : BitVec 32 := Scalar.divsi v40 c1_i32_19
  let v43 : BitVec 32 := Scalar.muli v42 c1_i32_19
  let v44 : BitVec 32 := Scalar.addi c0_i32_18 v43
  let c1_i32_20 : BitVec 32 := 1#32
  ⟨c0_i32_18, v44, c1_i32_20⟩
def k0_mult3 (i : grid0.Coords) : BitVec 32 :=
  let arg1 : BitVec 32 := BitVec.ofNat 32 (i 1).val
  let c1_i32_38 : BitVec 32 := 1#32
  let v77 : BitVec 32 := Scalar.subi arg1 c1_i32_38
  let c512_i32 : BitVec 32 := 512#32
  let v78 : BitVec 32 := Scalar.muli v77 c512_i32
  v78
def k0_off9 (i : grid0.Coords) : Fin 3 → Nat :=
  let c0_39 : Index := 0#32
  let arg1 : BitVec 32 := BitVec.ofNat 32 (i 1).val
  let c1_i32_38 : BitVec 32 := 1#32
  let v77 : BitVec 32 := Scalar.subi arg1 c1_i32_38
  let c512_i32 : BitVec 32 := 512#32
  let v78 : BitVec 32 := Scalar.muli v77 c512_i32
  let v79 : BitVec 32 := v78
  let v80 : Index := Scalar.indexCast v79
  let c0_40 : Index := 0#32
  ![0, v80.toNat, 0]
def k0_off10 (i : grid0.Coords) : Fin 3 → Nat :=
  let c1_45 : Index := 1#32
  let arg1 : BitVec 32 := BitVec.ofNat 32 (i 1).val
  let c1_i32_38 : BitVec 32 := 1#32
  let v77 : BitVec 32 := Scalar.subi arg1 c1_i32_38
  let c512_i32 : BitVec 32 := 512#32
  let v78 : BitVec 32 := Scalar.muli v77 c512_i32
  let v79 : BitVec 32 := v78
  let v86 : Index := Scalar.indexCast v79
  let c0_46 : Index := 0#32
  ![1, v86.toNat, 0]
def k0_off11 (i : grid0.Coords) : Fin 4 → Nat :=
  let c0_59 : Index := 0#32
  let arg1 : BitVec 32 := BitVec.ofNat 32 (i 1).val
  let c1_i32_38 : BitVec 32 := 1#32
  let v77 : BitVec 32 := Scalar.subi arg1 c1_i32_38
  let v128 : Index := Scalar.indexCast v77
  let c0_60 : Index := 0#32
  let c0_61 : Index := 0#32
  ![0, v128.toNat, 0, 0]
def k0_off12 (i : grid0.Coords) : Fin 4 → Nat :=
  let c0_64 : Index := 0#32
  let arg1 : BitVec 32 := BitVec.ofNat 32 (i 1).val
  let c1_i32_38 : BitVec 32 := 1#32
  let v77 : BitVec 32 := Scalar.subi arg1 c1_i32_38
  let c1_i32_63 : BitVec 32 := 1#32
  let v134 : BitVec 32 := Scalar.addi v77 c1_i32_63
  let v135 : Index := Scalar.indexCast v134
  let c0_65 : Index := 0#32
  let c0_66 : Index := 0#32
  ![0, v135.toNat, 0, 0]
@[reducible] def k0_t4_loop (i : grid0.Coords) : Scf.Loop 32 :=
  let c0_i32_18 : BitVec 32 := 0#32
  let arg1 : BitVec 32 := BitVec.ofNat 32 (i 1).val
  let c2_i32_12 : BitVec 32 := 2#32
  let c0_i32_13 : BitVec 32 := 0#32
  let v30 : BitVec 1 := Scalar.cmpi .eq c2_i32_12 c0_i32_13
  let c1_i32_14 : BitVec 32 := 1#32
  let v31 : BitVec 32 := Scalar.select v30 c1_i32_14 c2_i32_12
  let v32 : BitVec 32 := Scalar.remsi arg1 v31
  let c0_i32_16 : BitVec 32 := 0#32
  let v34 : BitVec 1 := Scalar.cmpi .slt v32 c0_i32_16
  let c0_i32_17 : BitVec 32 := 0#32
  let v35 : BitVec 1 := Scalar.cmpi .slt v31 c0_i32_17
  let v36 : BitVec 1 := Scalar.xori v34 v35
  let c0_i32_15 : BitVec 32 := 0#32
  let v33 : BitVec 1 := Scalar.cmpi .ne v32 c0_i32_15
  let v37 : BitVec 1 := Scalar.andi v36 v33
  let v38 : BitVec 32 := Scalar.addi v32 v31
  let v39 : BitVec 32 := Scalar.select v37 v38 v32
  let v40 : BitVec 32 := Scalar.subi v39 c0_i32_18
  let c1_i32_19 : BitVec 32 := 1#32
  let v42 : BitVec 32 := Scalar.divsi v40 c1_i32_19
  let v43 : BitVec 32 := Scalar.muli v42 c1_i32_19
  let v44 : BitVec 32 := Scalar.addi c0_i32_18 v43
  let v41 : BitVec 32 := Scalar.addi c0_i32_18 v40
  let c1_i32_21 : BitVec 32 := 1#32
  ⟨v44, v41, c1_i32_21⟩
def k0_mult4 (i : grid0.Coords) : BitVec 32 :=
  let arg1 : BitVec 32 := BitVec.ofNat 32 (i 1).val
  let c1_i32_38 : BitVec 32 := 1#32
  let v77 : BitVec 32 := Scalar.subi arg1 c1_i32_38
  let c512_i32 : BitVec 32 := 512#32
  let v78 : BitVec 32 := Scalar.muli v77 c512_i32
  v78
def k0_off13 (i : grid0.Coords) : Fin 3 → Nat :=
  let c0_39 : Index := 0#32
  let arg1 : BitVec 32 := BitVec.ofNat 32 (i 1).val
  let c1_i32_38 : BitVec 32 := 1#32
  let v77 : BitVec 32 := Scalar.subi arg1 c1_i32_38
  let c512_i32 : BitVec 32 := 512#32
  let v78 : BitVec 32 := Scalar.muli v77 c512_i32
  let v79 : BitVec 32 := v78
  let v80 : Index := Scalar.indexCast v79
  let c0_40 : Index := 0#32
  ![0, v80.toNat, 0]
def k0_off14 (i : grid0.Coords) : Fin 3 → Nat :=
  let c1_45 : Index := 1#32
  let arg1 : BitVec 32 := BitVec.ofNat 32 (i 1).val
  let c1_i32_38 : BitVec 32 := 1#32
  let v77 : BitVec 32 := Scalar.subi arg1 c1_i32_38
  let c512_i32 : BitVec 32 := 512#32
  let v78 : BitVec 32 := Scalar.muli v77 c512_i32
  let v79 : BitVec 32 := v78
  let v86 : Index := Scalar.indexCast v79
  let c0_46 : Index := 0#32
  ![1, v86.toNat, 0]
def k0_off15 (i : grid0.Coords) : Fin 4 → Nat :=
  let c0_59 : Index := 0#32
  let arg1 : BitVec 32 := BitVec.ofNat 32 (i 1).val
  let c1_i32_38 : BitVec 32 := 1#32
  let v77 : BitVec 32 := Scalar.subi arg1 c1_i32_38
  let v128 : Index := Scalar.indexCast v77
  let c0_60 : Index := 0#32
  let c0_61 : Index := 0#32
  ![0, v128.toNat, 0, 0]
def k0_off16 (i : grid0.Coords) : Fin 4 → Nat :=
  let c0_64 : Index := 0#32
  let arg1 : BitVec 32 := BitVec.ofNat 32 (i 1).val
  let c1_i32_38 : BitVec 32 := 1#32
  let v77 : BitVec 32 := Scalar.subi arg1 c1_i32_38
  let c1_i32_63 : BitVec 32 := 1#32
  let v134 : BitVec 32 := Scalar.addi v77 c1_i32_63
  let v135 : Index := Scalar.indexCast v134
  let c0_65 : Index := 0#32
  let c0_66 : Index := 0#32
  ![0, v135.toNat, 0, 0]
@[reducible] def k0_t5_loop (i : grid0.Coords) : Scf.Loop 32 :=
  let c0_i32_23 : BitVec 32 := 0#32
  let c1_i32_22 : BitVec 32 := 1#32
  let arg1 : BitVec 32 := BitVec.ofNat 32 (i 1).val
  let c2_i32_12 : BitVec 32 := 2#32
  let c0_i32_13 : BitVec 32 := 0#32
  let v30 : BitVec 1 := Scalar.cmpi .eq c2_i32_12 c0_i32_13
  let c1_i32_14 : BitVec 32 := 1#32
  let v31 : BitVec 32 := Scalar.select v30 c1_i32_14 c2_i32_12
  let v32 : BitVec 32 := Scalar.remsi arg1 v31
  let c0_i32_16 : BitVec 32 := 0#32
  let v34 : BitVec 1 := Scalar.cmpi .slt v32 c0_i32_16
  let c0_i32_17 : BitVec 32 := 0#32
  let v35 : BitVec 1 := Scalar.cmpi .slt v31 c0_i32_17
  let v36 : BitVec 1 := Scalar.xori v34 v35
  let c0_i32_15 : BitVec 32 := 0#32
  let v33 : BitVec 1 := Scalar.cmpi .ne v32 c0_i32_15
  let v37 : BitVec 1 := Scalar.andi v36 v33
  let v38 : BitVec 32 := Scalar.addi v32 v31
  let v39 : BitVec 32 := Scalar.select v37 v38 v32
  let v47 : BitVec 32 := Scalar.subi c1_i32_22 v39
  let v48 : BitVec 32 := Scalar.subi v47 c0_i32_23
  let c1_i32_24 : BitVec 32 := 1#32
  let v50 : BitVec 32 := Scalar.divsi v48 c1_i32_24
  let v51 : BitVec 32 := Scalar.muli v50 c1_i32_24
  let v52 : BitVec 32 := Scalar.addi c0_i32_23 v51
  let c1_i32_25 : BitVec 32 := 1#32
  ⟨c0_i32_23, v52, c1_i32_25⟩
def k0_mult5 (i : grid0.Coords) : BitVec 32 :=
  let arg1 : BitVec 32 := BitVec.ofNat 32 (i 1).val
  let c512_i32 : BitVec 32 := 512#32
  let v77 : BitVec 32 := Scalar.muli arg1 c512_i32
  v77
def k0_off17 (i : grid0.Coords) : Fin 3 → Nat :=
  let c0_38 : Index := 0#32
  let arg1 : BitVec 32 := BitVec.ofNat 32 (i 1).val
  let c512_i32 : BitVec 32 := 512#32
  let v77 : BitVec 32 := Scalar.muli arg1 c512_i32
  let v78 : BitVec 32 := v77
  let v79 : Index := Scalar.indexCast v78
  let c0_39 : Index := 0#32
  ![0, v79.toNat, 0]
def k0_off18 (i : grid0.Coords) : Fin 3 → Nat :=
  let c1_44 : Index := 1#32
  let arg1 : BitVec 32 := BitVec.ofNat 32 (i 1).val
  let c512_i32 : BitVec 32 := 512#32
  let v77 : BitVec 32 := Scalar.muli arg1 c512_i32
  let v78 : BitVec 32 := v77
  let v85 : Index := Scalar.indexCast v78
  let c0_45 : Index := 0#32
  ![1, v85.toNat, 0]
def k0_off19 (i : grid0.Coords) : Fin 4 → Nat :=
  let c0_58 : Index := 0#32
  let arg1 : BitVec 32 := BitVec.ofNat 32 (i 1).val
  let v127 : Index := Scalar.indexCast arg1
  let c0_59 : Index := 0#32
  let c0_60 : Index := 0#32
  ![0, v127.toNat, 0, 0]
@[reducible] def k0_t6_loop (i : grid0.Coords) : Scf.Loop 32 :=
  let c0_i32_23 : BitVec 32 := 0#32
  let c1_i32_22 : BitVec 32 := 1#32
  let arg1 : BitVec 32 := BitVec.ofNat 32 (i 1).val
  let c2_i32_12 : BitVec 32 := 2#32
  let c0_i32_13 : BitVec 32 := 0#32
  let v30 : BitVec 1 := Scalar.cmpi .eq c2_i32_12 c0_i32_13
  let c1_i32_14 : BitVec 32 := 1#32
  let v31 : BitVec 32 := Scalar.select v30 c1_i32_14 c2_i32_12
  let v32 : BitVec 32 := Scalar.remsi arg1 v31
  let c0_i32_16 : BitVec 32 := 0#32
  let v34 : BitVec 1 := Scalar.cmpi .slt v32 c0_i32_16
  let c0_i32_17 : BitVec 32 := 0#32
  let v35 : BitVec 1 := Scalar.cmpi .slt v31 c0_i32_17
  let v36 : BitVec 1 := Scalar.xori v34 v35
  let c0_i32_15 : BitVec 32 := 0#32
  let v33 : BitVec 1 := Scalar.cmpi .ne v32 c0_i32_15
  let v37 : BitVec 1 := Scalar.andi v36 v33
  let v38 : BitVec 32 := Scalar.addi v32 v31
  let v39 : BitVec 32 := Scalar.select v37 v38 v32
  let v47 : BitVec 32 := Scalar.subi c1_i32_22 v39
  let v48 : BitVec 32 := Scalar.subi v47 c0_i32_23
  let c1_i32_24 : BitVec 32 := 1#32
  let v50 : BitVec 32 := Scalar.divsi v48 c1_i32_24
  let v51 : BitVec 32 := Scalar.muli v50 c1_i32_24
  let v52 : BitVec 32 := Scalar.addi c0_i32_23 v51
  let v49 : BitVec 32 := Scalar.addi c0_i32_23 v48
  let c1_i32_26 : BitVec 32 := 1#32
  ⟨v52, v49, c1_i32_26⟩
def k0_mult6 (i : grid0.Coords) : BitVec 32 :=
  let arg1 : BitVec 32 := BitVec.ofNat 32 (i 1).val
  let c512_i32 : BitVec 32 := 512#32
  let v77 : BitVec 32 := Scalar.muli arg1 c512_i32
  v77
def k0_off20 (i : grid0.Coords) : Fin 3 → Nat :=
  let c0_38 : Index := 0#32
  let arg1 : BitVec 32 := BitVec.ofNat 32 (i 1).val
  let c512_i32 : BitVec 32 := 512#32
  let v77 : BitVec 32 := Scalar.muli arg1 c512_i32
  let v78 : BitVec 32 := v77
  let v79 : Index := Scalar.indexCast v78
  let c0_39 : Index := 0#32
  ![0, v79.toNat, 0]
def k0_off21 (i : grid0.Coords) : Fin 3 → Nat :=
  let c1_44 : Index := 1#32
  let arg1 : BitVec 32 := BitVec.ofNat 32 (i 1).val
  let c512_i32 : BitVec 32 := 512#32
  let v77 : BitVec 32 := Scalar.muli arg1 c512_i32
  let v78 : BitVec 32 := v77
  let v85 : Index := Scalar.indexCast v78
  let c0_45 : Index := 0#32
  ![1, v85.toNat, 0]
def k0_off22 (i : grid0.Coords) : Fin 4 → Nat :=
  let c0_58 : Index := 0#32
  let arg1 : BitVec 32 := BitVec.ofNat 32 (i 1).val
  let v127 : Index := Scalar.indexCast arg1
  let c0_59 : Index := 0#32
  let c0_60 : Index := 0#32
  ![0, v127.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AfwdRefIdeal.lean ====
abbrev S8192x512 : Shape := ⟨2, ![8192, 512]⟩
abbrev S8192x8 : Shape := ⟨2, ![8192, 8]⟩
abbrev S1x8 : Shape := ⟨2, ![1, 8]⟩
abbrev S_ : Shape := ⟨0, ![]⟩
abbrev S8192x8x64 : Shape := ⟨3, ![8192, 8, 64]⟩
abbrev S8x8192x8192 : Shape := ⟨3, ![8, 8192, 8192]⟩
abbrev S8x8192 : Shape := ⟨2, ![8, 8192]⟩
abbrev S8x8192x1 : Shape := ⟨3, ![8, 8192, 1]⟩
abbrev S8x1x8192 : Shape := ⟨3, ![8, 1, 8192]⟩
abbrev S8x64x8192 : Shape := ⟨3, ![8, 64, 8192]⟩
abbrev S4x2x16x512 : Shape := ⟨4, ![4, 2, 16, 512]⟩
abbrev S4x16x2x512 : Shape := ⟨4, ![4, 16, 2, 512]⟩

abbrev nBuf : Space → Nat
  | .hbm => 77
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x8, .f32⟩
  | .hbm, ⟨4, _⟩ => ⟨S1x8, .f32⟩
  | .hbm, ⟨5, _⟩ => ⟨S8192x8, .f32⟩
  | .hbm, ⟨6, _⟩ => ⟨S8192x8, .f32⟩
  | .hbm, ⟨7, _⟩ => ⟨S8192x8, .f32⟩
  | .hbm, ⟨8, _⟩ => ⟨S_, .f32⟩
  | .hbm, ⟨9, _⟩ => ⟨S8192x8, .f32⟩
  | .hbm, ⟨10, _⟩ => ⟨S8192x8, .f32⟩
  | .hbm, ⟨11, _⟩ => ⟨S8192x8, .f32⟩
  | .hbm, ⟨12, _⟩ => ⟨S8192x8, .f32⟩
  | .hbm, ⟨13, _⟩ => ⟨S8192x8, .i1⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S_, .f32⟩
  | .hbm, ⟨24, _⟩ => ⟨S_, .f32⟩
  | .hbm, ⟨25, _⟩ => ⟨S8192x8, .f32⟩
  | .hbm, ⟨26, _⟩ => ⟨S8192x8x64, .f32⟩
  | .hbm, ⟨27, _⟩ => ⟨S8192x8x64, .f32⟩
  | .hbm, ⟨28, _⟩ => ⟨S8192x8x64, .f32⟩
  | .hbm, ⟨29, _⟩ => ⟨S8x8192x8192, .f32⟩
  | .hbm, ⟨30, _⟩ => ⟨S_, .f32⟩
  | .hbm, ⟨31, _⟩ => ⟨S8x8192x8192, .f32⟩
  | .hbm, ⟨32, _⟩ => ⟨S8x8192x8192, .f32⟩
  | .hbm, ⟨33, _⟩ => ⟨S8x8192, .f32⟩
  | .hbm, ⟨34, _⟩ => ⟨S8x8192x1, .f32⟩
  | .hbm, ⟨35, _⟩ => ⟨S8x8192x8192, .f32⟩
  | .hbm, ⟨36, _⟩ => ⟨S8x8192x8192, .f32⟩
  | .hbm, ⟨37, _⟩ => ⟨S8x8192, .f32⟩
  | .hbm, ⟨38, _⟩ => ⟨S8x1x8192, .f32⟩
  | .hbm, ⟨39, _⟩ => ⟨S8x8192x8192, .f32⟩
  | .hbm, ⟨40, _⟩ => ⟨S8x8192x8192, .f32⟩
  | .hbm, ⟨41, _⟩ => ⟨S8x8192x8192, .i32⟩
  | .hbm, ⟨42, _⟩ => ⟨S8x8192x8192, .i32⟩
  | .hbm, ⟨43, _⟩ => ⟨S8x8192x8192, .i1⟩
  | .hbm, ⟨44, _⟩ => ⟨S_, .f32⟩
  | .hbm, ⟨45, _⟩ => ⟨S_, .f32⟩
  | .hbm, ⟨46, _⟩ => ⟨S8x8192x8192, .f32⟩
  | .hbm, ⟨47, _⟩ => ⟨S8x8192x8192, .f32⟩
  | .hbm, ⟨48, _⟩ => ⟨S_, .f32⟩
  | .hbm, ⟨49, _⟩ => ⟨S8x8192, .f32⟩
  | .hbm, ⟨50, _⟩ => ⟨S_, .f32⟩
  | .hbm, ⟨51, _⟩ => ⟨S8x8192, .f32⟩
  | .hbm, ⟨52, _⟩ => ⟨S8x8192, .f32⟩
  | .hbm, ⟨53, _⟩ => ⟨S8x8192x1, .f32⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S_, .f32⟩
  | .hbm, ⟨58, _⟩ => ⟨S8x8192, .f32⟩
  | .hbm, ⟨59, _⟩ => ⟨S8x8192x1, .f32⟩
  | .hbm, ⟨60, _⟩ => ⟨S8x8192x8192, .f32⟩
  | .hbm, ⟨61, _⟩ => ⟨S8x8192x8192, .f32⟩
  | .hbm, ⟨62, _⟩ => ⟨S8x64x8192, .f32⟩
  | .hbm, ⟨63, _⟩ => ⟨S8192x8x64, .f32⟩
  | .hbm, ⟨64, _⟩ => ⟨S8192x512, .f32⟩
  | .hbm, ⟨65, _⟩ => ⟨S_, .f32⟩
  | .hbm, ⟨66, _⟩ => ⟨S8x8192, .f32⟩
  | .hbm, ⟨67, _⟩ => ⟨S8x8192x1, .f32⟩
  | .hbm, ⟨68, _⟩ => ⟨S8x8192x8192, .f32⟩
  | .hbm, ⟨69, _⟩ => ⟨S8x8192x8192, .f32⟩
  | .hbm, ⟨70, _⟩ => ⟨S8x8192x8192, .f32⟩
  | .hbm, ⟨71, _⟩ => ⟨S_, .f32⟩
  | .hbm, ⟨72, _⟩ => ⟨S8x8192, .f32⟩
  | .hbm, ⟨73, _⟩ => ⟨S8x8192, .f32⟩
  | .hbm, ⟨74, _⟩ => ⟨S8x8192, .f32⟩
  | .hbm, ⟨75, _⟩ => ⟨S4x2x16x512, .f32⟩
  | .hbm, ⟨76, _⟩ => ⟨S4x16x2x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v2 : Ref sig .tc := ⟨.hbm, 22, rfl⟩
abbrev main_call1_call0_cst : Ref sig .tc := ⟨.hbm, 23, rfl⟩
abbrev main_call1_call0_v0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_0 : Ref sig .tc := ⟨.hbm, 44, rfl⟩
abbrev main_call2_v0 : Ref sig .tc := ⟨.hbm, 45, rfl⟩
abbrev main_call2_v1 : Ref sig .tc := ⟨.hbm, 46, rfl⟩
abbrev main_v21 : Ref sig .tc := ⟨.hbm, 47, rfl⟩
abbrev main_cst_1 : Ref sig .tc := ⟨.hbm, 48, rfl⟩
abbrev main_v22 : Ref sig .tc := ⟨.hbm, 49, rfl⟩
abbrev main_cst_2 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_3 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_4 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩

abbrev nD : Nat := 1
abbrev τ : Topo := Topo.v7x

variable {F : FTy → Type} [FloatOps F]
-- ==== Parts.lean ====
abbrev S8192x1024 : Shape := ⟨2, ![8192, 1024]⟩
abbrev S1x1024 : Shape := ⟨2, ![1, 1024]⟩
abbrev S1024x5128 : Shape := ⟨2, ![1024, 5128]⟩
abbrev S1024x1536 : Shape := ⟨2, ![1024, 1536]⟩
abbrev S1024x3584 : Shape := ⟨2, ![1024, 3584]⟩
abbrev S1024x5120 : Shape := ⟨2, ![1024, 5120]⟩
abbrev S1024x8 : Shape := ⟨2, ![1024, 8]⟩
abbrev S8192x512 : Shape := ⟨2, ![8192, 512]⟩
abbrev S8192x8 : Shape := ⟨2, ![8192, 8]⟩
abbrev S256x1024 : Shape := ⟨2, ![256, 1024]⟩
abbrev S256x512 : Shape := ⟨2, ![256, 512]⟩
abbrev S256x8 : Shape := ⟨2, ![256, 8]⟩
abbrev S256 : Shape := ⟨1, ![256]⟩
abbrev S256x1 : Shape := ⟨2, ![256, 1]⟩
abbrev S1024x512 : Shape := ⟨2, ![1024, 512]⟩
abbrev S1024x1024 : Shape := ⟨2, ![1024, 1024]⟩

abbrev nBuf : Space → Nat
  | .hbm => 21
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5128, .f32⟩
  | .hbm, ⟨5, _⟩ => ⟨S1024x5128, .bf16⟩
  | .hbm, ⟨6, _⟩ => ⟨S1024x1536, .bf16⟩
  | .hbm, ⟨7, _⟩ => ⟨S1024x3584, .bf16⟩
  | .hbm, ⟨8, _⟩ => ⟨S1024x5120, .bf16⟩
  | .hbm, ⟨9, _⟩ => ⟨S1024x8, .bf16⟩
  | .hbm, ⟨10, _⟩ => ⟨S1024x8, .f32⟩
  | .hbm, ⟨11, _⟩ => ⟨S8192x512, .bf16⟩
  | .hbm, ⟨12, _⟩ => ⟨S8192x512, .bf16⟩
  | .hbm, ⟨13, _⟩ => ⟨S8192x512, .bf16⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x1024, .f32⟩
  | .hbm, ⟨18, _⟩ => ⟨S8192x1024, .f32⟩
  | .hbm, ⟨19, _⟩ => ⟨S8192x8, .f32⟩
  | .hbm, ⟨20, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x5120, .bf16⟩
  | .local _ .vmem, ⟨6, _⟩ => ⟨S1024x8, .f32⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x8, .f32⟩
  | .local _ .vmem, ⟨24, _⟩ => ⟨S256x8, .f32⟩
  | .local _ .vmem, ⟨25, _⟩ => ⟨S256x1024, .bf16⟩
  | .local _ .vmem, ⟨26, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_v6_5 : Ref sig .tc := ⟨.hbm, 16, rfl⟩
abbrev main_v6_6 : Ref sig .tc := ⟨.hbm, 17, rfl⟩
abbrev main_v6_7 : Ref sig .tc := ⟨.hbm, 18, rfl⟩
abbrev main_v6_8 : Ref sig .tc := ⟨.hbm, 19, rfl⟩
abbrev main_v6_9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== PartsRefIdeal.lean ====
abbrev S8192x1024 : Shape := ⟨2, ![8192, 1024]⟩
abbrev S1x1024 : Shape := ⟨2, ![1, 1024]⟩
abbrev S1024x5128 : Shape := ⟨2, ![1024, 5128]⟩
abbrev S_ : Shape := ⟨0, ![]⟩
abbrev S8192 : Shape := ⟨1, ![8192]⟩
abbrev S8192x1 : Shape := ⟨2, ![8192, 1]⟩
abbrev S8192x5128 : Shape := ⟨2, ![8192, 5128]⟩
abbrev S8192x512 : Shape := ⟨2, ![8192, 512]⟩
abbrev S8192x8 : Shape := ⟨2, ![8192, 8]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5128, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x5128, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x8, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S8192x512, .bf16⟩
  | .hbm, ⟨41, _⟩ => ⟨S8192x512, .bf16⟩
  | .hbm, ⟨42, _⟩ => ⟨S8192x512, .bf16⟩
  | .hbm, ⟨43, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Update.lean ====
abbrev S4x1024x641 : Shape := ⟨3, ![4, 1024, 641]⟩
abbrev S1024x641 : Shape := ⟨2, ![1024, 641]⟩
abbrev S4x256x641 : Shape := ⟨3, ![4, 256, 641]⟩
abbrev S256x641 : Shape := ⟨2, ![256, 641]⟩
abbrev S1x256x641 : Shape := ⟨3, ![1, 256, 641]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x641, .bf16⟩
  | .hbm, ⟨1, _⟩ => ⟨S1024x641, .f32⟩
  | .hbm, ⟨2, _⟩ => ⟨S1024x641, .f32⟩
  | .hbm, ⟨3, _⟩ => ⟨S1024x641, .f32⟩
  | .hbm, ⟨4, _⟩ => ⟨S1024x641, .f32⟩
  | .hbm, ⟨5, _⟩ => ⟨S1024x641, .f32⟩
  | .hbm, ⟨6, _⟩ => ⟨S1024x641, .f32⟩
  | .hbm, ⟨7, _⟩ => ⟨S1024x641, .f32⟩
  | .local _ .vmem, ⟨0, _⟩ => ⟨S4x256x641, .bf16⟩
  | .local _ .vmem, ⟨1, _⟩ => ⟨S4x256x641, .bf16⟩
  | .local _ .vmem, ⟨2, _⟩ => ⟨S256x641, .f32⟩
  | .local _ .vmem, ⟨3, _⟩ => ⟨S256x641, .f32⟩
  | .local _ .vmem, ⟨4, _⟩ => ⟨S256x641, .f32⟩
  | .local _ .vmem, ⟨5, _⟩ => ⟨S256x641, .f32⟩
  | .local _ .vmem, ⟨6, _⟩ => ⟨S256x641, .f32⟩
  | .local _ .vmem, ⟨7, _⟩ => ⟨S256x641, .f32⟩
  | .local _ .vmem, ⟨8, _⟩ => ⟨S256x641, .f32⟩
  | .local _ .vmem, ⟨9, _⟩ => ⟨S256x641, .f32⟩
  | .local _ .vmem, ⟨10, _⟩ => ⟨S256x641, .f32⟩
  | .local _ .vmem, ⟨11, _⟩ => ⟨S256x641, .f32⟩
  | .local _ .vmem, ⟨12, _⟩ => ⟨S256x641, .f32⟩
  | .local _ .vmem, ⟨13, _⟩ => ⟨S256x641, .f32⟩
  | .local _ .vmem, ⟨14, _⟩ => ⟨S256x641, .f32⟩
  | .local _ .vmem, ⟨15, _⟩ => ⟨S256x641, .f32⟩
  | _, _ => ⟨S4x1024x641, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x641 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x641 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x641 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x641 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x641 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x641 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x641 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x641 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateRefIdeal.lean ====
abbrev S4x1024x641 : Shape := ⟨3, ![4, 1024, 641]⟩
abbrev S1024x641 : Shape := ⟨2, ![1024, 641]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x641, .bf16⟩
  | .hbm, ⟨1, _⟩ => ⟨S1024x641, .f32⟩
  | .hbm, ⟨2, _⟩ => ⟨S1024x641, .f32⟩
  | .hbm, ⟨3, _⟩ => ⟨S1024x641, .f32⟩
  | .hbm, ⟨4, _⟩ => ⟨S4x1024x641, .f32⟩
  | .hbm, ⟨5, _⟩ => ⟨S_, .f32⟩
  | .hbm, ⟨6, _⟩ => ⟨S1024x641, .f32⟩
  | .hbm, ⟨7, _⟩ => ⟨S_, .f32⟩
  | .hbm, ⟨8, _⟩ => ⟨S1024x641, .f32⟩
  | .hbm, ⟨9, _⟩ => ⟨S1024x641, .f32⟩
  | .hbm, ⟨10, _⟩ => ⟨S_, .f32⟩
  | .hbm, ⟨11, _⟩ => ⟨S1024x641, .f32⟩
  | .hbm, ⟨12, _⟩ => ⟨S1024x641, .f32⟩
  | .hbm, ⟨13, _⟩ => ⟨S1024x641, .f32⟩
  | .hbm, ⟨14, _⟩ => ⟨S_, .f32⟩
  | .hbm, ⟨15, _⟩ => ⟨S1024x641, .f32⟩
  | .hbm, ⟨16, _⟩ => ⟨S1024x641, .f32⟩
  | .hbm, ⟨17, _⟩ => ⟨S1024x641, .f32⟩
  | .hbm, ⟨18, _⟩ => ⟨S_, .f32⟩
  | .hbm, ⟨19, _⟩ => ⟨S1024x641, .f32⟩
  | .hbm, ⟨20, _⟩ => ⟨S1024x641, .f32⟩
  | .hbm, ⟨21, _⟩ => ⟨S1024x641, .f32⟩
  | .hbm, ⟨22, _⟩ => ⟨S_, .f32⟩
  | .hbm, ⟨23, _⟩ => ⟨S1024x641, .f32⟩
  | .hbm, ⟨24, _⟩ => ⟨S1024x641, .f32⟩
  | .hbm, ⟨25, _⟩ => ⟨S_, .f32⟩
  | .hbm, ⟨26, _⟩ => ⟨S1024x641, .f32⟩
  | .hbm, ⟨27, _⟩ => ⟨S1024x641, .f32⟩
  | .hbm, ⟨28, _⟩ => ⟨S1024x641, .f32⟩
  | .hbm, ⟨29, _⟩ => ⟨S_, .f32⟩
  | .hbm, ⟨30, _⟩ => ⟨S1024x641, .f32⟩
  | .hbm, ⟨31, _⟩ => ⟨S1024x641, .f32⟩
  | .hbm, ⟨32, _⟩ => ⟨S1024x641, .f32⟩
  | .hbm, ⟨33, _⟩ => ⟨S_, .f32⟩
  | .hbm, ⟨34, _⟩ => ⟨S1024x641, .f32⟩
  | .hbm, ⟨35, _⟩ => ⟨S1024x641, .f32⟩
  | .hbm, ⟨36, _⟩ => ⟨S1024x641, .f32⟩
  | .hbm, ⟨37, _⟩ => ⟨S_, .f32⟩
  | .hbm, ⟨38, _⟩ => ⟨S1024x641, .f32⟩
  | .hbm, ⟨39, _⟩ => ⟨S1024x641, .f32⟩
  | _, _ => ⟨S4x1024x641, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Wout.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WoutRefIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x8192, .bf16⟩
  | .hbm, ⟨3, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Narrow.lean ====
abbrev S8192x1024 : Shape := ⟨2, ![8192, 1024]⟩
abbrev S8192x512 : Shape := ⟨2, ![8192, 512]⟩
abbrev S8192x8 : Shape := ⟨2, ![8192, 8]⟩
abbrev S1024x512 : Shape := ⟨2, ![1024, 512]⟩
abbrev S1024x8 : Shape := ⟨2, ![1024, 8]⟩
abbrev S1024x1024 : Shape := ⟨2, ![1024, 1024]⟩

abbrev nBuf : Space → Nat
  | .hbm => 15
  | .vmem => 23
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S8192x512, .bf16⟩
  | .hbm, ⟨3, _⟩ => ⟨S8192x512, .bf16⟩
  | .hbm, ⟨4, _⟩ => ⟨S8192x8, .f32⟩
  | .hbm, ⟨5, _⟩ => ⟨S8192x512, .bf16⟩
  | .hbm, ⟨6, _⟩ => ⟨S8192x512, .f32⟩
  | .hbm, ⟨7, _⟩ => ⟨S8192x512, .bf16⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x8, .f32⟩
  | .hbm, ⟨12, _⟩ => ⟨S1024x512, .f32⟩
  | .hbm, ⟨13, _⟩ => ⟨S1024x512, .f32⟩
  | .hbm, ⟨14, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x8, .f32⟩
  | .local _ .vmem, ⟨9, _⟩ => ⟨S1024x8, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x8, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== NarrowRefIdeal.lean ====
abbrev S8192x1024 : Shape := ⟨2, ![8192, 1024]⟩
abbrev S8192x512 : Shape := ⟨2, ![8192, 512]⟩
abbrev S8192x8 : Shape := ⟨2, ![8192, 8]⟩
abbrev S1024x8192 : Shape := ⟨2, ![1024, 8192]⟩
abbrev S1024x512 : Shape := ⟨2, ![1024, 512]⟩
abbrev S1024x8 : Shape := ⟨2, ![1024, 8]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S8192x512, .bf16⟩
  | .hbm, ⟨3, _⟩ => ⟨S8192x512, .bf16⟩
  | .hbm, ⟨4, _⟩ => ⟨S8192x8, .f32⟩
  | .hbm, ⟨5, _⟩ => ⟨S8192x512, .bf16⟩
  | .hbm, ⟨6, _⟩ => ⟨S8192x512, .f32⟩
  | .hbm, ⟨7, _⟩ => ⟨S8192x512, .bf16⟩
  | .hbm, ⟨8, _⟩ => ⟨S1024x8192, .bf16⟩
  | .hbm, ⟨9, _⟩ => ⟨S1024x8192, .f32⟩
  | .hbm, ⟨10, _⟩ => ⟨S1024x512, .f32⟩
  | .hbm, ⟨11, _⟩ => ⟨S1024x8192, .bf16⟩
  | .hbm, ⟨12, _⟩ => ⟨S1024x512, .f32⟩
  | .hbm, ⟨13, _⟩ => ⟨S1024x8192, .bf16⟩
  | .hbm, ⟨14, _⟩ => ⟨S1024x512, .f32⟩
  | .hbm, ⟨15, _⟩ => ⟨S1024x8192, .bf16⟩
  | .hbm, ⟨16, _⟩ => ⟨S1024x8192, .f32⟩
  | .hbm, ⟨17, _⟩ => ⟨S1024x8, .f32⟩
  | .hbm, ⟨18, _⟩ => ⟨S1024x8192, .bf16⟩
  | .hbm, ⟨19, _⟩ => ⟨S1024x512, .f32⟩
  | .hbm, ⟨20, _⟩ => ⟨S1024x8192, .bf16⟩
  | .hbm, ⟨21, _⟩ => ⟨S1024x8192, .f32⟩
  | .hbm, ⟨22, _⟩ => ⟨S1024x512, .f32⟩
  | .hbm, ⟨23, _⟩ => ⟨S1024x8192, .bf16⟩
  | .hbm, ⟨24, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Wada.lean ====
abbrev S8x1024 : Shape := ⟨2, ![8, 1024]⟩
abbrev S8x384 : Shape := ⟨2, ![8, 384]⟩
abbrev S1x1024x384 : Shape := ⟨3, ![1, 1024, 384]⟩
abbrev S1024x384 : Shape := ⟨2, ![1024, 384]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S1x1024x384, .f32⟩
  | .local _ .vmem, ⟨0, _⟩ => ⟨S8x1024, .f32⟩
  | .local _ .vmem, ⟨1, _⟩ => ⟨S8x384, .f32⟩
  | .local _ .vmem, ⟨2, _⟩ => ⟨S1x1024x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== WadaRefIdeal.lean ====
abbrev S8x1024 : Shape := ⟨2, ![8, 1024]⟩
abbrev S8x384 : Shape := ⟨2, ![8, 384]⟩
abbrev S1024x8 : Shape := ⟨2, ![1024, 8]⟩
abbrev S1024x384 : Shape := ⟨2, ![1024, 384]⟩
abbrev S1x1024x384 : Shape := ⟨3, ![1, 1024, 384]⟩

abbrev nBuf : Space → Nat
  | .hbm => 5
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S1024x8, .f32⟩
  | .hbm, ⟨3, _⟩ => ⟨S1024x384, .f32⟩
  | .hbm, ⟨4, _⟩ => ⟨S1x1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.FgateBlock.lean ====
/- What one grid point of the forget-gate backward kernel leaves in its two output blocks and in the carried row. -/
module

public import proofs.«01_k».proof.Defs
public import proofs.«01_k».proof.Proof.Gen.FgateIdeal.Value
public import Idealize.ShloMosaic.Lib.Pointwise
public import Idealize.ShloMosaic.Lib.ValueIdx
public import Idealize.ShloMosaic.Lib.WordArith
public import Idealize.ShloMosaic.PureOps.Ideal.Laws

@[expose] public section

set_option maxRecDepth 16384

noncomputable section

namespace Cert.FgateProof.Block

open Cert.FgateIdeal Cert.FgateIdeal.Gen Idealize.ShloMosaic Idealize.ShloMosaic.TcCoe

variable {F : FTy → Type} [FloatOps F]

theorem hz : (![0, 0] : Fin 2 → Nat) = fun _ => 0 := funext fun a => by fin_cases a <;> rfl

section A
variable (c : Dev nD) (i : grid0.Coords) (a1 : Memref sig .tc .vmem S512x8 .f32) (h1 : a1.IsWhole)
  (a2 : Memref sig .tc .vmem S512x8 .f32) (h2 : a2.IsWhole) (a3 : Memref sig .tc .vmem S1x8 .f32) (h3 : a3.IsWhole)
  (a4 : Memref sig .tc .vmem S512x8 .f32) (h4 : a4.IsWhole) (a5 : Memref sig .tc .vmem S1x8 .f32) (h5 : a5.IsWhole)
  (a6 : Memref sig .tc .vmem S1x8 .f32) (h6 : a6.IsWhole) (hc : cond0_0 i)
  (x0 : Vec F S512x8 .f32) (x1 : Vec F S512x8 .f32) (x2 : Vec F S1x8 .f32)

/-- At the first point the gradient block is computed from a zero carry. -/
theorem out_A_3 : out0_A_3 c i a1 h1 a2 h2 a3 h3 a4 h4 a5 h5 a6 h6 hc x0 x1 x2 = k0_pay6 x0 k0_pay2 x1 x2 := by
  unfold out0_A_3
  refine (View.read_writes_eq_canon _ _ _ fun y => cover0_A_3 ..).trans ?_
  unfold kernelRun0_A
  dsimp only
  sl_unfold_words
  rw [View.canon_unit_zero hz, View.readCov_unit_zero (S := S1x8) _ hz]
  simp only [View.readAt_eq_ld, h1.read_unread, h2.read_unread, h3.read_unread, View.ld_unit_zero (S := S512x8) hz,
    View.ld_unit_zero (S := S1x8) hz]

/-- At the first point the bias gradient starts from zero. -/
theorem out_A_4 : out0_A_4 c i a1 h1 a2 h2 a3 h3 a4 h4 a5 h5 a6 h6 hc x0 x1 x2
    = k0_pay1 (k0_pay6 x0 k0_pay2 x1 x2) (k0_pay7 k0_pay3) := by
  unfold out0_A_4
  refine (View.read_writes_eq_canon _ _ _ fun y => cover0_A_4 ..).trans ?_
  unfold kernelRun0_A
  dsimp only
  sl_unfold_words
  rw [View.canon_cons_unit_zero (S := S1x8) hz]
  simp only [View.readCov_unit_zero (S := S1x8) _ hz, View.readAt_eq_ld, h1.read_unread, h2.read_unread, h3.read_unread,
    View.ld_unit_zero (S := S512x8) hz, View.ld_unit_zero (S := S1x8) hz]

/-- At the first point the carry is row 0 of the block's running sums from zero. -/
theorem sout_A : sout0_A_0 c i a1 h1 a2 h2 a3 h3 a4 h4 a5 h5 a6 h6 hc x0 x1 x2 = k0_pay5 x0 k0_pay2 := by
  unfold sout0_A_0
  rw [View.read_writes_eq_canon _ _ _ (scover0_A_0 c i a1 h1 a2 h2 a3 h3 a4 h4 a5 h5 a6 h6 hc x0 x1 x2)]
  unfold kernelRun0_A
  dsimp only
  sl_unfold_words
  rw [View.canon_cons_unit_zero (S := S1x8) hz]
  simp only [View.readCov_unit_zero (S := S1x8) _ hz, View.readAt_eq_ld, h1.read_unread, h2.read_unread, h3.read_unread,
    View.ld_unit_zero (S := S512x8) hz, View.ld_unit_zero (S := S1x8) hz]

end A

section B
variable (c : Dev nD) (i : grid0.Coords) (a1 : Memref sig .tc .vmem S512x8 .f32) (h1 : a1.IsWhole)
  (a2 : Memref sig .tc .vmem S512x8 .f32) (h2 : a2.IsWhole) (a3 : Memref sig .tc .vmem S1x8 .f32) (h3 : a3.IsWhole)
  (a4 : Memref sig .tc .vmem S512x8 .f32) (h4 : a4.IsWhole) (a5 : Memref sig .tc .vmem S1x8 .f32) (h5 : a5.IsWhole)
  (a6 : Memref sig .tc .vmem S1x8 .f32) (h6 : a6.IsWhole) (hc : ¬cond0_0 i)
  (x0 : Vec F S512x8 .f32) (x1 : Vec F S512x8 .f32) (x2 : Vec F S1x8 .f32) (xo : Vec F S1x8 .f32) (xs : Vec F S1x8 .f32)

/-- At a later point the gradient block is computed from the carried row. -/
theorem out_B_3 : out0_B_3 c i a1 h1 a2 h2 a3 h3 a4 h4 a5 h5 a6 h6 hc x0 x1 x2 xo xs = k0_pay6 x0 xs x1 x2 := by
  unfold out0_B_3
  refine (View.read_writes_eq_canon _ _ _ fun y => cover0_B_3 ..).trans ?_
  unfold kernelRun0_B
  dsimp only
  sl_unfold_words
  rw [View.canon_unit_zero hz]
  simp only [View.readAt_eq_ld, h1.read_unread, h2.read_unread, h3.read_unread, h6.read_unread,
    View.ld_unit_zero (S := S512x8) hz, View.ld_unit_zero (S := S1x8) hz]

/-- At a later point the bias gradient grows by the block's column sums. -/
theorem out_B_4 : out0_B_4 c i a1 h1 a2 h2 a3 h3 a4 h4 a5 h5 a6 h6 hc x0 x1 x2 xo xs
    = k0_pay1 (k0_pay6 x0 xs x1 x2) (k0_pay7 xo) := by
  unfold out0_B_4
  refine (View.read_writes_eq_canon _ _ _ fun y => cover0_B_4 ..).trans ?_
  unfold kernelRun0_B
  dsimp only
  sl_unfold_words
  rw [View.canon_unit_zero hz]
  simp only [View.readAt_eq_ld, h1.read_unread, h2.read_unread, h3.read_unread, h5.read_unread, h6.read_unread,
    View.ld_unit_zero (S := S512x8) hz, View.ld_unit_zero (S := S1x8) hz]

/-- At a later point the carry is row 0 of the block's running sums from the carried row. -/
theorem sout_B : sout0_B_0 c i a1 h1 a2 h2 a3 h3 a4 h4 a5 h5 a6 h6 hc x0 x1 x2 xo xs = k0_pay5 x0 xs := by
  unfold sout0_B_0
  rw [View.read_writes_eq_canon _ _ _ (scover0_B_0 c i a1 h1 a2 h2 a3 h3 a4 h4 a5 h5 a6 h6 hc x0 x1 x2 xo xs)]
  unfold kernelRun0_B
  dsimp only
  sl_unfold_words
  rw [View.canon_unit_zero hz]
  simp only [View.readAt_eq_ld, h1.read_unread, h2.read_unread, h3.read_unread, h6.read_unread,
    View.ld_unit_zero (S := S512x8) hz, View.ld_unit_zero (S := S1x8) hz]

end B

/-! ## The payloads read at an index, over the extended reals -/

/-- The value of the comparison `row ≤ column`, as the float the kernel multiplies by. -/
theorem upper_entry (r k : Fin 512) :
    FloatOps.sitofp (F := Ideal) FTy.f32
      (BitVec.setWidth 32 (IntOp.cmpi CmpIPredicate.sge (BitVec.ofNat 32 k.val) (BitVec.ofNat 32 r.val)))
      = if r.val ≤ k.val then 1 else 0 := by
  have hk := k.isLt
  have hr := r.isLt
  have e : IntOp.cmpi CmpIPredicate.sge (BitVec.ofNat 32 k.val) (BitVec.ofNat 32 r.val) = BitVec.ofBool (decide (r.val ≤ k.val)) := by
    simp only [IntOp.cmpi]
    congr 1
    rw [BitVec.sle_eq_decide, WordArith.toInt_ofNat_small _ (by omega), WordArith.toInt_ofNat_small _ (by omega)]
    simp
  have d : ∀ b : BitVec 32, FloatOps.sitofp (F := Ideal) FTy.f32 b = ((b.toInt : ℝ) : EReal) := fun _ => rfl
  rw [e, d]
  by_cases h : r.val ≤ k.val <;> simp [h]

/-- The sums the kernel forms from a block and a carried row: entry `r` is the carry plus the block's entries from `r` on. -/
theorem pay4_apply (x : Vec Ideal S512x8 .f32) (s : Vec Ideal S1x8 .f32) (r : Fin 512) (h : Fin 8) :
    k0_pay4 (F := Ideal) x s (ix2 r h) = (∑ k : Fin 512, if r.val ≤ k.val then x (ix2 k h) else 0) + s (ix2 0 h) := by
  pointwise [k0_pay4]
  congr 1
  refine Finset.sum_congr rfl fun k _ => ?_
  rw [upper_entry]
  split <;> simp

/-- The carry the block leaves is the sum over the whole block plus the carry it found. -/
theorem pay5_apply (x : Vec Ideal S512x8 .f32) (s : Vec Ideal S1x8 .f32) (h : Fin 8) :
    k0_pay5 (F := Ideal) x s (ix2 0 h) = (∑ k : Fin 512, x (ix2 k h)) + s (ix2 0 h) := by
  unfold k0_pay5
  pointwise []
  rw [pay4_apply]
  simp

/-- The factor the gate's logit contributes. -/
def gate (z : EReal) : EReal := Ideal.div 1 (1 + Ideal.exp z)

theorem pay6_apply (x : Vec Ideal S512x8 .f32) (s : Vec Ideal S1x8 .f32) (y : Vec Ideal S512x8 .f32)
    (b : Vec Ideal S1x8 .f32) (r : Fin 512) (h : Fin 8) :
    k0_pay6 (F := Ideal) x s y b (ix2 r h) = k0_pay4 (F := Ideal) x s (ix2 r h) * gate (y (ix2 r h) + b (ix2 0 h)) := by
  unfold k0_pay6
  generalize k0_pay4 (F := Ideal) x s = w
  pointwise []
  rw [gate, zero_sub, zero_sub, neg_neg]

theorem pay1_apply (x : Vec Ideal S512x8 .f32) (s : Vec Ideal S1x8 .f32) (h : Fin 8) :
    k0_pay1 (F := Ideal) x s (ix2 0 h) = s (ix2 0 h) + ∑ k : Fin 512, x (ix2 k h) := by
  pointwise [k0_pay1]

theorem pay2_apply (j : S1x8.Idx) : k0_pay2 (F := Ideal) j = 0 := by
  pointwise [k0_pay2]

theorem pay3_apply (j : S1x8.Idx) : k0_pay3 (F := Ideal) j = 0 := by
  pointwise [k0_pay3]

theorem pay7_eq (s : Vec Ideal S1x8 .f32) : k0_pay7 (F := Ideal) s = s := by
  unfold k0_pay7
  exact shapeCast_self _ _

end Cert.FgateProof.Block

end
-- ==== Proof.FgateReference.lean ====
/- The reference of the forget-gate backward call read at an index: suffix sums, and the derivative of the log-sigmoid. -/
module

public import proofs.«01_k».proof.Defs
public import proofs.«01_k».proof.Proof.Gen.FgateRefIdeal.Run
public import proofs.«01_k».proof.Proof.Gen.FgateRefIdeal.Read
public import proofs.«01_k».proof.Proof.FgateBlock

@[expose] public section

set_option maxRecDepth 16384

noncomputable section

namespace Cert.FgateProof.Reference

open Cert.FgateRefIdeal Cert.FgateRefIdeal.Gen Cert.FgateRefIdeal.Read Idealize.ShloMosaic Idealize.ShloMosaic.TcCoe

/-- Column `h` of an array, at a row number, zero outside the array. -/
def col (x : Vec Ideal S8192x8 .f32) (h : Fin 8) (j : ℕ) : EReal := if hj : j < 8192 then x (ix2 ⟨j, hj⟩ h) else 0

/-- The sum of column `h` from row `i` on. -/
def suffix (x : Vec Ideal S8192x8 .f32) (h : Fin 8) (i : ℕ) : EReal := ∑ j ∈ Finset.Ico i 8192, col x h j

/-- Adding up a list from a start is the start plus the sum. -/
theorem foldl_sum {n : ℕ} (f : Fin n → EReal) (v : EReal) :
    (List.finRange n).foldl (fun r k => r + f k) v = v + ∑ k, f k := by
  rw [← List.sum_ofFn, List.ofFn_eq_map]
  generalize List.finRange n = l
  induction l generalizing v with
  | nil => simp
  | cons a l ih => simp only [List.foldl_cons, List.map_cons, List.sum_cons]; rw [ih, add_assoc]

/-- The window sum of the reference is the suffix sum. -/
theorem v4_apply (x : Vec Ideal S8192x8 .f32) (r : Fin 8192) (h : Fin 8) :
    val_main_v4 (F := Ideal) x (ix2 r h) = suffix x h r.val := by
  unfold val_main_v4 Host.reduceWindowAdd
  rw [Ideal.hostReduceWindowAdd_def]
  unfold Ideal.hostReduceWindowAdd Host.reduceWindow
  dsimp only
  rw [foldl_sum]
  have hv : val_main_call2_call0_v0 (F := Ideal) (Shape.Idx.first h_S_) = 0 := by
    pointwise [val_main_call2_call0_v0, val_main_call2_call0_cst]
  rw [hv, zero_add]
  calc _ = ∑ k, (fun w : (⟨2, ![8192, 1]⟩ : Shape).Idx => col x h (r.val + (w 0).val))
        ((⟨2, ![8192, 1]⟩ : Shape).rowMajor.symm k) := Finset.sum_congr rfl fun k _ => ?_
    _ = ∑ w : (⟨2, ![8192, 1]⟩ : Shape).Idx, col x h (r.val + (w 0).val) :=
        Equiv.sum_comp (⟨2, ![8192, 1]⟩ : Shape).rowMajor.symm (fun w : (⟨2, ![8192, 1]⟩ : Shape).Idx => col x h (r.val + (w 0).val))
    _ = suffix x h r.val := ?_
  · have hb : ((⟨2, ![8192, 1]⟩ : Shape).rowMajor.symm k 1).val = 0 := by
      have := ((⟨2, ![8192, 1]⟩ : Shape).rowMajor.symm k 1).isLt
      change _ < 1 at this
      omega
    have hh := h.isLt
    dsimp only
    unfold col
    by_cases hlt : r.val + ((⟨2, ![8192, 1]⟩ : Shape).rowMajor.symm k 0).val < 8192
    · rw [dif_pos hlt, dif_pos]
      · congr 1
        funext q
        fin_cases q
        · apply Fin.ext; show r.val * 1 + _ - 0 = r.val + _; rw [Nat.mul_one, Nat.sub_zero]; rfl
        · apply Fin.ext; show h.val * 1 + _ - 0 = h.val; rw [Nat.mul_one, Nat.sub_zero, Nat.add_eq_left]; exact hb
      · intro q
        fin_cases q
        · refine ⟨Nat.zero_le _, ?_⟩
          show r.val * 1 + _ - 0 < 8192
          rw [Nat.mul_one, Nat.sub_zero]
          exact hlt
        · refine ⟨Nat.zero_le _, ?_⟩
          show h.val * 1 + ((⟨2, ![8192, 1]⟩ : Shape).rowMajor.symm k 1).val - 0 < 8
          rw [Nat.mul_one, Nat.sub_zero, hb]
          exact hh
    · rw [dif_neg hlt, dif_neg]
      intro hq
      have := (hq 0).2
      change r.val * 1 + _ - 0 < 8192 at this
      rw [Nat.mul_one, Nat.sub_zero] at this
      exact hlt this
  · rw [sum_idx2]
    simp only [Fin.sum_univ_one]
    show ∑ a : Fin 8192, col x h (r.val + a.val) = _
    unfold suffix
    rw [Fin.sum_univ_eq_sum_range (fun a => col x h (r.val + a)) 8192, Finset.sum_Ico_eq_sum_range]
    symm
    refine Finset.sum_subset (fun a ha => ?_) fun a _ ha => ?_
    · rw [Finset.mem_range] at ha ⊢; omega
    · rw [Finset.mem_range] at ha
      unfold col
      rw [dif_neg (by omega)]

theorem ofBits_top : Ideal.ofBits FTy.f32 2139095040#32 = ⊤ := by simp [Ideal.ofBits, Ideal.ieee]

/-- On the reals: `exp (-t - log (1 + exp (-t)))`, with the maximum pulled out of the logarithm, is `1 / (1 + exp t)`. -/
theorem real_gate (t : ℝ) :
    Real.exp (-t - (max (-t) 0 + Real.log (1 + Real.exp (-max (-t) (- -t))))) = 1 / (1 + Real.exp t) := by
  have e : max (-t) 0 + Real.log (1 + Real.exp (-max (-t) (- -t))) = Real.log (1 + Real.exp (-t)) := by
    rcases le_total 0 t with ht | ht
    · rw [max_eq_right (by linarith), max_eq_right (by linarith), zero_add, neg_neg]
    · rw [max_eq_left (by linarith), max_eq_left (by linarith), neg_neg]
      have : (1 : ℝ) + Real.exp (-t) = Real.exp (-t) * (1 + Real.exp t) := by
        rw [mul_add, mul_one, ← Real.exp_add, neg_add_cancel, Real.exp_zero, add_comm]
      rw [this, Real.log_mul (Real.exp_pos _).ne' (by positivity), Real.log_exp]
  rw [e, Real.exp_sub, Real.exp_log (by positivity)]
  have : (1 : ℝ) + Real.exp t = (1 + Real.exp (-t)) / Real.exp (-t) := by
    rw [add_div, div_self (Real.exp_pos _).ne', Real.exp_neg, one_div, inv_inv, add_comm]
  rw [this, one_div_div]

theorem coe_max (a b : ℝ) : ((max a b : ℝ) : EReal) = max (a : EReal) (b : EReal) :=
  EReal.coe_strictMono.monotone.map_max

theorem gate_coe (t : ℝ) : Block.gate (t : EReal) = ((1 / (1 + Real.exp t) : ℝ) : EReal) := by
  have h0 : (1 + Real.exp t : ℝ) ≠ 0 := by positivity
  unfold Block.gate
  rw [Ideal.exp_coe, ← EReal.coe_one, ← EReal.coe_add, Ideal.div_coe h0, ← EReal.coe_mul, one_mul]

/-- The derivative of the log-sigmoid, through the softplus with its guards against an infinite argument. -/
theorem gate_eq (z : EReal) : Ideal.exp
      ((if -z = Ideal.ofBits FTy.f32 2139095040#32 then 0 else -z) -
        if (if -z ≠ -z then -z else max (-z) 0 + Ideal.log1p (Ideal.exp (-FloatOps.absf (F := Ideal) (φ := .f32) (-z)))) =
              Ideal.ofBits FTy.f32 2139095040#32 then 0
        else if -z ≠ -z then -z else max (-z) 0 + Ideal.log1p (Ideal.exp (-FloatOps.absf (F := Ideal) (φ := .f32) (-z))))
    = Block.gate z := by
  simp only [ofBits_top, ne_eq, not_true_eq_false, if_false, Ideal.absf_def]
  induction z with
  | bot =>
    have hl : Ideal.log 1 = 0 := by rw [← EReal.coe_one, Ideal.log_coe]; simp
    have he : Ideal.exp 0 = 1 := by rw [← EReal.coe_zero, Ideal.exp_coe]; simp
    simp [Block.gate, Ideal.log1p, Ideal.div, hl, he]
  | top =>
    have ht : (1 : EReal) + ⊤ = ⊤ := EReal.coe_add_top 1
    simp [Block.gate, Ideal.log1p, Ideal.div, ht]
  | coe t =>
    have hp : ¬ ((1 + Real.exp (-max (-t) (- -t)) : ℝ) ≤ 0) := not_le.mpr (by positivity)
    have hs : max (-(t : EReal)) 0 + Ideal.log1p (Ideal.exp (-max (-(t : EReal)) (- -(t : EReal))))
        = ((max (-t) 0 + Real.log (1 + Real.exp (-max (-t) (- -t))) : ℝ) : EReal) := by
      unfold Ideal.log1p
      rw [← EReal.coe_neg, ← EReal.coe_neg, ← EReal.coe_zero, ← coe_max, ← coe_max, ← EReal.coe_neg, Ideal.exp_coe,
        ← EReal.coe_one, ← EReal.coe_add, Ideal.log_coe, if_neg hp, ← EReal.coe_add]
    rw [hs, ← EReal.coe_neg, if_neg (EReal.coe_ne_top _), if_neg (EReal.coe_ne_top _), ← EReal.coe_sub, Ideal.exp_coe, gate_coe,
      real_gate]

/-- The derivative of the log-sigmoid as the reference writes it, for every extended real. -/
theorem v2_1_apply (y : Vec Ideal S8192x8 .f32) (b : Vec Ideal S1x8 .f32) (r : Fin 8192) (h : Fin 8) :
    val_main_v2_1 (F := Ideal) y b (ix2 r h) = Block.gate (y (ix2 r h) + b (ix2 0 h)) := by
  pointwise [val_main_v0, val_main_v1, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1_0, val_main_call0_call0_cst_0, val_main_call0_call0_v13, val_main_call0_call0_v14, val_main_call0_call0_cst_1, val_main_call0_call0_v15, val_main_call0_call0_v16, val_main_call0_call0_cst_2, val_main_call0_call0_v17, val_main_call0_call0_v18, val_main_call0_call0_cst_3, val_main_call0_call0_v19, val_main_call0_call0_v20, val_main_call0_call0_v21, val_main_v2_1]
  exact gate_eq _

end Cert.FgateProof.Reference

end
-- ==== Proof.FgateArray.lean ====
/- The two result arrays of the forget-gate backward kernel: the carry from point to point, and the written blocks. -/
module

public import proofs.«01_k».proof.Proof.FgateBlock
public import proofs.«01_k».proof.Proof.FgateReference
public import Idealize.ShloMosaic.Lib.Pipeline.ValueKit

@[expose] public section

set_option maxRecDepth 16384

noncomputable section

namespace Cert.FgateProof.Array

open Cert.FgateIdeal Cert.FgateIdeal.Gen Cert.FgateProof.Block Cert.FgateProof.Reference Idealize.ShloMosaic Idealize.ShloMosaic.TcCoe

variable (m : (ℓ : Loc nD τ sig) → Buf (Elt Ideal) ℓ) (c : Dev nD)

/-- The kernel's arguments: the cotangent, the logits, the bias. -/
abbrev df : Vec Ideal S8192x8 .f32 := m ((c : Thread nD τ).loc main_arg0)
abbrev fl : Vec Ideal S8192x8 .f32 := m ((c : Thread nD τ).loc main_arg1)
abbrev bf : Vec Ideal S1x8 .f32 := m ((c : Thread nD τ).loc main_arg2)

theorem idx0 : ∀ t : Fin cfg0.N, win0_0.index t = ![15 - t.val, 0] := by decide +kernel
theorem idx1 : ∀ t : Fin cfg0.N, win0_1.index t = ![15 - t.val, 0] := by decide +kernel
theorem idx2 : ∀ t : Fin cfg0.N, win0_2.index t = ![0, 0] := by decide +kernel
theorem idx3 : ∀ t : Fin cfg0.N, win0_3.index t = ![15 - t.val, 0] := by decide +kernel
theorem idx4 : ∀ t : Fin cfg0.N, win0_4.index t = ![0, 0] := by decide +kernel

theorem row_lt (t : Fin cfg0.N) (r : Fin 512) : 512 * (15 - t.val) + r.val < 8192 := by
  have := r.isLt; omega

/-- The cotangent's block at point `t`. -/
abbrev x0 (t : Fin cfg0.N) : Vec Ideal S512x8 .f32 := iblk m c 0 t

theorem block0 (t : Fin cfg0.N) (r : Fin 512) (h : Fin 8) :
    x0 m c t (ix2 r h) = df m c (ix2 ⟨512 * (15 - t.val) + r.val, row_lt t r⟩ h) := by
  blk_ext [iblk, V, idx0 t]

theorem block1 (t : Fin cfg0.N) (r : Fin 512) (h : Fin 8) :
    iblk m c 1 t (ix2 r h) = fl m c (ix2 ⟨512 * (15 - t.val) + r.val, row_lt t r⟩ h) := by
  blk_ext [iblk, V, idx1 t]

theorem block2 (t : Fin cfg0.N) (h : Fin 8) :
    iblk m c 2 t (ix2 0 h) = bf m c (ix2 0 h) := by
  blk_ext [iblk, V, idx2 t]

/-- A block's column, from its row `r` on, as a range of the array's rows. -/
theorem block_sum (t : Fin cfg0.N) (r : ℕ) (h : Fin 8) :
    (∑ k : Fin 512, if r ≤ k.val then x0 m c t (ix2 k h) else 0)
      = ∑ j ∈ Finset.Ico (512 * (15 - t.val) + r) (512 * (15 - t.val) + 512), col (df m c) h j := by
  have e : ∀ k : Fin 512, (if r ≤ k.val then x0 m c t (ix2 k h) else 0)
      = (fun k : ℕ => if r ≤ k then col (df m c) h (512 * (15 - t.val) + k) else 0) k.val := fun k => by
    rw [block0]
    dsimp only
    unfold col
    rw [dif_pos (row_lt t k)]
  rw [Finset.sum_congr rfl fun k _ => e k]
  refine (Fin.sum_univ_eq_sum_range (fun k => if r ≤ k then col (df m c) h (512 * (15 - t.val) + k) else 0) 512).trans ?_
  rw [← Finset.sum_filter]
  rw [show (Finset.range 512).filter (fun k => r ≤ k) = Finset.Ico r 512 from by
    ext k; simp [and_comm]]
  rw [Finset.sum_Ico_add (fun j => col (df m c) h j), add_comm r, add_comm 512]

/-- The running sums at point `t`, given the carry of the rows below the block, are the suffix sums. -/
theorem sums (t : Fin cfg0.N) (s : Vec Ideal S1x8 .f32) (h : Fin 8) (hs : s (ix2 0 h) = suffix (df m c) h (512 * (15 - t.val) + 512))
    (r : Fin 512) : k0_pay4 (F := Ideal) (iblk m c 0 t) s (ix2 r h) = suffix (df m c) h (512 * (15 - t.val) + r.val) := by
  have hr := r.isLt
  have hN : t.val < 16 := lt_of_lt_of_eq t.isLt N_0
  rw [pay4_apply, block_sum m c t r.val h, hs]
  unfold suffix
  exact Finset.sum_Ico_consecutive _ (by omega) (by omega)

theorem carry_next (t : Fin cfg0.N) (s : Vec Ideal S1x8 .f32) (h : Fin 8) (hs : s (ix2 0 h) = suffix (df m c) h (512 * (15 - t.val) + 512)) :
    k0_pay5 (F := Ideal) (iblk m c 0 t) s (ix2 0 h) = suffix (df m c) h (512 * (15 - t.val)) := by
  have e := sums m c t s h hs 0
  rw [pay4_apply] at e
  rw [pay5_apply]
  simpa using e

theorem zero_carry (h : Fin 8) : k0_pay2 (F := Ideal) (ix2 0 h) = suffix (df m c) h (512 * (15 - 0) + 512) := by
  rw [pay2_apply]; unfold suffix; simp

/-- The carry after point `n` is the suffix sum from its block's first row. -/
theorem carry (h : Fin 8) : ∀ (n : ℕ) (hn : n < cfg0.N),
    (outsAt0 m c n hn).2.2 (ix2 0 h) = suffix (df m c) h (512 * (15 - n))
  | 0, hn => by
    rw [outsAt0_A m c ⟨0, hn⟩ rfl]
    dsimp only
    rw [sout_A]
    exact carry_next m c ⟨0, hn⟩ _ h (zero_carry m c h)
  | n + 1, hn => by
    have hN : n + 1 < 16 := lt_of_lt_of_eq hn N_0
    rw [outsAt0_B m c ⟨n + 1, hn⟩ (by dsimp only; omega)]
    dsimp only
    rw [sout_B]
    refine carry_next m c ⟨n + 1, hn⟩ _ h ?_
    refine (carry h n (Nat.lt_of_succ_lt hn)).trans ?_
    congr 1
    dsimp only
    omega

/-- The gradient of the logits: suffix sums times the gate's derivative. -/
def grad (r : Fin 8192) (h : Fin 8) : EReal := suffix (df m c) h r.val * gate (fl m c (ix2 r h) + bf m c (ix2 0 h))

theorem pay6_at (t : Fin cfg0.N) (s : Vec Ideal S1x8 .f32) (h : Fin 8) (hs : s (ix2 0 h) = suffix (df m c) h (512 * (15 - t.val) + 512))
    (r : Fin 512) : k0_pay6 (F := Ideal) (iblk m c 0 t) s (iblk m c 1 t) (iblk m c 2 t) (ix2 r h)
      = grad m c ⟨512 * (15 - t.val) + r.val, row_lt t r⟩ h := by
  rw [pay6_apply, sums m c t s h hs, block1, block2]
  rfl

/-- What point `t` leaves in the logits' gradient block. -/
theorem out3 (t : Fin cfg0.N) (r : Fin 512) (h : Fin 8) :
    (outsAt0 m c t.val t.isLt).1 (ix2 r h) = grad m c ⟨512 * (15 - t.val) + r.val, row_lt t r⟩ h := by
  obtain ⟨n, hn⟩ := t
  cases n with
  | zero =>
    rw [outsAt0_A m c ⟨0, hn⟩ rfl]
    dsimp only
    rw [out_A_3]
    exact pay6_at m c ⟨0, hn⟩ _ h (zero_carry m c h) r
  | succ n =>
    have hN : n + 1 < 16 := lt_of_lt_of_eq hn N_0
    rw [outsAt0_B m c ⟨n + 1, hn⟩ (by dsimp only; omega)]
    dsimp only
    rw [out_B_3]
    refine pay6_at m c ⟨n + 1, hn⟩ _ h ?_ r
    refine (carry m c h n (Nat.lt_of_succ_lt hn)).trans ?_
    congr 1
    dsimp only
    omega

/-- The gradient array's entries by row number. -/
def gcol (h : Fin 8) (j : ℕ) : EReal := if hj : j < 8192 then grad m c ⟨j, hj⟩ h else 0

theorem block_total (t : Fin cfg0.N) (h : Fin 8) : (∑ k : Fin 512, ((outsAt0 m c t.val t.isLt).1 (ix2 k h) : EReal))
      = ∑ j ∈ Finset.Ico (512 * (15 - t.val)) (512 * (15 - t.val) + 512), gcol m c h j := by
  have e : ∀ k : Fin 512, ((outsAt0 m c t.val t.isLt).1 (ix2 k h) : EReal) = (fun k : ℕ => gcol m c h (512 * (15 - t.val) + k)) k.val :=
    fun k => by
      rw [out3]
      unfold gcol
      dsimp only
      rw [dif_pos (row_lt t k)]
  rw [Finset.sum_congr rfl fun k _ => e k]
  refine (Fin.sum_univ_eq_sum_range (fun k => gcol m c h (512 * (15 - t.val) + k)) 512).trans ?_
  rw [Finset.sum_Ico_eq_sum_range]
  simp

/-- The bias gradient after point `n`: the rows from its block on. -/
theorem out4 (h : Fin 8) : ∀ (n : ℕ) (hn : n < cfg0.N),
    (outsAt0 m c n hn).2.1 (ix2 0 h) = ∑ j ∈ Finset.Ico (512 * (15 - n)) 8192, gcol m c h j
  | 0, hn => by
    have e := block_total m c ⟨0, hn⟩ h
    rw [outsAt0_A m c ⟨0, hn⟩ rfl] at e ⊢
    dsimp only at e ⊢
    rw [out_A_3] at e
    rw [out_A_4, pay7_eq, pay1_apply, pay3_apply, zero_add, e]
  | n + 1, hn => by
    have hN : n + 1 < 16 := lt_of_lt_of_eq hn N_0
    have e := block_total m c ⟨n + 1, hn⟩ h
    rw [outsAt0_B m c ⟨n + 1, hn⟩ (by dsimp only; omega)] at e ⊢
    dsimp only at e ⊢
    rw [out_B_3] at e
    rw [out_B_4, pay7_eq, pay1_apply, e]
    refine (congrArg (· + _) (out4 h n (Nat.lt_of_succ_lt hn))).trans ?_
    rw [add_comm, show 512 * (15 - n) = 512 * (15 - (n + 1)) + 512 by omega]
    exact Finset.sum_Ico_consecutive _ (by omega) (by omega)

/-- The first result array. -/
theorem final3 : (dats m 0 c).arrAt 3 cfg0.N = fun j : S8192x8.Idx => grad m c (j 0) (j 1) := by
  refine (dats m 0 c).arrAt_eq_of_covers 3 _ (by decide +kernel) fun t hf y => ?_
  blk_simp
  rw [after0_3]
  obtain ⟨r, h, rfl⟩ : ∃ r h, y = ix2 r h := ⟨_, _, eq_ix2 y⟩
  refine (out3 m c t r h).trans ?_
  congr 1
  · apply Fin.ext; blk_simp [idx3 t]; show 512 * (15 - t.val) + r.val = _; omega
  · apply Fin.ext; blk_simp [idx3 t]

/-- The gradient's column sums. -/
def total : Vec Ideal S1x8 .f32 := fun j => (∑ r : Fin 8192, grad m c r (j 1) : EReal)

/-- The second result array. -/
theorem final4 : (dats m 0 c).arrAt 4 cfg0.N = total m c := by
  refine (dats m 0 c).arrAt_eq_of_covers 4 _ (by decide +kernel) fun t hf y => ?_
  blk_simp
  rw [after0_4]
  obtain ⟨r, h, rfl⟩ : ∃ r h, y = ix2 r h := ⟨_, _, eq_ix2 y⟩
  have hN : t.val < 16 := lt_of_lt_of_eq t.isLt N_0
  have h15 : t.val = 15 := by have := (flush0_4 t).mp hf; omega
  have hr : r = 0 := Subsingleton.elim _ _
  subst hr
  refine (out4 m c h t.val t.isLt).trans ?_
  rw [h15]
  unfold total
  have he : ((win0_4.blk t).view.emb (ix2 0 h)) 1 = h := by apply Fin.ext; blk_simp [idx4 t]
  rw [he, show 512 * (15 - 15) = 0 from rfl, ← Finset.range_eq_Ico]
  refine (Fin.sum_univ_eq_sum_range (fun k => gcol m c h k) 8192).symm.trans (Finset.sum_congr rfl fun k _ => ?_)
  unfold gcol
  rw [dif_pos k.isLt]

end Cert.FgateProof.Array

end
-- ==== Proof.FgateEquation.lean ====
/- The forget-gate backward call: the kernel's two results are the derivative of the forward lines. -/
module

public import proofs.«01_k».proof.Proof.FgateArray
public import Idealize.ShloMosaic.Lib.Quiescent

@[expose] public section

set_option maxRecDepth 16384

noncomputable section

namespace Cert.FgateProof.Equation

open Idealize.ShloMosaic Idealize.ShloMosaic.TcCoe Idealize.SL.Sem Cert.FgateProof.Block Cert.FgateProof.Reference Cert.FgateRefIdeal
  Cert.FgateRefIdeal.Read

theorem neg_neg_mul (a b : EReal) : -(-a * b) = a * b := by rw [EReal.neg_mul, neg_neg]

theorem v5_apply (x y : Vec Ideal S8192x8 .f32) (b : Vec Ideal S1x8 .f32) (r : Fin 8192) (h : Fin 8) :
    val_main_v5 (F := Ideal) x y b (ix2 r h) = suffix x h r.val * gate (y (ix2 r h) + b (ix2 0 h)) := by
  rw [val_main_v5_apply, val_main_call3_v1_apply, val_main_call3_v0_apply, v4_apply, v2_1_apply]
  exact neg_neg_mul _ _

theorem v7_apply (x y : Vec Ideal S8192x8 .f32) (b : Vec Ideal S1x8 .f32) (h : Fin 8) :
    val_main_v7 (F := Ideal) x y b (ix2 0 h) = ∑ r : Fin 8192, suffix x h r.val * gate (y (ix2 r h) + b (ix2 0 h)) := by
  rw [val_main_v7_apply, val_main_v6_apply]
  have hc : val_main_cst (F := Ideal) (Shape.Idx.first Cert.FgateRefIdeal.Gen.facts.h_S_) = 0 := by
    pointwise [val_main_cst]
  rw [hc, zero_add]
  refine Finset.sum_congr rfl fun r _ => ?_
  rw [← v5_apply]
  congr 1
  funext a
  fin_cases a
  · rfl
  · apply Fin.ext
    have := h.isLt
    show _ = h.val
    simp [idx_main_v7]

/-- The reference runs and leaves its arguments unchanged. -/
theorem frame_reference : Cert.quiescent_FgateRefIdeal := fun m ρ _ =>
  (θ_run Cert.FgateRefIdeal.defs _ _).mono (fun r h => ⟨fun c => (h c).2.2,
      Idealize.ShloMosaic.sem_eq_zero_of_no_sems (by decide) r.2⟩)
    (Cert.FgateRefIdeal.Value.run (F := Ideal) m ρ)

theorem algebraic : Cert.algebraic_FgateIdeal_FgateRefIdeal := by
  intro m ρ m' ρ' _ hagree
  refine ⟨fun c j => Array.grad m c (j 0) (j 1), fun c => Array.total m c, ?_, ?_⟩
  · refine (θ_run Cert.FgateIdeal.defs _ _).mono (fun _ h c => ?_) (Cert.FgateIdeal.Value.run_blocks (F := Ideal) m ρ)
    exact ⟨(h c).1.trans (Array.final3 m c), (h c).2.1.trans (Array.final4 m c), (h c).2.2⟩
  · refine (θ_run Cert.FgateRefIdeal.defs _ _).mono (fun _ h c => ?_) (Cert.FgateRefIdeal.Value.run (F := Ideal) m' ρ')
    obtain ⟨h0, h1, h2⟩ := hagree c
    refine ⟨(h c).1.trans ?_, (h c).2.1.trans ?_, (h c).2.2⟩
    · rw [val_main_v5_eq, h0, h1, h2]
      funext j
      obtain ⟨r, k, rfl⟩ : ∃ r k, j = ix2 r k := ⟨_, _, eq_ix2 j⟩
      exact v5_apply _ _ _ r k
    · rw [val_main_v7_eq, h0, h1, h2]
      funext j
      obtain ⟨r, k, rfl⟩ : ∃ r k, j = ix2 r k := ⟨_, _, eq_ix2 j⟩
      have hr : r = 0 := Subsingleton.elim _ _
      subst hr
      exact v7_apply _ _ _ k

end Cert.FgateProof.Equation

end
-- ==== Proof.AttnCast.lean ====
/- Facts of the extended reals used on both sides of the attention claim: sums and maxima of real numbers, the maximum a
   softmax subtracts, and a running sum. -/
module

public import proofs.«01_k».proof.Defs
public import Idealize.ShloMosaic.PureOps.Ideal.Laws
public import Idealize.ShloMosaic.Lib.Pipeline.Value
public import Idealize.ShloMosaic.Lib.ValueIdx
public import Idealize.ShloMosaic.Lib.Pointwise
public import Idealize.ShloMosaic.Lib.WordArith

@[expose] public section

set_option maxRecDepth 16384

noncomputable section

namespace Cert.AttnProof.Cast

open Idealize.ShloMosaic Idealize.ShloMosaic.TcCoe

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

theorem coe_ite (p : Prop) [Decidable p] (a b : ℝ) : ((if p then a else b : ℝ) : EReal) = if p then (a : EReal) else (b : EReal) :=
  apply_ite _ _ _ _

theorem div_real (a b : ℝ) (h : b ≠ 0) : Ideal.div (a : EReal) (b : EReal) = ((a / b : ℝ) : EReal) := by
  rw [Ideal.div_coe h, ← EReal.coe_mul, mul_one_div]

theorem le_select {α : Type} (a b : Fin 8192) (x y : α) :
    Scalar.select (IntOp.cmpi CmpIPredicate.sle (BitVec.ofNat 32 a.val) (BitVec.ofNat 32 b.val)) x y = if a ≤ b then x else y := by
  show Scalar.select (BitVec.ofBool (BitVec.sle (BitVec.ofNat 32 a.val) (BitVec.ofNat 32 b.val))) x y = _
  rw [BitVec.sle_eq_decide, WordArith.toInt_ofNat_small _ (by omega), WordArith.toInt_ofNat_small _ (by omega)]
  by_cases h : a.val ≤ b.val
  · rw [if_pos (Fin.le_def.mpr h), decide_eq_true (Int.ofNat_le.mpr h)]; rfl
  · rw [if_neg (fun e => h (Fin.le_def.mp e)), decide_eq_false (fun e => h (Int.ofNat_le.mp e))]; rfl

theorem eighth : Ideal.ofBits FTy.f32 1040187392#32 = ((1 / 8 : ℝ) : EReal) := by
  show Ideal.ofBits .f32 0x3E000000#32 = _
  simp [Ideal.ofBits, Ideal.ieee, -EReal.coe_mul]; norm_num

theorem lower : Ideal.ofBits FTy.f32 4286578688#32 = (⊥ : EReal) := by
  simp [Ideal.ofBits, Ideal.ieee]

/-- A maximum over an axis is a real number where no element is infinite upwards and one is real. -/
theorem reduce_max_real {s t u : Shape} {axes : List (Fin s.rank)} (x : Vec Ideal s .f32) (init : Vec Ideal u .f32)
    (h : s.ReducesTo axes t) (hu : 0 < u.numel) (j : t.Idx) (hi : init (Shape.Idx.first hu) = (⊥ : EReal))
    (ht : ∀ i, x i ≠ (⊤ : EReal)) (i : s.Idx) (hij : h.drop i = j) (hb : x i ≠ (⊥ : EReal)) :
    ∃ M : ℝ, Host.reduce (FloatOps.maximumf (F := Ideal) (φ := .f32)) x init h hu j = (M : EReal) := by
  rw [Host.reduce_eq_fold, hi]
  change ∃ M : ℝ, (Finset.univ.filter fun i => h.drop i = j).fold (max : EReal → EReal → EReal) ⊥ (fun i => (x i : EReal)) = M
  generalize hs : (Finset.univ.filter fun i => h.drop i = j) = S
  have hmem : i ∈ S := by rw [← hs]; exact Finset.mem_filter.mpr ⟨Finset.mem_univ _, hij⟩
  have htop : S.fold (max : EReal → EReal → EReal) ⊥ (fun i => (x i : EReal)) ≠ ⊤ :=
    (Finset.fold_max_lt (⊤ : EReal) |>.mpr ⟨bot_lt_top, fun y _ => lt_top_iff_ne_top.mpr (ht y)⟩).ne
  have hbot : S.fold (max : EReal → EReal → EReal) ⊥ (fun i => (x i : EReal)) ≠ ⊥ :=
    ((Finset.lt_fold_max (⊥ : EReal)).mpr (Or.inr ⟨i, hmem, bot_lt_iff_ne_bot.mpr hb⟩)).ne'
  exact ⟨_, (EReal.coe_toReal htop hbot).symm⟩

/-- Column `h` of an array, at a row number, zero outside the array. -/
def col (x : Vec Ideal ⟨2, ![8192, 8]⟩ .f32) (h : Fin 8) (j : ℕ) : EReal := if hj : j < 8192 then x (ix2 ⟨j, hj⟩ h) else 0

/-- Adding up a list from a start is the start plus the sum. -/
theorem foldl_sum {n : ℕ} (f : Fin n → EReal) (v : EReal) :
    (List.finRange n).foldl (fun r k => r + f k) v = v + ∑ k, f k := by
  rw [← List.sum_ofFn, List.ofFn_eq_map]
  generalize List.finRange n = l
  induction l generalizing v with
  | nil => simp
  | cons a l ih => simp only [List.foldl_cons, List.map_cons, List.sum_cons]; rw [ih, add_assoc]

theorem back_lt (r w : ℕ) (hr : r < 8192) (hw : w < 8192) : r + w - 8191 < 8192 := by omega

/-- A window as long as the array, padded before it, sums the rows up to the one it ends at. -/
theorem cumsum {u : Shape} (x : Vec Ideal ⟨2, ![8192, 8]⟩ .f32) (init : Vec Ideal u .f32)
    (hw : (⟨2, ![8192, 8]⟩ : Shape).ReduceWindows ![8192, 1] ![1, 1] ![8191, 0] ![0, 0] ⟨2, ![8192, 8]⟩) (hu : 0 < u.numel)
    (hi : init (Shape.Idx.first hu) = (0 : EReal)) (r : Fin 8192) (h : Fin 8) :
    Host.reduceWindowAdd (F := Ideal) (φ := .f32) ![8192, 1] ![1, 1] ![8191, 0] ![0, 0] x init hw hu (ix2 r h)
      = ∑ j : Fin 8192, if j ≤ r then (x (ix2 j h) : EReal) else 0 := by
  unfold Host.reduceWindowAdd
  rw [Ideal.hostReduceWindowAdd_def, hi]
  unfold Ideal.hostReduceWindowAdd Host.reduceWindow
  dsimp only
  rw [foldl_sum, zero_add]
  have hr := r.isLt
  have hh := h.isLt
  calc _ = ∑ k, (fun w : (⟨2, ![8192, 1]⟩ : Shape).Idx => if 8191 ≤ r.val + (w 0).val then col x h (r.val + (w 0).val - 8191) else 0)
        ((⟨2, ![8192, 1]⟩ : Shape).rowMajor.symm k) := Finset.sum_congr rfl fun k _ => ?_
    _ = ∑ w : (⟨2, ![8192, 1]⟩ : Shape).Idx, if 8191 ≤ r.val + (w 0).val then col x h (r.val + (w 0).val - 8191) else 0 :=
        Equiv.sum_comp (⟨2, ![8192, 1]⟩ : Shape).rowMajor.symm
          (fun w : (⟨2, ![8192, 1]⟩ : Shape).Idx => if 8191 ≤ r.val + (w 0).val then col x h (r.val + (w 0).val - 8191) else 0)
    _ = _ := ?_
  · have hb : ((⟨2, ![8192, 1]⟩ : Shape).rowMajor.symm k 1).val = 0 := by
      have := ((⟨2, ![8192, 1]⟩ : Shape).rowMajor.symm k 1).isLt
      change _ < 1 at this
      omega
    have ha : ((⟨2, ![8192, 1]⟩ : Shape).rowMajor.symm k 0).val < 8192 := ((⟨2, ![8192, 1]⟩ : Shape).rowMajor.symm k 0).isLt
    dsimp only
    by_cases hle : 8191 ≤ r.val + ((⟨2, ![8192, 1]⟩ : Shape).rowMajor.symm k 0).val
    · rw [if_pos hle, dif_pos]
      · unfold col
        rw [dif_pos (back_lt _ _ hr ha)]
        congr 1
        funext q
        fin_cases q
        · exact Fin.ext (congrArg (fun a => a + ((⟨2, ![8192, 1]⟩ : Shape).rowMajor.symm k 0).val - 8191) (Nat.mul_one r.val))
        · apply Fin.ext; show h.val * 1 + _ - 0 = h.val; rw [Nat.mul_one, Nat.sub_zero, Nat.add_eq_left]; exact hb
      · intro q
        fin_cases q
        · refine ⟨?_, ?_⟩
          · show 8191 ≤ r.val * 1 + _
            rw [Nat.mul_one]; exact hle
          · exact back_lt (r.val * 1) _ (by rw [Nat.mul_one]; exact hr) ha
        · refine ⟨Nat.zero_le _, ?_⟩
          show h.val * 1 + ((⟨2, ![8192, 1]⟩ : Shape).rowMajor.symm k 1).val - 0 < 8
          rw [Nat.mul_one, Nat.sub_zero, hb]
          exact hh
    · rw [if_neg hle, dif_neg]
      intro hq
      have := (hq 0).1
      change 8191 ≤ r.val * 1 + _ at this
      rw [Nat.mul_one] at this
      exact hle this
  · rw [sum_idx2]
    simp only [Fin.sum_univ_one]
    show (∑ a : Fin 8192, if 8191 ≤ r.val + a.val then col x h (r.val + a.val - 8191) else 0) = _
    have er : (∑ j : Fin 8192, if j ≤ r then (x (ix2 j h) : EReal) else 0)
        = ∑ j : Fin 8192, if j.val < r.val + 1 then col x h j.val else 0 := by
      refine Finset.sum_congr rfl fun j _ => ?_
      have : j ≤ r ↔ j.val < r.val + 1 := by rw [Fin.le_def]; omega
      simp only [this]
      unfold col
      rw [dif_pos j.isLt]
    rw [er, Fin.sum_univ_eq_sum_range (fun a => if 8191 ≤ r.val + a then col x h (r.val + a - 8191) else 0) 8192,
      Fin.sum_univ_eq_sum_range (fun a => if a < r.val + 1 then col x h a else 0) 8192, ← Finset.sum_filter, ← Finset.sum_filter]
    refine Finset.sum_nbij' (fun a => r.val + a - 8191) (fun a => a + 8191 - r.val) ?_ ?_ ?_ ?_ ?_
    all_goals intro a ha; simp only [Finset.mem_filter, Finset.mem_range] at ha ⊢
    · omega
    · omega
    · omega
    · omega

end Cert.AttnProof.Cast
-- ==== Proof.AttnReal.lean ====
/- The attention backward over the real numbers: scores, weights and their gradients, and the facts of the softmax that
   do not depend on how its exponentials are scaled. -/
module

public import proofs.«01_k».proof.Defs

@[expose] public section

noncomputable section

namespace Cert.AttnProof.Real

open Idealize.ShloMosaic

/-- The arguments of the call as real numbers; `x` is the logit of the gate with its bias added. -/
structure Data where
  q : Fin 8192 → Fin 512 → ℝ
  k : Fin 8192 → Fin 512 → ℝ
  v : Fin 8192 → Fin 512 → ℝ
  d : Fin 8192 → Fin 512 → ℝ
  x : Fin 8192 → Fin 8 → ℝ

/-- Lane `d` of head `h` among the 512 columns. -/
def lane (h : Fin 8) (d : Fin 64) : Fin 512 := ⟨h.val * 64 + d.val, by omega⟩

/-- The logarithm of the logistic function. -/
def lsig (x : ℝ) : ℝ := min x 0 - _root_.Real.log (1 + _root_.Real.exp (-|x|))

variable (D : Data)

/-- The running sum of the log gates. -/
def gate (R : Fin 8192) (h : Fin 8) : ℝ := ∑ j : Fin 8192, if j ≤ R then lsig (D.x j h) else 0

def score (h : Fin 8) (R S : Fin 8192) : ℝ :=
  (∑ d : Fin 64, D.q R (lane h d) * D.k S (lane h d)) * (1 / 8) + gate D R h - gate D S h

/-- The weight of key `S` at query `R` before the division, relative to `M`. -/
def weight (M : ℝ) (h : Fin 8) (R S : Fin 8192) : ℝ := if S ≤ R then _root_.Real.exp (score D h R S - M) else 0

def total (M : ℝ) (h : Fin 8) (R : Fin 8192) : ℝ := ∑ S : Fin 8192, weight D M h R S

/-- The attention weight. -/
def prob (h : Fin 8) (R S : Fin 8192) : ℝ := weight D 0 h R S / total D 0 h R

/-- The cotangent of the attention weight. -/
def dprob (h : Fin 8) (R S : Fin 8192) : ℝ := ∑ d : Fin 64, D.d R (lane h d) * D.v S (lane h d)

def mean (h : Fin 8) (R : Fin 8192) : ℝ := ∑ S : Fin 8192, prob D h R S * dprob D h R S

/-- The cotangent of the score. -/
def dscore (h : Fin 8) (R S : Fin 8192) : ℝ := prob D h R S * (dprob D h R S - mean D h R)

/-- The head a column belongs to. -/
def head (j : Fin 512) : Fin 8 := ⟨j.val / 64, by omega⟩

def gradQ (R : Fin 8192) (j : Fin 512) : ℝ := ∑ S : Fin 8192, dscore D (head j) R S * (1 / 8) * D.k S j

def gradK (S : Fin 8192) (j : Fin 512) : ℝ := ∑ R : Fin 8192, dscore D (head j) R S * (1 / 8) * D.q R j

def gradV (S : Fin 8192) (j : Fin 512) : ℝ := ∑ R : Fin 8192, D.d R j * prob D (head j) R S

/-- The cotangent of the gate sum at the query. -/
def gradFq (h : Fin 8) (R : Fin 8192) : ℝ := ∑ S : Fin 8192, dscore D h R S

/-- The cotangent of the gate sum at the key, the sign left out. -/
def gradFk (h : Fin 8) (S : Fin 8192) : ℝ := ∑ R : Fin 8192, dscore D h R S

theorem weight_nonneg (M : ℝ) (h : Fin 8) (R S : Fin 8192) : 0 ≤ weight D M h R S := by
  unfold weight
  split
  · exact (_root_.Real.exp_pos _).le
  · exact le_rfl

theorem total_pos (M : ℝ) (h : Fin 8) (R : Fin 8192) : 0 < total D M h R := by
  refine Finset.sum_pos' (fun S _ => weight_nonneg D M h R S) ⟨R, Finset.mem_univ _, ?_⟩
  unfold weight
  rw [if_pos le_rfl]
  exact _root_.Real.exp_pos _

theorem weight_scale (M : ℝ) (h : Fin 8) (R S : Fin 8192) :
    weight D M h R S = weight D 0 h R S * _root_.Real.exp (-M) := by
  unfold weight
  split
  · rw [← _root_.Real.exp_add, sub_zero, sub_eq_add_neg]
  · rw [zero_mul]

theorem total_scale (M : ℝ) (h : Fin 8) (R : Fin 8192) : total D M h R = total D 0 h R * _root_.Real.exp (-M) := by
  unfold total
  rw [Finset.sum_mul]
  exact Finset.sum_congr rfl fun S _ => weight_scale D M h R S

/-- The attention weight does not depend on what the exponentials are relative to. -/
theorem prob_eq (M : ℝ) (h : Fin 8) (R S : Fin 8192) : weight D M h R S / total D M h R = prob D h R S := by
  rw [weight_scale, total_scale, mul_div_mul_right _ _ (_root_.Real.exp_pos _).ne']
  rfl

/-- The attention weight from the score and the logarithm of the total. -/
theorem prob_log (M : ℝ) (h : Fin 8) (R S : Fin 8192) (hle : S ≤ R) :
    _root_.Real.exp (score D h R S - (M + _root_.Real.log (total D M h R))) = prob D h R S := by
  rw [← prob_eq D M, ← sub_sub, _root_.Real.exp_sub, _root_.Real.exp_log (total_pos D M h R)]
  unfold weight
  rw [if_pos hle]

theorem prob_masked (h : Fin 8) (R S : Fin 8192) (hlt : ¬ S ≤ R) : prob D h R S = 0 := by
  unfold prob weight
  rw [if_neg hlt, zero_div]

theorem dscore_masked (h : Fin 8) (R S : Fin 8192) (hlt : ¬ S ≤ R) : dscore D h R S = 0 := by
  unfold dscore
  rw [prob_masked D h R S hlt, zero_mul]

/-- The cotangent of the score in the form the derivative of a quotient gives it. -/
theorem dscore_quotient (M : ℝ) (h : Fin 8) (R S : Fin 8192) :
    (dprob D h R S / total D M h R
      + -∑ S' : Fin 8192, dprob D h R S' * (1 / (total D M h R * total D M h R)) * weight D M h R S')
        * weight D M h R S = dscore D h R S := by
  have ht := (total_pos D M h R).ne'
  unfold dscore mean
  simp only [← prob_eq D M]
  have e : ∑ S' : Fin 8192, dprob D h R S' * (1 / (total D M h R * total D M h R)) * weight D M h R S'
      = (∑ S' : Fin 8192, weight D M h R S' / total D M h R * dprob D h R S') / total D M h R := by
    rw [Finset.sum_div]
    refine Finset.sum_congr rfl fun S' _ => ?_
    field_simp
  rw [e]
  field_simp
  try ring

/-- The row mean from the output and the cotangent. -/
theorem mean_output (h : Fin 8) (R : Fin 8192) :
    ∑ d : Fin 64, D.d R (lane h d) * (∑ S : Fin 8192, D.v S (lane h d) * prob D h R S) = mean D h R := by
  unfold mean dprob
  simp only [Finset.mul_sum]
  rw [Finset.sum_comm]
  refine Finset.sum_congr rfl fun S _ => Finset.sum_congr rfl fun d _ => ?_
  ring

end Cert.AttnProof.Real
-- ==== Proof.AttnHost.lean ====
/- The host lines before the attention call, read as real numbers: the gate sums and the packed heads. -/
module

public import proofs.«01_k».proof.Proof.Gen.AttnIdeal.Value
public import proofs.«01_k».proof.Proof.AttnCast
public import proofs.«01_k».proof.Proof.AttnReal
public import Idealize.ShloMosaic.Lib.StableHlo.ReadAt

@[expose] public section

set_option maxRecDepth 16384

noncomputable section

namespace Cert.AttnProof.Host

open Cert.AttnIdeal Cert.AttnIdeal.Gen Idealize.ShloMosaic Idealize.ShloMosaic.TcCoe
open Cert.AttnProof.Real Cert.AttnProof.Cast

variable (m : (ℓ : Loc nD τ sig) → Buf (Elt Ideal) ℓ) (c : Dev nD)

abbrev argQ : Vec Ideal S8192x512 .f32 := m (c, Proc.tc.devRef main_arg0)
abbrev argK : Vec Ideal S8192x512 .f32 := m (c, Proc.tc.devRef main_arg1)
abbrev argV : Vec Ideal S8192x512 .f32 := m (c, Proc.tc.devRef main_arg2)
abbrev argL : Vec Ideal S8192x8 .f32 := m (c, Proc.tc.devRef main_arg3)
abbrev argB : Vec Ideal S1x8 .f32 := m (c, Proc.tc.devRef main_arg4)
abbrev argD : Vec Ideal S8192x512 .f32 := m (c, Proc.tc.devRef main_arg5)

/-- The arguments hold the real numbers of `D`. -/
structure Holds (D : Data) : Prop where
  q : ∀ R j, (argQ m c (ix2 R j) : EReal) = (D.q R j : EReal)
  k : ∀ R j, (argK m c (ix2 R j) : EReal) = (D.k R j : EReal)
  v : ∀ R j, (argV m c (ix2 R j) : EReal) = (D.v R j : EReal)
  d : ∀ R j, (argD m c (ix2 R j) : EReal) = (D.d R j : EReal)
  x : ∀ R h, (argL m c (ix2 R h) : EReal) + (argB m c (ix2 0 h) : EReal) = (D.x R h : EReal)

variable {m c} {D : Data}

/-- The log-sigmoid as the host writes it. -/
theorem lsig_coe (t : ℝ) : min (t : EReal) 0 - Ideal.log (1 + Ideal.exp (-max (t : EReal) (-(t : EReal)))) = (lsig t : EReal) := by
  have hp : ¬ ((1 + _root_.Real.exp (-max t (-t)) : ℝ) ≤ 0) := not_le.mpr (by positivity)
  rw [← EReal.coe_neg, ← coe_max, ← EReal.coe_neg, Ideal.exp_coe, ← EReal.coe_one, ← EReal.coe_add, Ideal.log_coe, if_neg hp,
    ← EReal.coe_zero, ← coe_min, ← EReal.coe_sub]
  unfold lsig
  rw [abs_eq_max_neg]

theorem gate_at (H : Holds m c D) (S : Fin 8192) (h : Fin 8) :
    (Host.reduceWindowAdd (F := Ideal) (φ := .f32) ![8192, 1] ![1, 1] ![8191, 0] ![0, 0]
      (subf
        (minimumf
          (addf (m (c, Proc.tc.devRef main_arg3))
            (broadcastInDim S8192x8 ![0, 1] bcast_S1x8_S8192x8_0_1 (m (c, Proc.tc.devRef main_arg4))))
          (broadcastInDim S8192x8 ![] bcast_S_S8192x8 (constant S_ FTy.f32 0#32)))
        (Host.log
          (addf (broadcastInDim S8192x8 ![] bcast_S_S8192x8 (constant S_ FTy.f32 1065353216#32))
            (Host.exp
              (Host.negf
                (Host.absf
                  (addf (m (c, Proc.tc.devRef main_arg3))
                    (broadcastInDim S8192x8 ![0, 1] bcast_S1x8_S8192x8_0_1 (m (c, Proc.tc.devRef main_arg4))))))))))
      (broadcastInDim S_ ![] bcast_S_S_ (constant S_ FTy.f32 0#32))
      reduceWindows_S8192x8_S8192x8_w8192s1p8191_0_w1s1p0_0 h_S_ (ix2 S h) : EReal) = (gate D S h : EReal) := by
  refine (cumsum _ _ _ _ ?_ S h).trans ?_
  · pointwise []
  · unfold gate
    rw [coe_sum]
    refine Finset.sum_congr rfl fun j _ => ?_
    rw [coe_ite, EReal.coe_zero]
    refine congrArg (fun z : EReal => if j ≤ S then z else 0) ?_
    pointwise []
    rw [Ideal.absf_def, H.x, lsig_coe]

/-- What a lane of the other head holds of the query, by its place: the gate sum in three parts, then ones. -/
def extraQ (g : ℝ) (j : ℕ) : ℝ :=
  if j = 5 then 1 else if j = 2 then 0 else if j = 4 then 1 else if j = 1 then 0 else if j = 3 then 1 else if j = 0 then g else 0

/-- What a lane of the other head holds of the key, by its place: ones, then the gate sum's parts with the sign changed. -/
def extraK (g : ℝ) (j : ℕ) : ℝ :=
  if j = 5 then 0 else if j = 2 then 1 else if j = 4 then 0 else if j = 1 then 1 else if j = 3 then -g else if j = 0 then 1 else 0

/-- Column `l` of the pair that head `p` is in. -/
def pairLane (p : Fin 8) (l : Fin 128) : Fin 512 := ⟨p.val / 2 * 128 + l.val, by omega⟩

variable (D) in
def packQ (p : Fin 8) (S : Fin 8192) (l : Fin 128) : ℝ :=
  if p.val % 2 = 0 ↔ l.val < 64 then D.q S (pairLane p l) * (1 / 8) else extraQ (gate D S p) (l.val % 64)

variable (D) in
def packK (p : Fin 8) (S : Fin 8192) (l : Fin 128) : ℝ :=
  if p.val % 2 = 0 ↔ l.val < 64 then D.k S (pairLane p l) else extraK (gate D S p) (l.val % 64)

theorem own_word (p : Fin 8) (l : Fin 128) :
    Scalar.select (IntOp.cmpi CmpIPredicate.eq (BitVec.ofNat 32 (p.val % 2)) 0#32)
      (IntOp.cmpi CmpIPredicate.slt (BitVec.ofNat 32 l.val) 64#32) (IntOp.cmpi CmpIPredicate.sge (BitVec.ofNat 32 l.val) 64#32)
      = BitVec.ofBool (decide (p.val % 2 = 0 ↔ l.val < 64)) := by
  revert p l
  decide +kernel

theorem place_select (a : Fin 4) (b : Fin 2) (S : Fin 8192) (l : Fin 128) :
    (id (select (cmpi CmpIPredicate.eq (iotaInDim S4x2x8192x128 32 1)
        (broadcastInDim S4x2x8192x128 ![] bcast_S_S4x2x8192x128 (constantI S_ 32 0#32)))
      (broadcastInDim S4x2x8192x128 ![] bcast_S_S4x2x8192x128 (constantI S_ 32 64#32))
      (broadcastInDim S4x2x8192x128 ![] bcast_S_S4x2x8192x128 (constantI S_ 32 0#32))) : IVec S4x2x8192x128 32) (ix4 a b S l)
      = Scalar.select (IntOp.cmpi CmpIPredicate.eq (BitVec.ofNat 32 b.val) 0#32) 64#32 0#32 := by
  rw [id]
  pointwise []

theorem place_word (p : Fin 8) (l : Fin 128) (k : Fin 6) (hn : ¬ (p.val % 2 = 0 ↔ l.val < 64)) :
    IntOp.cmpi CmpIPredicate.eq (IntOp.subi (BitVec.ofNat 32 l.val)
      (Scalar.select (IntOp.cmpi CmpIPredicate.eq (BitVec.ofNat 32 (p.val % 2)) 0#32) 64#32 0#32)) (BitVec.ofNat 32 k.val)
      = BitVec.ofBool (decide (l.val % 64 = k.val)) := by
  revert p l k
  decide +kernel

theorem select_ofBool {α : Type} (q : Prop) [Decidable q] (x y : α) :
    Scalar.select (BitVec.ofBool (decide q)) x y = if q then x else y := by
  by_cases h : q
  · rw [if_pos h, decide_eq_true h]; rfl
  · rw [if_neg h, decide_eq_false h]; rfl

theorem place_pick {α : Type} (p : Fin 8) (l : Fin 128) (S : Fin 8192) (a : Fin 4) (k : ℕ) (hk : k < 6)
    (hn : ¬ (p.val % 2 = 0 ↔ l.val < 64)) (hb : p.val % 2 < 2) (x y : α) :
    Scalar.select (IntOp.cmpi CmpIPredicate.eq (IntOp.subi (BitVec.ofNat 32 l.val)
      ((id (select (cmpi CmpIPredicate.eq (iotaInDim S4x2x8192x128 32 1)
          (broadcastInDim S4x2x8192x128 ![] bcast_S_S4x2x8192x128 (constantI S_ 32 0#32)))
        (broadcastInDim S4x2x8192x128 ![] bcast_S_S4x2x8192x128 (constantI S_ 32 64#32))
        (broadcastInDim S4x2x8192x128 ![] bcast_S_S4x2x8192x128 (constantI S_ 32 0#32))) : IVec S4x2x8192x128 32)
          (ix4 a ⟨p.val % 2, hb⟩ S l))) (BitVec.ofNat 32 k)) x y = if l.val % 64 = k then x else y := by
  rw [place_select, place_word p l ⟨k, hk⟩ hn, select_ofBool]

theorem pair_head (p : Fin 8) (h : p.val / 2 * 2 + p.val % 2 < 8) : (⟨p.val / 2 * 2 + p.val % 2, h⟩ : Fin 8) = p :=
  Fin.ext (by show p.val / 2 * 2 + p.val % 2 = p.val; omega)

set_option maxHeartbeats 2000000 in
theorem qh_at (H : Holds m c D) (p : Fin 8) (S : Fin 8192) (l : Fin 128) :
    (V m c main_v84 (ix3 p S l) : EReal) = (packQ D p S l : EReal) := by
  unfold V
  after_reads_at
  simp only [gate_at H, pair_head]
  rw [own_word, select_ofBool]
  unfold packQ
  split
  · rw [eighth, EReal.coe_mul, ← H.q]
    rfl
  · rename_i hn
    rw [place_pick p l S _ 5 (by decide) hn, place_pick p l S _ 2 (by decide) hn, place_pick p l S _ 4 (by decide) hn, place_pick p l S _ 1 (by decide) hn, place_pick p l S _ 3 (by decide) hn,
      place_pick p l S _ 0 (by decide) hn]
    simp only [← EReal.coe_sub, sub_self]
    unfold extraQ
    simp only [coe_ite, EReal.coe_one, EReal.coe_zero]

set_option maxHeartbeats 2000000 in
theorem kh_at (H : Holds m c D) (p : Fin 8) (S : Fin 8192) (l : Fin 128) :
    (V m c main_v88 (ix3 p S l) : EReal) = (packK D p S l : EReal) := by
  unfold V
  after_reads_at
  simp only [gate_at H, pair_head]
  rw [own_word, select_ofBool]
  unfold packK
  split
  · rw [← H.k]
    rfl
  · rename_i hn
    rw [place_pick p l S _ 5 (by decide) hn, place_pick p l S _ 2 (by decide) hn, place_pick p l S _ 4 (by decide) hn, place_pick p l S _ 1 (by decide) hn, place_pick p l S _ 3 (by decide) hn,
      place_pick p l S _ 0 (by decide) hn]
    simp only [← EReal.coe_sub, ← EReal.coe_neg, sub_self, neg_zero]
    unfold extraK
    simp only [coe_ite, EReal.coe_one, EReal.coe_zero]

theorem v_at (H : Holds m c D) (S : Fin 8192) (j : Fin 512) : (V m c main_v4 (ix2 S j) : EReal) = (D.v S j : EReal) := by
  unfold V
  after_reads_at
  exact H.v S j

theorem d_at (H : Holds m c D) (S : Fin 8192) (j : Fin 512) : (V m c main_v113 (ix2 S j) : EReal) = (D.d S j : EReal) := by
  unfold V
  after_reads_at
  exact H.d S j

theorem extra_mul (a b : ℝ) (j : ℕ) : extraK b j * extraQ a j = (if j = 0 then a else 0) + if j = 3 then -b else 0 := by
  unfold extraK extraQ
  split_ifs <;> first | omega | simp

theorem sum_halves (f : Fin 128 → ℝ) :
    ∑ l, f l = (∑ d : Fin 64, f ⟨d.val, by omega⟩) + ∑ d : Fin 64, f ⟨64 + d.val, by omega⟩ :=
  Fin.sum_univ_add (a := 64) (b := 64) f

theorem sum_extra (a b : ℝ) : ∑ d : Fin 64, extraK b d.val * extraQ a d.val = a - b := by
  simp only [extra_mul]
  rw [Finset.sum_add_distrib, Fin.sum_univ_eq_sum_range (fun j => if j = 0 then a else 0) 64,
    Fin.sum_univ_eq_sum_range (fun j => if j = 3 then -b else 0) 64, Finset.sum_ite_eq', Finset.sum_ite_eq', if_pos (by simp),
    if_pos (by simp), sub_eq_add_neg]

/-- The packed product is the score. -/
theorem pack_score (p : Fin 8) (R S : Fin 8192) : ∑ l : Fin 128, packK D p S l * packQ D p R l = score D p R S := by
  rw [sum_halves]
  unfold packK packQ score
  rw [Finset.sum_mul, add_sub_assoc, ← sum_extra (gate D R p) (gate D S p)]
  rcases Nat.mod_two_eq_zero_or_one p.val with hp | hp
  · refine congrArg₂ (· + ·) (Finset.sum_congr rfl fun d _ => ?_) (Finset.sum_congr rfl fun d _ => ?_)
    · have hl : pairLane p ⟨d.val, by omega⟩ = lane p d := Fin.ext (by show p.val / 2 * 128 + d.val = p.val * 64 + d.val; omega)
      rw [if_pos (by simp [hp]), if_pos (by simp [hp]), hl]
      ring
    · rw [if_neg (by simp [hp]), if_neg (by simp [hp])]
      simp only [Nat.add_mod_left, Nat.mod_eq_of_lt d.isLt]
  · rw [add_comm]
    refine congrArg₂ (· + ·) (Finset.sum_congr rfl fun d _ => ?_) (Finset.sum_congr rfl fun d _ => ?_)
    · have hl : pairLane p ⟨64 + d.val, by omega⟩ = lane p d :=
        Fin.ext (by show p.val / 2 * 128 + (64 + d.val) = p.val * 64 + d.val; omega)
      rw [if_pos (by simp [hp]), if_pos (by simp [hp]), hl]
      ring
    · rw [if_neg (by simp [hp]), if_neg (by simp [hp])]
      simp only [Nat.mod_eq_of_lt d.isLt]

end Cert.AttnProof.Host
-- ==== Proof.AttnSaved.lean ====
/- What the host saves of the forward for the attention backward: the row log-sums and the row sums of the output times its
   cotangent, read as real numbers. -/
module

public import proofs.«01_k».proof.Proof.AttnHost

@[expose] public section

set_option maxRecDepth 16384

noncomputable section

namespace Cert.AttnProof.Saved

open Cert.AttnIdeal Cert.AttnIdeal.Gen Idealize.ShloMosaic Idealize.ShloMosaic.TcCoe
open Cert.AttnProof.Real Cert.AttnProof.Cast Cert.AttnProof.Host

abbrev Sq := FVec Ideal S8x8192x8192 .f32
abbrev Rows := FVec Ideal S8x8192 .f32

/-- The scores, key before query, with the keys after the query masked. -/
def masked (st : Sq) : Sq :=
  select (cmpi .sge (iotaInDim S8x8192x8192 32 2) (iotaInDim S8x8192x8192 32 1)) st
    (broadcastInDim S8x8192x8192 ![] bcast_S_S8x8192x8192 (id (constant (F := Ideal) S_ .f32 0xFF800000#32)))

/-- The largest score of each query. -/
def top (x : Sq) : Rows :=
  Host.reduce FloatOps.maximumf x (constant (F := Ideal) S_ .f32 0xFF800000#32) reducesTo_S8x8192x8192_S8x8192_d1 h_S_

def expo (x : Sq) : Sq :=
  Host.exp (subf x (broadcastInDim S8x8192x8192 ![0, 1, 2] bcast_S8x1x8192_S8x8192x8192_0_1_2
    (broadcastInDim S8x1x8192 ![0, 2] bcast_S8x8192_S8x1x8192_0_2 (top x))))

def sums (x : Sq) : FVec Ideal S8x1x8192 .f32 :=
  broadcastInDim S8x1x8192 ![0, 2] bcast_S8x8192_S8x1x8192_0_2
    (Host.reduceAdd (expo x) (constant (F := Ideal) S_ .f32 0x00000000#32) reducesTo_S8x8192x8192_S8x8192_d1 h_S_)

def blocks (r : Rows) : FVec Ideal S4x16x2x512 .f32 :=
  transpose S4x16x2x512 [0, 2, 1, 3] (shapeCast S4x2x16x512 r shapeCasts_S8x8192_S4x2x16x512) transposes_S4x2x16x512_S4x16x2x512_0_2_1_3

def logSums (x : Sq) : Rows :=
  shapeCast S8x8192 (addf (broadcastInDim S8x1x8192 ![0, 2] bcast_S8x8192_S8x1x8192_0_2 (top x)) (Host.log (sums x)))
    shapeCasts_S8x1x8192_S8x8192

def output (x : Sq) (v : FVec Ideal S8192x512 .bf16) : FVec Ideal S8x64x8192 .f32 :=
  Host.divf (Host.dotGeneral dot_S8192x8x64_S8x8192x8192_S8x64x8192_0_1_2_2_1_0 none (shapeCast S8192x8x64 v shapeCasts_S8192x512_S8192x8x64)
      (truncf .bf16 (expo x) bitsLt_bf16_f32))
    (broadcastInDim S8x64x8192 ![0, 1, 2] bcast_S8x1x8192_S8x64x8192_0_1_2 (sums x))

def means (x : Sq) (v : FVec Ideal S8192x512 .bf16) (d : FVec Ideal S8192x512 .f32) : Rows :=
  Host.reduceAdd (mulf (shapeCast S8x64x8192 (transpose S512x8192 [1, 0] d transposes_S8192x512_S512x8192_1_0) shapeCasts_S512x8192_S8x64x8192)
    (output x v)) (constant (F := Ideal) S_ .f32 0x00000000#32) reducesTo_S8x64x8192_S8x8192_d1 h_S_

variable (m : (ℓ : Loc nD τ sig) → Buf (Elt Ideal) ℓ) (c : Dev nD)

theorem after_flatten_append (A B : List (List (HloOp τ sig (Elt Ideal)))) (W : Valuation τ sig (Elt Ideal)) :
    StableHlo.after (List.flatten (A ++ B)) W = StableHlo.after (List.flatten B) (StableHlo.after (List.flatten A) W) := by
  rw [List.flatten_append, StableHlo.after_append]

/-- The buffers before the scores are computed. -/
def before : Valuation τ sig (Elt Ideal) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33]) (fun b => m (c, b))

theorem before_cut (b : Ref sig .tc) : V m c b = StableHlo.after (List.flatten [hostOps0_34, hostOps0_35, hostOps0_36]) (before m c) b :=
  congrFun (after_flatten_append [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33] [hostOps0_34, hostOps0_35, hostOps0_36] (fun b => m (c, b))) b

/-- The buffers once the scores are masked. -/
def after_mask : Valuation τ sig (Elt Ideal) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35]) (fun b => m (c, b))

theorem after_mask_cut (b : Ref sig .tc) : V m c b = StableHlo.after (List.flatten [hostOps0_36]) (after_mask m c) b :=
  congrFun (after_flatten_append [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35] [hostOps0_36] (fun b => m (c, b))) b

theorem v89 : (V m c main_v89 : Sq) = Host.dotGeneral (F := Ideal) (φ₁ := .bf16) (φ₂ := .bf16) dot_S8x8192x128_S8x8192x128_S8x8192x8192_2_2_1_1_0_0 none
    (V m c main_v88) (V m c main_v84) := by
  rw [before_cut m c main_v89, before_cut m c main_v88, before_cut m c main_v84]
  generalize before m c = W
  after_reads_simp

theorem v93 : V m c main_v93 = masked (V m c main_v89) := by
  rw [before_cut m c main_v93, before_cut m c main_v89]
  generalize before m c = W
  unfold masked
  after_reads_simp
  rfl

theorem v115 : V m c main_v115 = blocks (logSums (V m c main_v93)) := by
  rw [after_mask_cut m c main_v115, after_mask_cut m c main_v93]
  generalize after_mask m c = W
  unfold blocks logSums sums expo top
  after_reads_simp
  rfl

theorem v117 : V m c main_v117 = blocks (means (V m c main_v93) (V m c main_v4) (V m c main_arg5)) := by
  rw [after_mask_cut m c main_v117, after_mask_cut m c main_v93, after_mask_cut m c main_v4, after_mask_cut m c main_arg5]
  generalize after_mask m c = W
  unfold blocks means output sums expo top
  after_reads_simp
  rfl

end Cert.AttnProof.Saved
-- ==== Proof.AttnRows.lean ====
/- The saved row log-sums and row means of the attention forward, as real numbers. -/
module

public import proofs.«01_k».proof.Proof.AttnSaved

@[expose] public section

set_option maxRecDepth 16384

noncomputable section

namespace Cert.AttnProof.Rows

open Cert.AttnIdeal Cert.AttnIdeal.Gen Idealize.ShloMosaic Idealize.ShloMosaic.TcCoe
open Cert.AttnProof.Real Cert.AttnProof.Cast Cert.AttnProof.Host Cert.AttnProof.Saved

theorem ge_select {α : Type} (a b : Fin 8192) (x y : α) :
    Scalar.select (IntOp.cmpi CmpIPredicate.sge (BitVec.ofNat 32 a.val) (BitVec.ofNat 32 b.val)) x y = if b ≤ a then x else y :=
  le_select b a x y

variable {D : Data} {x : Sq}

/-- The masked scores, key before query. -/
def Scores (D : Data) (x : Sq) : Prop :=
  ∀ h S R, (x (ix3 h S R) : EReal) = if S ≤ R then (score D h R S : EReal) else ⊥

theorem masked_at (st : Sq) (hst : ∀ h S R, (st (ix3 h S R) : EReal) = (score D h R S : EReal)) : Scores D (masked st) := by
  intro h S R
  unfold masked
  pointwise []
  rw [ge_select, hst, id]
  exact congrArg (fun x : EReal => if S ≤ R then (score D h R S : EReal) else x) lower

theorem top_real (H : Scores D x) (h : Fin 8) (R : Fin 8192) : ∃ M : ℝ, (top x (ix2 h R) : EReal) = (M : EReal) := by
  unfold top
  refine reduce_max_real _ _ _ _ _ ?_ (fun i => ?_) (ix3 h R R) ?_ ?_
  · exact lower
  · have e : (x i : EReal) = if (i 1 : Fin 8192) ≤ (i 2 : Fin 8192) then (score D (i 0) (i 2) (i 1) : EReal) else ⊥ :=
      (congrArg x (eq_ix3 i)).trans (H _ _ _)
    rw [e]
    split
    · exact EReal.coe_ne_top _
    · exact bot_ne_top
  · funext b
    fin_cases b <;> rfl
  · rw [H, if_pos le_rfl]
    exact EReal.coe_ne_bot _

/-- The largest score of a query, as a real number. -/
def peak (H : Scores D x) (h : Fin 8) (R : Fin 8192) : ℝ := (top_real H h R).choose

theorem top_at (H : Scores D x) (h : Fin 8) (R : Fin 8192) : (top x (ix2 h R) : EReal) = (peak H h R : EReal) :=
  (top_real H h R).choose_spec

theorem spread (y : Rows) (h : Fin 8) (S R : Fin 8192) :
    broadcastInDim S8x8192x8192 ![0, 1, 2] bcast_S8x1x8192_S8x8192x8192_0_1_2
      (broadcastInDim S8x1x8192 ![0, 2] bcast_S8x8192_S8x1x8192_0_2 y) (ix3 h S R) = y (ix2 h R) := by
  pointwise []

theorem expo_at (H : Scores D x) (h : Fin 8) (S R : Fin 8192) :
    (expo x (ix3 h S R) : EReal) = (weight D (peak H h R) h R S : EReal) := by
  unfold expo
  show Ideal.exp ((x (ix3 h S R) : EReal) - broadcastInDim S8x8192x8192 ![0, 1, 2] bcast_S8x1x8192_S8x8192x8192_0_1_2
      (broadcastInDim S8x1x8192 ![0, 2] bcast_S8x8192_S8x1x8192_0_2 (top x)) (ix3 h S R)) = _
  rw [spread, top_at H, H]
  unfold weight
  split
  · rw [← EReal.coe_sub, Ideal.exp_coe]
  · rw [EReal.bot_sub, Ideal.exp_bot, EReal.coe_zero]

theorem add_keys (y : Sq) (h : Fin 8) (R : Fin 8192) :
    (Host.reduceAdd y (constant (F := Ideal) S_ .f32 0x00000000#32) reducesTo_S8x8192x8192_S8x8192_d1 h_S_ (ix2 h R) : EReal)
      = ∑ S : Fin 8192, (y (ix3 h S R) : EReal) := by
  simp only [Host.reduceAdd, Ideal.hostReduceAdd_def]
  rw [Ideal.hostReduceAdd_single reducesTo_S8x8192x8192_S8x8192_d1 (by decide)]
  refine (congrArg₂ (· + ·) (show _ = (0 : EReal) from Ideal.ofBits_zero_f32) (Finset.sum_congr rfl fun k _ => ?_)).trans (zero_add _)
  exact congrArg y (funext fun a => Fin.ext (by match a with | ⟨0, _⟩ => rfl | ⟨1, _⟩ => rfl | ⟨2, _⟩ => rfl))

theorem widen (y : Rows) (h : Fin 8) (z : Fin 1) (R : Fin 8192) :
    broadcastInDim S8x1x8192 ![0, 2] bcast_S8x8192_S8x1x8192_0_2 y (ix3 h z R) = y (ix2 h R) := by
  pointwise []

theorem total_at (y : Sq) (M : ℝ) (h : Fin 8) (R : Fin 8192) (hy : ∀ S, (y (ix3 h S R) : EReal) = (weight D M h R S : EReal)) :
    (Host.reduceAdd y (constant (F := Ideal) S_ .f32 0x00000000#32) reducesTo_S8x8192x8192_S8x8192_d1 h_S_ (ix2 h R) : EReal)
      = (total D M h R : EReal) :=
  (add_keys y h R).trans ((Finset.sum_congr rfl fun S _ => hy S).trans (coe_sum _ _).symm)

theorem sums_at (H : Scores D x) (h : Fin 8) (z : Fin 1) (R : Fin 8192) :
    (sums x (ix3 h z R) : EReal) = (total D (peak H h R) h R : EReal) := by
  have e := total_at (expo x) (peak H h R) h R (fun S => expo_at H h S R)
  unfold sums
  generalize expo x = y at e ⊢
  exact (widen _ h z R).trans e

theorem log_sum (t : Rows) (y : FVec Ideal S8x1x8192 .f32) (h : Fin 8) (R : Fin 8192) :
    (shapeCast S8x8192 (addf (broadcastInDim S8x1x8192 ![0, 2] bcast_S8x8192_S8x1x8192_0_2 t) (Host.log y))
      shapeCasts_S8x1x8192_S8x8192 (ix2 h R) : EReal) = (t (ix2 h R) : EReal) + Ideal.log (y (ix3 h 0 R)) := by
  pointwise []

theorem logSums_at (H : Scores D x) (h : Fin 8) (R : Fin 8192) :
    (logSums x (ix2 h R) : EReal) = ((peak H h R + _root_.Real.log (total D (peak H h R) h R) : ℝ) : EReal) := by
  unfold logSums
  rw [log_sum, sums_at H, top_at H, Ideal.log_coe, if_neg (not_le.mpr (total_pos D _ h R)), ← EReal.coe_add]

theorem output_at (H : Scores D x) (v : FVec Ideal S8192x512 .bf16) (hv : ∀ S j, (v (ix2 S j) : EReal) = (D.v S j : EReal))
    (h : Fin 8) (d : Fin 64) (R : Fin 8192) :
    (output x v (ix3 h d R) : EReal) = ((∑ S, D.v S (lane h d) * prob D h R S : ℝ) : EReal) := by
  have ht := (total_pos D (peak H h R) h R).ne'
  unfold output
  pointwise []
  simp only [sums_at H, expo_at H, hv, ← EReal.coe_mul]
  rw [← coe_sum, div_real _ _ ht, Finset.sum_div]
  refine congrArg _ (Finset.sum_congr rfl fun S _ => ?_)
  rw [mul_div_assoc, prob_eq]
  rfl

theorem means_at (H : Scores D x) (v : FVec Ideal S8192x512 .bf16) (hv : ∀ S j, (v (ix2 S j) : EReal) = (D.v S j : EReal))
    (d : FVec Ideal S8192x512 .f32) (hd : ∀ S j, (d (ix2 S j) : EReal) = (D.d S j : EReal)) (h : Fin 8) (R : Fin 8192) :
    (means x v d (ix2 h R) : EReal) = (mean D h R : EReal) := by
  unfold means
  pointwise []
  simp only [output_at H v hv, hd, ← EReal.coe_mul]
  rw [← coe_sum, ← mean_output]
  rfl

theorem blocks_at (r : Rows) (p : Fin 4) (b : Fin 16) (g : Fin 2) (w : Fin 512) :
    blocks r (ix4 p b g w) = r (ix2 ⟨p.val * 2 + g.val, by omega⟩ ⟨b.val * 512 + w.val, by omega⟩) := by
  unfold blocks
  pointwise []

variable {m : (ℓ : Loc nD τ sig) → Buf (Elt Ideal) ℓ} {c : Dev nD}

theorem scores (H : Host.Holds m c D) : Scores D (V m c main_v93) := by
  rw [v93]
  refine masked_at _ fun h S R => ?_
  rw [v89]
  pointwise []
  simp only [qh_at H, kh_at H, ← EReal.coe_mul]
  rw [← coe_sum, pack_score]

/-- The largest score of a query in the forward that was saved. -/
def high (H : Host.Holds m c D) (h : Fin 8) (R : Fin 8192) : ℝ := peak (scores H) h R

theorem lse_at (H : Host.Holds m c D) (p : Fin 4) (b : Fin 16) (g : Fin 2) (w : Fin 512) :
    (V m c main_v115 (ix4 p b g w) : EReal)
      = (fun h R => ((high H h R + _root_.Real.log (total D (high H h R) h R) : ℝ) : EReal))
          (⟨p.val * 2 + g.val, by omega⟩ : Fin 8) (⟨b.val * 512 + w.val, by omega⟩ : Fin 8192) := by
  rw [v115, blocks_at]
  exact logSums_at (scores H) _ _

theorem mean_at (H : Host.Holds m c D) (p : Fin 4) (b : Fin 16) (g : Fin 2) (w : Fin 512) :
    (V m c main_v117 (ix4 p b g w) : EReal)
      = (mean D (⟨p.val * 2 + g.val, by omega⟩ : Fin 8) (⟨b.val * 512 + w.val, by omega⟩ : Fin 8192) : EReal) := by
  rw [v117, blocks_at]
  refine means_at (scores H) _ (v_at H) _ (fun S j => ?_) _ _
  exact H.d S j

end Cert.AttnProof.Rows
-- ==== Proof.AttnStep.lean ====
/- What one step of the attention backward kernel (a block of keys against a block of queries) adds to the five
   buffers it adds to, entry by entry. -/
module

public import proofs.«01_k».proof.Defs
public import proofs.«01_k».proof.Proof.Gen.AttnIdeal.Value
public import Idealize.ShloMosaic.Lib.Pointwise
public import Idealize.ShloMosaic.Lib.ValueIdx
public import Idealize.ShloMosaic.Lib.WordArith
public import Idealize.ShloMosaic.PureOps.Ideal.Laws

@[expose] public section

set_option maxRecDepth 16384

noncomputable section

namespace Cert.AttnProof.Step

open Cert.AttnIdeal Cert.AttnIdeal.Gen Idealize.ShloMosaic Idealize.ShloMosaic.TcCoe

/-- The blocks a step reads: the cotangent, the row log-sums, the row sums of cotangent times output, and per head
    the queries, the keys, the values and the keys with the other head's lanes cleared. -/
structure Blk (F : FTy → Type) [FloatOps F] [Named F] where
  D : Vec F S512x128 .bf16
  L : Vec F S1x1x2x512 .f32
  E : Vec F S1x1x2x512 .f32
  Q : Fin 2 → Vec F S1x512x128 .bf16
  K : Fin 2 → Vec F S1x512x128 .bf16
  V : Fin 2 → Vec F S1x512x128 .bf16
  C : Fin 2 → Vec F S1x512x128 .bf16

variable {F : FTy → Type} [FloatOps F] [Named F]

/-- The softmax probabilities of the first head's block, rows the keys; `m` says whether the block is masked. -/
def prob0 (m : Bool) (b : Blk F) : FVec F S512x512 .f32 := match m with
  | true => k0_pay9 b.L (b.Q 0) (b.K 0)
  | false => k0_pay53 b.L (b.Q 0) (b.K 0)

/-- The derivative of the second head's block of scores. -/
def dscore1 (m : Bool) (b : Blk F) : FVec F S512x512 .f32 := match m with
  | true => k0_pay20 (k0_pay4 b.D) (k0_pay5 b.L) (k0_pay6 b.E) (b.Q 1) (b.K 1) (b.V 1)
  | false => k0_pay66 (k0_pay48 b.D) (k0_pay49 b.L) (k0_pay50 b.E) (b.Q 1) (b.K 1) (b.V 1)

/-- The accumulator of the values' gradient after the step, `a` before it. -/
def newV (m : Bool) (v2 : IVec S512x128 1) (b : Blk F) (a : Vec F S512x128 .f32) : FVec F S512x128 .f32 := match m with
  | true => k0_pay19 v2 (k0_pay4 b.D) (k0_pay5 b.L) k0_pay7 (b.Q 1) (b.K 1) (k0_pay10 v2 b.D b.L (b.Q 0) (b.K 0) a)
  | false => k0_pay65 (k0_pay48 b.D) (k0_pay49 b.L) k0_pay51 (k0_pay62 v2) (b.Q 1) (b.K 1) (k0_pay54 v2 b.D b.L (b.Q 0) (b.K 0) a)

/-- The accumulator of the keys' gradient. -/
def newK (m : Bool) (v2 : IVec S512x128 1) (b : Blk F) (a : Vec F S512x128 .f32) : FVec F S512x128 .f32 := match m with
  | true => k0_pay23 (k0_pay16 v2) (k0_pay17 (b.Q 1)) (dscore1 true b)
    (k0_pay14 v2 (k0_pay4 b.D) (k0_pay6 b.E) (k0_pay8 (b.Q 0)) (prob0 true b) (b.V 0) a)
  | false => k0_pay102 (k0_pay62 v2) (k0_pay63 (b.Q 1)) (dscore1 false b)
    (k0_pay60 v2 (k0_pay52 (b.Q 0)) (prob0 false b) (k0_pay55 b.D (b.V 0)) (k0_pay56 b.E) a)

/-- The rows of the queries' gradient the step adds to. -/
def newQ (m : Bool) (b : Blk F) (a : Vec F S512x128 .f32) : FVec F S512x128 .f32 := match m with
  | true => k0_pay24 (dscore1 true b) (k0_pay15 (k0_pay4 b.D) (k0_pay6 b.E) (prob0 true b) (b.V 0) a (b.C 0)) (b.C 1)
  | false => k0_pay103 (dscore1 false b) (k0_pay61 (prob0 false b) (k0_pay55 b.D (b.V 0)) (k0_pay56 b.E) a (b.C 0)) (b.C 1)

/-- The row of the decay's gradient at the queries. -/
def newFq (m : Bool) (b : Blk F) (a : Vec F S1x1x2x512 .f32) : FVec F S1x1x2x512 .f32 := match m with
  | true => k0_pay25 (k0_pay13 (k0_pay4 b.D) (k0_pay6 b.E) (prob0 true b) (b.V 0)) (dscore1 true b) a
  | false => k0_pay104 (k0_pay59 (prob0 false b) (k0_pay55 b.D (b.V 0)) (k0_pay56 b.E))
    (k0_pay68 (k0_pay48 b.D) (k0_pay49 b.L) (k0_pay50 b.E) (b.Q 1) (b.K 1) (b.V 1)) a

/-- The first head's column of the decay's gradient at the keys. -/
def newFk0 (m : Bool) (b : Blk F) (a : Vec F S1x512x1 .f32) : FVec F S1x512x1 .f32 := match m with
  | true => k0_pay12 (k0_pay4 b.D) (k0_pay6 b.E) (prob0 true b) (b.V 0) a
  | false => k0_pay58 (prob0 false b) (k0_pay55 b.D (b.V 0)) (k0_pay56 b.E) a

/-- The second head's column. -/
def newFk1 (m : Bool) (b : Blk F) (a : Vec F S1x512x1 .f32) : FVec F S1x512x1 .f32 := match m with
  | true => k0_pay22 (k0_pay21 (k0_pay4 b.D) (k0_pay5 b.L) (k0_pay6 b.E) (b.Q 1) (b.K 1) (b.V 1) a)
  | false => k0_pay67 (k0_pay48 b.D) (k0_pay49 b.L) (k0_pay50 b.E) (b.Q 1) (b.K 1) (b.V 1) a

/-! ## Entry by entry -/

theorem mask_named : Named.named (F := Ideal) κ "mask" (φ := .f32) 0xFF7FFFFF#32 = (⊥ : EReal) :=
  IdealRules.named_const.ideal_named_scalar _ _ _ _ rfl

/-- The probability of key `s` for query `r` of head `h`. -/
def p (m : Bool) (b : Blk Ideal) (h : Fin 2) (s r : Fin 512) : EReal :=
  Ideal.exp (if m = true ∧ r.val < s.val then ⊥ else ∑ l : Fin 128, b.K h (ix3 0 s l) * b.Q h (ix3 0 r l) - b.L (ix4 0 0 h r))

/-- The derivative of the score of key `s` for query `r`. -/
def ds (m : Bool) (b : Blk Ideal) (h : Fin 2) (s r : Fin 512) : EReal :=
  p m b h s r * (∑ l : Fin 128, b.V h (ix3 0 s l) * b.D (ix2 r l) - b.E (ix4 0 0 h r))

theorem mask_select {α : Type} (s r : Fin 512) (x y : α) :
    Scalar.select (IntOp.cmpi CmpIPredicate.sge (BitVec.ofNat 32 r.val) (BitVec.ofNat 32 s.val)) x y = if r.val < s.val then y else x := by
  show Scalar.select (BitVec.ofBool (BitVec.sle (BitVec.ofNat 32 s.val) (BitVec.ofNat 32 r.val))) x y = _
  rw [BitVec.sle_eq_decide, WordArith.toInt_ofNat_small _ (by omega), WordArith.toInt_ofNat_small _ (by omega)]
  by_cases h : r.val < s.val
  · rw [if_pos h, decide_eq_false (by omega)]; rfl
  · rw [if_neg h, decide_eq_true (by omega)]; rfl

theorem lane_select (l : Fin 128) (x : EReal) :
    Scalar.select (BitVec.ofBool (decide (l.val < 64))) x 0 = if ((0 : Fin 2) = 0 ↔ l.val < 64) then x else 0 := by
  by_cases h : l.val < 64
  · rw [decide_eq_true h, if_pos (by simp [h])]; rfl
  · rw [decide_eq_false h, if_neg (by simp [h])]; rfl

theorem lane_select' (l : Fin 128) (x : EReal) :
    Scalar.select (IntOp.xori (BitVec.ofBool (decide (l.val < 64))) 1#1) x 0 = if ((1 : Fin 2) = 0 ↔ l.val < 64) then x else 0 := by
  by_cases h : l.val < 64
  · rw [decide_eq_true h, if_neg (by simp [h])]; rfl
  · rw [decide_eq_false h, if_pos (by simp [h])]; rfl

theorem lane_sum (l : Fin 128) (a : EReal) (u v : Fin 512 → EReal) :
    a + (∑ r, Scalar.select (BitVec.ofBool (decide (l.val < 64))) (u r) 0) + ∑ r, Scalar.select (IntOp.xori (BitVec.ofBool (decide (l.val < 64))) 1#1) (v r) 0
      = a + (∑ r, if ((0 : Fin 2) = 0 ↔ l.val < 64) then u r else 0) + ∑ r, if ((1 : Fin 2) = 0 ↔ l.val < 64) then v r else 0 :=
  congrArg₂ (· + ·) (congrArg (a + ·) (Finset.sum_congr rfl fun x _ => lane_select l _)) (Finset.sum_congr rfl fun x _ => lane_select' l _)

theorem prob0_apply (m : Bool) (b : Blk Ideal) (s r : Fin 512) : prob0 m b (ix2 s r) = p m b 0 s r := by
  cases m
  · unfold prob0 p; pointwise [k0_pay53, k0_pay52, k0_pay49]
    simp only [Bool.false_eq_true, false_and, if_false]
  · unfold prob0 p; pointwise [k0_pay9, k0_pay8, k0_pay5]; rw [mask_select, mask_named]

theorem dscore1_apply (m : Bool) (b : Blk Ideal) (s r : Fin 512) : dscore1 m b (ix2 s r) = ds m b 1 s r := by
  cases m
  · unfold dscore1 ds p; pointwise [k0_pay66, k0_pay64, k0_pay63, k0_pay48, k0_pay49, k0_pay50]
    simp only [Bool.false_eq_true, false_and, if_false]
  · unfold dscore1 ds p; pointwise [k0_pay20, k0_pay18, k0_pay17, k0_pay4, k0_pay5, k0_pay6]; rw [mask_select, mask_named]

theorem prob1_apply_true (b : Blk Ideal) (s r : Fin 512) : k0_pay18 (shapeCast S2x512 b.L shapeCasts_S1x1x2x512_S2x512) (b.Q 1) (b.K 1) (ix2 s r) = p true b 1 s r := by
  unfold p; pointwise [k0_pay18, k0_pay17]; rw [mask_select, mask_named]

theorem prob1_apply_false (b : Blk Ideal) (s r : Fin 512) : k0_pay64 (shapeCast S2x512 b.L shapeCasts_S1x1x2x512_S2x512) (b.Q 1) (b.K 1) (ix2 s r) = p false b 1 s r := by
  unfold p; pointwise [k0_pay64, k0_pay63]
  simp only [Bool.false_eq_true, false_and, if_false]

theorem newV_apply (m : Bool) (v2 : IVec S512x128 1) (hv : ∀ r l, v2 (ix2 r l) = BitVec.ofBool (decide (l.val < 64))) (b : Blk Ideal) (a : Vec Ideal S512x128 .f32) (s : Fin 512) (l : Fin 128) :
    newV m v2 b a (ix2 s l) = a (ix2 s l) + ∑ h, ∑ r : Fin 512, if (h = 0 ↔ l.val < 64) then p m b h s r * b.D (ix2 r l) else 0 := by
  cases m
  · unfold newV; pointwise [k0_pay65, k0_pay48, k0_pay49, k0_pay51, k0_pay54, k0_pay62]
    simp only [prob1_apply_false, hv, show ∀ s r, k0_pay53 b.L (b.Q 0) (b.K 0) (ix2 s r) = p false b 0 s r from prob0_apply false b]
    rw [Fin.sum_univ_two, ← add_assoc]; exact lane_sum l _ _ _
  · unfold newV; pointwise [k0_pay19, k0_pay4, k0_pay5, k0_pay7, k0_pay10, k0_pay16]
    simp only [prob1_apply_true, hv, show ∀ s r, k0_pay9 b.L (b.Q 0) (b.K 0) (ix2 s r) = p true b 0 s r from prob0_apply true b]
    rw [Fin.sum_univ_two, ← add_assoc]; exact lane_sum l _ _ _

theorem newK_apply (m : Bool) (v2 : IVec S512x128 1) (hv : ∀ r l, v2 (ix2 r l) = BitVec.ofBool (decide (l.val < 64))) (b : Blk Ideal) (a : Vec Ideal S512x128 .f32) (s : Fin 512) (l : Fin 128) :
    newK m v2 b a (ix2 s l) = a (ix2 s l) + ∑ h, ∑ r : Fin 512, if (h = 0 ↔ l.val < 64) then ds m b h s r * b.Q h (ix3 0 r l) else 0 := by
  cases m <;> unfold newK
  · pointwise [k0_pay102, k0_pay62, k0_pay63, k0_pay60, k0_pay52, k0_pay57, k0_pay55, k0_pay56, k0_pay48, k0_pay50]
    simp only [prob0_apply, dscore1_apply, hv]
    rw [Fin.sum_univ_two, ← add_assoc]; exact lane_sum l _ _ _
  · pointwise [k0_pay23, k0_pay16, k0_pay17, k0_pay14, k0_pay4, k0_pay6, k0_pay8, k0_pay11]
    simp only [prob0_apply, dscore1_apply, hv]
    rw [Fin.sum_univ_two, ← add_assoc]; exact lane_sum l _ _ _

theorem newQ_apply (m : Bool) (b : Blk Ideal) (a : Vec Ideal S512x128 .f32) (r : Fin 512) (l : Fin 128) :
    newQ m b a (ix2 r l) = a (ix2 r l) + ∑ h, ∑ s : Fin 512, ds m b h s r * b.C h (ix3 0 s l) := by
  rw [Fin.sum_univ_two, ← add_assoc]
  cases m <;> unfold newQ
  · pointwise [k0_pay103, k0_pay61, k0_pay57, k0_pay55, k0_pay56, k0_pay48, k0_pay50]
    simp only [prob0_apply, dscore1_apply]; rfl
  · pointwise [k0_pay24, k0_pay15, k0_pay11, k0_pay4, k0_pay6]
    simp only [prob0_apply, dscore1_apply]; rfl

theorem newFq_apply (m : Bool) (b : Blk Ideal) (a : Vec Ideal S1x1x2x512 .f32) (h : Fin 2) (r : Fin 512) :
    newFq m b a (ix4 0 0 h r) = a (ix4 0 0 h r) + ∑ s : Fin 512, ds m b h s r := by
  obtain rfl | rfl : h = 0 ∨ h = 1 := by omega
  all_goals cases m <;> unfold newFq
  · pointwise [k0_pay104, k0_pay59, k0_pay68, k0_pay57, k0_pay55, k0_pay56, k0_pay48, k0_pay50]
    simp only [prob0_apply]; rfl
  · pointwise [k0_pay25, k0_pay13, k0_pay11, k0_pay4, k0_pay6]
    simp only [prob0_apply]; rfl
  · pointwise [k0_pay104, k0_pay59, k0_pay68, k0_pay57, k0_pay55, k0_pay56]
    exact congrArg (_ + ·) (Finset.sum_congr rfl fun x _ => dscore1_apply false b x r)
  · pointwise [k0_pay25, k0_pay13, k0_pay11, k0_pay4, k0_pay6]
    simp only [dscore1_apply]

theorem newFk0_apply (m : Bool) (b : Blk Ideal) (a : Vec Ideal S1x512x1 .f32) (s : Fin 512) :
    newFk0 m b a (ix3 0 s 0) = a (ix3 0 s 0) + ∑ r : Fin 512, ds m b 0 s r := by
  cases m <;> unfold newFk0
  · pointwise [k0_pay58, k0_pay57, k0_pay55, k0_pay56, k0_pay48, k0_pay50]
    simp only [prob0_apply]; rfl
  · pointwise [k0_pay12, k0_pay11, k0_pay4, k0_pay6]
    simp only [prob0_apply]; rfl

theorem newFk1_apply (m : Bool) (b : Blk Ideal) (a : Vec Ideal S1x512x1 .f32) (s : Fin 512) :
    newFk1 m b a (ix3 0 s 0) = a (ix3 0 s 0) + ∑ r : Fin 512, ds m b 1 s r := by
  cases m <;> unfold newFk1
  · pointwise [k0_pay67]
    exact congrArg (_ + ·) (Finset.sum_congr rfl fun x _ => dscore1_apply false b s x)
  · pointwise [k0_pay22, k0_pay21]
    exact congrArg (_ + ·) (Finset.sum_congr rfl fun x _ => dscore1_apply true b s x)

end Cert.AttnProof.Step
end
-- ==== Proof.AttnTrip.lean ====
/- What one trip of the attention backward kernel's two loops leaves in the five buffers it adds to. -/
module

public import proofs.«01_k».proof.Proof.AttnStep
public import Idealize.ShloMosaic.Lib.WritesUnit
public import Idealize.ShloMosaic.Lib.VecWindow
public import Idealize.ShloMosaic.Lib.Pipeline.ValueKit

@[expose] public section

set_option maxRecDepth 16384

noncomputable section

namespace Cert.AttnProof.Trip

open Cert.AttnProof.Step Cert.AttnIdeal Cert.AttnIdeal.Gen Idealize.ShloMosaic Idealize.ShloMosaic.TcCoe

variable {F : FTy → Type} [FloatOps F] [Named F]

/-- The kernel's buffers: its six inputs, its five outputs and its five scratch buffers. -/
structure Bufs where
  a2 : Memref sig .tc .vmem S2x8192x128 .bf16
  h2 : a2.IsWhole
  a3 : Memref sig .tc .vmem S8192x128 .bf16
  h3 : a3.IsWhole
  a4 : Memref sig .tc .vmem S2x512x128 .bf16
  h4 : a4.IsWhole
  a5 : Memref sig .tc .vmem S512x128 .bf16
  h5 : a5.IsWhole
  a6 : Memref sig .tc .vmem S1x16x2x512 .f32
  h6 : a6.IsWhole
  a7 : Memref sig .tc .vmem S1x16x2x512 .f32
  h7 : a7.IsWhole
  a8 : Memref sig .tc .vmem S8192x128 .f32
  h8 : a8.IsWhole
  a9 : Memref sig .tc .vmem S512x128 .bf16
  h9 : a9.IsWhole
  a10 : Memref sig .tc .vmem S512x128 .bf16
  h10 : a10.IsWhole
  a11 : Memref sig .tc .vmem S1x16x2x512 .f32
  h11 : a11.IsWhole
  a12 : Memref sig .tc .vmem S1x512x2 .f32
  h12 : a12.IsWhole
  a13 : Memref sig .tc .vmem S2x512x128 .bf16
  h13 : a13.IsWhole
  a14 : Memref sig .tc .vmem S2x512x128 .bf16
  h14 : a14.IsWhole
  a15 : Memref sig .tc .vmem S512x128 .f32
  h15 : a15.IsWhole
  a16 : Memref sig .tc .vmem S512x128 .f32
  h16 : a16.IsWhole
  a17 : Memref sig .tc .vmem S2x512x1 .f32
  h17 : a17.IsWhole

/-- What the loops read and do not write. -/
structure Ins (F : FTy → Type) [FloatOps F] [Named F] (B : Bufs) where
  X2 : BufTy.Contents (Elt F) B.a2.view.ty
  X3 : BufTy.Contents (Elt F) B.a3.view.ty
  X4 : BufTy.Contents (Elt F) B.a4.view.ty
  X6 : BufTy.Contents (Elt F) B.a6.view.ty
  X7 : BufTy.Contents (Elt F) B.a7.view.ty
  X13 : BufTy.Contents (Elt F) B.a13.view.ty
  X14 : BufTy.Contents (Elt F) B.a14.view.ty

abbrev trip1 (c : Dev nD) (i : grid0.Coords) (B : Bufs) (w1 : BitVec 32) (v2 : IVec S512x128 1) (X : Ins F B) (k : Fin (k0_t1_loop i).trips) :=
  trip_k0_t1 (F := F) Variants.none c none i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 w1 v2 X.X2 X.X3 X.X4 X.X6 X.X7 X.X13 X.X14 k
abbrev trip3 (c : Dev nD) (i : grid0.Coords) (B : Bufs) (w1 : BitVec 32) (v2 : IVec S512x128 1) (w2 : BitVec 32) (X : Ins F B) (k : Fin (k0_t3_loop i).trips) :=
  trip_k0_t3 (F := F) Variants.none c none i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 w1 v2 w2 X.X2 X.X3 X.X4 X.X6 X.X7 X.X13 X.X14 k

variable (c : Dev nD) (i : grid0.Coords) (B : Bufs) (w1 : BitVec 32) (v2 : IVec S512x128 1) (X : Ins F B) (f8 : BufTy.Contents (Elt F) B.a8.view.ty) (f11 : BufTy.Contents (Elt F) B.a11.view.ty) (f15 : BufTy.Contents (Elt F) B.a15.view.ty) (f16 : BufTy.Contents (Elt F) B.a16.view.ty) (f17 : BufTy.Contents (Elt F) B.a17.view.ty)

/-! ## The step's two stores to each buffer -/

/-- The first head's part of the step for the values' gradient, and the second head's, of the first's result. -/
def inV (m : Bool) (v2 : IVec S512x128 1) (b : Blk F) (a : Vec F S512x128 .f32) : FVec F S512x128 .f32 := match m with
  | true => k0_pay10 v2 b.D b.L (b.Q 0) (b.K 0) a
  | false => k0_pay54 v2 b.D b.L (b.Q 0) (b.K 0) a
def outV (m : Bool) (v2 : IVec S512x128 1) (b : Blk F) (a : Vec F S512x128 .f32) : FVec F S512x128 .f32 := match m with
  | true => k0_pay19 v2 (k0_pay4 b.D) (k0_pay5 b.L) k0_pay7 (b.Q 1) (b.K 1) a
  | false => k0_pay65 (k0_pay48 b.D) (k0_pay49 b.L) k0_pay51 (k0_pay62 v2) (b.Q 1) (b.K 1) a
theorem outV_inV (m : Bool) (v2 : IVec S512x128 1) (b : Blk F) (a : Vec F S512x128 .f32) : outV m v2 b (inV m v2 b a) = newV m v2 b a := by cases m <;> rfl

/-- The same for the keys' gradient. -/
def inK (m : Bool) (v2 : IVec S512x128 1) (b : Blk F) (a : Vec F S512x128 .f32) : FVec F S512x128 .f32 := match m with
  | true => k0_pay14 v2 (k0_pay4 b.D) (k0_pay6 b.E) (k0_pay8 (b.Q 0)) (prob0 true b) (b.V 0) a
  | false => k0_pay60 v2 (k0_pay52 (b.Q 0)) (prob0 false b) (k0_pay55 b.D (b.V 0)) (k0_pay56 b.E) a
def outK (m : Bool) (v2 : IVec S512x128 1) (b : Blk F) (a : Vec F S512x128 .f32) : FVec F S512x128 .f32 := match m with
  | true => k0_pay23 (k0_pay16 v2) (k0_pay17 (b.Q 1)) (dscore1 true b) a
  | false => k0_pay102 (k0_pay62 v2) (k0_pay63 (b.Q 1)) (dscore1 false b) a
theorem outK_inK (m : Bool) (v2 : IVec S512x128 1) (b : Blk F) (a : Vec F S512x128 .f32) : outK m v2 b (inK m v2 b a) = newK m v2 b a := by cases m <;> rfl

/-- The same for the queries' gradient. -/
def inQ (m : Bool) (b : Blk F) (a : Vec F S512x128 .f32) : FVec F S512x128 .f32 := match m with
  | true => k0_pay15 (k0_pay4 b.D) (k0_pay6 b.E) (prob0 true b) (b.V 0) a (b.C 0)
  | false => k0_pay61 (prob0 false b) (k0_pay55 b.D (b.V 0)) (k0_pay56 b.E) a (b.C 0)
def outQ (m : Bool) (b : Blk F) (a : Vec F S512x128 .f32) : FVec F S512x128 .f32 := match m with
  | true => k0_pay24 (dscore1 true b) a (b.C 1)
  | false => k0_pay103 (dscore1 false b) a (b.C 1)
theorem outQ_inQ (m : Bool) (b : Blk F) (a : Vec F S512x128 .f32) : outQ m b (inQ m b a) = newQ m b a := by cases m <;> rfl

/-! ## Loads of a block of rows -/

/-- Row `r` of block `q`. -/
abbrev row (q : Fin 16) (r : Fin 512) : Fin 8192 := ⟨512 * q.val + r.val, by omega⟩

/-- The words at which a step's blocks lie, with the block of queries they are. -/
structure Offs (q : Fin 16) where
  o2 : Fin 2 → ℕ
  o4 : Fin 4 → ℕ
  oa : Fin 3 → ℕ
  ob : Fin 3 → ℕ
  h2 : o2 = ![512 * q.val, 0]
  h4 : o4 = ![0, q.val, 0, 0]
  ha : oa = ![0, 512 * q.val, 0]
  hb : ob = ![1, 512 * q.val, 0]
  n2 : ∀ a, o2 a + S512x128.size a ≤ S8192x128.size a
  n4 : ∀ a, o4 a + S1x1x2x512.size a ≤ S1x16x2x512.size a
  na : ∀ a, oa a + S1x512x128.size a ≤ S2x8192x128.size a
  nb : ∀ a, ob a + S1x512x128.size a ≤ S2x8192x128.size a

variable (X : Ins F B) {q : Fin 16} (o : Offs q)

/-- The blocks as loaded. -/
def blk : Blk F where
  D := B.a3.view.readAt (Elt F) (Rect.unit (s := S8192x128) o.o2 S512x128.size o.n2).toLoadRect X.X3
  L := B.a6.view.readAt (Elt F) (Rect.unit (s := S1x16x2x512) o.o4 S1x1x2x512.size o.n4).toLoadRect X.X6
  E := B.a7.view.readAt (Elt F) (Rect.unit (s := S1x16x2x512) o.o4 S1x1x2x512.size o.n4).toLoadRect X.X7
  Q := ![B.a2.view.readAt (Elt F) (Rect.unit (s := S2x8192x128) o.oa S1x512x128.size o.na).toLoadRect X.X2,
    B.a2.view.readAt (Elt F) (Rect.unit (s := S2x8192x128) o.ob S1x512x128.size o.nb).toLoadRect X.X2]
  K := ![B.a4.view.readAt (Elt F) (Rect.unit (s := S2x512x128) ![0, 0, 0] S1x512x128.size inb_S2x512x128_S1x512x128_0_0_0).toLoadRect X.X4,
    B.a4.view.readAt (Elt F) (Rect.unit (s := S2x512x128) ![1, 0, 0] S1x512x128.size inb_S2x512x128_S1x512x128_1_0_0).toLoadRect X.X4]
  V := ![B.a14.view.readAt (Elt F) (Rect.unit (s := S2x512x128) ![0, 0, 0] S1x512x128.size inb_S2x512x128_S1x512x128_0_0_0).toLoadRect X.X14,
    B.a14.view.readAt (Elt F) (Rect.unit (s := S2x512x128) ![1, 0, 0] S1x512x128.size inb_S2x512x128_S1x512x128_1_0_0).toLoadRect X.X14]
  C := ![B.a13.view.readAt (Elt F) (Rect.unit (s := S2x512x128) ![0, 0, 0] S1x512x128.size inb_S2x512x128_S1x512x128_0_0_0).toLoadRect X.X13,
    B.a13.view.readAt (Elt F) (Rect.unit (s := S2x512x128) ![1, 0, 0] S1x512x128.size inb_S2x512x128_S1x512x128_1_0_0).toLoadRect X.X13]

/-- The blocks entry by entry. -/
def blkOf (q : Fin 16) : Blk F where
  D := fun y => B.a3.view.read (Elt F) X.X3 (ix2 (row q (y 0)) (y 1))
  L := fun y => B.a6.view.read (Elt F) X.X6 (ix4 0 q (y 2) (y 3))
  E := fun y => B.a7.view.read (Elt F) X.X7 (ix4 0 q (y 2) (y 3))
  Q := fun h y => B.a2.view.read (Elt F) X.X2 (ix3 h (row q (y 1)) (y 2))
  K := fun h y => B.a4.view.read (Elt F) X.X4 (ix3 h (y 1) (y 2))
  V := fun h y => B.a14.view.read (Elt F) X.X14 (ix3 h (y 1) (y 2))
  C := fun h y => B.a13.view.read (Elt F) X.X13 (ix3 h (y 1) (y 2))

theorem load2 {S : Space} {e : EltTy} (v : View sig .tc S S8192x128 e) (f : v.ty.Contents (Elt F)) :
    v.readAt (Elt F) (Rect.unit (s := S8192x128) o.o2 S512x128.size o.n2).toLoadRect f = fun y => v.read (Elt F) f (ix2 (row q (y 0)) (y 1)) := by
  refine (View.readAt_unit v f o.n2 o.h2 (o.h2 ▸ o.n2)).trans (funext fun y => congrArg (v.read (Elt F) f) (funext fun a => Fin.ext ?_))
  fin_cases a
  · show 512 * q.val + 1 * (y 0).val = 512 * q.val + (y 0).val; omega
  · show 0 + 1 * (y 1).val = (y 1).val; omega

theorem load4 {S : Space} {e : EltTy} (v : View sig .tc S S1x16x2x512 e) (f : v.ty.Contents (Elt F)) :
    v.readAt (Elt F) (Rect.unit (s := S1x16x2x512) o.o4 S1x1x2x512.size o.n4).toLoadRect f = fun y => v.read (Elt F) f (ix4 0 q (y 2) (y 3)) := by
  refine (View.readAt_unit v f o.n4 o.h4 (o.h4 ▸ o.n4)).trans (funext fun y => congrArg (v.read (Elt F) f) (funext fun a => Fin.ext ?_))
  fin_cases a
  · show 0 + 1 * (y 0).val = 0
    have : (y 0).val < 1 := (y 0).isLt; omega
  · show q.val + 1 * (y 1).val = q.val
    have : (y 1).val < 1 := (y 1).isLt; omega
  · show 0 + 1 * (y 2).val = (y 2).val; omega
  · show 0 + 1 * (y 3).val = (y 3).val; omega

theorem load3 {S : Space} {e : EltTy} (v : View sig .tc S S2x8192x128 e) (f : v.ty.Contents (Elt F)) (h : Fin 2) (off : Fin 3 → ℕ)
    (hh : off = ![h.val, 512 * q.val, 0]) (n : ∀ a, off a + S1x512x128.size a ≤ S2x8192x128.size a) :
    v.readAt (Elt F) (Rect.unit (s := S2x8192x128) off S1x512x128.size n).toLoadRect f = fun y => v.read (Elt F) f (ix3 h (row q (y 1)) (y 2)) := by
  refine (View.readAt_unit v f n hh (hh ▸ n)).trans (funext fun y => congrArg (v.read (Elt F) f) (funext fun a => Fin.ext ?_))
  fin_cases a
  · show h.val + 1 * (y 0).val = h.val
    have : (y 0).val < 1 := (y 0).isLt; omega
  · show 512 * q.val + 1 * (y 1).val = 512 * q.val + (y 1).val; omega
  · show 0 + 1 * (y 2).val = (y 2).val; omega

theorem load3' {S : Space} {e : EltTy} {N : ℕ} (v : View sig .tc S (⟨3, ![2, 512, N]⟩ : Shape) e) (f : v.ty.Contents (Elt F)) (h : Fin 2) (off : Fin 3 → ℕ)
    (hh : off = ![h.val, 0, 0]) (n : ∀ a, off a + (⟨3, ![1, 512, N]⟩ : Shape).size a ≤ (⟨3, ![2, 512, N]⟩ : Shape).size a) :
    v.readAt (Elt F) (Rect.unit (s := (⟨3, ![2, 512, N]⟩ : Shape)) off (⟨3, ![1, 512, N]⟩ : Shape).size n).toLoadRect f = fun y => v.read (Elt F) f (ix3 h (y 1) (y 2)) := by
  refine (View.readAt_unit v f n hh (hh ▸ n)).trans (funext fun y => congrArg (v.read (Elt F) f) (funext fun a => Fin.ext ?_))
  fin_cases a
  · show h.val + 1 * (y 0).val = h.val
    have : (y 0).val < 1 := (y 0).isLt; omega
  · show 0 + 1 * (y 1).val = (y 1).val; omega
  · show 0 + 1 * (y 2).val = (y 2).val; omega

theorem pair_eq {α : Type} {u v : α} {g : Fin 2 → α} (h0 : u = g 0) (h1 : v = g 1) : ![u, v] = g := by
  subst h0 h1; funext i; fin_cases i <;> rfl

theorem blk_eq : blk B X o = blkOf B X q := by
  unfold blk blkOf
  congr 1
  · exact load2 o _ _
  · exact load4 o _ _
  · exact load4 o _ _
  · exact pair_eq (load3 _ _ 0 _ o.ha _) (load3 _ _ 1 _ o.hb _)
  · exact pair_eq (load3' _ _ 0 _ rfl _) (load3' _ _ 1 _ rfl _)
  · exact pair_eq (load3' _ _ 0 _ rfl _) (load3' _ _ 1 _ rfl _)
  · exact pair_eq (load3' _ _ 0 _ rfl _) (load3' _ _ 1 _ rfl _)

/-! ## The buffers added to, before and after -/

/-- What the five buffers hold. -/
@[ext] structure St (F : FTy → Type) [FloatOps F] [Named F] where
  q : Vec F S8192x128 .f32
  fq : Vec F S1x16x2x512 .f32
  k : Vec F S512x128 .f32
  v : Vec F S512x128 .f32
  fk : Vec F S2x512x1 .f32

/-- One step on them. -/
def St.step (m : Bool) (v2 : IVec S512x128 1) (q : Fin 16) (b : Blk F) (s : St F) : St F where
  q := fun y => if h : 512 * q.val ≤ (y 0).val ∧ (y 0).val < 512 * q.val + 512 then
    newQ m b (fun z => s.q (ix2 (row q (z 0)) (z 1))) (ix2 ⟨(y 0).val - 512 * q.val, by omega⟩ (y 1)) else s.q y
  fq := fun y => if (y 1).val = q.val then newFq m b (fun z => s.fq (ix4 0 q (z 2) (z 3))) (ix4 0 0 (y 2) (y 3)) else s.fq y
  k := newK m v2 b s.k
  v := newV m v2 b s.v
  fk := fun y => if (y 0).val = 0 then newFk0 m b (fun z => s.fk (ix3 0 (z 1) (z 2))) (ix3 0 (y 1) (y 2)) else newFk1 m b (fun z => s.fk (ix3 1 (z 1) (z 2))) (ix3 0 (y 1) (y 2))

/-- The stores of one step, latest first. -/
def pieces16 (m : Bool) : List (View.Piece (Elt F) S512x128 .f32) :=
  [⟨Rect.unit ![0, 0] S512x128.size inb_S512x128_S512x128_0_0, outV m v2 (blk B X o) (B.a16.view.readCov [⟨Rect.unit ![0, 0] S512x128.size inb_S512x128_S512x128_0_0,
      inV m v2 (blk B X o) (B.a16.view.readAt (Elt F) (Rect.unit ![0, 0] S512x128.size inb_S512x128_S512x128_0_0).toLoadRect f16)⟩]
      (Rect.unit ![0, 0] S512x128.size inb_S512x128_S512x128_0_0).toLoadRect)⟩,
   ⟨Rect.unit ![0, 0] S512x128.size inb_S512x128_S512x128_0_0, inV m v2 (blk B X o) (B.a16.view.readAt (Elt F) (Rect.unit ![0, 0] S512x128.size inb_S512x128_S512x128_0_0).toLoadRect f16)⟩]

def pieces15 (m : Bool) : List (View.Piece (Elt F) S512x128 .f32) :=
  [⟨Rect.unit ![0, 0] S512x128.size inb_S512x128_S512x128_0_0, outK m v2 (blk B X o) (B.a15.view.readCov [⟨Rect.unit ![0, 0] S512x128.size inb_S512x128_S512x128_0_0,
      inK m v2 (blk B X o) (B.a15.view.readAt (Elt F) (Rect.unit ![0, 0] S512x128.size inb_S512x128_S512x128_0_0).toLoadRect f15)⟩]
      (Rect.unit ![0, 0] S512x128.size inb_S512x128_S512x128_0_0).toLoadRect)⟩,
   ⟨Rect.unit ![0, 0] S512x128.size inb_S512x128_S512x128_0_0, inK m v2 (blk B X o) (B.a15.view.readAt (Elt F) (Rect.unit ![0, 0] S512x128.size inb_S512x128_S512x128_0_0).toLoadRect f15)⟩]

def pieces8 (m : Bool) : List (View.Piece (Elt F) S8192x128 .f32) :=
  [⟨Rect.unit (s := S8192x128) o.o2 S512x128.size o.n2, outQ m (blk B X o) (B.a8.view.readCov [⟨Rect.unit (s := S8192x128) o.o2 S512x128.size o.n2,
      inQ m (blk B X o) (B.a8.view.readAt (Elt F) (Rect.unit (s := S8192x128) o.o2 S512x128.size o.n2).toLoadRect f8)⟩] (Rect.unit (s := S8192x128) o.o2 S512x128.size o.n2).toLoadRect)⟩,
   ⟨Rect.unit (s := S8192x128) o.o2 S512x128.size o.n2, inQ m (blk B X o) (B.a8.view.readAt (Elt F) (Rect.unit (s := S8192x128) o.o2 S512x128.size o.n2).toLoadRect f8)⟩]

def pieces11 (m : Bool) : List (View.Piece (Elt F) S1x16x2x512 .f32) :=
  [⟨Rect.unit (s := S1x16x2x512) o.o4 S1x1x2x512.size o.n4, newFq m (blk B X o) (B.a11.view.readAt (Elt F) (Rect.unit (s := S1x16x2x512) o.o4 S1x1x2x512.size o.n4).toLoadRect f11)⟩]

def pieces17 (m : Bool) : List (View.Piece (Elt F) S2x512x1 .f32) :=
  [⟨Rect.unit (s := S2x512x1) ![1, 0, 0] S1x512x1.size inb_S2x512x1_S1x512x1_1_0_0, newFk1 m (blk B X o) (B.a17.view.readAt (Elt F) (Rect.unit (s := S2x512x1) ![1, 0, 0] S1x512x1.size inb_S2x512x1_S1x512x1_1_0_0).toLoadRect f17)⟩,
   ⟨Rect.unit (s := S2x512x1) ![0, 0, 0] S1x512x1.size inb_S2x512x1_S1x512x1_0_0_0, newFk0 m (blk B X o) (B.a17.view.readAt (Elt F) (Rect.unit (s := S2x512x1) ![0, 0, 0] S1x512x1.size inb_S2x512x1_S1x512x1_0_0_0).toLoadRect f17)⟩]

theorem zero2 : (![0, 0] : Fin 2 → ℕ) = fun _ => 0 := funext fun a => by fin_cases a <;> rfl

theorem read16 (m : Bool) : B.a16.view.read (Elt F) (B.a16.view.writes (Elt F) f16 (pieces16 B v2 f16 X o m)) = newV m v2 (blkOf B X q) (B.a16.view.read (Elt F) f16) := by
  unfold pieces16
  rw [View.read_writes_full, View.readCov_unit_zero (S := S512x128) _ zero2, View.readAt_full, outV_inV, blk_eq]

theorem read15 (m : Bool) : B.a15.view.read (Elt F) (B.a15.view.writes (Elt F) f15 (pieces15 B v2 f15 X o m)) = newK m v2 (blkOf B X q) (B.a15.view.read (Elt F) f15) := by
  unfold pieces15
  rw [View.read_writes_full, View.readCov_unit_zero (S := S512x128) _ zero2, View.readAt_full, outK_inK, blk_eq]

theorem readCov_same {s : Shape} {S : Space} {e : EltTy} (v : View sig .tc S s e) {off size : Fin s.rank → ℕ} (inb : ∀ a, off a + size a ≤ s.size a)
    (w : (Rect.unit off size inb).shape.Idx → Elt F e) :
    v.readCov [(⟨Rect.unit off size inb, w⟩ : View.Piece (Elt F) s e)] (Rect.unit off size inb).toLoadRect = w := by
  funext x
  refine View.read_writes_cons_unit_of_mem v _ inb w [] _ x rfl fun a => ?_
  show off a + 1 * (x a).val = _
  omega

theorem read8 (m : Bool) (y : S8192x128.Idx) : B.a8.view.read (Elt F) (B.a8.view.writes (Elt F) f8 (pieces8 B f8 X o m)) y
    = if h : 512 * q.val ≤ (y 0).val ∧ (y 0).val < 512 * q.val + 512 then
        newQ m (blkOf B X q) (fun z => B.a8.view.read (Elt F) f8 (ix2 (row q (z 0)) (z 1))) (ix2 ⟨(y 0).val - 512 * q.val, by omega⟩ (y 1)) else B.a8.view.read (Elt F) f8 y := by
  unfold pieces8
  by_cases h : 512 * q.val ≤ (y 0).val ∧ (y 0).val < 512 * q.val + 512
  · rw [dif_pos h]
    refine (View.read_writes_cons_unit_of_mem _ _ o.n2 _ _ y (ix2 ⟨(y 0).val - 512 * q.val, by omega⟩ (y 1) : S512x128.Idx) o.h2 fun a => ?_).trans ?_
    · fin_cases a
      · show (y 0).val = 512 * q.val + ((y 0).val - 512 * q.val); omega
      · exact (Nat.zero_add _).symm
    · rw [readCov_same, outQ_inQ]
      exact congrFun (congrArg₂ (newQ m) (blk_eq B X o) (load2 o _ _)) _
  · rw [dif_neg h]
    have hy : (y 0).val < 512 * q.val ∨ 512 * q.val + 512 ≤ (y 0).val := by omega
    exact (View.read_writes_cons_unit_of_not_mem _ _ o.n2 _ _ y o.h2 0 (by exact hy)).trans (View.read_writes_cons_unit_of_not_mem _ _ o.n2 _ _ y o.h2 0 (by exact hy))

theorem read11 (m : Bool) (y : S1x16x2x512.Idx) : B.a11.view.read (Elt F) (B.a11.view.writes (Elt F) f11 (pieces11 B f11 X o m)) y
    = if (y 1).val = q.val then newFq m (blkOf B X q) (fun z => B.a11.view.read (Elt F) f11 (ix4 0 q (z 2) (z 3))) (ix4 0 0 (y 2) (y 3)) else B.a11.view.read (Elt F) f11 y := by
  unfold pieces11
  by_cases h : (y 1).val = q.val
  · rw [if_pos h]
    refine (View.read_writes_cons_unit_of_mem _ _ o.n4 _ _ y (ix4 0 0 (y 2) (y 3) : S1x1x2x512.Idx) o.h4 fun a => ?_).trans ?_
    · fin_cases a
      · have : (y 0).val < 1 := (y 0).isLt; show (y 0).val = 0 + 0; omega
      · exact h
      · exact (Nat.zero_add _).symm
      · exact (Nat.zero_add _).symm
    · exact congrFun (congrArg₂ (newFq m) (blk_eq B X o) (load4 o _ _)) _
  · rw [if_neg h]
    exact View.read_writes_cons_unit_of_not_mem _ _ o.n4 _ _ y o.h4 1 (by show (y 1).val < q.val ∨ q.val + 1 ≤ (y 1).val; omega)

theorem read17 (m : Bool) (y : S2x512x1.Idx) : B.a17.view.read (Elt F) (B.a17.view.writes (Elt F) f17 (pieces17 B f17 X o m)) y
    = if (y 0).val = 0 then newFk0 m (blkOf B X q) (fun z => B.a17.view.read (Elt F) f17 (ix3 0 (z 1) (z 2))) (ix3 0 (y 1) (y 2))
      else newFk1 m (blkOf B X q) (fun z => B.a17.view.read (Elt F) f17 (ix3 1 (z 1) (z 2))) (ix3 0 (y 1) (y 2)) := by
  unfold pieces17
  by_cases h : (y 0).val = 0
  · rw [if_pos h]
    refine (View.read_writes_cons_unit_of_not_mem _ _ inb_S2x512x1_S1x512x1_1_0_0 _ _ y rfl 0 (by show (y 0).val < 1 ∨ 1 + 1 ≤ (y 0).val; omega)).trans ?_
    refine (View.read_writes_cons_unit_of_mem _ _ inb_S2x512x1_S1x512x1_0_0_0 _ _ y (ix3 0 (y 1) (y 2) : S1x512x1.Idx) rfl fun a => ?_).trans ?_
    · fin_cases a; { exact h }; { exact (Nat.zero_add _).symm }; { exact (Nat.zero_add _).symm }
    · exact congrFun (congrArg₂ (newFk0 m) (blk_eq B X o) (load3' (N := 1) _ _ 0 _ rfl _)) _
  · have h' : (y 0).val = 1 := by have : (y 0).val < 2 := (y 0).isLt; omega
    rw [if_neg h]
    refine (View.read_writes_cons_unit_of_mem _ _ inb_S2x512x1_S1x512x1_1_0_0 _ _ y (ix3 0 (y 1) (y 2) : S1x512x1.Idx) rfl fun a => ?_).trans ?_
    · fin_cases a; { exact h' }; { exact (Nat.zero_add _).symm }; { exact (Nat.zero_add _).symm }
    · exact congrFun (congrArg₂ (newFk1 m) (blk_eq B X o) (load3' (N := 1) _ _ 1 _ rfl _)) _

/-! ## The two loops' trips are this step -/

theorem iv_nat (a k : ℕ) : Scf.iv (BitVec.ofNat 32 a) 1#32 k = BitVec.ofNat 32 (a + k) := by
  unfold Scf.iv; rw [BitVec.mul_one, ← BitVec.ofNat_add]

theorem toNat_mul {n : ℕ} (h : n < 16) : (BitVec.ofNat 32 n * 512#32).toNat = 512 * n := by
  rw [show (512#32 : BitVec 32) = BitVec.ofNat 32 512 from rfl, ← BitVec.ofNat_mul, BitVec.toNat_ofNat]; omega

theorem toNat_nat {n : ℕ} (h : n < 16) : (BitVec.ofNat 32 n).toNat = n := by rw [BitVec.toNat_ofNat]; omega

/-- The diagonal's step is at the block of queries with the keys' own number. -/
def offs1 (i : grid0.Coords) (k : Fin (k0_t1_loop i).trips) (q : Fin 16) (h : (i 1).val + k.val = q.val) : Offs q where
  o2 := k0_off1 i k
  o4 := k0_off2 i k
  oa := k0_off3 i k
  ob := k0_off4 i k
  h2 := by show ![(Scf.iv (BitVec.ofNat 32 (i 1).val) 1#32 k.val * 512#32).toNat, 0] = _; rw [iv_nat, h, toNat_mul q.isLt]
  h4 := by show ![0, (Scf.iv (BitVec.ofNat 32 (i 1).val) 1#32 k.val).toNat, 0, 0] = _; rw [iv_nat, h, toNat_nat q.isLt]
  ha := by show ![0, (Scf.iv (BitVec.ofNat 32 (i 1).val) 1#32 k.val * 512#32).toNat, 0] = _; rw [iv_nat, h, toNat_mul q.isLt]
  hb := by show ![1, (Scf.iv (BitVec.ofNat 32 (i 1).val) 1#32 k.val * 512#32).toNat, 0] = _; rw [iv_nat, h, toNat_mul q.isLt]
  n2 := k0_off1_inb i k
  n4 := k0_off2_inb i k
  na := k0_off3_inb i k
  nb := k0_off4_inb i k

/-- The later steps are at the blocks of queries after it. -/
def offs3 (i : grid0.Coords) (k : Fin (k0_t3_loop i).trips) (q : Fin 16) (h : (i 1).val + 1 + k.val = q.val) : Offs q where
  o2 := k0_off9 i k
  o4 := k0_off10 i k
  oa := k0_off11 i k
  ob := k0_off12 i k
  h2 := by show ![(Scf.iv (BitVec.ofNat 32 (i 1).val + BitVec.ofNat 32 1) 1#32 k.val * 512#32).toNat, 0] = _; rw [← BitVec.ofNat_add, iv_nat, h, toNat_mul q.isLt]
  h4 := by show ![0, (Scf.iv (BitVec.ofNat 32 (i 1).val + BitVec.ofNat 32 1) 1#32 k.val).toNat, 0, 0] = _; rw [← BitVec.ofNat_add, iv_nat, h, toNat_nat q.isLt]
  ha := by show ![0, (Scf.iv (BitVec.ofNat 32 (i 1).val + BitVec.ofNat 32 1) 1#32 k.val * 512#32).toNat, 0] = _; rw [← BitVec.ofNat_add, iv_nat, h, toNat_mul q.isLt]
  hb := by show ![1, (Scf.iv (BitVec.ofNat 32 (i 1).val + BitVec.ofNat 32 1) 1#32 k.val * 512#32).toNat, 0] = _; rw [← BitVec.ofNat_add, iv_nat, h, toNat_mul q.isLt]
  n2 := k0_off9_inb i k
  n4 := k0_off10_inb i k
  na := k0_off11_inb i k
  nb := k0_off12_inb i k

theorem trip1_16 (k) (h : (i 1).val + k.val = q.val) : (trip1 c i B w1 v2 X k).2.2.2.1 f8 f11 f15 f16 f17 = pieces16 B v2 f16 X (offs1 i k q h) true := by
  unfold trip1 trip_k0_t1; rfl
theorem trip1_15 (k) (h : (i 1).val + k.val = q.val) : (trip1 c i B w1 v2 X k).2.2.1 f8 f11 f15 f16 f17 = pieces15 B v2 f15 X (offs1 i k q h) true := by
  unfold trip1 trip_k0_t1; rfl
theorem trip1_17 (k) (h : (i 1).val + k.val = q.val) : (trip1 c i B w1 v2 X k).2.2.2.2.1 f8 f11 f15 f16 f17 = pieces17 B f17 X (offs1 i k q h) true := by
  unfold trip1 trip_k0_t1; rfl
theorem trip1_8 (k) (h : (i 1).val + k.val = q.val) : (trip1 c i B w1 v2 X k).1 f8 f11 f15 f16 f17 = pieces8 B f8 X (offs1 i k q h) true := by
  unfold trip1 trip_k0_t1; rfl
theorem trip1_11 (k) (h : (i 1).val + k.val = q.val) : (trip1 c i B w1 v2 X k).2.1 f8 f11 f15 f16 f17 = pieces11 B f11 X (offs1 i k q h) true := by
  unfold trip1 trip_k0_t1; rfl
theorem trip3_16 (w2 k) (h : (i 1).val + 1 + k.val = q.val) : (trip3 c i B w1 v2 w2 X k).2.2.2.1 f8 f11 f15 f16 f17 = pieces16 B v2 f16 X (offs3 i k q h) false := by
  unfold trip3 trip_k0_t3; rfl
theorem trip3_15 (w2 k) (h : (i 1).val + 1 + k.val = q.val) : (trip3 c i B w1 v2 w2 X k).2.2.1 f8 f11 f15 f16 f17 = pieces15 B v2 f15 X (offs3 i k q h) false := by
  unfold trip3 trip_k0_t3; rfl
theorem trip3_17 (w2 k) (h : (i 1).val + 1 + k.val = q.val) : (trip3 c i B w1 v2 w2 X k).2.2.2.2.1 f8 f11 f15 f16 f17 = pieces17 B f17 X (offs3 i k q h) false := by
  unfold trip3 trip_k0_t3; rfl
theorem trip3_8 (w2 k) (h : (i 1).val + 1 + k.val = q.val) : (trip3 c i B w1 v2 w2 X k).1 f8 f11 f15 f16 f17 = pieces8 B f8 X (offs3 i k q h) false := by
  unfold trip3 trip_k0_t3; rfl
theorem trip3_11 (w2 k) (h : (i 1).val + 1 + k.val = q.val) : (trip3 c i B w1 v2 w2 X k).2.1 f8 f11 f15 f16 f17 = pieces11 B f11 X (offs3 i k q h) false := by
  unfold trip3 trip_k0_t3; rfl

end Cert.AttnProof.Trip
end
-- ==== Proof.AttnFold.lean ====
/- What the attention backward kernel's loops leave in the five buffers they add to. -/
module

public import proofs.«01_k».proof.Proof.AttnTrip

@[expose] public section

set_option maxRecDepth 16384

noncomputable section

namespace Cert.AttnProof.Fold

open Cert.AttnProof.Step Cert.AttnProof.Trip Cert.AttnIdeal Cert.AttnIdeal.Gen Idealize.ShloMosaic Idealize.ShloMosaic.TcCoe

variable {F : FTy → Type} [FloatOps F] [Named F]

/-- The contents of the five buffers. -/
structure Cont (F : FTy → Type) [FloatOps F] [Named F] (B : Bufs) where
  g8 : BufTy.Contents (Elt F) B.a8.view.ty
  g11 : BufTy.Contents (Elt F) B.a11.view.ty
  g15 : BufTy.Contents (Elt F) B.a15.view.ty
  g16 : BufTy.Contents (Elt F) B.a16.view.ty
  g17 : BufTy.Contents (Elt F) B.a17.view.ty

/-- Stores to the five buffers, latest first. -/
abbrev Tup (F : FTy → Type) [FloatOps F] [Named F] := List (View.Piece (Elt F) S8192x128 .f32) × List (View.Piece (Elt F) S1x16x2x512 .f32) × List (View.Piece (Elt F) S512x128 .f32) × List (View.Piece (Elt F) S512x128 .f32) × List (View.Piece (Elt F) S2x512x1 .f32)

/-- Contents after stores. -/
abbrev Cont.put {B : Bufs} (G : Cont F B) (P : Tup F) : Cont F B :=
  ⟨B.a8.view.writes (Elt F) G.g8 P.1, B.a11.view.writes (Elt F) G.g11 P.2.1, B.a15.view.writes (Elt F) G.g15 P.2.2.1, B.a16.view.writes (Elt F) G.g16 P.2.2.2.1, B.a17.view.writes (Elt F) G.g17 P.2.2.2.2⟩

/-- Contents as arrays. -/
abbrev Cont.rd {B : Bufs} (G : Cont F B) : St F :=
  ⟨B.a8.view.read (Elt F) G.g8, B.a11.view.read (Elt F) G.g11, B.a15.view.read (Elt F) G.g15, B.a16.view.read (Elt F) G.g16, B.a17.view.read (Elt F) G.g17⟩

abbrev app (P Q : Tup F) : Tup F := (P.1 ++ Q.1, P.2.1 ++ Q.2.1, P.2.2.1 ++ Q.2.2.1, P.2.2.2.1 ++ Q.2.2.2.1, P.2.2.2.2 ++ Q.2.2.2.2)

theorem put_app {B : Bufs} (G : Cont F B) (P Q : Tup F) : G.put (app P Q) = (G.put Q).put P := by
  unfold Cont.put app; simp only [View.writes_append]

variable (c : Dev nD) (i : grid0.Coords) (B : Bufs) (w1 w2 : BitVec 32) (v2 : IVec S512x128 1) (X : Ins F B) (G : Cont F B)

abbrev pb1 (n : ℕ) : Tup F :=
  pb_k0_t1 (F := F) Variants.none c none i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 w1 v2 X.X2 X.X3 X.X4 X.X6 X.X7 X.X13 X.X14 G.g8 G.g11 G.g15 G.g16 G.g17 n
abbrev pb2 (n : ℕ) : Tup F :=
  pb_k0_t2 (F := F) Variants.none c none i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 w1 v2 w2 X.X2 X.X3 X.X4 X.X6 X.X7 X.X13 X.X14 G.g8 G.g11 G.g15 G.g16 G.g17 n
abbrev pb3 (n : ℕ) : Tup F :=
  pb_k0_t3 (F := F) Variants.none c none i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 w1 v2 w2 X.X2 X.X3 X.X4 X.X6 X.X7 X.X13 X.X14 G.g8 G.g11 G.g15 G.g16 G.g17 n
abbrev pb4 (n : ℕ) : Tup F :=
  pb_k0_t4 (F := F) Variants.none c none i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 w1 v2 w2 X.X2 X.X3 X.X4 X.X6 X.X7 X.X13 X.X14 G.g8 G.g11 G.g15 G.g16 G.g17 n

/-- One trip's stores. -/
abbrev stores1 (k : Fin (k0_t1_loop i).trips) : Tup F :=
  ((trip1 c i B w1 v2 X k).1 G.g8 G.g11 G.g15 G.g16 G.g17, (trip1 c i B w1 v2 X k).2.1 G.g8 G.g11 G.g15 G.g16 G.g17, (trip1 c i B w1 v2 X k).2.2.1 G.g8 G.g11 G.g15 G.g16 G.g17,
    (trip1 c i B w1 v2 X k).2.2.2.1 G.g8 G.g11 G.g15 G.g16 G.g17, (trip1 c i B w1 v2 X k).2.2.2.2.1 G.g8 G.g11 G.g15 G.g16 G.g17)
abbrev stores3 (k : Fin (k0_t3_loop i).trips) : Tup F :=
  ((trip3 c i B w1 v2 w2 X k).1 G.g8 G.g11 G.g15 G.g16 G.g17, (trip3 c i B w1 v2 w2 X k).2.1 G.g8 G.g11 G.g15 G.g16 G.g17, (trip3 c i B w1 v2 w2 X k).2.2.1 G.g8 G.g11 G.g15 G.g16 G.g17,
    (trip3 c i B w1 v2 w2 X k).2.2.2.1 G.g8 G.g11 G.g15 G.g16 G.g17, (trip3 c i B w1 v2 w2 X k).2.2.2.2.1 G.g8 G.g11 G.g15 G.g16 G.g17)

theorem pb1_succ (k : Fin (k0_t1_loop i).trips) : pb1 c i B w1 v2 X G (k.val + 1) = app (stores1 c i B w1 v2 X (G.put (pb1 c i B w1 v2 X G k.val)) k) (pb1 c i B w1 v2 X G k.val) :=
  pb_k0_t1_succ Variants.none c none i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 w1 v2 X.X2 X.X3 X.X4 X.X6 X.X7 X.X13 X.X14 G.g8 G.g11 G.g15 G.g16 G.g17 k
theorem pb3_succ (k : Fin (k0_t3_loop i).trips) : pb3 c i B w1 w2 v2 X G (k.val + 1) = app (stores3 c i B w1 w2 v2 X (G.put (pb3 c i B w1 w2 v2 X G k.val)) k) (pb3 c i B w1 w2 v2 X G k.val) :=
  pb_k0_t3_succ Variants.none c none i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 w1 v2 w2 X.X2 X.X3 X.X4 X.X6 X.X7 X.X13 X.X14 G.g8 G.g11 G.g15 G.g16 G.g17 k

theorem rd1 (k : Fin (k0_t1_loop i).trips) (q : Fin 16) (h : (i 1).val + k.val = q.val) :
    (G.put (stores1 c i B w1 v2 X G k)).rd = G.rd.step true v2 q (blkOf B X q) := by
  refine St.ext ?_ ?_ ?_ ?_ ?_
  · exact (congrArg (fun L => B.a8.view.read (Elt F) (B.a8.view.writes (Elt F) G.g8 L)) (trip1_8 c i B w1 v2 G.g8 G.g11 G.g15 G.g16 G.g17 X k h)).trans (funext fun y => read8 B G.g8 X _ true y)
  · exact (congrArg (fun L => B.a11.view.read (Elt F) (B.a11.view.writes (Elt F) G.g11 L)) (trip1_11 c i B w1 v2 G.g8 G.g11 G.g15 G.g16 G.g17 X k h)).trans (funext fun y => read11 B G.g11 X _ true y)
  · exact (congrArg (fun L => B.a15.view.read (Elt F) (B.a15.view.writes (Elt F) G.g15 L)) (trip1_15 c i B w1 v2 G.g8 G.g11 G.g15 G.g16 G.g17 X k h)).trans (read15 B v2 G.g15 X _ true)
  · exact (congrArg (fun L => B.a16.view.read (Elt F) (B.a16.view.writes (Elt F) G.g16 L)) (trip1_16 c i B w1 v2 G.g8 G.g11 G.g15 G.g16 G.g17 X k h)).trans (read16 B v2 G.g16 X _ true)
  · exact (congrArg (fun L => B.a17.view.read (Elt F) (B.a17.view.writes (Elt F) G.g17 L)) (trip1_17 c i B w1 v2 G.g8 G.g11 G.g15 G.g16 G.g17 X k h)).trans (funext fun y => read17 B G.g17 X _ true y)

theorem rd3 (k : Fin (k0_t3_loop i).trips) (q : Fin 16) (h : (i 1).val + 1 + k.val = q.val) :
    (G.put (stores3 c i B w1 w2 v2 X G k)).rd = G.rd.step false v2 q (blkOf B X q) := by
  refine St.ext ?_ ?_ ?_ ?_ ?_
  · exact (congrArg (fun L => B.a8.view.read (Elt F) (B.a8.view.writes (Elt F) G.g8 L)) (trip3_8 c i B w1 v2 G.g8 G.g11 G.g15 G.g16 G.g17 X w2 k h)).trans (funext fun y => read8 B G.g8 X _ false y)
  · exact (congrArg (fun L => B.a11.view.read (Elt F) (B.a11.view.writes (Elt F) G.g11 L)) (trip3_11 c i B w1 v2 G.g8 G.g11 G.g15 G.g16 G.g17 X w2 k h)).trans (funext fun y => read11 B G.g11 X _ false y)
  · exact (congrArg (fun L => B.a15.view.read (Elt F) (B.a15.view.writes (Elt F) G.g15 L)) (trip3_15 c i B w1 v2 G.g8 G.g11 G.g15 G.g16 G.g17 X w2 k h)).trans (read15 B v2 G.g15 X _ false)
  · exact (congrArg (fun L => B.a16.view.read (Elt F) (B.a16.view.writes (Elt F) G.g16 L)) (trip3_16 c i B w1 v2 G.g8 G.g11 G.g15 G.g16 G.g17 X w2 k h)).trans (read16 B v2 G.g16 X _ false)
  · exact (congrArg (fun L => B.a17.view.read (Elt F) (B.a17.view.writes (Elt F) G.g17 L)) (trip3_17 c i B w1 v2 G.g8 G.g11 G.g15 G.g16 G.g17 X w2 k h)).trans (funext fun y => read17 B G.g17 X _ false y)

/-! ## How often the loops run -/

theorem trips1 : (k0_t1_loop i).trips = 1 := by
  have : ∀ a : Fin 16, Scf.trips (BitVec.ofNat 32 a.val) (Scalar.addi (BitVec.ofNat 32 a.val) (Scalar.muli (Scalar.divsi (Scalar.subi (Scalar.addi (BitVec.ofNat 32 a.val) 1#32) (BitVec.ofNat 32 a.val)) 1#32) 1#32)) 1#32 = 1 := by decide +kernel
  exact this (i 1)
theorem trips2 : (k0_t2_loop i).trips = 0 := by
  have : ∀ j : Fin 16, (Scf.trips (Scalar.addi (BitVec.ofNat 32 j.val) (Scalar.muli (Scalar.divsi (Scalar.subi (Scalar.addi (BitVec.ofNat 32 j.val) 1#32) (BitVec.ofNat 32 j.val)) 1#32) 1#32)) (Scalar.addi (BitVec.ofNat 32 j.val) (Scalar.subi (Scalar.addi (BitVec.ofNat 32 j.val) 1#32) (BitVec.ofNat 32 j.val))) 1#32) = 0 := by decide +kernel
  exact this (i 1)
theorem trips3 : (k0_t3_loop i).trips = 15 - (i 1).val := by
  have : ∀ a : Fin 16, Scf.trips (Scalar.addi (BitVec.ofNat 32 a.val) 1#32) (Scalar.addi (Scalar.addi (BitVec.ofNat 32 a.val) 1#32) (Scalar.muli (Scalar.divsi (Scalar.subi 16#32 (Scalar.addi (BitVec.ofNat 32 a.val) 1#32)) 1#32) 1#32)) 1#32 = 15 - a.val := by decide +kernel
  exact this (i 1)
theorem trips4 : (k0_t4_loop i).trips = 0 := by
  have : ∀ a : Fin 16, Scf.trips (Scalar.addi (Scalar.addi (BitVec.ofNat 32 a.val) 1#32) (Scalar.muli (Scalar.divsi (Scalar.subi 16#32 (Scalar.addi (BitVec.ofNat 32 a.val) 1#32)) 1#32) 1#32)) (Scalar.addi (Scalar.addi (BitVec.ofNat 32 a.val) 1#32) (Scalar.subi 16#32 (Scalar.addi (BitVec.ofNat 32 a.val) 1#32))) 1#32 = 0 := by decide +kernel
  exact this (i 1)

/-! ## All the loops -/

/-- The first `n` steps of the sweep that begins at the block of queries `j`: the diagonal's with the mask, the later ones without. -/
def sweep (v2 : IVec S512x128 1) (b : Fin 16 → Blk F) (j : Fin 16) (s : St F) : ℕ → St F
  | 0 => s
  | n + 1 => if h : j.val + n < 16 then (sweep v2 b j s n).step (decide (n = 0)) v2 ⟨j.val + n, h⟩ (b ⟨j.val + n, h⟩) else sweep v2 b j s n

theorem sweep_one (b : Fin 16 → Blk F) (j : Fin 16) (s : St F) : sweep v2 b j s 1 = s.step true v2 j (b j) := by
  unfold sweep; rw [dif_pos (show j.val + 0 < 16 by omega)]; rfl

theorem rd_pb3 (j : Fin 16) (hj : (i 1).val = j.val) (n : ℕ) (hn : n ≤ 15 - j.val) (s : St F) (hs : G.rd = sweep v2 (blkOf B X) j s 1) :
    (G.put (pb3 c i B w1 w2 v2 X G n)).rd = sweep v2 (blkOf B X) j s (n + 1) := by
  induction n with
  | zero => exact hs
  | succ n ih =>
    have hk : n < (k0_t3_loop i).trips := by rw [trips3]; omega
    have hq : j.val + (n + 1) < 16 := by omega
    have e := pb3_succ c i B w1 w2 v2 X G ⟨n, hk⟩
    unfold sweep; rw [dif_pos hq, ← ih (by omega)]
    refine (congrArg (fun P => (G.put P).rd) e).trans ?_
    refine (congrArg Cont.rd (put_app G _ _)).trans ?_
    exact rd3 c i B w1 w2 v2 X _ ⟨n, hk⟩ ⟨j.val + (n + 1), hq⟩ (by show (i 1).val + 1 + n = j.val + (n + 1); omega)

/-- The stores after the loops, of those before and the contents before them all. -/
abbrev loops (w2 w3 w4 : BitVec 32) (P : Tup F) : Tup F :=
  let P1 := app (pb1 c i B w1 v2 X (G.put P) (k0_t1_loop i).trips) P
  let P2 := app (pb2 c i B w1 w2 v2 X (G.put P1) (k0_t2_loop i).trips) P1
  let P3 := app (pb3 c i B w1 w3 v2 X (G.put P2) (k0_t3_loop i).trips) P2
  app (pb4 c i B w1 w4 v2 X (G.put P3) (k0_t4_loop i).trips) P3

theorem rd_loops (j : Fin 16) (hj : (i 1).val = j.val) (w2 w3 w4 : BitVec 32) (P : Tup F) :
    (G.put (loops c i B w1 v2 X G w2 w3 w4 P)).rd = sweep v2 (blkOf B X) j (G.put P).rd (16 - j.val) := by
  have h1 : ((G.put P).put (pb1 c i B w1 v2 X (G.put P) 1)).rd = sweep v2 (blkOf B X) j (G.put P).rd 1 := by
    have hk : 0 < (k0_t1_loop i).trips := by rw [trips1]; omega
    rw [sweep_one]
    refine (congrArg (fun Q => ((G.put P).put Q).rd) (pb1_succ c i B w1 v2 X (G.put P) ⟨0, hk⟩)).trans ?_
    exact (congrArg Cont.rd (put_app (G.put P) _ _)).trans (rd1 c i B w1 v2 X (G.put P) ⟨0, hk⟩ j hj)
  unfold loops
  rw [trips1, trips2, trips3, trips4, hj]
  have h3 := rd_pb3 c i B w1 w3 v2 X ((G.put P).put (pb1 c i B w1 v2 X (G.put P) 1)) j hj (15 - j.val) le_rfl (G.put P).rd h1
  rw [show 15 - j.val + 1 = 16 - j.val by omega] at h3
  refine Eq.trans ?_ h3
  rw [put_app, put_app, put_app, put_app]
  rfl

end Cert.AttnProof.Fold
end
-- ==== Proof.AttnOut.lean ====
/- What each case of the attention backward kernel's body leaves in its five output blocks. -/
module

public import proofs.«01_k».proof.Proof.AttnFold

@[expose] public section

set_option maxRecDepth 16384

noncomputable section

namespace Cert.AttnProof.Out

open Cert.AttnProof.Step Cert.AttnProof.Trip Cert.AttnProof.Fold Cert.AttnIdeal Cert.AttnIdeal.Gen Idealize.ShloMosaic Idealize.ShloMosaic.TcCoe

variable {F : FTy → Type} [FloatOps F] [Named F]

variable (c : Dev nD) (i : grid0.Coords) (B : Bufs) (x0 : Vec F S2x8192x128 .bf16) (x1 : Vec F S8192x128 .bf16) (x2 : Vec F S2x512x128 .bf16) (x3 : Vec F S512x128 .bf16) (x4 : Vec F S1x16x2x512 .f32) (x5 : Vec F S1x16x2x512 .f32) (xo6 : Vec F S8192x128 .f32) (xo9 : Vec F S1x16x2x512 .f32)

/-- The inputs' blocks and the two scratch buffers filled from them before the loops. -/
abbrev ins : Ins F B where
  X2 := B.h2.unread x0
  X3 := B.h3.unread x1
  X4 := B.h4.unread x2
  X6 := B.h6.unread x4
  X7 := B.h7.unread x5
  X13 := B.a13.view.writes (Elt F) B.a13.view.junk
    [⟨Rect.unit (s := S2x512x128) ![1, 0, 0] S1x512x128.size inb_S2x512x128_S1x512x128_1_0_0, k0_pay96 (F := F) (B.a4.view.readAt (Elt F) (Rect.unit (s := S2x512x128) ![1, 0, 0] S1x512x128.size inb_S2x512x128_S1x512x128_1_0_0).toLoadRect (B.h4.unread x2))⟩,
     ⟨Rect.unit (s := S2x512x128) ![0, 0, 0] S1x512x128.size inb_S2x512x128_S1x512x128_0_0_0, k0_pay95 (F := F) (B.a4.view.readAt (Elt F) (Rect.unit (s := S2x512x128) ![0, 0, 0] S1x512x128.size inb_S2x512x128_S1x512x128_0_0_0).toLoadRect (B.h4.unread x2))⟩]
  X14 := B.a14.view.writes (Elt F) B.a14.view.junk
    [⟨Rect.unit (s := S2x512x128) ![1, 0, 0] S1x512x128.size inb_S2x512x128_S1x512x128_1_0_0, k0_pay98 (F := F) (B.a5.view.readAt (Elt F) (Rect.unit (s := S512x128) ![0, 0] S512x128.size inb_S512x128_S512x128_0_0).toLoadRect (B.h5.unread x3))⟩,
     ⟨Rect.unit (s := S2x512x128) ![0, 0, 0] S1x512x128.size inb_S2x512x128_S1x512x128_0_0_0, k0_pay97 (F := F) (B.a5.view.readAt (Elt F) (Rect.unit (s := S512x128) ![0, 0] S512x128.size inb_S512x128_S512x128_0_0).toLoadRect (B.h5.unread x3))⟩]

/-- The blocks a step with the block of queries `q` works on. -/
abbrev blkX (q : Fin 16) : Blk F where
  D := fun y => x1 (ix2 (row q (y 0)) (y 1))
  L := fun y => x4 (ix4 0 q (y 2) (y 3))
  E := fun y => x5 (ix4 0 q (y 2) (y 3))
  Q := fun h y => x0 (ix3 h (row q (y 1)) (y 2))
  K := fun h y => x2 (ix3 h (y 1) (y 2))
  V := ![k0_pay97 x3, k0_pay98 x3]
  C := ![k0_pay95 fun y => x2 (ix3 0 (y 1) (y 2)), k0_pay96 fun y => x2 (ix3 1 (y 1) (y 2))]

/-- Two blocks stored one after the other in a buffer of two, read back. -/
theorem read_pair {S : Space} {e : EltTy} (v : View sig .tc S S2x512x128 e) (f : v.ty.Contents (Elt F)) (u w : Vec F S1x512x128 e) (h : Fin 2) :
    (fun y : S1x512x128.Idx => v.read (Elt F) (v.writes (Elt F) f [⟨Rect.unit (s := S2x512x128) ![1, 0, 0] S1x512x128.size inb_S2x512x128_S1x512x128_1_0_0, w⟩,
      ⟨Rect.unit (s := S2x512x128) ![0, 0, 0] S1x512x128.size inb_S2x512x128_S1x512x128_0_0_0, u⟩]) (ix3 h (y 1) (y 2))) = ![u, w] h := by
  funext y
  have hy : (y : S1x512x128.Idx) = ix3 0 (y 1) (y 2) := by
    funext a; fin_cases a; { exact Fin.ext (by have : (y 0).val < 1 := (y 0).isLt; show (y 0).val = 0; omega) }; { rfl }; { rfl }
  fin_cases h
  · refine (View.read_writes_cons_unit_of_not_mem v f inb_S2x512x128_S1x512x128_1_0_0 _ _ (ix3 0 (y 1) (y 2) : S2x512x128.Idx) rfl 0 (by show 0 < 1 ∨ 1 + 1 ≤ 0; omega)).trans ?_
    refine (View.read_writes_cons_unit_of_mem v f inb_S2x512x128_S1x512x128_0_0_0 _ _ (ix3 0 (y 1) (y 2) : S2x512x128.Idx) (ix3 0 (y 1) (y 2) : S1x512x128.Idx) rfl fun a => ?_).trans (congrArg u hy.symm)
    fin_cases a; { rfl }; { exact (Nat.zero_add _).symm }; { exact (Nat.zero_add _).symm }
  · refine (View.read_writes_cons_unit_of_mem v f inb_S2x512x128_S1x512x128_1_0_0 _ _ (ix3 1 (y 1) (y 2) : S2x512x128.Idx) (ix3 0 (y 1) (y 2) : S1x512x128.Idx) rfl fun a => ?_).trans (congrArg w hy.symm)
    fin_cases a; { rfl }; { exact (Nat.zero_add _).symm }; { exact (Nat.zero_add _).symm }

theorem blk_ext {b b' : Blk F} (hD : b.D = b'.D) (hL : b.L = b'.L) (hE : b.E = b'.E) (hQ : b.Q = b'.Q) (hK : b.K = b'.K) (hV : b.V = b'.V) (hC : b.C = b'.C) : b = b' := by
  obtain ⟨_, _, _, _, _, _, _⟩ := b; obtain ⟨_, _, _, _, _, _, _⟩ := b'
  dsimp only at *; subst hD hL hE hQ hK hV hC; rfl

theorem blkOf_ins (q : Fin 16) : blkOf B (ins B x0 x1 x2 x3 x4 x5) q = blkX x0 x1 x2 x3 x4 x5 q := by
  unfold blkOf; refine blk_ext ?_ ?_ ?_ ?_ ?_ ?_ ?_ <;> dsimp only
  · exact funext fun y => congrFun (B.h3.read_unread x1) (ix2 (row q (y 0)) (y 1))
  · exact funext fun y => congrFun (B.h6.read_unread x4) (ix4 0 q (y 2) (y 3))
  · exact funext fun y => congrFun (B.h7.read_unread x5) (ix4 0 q (y 2) (y 3))
  · exact funext fun h => funext fun y => congrFun (B.h2.read_unread x0) (ix3 h (row q (y 1)) (y 2))
  · exact funext fun h => funext fun y => congrFun (B.h4.read_unread x2) (ix3 h (y 1) (y 2))
  · refine (funext fun h => read_pair B.a14.view B.a14.view.junk (k0_pay97 (F := F) (B.a5.view.readAt (Elt F) (Rect.unit (s := S512x128) ![0, 0] S512x128.size inb_S512x128_S512x128_0_0).toLoadRect (B.h5.unread x3))) (k0_pay98 (F := F) (B.a5.view.readAt (Elt F) (Rect.unit (s := S512x128) ![0, 0] S512x128.size inb_S512x128_S512x128_0_0).toLoadRect (B.h5.unread x3))) h).trans ?_
    have e : B.a5.view.readAt (Elt F) (Rect.unit (s := S512x128) ![0, 0] S512x128.size inb_S512x128_S512x128_0_0).toLoadRect (B.h5.unread x3) = x3 :=
      (View.readAt_full _ _ _).trans (B.h5.read_unread x3)
    exact congrArg (fun z => ![k0_pay97 z, k0_pay98 z]) e
  · refine (funext fun h => read_pair B.a13.view B.a13.view.junk (k0_pay95 (F := F) (B.a4.view.readAt (Elt F) (Rect.unit (s := S2x512x128) ![0, 0, 0] S1x512x128.size inb_S2x512x128_S1x512x128_0_0_0).toLoadRect (B.h4.unread x2))) (k0_pay96 (F := F) (B.a4.view.readAt (Elt F) (Rect.unit (s := S2x512x128) ![1, 0, 0] S1x512x128.size inb_S2x512x128_S1x512x128_1_0_0).toLoadRect (B.h4.unread x2))) h).trans ?_
    have e (h : Fin 2) (off : Fin 3 → ℕ) (hh : off = ![h.val, 0, 0]) (n) : B.a4.view.readAt (Elt F) (Rect.unit (s := S2x512x128) off S1x512x128.size n).toLoadRect (B.h4.unread x2) = fun y => x2 (ix3 h (y 1) (y 2)) :=
      (load3' _ _ h _ hh n).trans (funext fun y => congrFun (B.h4.read_unread x2) (ix3 h (y 1) (y 2)))
    exact pair_eq (congrArg k0_pay95 (e 0 _ rfl _)) (congrArg k0_pay96 (e 1 _ rfl _))

/-- The stores before the loops, and the contents before the body, in the first case and in the others. -/
abbrev keys0 : List (View.Piece (Elt F) S512x128 .f32) × List (View.Piece (Elt F) S512x128 .f32) × List (View.Piece (Elt F) S2x512x1 .f32) :=
  ([⟨Rect.unit (s := S512x128) ![0, 0] S512x128.size inb_S512x128_S512x128_0_0, k0_pay99⟩], [⟨Rect.unit (s := S512x128) ![0, 0] S512x128.size inb_S512x128_S512x128_0_0, k0_pay100⟩],
    [⟨Rect.unit (s := S2x512x1) ![0, 0, 0] S2x512x1.size inb_S2x512x1_S2x512x1_0_0_0, k0_pay101⟩])
abbrev tupA : Tup F := ([⟨Rect.unit (s := S8192x128) ![0, 0] S8192x128.size inb_S8192x128_S8192x128_0_0, k0_pay91⟩],
  [⟨Rect.unit (s := S1x16x2x512) ![0, 0, 0, 0] S1x16x2x512.size inb_S1x16x2x512_S1x16x2x512_0_0_0_0, k0_pay92⟩], keys0)
abbrev tupB : Tup F := ([], [], keys0)
abbrev contA : Cont F B := ⟨B.a8.view.junk, B.a11.view.junk, B.a15.view.junk, B.a16.view.junk, B.a17.view.junk⟩
abbrev contB : Cont F B := ⟨B.h8.unread xo6, B.h11.unread xo9, B.a15.view.junk, B.a16.view.junk, B.a17.view.junk⟩

/-- What the five buffers hold before the loops. -/
abbrev stA : St F := ⟨k0_pay91, k0_pay92, k0_pay99, k0_pay100, k0_pay101⟩
abbrev stB : St F := ⟨xo6, xo9, k0_pay99, k0_pay100, k0_pay101⟩

theorem rd_contA : ((contA (F := F) B).put tupA).rd = stA := by
  unfold Cont.put Cont.rd; dsimp only; refine St.ext ?_ ?_ ?_ ?_ ?_ <;> dsimp only
  · exact View.read_writes_full (Val := Elt F) B.a8.view B.a8.view.junk inb_S8192x128_S8192x128_0_0 (k0_pay91 (F := F)) []
  · exact View.read_writes_full (Val := Elt F) B.a11.view B.a11.view.junk inb_S1x16x2x512_S1x16x2x512_0_0_0_0 (k0_pay92 (F := F)) []
  · exact View.read_writes_full (Val := Elt F) B.a15.view B.a15.view.junk inb_S512x128_S512x128_0_0 (k0_pay99 (F := F)) []
  · exact View.read_writes_full (Val := Elt F) B.a16.view B.a16.view.junk inb_S512x128_S512x128_0_0 (k0_pay100 (F := F)) []
  · exact View.read_writes_full (Val := Elt F) B.a17.view B.a17.view.junk inb_S2x512x1_S2x512x1_0_0_0 (k0_pay101 (F := F)) []

theorem rd_contB : ((contB B xo6 xo9).put tupB).rd = stB xo6 xo9 := by
  unfold Cont.put Cont.rd; dsimp only; refine St.ext ?_ ?_ ?_ ?_ ?_ <;> dsimp only
  · exact B.h8.read_unread _
  · exact B.h11.read_unread _
  · exact View.read_writes_full (Val := Elt F) B.a15.view B.a15.view.junk inb_S512x128_S512x128_0_0 (k0_pay99 (F := F)) []
  · exact View.read_writes_full (Val := Elt F) B.a16.view B.a16.view.junk inb_S512x128_S512x128_0_0 (k0_pay100 (F := F)) []
  · exact View.read_writes_full (Val := Elt F) B.a17.view B.a17.view.junk inb_S2x512x1_S2x512x1_0_0_0 (k0_pay101 (F := F)) []

abbrev allA : Tup F := loops c i B (BitVec.ofNat 32 (i 1).val) k0_pay90 (ins B x0 x1 x2 x3 x4 x5) (contA B) (kernelRun0_A.sl.v46 i) (kernelRun0_A.sl.v47 i) (kernelRun0_A.sl.v52 i) tupA
abbrev allB : Tup F := loops c i B (BitVec.ofNat 32 (i 1).val) k0_pay90 (ins B x0 x1 x2 x3 x4 x5) (contB B xo6 xo9) (kernelRun0_B.sl.v46 i) (kernelRun0_B.sl.v47 i) (kernelRun0_B.sl.v52 i) tupB
abbrev allC : Tup F := loops c i B (BitVec.ofNat 32 (i 1).val) k0_pay90 (ins B x0 x1 x2 x3 x4 x5) (contB B xo6 xo9) (kernelRun0_C.sl.v46 i) (kernelRun0_C.sl.v47 i) (kernelRun0_C.sl.v52 i) tupB

/-! ## The body's stores, case by case -/

/-- The frame's run of each case, on the buffers `B`. -/
abbrev krA (hc0 : cond0_0 i) (hc1 : ¬cond0_1 i) := kernelRun0_A c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 hc0 hc1 x0 x1 x2 x3 x4 x5
abbrev krB (hc0 : ¬cond0_0 i) (hc1 : ¬cond0_1 i) := kernelRun0_B c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 hc0 hc1 x0 x1 x2 x3 x4 x5 xo6 xo9
abbrev krC (hc0 : ¬cond0_0 i) (hc1 : cond0_1 i) := kernelRun0_C c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 hc0 hc1 x0 x1 x2 x3 x4 x5 xo6 xo9
theorem runA_6 (hc0 : cond0_0 i) (hc1 : ¬cond0_1 i) : (krA c i B x0 x1 x2 x3 x4 x5 hc0 hc1).1 = (allA c i B x0 x1 x2 x3 x4 x5).1 := by
  unfold krA kernelRun0_A; dsimp only; sl_unfold_words
  dsimp only [allA, loops, app, pb1, pb2, pb3, pb4, ins, contA, tupA, keys0, Cont.put]
theorem runA_7 (hc0 : cond0_0 i) (hc1 : ¬cond0_1 i) : (krA c i B x0 x1 x2 x3 x4 x5 hc0 hc1).2.1 = [⟨Rect.unit (s := S512x128) ![0, 0] S512x128.size inb_S512x128_S512x128_0_0, k0_pay108 (B.a15.view.readCov (allA c i B x0 x1 x2 x3 x4 x5).2.2.1 (Rect.unit (s := S512x128) ![0, 0] S512x128.size inb_S512x128_S512x128_0_0).toLoadRect)⟩] := by
  unfold krA kernelRun0_A; dsimp only; sl_unfold_words
  dsimp only [allA, loops, app, pb1, pb2, pb3, pb4, ins, contA, tupA, keys0, Cont.put]
theorem runA_8 (hc0 : cond0_0 i) (hc1 : ¬cond0_1 i) : (krA c i B x0 x1 x2 x3 x4 x5 hc0 hc1).2.2.1 = [⟨Rect.unit (s := S512x128) ![0, 0] S512x128.size inb_S512x128_S512x128_0_0, k0_pay1 (B.a16.view.readCov (allA c i B x0 x1 x2 x3 x4 x5).2.2.2.1 (Rect.unit (s := S512x128) ![0, 0] S512x128.size inb_S512x128_S512x128_0_0).toLoadRect)⟩] := by
  unfold krA kernelRun0_A; dsimp only; sl_unfold_words
  dsimp only [allA, loops, app, pb1, pb2, pb3, pb4, ins, contA, tupA, keys0, Cont.put]
theorem runA_9 (hc0 : cond0_0 i) (hc1 : ¬cond0_1 i) : (krA c i B x0 x1 x2 x3 x4 x5 hc0 hc1).2.2.2.1 = (allA c i B x0 x1 x2 x3 x4 x5).2.1 := by
  unfold krA kernelRun0_A; dsimp only; sl_unfold_words
  dsimp only [allA, loops, app, pb1, pb2, pb3, pb4, ins, contA, tupA, keys0, Cont.put]
theorem runA_10 (hc0 : cond0_0 i) (hc1 : ¬cond0_1 i) : (krA c i B x0 x1 x2 x3 x4 x5 hc0 hc1).2.2.2.2.1 = [⟨Rect.unit (s := S1x512x2) ![0, 0, 0] S1x512x2.size inb_S1x512x2_S1x512x2_0_0_0, k0_pay2 (B.a17.view.readCov (allA c i B x0 x1 x2 x3 x4 x5).2.2.2.2 (Rect.unit (s := S2x512x1) ![0, 0, 0] S1x512x1.size inb_S2x512x1_S1x512x1_0_0_0).toLoadRect) (B.a17.view.readCov (allA c i B x0 x1 x2 x3 x4 x5).2.2.2.2 (Rect.unit (s := S2x512x1) ![1, 0, 0] S1x512x1.size inb_S2x512x1_S1x512x1_1_0_0).toLoadRect)⟩] := by
  unfold krA kernelRun0_A; dsimp only; sl_unfold_words
  dsimp only [allA, loops, app, pb1, pb2, pb3, pb4, ins, contA, tupA, keys0, Cont.put]
theorem runB_6 (hc0 : ¬cond0_0 i) (hc1 : ¬cond0_1 i) : (krB c i B x0 x1 x2 x3 x4 x5 xo6 xo9 hc0 hc1).1 = (allB c i B x0 x1 x2 x3 x4 x5 xo6 xo9).1 := by
  unfold krB kernelRun0_B; dsimp only; sl_unfold_words
  dsimp only [allB, loops, app, pb1, pb2, pb3, pb4, ins, contB, tupB, keys0, Cont.put]; simp only [View.writes_nil, List.append_nil]
theorem runB_7 (hc0 : ¬cond0_0 i) (hc1 : ¬cond0_1 i) : (krB c i B x0 x1 x2 x3 x4 x5 xo6 xo9 hc0 hc1).2.1 = [⟨Rect.unit (s := S512x128) ![0, 0] S512x128.size inb_S512x128_S512x128_0_0, k0_pay108 (B.a15.view.readCov (allB c i B x0 x1 x2 x3 x4 x5 xo6 xo9).2.2.1 (Rect.unit (s := S512x128) ![0, 0] S512x128.size inb_S512x128_S512x128_0_0).toLoadRect)⟩] := by
  unfold krB kernelRun0_B; dsimp only; sl_unfold_words
  dsimp only [allB, loops, app, pb1, pb2, pb3, pb4, ins, contB, tupB, keys0, Cont.put]; simp only [View.writes_nil, List.append_nil]
theorem runB_8 (hc0 : ¬cond0_0 i) (hc1 : ¬cond0_1 i) : (krB c i B x0 x1 x2 x3 x4 x5 xo6 xo9 hc0 hc1).2.2.1 = [⟨Rect.unit (s := S512x128) ![0, 0] S512x128.size inb_S512x128_S512x128_0_0, k0_pay1 (B.a16.view.readCov (allB c i B x0 x1 x2 x3 x4 x5 xo6 xo9).2.2.2.1 (Rect.unit (s := S512x128) ![0, 0] S512x128.size inb_S512x128_S512x128_0_0).toLoadRect)⟩] := by
  unfold krB kernelRun0_B; dsimp only; sl_unfold_words
  dsimp only [allB, loops, app, pb1, pb2, pb3, pb4, ins, contB, tupB, keys0, Cont.put]; simp only [View.writes_nil, List.append_nil]
theorem runB_9 (hc0 : ¬cond0_0 i) (hc1 : ¬cond0_1 i) : (krB c i B x0 x1 x2 x3 x4 x5 xo6 xo9 hc0 hc1).2.2.2.1 = (allB c i B x0 x1 x2 x3 x4 x5 xo6 xo9).2.1 := by
  unfold krB kernelRun0_B; dsimp only; sl_unfold_words
  dsimp only [allB, loops, app, pb1, pb2, pb3, pb4, ins, contB, tupB, keys0, Cont.put]; simp only [View.writes_nil, List.append_nil]
theorem runB_10 (hc0 : ¬cond0_0 i) (hc1 : ¬cond0_1 i) : (krB c i B x0 x1 x2 x3 x4 x5 xo6 xo9 hc0 hc1).2.2.2.2.1 = [⟨Rect.unit (s := S1x512x2) ![0, 0, 0] S1x512x2.size inb_S1x512x2_S1x512x2_0_0_0, k0_pay2 (B.a17.view.readCov (allB c i B x0 x1 x2 x3 x4 x5 xo6 xo9).2.2.2.2 (Rect.unit (s := S2x512x1) ![0, 0, 0] S1x512x1.size inb_S2x512x1_S1x512x1_0_0_0).toLoadRect) (B.a17.view.readCov (allB c i B x0 x1 x2 x3 x4 x5 xo6 xo9).2.2.2.2 (Rect.unit (s := S2x512x1) ![1, 0, 0] S1x512x1.size inb_S2x512x1_S1x512x1_1_0_0).toLoadRect)⟩] := by
  unfold krB kernelRun0_B; dsimp only; sl_unfold_words
  dsimp only [allB, loops, app, pb1, pb2, pb3, pb4, ins, contB, tupB, keys0, Cont.put]; simp only [View.writes_nil, List.append_nil]
theorem runC_6 (hc0 : ¬cond0_0 i) (hc1 : cond0_1 i) : (krC c i B x0 x1 x2 x3 x4 x5 xo6 xo9 hc0 hc1).1 = ⟨Rect.unit (s := S8192x128) ![0, 0] S8192x128.size inb_S8192x128_S8192x128_0_0, k0_pay3 (B.a8.view.readAt (Elt F) (Rect.unit (s := S8192x128) ![0, 0] S8192x128.size inb_S8192x128_S8192x128_0_0).toLoadRect (B.a8.view.writes (Elt F) (B.h8.unread xo6) (allC c i B x0 x1 x2 x3 x4 x5 xo6 xo9).1))⟩ :: (allC c i B x0 x1 x2 x3 x4 x5 xo6 xo9).1 := by
  unfold krC kernelRun0_C; dsimp only; sl_unfold_words
  dsimp only [allC, loops, app, pb1, pb2, pb3, pb4, ins, contB, tupB, keys0, Cont.put]; simp only [View.writes_nil, List.append_nil]
theorem runC_7 (hc0 : ¬cond0_0 i) (hc1 : cond0_1 i) : (krC c i B x0 x1 x2 x3 x4 x5 xo6 xo9 hc0 hc1).2.1 = [⟨Rect.unit (s := S512x128) ![0, 0] S512x128.size inb_S512x128_S512x128_0_0, k0_pay108 (B.a15.view.readCov (allC c i B x0 x1 x2 x3 x4 x5 xo6 xo9).2.2.1 (Rect.unit (s := S512x128) ![0, 0] S512x128.size inb_S512x128_S512x128_0_0).toLoadRect)⟩] := by
  unfold krC kernelRun0_C; dsimp only; sl_unfold_words
  dsimp only [allC, loops, app, pb1, pb2, pb3, pb4, ins, contB, tupB, keys0, Cont.put]; simp only [View.writes_nil, List.append_nil]
theorem runC_8 (hc0 : ¬cond0_0 i) (hc1 : cond0_1 i) : (krC c i B x0 x1 x2 x3 x4 x5 xo6 xo9 hc0 hc1).2.2.1 = [⟨Rect.unit (s := S512x128) ![0, 0] S512x128.size inb_S512x128_S512x128_0_0, k0_pay1 (B.a16.view.readCov (allC c i B x0 x1 x2 x3 x4 x5 xo6 xo9).2.2.2.1 (Rect.unit (s := S512x128) ![0, 0] S512x128.size inb_S512x128_S512x128_0_0).toLoadRect)⟩] := by
  unfold krC kernelRun0_C; dsimp only; sl_unfold_words
  dsimp only [allC, loops, app, pb1, pb2, pb3, pb4, ins, contB, tupB, keys0, Cont.put]; simp only [View.writes_nil, List.append_nil]
theorem runC_9 (hc0 : ¬cond0_0 i) (hc1 : cond0_1 i) : (krC c i B x0 x1 x2 x3 x4 x5 xo6 xo9 hc0 hc1).2.2.2.1 = (allC c i B x0 x1 x2 x3 x4 x5 xo6 xo9).2.1 := by
  unfold krC kernelRun0_C; dsimp only; sl_unfold_words
  dsimp only [allC, loops, app, pb1, pb2, pb3, pb4, ins, contB, tupB, keys0, Cont.put]; simp only [View.writes_nil, List.append_nil]
theorem runC_10 (hc0 : ¬cond0_0 i) (hc1 : cond0_1 i) : (krC c i B x0 x1 x2 x3 x4 x5 xo6 xo9 hc0 hc1).2.2.2.2.1 = [⟨Rect.unit (s := S1x512x2) ![0, 0, 0] S1x512x2.size inb_S1x512x2_S1x512x2_0_0_0, k0_pay2 (B.a17.view.readCov (allC c i B x0 x1 x2 x3 x4 x5 xo6 xo9).2.2.2.2 (Rect.unit (s := S2x512x1) ![0, 0, 0] S1x512x1.size inb_S2x512x1_S1x512x1_0_0_0).toLoadRect) (B.a17.view.readCov (allC c i B x0 x1 x2 x3 x4 x5 xo6 xo9).2.2.2.2 (Rect.unit (s := S2x512x1) ![1, 0, 0] S1x512x1.size inb_S2x512x1_S1x512x1_1_0_0).toLoadRect)⟩] := by
  unfold krC kernelRun0_C; dsimp only; sl_unfold_words
  dsimp only [allC, loops, app, pb1, pb2, pb3, pb4, ins, contB, tupB, keys0, Cont.put]; simp only [View.writes_nil, List.append_nil]

/-! ## What the output blocks hold -/

/-- What the five buffers hold after the sweep from the keys' block `j`, in the first case and in the others. -/
def finA (j : Fin 16) : St F := sweep k0_pay90 (blkX x0 x1 x2 x3 x4 x5) j stA (16 - j.val)
def finB (j : Fin 16) : St F := sweep k0_pay90 (blkX x0 x1 x2 x3 x4 x5) j (stB xo6 xo9) (16 - j.val)

variable (j : Fin 16) (hj : (i 1).val = j.val)
include hj

theorem rdA : ((contA B).put (allA c i B x0 x1 x2 x3 x4 x5)).rd = finA x0 x1 x2 x3 x4 x5 j := by
  refine (rd_loops c i B _ _ _ _ j hj _ _ _ _).trans ?_
  rw [rd_contA, show blkOf B (ins B x0 x1 x2 x3 x4 x5) = blkX x0 x1 x2 x3 x4 x5 from funext fun q => blkOf_ins B x0 x1 x2 x3 x4 x5 q]
  rfl

theorem outA_6 (hc0 : cond0_0 i) (hc1 : ¬cond0_1 i) : out0_A_6 c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 hc0 hc1 x0 x1 x2 x3 x4 x5 = (finA x0 x1 x2 x3 x4 x5 j).q := by
  unfold out0_A_6
  rw [View.read_writes_eq_canon _ _ _ (cover0_A_6 c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 hc0 hc1 x0 x1 x2 x3 x4 x5), ← View.read_writes_eq_canon B.a8.view B.a8.view.junk _ (cover0_A_6 c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 hc0 hc1 x0 x1 x2 x3 x4 x5), runA_6 c i B x0 x1 x2 x3 x4 x5 hc0 hc1]
  exact congrArg St.q (rdA c i B x0 x1 x2 x3 x4 x5 j hj)

theorem outA_9 (hc0 : cond0_0 i) (hc1 : ¬cond0_1 i) : out0_A_9 c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 hc0 hc1 x0 x1 x2 x3 x4 x5 = (finA x0 x1 x2 x3 x4 x5 j).fq := by
  unfold out0_A_9
  rw [View.read_writes_eq_canon _ _ _ (cover0_A_9 c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 hc0 hc1 x0 x1 x2 x3 x4 x5), ← View.read_writes_eq_canon B.a11.view B.a11.view.junk _ (cover0_A_9 c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 hc0 hc1 x0 x1 x2 x3 x4 x5), runA_9 c i B x0 x1 x2 x3 x4 x5 hc0 hc1]
  exact congrArg St.fq (rdA c i B x0 x1 x2 x3 x4 x5 j hj)

theorem outA_7 (hc0 : cond0_0 i) (hc1 : ¬cond0_1 i) : out0_A_7 c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 hc0 hc1 x0 x1 x2 x3 x4 x5 = k0_pay108 (finA x0 x1 x2 x3 x4 x5 j).k := by
  unfold out0_A_7
  rw [runA_7 c i B x0 x1 x2 x3 x4 x5 hc0 hc1, View.read_writes_full]
  unfold View.readCov
  rw [View.readAt_full]
  exact congrArg (fun s => k0_pay108 (St.k s)) (rdA c i B x0 x1 x2 x3 x4 x5 j hj)

theorem outA_8 (hc0 : cond0_0 i) (hc1 : ¬cond0_1 i) : out0_A_8 c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 hc0 hc1 x0 x1 x2 x3 x4 x5 = k0_pay1 (finA x0 x1 x2 x3 x4 x5 j).v := by
  unfold out0_A_8
  rw [runA_8 c i B x0 x1 x2 x3 x4 x5 hc0 hc1, View.read_writes_full]
  unfold View.readCov
  rw [View.readAt_full]
  exact congrArg (fun s => k0_pay1 (St.v s)) (rdA c i B x0 x1 x2 x3 x4 x5 j hj)

theorem outA_10 (hc0 : cond0_0 i) (hc1 : ¬cond0_1 i) : out0_A_10 c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 hc0 hc1 x0 x1 x2 x3 x4 x5 = k0_pay2 (fun y => (finA x0 x1 x2 x3 x4 x5 j).fk (ix3 0 (y 1) (y 2))) (fun y => (finA x0 x1 x2 x3 x4 x5 j).fk (ix3 1 (y 1) (y 2))) := by
  unfold out0_A_10
  rw [runA_10 c i B x0 x1 x2 x3 x4 x5 hc0 hc1]
  refine (View.read_writes_full _ _ inb_S1x512x2_S1x512x2_0_0_0 _ _).trans ?_
  unfold View.readCov
  refine (congrArg₂ k0_pay2 (load3' (N := 1) B.a17.view _ 0 ![0, 0, 0] rfl inb_S2x512x1_S1x512x1_0_0_0) (load3' (N := 1) B.a17.view _ 1 ![1, 0, 0] rfl inb_S2x512x1_S1x512x1_1_0_0)).trans ?_
  exact congrArg (fun s : St F => k0_pay2 (fun y => s.fk (ix3 0 (y 1) (y 2))) (fun y => s.fk (ix3 1 (y 1) (y 2)))) (rdA c i B x0 x1 x2 x3 x4 x5 j hj)

theorem rdB : ((contB B xo6 xo9).put (allB c i B x0 x1 x2 x3 x4 x5 xo6 xo9)).rd = finB x0 x1 x2 x3 x4 x5 xo6 xo9 j := by
  refine (rd_loops c i B _ _ _ _ j hj _ _ _ _).trans ?_
  rw [rd_contB, show blkOf B (ins B x0 x1 x2 x3 x4 x5) = blkX x0 x1 x2 x3 x4 x5 from funext fun q => blkOf_ins B x0 x1 x2 x3 x4 x5 q]
  rfl

theorem outB_9 (hc0 : ¬cond0_0 i) (hc1 : ¬cond0_1 i) : out0_B_9 c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 hc0 hc1 x0 x1 x2 x3 x4 x5 xo6 xo9 = (finB x0 x1 x2 x3 x4 x5 xo6 xo9 j).fq := by
  unfold out0_B_9
  rw [runB_9 c i B x0 x1 x2 x3 x4 x5 xo6 xo9 hc0 hc1]
  exact congrArg St.fq (rdB c i B x0 x1 x2 x3 x4 x5 xo6 xo9 j hj)

theorem outB_6 (hc0 : ¬cond0_0 i) (hc1 : ¬cond0_1 i) : out0_B_6 c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 hc0 hc1 x0 x1 x2 x3 x4 x5 xo6 xo9 = (finB x0 x1 x2 x3 x4 x5 xo6 xo9 j).q := by
  unfold out0_B_6
  rw [runB_6 c i B x0 x1 x2 x3 x4 x5 xo6 xo9 hc0 hc1]
  exact congrArg St.q (rdB c i B x0 x1 x2 x3 x4 x5 xo6 xo9 j hj)

theorem outB_7 (hc0 : ¬cond0_0 i) (hc1 : ¬cond0_1 i) : out0_B_7 c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 hc0 hc1 x0 x1 x2 x3 x4 x5 xo6 xo9 = k0_pay108 (finB x0 x1 x2 x3 x4 x5 xo6 xo9 j).k := by
  unfold out0_B_7
  rw [runB_7 c i B x0 x1 x2 x3 x4 x5 xo6 xo9 hc0 hc1, View.read_writes_full]
  unfold View.readCov
  rw [View.readAt_full]
  exact congrArg (fun s => k0_pay108 (St.k s)) (rdB c i B x0 x1 x2 x3 x4 x5 xo6 xo9 j hj)

theorem outB_8 (hc0 : ¬cond0_0 i) (hc1 : ¬cond0_1 i) : out0_B_8 c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 hc0 hc1 x0 x1 x2 x3 x4 x5 xo6 xo9 = k0_pay1 (finB x0 x1 x2 x3 x4 x5 xo6 xo9 j).v := by
  unfold out0_B_8
  rw [runB_8 c i B x0 x1 x2 x3 x4 x5 xo6 xo9 hc0 hc1, View.read_writes_full]
  unfold View.readCov
  rw [View.readAt_full]
  exact congrArg (fun s => k0_pay1 (St.v s)) (rdB c i B x0 x1 x2 x3 x4 x5 xo6 xo9 j hj)

theorem outB_10 (hc0 : ¬cond0_0 i) (hc1 : ¬cond0_1 i) : out0_B_10 c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 hc0 hc1 x0 x1 x2 x3 x4 x5 xo6 xo9 = k0_pay2 (fun y => (finB x0 x1 x2 x3 x4 x5 xo6 xo9 j).fk (ix3 0 (y 1) (y 2))) (fun y => (finB x0 x1 x2 x3 x4 x5 xo6 xo9 j).fk (ix3 1 (y 1) (y 2))) := by
  unfold out0_B_10
  rw [runB_10 c i B x0 x1 x2 x3 x4 x5 xo6 xo9 hc0 hc1]
  refine (View.read_writes_full _ _ inb_S1x512x2_S1x512x2_0_0_0 _ _).trans ?_
  unfold View.readCov
  refine (congrArg₂ k0_pay2 (load3' (N := 1) B.a17.view _ 0 ![0, 0, 0] rfl inb_S2x512x1_S1x512x1_0_0_0) (load3' (N := 1) B.a17.view _ 1 ![1, 0, 0] rfl inb_S2x512x1_S1x512x1_1_0_0)).trans ?_
  exact congrArg (fun s : St F => k0_pay2 (fun y => s.fk (ix3 0 (y 1) (y 2))) (fun y => s.fk (ix3 1 (y 1) (y 2)))) (rdB c i B x0 x1 x2 x3 x4 x5 xo6 xo9 j hj)

theorem rdC : ((contB B xo6 xo9).put (allC c i B x0 x1 x2 x3 x4 x5 xo6 xo9)).rd = finB x0 x1 x2 x3 x4 x5 xo6 xo9 j := by
  refine (rd_loops c i B _ _ _ _ j hj _ _ _ _).trans ?_
  rw [rd_contB, show blkOf B (ins B x0 x1 x2 x3 x4 x5) = blkX x0 x1 x2 x3 x4 x5 from funext fun q => blkOf_ins B x0 x1 x2 x3 x4 x5 q]
  rfl

theorem outC_9 (hc0 : ¬cond0_0 i) (hc1 : cond0_1 i) : out0_C_9 c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 hc0 hc1 x0 x1 x2 x3 x4 x5 xo6 xo9 = (finB x0 x1 x2 x3 x4 x5 xo6 xo9 j).fq := by
  unfold out0_C_9
  rw [runC_9 c i B x0 x1 x2 x3 x4 x5 xo6 xo9 hc0 hc1]
  exact congrArg St.fq (rdC c i B x0 x1 x2 x3 x4 x5 xo6 xo9 j hj)

theorem outC_6 (hc0 : ¬cond0_0 i) (hc1 : cond0_1 i) : out0_C_6 c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 hc0 hc1 x0 x1 x2 x3 x4 x5 xo6 xo9 = k0_pay3 (finB x0 x1 x2 x3 x4 x5 xo6 xo9 j).q := by
  unfold out0_C_6
  rw [runC_6 c i B x0 x1 x2 x3 x4 x5 xo6 xo9 hc0 hc1, View.read_writes_full, View.readAt_full]
  exact congrArg (fun s => k0_pay3 (St.q s)) (rdC c i B x0 x1 x2 x3 x4 x5 xo6 xo9 j hj)

theorem outC_7 (hc0 : ¬cond0_0 i) (hc1 : cond0_1 i) : out0_C_7 c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 hc0 hc1 x0 x1 x2 x3 x4 x5 xo6 xo9 = k0_pay108 (finB x0 x1 x2 x3 x4 x5 xo6 xo9 j).k := by
  unfold out0_C_7
  rw [runC_7 c i B x0 x1 x2 x3 x4 x5 xo6 xo9 hc0 hc1, View.read_writes_full]
  unfold View.readCov
  rw [View.readAt_full]
  exact congrArg (fun s => k0_pay108 (St.k s)) (rdC c i B x0 x1 x2 x3 x4 x5 xo6 xo9 j hj)

theorem outC_8 (hc0 : ¬cond0_0 i) (hc1 : cond0_1 i) : out0_C_8 c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 hc0 hc1 x0 x1 x2 x3 x4 x5 xo6 xo9 = k0_pay1 (finB x0 x1 x2 x3 x4 x5 xo6 xo9 j).v := by
  unfold out0_C_8
  rw [runC_8 c i B x0 x1 x2 x3 x4 x5 xo6 xo9 hc0 hc1, View.read_writes_full]
  unfold View.readCov
  rw [View.readAt_full]
  exact congrArg (fun s => k0_pay1 (St.v s)) (rdC c i B x0 x1 x2 x3 x4 x5 xo6 xo9 j hj)

theorem outC_10 (hc0 : ¬cond0_0 i) (hc1 : cond0_1 i) : out0_C_10 c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 hc0 hc1 x0 x1 x2 x3 x4 x5 xo6 xo9 = k0_pay2 (fun y => (finB x0 x1 x2 x3 x4 x5 xo6 xo9 j).fk (ix3 0 (y 1) (y 2))) (fun y => (finB x0 x1 x2 x3 x4 x5 xo6 xo9 j).fk (ix3 1 (y 1) (y 2))) := by
  unfold out0_C_10
  rw [runC_10 c i B x0 x1 x2 x3 x4 x5 xo6 xo9 hc0 hc1]
  refine (View.read_writes_full _ _ inb_S1x512x2_S1x512x2_0_0_0 _ _).trans ?_
  unfold View.readCov
  refine (congrArg₂ k0_pay2 (load3' (N := 1) B.a17.view _ 0 ![0, 0, 0] rfl inb_S2x512x1_S1x512x1_0_0_0) (load3' (N := 1) B.a17.view _ 1 ![1, 0, 0] rfl inb_S2x512x1_S1x512x1_1_0_0)).trans ?_
  exact congrArg (fun s : St F => k0_pay2 (fun y => s.fk (ix3 0 (y 1) (y 2))) (fun y => s.fk (ix3 1 (y 1) (y 2)))) (rdC c i B x0 x1 x2 x3 x4 x5 xo6 xo9 j hj)

end Cert.AttnProof.Out
end
-- ==== Proof.AttnSweep.lean ====
/- The sweep of a block of keys over the blocks of queries at and after it, as sums over all the queries. -/
module

public import proofs.«01_k».proof.Proof.AttnOut

@[expose] public section

set_option maxRecDepth 16384

noncomputable section

namespace Cert.AttnProof.Sweep

open Cert.AttnProof.Step Cert.AttnProof.Trip Cert.AttnProof.Fold Cert.AttnProof.Out Cert.AttnIdeal Cert.AttnIdeal.Gen Idealize.ShloMosaic Idealize.ShloMosaic.TcCoe

/-- The head of a pair that a lane belongs to. -/
def hd (l : Fin 128) : Fin 2 := if l.val < 64 then 0 else 1

theorem own_iff (h : Fin 2) (l : Fin 128) : (h = 0 ↔ l.val < 64) ↔ h = hd l := by
  unfold hd; split <;> omega

theorem sum_own (l : Fin 128) (f : Fin 2 → EReal) : (∑ h, if (h = 0 ↔ l.val < 64) then f h else 0) = f (hd l) := by
  simp only [own_iff, Finset.sum_ite_eq', Finset.mem_univ, if_true]

theorem sum_own_rows (l : Fin 128) (f : Fin 2 → Fin 512 → EReal) :
    (∑ h, ∑ r : Fin 512, if (h = 0 ↔ l.val < 64) then f h r else 0) = ∑ r, f (hd l) r := by
  rw [← sum_own l fun h => ∑ r, f h r]
  refine Finset.sum_congr rfl fun h _ => ?_
  split <;> simp

/-- The sum of a column over the first `n` blocks of its rows. -/
def tot (A : Fin 8192 → EReal) (n : ℕ) : EReal := ∑ x ∈ Finset.range n, if h : x < 16 then ∑ r : Fin 512, A (row ⟨x, h⟩ r) else 0

theorem tot_succ (A : Fin 8192 → EReal) (q : Fin 16) : tot A (q.val + 1) = tot A q.val + ∑ r : Fin 512, A (row q r) := by
  unfold tot; rw [Finset.sum_range_succ, dif_pos q.isLt]

theorem tot_zero (A : Fin 8192 → EReal) (n : ℕ) (h : ∀ q : Fin 16, q.val < n → ∀ r, A (row q r) = 0) : tot A n = 0 := by
  unfold tot
  refine Finset.sum_eq_zero fun x hx => ?_
  split
  · exact Finset.sum_eq_zero fun r _ => h ⟨x, _⟩ (Finset.mem_range.mp hx) r
  · rfl

theorem tot_all (A : Fin 8192 → EReal) : tot A 16 = ∑ R, A R := by
  unfold tot
  rw [← Fin.sum_univ_eq_sum_range (fun x => if h : x < 16 then ∑ r : Fin 512, A (row ⟨x, h⟩ r) else 0) 16]
  refine (Finset.sum_congr rfl fun q _ => dif_pos q.isLt).trans ?_
  rw [← Fintype.sum_prod_type' (fun (q : Fin 16) (r : Fin 512) => A (row q r))]
  refine Fintype.sum_equiv (finProdFinEquiv (m := 16) (n := 512)) _ _ fun y => congrArg A (Fin.ext ?_)
  show 512 * y.1.val + y.2.val = y.2.val + 512 * y.1.val
  omega

/-- Whole arrays: the probabilities and the scores' derivatives by head, key and query, the cotangent, the queries, and
    the keys with the other head's lanes cleared. -/
structure Whole where
  P : Fin 2 → Fin 8192 → Fin 8192 → EReal
  G : Fin 2 → Fin 8192 → Fin 8192 → EReal
  D : Fin 8192 → Fin 128 → EReal
  Q : Fin 2 → Fin 8192 → Fin 128 → EReal
  C : Fin 2 → Fin 8192 → Fin 128 → EReal

/-- The blocks of the block of keys `j` are those of the whole arrays. -/
structure Fits (A : Whole) (b : Fin 16 → Blk Ideal) (j : Fin 16) : Prop where
  zP : ∀ h S R, R < S → A.P h S R = 0
  zG : ∀ h S R, R < S → A.G h S R = 0
  P : ∀ q h s r, j.val ≤ q.val → p (decide (q = j)) (b q) h s r = A.P h (row j s) (row q r)
  G : ∀ q h s r, j.val ≤ q.val → ds (decide (q = j)) (b q) h s r = A.G h (row j s) (row q r)
  D : ∀ q r l, (b q).D (ix2 r l) = A.D (row q r) l
  Q : ∀ q h r l, (b q).Q h (ix3 0 r l) = A.Q h (row q r) l
  C : ∀ q h s l, (b q).C h (ix3 0 s l) = A.C h (row j s) l

theorem row_lt_row {q j : Fin 16} (h : q.val < j.val) (r s : Fin 512) : row q r < row j s := by
  show 512 * q.val + r.val < 512 * j.val + s.val
  omega

theorem lanes_apply (r : Fin 512) (l : Fin 128) : k0_pay90 (ix2 r l) = BitVec.ofBool (decide (l.val < 64)) := by
  have e : k0_pay90 (ix2 r l) = IntOp.cmpi CmpIPredicate.slt (BitVec.ofNat 32 l.val) 64#32 := by pointwise [k0_pay90]
  rw [e]; clear e; revert l; decide

theorem step_q_own (m : Bool) (q : Fin 16) (b : Blk Ideal) (s : St Ideal) (r : Fin 512) (l : Fin 128) :
    (s.step m k0_pay90 q b).q (ix2 (row q r) l) = s.q (ix2 (row q r) l) + ∑ h, ∑ x : Fin 512, ds m b h x r * b.C h (ix3 0 x l) := by
  have hr := r.isLt
  refine (dif_pos (by show 512 * q.val ≤ 512 * q.val + r.val ∧ 512 * q.val + r.val < 512 * q.val + 512; omega)).trans ?_
  have e : (⟨512 * q.val + r.val - 512 * q.val, by omega⟩ : Fin 512) = r := Fin.ext (Nat.add_sub_cancel_left _ _)
  exact (congrArg (fun r => newQ m b (fun z => s.q (ix2 (row q (z 0)) (z 1))) (ix2 r l)) e).trans (newQ_apply _ _ _ r l)

theorem step_q_other (m : Bool) (q x : Fin 16) (hx : x.val ≠ q.val) (b : Blk Ideal) (s : St Ideal) (r : Fin 512) (l : Fin 128) :
    (s.step m k0_pay90 q b).q (ix2 (row x r) l) = s.q (ix2 (row x r) l) := by
  have hr := r.isLt
  exact dif_neg (by show ¬(512 * q.val ≤ 512 * x.val + r.val ∧ 512 * x.val + r.val < 512 * q.val + 512); omega)

theorem step_fq_own (m : Bool) (q : Fin 16) (b : Blk Ideal) (s : St Ideal) (h : Fin 2) (r : Fin 512) :
    (s.step m k0_pay90 q b).fq (ix4 0 q h r) = s.fq (ix4 0 q h r) + ∑ x : Fin 512, ds m b h x r :=
  (if_pos rfl).trans (newFq_apply _ _ _ h r)

theorem step_fq_other (m : Bool) (q x : Fin 16) (hx : x.val ≠ q.val) (b : Blk Ideal) (s : St Ideal) (h : Fin 2) (r : Fin 512) :
    (s.step m k0_pay90 q b).fq (ix4 0 x h r) = s.fq (ix4 0 x h r) :=
  if_neg hx

theorem step_fk (m : Bool) (q : Fin 16) (b : Blk Ideal) (s : St Ideal) (h : Fin 2) (a : Fin 512) :
    (s.step m k0_pay90 q b).fk (ix3 h a 0) = s.fk (ix3 h a 0) + ∑ r : Fin 512, ds m b h a r := by
  obtain rfl | rfl : h = 0 ∨ h = 1 := by omega
  · have e : (s.step m k0_pay90 q b).fk (ix3 0 a 0) = newFk0 m b (fun z => s.fk (ix3 0 (z 1) (z 2))) (ix3 0 a 0) :=
      if_pos (e := newFk1 m b (fun z => s.fk (ix3 1 (z 1) (z 2))) (ix3 0 a 0)) (show (0 : Fin 2).val = 0 from rfl)
    exact e.trans (newFk0_apply m b (fun z => s.fk (ix3 0 (z 1) (z 2))) a)
  · have e : (s.step m k0_pay90 q b).fk (ix3 1 a 0) = newFk1 m b (fun z => s.fk (ix3 1 (z 1) (z 2))) (ix3 0 a 0) :=
      if_neg (t := newFk0 m b (fun z => s.fk (ix3 0 (z 1) (z 2))) (ix3 0 a 0)) (show ¬((1 : Fin 2).val = 0) from Nat.one_ne_zero)
    exact e.trans (newFk1_apply m b (fun z => s.fk (ix3 1 (z 1) (z 2))) a)

theorem step_v (m : Bool) (q : Fin 16) (b : Blk Ideal) (s : St Ideal) (a : Fin 512) (l : Fin 128) :
    (s.step m k0_pay90 q b).v (ix2 a l) = s.v (ix2 a l) + ∑ r : Fin 512, p m b (hd l) a r * b.D (ix2 r l) :=
  (newV_apply m k0_pay90 lanes_apply b s.v a l).trans (congrArg (_ + ·) (sum_own_rows l fun h r => p m b h a r * b.D (ix2 r l)))

theorem step_k (m : Bool) (q : Fin 16) (b : Blk Ideal) (s : St Ideal) (a : Fin 512) (l : Fin 128) :
    (s.step m k0_pay90 q b).k (ix2 a l) = s.k (ix2 a l) + ∑ r : Fin 512, ds m b (hd l) a r * b.Q (hd l) (ix3 0 r l) :=
  (newK_apply m k0_pay90 lanes_apply b s.k a l).trans (congrArg (_ + ·) (sum_own_rows l fun h r => ds m b h a r * b.Q h (ix3 0 r l)))

variable (A : Whole) (b : Fin 16 → Blk Ideal) (j : Fin 16) (hA : Fits A b j) (s0 : St Ideal)

theorem first_iff (n : ℕ) (hn : j.val + n < 16) : decide (n = 0) = decide ((⟨j.val + n, hn⟩ : Fin 16) = j) := by
  congr 1; apply propext; rw [Fin.ext_iff]; dsimp only; omega

include hA

theorem sweep_v (n : ℕ) (hn : j.val + n ≤ 16) (s : Fin 512) (l : Fin 128) :
    (sweep k0_pay90 b j s0 n).v (ix2 s l) = s0.v (ix2 s l) + tot (fun R => A.P (hd l) (row j s) R * A.D R l) (j.val + n) := by
  induction n with
  | zero =>
    rw [tot_zero _ _ fun q hq r => by rw [hA.zP _ _ _ (row_lt_row (by omega) r s), zero_mul]]
    exact (add_zero _).symm
  | succ n ih =>
    have h : j.val + n < 16 := by omega
    unfold sweep; rw [dif_pos h, ← Nat.add_assoc, tot_succ _ ⟨j.val + n, h⟩, ← add_assoc, ← ih (by omega)]
    refine (step_v _ _ _ _ s l).trans (congrArg (_ + ·) (Finset.sum_congr rfl fun r _ => ?_))
    rw [first_iff j n h, hA.P _ _ _ _ (by dsimp only; omega), hA.D]

theorem sweep_k (n : ℕ) (hn : j.val + n ≤ 16) (s : Fin 512) (l : Fin 128) :
    (sweep k0_pay90 b j s0 n).k (ix2 s l) = s0.k (ix2 s l) + tot (fun R => A.G (hd l) (row j s) R * A.Q (hd l) R l) (j.val + n) := by
  induction n with
  | zero =>
    rw [tot_zero _ _ fun q hq r => by rw [hA.zG _ _ _ (row_lt_row (by omega) r s), zero_mul]]
    exact (add_zero _).symm
  | succ n ih =>
    have h : j.val + n < 16 := by omega
    unfold sweep; rw [dif_pos h, ← Nat.add_assoc, tot_succ _ ⟨j.val + n, h⟩, ← add_assoc, ← ih (by omega)]
    refine (step_k _ _ _ _ s l).trans (congrArg (_ + ·) (Finset.sum_congr rfl fun r _ => ?_))
    rw [first_iff j n h, hA.G _ _ _ _ (by dsimp only; omega), hA.Q]

theorem sweep_fk (n : ℕ) (hn : j.val + n ≤ 16) (h : Fin 2) (s : Fin 512) :
    (sweep k0_pay90 b j s0 n).fk (ix3 h s 0) = s0.fk (ix3 h s 0) + tot (fun R => A.G h (row j s) R) (j.val + n) := by
  induction n with
  | zero =>
    rw [tot_zero _ _ fun q hq r => hA.zG _ _ _ (row_lt_row (by omega) r s)]
    exact (add_zero _).symm
  | succ n ih =>
    have hq : j.val + n < 16 := by omega
    unfold sweep; rw [dif_pos hq, ← Nat.add_assoc, tot_succ _ ⟨j.val + n, hq⟩, ← add_assoc, ← ih (by omega)]
    refine (step_fk _ _ _ _ h s).trans (congrArg (_ + ·) (Finset.sum_congr rfl fun r _ => ?_))
    rw [first_iff j n hq]
    exact hA.G _ _ _ _ (by dsimp only; omega)

theorem sweep_q (n : ℕ) (hn : j.val + n ≤ 16) (q : Fin 16) (r : Fin 512) (l : Fin 128) :
    (sweep k0_pay90 b j s0 n).q (ix2 (row q r) l) = s0.q (ix2 (row q r) l) +
      if q.val < j.val + n then ∑ h, ∑ s : Fin 512, A.G h (row j s) (row q r) * A.C h (row j s) l else 0 := by
  induction n with
  | zero =>
    refine (add_zero _).symm.trans (congrArg (_ + ·) ?_)
    split
    · refine (Finset.sum_eq_zero fun h _ => Finset.sum_eq_zero fun s _ => ?_).symm
      rw [hA.zG _ _ _ (row_lt_row (by omega) r s), zero_mul]
    · rfl
  | succ n ih =>
    have h : j.val + n < 16 := by omega
    have hr := r.isLt
    unfold sweep; rw [dif_pos h]
    by_cases hq : q.val = j.val + n
    · obtain rfl : q = ⟨j.val + n, h⟩ := Fin.ext hq
      rw [if_neg (by dsimp only; omega), add_zero] at ih
      rw [if_pos (by dsimp only; omega), ← ih (by omega), first_iff j n h]
      refine (step_q_own _ _ _ _ r l).trans (congrArg (_ + ·) (Finset.sum_congr rfl fun g _ => Finset.sum_congr rfl fun s _ => ?_))
      rw [hA.G _ _ _ _ (by dsimp only; omega), hA.C]
    · refine (step_q_other _ _ q hq _ _ r l).trans ((ih (by omega)).trans ?_)
      refine congrArg (_ + ·) ?_
      by_cases h' : q.val < j.val + n
      · rw [if_pos h', if_pos (by omega)]
      · rw [if_neg h', if_neg (by omega)]

theorem sweep_fq (n : ℕ) (hn : j.val + n ≤ 16) (q : Fin 16) (h : Fin 2) (r : Fin 512) :
    (sweep k0_pay90 b j s0 n).fq (ix4 0 q h r) = s0.fq (ix4 0 q h r) +
      if q.val < j.val + n then ∑ s : Fin 512, A.G h (row j s) (row q r) else 0 := by
  induction n with
  | zero =>
    refine (add_zero _).symm.trans (congrArg (_ + ·) ?_)
    split
    · refine (Finset.sum_eq_zero fun s _ => ?_).symm
      rw [hA.zG _ _ _ (row_lt_row (by omega) r s)]
    · rfl
  | succ n ih =>
    have hj : j.val + n < 16 := by omega
    unfold sweep; rw [dif_pos hj]
    by_cases hq : q.val = j.val + n
    · obtain rfl : q = ⟨j.val + n, hj⟩ := Fin.ext hq
      rw [if_neg (by dsimp only; omega), add_zero] at ih
      rw [if_pos (by dsimp only; omega), ← ih (by omega), first_iff j n hj]
      refine (step_fq_own _ _ _ _ h r).trans (congrArg (_ + ·) (Finset.sum_congr rfl fun s _ => ?_))
      exact hA.G _ _ _ _ (by dsimp only; omega)
    · refine (step_fq_other _ _ q hq _ _ h r).trans ((ih (by omega)).trans ?_)
      refine congrArg (_ + ·) ?_
      by_cases h' : q.val < j.val + n
      · rw [if_pos h', if_pos (by omega)]
      · rw [if_neg h', if_neg (by omega)]

end Cert.AttnProof.Sweep
-- ==== Proof.AttnArray.lean ====
/- The five result arrays of the attention backward kernel, as sums over the arrays it is launched on. -/
module

public import proofs.«01_k».proof.Proof.AttnSweep
public import Idealize.ShloMosaic.Lib.Pipeline.ValueKit

@[expose] public section

set_option maxRecDepth 16384

noncomputable section

namespace Cert.AttnProof.Array

open Cert.AttnProof.Step Cert.AttnProof.Trip Cert.AttnProof.Fold Cert.AttnProof.Out Cert.AttnProof.Sweep Cert.AttnIdeal Cert.AttnIdeal.Gen Idealize.ShloMosaic Idealize.ShloMosaic.TcCoe

variable (m : (ℓ : Loc nD τ sig) → Buf (Elt Ideal) ℓ) (c : Dev nD)

/-- The arrays the kernel is launched on: queries, cotangent, keys, values, row log-sums, row sums. -/
abbrev aQ : Vec Ideal S8x8192x128 .bf16 := V m c main_v84
abbrev aD : Vec Ideal S8192x512 .bf16 := V m c main_v113
abbrev aK : Vec Ideal S8x8192x128 .bf16 := V m c main_v88
abbrev aV : Vec Ideal S8192x512 .bf16 := V m c main_v4
abbrev aL : Vec Ideal S4x16x2x512 .f32 := V m c main_v115
abbrev aE : Vec Ideal S4x16x2x512 .f32 := V m c main_v117

/-- The pair of heads and the block of keys of a grid point. -/
def pr (t : Fin cfg0.N) : Fin 4 := ⟨t.val / 16, by have : t.val < 64 := lt_of_lt_of_eq t.isLt N_0; omega⟩
def kb (t : Fin cfg0.N) : Fin 16 := ⟨t.val % 16, by omega⟩

/-- Head `h` of the pair `p`; lane `l` of the pair's 128 columns. -/
def hh (p : Fin 4) (h : Fin 2) : Fin 8 := ⟨2 * p.val + h.val, by omega⟩
def cl (p : Fin 4) (l : Fin 128) : Fin 512 := ⟨128 * p.val + l.val, by omega⟩

theorem idx0 : ∀ t : Fin cfg0.N, win0_0.index t = ![t.val / 16, 0, 0] := by decide +kernel
theorem idx1 : ∀ t : Fin cfg0.N, win0_1.index t = ![0, t.val / 16] := by decide +kernel
theorem idx2 : ∀ t : Fin cfg0.N, win0_2.index t = ![t.val / 16, t.val % 16, 0] := by decide +kernel
theorem idx3 : ∀ t : Fin cfg0.N, win0_3.index t = ![t.val % 16, t.val / 16] := by decide +kernel
theorem idx4 : ∀ t : Fin cfg0.N, win0_4.index t = ![t.val / 16, 0, 0, 0] := by decide +kernel
theorem idx5 : ∀ t : Fin cfg0.N, win0_5.index t = ![t.val / 16, 0, 0, 0] := by decide +kernel
theorem idx6 : ∀ t : Fin cfg0.N, win0_6.index t = ![0, t.val / 16] := by decide +kernel
theorem idx7 : ∀ t : Fin cfg0.N, win0_7.index t = ![t.val % 16, t.val / 16] := by decide +kernel
theorem idx8 : ∀ t : Fin cfg0.N, win0_8.index t = ![t.val % 16, t.val / 16] := by decide +kernel
theorem idx9 : ∀ t : Fin cfg0.N, win0_9.index t = ![t.val / 16, 0, 0, 0] := by decide +kernel
theorem idx10 : ∀ t : Fin cfg0.N, win0_10.index t = ![t.val / 16, t.val % 16, 0] := by decide +kernel

/-! A window's block at a point, of any array. -/

theorem read0 (A : Vec Ideal S8x8192x128 .bf16) (t : Fin cfg0.N) (h : Fin 2) (r : Fin 8192) (l : Fin 128) :
    (((cfg0.win 0).blk t).view.read (Elt Ideal) A : _) (ix3 h r l) = A (ix3 (hh (pr t) h) r l) := by
  blk_ext [idx0 t, hh, cl, pr, kb]
theorem read1 (A : Vec Ideal S8192x512 .bf16) (t : Fin cfg0.N) (r : Fin 8192) (l : Fin 128) :
    (((cfg0.win 1).blk t).view.read (Elt Ideal) A : _) (ix2 r l) = A (ix2 r (cl (pr t) l)) := by
  blk_ext [idx1 t, hh, cl, pr, kb]
theorem read2 (A : Vec Ideal S8x8192x128 .bf16) (t : Fin cfg0.N) (h : Fin 2) (s : Fin 512) (l : Fin 128) :
    (((cfg0.win 2).blk t).view.read (Elt Ideal) A : _) (ix3 h s l) = A (ix3 (hh (pr t) h) (row (kb t) s) l) := by
  blk_ext [idx2 t, hh, cl, pr, kb]
theorem read3 (A : Vec Ideal S8192x512 .bf16) (t : Fin cfg0.N) (s : Fin 512) (l : Fin 128) :
    (((cfg0.win 3).blk t).view.read (Elt Ideal) A : _) (ix2 s l) = A (ix2 (row (kb t) s) (cl (pr t) l)) := by
  blk_ext [idx3 t, hh, cl, pr, kb]
theorem read4 (A : Vec Ideal S4x16x2x512 .f32) (t : Fin cfg0.N) (q : Fin 16) (h : Fin 2) (r : Fin 512) :
    (((cfg0.win 4).blk t).view.read (Elt Ideal) A : _) (ix4 0 q h r) = A (ix4 (pr t) q h r) := by
  blk_ext [idx4 t, hh, cl, pr, kb]
theorem read5 (A : Vec Ideal S4x16x2x512 .f32) (t : Fin cfg0.N) (q : Fin 16) (h : Fin 2) (r : Fin 512) :
    (((cfg0.win 5).blk t).view.read (Elt Ideal) A : _) (ix4 0 q h r) = A (ix4 (pr t) q h r) := by
  blk_ext [idx5 t, hh, cl, pr, kb]

theorem block0 (t : Fin cfg0.N) (h : Fin 2) (r : Fin 8192) (l : Fin 128) : iblk m c 0 t (ix3 h r l) = aQ m c (ix3 (hh (pr t) h) r l) := read0 _ t h r l
theorem block1 (t : Fin cfg0.N) (r : Fin 8192) (l : Fin 128) : iblk m c 1 t (ix2 r l) = aD m c (ix2 r (cl (pr t) l)) := read1 _ t r l
theorem block2 (t : Fin cfg0.N) (h : Fin 2) (s : Fin 512) (l : Fin 128) : iblk m c 2 t (ix3 h s l) = aK m c (ix3 (hh (pr t) h) (row (kb t) s) l) := read2 _ t h s l
theorem block3 (t : Fin cfg0.N) (s : Fin 512) (l : Fin 128) : iblk m c 3 t (ix2 s l) = aV m c (ix2 (row (kb t) s) (cl (pr t) l)) := read3 _ t s l
theorem block4 (t : Fin cfg0.N) (q : Fin 16) (h : Fin 2) (r : Fin 512) : iblk m c 4 t (ix4 0 q h r) = aL m c (ix4 (pr t) q h r) := read4 _ t q h r
theorem block5 (t : Fin cfg0.N) (q : Fin 16) (h : Fin 2) (r : Fin 512) : iblk m c 5 t (ix4 0 q h r) = aE m c (ix4 (pr t) q h r) := read5 _ t q h r

/-- The block of rows of a query, and its place in it. -/
def qb (R : Fin 8192) : Fin 16 := ⟨R.val / 512, by omega⟩
def qr (R : Fin 8192) : Fin 512 := ⟨R.val % 512, by omega⟩

theorem qb_row (q : Fin 16) (r : Fin 512) : qb (row q r) = q := Fin.ext (by show (512 * q.val + r.val) / 512 = q.val; omega)
theorem qr_row (q : Fin 16) (r : Fin 512) : qr (row q r) = r := Fin.ext (by show (512 * q.val + r.val) % 512 = r.val; omega)
theorem row_qb_qr (R : Fin 8192) : row (qb R) (qr R) = R := Fin.ext (by show 512 * (R.val / 512) + R.val % 512 = R.val; omega)

/-- The probability of key `S` for query `R` of head `h` of the pair `p`. -/
def prob (p : Fin 4) (h : Fin 2) (S R : Fin 8192) : EReal :=
  Ideal.exp (if R < S then ⊥ else ∑ l : Fin 128, aK m c (ix3 (hh p h) S l) * aQ m c (ix3 (hh p h) R l) - aL m c (ix4 p (qb R) h (qr R)))

/-- The derivative of that score. -/
def dscore (p : Fin 4) (h : Fin 2) (S R : Fin 8192) : EReal :=
  prob m c p h S R * (∑ l : Fin 128, (if (h = 0 ↔ l.val < 64) then (aV m c (ix2 S (cl p l)) : EReal) else 0) * aD m c (ix2 R (cl p l)) - aE m c (ix4 p (qb R) h (qr R)))

def whole (p : Fin 4) : Whole where
  P := prob m c p
  G := dscore m c p
  D := fun R l => aD m c (ix2 R (cl p l))
  Q := fun h R l => aQ m c (ix3 (hh p h) R l)
  C := fun h S l => if (h = 0 ↔ l.val < 64) then (aK m c (ix3 (hh p h) S l) : EReal) else 0

/-- The blocks of grid point `t`. -/
abbrev blks (t : Fin cfg0.N) : Fin 16 → Blk Ideal := blkX (iblk m c 0 t) (iblk m c 1 t) (iblk m c 2 t) (iblk m c 3 t) (iblk m c 4 t) (iblk m c 5 t)

theorem prob_zero (p : Fin 4) (h : Fin 2) (S R : Fin 8192) (hRS : R < S) : prob m c p h S R = 0 := by
  unfold prob; rw [if_pos hRS]; rfl

theorem blks_D (t : Fin cfg0.N) (q : Fin 16) (r : Fin 512) (l : Fin 128) : (blks m c t q).D (ix2 r l) = aD m c (ix2 (row q r) (cl (pr t) l)) :=
  block1 m c t (row q r) l
theorem blks_Q (t : Fin cfg0.N) (q : Fin 16) (h : Fin 2) (r : Fin 512) (l : Fin 128) : (blks m c t q).Q h (ix3 0 r l) = aQ m c (ix3 (hh (pr t) h) (row q r) l) :=
  block0 m c t h (row q r) l
theorem blks_K (t : Fin cfg0.N) (q : Fin 16) (h : Fin 2) (s : Fin 512) (l : Fin 128) : (blks m c t q).K h (ix3 0 s l) = aK m c (ix3 (hh (pr t) h) (row (kb t) s) l) :=
  block2 m c t h s l
theorem blks_L (t : Fin cfg0.N) (q : Fin 16) (h : Fin 2) (r : Fin 512) : (blks m c t q).L (ix4 0 0 h r) = aL m c (ix4 (pr t) q h r) :=
  block4 m c t q h r
theorem blks_E (t : Fin cfg0.N) (q : Fin 16) (h : Fin 2) (r : Fin 512) : (blks m c t q).E (ix4 0 0 h r) = aE m c (ix4 (pr t) q h r) :=
  block5 m c t q h r

theorem lane_pick0 (s : Fin 512) (l : Fin 128) (x : EReal) : Scalar.select (k0_pay90 (ix2 s l)) x 0 = if (True ↔ l.val < 64) then x else 0 := by
  rw [lanes_apply]
  by_cases h : l.val < 64
  · rw [decide_eq_true h, if_pos (by simp [h])]; rfl
  · rw [decide_eq_false h, if_neg (by simp [h])]; rfl

theorem lane_pick1 (s : Fin 512) (l : Fin 128) (x : EReal) : Scalar.select (k0_pay90 (ix2 s l)) 0 x = if (False ↔ l.val < 64) then x else 0 := by
  rw [lanes_apply]
  by_cases h : l.val < 64
  · rw [decide_eq_true h, if_neg (by simp [h])]; rfl
  · rw [decide_eq_false h, if_pos (by simp [h])]; rfl

theorem pay97_apply (x : Vec Ideal S512x128 .bf16) (s : Fin 512) (l : Fin 128) :
    k0_pay97 x (ix3 0 s l) = if ((0 : Fin 2) = 0 ↔ l.val < 64) then (x (ix2 s l) : EReal) else 0 := by
  pointwise [k0_pay97, k0_pay93, k0_pay94]
  exact lane_pick0 s l _
theorem pay98_apply (x : Vec Ideal S512x128 .bf16) (s : Fin 512) (l : Fin 128) :
    k0_pay98 x (ix3 0 s l) = if ((1 : Fin 2) = 0 ↔ l.val < 64) then (x (ix2 s l) : EReal) else 0 := by
  pointwise [k0_pay98, k0_pay93, k0_pay94]
  exact lane_pick1 s l _
theorem pay95_apply (x : Vec Ideal S1x512x128 .bf16) (s : Fin 512) (l : Fin 128) :
    k0_pay95 x (ix3 0 s l) = if ((0 : Fin 2) = 0 ↔ l.val < 64) then (x (ix3 0 s l) : EReal) else 0 := by
  pointwise [k0_pay95, k0_pay93, k0_pay94]
  exact lane_pick0 s l _
theorem pay96_apply (x : Vec Ideal S1x512x128 .bf16) (s : Fin 512) (l : Fin 128) :
    k0_pay96 x (ix3 0 s l) = if ((1 : Fin 2) = 0 ↔ l.val < 64) then (x (ix3 0 s l) : EReal) else 0 := by
  pointwise [k0_pay96, k0_pay93, k0_pay94]
  exact lane_pick1 s l _

theorem blks_V (t : Fin cfg0.N) (q : Fin 16) (h : Fin 2) (s : Fin 512) (l : Fin 128) :
    (blks m c t q).V h (ix3 0 s l) = if (h = 0 ↔ l.val < 64) then (aV m c (ix2 (row (kb t) s) (cl (pr t) l)) : EReal) else 0 := by
  rw [← block3 m c t s l]
  obtain rfl | rfl : h = 0 ∨ h = 1 := by omega
  · exact pay97_apply (iblk m c 3 t) s l
  · exact pay98_apply (iblk m c 3 t) s l
theorem blks_C (t : Fin cfg0.N) (q : Fin 16) (h : Fin 2) (s : Fin 512) (l : Fin 128) :
    (blks m c t q).C h (ix3 0 s l) = if (h = 0 ↔ l.val < 64) then (aK m c (ix3 (hh (pr t) h) (row (kb t) s) l) : EReal) else 0 := by
  rw [← block2 m c t h s l]
  obtain rfl | rfl : h = 0 ∨ h = 1 := by omega
  · exact pay95_apply (fun y => iblk m c 2 t (ix3 0 (y 1) (y 2))) s l
  · exact pay96_apply (fun y => iblk m c 2 t (ix3 1 (y 1) (y 2))) s l

theorem p_of (m : Bool) (b : Blk Ideal) (h : Fin 2) (s r : Fin 512) (k q : Fin 128 → EReal) (w : EReal)
    (hk : ∀ l, b.K h (ix3 0 s l) = k l) (hq : ∀ l, b.Q h (ix3 0 r l) = q l) (hw : b.L (ix4 0 0 h r) = w) :
    Step.p m b h s r = Ideal.exp (if m = true ∧ r.val < s.val then ⊥ else ∑ l, k l * q l - w) := by
  unfold Step.p; simp only [hk, hq, hw]

theorem ds_of (m : Bool) (b : Blk Ideal) (h : Fin 2) (s r : Fin 512) (v d : Fin 128 → EReal) (w : EReal)
    (hv : ∀ l, b.V h (ix3 0 s l) = v l) (hd : ∀ l, b.D (ix2 r l) = d l) (hw : b.E (ix4 0 0 h r) = w) :
    Step.ds m b h s r = Step.p m b h s r * (∑ l, v l * d l - w) := by
  unfold Step.ds; simp only [hv, hd, hw]

theorem p_prob (t : Fin cfg0.N) (q : Fin 16) (h : Fin 2) (s r : Fin 512) (hq : (kb t).val ≤ q.val) :
    Step.p (decide (q = kb t)) (blks m c t q) h s r = prob m c (pr t) h (row (kb t) s) (row q r) := by
  have e : (decide (q = kb t) = true ∧ r.val < s.val) ↔ row q r < row (kb t) s := by
    rw [decide_eq_true_eq, Fin.ext_iff]
    show _ ↔ 512 * q.val + r.val < 512 * (kb t).val + s.val
    omega
  rw [p_of _ _ _ _ _ _ _ _ (blks_K m c t q h s) (blks_Q m c t q h r) (blks_L m c t q h r)]
  unfold prob
  simp only [e, qb_row, qr_row]

theorem fits (t : Fin cfg0.N) : Fits (whole m c (pr t)) (blks m c t) (kb t) where
  zP := prob_zero m c (pr t)
  zG h S R hRS := by
    show dscore m c (pr t) h S R = 0
    unfold dscore; rw [prob_zero m c _ h S R hRS, zero_mul]
  P q h s r hq := p_prob m c t q h s r hq
  G q h s r hq := by
    show Step.ds _ _ _ _ _ = dscore m c (pr t) h _ _
    rw [ds_of _ _ _ _ _ _ _ _ (blks_V m c t q h s) (blks_D m c t q r) (blks_E m c t q h r), p_prob m c t q h s r hq]
    unfold dscore
    simp only [qb_row, qr_row]
  D q r l := blks_D m c t q r l
  Q q h r l := blks_Q m c t q h r l
  C q h s l := blks_C m c t q h s l

/-! ## What the sweep of a grid point adds -/

variable (t : Fin cfg0.N) (s0 : St Ideal)

/-- The buffers after the sweep of grid point `t` from `s0`. -/
abbrev fin : St Ideal := sweep k0_pay90 (blks m c t) (kb t) s0 (16 - (kb t).val)

theorem kb_add : (kb t).val + (16 - (kb t).val) = 16 := by have := (kb t).isLt; omega

/-- The gradients, entry by entry: of the values, of the keys, of the keys' gate sums. -/
def gV (p : Fin 4) (S : Fin 8192) (l : Fin 128) : EReal := ∑ R, prob m c p (hd l) S R * aD m c (ix2 R (cl p l))
def gK (p : Fin 4) (S : Fin 8192) (l : Fin 128) : EReal := ∑ R, dscore m c p (hd l) S R * aQ m c (ix3 (hh p (hd l)) R l)
def gFk (p : Fin 4) (h : Fin 2) (S : Fin 8192) : EReal := ∑ R, dscore m c p h S R

/-- What a key adds to the gradient of a query. -/
def tQ (p : Fin 4) (R : Fin 8192) (l : Fin 128) (S : Fin 8192) : EReal := dscore m c p (hd l) S R * aK m c (ix3 (hh p (hd l)) S l)

theorem fin_v (s : Fin 512) (l : Fin 128) : (fin m c t s0).v (ix2 s l) = s0.v (ix2 s l) + gV m c (pr t) (row (kb t) s) l := by
  rw [sweep_v (whole m c (pr t)) _ _ (fits m c t) s0 _ (kb_add t).le s l, kb_add, tot_all]; rfl

theorem fin_k (s : Fin 512) (l : Fin 128) : (fin m c t s0).k (ix2 s l) = s0.k (ix2 s l) + gK m c (pr t) (row (kb t) s) l := by
  rw [sweep_k (whole m c (pr t)) _ _ (fits m c t) s0 _ (kb_add t).le s l, kb_add, tot_all]; rfl

theorem fin_fk (h : Fin 2) (s : Fin 512) : (fin m c t s0).fk (ix3 h s 0) = s0.fk (ix3 h s 0) + gFk m c (pr t) h (row (kb t) s) := by
  rw [sweep_fk (whole m c (pr t)) _ _ (fits m c t) s0 _ (kb_add t).le h s, kb_add, tot_all]; rfl

theorem fin_q (R : Fin 8192) (l : Fin 128) : (fin m c t s0).q (ix2 R l) = s0.q (ix2 R l) + ∑ s : Fin 512, tQ m c (pr t) R l (row (kb t) s) := by
  have e := sweep_q (whole m c (pr t)) _ _ (fits m c t) s0 _ (kb_add t).le (qb R) (qr R) l
  rw [kb_add, if_pos (qb R).isLt, row_qb_qr, Finset.sum_comm] at e
  refine e.trans (congrArg (_ + ·) (Finset.sum_congr rfl fun s _ => ?_))
  refine (Finset.sum_congr rfl fun h _ => ?_).trans (sum_own l fun h => dscore m c (pr t) h (row (kb t) s) R * aK m c (ix3 (hh (pr t) h) (row (kb t) s) l))
  show dscore m c (pr t) h _ R * (if _ then _ else _) = _
  split
  · rfl
  · exact mul_zero _

theorem fin_fq (q : Fin 16) (h : Fin 2) (r : Fin 512) : (fin m c t s0).fq (ix4 0 q h r) = s0.fq (ix4 0 q h r) + ∑ s : Fin 512, dscore m c (pr t) h (row (kb t) s) (row q r) := by
  rw [sweep_fq (whole m c (pr t)) _ _ (fits m c t) s0 _ (kb_add t).le q h r, kb_add, if_pos q.isLt]; rfl

/-! ## What a grid point leaves -/

/-- The memory of grid point `t`. -/
abbrev bufs : Bufs where
  a2 := ms0_0 t
  h2 := hs0_0 t
  a3 := ms0_1 t
  h3 := hs0_1 t
  a4 := ms0_2 t
  h4 := hs0_2 t
  a5 := ms0_3 t
  h5 := hs0_3 t
  a6 := ms0_4 t
  h6 := hs0_4 t
  a7 := ms0_5 t
  h7 := hs0_5 t
  a8 := ms0_6 t
  h8 := hs0_6 t
  a9 := ms0_7 t
  h9 := hs0_7 t
  a10 := ms0_8 t
  h10 := hs0_8 t
  a11 := ms0_9 t
  h11 := hs0_9 t
  a12 := ms0_10 t
  h12 := hs0_10 t
  a13 := scM0_0
  h13 := Memref.isWhole_whole _
  a14 := scM0_1
  h14 := Memref.isWhole_whole _
  a15 := scM0_2
  h15 := Memref.isWhole_whole _
  a16 := scM0_3
  h16 := Memref.isWhole_whole _
  a17 := scM0_4
  h17 := Memref.isWhole_whole _

theorem coord1 : ((grid0.coords t) 1).val = (kb t).val := by
  have e := Pipeline.Grid.coords_val t 1 (S := 1) (B := 16) rfl rfl
  rw [Nat.div_one] at e
  exact e

/-- The two gradients a grid point adds to, as the point before left them. -/
abbrev prevQ : Vec Ideal S8192x128 .f32 := (outsAt0 m c (t.val - 1) (Nat.lt_of_le_of_lt (Nat.sub_le _ _) t.isLt)).1
abbrev prevFq : Vec Ideal S1x16x2x512 .f32 := (outsAt0 m c (t.val - 1) (Nat.lt_of_le_of_lt (Nat.sub_le _ _) t.isLt)).2.2.2.1

/-- The buffers a grid point's sweep begins from. -/
def start : St Ideal := if t.val % 16 = 0 then stA else stB (prevQ m c t) (prevFq m c t)

theorem out_kv : (outsAt0 m c t.val t.isLt).2.1 = k0_pay108 (fin m c t (start m c t)).k ∧ (outsAt0 m c t.val t.isLt).2.2.1 = k0_pay1 (fin m c t (start m c t)).v
    ∧ (outsAt0 m c t.val t.isLt).2.2.2.1 = (fin m c t (start m c t)).fq
    ∧ (outsAt0 m c t.val t.isLt).2.2.2.2 = k0_pay2 (fun y => (fin m c t (start m c t)).fk (ix3 0 (y 1) (y 2))) (fun y => (fin m c t (start m c t)).fk (ix3 1 (y 1) (y 2)))
    ∧ (outsAt0 m c t.val t.isLt).1 = if t.val % 16 = 15 then k0_pay3 (fin m c t (start m c t)).q else (fin m c t (start m c t)).q := by
  unfold start
  by_cases h0 : t.val % 16 = 0
  · have h1 : ¬t.val % 16 = 15 := by omega
    rw [outsAt0_A m c t h0 h1, if_pos h0, if_neg h1]
    dsimp only
    exact ⟨outA_7 c (grid0.coords t) (bufs t) _ _ _ _ _ _ (kb t) (coord1 t) _ _, outA_8 c (grid0.coords t) (bufs t) _ _ _ _ _ _ (kb t) (coord1 t) _ _,
      outA_9 c (grid0.coords t) (bufs t) _ _ _ _ _ _ (kb t) (coord1 t) _ _, outA_10 c (grid0.coords t) (bufs t) _ _ _ _ _ _ (kb t) (coord1 t) _ _,
      outA_6 c (grid0.coords t) (bufs t) _ _ _ _ _ _ (kb t) (coord1 t) _ _⟩
  · rw [if_neg h0]
    by_cases h1 : t.val % 16 = 15
    · rw [outsAt0_C m c t h0 h1, if_pos h1]
      dsimp only
      exact ⟨outC_7 c (grid0.coords t) (bufs t) _ _ _ _ _ _ _ _ (kb t) (coord1 t) _ _, outC_8 c (grid0.coords t) (bufs t) _ _ _ _ _ _ _ _ (kb t) (coord1 t) _ _,
        outC_9 c (grid0.coords t) (bufs t) _ _ _ _ _ _ _ _ (kb t) (coord1 t) _ _, outC_10 c (grid0.coords t) (bufs t) _ _ _ _ _ _ _ _ (kb t) (coord1 t) _ _,
        outC_6 c (grid0.coords t) (bufs t) _ _ _ _ _ _ _ _ (kb t) (coord1 t) _ _⟩
    · rw [outsAt0_B m c t h0 h1, if_neg h1]
      dsimp only
      exact ⟨outB_7 c (grid0.coords t) (bufs t) _ _ _ _ _ _ _ _ (kb t) (coord1 t) _ _, outB_8 c (grid0.coords t) (bufs t) _ _ _ _ _ _ _ _ (kb t) (coord1 t) _ _,
        outB_9 c (grid0.coords t) (bufs t) _ _ _ _ _ _ _ _ (kb t) (coord1 t) _ _, outB_10 c (grid0.coords t) (bufs t) _ _ _ _ _ _ _ _ (kb t) (coord1 t) _ _,
        outB_6 c (grid0.coords t) (bufs t) _ _ _ _ _ _ _ _ (kb t) (coord1 t) _ _⟩

end Cert.AttnProof.Array
-- ==== Proof.AttnFinal.lean ====
/- The five result arrays of the attention backward kernel after its last grid point. -/
module

public import proofs.«01_k».proof.Proof.AttnArray

@[expose] public section

set_option maxRecDepth 16384

noncomputable section

namespace Cert.AttnProof.Final

open Cert.AttnProof.Step Cert.AttnProof.Trip Cert.AttnProof.Fold Cert.AttnProof.Out Cert.AttnProof.Sweep Cert.AttnProof.Array Cert.AttnIdeal Cert.AttnIdeal.Gen Idealize.ShloMosaic Idealize.ShloMosaic.TcCoe

variable (m : (ℓ : Loc nD τ sig) → Buf (Elt Ideal) ℓ) (c : Dev nD)

theorem start_k (t : Fin cfg0.N) (s : Fin 512) (l : Fin 128) : (start m c t).k (ix2 s l) = (0 : EReal) := by
  unfold start; split <;> pointwise [k0_pay99]
theorem start_v (t : Fin cfg0.N) (s : Fin 512) (l : Fin 128) : (start m c t).v (ix2 s l) = (0 : EReal) := by
  unfold start; split <;> pointwise [k0_pay100]
theorem start_fk (t : Fin cfg0.N) (h : Fin 2) (s : Fin 512) : (start m c t).fk (ix3 h s 0) = (0 : EReal) := by
  unfold start; split <;> pointwise [k0_pay101]

theorem out7 (t : Fin cfg0.N) (s : Fin 512) (l : Fin 128) : (outsAt0 m c t.val t.isLt).2.1 (ix2 s l) = gK m c (pr t) (row (kb t) s) l := by
  rw [(out_kv m c t).1]
  refine (show k0_pay108 (fin m c t (start m c t)).k (ix2 s l) = (fin m c t (start m c t)).k (ix2 s l) by pointwise [k0_pay108]).trans ?_
  refine (fin_k m c t _ s l).trans ?_
  rw [start_k]; exact zero_add _

theorem out8 (t : Fin cfg0.N) (s : Fin 512) (l : Fin 128) : (outsAt0 m c t.val t.isLt).2.2.1 (ix2 s l) = gV m c (pr t) (row (kb t) s) l := by
  rw [(out_kv m c t).2.1]
  refine (show k0_pay1 (fin m c t (start m c t)).v (ix2 s l) = (fin m c t (start m c t)).v (ix2 s l) by pointwise [k0_pay1]).trans ?_
  refine (fin_v m c t _ s l).trans ?_
  rw [start_v]; exact zero_add _

theorem pay2_apply (u w : Vec Ideal S1x512x1 .f32) (s : Fin 512) (h : Fin 2) : k0_pay2 u w (ix3 0 s h) = if h = 0 then u (ix3 0 s 0) else w (ix3 0 s 0) := by
  pointwise [k0_pay2]
  obtain rfl | rfl : h = 0 ∨ h = 1 := by omega
  · rfl
  · rfl

theorem out10 (t : Fin cfg0.N) (s : Fin 512) (h : Fin 2) : (outsAt0 m c t.val t.isLt).2.2.2.2 (ix3 0 s h) = gFk m c (pr t) h (row (kb t) s) := by
  rw [(out_kv m c t).2.2.2.1, pay2_apply]
  have e (h : Fin 2) : (fin m c t (start m c t)).fk (ix3 h s 0) = gFk m c (pr t) h (row (kb t) s) := by
    refine (fin_fk m c t _ h s).trans ?_
    rw [start_fk]; exact zero_add _
  obtain rfl | rfl : h = 0 ∨ h = 1 := by omega
  · exact (if_pos rfl).trans (e 0)
  · exact (if_neg one_ne_zero).trans (e 1)

theorem pr_succ (n : ℕ) (hn : n + 1 < cfg0.N) (h : ¬(n + 1) % 16 = 0) : pr ⟨n, Nat.lt_of_succ_lt hn⟩ = pr ⟨n + 1, hn⟩ :=
  Fin.ext (by show n / 16 = (n + 1) / 16; omega)

/-- The gradient of the queries when grid point `n`'s sweep begins. -/
theorem start_q (R : Fin 8192) (l : Fin 128) : ∀ (n : ℕ) (hn : n < cfg0.N),
    (start m c ⟨n, hn⟩).q (ix2 R l) = tot (tQ m c (pr ⟨n, hn⟩) R l) (n % 16)
  | n, hn => by
    by_cases h : n % 16 = 0
    · rw [h]; unfold start; rw [if_pos h]; pointwise [k0_pay91]; rfl
    · match n, hn, h with
      | n + 1, hn, h =>
        unfold start; rw [if_neg h]
        show (outsAt0 m c n _).1 (ix2 R l) = _
        have e := (out_kv m c ⟨n, Nat.lt_of_succ_lt hn⟩).2.2.2.2
        rw [if_neg (show ¬n % 16 = 15 by omega)] at e
        refine (congrFun e (ix2 R l)).trans ((fin_q m c _ _ R l).trans ?_)
        rw [start_q R l n (Nat.lt_of_succ_lt hn), pr_succ n hn h, show (n + 1) % 16 = (kb ⟨n, Nat.lt_of_succ_lt hn⟩).val + 1 by show _ = n % 16 + 1; omega, tot_succ]
        rfl

theorem start_fq (q : Fin 16) (h : Fin 2) (r : Fin 512) : ∀ (n : ℕ) (hn : n < cfg0.N),
    (start m c ⟨n, hn⟩).fq (ix4 0 q h r) = tot (fun S => dscore m c (pr ⟨n, hn⟩) h S (row q r)) (n % 16)
  | n, hn => by
    by_cases h0 : n % 16 = 0
    · rw [h0]; unfold start; rw [if_pos h0]; pointwise [k0_pay92]; rfl
    · match n, hn, h0 with
      | n + 1, hn, h0 =>
        unfold start; rw [if_neg h0]
        show (outsAt0 m c n _).2.2.2.1 (ix4 0 q h r) = _
        refine (congrFun (out_kv m c ⟨n, Nat.lt_of_succ_lt hn⟩).2.2.1 (ix4 0 q h r)).trans ((fin_fq m c _ _ q h r).trans ?_)
        rw [start_fq q h r n (Nat.lt_of_succ_lt hn), pr_succ n hn h0, show (n + 1) % 16 = (kb ⟨n, Nat.lt_of_succ_lt hn⟩).val + 1 by show _ = n % 16 + 1; omega, tot_succ]
        rfl

/-- The gradients, entry by entry: of the queries and of the queries' gate sums. -/
def gQ (p : Fin 4) (R : Fin 8192) (l : Fin 128) : EReal := (∑ S, tQ m c p R l S) * ((1 / 8 : ℝ) : EReal)
def gFq (p : Fin 4) (h : Fin 2) (R : Fin 8192) : EReal := ∑ S, dscore m c p h S R

theorem tot_last (A : Fin 8192 → EReal) (t : Fin cfg0.N) (ht : t.val % 16 = 15) : (∑ R, A R) = tot A (t.val % 16) + ∑ s, A (row (kb t) s) :=
  (tot_all A).symm.trans ((congrArg (tot A) (show 16 = t.val % 16 + 1 by omega)).trans (tot_succ A (kb t)))

theorem eighth : (Scalar.ofBits (F := Ideal) .f32 0x3E000000#32 : EReal) = ((1 / 8 : ℝ) : EReal) := by
  show Ideal.ofBits .f32 0x3E000000#32 = _
  simp [Ideal.ofBits, Ideal.ieee, -EReal.coe_mul]; norm_num

theorem out6 (t : Fin cfg0.N) (ht : t.val % 16 = 15) (R : Fin 8192) (l : Fin 128) : (outsAt0 m c t.val t.isLt).1 (ix2 R l) = gQ m c (pr t) R l := by
  rw [(out_kv m c t).2.2.2.2, if_pos ht]
  refine (show k0_pay3 (fin m c t (start m c t)).q (ix2 R l) = ((fin m c t (start m c t)).q (ix2 R l) * Scalar.ofBits (F := Ideal) .f32 0x3E000000#32 : EReal) by pointwise [k0_pay3]).trans ?_
  rw [eighth, fin_q, start_q]
  exact congrArg (· * ((1 / 8 : ℝ) : EReal)) (tot_last (tQ m c (pr t) R l) t ht).symm

theorem out9 (t : Fin cfg0.N) (ht : t.val % 16 = 15) (q : Fin 16) (h : Fin 2) (r : Fin 512) :
    (outsAt0 m c t.val t.isLt).2.2.2.1 (ix4 0 q h r) = gFq m c (pr t) h (row q r) := by
  rw [(out_kv m c t).2.2.1, fin_fq, start_fq]
  exact (tot_last (fun S => dscore m c (pr t) h S (row q r)) t ht).symm

/-- The pair of heads and the lane of a column. -/
def cp (y : Fin 512) : Fin 4 := ⟨y.val / 128, by omega⟩
def cn (y : Fin 512) : Fin 128 := ⟨y.val % 128, by omega⟩

theorem final6 : (dats m 0 c).arrAt 6 cfg0.N = fun y : S8192x512.Idx => gQ m c (cp (y 1)) (y 0) (cn (y 1)) := by
  refine (dats m 0 c).arrAt_eq_of_covers 6 _ (by decide +kernel) fun t hf y => ?_
  blk_simp
  rw [after0_6]
  obtain ⟨R, l, rfl⟩ : ∃ R l, y = ix2 R l := ⟨_, _, eq_ix2 y⟩
  refine (out6 m c t ((flush0_6 t).mp hf) R l).trans ?_
  congr 1
  · apply Fin.ext; blk_simp [idx6 t, pr, cp]; dsimp only; omega
  · apply Fin.ext; blk_simp [idx6 t]
  · apply Fin.ext; blk_simp [idx6 t, cn]; dsimp only; omega

theorem final7 : (dats m 0 c).arrAt 7 cfg0.N = fun y : S8192x512.Idx => gK m c (cp (y 1)) (y 0) (cn (y 1)) := by
  refine (dats m 0 c).arrAt_eq_of_covers 7 _ (by decide +kernel) fun t hf y => ?_
  blk_simp
  rw [after0_7]
  obtain ⟨s, l, rfl⟩ : ∃ s l, y = ix2 s l := ⟨_, _, eq_ix2 y⟩
  refine (out7 m c t s l).trans ?_
  congr 1
  · apply Fin.ext; blk_simp [idx7 t, pr, cp]; dsimp only; omega
  · apply Fin.ext; blk_simp [idx7 t, kb, row]; dsimp only; omega
  · apply Fin.ext; blk_simp [idx7 t, cn]; dsimp only; omega

theorem final8 : (dats m 0 c).arrAt 8 cfg0.N = fun y : S8192x512.Idx => gV m c (cp (y 1)) (y 0) (cn (y 1)) := by
  refine (dats m 0 c).arrAt_eq_of_covers 8 _ (by decide +kernel) fun t hf y => ?_
  blk_simp
  rw [after0_8]
  obtain ⟨s, l, rfl⟩ : ∃ s l, y = ix2 s l := ⟨_, _, eq_ix2 y⟩
  refine (out8 m c t s l).trans ?_
  congr 1
  · apply Fin.ext; blk_simp [idx8 t, pr, cp]; dsimp only; omega
  · apply Fin.ext; blk_simp [idx8 t, kb, row]; dsimp only; omega
  · apply Fin.ext; blk_simp [idx8 t, cn]; dsimp only; omega

theorem final9 : (dats m 0 c).arrAt 9 cfg0.N = fun y : S4x16x2x512.Idx => gFq m c (y 0) (y 2) (row (y 1) (y 3)) := by
  refine (dats m 0 c).arrAt_eq_of_covers 9 _ (by decide +kernel) fun t hf y => ?_
  blk_simp
  rw [after0_9]
  obtain ⟨z, q, h, r, rfl⟩ : ∃ z q h r, y = ix4 z q h r := ⟨_, _, _, _, eq_ix4 y⟩
  have hz : z = 0 := Subsingleton.elim _ _
  subst hz
  refine (out9 m c t ((flush0_9 t).mp hf) q h r).trans ?_
  congr 1
  · apply Fin.ext; blk_simp [idx9 t, pr]; exact (Nat.add_zero _).symm
  · apply Fin.ext; blk_simp [idx9 t]
  · apply Fin.ext; blk_simp [idx9 t, row]

theorem final10 : (dats m 0 c).arrAt 10 cfg0.N = fun y : S4x8192x2.Idx => gFk m c (y 0) (y 2) (y 1) := by
  refine (dats m 0 c).arrAt_eq_of_covers 10 _ (by decide +kernel) fun t hf y => ?_
  blk_simp
  rw [after0_10]
  obtain ⟨z, s, h, rfl⟩ : ∃ z s h, y = ix3 z s h := ⟨_, _, _, eq_ix3 y⟩
  have hz : z = 0 := Subsingleton.elim _ _
  subst hz
  refine (out10 m c t s h).trans ?_
  congr 1
  · apply Fin.ext; blk_simp [idx10 t, pr]; exact (Nat.add_zero _).symm
  · apply Fin.ext; blk_simp [idx10 t]
  · apply Fin.ext; blk_simp [idx10 t, kb, row]; dsimp only; omega

end Cert.AttnProof.Final
-- ==== Proof.AttnEquation.lean ====
/- The arrays the attention backward leaves, as the derivatives of the forward lines over the real numbers. -/
module

public import proofs.«01_k».proof.Proof.AttnRows
public import proofs.«01_k».proof.Proof.AttnFinal

@[expose] public section

set_option maxRecDepth 16384

noncomputable section

namespace Cert.AttnProof.Equation

open Cert.AttnIdeal Cert.AttnIdeal.Gen Idealize.ShloMosaic Idealize.ShloMosaic.TcCoe
open Cert.AttnProof.Real Cert.AttnProof.Cast Cert.AttnProof.Host Cert.AttnProof.Rows
open Cert.AttnProof.Array (aQ aK aV aD aL aE hh cl qb qr)
open Cert.AttnProof.Sweep (hd own_iff)

variable {m : (ℓ : Loc nD τ sig) → Buf (Elt Ideal) ℓ} {c : Dev nD} {D : Data}

theorem pair_eq (p : Fin 4) (h : Fin 2) (w : p.val * 2 + h.val < 8) : (⟨p.val * 2 + h.val, w⟩ : Fin 8) = hh p h :=
  Fin.ext (by show p.val * 2 + h.val = 2 * p.val + h.val; omega)

theorem row_eq (R : Fin 8192) (w : (qb R).val * 512 + (qr R).val < 8192) : (⟨(qb R).val * 512 + (qr R).val, w⟩ : Fin 8192) = R :=
  Fin.ext (by show R.val / 512 * 512 + R.val % 512 = R.val; omega)

theorem lse_row (H : Host.Holds m c D) (p : Fin 4) (h : Fin 2) (R : Fin 8192) :
    (aL m c (ix4 p (qb R) h (qr R)) : EReal)
      = ((high H (hh p h) R + _root_.Real.log (total D (high H (hh p h) R) (hh p h) R) : ℝ) : EReal) :=
  (lse_at H p (qb R) h (qr R)).trans (congrArg₂ (fun h R => ((high H h R + _root_.Real.log (total D (high H h R) h R) : ℝ) : EReal))
    (pair_eq p h _) (row_eq R _))

theorem mean_row (H : Host.Holds m c D) (p : Fin 4) (h : Fin 2) (R : Fin 8192) :
    (aE m c (ix4 p (qb R) h (qr R)) : EReal) = (mean D (hh p h) R : EReal) :=
  (mean_at H p (qb R) h (qr R)).trans (congrArg₂ (fun h R => (mean D h R : EReal)) (pair_eq p h _) (row_eq R _))

theorem prob_at (H : Host.Holds m c D) (p : Fin 4) (h : Fin 2) (S R : Fin 8192) :
    Array.prob m c p h S R = (prob D (hh p h) R S : EReal) := by
  unfold Array.prob
  by_cases hlt : R < S
  · rw [if_pos hlt, Ideal.exp_bot, prob_masked D _ R S (not_le.mpr hlt), EReal.coe_zero]
  · rw [if_neg hlt, lse_row H, ← prob_log D (high H (hh p h) R) _ R S (not_lt.mp hlt), ← pack_score, ← Ideal.exp_coe, EReal.coe_sub, coe_sum]
    refine congrArg (fun z : EReal => Ideal.exp (z - _)) (Finset.sum_congr rfl fun l _ => ?_)
    rw [EReal.coe_mul]
    exact congrArg₂ (fun a b : EReal => a * b) (kh_at H _ S l) (qh_at H _ R l)

/-- The lanes of a head carry the product of its cotangent and its values. -/
theorem own_lanes (D : Data) (p : Fin 4) (h : Fin 2) (R S : Fin 8192) :
    ∑ l : Fin 128, (if (h = 0 ↔ l.val < 64) then D.v S (cl p l) else 0) * D.d R (cl p l) = dprob D (hh p h) R S := by
  rw [sum_halves]
  unfold dprob
  obtain rfl | rfl : h = 0 ∨ h = 1 := by omega
  · refine (congrArg₂ (· + ·) (Finset.sum_congr rfl fun d _ => ?_) (Finset.sum_eq_zero fun d _ => ?_)).trans (add_zero _)
    · have hl : cl p ⟨d.val, by omega⟩ = lane (hh p 0) d :=
        Fin.ext (by show 128 * p.val + d.val = (2 * p.val + 0) * 64 + d.val; omega)
      rw [if_pos (by simp), hl, mul_comm]
    · rw [if_neg (by simp), zero_mul]
  · refine (congrArg₂ (· + ·) (Finset.sum_eq_zero fun d _ => ?_) (Finset.sum_congr rfl fun d _ => ?_)).trans (zero_add _)
    · rw [if_neg (by simp), zero_mul]
    · have hl : cl p ⟨64 + d.val, by omega⟩ = lane (hh p 1) d :=
        Fin.ext (by show 128 * p.val + (64 + d.val) = (2 * p.val + 1) * 64 + d.val; omega)
      rw [if_pos (by simp), hl, mul_comm]

theorem v_row (H : Host.Holds m c D) (S : Fin 8192) (j : Fin 512) : (aV m c (ix2 S j) : EReal) = (D.v S j : EReal) := v_at H S j

theorem d_row (H : Host.Holds m c D) (R : Fin 8192) (j : Fin 512) : (aD m c (ix2 R j) : EReal) = (D.d R j : EReal) := d_at H R j

theorem dscore_at (H : Host.Holds m c D) (p : Fin 4) (h : Fin 2) (S R : Fin 8192) :
    Array.dscore m c p h S R = (dscore D (hh p h) R S : EReal) := by
  unfold Array.dscore dscore
  rw [prob_at H, mean_row H, EReal.coe_mul, EReal.coe_sub, ← own_lanes, coe_sum]
  refine congrArg (fun z : EReal => _ * (z - _)) (Finset.sum_congr rfl fun l _ => ?_)
  rw [EReal.coe_mul, coe_ite, EReal.coe_zero, v_row H, d_row H]

theorem head_cl (p : Fin 4) (l : Fin 128) : head (cl p l) = hh p (hd l) := by
  apply Fin.ext
  show (128 * p.val + l.val) / 64 = 2 * p.val + (hd l).val
  unfold hd
  split
  · show _ = 2 * p.val + 0; omega
  · show _ = 2 * p.val + 1; omega

theorem own_lane (p : Fin 4) (l : Fin 128) : ((hh p (hd l)).val % 2 = 0 ↔ l.val < 64) := by
  show ((2 * p.val + (hd l).val) % 2 = 0 ↔ l.val < 64)
  unfold hd
  split
  · rename_i h; simp [h]
  · rename_i h; simp [h]

theorem lane_cl (p : Fin 4) (h : Fin 2) (l : Fin 128) : pairLane (hh p h) l = cl p l :=
  Fin.ext (by show (2 * p.val + h.val) / 2 * 128 + l.val = 128 * p.val + l.val; omega)

theorem q_lane (H : Host.Holds m c D) (p : Fin 4) (R : Fin 8192) (l : Fin 128) :
    (aQ m c (ix3 (hh p (hd l)) R l) : EReal) = ((D.q R (cl p l) * (1 / 8) : ℝ) : EReal) := by
  refine (qh_at H _ R l).trans ?_
  unfold packQ
  rw [if_pos (own_lane p l), lane_cl]

theorem k_lane (H : Host.Holds m c D) (p : Fin 4) (S : Fin 8192) (l : Fin 128) :
    (aK m c (ix3 (hh p (hd l)) S l) : EReal) = (D.k S (cl p l) : EReal) := by
  refine (kh_at H _ S l).trans ?_
  unfold packK
  rw [if_pos (own_lane p l), lane_cl]

theorem gV_at (H : Host.Holds m c D) (p : Fin 4) (S : Fin 8192) (l : Fin 128) :
    Array.gV m c p S l = (gradV D S (cl p l) : EReal) := by
  unfold Array.gV gradV
  rw [coe_sum, head_cl]
  refine Finset.sum_congr rfl fun R _ => ?_
  rw [prob_at H, d_row H, ← EReal.coe_mul, mul_comm]

theorem gK_at (H : Host.Holds m c D) (p : Fin 4) (S : Fin 8192) (l : Fin 128) :
    Array.gK m c p S l = (gradK D S (cl p l) : EReal) := by
  unfold Array.gK gradK
  rw [coe_sum, head_cl]
  refine Finset.sum_congr rfl fun R _ => ?_
  rw [dscore_at H, q_lane H, ← EReal.coe_mul]
  refine congrArg _ ?_
  ring

theorem gQ_at (H : Host.Holds m c D) (p : Fin 4) (R : Fin 8192) (l : Fin 128) :
    Final.gQ m c p R l = (gradQ D R (cl p l) : EReal) := by
  unfold Final.gQ Array.tQ gradQ
  rw [head_cl]
  simp only [dscore_at H, k_lane H, ← EReal.coe_mul]
  rw [← coe_sum, ← EReal.coe_mul, Finset.sum_mul]
  refine congrArg _ (Finset.sum_congr rfl fun S _ => ?_)
  ring

theorem gFq_at (H : Host.Holds m c D) (p : Fin 4) (h : Fin 2) (R : Fin 8192) :
    Final.gFq m c p h R = (gradFq D (hh p h) R : EReal) := by
  unfold Final.gFq gradFq
  rw [coe_sum]
  exact Finset.sum_congr rfl fun S _ => dscore_at H p h S R

theorem gFk_at (H : Host.Holds m c D) (p : Fin 4) (h : Fin 2) (S : Fin 8192) :
    Array.gFk m c p h S = (gradFk D (hh p h) S : EReal) := by
  unfold Array.gFk gradFk
  rw [coe_sum]
  exact Finset.sum_congr rfl fun R _ => dscore_at H p h S R

theorem column (j : Fin 512) : cl (Final.cp j) (Final.cn j) = j :=
  Fin.ext (by show 128 * (j.val / 128) + j.val % 128 = j.val; omega)

end Cert.AttnProof.Equation
-- ==== Proof.AttnReference.lean ====
/- The reference of the attention backward, read one stage at a time as real numbers. -/
module

public import proofs.«01_k».proof.Proof.Gen.AttnRefIdeal.Run
public import proofs.«01_k».proof.Proof.Gen.AttnRefIdeal.Read
public import proofs.«01_k».proof.Proof.AttnCast
public import proofs.«01_k».proof.Proof.AttnReal

@[expose] public section

set_option maxRecDepth 16384

noncomputable section

namespace Cert.AttnProof.Reference

open Cert.AttnRefIdeal Cert.AttnRefIdeal.Gen Cert.AttnRefIdeal.Read Idealize.ShloMosaic Idealize.ShloMosaic.TcCoe
open Cert.AttnProof.Real Cert.AttnProof.Cast

/-- The arguments hold the real numbers of `D`. -/
structure Holds (D : Data) (x0 x1 x2 : Vec Ideal S8192x512 .f32) (x3 : Vec Ideal S8192x8 .f32) (x4 : Vec Ideal S1x8 .f32)
    (x5 : Vec Ideal S8192x512 .f32) : Prop where
  q : ∀ R j, (x0 (ix2 R j) : EReal) = (D.q R j : EReal)
  k : ∀ R j, (x1 (ix2 R j) : EReal) = (D.k R j : EReal)
  v : ∀ R j, (x2 (ix2 R j) : EReal) = (D.v R j : EReal)
  d : ∀ R j, (x5 (ix2 R j) : EReal) = (D.d R j : EReal)
  x : ∀ R h, (x3 (ix2 R h) : EReal) + (x4 (ix2 0 h) : EReal) = (D.x R h : EReal)

variable {D : Data} {x0 x1 x2 : Vec Ideal S8192x512 .f32} {x3 : Vec Ideal S8192x8 .f32} {x4 : Vec Ideal S1x8 .f32}
  {x5 : Vec Ideal S8192x512 .f32}

/-- The softplus form of the log-sigmoid. -/
theorem softplus (t : ℝ) :
    -(max (-t) 0 + _root_.Real.log (1 + _root_.Real.exp (-max (-t) (- -t)))) = lsig t := by
  unfold lsig
  rw [abs_eq_max_neg, neg_neg, max_comm (-t) t, neg_add, ← min_neg_neg, neg_neg, neg_zero, sub_eq_add_neg]

theorem r2 (H : Holds D x0 x1 x2 x3 x4 x5) (R : Fin 8192) (h : Fin 8) :
    (val_main_v2 (F := Ideal) x3 x4 (ix2 R h) : EReal) = (lsig (D.x R h) : EReal) := by
  pointwise [val_main_v0, val_main_v1, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1, val_main_v2]
  rw [H.x]
  generalize D.x R h = t
  have hp : ¬ ((1 + _root_.Real.exp (-max (-t) (- -t)) : ℝ) ≤ 0) := not_le.mpr (by positivity)
  simp only [ne_eq, not_true_eq_false, if_false, Ideal.absf_def]
  unfold Ideal.log1p
  rw [← EReal.coe_neg, ← EReal.coe_neg, ← EReal.coe_zero, ← coe_max, ← coe_max, ← EReal.coe_neg, Ideal.exp_coe,
    ← EReal.coe_one, ← EReal.coe_add, Ideal.log_coe, if_neg hp, ← EReal.coe_add, ← EReal.coe_neg, softplus]

theorem r3 (H : Holds D x0 x1 x2 x3 x4 x5) (R : Fin 8192) (h : Fin 8) :
    (val_main_v3 (F := Ideal) x3 x4 (ix2 R h) : EReal) = (gate D R h : EReal) := by
  unfold val_main_v3
  refine (cumsum _ _ _ _ ?_ R h).trans ?_
  · pointwise [val_main_call1_call0_v0, val_main_call1_call0_cst]
  · unfold gate
    rw [coe_sum]
    refine Finset.sum_congr rfl fun j _ => ?_
    rw [coe_ite, r2 H, EReal.coe_zero]

theorem r17 (H : Holds D x0 x1 x2 x3 x4 x5) (h : Fin 8) (R S : Fin 8192) :
    (val_main_v17 (F := Ideal) x0 x1 x3 x4 (ix3 h R S) : EReal) = (score D h R S : EReal) := by
  pointwise [val_main_v4, val_main_v5, val_main_v7, val_main_cst, val_main_v8, val_main_v9, val_main_v10, val_main_v11, val_main_v12, val_main_v13, val_main_v14, val_main_v15, val_main_v16, val_main_v17]
  rw [r3 H, r3 H, eighth]
  unfold score
  rw [EReal.coe_sub, EReal.coe_add, EReal.coe_mul, coe_sum]
  simp only [EReal.coe_mul, ← H.q, ← H.k]
  rfl

theorem r21 (H : Holds D x0 x1 x2 x3 x4 x5) (h : Fin 8) (R S : Fin 8192) :
    (val_main_v21_0 (F := Ideal) x0 x1 x3 x4 (ix3 h R S) : EReal) = if S ≤ R then (score D h R S : EReal) else ⊥ := by
  pointwise [val_main_v18, val_main_v19, val_main_v20, val_main_cst_0, val_main_call2_v0, val_main_call2_v1, val_main_v21_0]
  rw [le_select, r17 H, id]
  exact congrArg (fun x : EReal => if S ≤ R then (score D h R S : EReal) else x) lower

theorem r22 (H : Holds D x0 x1 x2 x3 x4 x5) (h : Fin 8) (R : Fin 8192) :
    ∃ M : ℝ, (val_main_v22 (F := Ideal) x0 x1 x3 x4 (ix2 h R) : EReal) = (M : EReal) := by
  unfold val_main_v22
  refine reduce_max_real _ _ _ _ _ ?_ (fun i => ?_) (ix3 h R R) ?_ ?_
  · exact lower
  · have e : (val_main_v21_0 (F := Ideal) x0 x1 x3 x4 i : EReal)
        = if (i 2 : Fin 8192) ≤ (i 1 : Fin 8192) then (score D (i 0) (i 1) (i 2) : EReal) else ⊥ :=
      (congrArg (val_main_v21_0 (F := Ideal) x0 x1 x3 x4) (eq_ix3 i)).trans (r21 H _ _ _)
    rw [e]
    split
    · exact EReal.coe_ne_top _
    · exact bot_ne_top
  · funext b
    fin_cases b <;> rfl
  · rw [r21 H, if_pos le_rfl]
    exact EReal.coe_ne_bot _

/-- The row maximum the softmax subtracts, as a real number. -/
def peak (H : Holds D x0 x1 x2 x3 x4 x5) (h : Fin 8) (R : Fin 8192) : ℝ := (r22 H h R).choose

theorem r22' (H : Holds D x0 x1 x2 x3 x4 x5) (h : Fin 8) (R : Fin 8192) :
    (val_main_v22 (F := Ideal) x0 x1 x3 x4 (ix2 h R) : EReal) = (peak H h R : EReal) := (r22 H h R).choose_spec

theorem r29 (H : Holds D x0 x1 x2 x3 x4 x5) (h : Fin 8) (R : Fin 8192) :
    (val_main_v29 (F := Ideal) x0 x1 x3 x4 (ix2 h R) : EReal) = (peak H h R : EReal) := by
  rw [val_main_v29_apply, val_main_v28_apply, val_main_cst_3_apply, r22' H]
  exact (congrArg (fun x : EReal => max x (peak H h R : EReal)) lower).trans (max_eq_right bot_le)

theorem r40 (y : (⟨S8x8192, .f32⟩ : BufTy).Contents (Elt Ideal)) (h : Fin 8) (R S : Fin 8192) :
    broadcastInDim S8x8192x8192 ![0, 1, 2] bcast_S8x8192x1_S8x8192x8192_0_1_2
      (broadcastInDim S8x8192x1 ![0, 1] bcast_S8x8192_S8x8192x1_0_1 y) (ix3 h R S) = y (ix2 h R) := by
  pointwise []

theorem r42 (H : Holds D x0 x1 x2 x3 x4 x5) (h : Fin 8) (R S : Fin 8192) :
    (val_main_v42 (F := Ideal) x0 x1 x3 x4 (ix3 h R S) : EReal) = (weight D (peak H h R) h R S : EReal) := by
  have e : (val_main_v40 (F := Ideal) x0 x1 x3 x4 (ix3 h R S) : EReal) = (peak H h R : EReal) := by
    unfold val_main_v40 val_main_v39
    rw [r40, r29 H]
  rw [val_main_v42_apply, val_main_v41_apply, e, r21 H]
  show Ideal.exp ((if S ≤ R then (score D h R S : EReal) else ⊥) - (peak H h R : EReal)) = _
  unfold weight
  split
  · rw [← EReal.coe_sub, Ideal.exp_coe]
  · rw [EReal.bot_sub, Ideal.exp_bot, EReal.coe_zero]

theorem r43 (H : Holds D x0 x1 x2 x3 x4 x5) (h : Fin 8) (R : Fin 8192) :
    (val_main_v43 (F := Ideal) x0 x1 x3 x4 (ix2 h R) : EReal) = (total D (peak H h R) h R : EReal) := by
  pointwise [val_main_cst_9, val_main_v43]
  simp only [r42 H]
  unfold total
  rw [coe_sum]

theorem r46 (H : Holds D x0 x1 x2 x3 x4 x5) (h : Fin 8) (R S : Fin 8192) :
    (val_main_v46 (F := Ideal) x0 x1 x3 x4 (ix3 h R S) : EReal) = (prob D h R S : EReal) := by
  pointwise [val_main_v44, val_main_v45, val_main_v46]
  rw [r42 H, r43 H, div_real _ _ (total_pos D _ h R).ne', prob_eq]

theorem r55 (H : Holds D x0 x1 x2 x3 x4 x5) (h : Fin 8) (R S : Fin 8192) :
    (val_main_v55 (F := Ideal) x2 x5 (ix3 h R S) : EReal) = (dprob D h R S : EReal) := by
  pointwise [val_main_v6, val_main_v53, val_main_v54, val_main_v55]
  unfold dprob
  rw [coe_sum]
  simp only [EReal.coe_mul, ← H.d, ← H.v]
  rfl

theorem r60 (H : Holds D x0 x1 x2 x3 x4 x5) (h : Fin 8) (R S : Fin 8192) :
    (val_main_v60 (F := Ideal) x0 x1 x2 x3 x4 x5 (ix3 h R S) : EReal)
      = ((dprob D h R S * (1 / (total D (peak H h R) h R * total D (peak H h R) h R)) * weight D (peak H h R) h R S : ℝ) : EReal) := by
  have ht := (total_pos D (peak H h R) h R).ne'
  pointwise [val_main_v44, val_main_v47, val_main_cst_10, val_main_v48, val_main_v49, val_main_v58, val_main_v59, val_main_v60]
  rw [r55 H, r43 H, r42 H, ← EReal.coe_one, ← EReal.coe_mul, div_real _ _ (mul_ne_zero ht ht), ← EReal.coe_mul, ← EReal.coe_mul]

theorem r70 (H : Holds D x0 x1 x2 x3 x4 x5) (h : Fin 8) (R S : Fin 8192) :
    (val_main_v70 (F := Ideal) x0 x1 x2 x3 x4 x5 (ix3 h R S) : EReal) = (dscore D h R S : EReal) := by
  have ht := (total_pos D (peak H h R) h R).ne'
  pointwise [val_main_v18, val_main_v19, val_main_v20, val_main_v44, val_main_cst_11, val_main_v61, val_main_v62, val_main_v63, val_main_v64, val_main_v65, val_main_cst_12, val_main_v66, val_main_v67, val_main_v68, val_main_v69, val_main_call3_cst, val_main_call3_v0, val_main_v70]
  simp only [Fin.sum_univ_one]
  rw [le_select, r55 H, r43 H, r42 H, div_real _ _ ht]
  simp only [r60 H]
  rw [← coe_sum, ← EReal.coe_neg, ← EReal.coe_add, ← EReal.coe_mul, dscore_quotient]
  split
  · rfl
  · rename_i hle
    rw [dscore_masked D h R S hle, EReal.coe_zero]

theorem r88 (H : Holds D x0 x1 x2 x3 x4 x5) (R : Fin 8192) (j : Fin 512) :
    (val_main_v88 (F := Ideal) x0 x1 x2 x3 x4 x5 (ix2 R j) : EReal) = (gradQ D R j : EReal) := by
  pointwise [val_main_v5, val_main_cst_17, val_main_v80, val_main_v81, val_main_v84, val_main_v85, val_main_v88]
  rw [eighth]
  simp only [r70 H, H.k]
  unfold gradQ
  rw [coe_sum]
  simp only [EReal.coe_mul]
  rfl

theorem r89 (H : Holds D x0 x1 x2 x3 x4 x5) (S : Fin 8192) (j : Fin 512) :
    (val_main_v89 (F := Ideal) x0 x1 x2 x3 x4 x5 (ix2 S j) : EReal) = (gradK D S j : EReal) := by
  pointwise [val_main_v4, val_main_cst_17, val_main_v80, val_main_v81, val_main_v82, val_main_v83, val_main_v87, val_main_v89]
  rw [eighth]
  simp only [r70 H, H.q]
  unfold gradK
  rw [coe_sum]
  simp only [EReal.coe_mul]
  rfl

theorem r90 (H : Holds D x0 x1 x2 x3 x4 x5) (S : Fin 8192) (j : Fin 512) :
    (val_main_v90 (F := Ideal) x0 x1 x3 x4 x5 (ix2 S j) : EReal) = (gradV D S j : EReal) := by
  pointwise [val_main_v53, val_main_v54, val_main_v56, val_main_v57, val_main_v86, val_main_v90]
  simp only [r46 H, H.d]
  unfold gradV
  rw [coe_sum]
  simp only [EReal.coe_mul]
  rfl

/-- Head `g` of pair `p`. -/
def pairHead (p : Fin 4) (g : Fin 2) : Fin 8 := ⟨p.val * 2 + g.val, by omega⟩

/-- Row `r` of block `b`. -/
def blockRow (b : Fin 16) (r : Fin 512) : Fin 8192 := ⟨b.val * 512 + r.val, by omega⟩

theorem r93 (H : Holds D x0 x1 x2 x3 x4 x5) (p : Fin 4) (b : Fin 16) (g : Fin 2) (r : Fin 512) :
    (val_main_v93 (F := Ideal) x0 x1 x2 x3 x4 x5 (ix4 p b g r) : EReal) = (gradFq D (pairHead p g) (blockRow b r) : EReal) := by
  pointwise [val_main_cst_15, val_main_v76, val_main_v77, val_main_cst_16, val_main_v78, val_main_v79, val_main_v91, val_main_v92, val_main_v93]
  simp only [Fin.sum_univ_one, r70 H]
  rw [← coe_sum]
  rfl

theorem r96 (H : Holds D x0 x1 x2 x3 x4 x5) (p : Fin 4) (S : Fin 8192) (g : Fin 2) :
    (val_main_v96 (F := Ideal) x0 x1 x2 x3 x4 x5 (ix3 p S g) : EReal) = (gradFk D (pairHead p g) S : EReal) := by
  pointwise [val_main_v71, val_main_cst_13, val_main_v72, val_main_v73, val_main_cst_14, val_main_v74, val_main_v75, val_main_v94, val_main_v95, val_main_v96]
  simp only [Fin.sum_univ_one, r70 H, ← EReal.coe_neg]
  rw [← coe_sum, ← EReal.coe_neg, Finset.sum_neg_distrib, neg_neg]
  rfl

end Cert.AttnProof.Reference
-- ==== Proof.AttnClaim.lean ====
/- The attention backward call: from finite arguments its five results are the derivatives of the forward lines. -/
module

public import proofs.«01_k».proof.Proof.AttnEquation
public import proofs.«01_k».proof.Proof.AttnReference
public import Idealize.ShloMosaic.Lib.ReduceAll
public import Idealize.ShloMosaic.Lib.Quiescent

@[expose] public section

set_option maxRecDepth 16384

noncomputable section

namespace Cert.AttnProof.Claim

open Idealize.ShloMosaic Idealize.ShloMosaic.TcCoe Idealize.SL.Sem
open Cert.AttnProof.Real Cert.AttnProof.Cast Cert.AttnProof.Equation Cert.AttnRefIdeal.Read

/-- The side conditions of the precondition. -/
theorem finite_facts : Cert.Pre_finite_arguments.Facts where
  bcast_S_S8192x512 := by decide
  reducesTo_S8192x512_S_d0_1 := by decide
  h_S_ := by decide
  bcast_S_S8192x8 := by decide
  reducesTo_S8192x8_S_d0_1 := by decide
  bcast_S_S1x8 := by decide
  reducesTo_S1x8_S_d0_1 := by decide

theorem upper : Ideal.ofBits FTy.f32 0x7F800000#32 = (⊤ : EReal) := by
  simp [Ideal.ofBits, Ideal.ieee]

/-- A number whose magnitude compares below the infinity is a real number. -/
theorem real_of_below (x : EReal) (h : Ideal.cmp .olt (max x (-x)) (⊤ : EReal) = 1#1) : ∃ r : ℝ, x = (r : EReal) := by
  have hlt : max x (-x) < ⊤ := by
    by_contra hn
    simp [Ideal.cmp, hn] at h
  have ht : x ≠ ⊤ := (lt_of_le_of_lt (le_max_left _ _) hlt).ne
  have hb : x ≠ ⊥ := by
    rintro rfl
    simp at hlt
  exact ⟨x.toReal, (EReal.coe_toReal ht hb).symm⟩

instance : Subsingleton (Cert.Pre_finite_arguments.S_).Idx := ⟨fun a b => funext fun i => i.elim0⟩

/-- An array whose every magnitude is below the infinity holds real numbers. -/
theorem real_of_all {s : Shape} {axes : List (Fin s.rank)} (x : Vec Ideal s .f32) (hb : Cert.Pre_finite_arguments.S_.BroadcastsInDim s ![])
    (hr : s.ReducesTo axes Cert.Pre_finite_arguments.S_) (hu : 0 < Cert.Pre_finite_arguments.S_.numel) (j : Cert.Pre_finite_arguments.S_.Idx)
    (h : Host.reduce IntOp.andi (cmpf .olt (Host.absf (F := Ideal) (φ := .f32) x)
        (broadcastInDim s ![] hb (constant (F := Ideal) Cert.Pre_finite_arguments.S_ .f32 0x7F800000#32)))
      (constantI Cert.Pre_finite_arguments.S_ 1 1#1) hr hu j = 1#1) (i : s.Idx) : ∃ r : ℝ, (x i : EReal) = (r : EReal) := by
  refine real_of_below _ ?_
  rw [← upper]
  exact Host.reduce_andi_all _ _ _ _ _ h i

theorem and_one {a b : BitVec 1} (h : IntOp.andi a b = 1#1) : a = 1#1 ∧ b = 1#1 := by
  revert a b
  decide

variable {m : (ℓ : Loc Cert.AttnIdeal.nD Cert.AttnIdeal.τ Cert.AttnIdeal.sig) → Buf (Elt Ideal) ℓ}

/-- From finite arguments, the real numbers the arguments hold. -/
theorem data (hpre : Cert.Pre_AttnIdeal_finite_arguments (hPre_finite_arguments := finite_facts) m) (c : Dev Cert.AttnIdeal.nD) :
    ∃ D : Data, Host.Holds m c D := by
  have h := congrFun (hpre c) (fun i => i.elim0)
  dsimp only [Cert.Pre_finite_arguments.fn, Cert.Pre_finite_arguments.fn_part1] at h
  obtain ⟨h, h5⟩ := and_one h
  obtain ⟨h, h4⟩ := and_one h
  obtain ⟨h, h3⟩ := and_one h
  obtain ⟨h, h2⟩ := and_one h
  obtain ⟨h0, h1⟩ := and_one h
  choose f0 e0 using real_of_all (Host.argQ m c) _ _ _ _ h0
  choose f1 e1 using real_of_all (Host.argK m c) _ _ _ _ h1
  choose f2 e2 using real_of_all (Host.argV m c) _ _ _ _ h2
  choose f3 e3 using real_of_all (Host.argL m c) _ _ _ _ h3
  choose f4 e4 using real_of_all (Host.argB m c) _ _ _ _ h4
  choose f5 e5 using real_of_all (Host.argD m c) _ _ _ _ h5
  exact ⟨⟨fun R j => f0 (ix2 R j), fun R j => f1 (ix2 R j), fun R j => f2 (ix2 R j), fun R j => f5 (ix2 R j),
      fun R h => f3 (ix2 R h) + f4 (ix2 0 h)⟩,
    ⟨fun R j => e0 _, fun R j => e1 _, fun R j => e2 _, fun R j => e5 _, fun R h => by rw [e3, e4, EReal.coe_add]⟩⟩

/-- The same real numbers in the reference's arguments. -/
theorem agree {c : Dev Cert.AttnIdeal.nD} {D : Data} (H : Host.Holds m c D) :
    Reference.Holds D (Host.argQ m c) (Host.argK m c) (Host.argV m c) (Host.argL m c) (Host.argB m c) (Host.argD m c) :=
  ⟨H.q, H.k, H.v, H.d, H.x⟩

/-- The reference runs and leaves its arguments unchanged. -/
theorem frame_reference : Cert.quiescent_AttnRefIdeal := fun m ρ _ =>
  (θ_run Cert.AttnRefIdeal.defs _ _).mono (fun r h => ⟨fun c => (h c).2.2.2.2.2,
      Idealize.ShloMosaic.sem_eq_zero_of_no_sems (by decide) r.2⟩)
    (Cert.AttnRefIdeal.Value.run (F := Ideal) m ρ)

theorem pair_of (p : Fin 4) (g : Fin 2) : Reference.pairHead p g = Array.hh p g :=
  Fin.ext (by show p.val * 2 + g.val = 2 * p.val + g.val; omega)

theorem row_of (b : Fin 16) (r : Fin 512) : Reference.blockRow b r = Trip.row b r :=
  Fin.ext (by show b.val * 512 + r.val = 512 * b.val + r.val; omega)

section Results

variable {c : Dev Cert.AttnIdeal.nD} {D : Data} (H : Host.Holds m c D)
include H

theorem result_q (R : Fin 8192) (j : Fin 512) :
    (val_main_v88 (F := Ideal) (Host.argQ m c) (Host.argK m c) (Host.argV m c) (Host.argL m c) (Host.argB m c) (Host.argD m c) (ix2 R j) : EReal)
      = Final.gQ m c (Final.cp j) R (Final.cn j) := by
  rw [Reference.r88 (agree H), gQ_at H, column]

theorem result_k (R : Fin 8192) (j : Fin 512) :
    (val_main_v89 (F := Ideal) (Host.argQ m c) (Host.argK m c) (Host.argV m c) (Host.argL m c) (Host.argB m c) (Host.argD m c) (ix2 R j) : EReal)
      = Array.gK m c (Final.cp j) R (Final.cn j) := by
  rw [Reference.r89 (agree H), gK_at H, column]

theorem result_v (R : Fin 8192) (j : Fin 512) :
    (val_main_v90 (F := Ideal) (Host.argQ m c) (Host.argK m c) (Host.argL m c) (Host.argB m c) (Host.argD m c) (ix2 R j) : EReal)
      = Array.gV m c (Final.cp j) R (Final.cn j) := by
  rw [Reference.r90 (agree H), gV_at H, column]

theorem result_fq (p : Fin 4) (b : Fin 16) (g : Fin 2) (r : Fin 512) :
    (val_main_v93 (F := Ideal) (Host.argQ m c) (Host.argK m c) (Host.argV m c) (Host.argL m c) (Host.argB m c) (Host.argD m c) (ix4 p b g r) : EReal)
      = Final.gFq m c p g (Trip.row b r) := by
  rw [Reference.r93 (agree H), gFq_at H, pair_of, row_of]

theorem result_fk (p : Fin 4) (S : Fin 8192) (g : Fin 2) :
    (val_main_v96 (F := Ideal) (Host.argQ m c) (Host.argK m c) (Host.argV m c) (Host.argL m c) (Host.argB m c) (Host.argD m c) (ix3 p S g) : EReal)
      = Array.gFk m c p g S := by
  rw [Reference.r96 (agree H), gFk_at H, pair_of]

end Results

set_option maxHeartbeats 2000000 in
theorem algebraic : Cert.algebraic_AttnIdeal_AttnRefIdeal_pre_finite_arguments (hPre_finite_arguments := finite_facts) := by
  intro m ρ m' ρ' hpre hagree
  refine ⟨fun c y => Final.gQ m c (Final.cp (y 1)) (y 0) (Final.cn (y 1)),
    fun c y => Array.gK m c (Final.cp (y 1)) (y 0) (Final.cn (y 1)),
    fun c y => Array.gV m c (Final.cp (y 1)) (y 0) (Final.cn (y 1)),
    fun c y => Final.gFq m c (y 0) (y 2) (Trip.row (y 1) (y 3)),
    fun c y => Array.gFk m c (y 0) (y 2) (y 1), ?_, ?_⟩
  · refine (θ_run Cert.AttnIdeal.defs _ _).mono (fun _ h c => ?_) (Cert.AttnIdeal.Value.run_blocks (F := Ideal) m ρ)
    exact ⟨(h c).1.trans (Final.final6 m c), (h c).2.1.trans (Final.final7 m c), (h c).2.2.1.trans (Final.final8 m c),
      (h c).2.2.2.1.trans (Final.final9 m c), (h c).2.2.2.2.1.trans (Final.final10 m c), (h c).2.2.2.2.2⟩
  · refine (θ_run Cert.AttnRefIdeal.defs _ _).mono (fun _ h c => ?_) (Cert.AttnRefIdeal.Value.run (F := Ideal) m' ρ')
    obtain ⟨h0, h1, h2, h3, h4, h5⟩ := hagree c
    obtain ⟨D, H⟩ := data hpre c
    refine ⟨(h c).1.trans ?_, (h c).2.1.trans ?_, (h c).2.2.1.trans ?_, (h c).2.2.2.1.trans ?_, (h c).2.2.2.2.1.trans ?_, (h c).2.2.2.2.2⟩
    · rw [val_main_v88_eq, h0, h1, h2, h3, h4, h5]
      funext y
      exact (congrArg _ (eq_ix2 y)).trans (result_q H (y 0) (y 1))
    · rw [val_main_v89_eq, h0, h1, h2, h3, h4, h5]
      funext y
      exact (congrArg _ (eq_ix2 y)).trans (result_k H (y 0) (y 1))
    · rw [val_main_v90_eq, h0, h1, h3, h4, h5]
      funext y
      exact (congrArg _ (eq_ix2 y)).trans (result_v H (y 0) (y 1))
    · rw [val_main_v93_eq, h0, h1, h2, h3, h4, h5]
      funext y
      exact (congrArg _ (eq_ix4 y)).trans (result_fq H (y 0) (y 1) (y 2) (y 3))
    · rw [val_main_v96_eq, h0, h1, h2, h3, h4, h5]
      funext y
      exact (congrArg _ (eq_ix3 y)).trans (result_fk H (y 0) (y 1) (y 2))

end Cert.AttnProof.Claim
-- ==== Proof.ProjOut.lean ====
/- What one grid point of the projection backward kernel leaves in its four output blocks. -/
module

public import proofs.«01_k».proof.Defs
public import proofs.«01_k».proof.Proof.Gen.ProjIdeal.Value
public import Idealize.ShloMosaic.Lib.ValueIdx

@[expose] public section

set_option maxRecDepth 16384

noncomputable section

namespace Cert.ProjProof.Out

open Cert.ProjIdeal Cert.ProjIdeal.Gen Idealize.ShloMosaic Idealize.ShloMosaic.TcCoe

variable {F : FTy → Type} [FloatOps F]

theorem hz : (![0, 0] : Fin 2 → Nat) = fun _ => 0 := funext fun a => by fin_cases a <;> rfl

section Blocks
variable
  (x0 : Vec F S256x512 .f32) (x1 : Vec F S256x512 .bf16) (x2 : Vec F S256x512 .bf16) (x3 : Vec F S256x512 .bf16)
  (x4 : Vec F S256x512 .f32) (x5 : Vec F S256x512 .bf16) (x6 : Vec F S256x1024 .bf16) (x7 : Vec F S256x1024 .bf16)
  (x8 : Vec F S256x8 .f32) (x9 : Vec F S256x1024 .f32) (x10 : Vec F S256x1024 .f32) (x11 : Vec F S1x1024 .f32)
  (x12 : Vec F S1x1024 .f32) (x13 : Vec F S1024x5120 .bf16) (x14 : Vec F S8x1024 .f32)

/-- The gradient of the modulated rows, from the nine cotangent blocks and the weight's column ranges. -/
def rows : FVec F S256x1024 .f32 :=
  k0_pay7
    (k0_pay5 x0 (View.ld x13 (Rect.unit (s := S1024x5120) ![0, 0] S1024x512.size inb_S1024x5120_S1024x512_0_0))
      x1 (View.ld x13 (Rect.unit (s := S1024x5120) ![0, 512] S1024x512.size inb_S1024x5120_S1024x512_0_512))
      x2 (View.ld x13 (Rect.unit (s := S1024x5120) ![0, 1024] S1024x512.size inb_S1024x5120_S1024x512_0_1024))
      x3 (View.ld x13 (Rect.unit (s := S1024x5120) ![0, 1536] S1024x512.size inb_S1024x5120_S1024x512_0_1536)))
    (k0_pay6 x4 (View.ld x13 (Rect.unit (s := S1024x5120) ![0, 2048] S1024x512.size inb_S1024x5120_S1024x512_0_2048)))
    x5 (View.ld x13 (Rect.unit (s := S1024x5120) ![0, 2560] S1024x512.size inb_S1024x5120_S1024x512_0_2560))
    x6 (View.ld x13 (Rect.unit (s := S1024x5120) ![0, 3072] S1024x1024.size inb_S1024x5120_S1024x1024_0_3072))
    x7 (View.ld x13 (Rect.unit (s := S1024x5120) ![0, 4096] S1024x1024.size inb_S1024x5120_S1024x1024_0_4096))
    x8 x14

end Blocks

/-- The gradient of the block's rows of `x`. -/
def gx (d : FVec F S256x1024 .f32) (x9 : Vec F S256x1024 .f32) (x10 : Vec F S256x1024 .f32) (x11 : Vec F S1x1024 .f32)
    (x12 : Vec F S1x1024 .f32) : FVec F S256x1024 .f32 :=
  k0_pay1 (k0_pay8 x9) (k0_pay9 x9) (k0_pay15 d x12 x11) x10 (k0_pay16 d (k0_pay9 x9) x12 x11) (k0_pay17 (F := F))

section A
variable (c : Dev nD) (i : grid0.Coords)
  (a1 : Memref sig .tc .vmem S256x512 .f32) (h1 : a1.IsWhole)
  (a2 : Memref sig .tc .vmem S256x512 .bf16) (h2 : a2.IsWhole)
  (a3 : Memref sig .tc .vmem S256x512 .bf16) (h3 : a3.IsWhole)
  (a4 : Memref sig .tc .vmem S256x512 .bf16) (h4 : a4.IsWhole)
  (a5 : Memref sig .tc .vmem S256x512 .f32) (h5 : a5.IsWhole)
  (a6 : Memref sig .tc .vmem S256x512 .bf16) (h6 : a6.IsWhole)
  (a7 : Memref sig .tc .vmem S256x1024 .bf16) (h7 : a7.IsWhole)
  (a8 : Memref sig .tc .vmem S256x1024 .bf16) (h8 : a8.IsWhole)
  (a9 : Memref sig .tc .vmem S256x8 .f32) (h9 : a9.IsWhole)
  (a10 : Memref sig .tc .vmem S256x1024 .f32) (h10 : a10.IsWhole)
  (a11 : Memref sig .tc .vmem S256x1024 .f32) (h11 : a11.IsWhole)
  (a12 : Memref sig .tc .vmem S1x1024 .f32) (h12 : a12.IsWhole)
  (a13 : Memref sig .tc .vmem S1x1024 .f32) (h13 : a13.IsWhole)
  (a14 : Memref sig .tc .vmem S1024x5120 .bf16) (h14 : a14.IsWhole)
  (a15 : Memref sig .tc .vmem S8x1024 .f32) (h15 : a15.IsWhole)
  (a16 : Memref sig .tc .vmem S256x1024 .f32) (h16 : a16.IsWhole)
  (a17 : Memref sig .tc .vmem S1x1024 .f32) (h17 : a17.IsWhole)
  (a18 : Memref sig .tc .vmem S1x1024 .f32) (h18 : a18.IsWhole)
  (a19 : Memref sig .tc .vmem S1x1024 .f32) (h19 : a19.IsWhole)
  (hc : cond0_0 i)
  (x0 : Vec F S256x512 .f32) (x1 : Vec F S256x512 .bf16) (x2 : Vec F S256x512 .bf16) (x3 : Vec F S256x512 .bf16)
  (x4 : Vec F S256x512 .f32) (x5 : Vec F S256x512 .bf16) (x6 : Vec F S256x1024 .bf16) (x7 : Vec F S256x1024 .bf16)
  (x8 : Vec F S256x8 .f32) (x9 : Vec F S256x1024 .f32) (x10 : Vec F S256x1024 .f32) (x11 : Vec F S1x1024 .f32)
  (x12 : Vec F S1x1024 .f32) (x13 : Vec F S1024x5120 .bf16) (x14 : Vec F S8x1024 .f32)

/-- At the first point, the gradient of `x`. -/
theorem out_A_15 : out0_A_15 c i a1 h1 a2 h2 a3 h3 a4 h4 a5 h5 a6 h6 a7 h7 a8 h8 a9 h9 a10 h10 a11 h11 a12 h12 a13 h13 a14 h14 a15 h15 a16 h16 a17 h17 a18 h18 a19 h19 hc
      x0 x1 x2 x3 x4 x5 x6 x7 x8 x9 x10 x11 x12 x13 x14
    = gx (rows x0 x1 x2 x3 x4 x5 x6 x7 x8 x13 x14) x9 x10 x11 x12 := by
  unfold out0_A_15
  refine (View.read_writes_eq_canon _ _ _ fun y => cover0_A_15 ..).trans ?_
  unfold kernelRun0_A
  dsimp only
  sl_unfold_words
  rw [View.canon_unit_zero hz]
  simp only [View.readCov_unit_zero (S := S1x1024) _ hz, View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread,
    View.ld_unit_zero (S := S256x512) hz, View.ld_unit_zero (S := S256x1024) hz, View.ld_unit_zero (S := S256x8) hz, View.ld_unit_zero (S := S1x1024) hz, View.ld_unit_zero (S := S8x1024) hz]
  rfl

/-- At the first point, the gradient of the shift. -/
theorem out_A_16 : out0_A_16 c i a1 h1 a2 h2 a3 h3 a4 h4 a5 h5 a6 h6 a7 h7 a8 h8 a9 h9 a10 h10 a11 h11 a12 h12 a13 h13 a14 h14 a15 h15 a16 h16 a17 h17 a18 h18 a19 h19 hc
      x0 x1 x2 x3 x4 x5 x6 x7 x8 x9 x10 x11 x12 x13 x14
    = k0_pay11 (rows x0 x1 x2 x3 x4 x5 x6 x7 x8 x13 x14) (k0_pay2 (F := F)) := by
  unfold out0_A_16
  refine (View.read_writes_eq_canon _ _ _ fun y => cover0_A_16 ..).trans ?_
  unfold kernelRun0_A
  dsimp only
  sl_unfold_words
  rw [View.canon_cons_unit_zero (S := S1x1024) hz]
  simp only [View.readCov_unit_zero (S := S1x1024) _ hz, View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread,
    View.ld_unit_zero (S := S256x512) hz, View.ld_unit_zero (S := S256x1024) hz, View.ld_unit_zero (S := S256x8) hz, View.ld_unit_zero (S := S1x1024) hz, View.ld_unit_zero (S := S8x1024) hz]
  rfl

/-- At the first point, the gradient of the scale. -/
theorem out_A_17 : out0_A_17 c i a1 h1 a2 h2 a3 h3 a4 h4 a5 h5 a6 h6 a7 h7 a8 h8 a9 h9 a10 h10 a11 h11 a12 h12 a13 h13 a14 h14 a15 h15 a16 h16 a17 h17 a18 h18 a19 h19 hc
      x0 x1 x2 x3 x4 x5 x6 x7 x8 x9 x10 x11 x12 x13 x14
    = k0_pay13 (rows x0 x1 x2 x3 x4 x5 x6 x7 x8 x13 x14) (k0_pay9 x9) x12 (k0_pay3 (F := F)) := by
  unfold out0_A_17
  refine (View.read_writes_eq_canon _ _ _ fun y => cover0_A_17 ..).trans ?_
  unfold kernelRun0_A
  dsimp only
  sl_unfold_words
  rw [View.canon_cons_unit_zero (S := S1x1024) hz]
  simp only [View.readCov_unit_zero (S := S1x1024) _ hz, View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread,
    View.ld_unit_zero (S := S256x512) hz, View.ld_unit_zero (S := S256x1024) hz, View.ld_unit_zero (S := S256x8) hz, View.ld_unit_zero (S := S1x1024) hz, View.ld_unit_zero (S := S8x1024) hz]
  rfl

/-- At the first point, the gradient of the norm's weight. -/
theorem out_A_18 : out0_A_18 c i a1 h1 a2 h2 a3 h3 a4 h4 a5 h5 a6 h6 a7 h7 a8 h8 a9 h9 a10 h10 a11 h11 a12 h12 a13 h13 a14 h14 a15 h15 a16 h16 a17 h17 a18 h18 a19 h19 hc
      x0 x1 x2 x3 x4 x5 x6 x7 x8 x9 x10 x11 x12 x13 x14
    = k0_pay14 (rows x0 x1 x2 x3 x4 x5 x6 x7 x8 x13 x14) (k0_pay9 x9) x11 (k0_pay4 (F := F)) := by
  unfold out0_A_18
  refine (View.read_writes_eq_canon _ _ _ fun y => cover0_A_18 ..).trans ?_
  unfold kernelRun0_A
  dsimp only
  sl_unfold_words
  rw [View.canon_cons_unit_zero (S := S1x1024) hz]
  simp only [View.readCov_unit_zero (S := S1x1024) _ hz, View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread,
    View.ld_unit_zero (S := S256x512) hz, View.ld_unit_zero (S := S256x1024) hz, View.ld_unit_zero (S := S256x8) hz, View.ld_unit_zero (S := S1x1024) hz, View.ld_unit_zero (S := S8x1024) hz]
  rfl

end A

section B
variable (c : Dev nD) (i : grid0.Coords)
  (a1 : Memref sig .tc .vmem S256x512 .f32) (h1 : a1.IsWhole)
  (a2 : Memref sig .tc .vmem S256x512 .bf16) (h2 : a2.IsWhole)
  (a3 : Memref sig .tc .vmem S256x512 .bf16) (h3 : a3.IsWhole)
  (a4 : Memref sig .tc .vmem S256x512 .bf16) (h4 : a4.IsWhole)
  (a5 : Memref sig .tc .vmem S256x512 .f32) (h5 : a5.IsWhole)
  (a6 : Memref sig .tc .vmem S256x512 .bf16) (h6 : a6.IsWhole)
  (a7 : Memref sig .tc .vmem S256x1024 .bf16) (h7 : a7.IsWhole)
  (a8 : Memref sig .tc .vmem S256x1024 .bf16) (h8 : a8.IsWhole)
  (a9 : Memref sig .tc .vmem S256x8 .f32) (h9 : a9.IsWhole)
  (a10 : Memref sig .tc .vmem S256x1024 .f32) (h10 : a10.IsWhole)
  (a11 : Memref sig .tc .vmem S256x1024 .f32) (h11 : a11.IsWhole)
  (a12 : Memref sig .tc .vmem S1x1024 .f32) (h12 : a12.IsWhole)
  (a13 : Memref sig .tc .vmem S1x1024 .f32) (h13 : a13.IsWhole)
  (a14 : Memref sig .tc .vmem S1024x5120 .bf16) (h14 : a14.IsWhole)
  (a15 : Memref sig .tc .vmem S8x1024 .f32) (h15 : a15.IsWhole)
  (a16 : Memref sig .tc .vmem S256x1024 .f32) (h16 : a16.IsWhole)
  (a17 : Memref sig .tc .vmem S1x1024 .f32) (h17 : a17.IsWhole)
  (a18 : Memref sig .tc .vmem S1x1024 .f32) (h18 : a18.IsWhole)
  (a19 : Memref sig .tc .vmem S1x1024 .f32) (h19 : a19.IsWhole)
  (hc : ¬cond0_0 i)
  (x0 : Vec F S256x512 .f32) (x1 : Vec F S256x512 .bf16) (x2 : Vec F S256x512 .bf16) (x3 : Vec F S256x512 .bf16)
  (x4 : Vec F S256x512 .f32) (x5 : Vec F S256x512 .bf16) (x6 : Vec F S256x1024 .bf16) (x7 : Vec F S256x1024 .bf16)
  (x8 : Vec F S256x8 .f32) (x9 : Vec F S256x1024 .f32) (x10 : Vec F S256x1024 .f32) (x11 : Vec F S1x1024 .f32)
  (x12 : Vec F S1x1024 .f32) (x13 : Vec F S1024x5120 .bf16) (x14 : Vec F S8x1024 .f32)
  (xo16 : Vec F S1x1024 .f32) (xo17 : Vec F S1x1024 .f32) (xo18 : Vec F S1x1024 .f32)

/-- At a later point, the gradient of `x`. -/
theorem out_B_15 : out0_B_15 c i a1 h1 a2 h2 a3 h3 a4 h4 a5 h5 a6 h6 a7 h7 a8 h8 a9 h9 a10 h10 a11 h11 a12 h12 a13 h13 a14 h14 a15 h15 a16 h16 a17 h17 a18 h18 a19 h19 hc
      x0 x1 x2 x3 x4 x5 x6 x7 x8 x9 x10 x11 x12 x13 x14 xo16 xo17 xo18
    = gx (rows x0 x1 x2 x3 x4 x5 x6 x7 x8 x13 x14) x9 x10 x11 x12 := by
  unfold out0_B_15
  refine (View.read_writes_eq_canon _ _ _ fun y => cover0_B_15 ..).trans ?_
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h17.read_unread, h18.read_unread, h19.read_unread,
    View.ld_unit_zero (S := S256x512) hz, View.ld_unit_zero (S := S256x1024) hz, View.ld_unit_zero (S := S256x8) hz, View.ld_unit_zero (S := S1x1024) hz, View.ld_unit_zero (S := S8x1024) hz]
  rfl

/-- At a later point, the gradient of the shift. -/
theorem out_B_16 : out0_B_16 c i a1 h1 a2 h2 a3 h3 a4 h4 a5 h5 a6 h6 a7 h7 a8 h8 a9 h9 a10 h10 a11 h11 a12 h12 a13 h13 a14 h14 a15 h15 a16 h16 a17 h17 a18 h18 a19 h19 hc
      x0 x1 x2 x3 x4 x5 x6 x7 x8 x9 x10 x11 x12 x13 x14 xo16 xo17 xo18
    = k0_pay11 (rows x0 x1 x2 x3 x4 x5 x6 x7 x8 x13 x14) xo16 := by
  unfold out0_B_16
  refine (View.read_writes_eq_canon _ _ _ fun y => cover0_B_16 ..).trans ?_
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h17.read_unread, h18.read_unread, h19.read_unread,
    View.ld_unit_zero (S := S256x512) hz, View.ld_unit_zero (S := S256x1024) hz, View.ld_unit_zero (S := S256x8) hz, View.ld_unit_zero (S := S1x1024) hz, View.ld_unit_zero (S := S8x1024) hz]
  rfl

/-- At a later point, the gradient of the scale. -/
theorem out_B_17 : out0_B_17 c i a1 h1 a2 h2 a3 h3 a4 h4 a5 h5 a6 h6 a7 h7 a8 h8 a9 h9 a10 h10 a11 h11 a12 h12 a13 h13 a14 h14 a15 h15 a16 h16 a17 h17 a18 h18 a19 h19 hc
      x0 x1 x2 x3 x4 x5 x6 x7 x8 x9 x10 x11 x12 x13 x14 xo16 xo17 xo18
    = k0_pay13 (rows x0 x1 x2 x3 x4 x5 x6 x7 x8 x13 x14) (k0_pay9 x9) x12 xo17 := by
  unfold out0_B_17
  refine (View.read_writes_eq_canon _ _ _ fun y => cover0_B_17 ..).trans ?_
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h17.read_unread, h18.read_unread, h19.read_unread,
    View.ld_unit_zero (S := S256x512) hz, View.ld_unit_zero (S := S256x1024) hz, View.ld_unit_zero (S := S256x8) hz, View.ld_unit_zero (S := S1x1024) hz, View.ld_unit_zero (S := S8x1024) hz]
  rfl

/-- At a later point, the gradient of the norm's weight. -/
theorem out_B_18 : out0_B_18 c i a1 h1 a2 h2 a3 h3 a4 h4 a5 h5 a6 h6 a7 h7 a8 h8 a9 h9 a10 h10 a11 h11 a12 h12 a13 h13 a14 h14 a15 h15 a16 h16 a17 h17 a18 h18 a19 h19 hc
      x0 x1 x2 x3 x4 x5 x6 x7 x8 x9 x10 x11 x12 x13 x14 xo16 xo17 xo18
    = k0_pay14 (rows x0 x1 x2 x3 x4 x5 x6 x7 x8 x13 x14) (k0_pay9 x9) x11 xo18 := by
  unfold out0_B_18
  refine (View.read_writes_eq_canon _ _ _ fun y => cover0_B_18 ..).trans ?_
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h17.read_unread, h18.read_unread, h19.read_unread,
    View.ld_unit_zero (S := S256x512) hz, View.ld_unit_zero (S := S256x1024) hz, View.ld_unit_zero (S := S256x8) hz, View.ld_unit_zero (S := S1x1024) hz, View.ld_unit_zero (S := S8x1024) hz]
  rfl

end B

end Cert.ProjProof.Out

end
-- ==== Proof.ProjBlock.lean ====
/- The projection backward kernel's block, read at an index over the extended reals. -/
module

public import proofs.«01_k».proof.Proof.ProjOut
public import Idealize.ShloMosaic.Lib.Pointwise
public import Idealize.ShloMosaic.PureOps.Ideal.Laws

@[expose] public section

set_option maxRecDepth 16384

noncomputable section

namespace Cert.ProjProof.Block

open Cert.ProjIdeal Cert.ProjIdeal.Gen Cert.ProjProof.Out Idealize.ShloMosaic Idealize.ShloMosaic.TcCoe

/-- A range of 512 columns of the weight, read at an index. -/
theorem cut_512 {n : ℕ} (w : Vec Ideal S1024x5120 .bf16) (inb : ∀ a, (![0, n] : Fin 2 → ℕ) a + S1024x512.size a ≤ S1024x5120.size a)
    (h : n + 512 ≤ 5120) (d : Fin 1024) (k : Fin 512) :
    View.ld w (Rect.unit (s := S1024x5120) ![0, n] S1024x512.size inb) (ix2 d k) = w (ix2 d ⟨n + k.val, by omega⟩) :=
  congrArg w (funext fun a => Fin.ext (by fin_cases a <;> simp [ix2]))

/-- A range of 1024 columns of the weight, read at an index. -/
theorem cut_1024 {n : ℕ} (w : Vec Ideal S1024x5120 .bf16) (inb : ∀ a, (![0, n] : Fin 2 → ℕ) a + S1024x1024.size a ≤ S1024x5120.size a)
    (h : n + 1024 ≤ 5120) (d : Fin 1024) (k : Fin 1024) :
    View.ld w (Rect.unit (s := S1024x5120) ![0, n] S1024x1024.size inb) (ix2 d k) = w (ix2 d ⟨n + k.val, by omega⟩) :=
  congrArg w (funext fun a => Fin.ext (by fin_cases a <;> simp [ix2]))

theorem pay5_apply (x0 : Vec Ideal S256x512 .f32) (w0 : Vec Ideal S1024x512 .bf16) (x1 : Vec Ideal S256x512 .bf16)
    (w1 : Vec Ideal S1024x512 .bf16) (x2 : Vec Ideal S256x512 .bf16) (w2 : Vec Ideal S1024x512 .bf16)
    (x3 : Vec Ideal S256x512 .bf16) (w3 : Vec Ideal S1024x512 .bf16) (r : Fin 256) (d : Fin 1024) :
    (k0_pay5 (F := Ideal) x0 w0 x1 w1 x2 w2 x3 w3 (ix2 r d) : EReal)
      = (∑ k : Fin 512, x0 (ix2 r k) * w0 (ix2 d k)) + (∑ k : Fin 512, x1 (ix2 r k) * w1 (ix2 d k))
        + (∑ k : Fin 512, x2 (ix2 r k) * w2 (ix2 d k)) + (∑ k : Fin 512, x3 (ix2 r k) * w3 (ix2 d k)) := by
  pointwise [k0_pay5]

theorem pay6_apply (x : Vec Ideal S256x512 .f32) (w : Vec Ideal S1024x512 .bf16) (r : Fin 256) (d : Fin 1024) :
    (k0_pay6 (F := Ideal) x w (ix2 r d) : EReal) = ∑ k : Fin 512, x (ix2 r k) * w (ix2 d k) := by
  pointwise [k0_pay6]

theorem pay7_apply (a b : FVec Ideal S256x1024 .f32) (x5 : Vec Ideal S256x512 .bf16) (w5 : Vec Ideal S1024x512 .bf16)
    (x6 : Vec Ideal S256x1024 .bf16) (w6 : Vec Ideal S1024x1024 .bf16) (x7 : Vec Ideal S256x1024 .bf16)
    (w7 : Vec Ideal S1024x1024 .bf16) (x8 : Vec Ideal S256x8 .f32) (w8 : Vec Ideal S8x1024 .f32) (r : Fin 256) (d : Fin 1024) :
    (k0_pay7 (F := Ideal) a b x5 w5 x6 w6 x7 w7 x8 w8 (ix2 r d) : EReal)
      = a (ix2 r d) + b (ix2 r d) + (∑ k : Fin 512, x5 (ix2 r k) * w5 (ix2 d k))
        + (∑ k : Fin 1024, x6 (ix2 r k) * w6 (ix2 d k)) + (∑ k : Fin 1024, x7 (ix2 r k) * w7 (ix2 d k))
        + (∑ k : Fin 8, x8 (ix2 r k) * w8 (ix2 k d)) := by
  pointwise [k0_pay7]

/-- The small constant under the norm's square root. -/
def eps : EReal := Ideal.ofBits FTy.f32 0x358637BD#32

/-- The reciprocal root of a row's mean square. -/
def inv (x : Fin 1024 → EReal) : EReal := Ideal.rsqrt (Ideal.div (∑ d, x d * x d) (Ideal.ofBits FTy.f32 0x44800000#32) + eps)

theorem pay8_apply (x : Vec Ideal S256x1024 .f32) (r : Fin 256) :
    (k0_pay8 (F := Ideal) x (ix2 r 0) : EReal) = inv fun d => x (ix2 r d) := by
  pointwise [k0_pay8]
  rfl

theorem pay9_apply (x : Vec Ideal S256x1024 .f32) (r : Fin 256) (d : Fin 1024) :
    (k0_pay9 (F := Ideal) x (ix2 r d) : EReal) = x (ix2 r d) * inv fun d => x (ix2 r d) := by
  rw [← pay8_apply]
  unfold k0_pay9
  pointwise []

theorem pay11_apply (g : FVec Ideal S256x1024 .f32) (a : Vec Ideal S1x1024 .f32) (d : Fin 1024) :
    (k0_pay11 (F := Ideal) g a (ix2 0 d) : EReal) = a (ix2 0 d) + ∑ r : Fin 256, g (ix2 r d) := by
  pointwise [k0_pay11]

theorem pay13_apply (g : FVec Ideal S256x1024 .f32) (n : FVec Ideal S256x1024 .f32) (w : Vec Ideal S1x1024 .f32)
    (a : Vec Ideal S1x1024 .f32) (d : Fin 1024) :
    (k0_pay13 (F := Ideal) g n w a (ix2 0 d) : EReal) = a (ix2 0 d) + (∑ r : Fin 256, g (ix2 r d) * n (ix2 r d)) * w (ix2 0 d) := by
  pointwise [k0_pay13, k0_pay12]

theorem pay14_apply (g : FVec Ideal S256x1024 .f32) (n : FVec Ideal S256x1024 .f32) (s : Vec Ideal S1x1024 .f32)
    (a : Vec Ideal S1x1024 .f32) (d : Fin 1024) :
    (k0_pay14 (F := Ideal) g n s a (ix2 0 d) : EReal)
      = a (ix2 0 d) + (∑ r : Fin 256, g (ix2 r d) * n (ix2 r d)) * (1 + s (ix2 0 d)) := by
  pointwise [k0_pay14, k0_pay12, k0_pay10]

theorem pay15_apply (g : FVec Ideal S256x1024 .f32) (w s : Vec Ideal S1x1024 .f32) (r : Fin 256) (d : Fin 1024) :
    (k0_pay15 (F := Ideal) g w s (ix2 r d) : EReal) = g (ix2 r d) * (w (ix2 0 d) * (1 + s (ix2 0 d))) := by
  pointwise [k0_pay15, k0_pay10]

theorem pay16_apply (g n : FVec Ideal S256x1024 .f32) (w s : Vec Ideal S1x1024 .f32) (r : Fin 256) :
    (k0_pay16 (F := Ideal) g n w s (ix2 r 0) : EReal)
      = ∑ d : Fin 1024, g (ix2 r d) * (w (ix2 0 d) * (1 + s (ix2 0 d))) * n (ix2 r d) := by
  simp only [← pay15_apply g w s]
  unfold k0_pay16
  pointwise []

theorem pay1_apply (v : FVec Ideal S256x1 .f32) (n g : FVec Ideal S256x1024 .f32) (x : Vec Ideal S256x1024 .f32)
    (t u : FVec Ideal S256x1 .f32) (r : Fin 256) (d : Fin 1024) :
    (k0_pay1 (F := Ideal) v n g x t u (ix2 r d) : EReal)
      = x (ix2 r d) + v (ix2 r 0) * (g (ix2 r d) - n (ix2 r d) * Ideal.div (t (ix2 r 0)) (u (ix2 r 0))) := by
  pointwise [k0_pay1]

theorem pay17_apply (r : Fin 256) : (k0_pay17 (F := Ideal) (ix2 r 0) : EReal) = Ideal.ofBits FTy.f32 0x44800000#32 := by
  pointwise [k0_pay17]

theorem pay2_apply (j : S1x1024.Idx) : (k0_pay2 (F := Ideal) j : EReal) = 0 := by
  pointwise [k0_pay2]

theorem pay3_apply (j : S1x1024.Idx) : (k0_pay3 (F := Ideal) j : EReal) = 0 := by
  pointwise [k0_pay3]

theorem pay4_apply (j : S1x1024.Idx) : (k0_pay4 (F := Ideal) j : EReal) = 0 := by
  pointwise [k0_pay4]

end Cert.ProjProof.Block

end
-- ==== Proof.ProjHost.lean ====
/- The arrays the projection backward kernel reads, from the arguments it is called on. -/
module

public import proofs.«01_k».proof.Proof.ProjBlock
public import Idealize.ShloMosaic.Lib.Pipeline.ValueKit
public import Idealize.ShloMosaic.Lib.StableHlo.ReadAt

@[expose] public section

set_option maxRecDepth 16384

noncomputable section

namespace Cert.ProjProof.Host

open Cert.ProjIdeal Cert.ProjIdeal.Gen Idealize.ShloMosaic Idealize.ShloMosaic.TcCoe

variable (m : (ℓ : Loc nD τ sig) → Buf (Elt Ideal) ℓ) (c : Dev nD)

/-! The arguments: rows, shift, scale, the norm's weight, the weight, the residual's cotangent, and the cotangents of the
nine parts of the projection. -/

abbrev argX : Vec Ideal S8192x1024 .f32 := m (c, Proc.tc.devRef main_arg0)
abbrev argH : Vec Ideal S1x1024 .f32 := m (c, Proc.tc.devRef main_arg1)
abbrev argS : Vec Ideal S1x1024 .f32 := m (c, Proc.tc.devRef main_arg2)
abbrev argG : Vec Ideal S1x1024 .f32 := m (c, Proc.tc.devRef main_arg3)
abbrev argW : Vec Ideal S1024x5128 .f32 := m (c, Proc.tc.devRef main_arg4)
abbrev argD : Vec Ideal S8192x1024 .f32 := m (c, Proc.tc.devRef main_arg5)
abbrev argQ : Vec Ideal S8192x512 .f32 := m (c, Proc.tc.devRef main_arg6)
abbrev argK : Vec Ideal S8192x512 .f32 := m (c, Proc.tc.devRef main_arg7)
abbrev argV : Vec Ideal S8192x512 .f32 := m (c, Proc.tc.devRef main_arg8)
abbrev argF : Vec Ideal S8192x8 .f32 := m (c, Proc.tc.devRef main_arg9)
abbrev argZa : Vec Ideal S8192x512 .f32 := m (c, Proc.tc.devRef main_arg10)
abbrev argU : Vec Ideal S8192x512 .f32 := m (c, Proc.tc.devRef main_arg11)
abbrev argZb : Vec Ideal S8192x512 .f32 := m (c, Proc.tc.devRef main_arg12)
abbrev argGa : Vec Ideal S8192x1024 .f32 := m (c, Proc.tc.devRef main_arg13)
abbrev argGb : Vec Ideal S8192x1024 .f32 := m (c, Proc.tc.devRef main_arg14)

/-- The row of the arrays that is row `r` of the block at point `t`. -/
def row (t : Fin cfg0.N) (r : Fin 256) : Fin 8192 :=
  ⟨256 * t.val + r.val, by have : t.val < 32 := lt_of_lt_of_eq t.isLt N_0; omega⟩

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![t.val, 0] := by decide +kernel
theorem idx9 : ∀ t : Fin cfg0.N, win0_9.index t = ![t.val, 0] := by decide +kernel
theorem idx10 : ∀ t : Fin cfg0.N, win0_10.index t = ![t.val, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![0, 0] := by decide +kernel
theorem idx14 : ∀ t : Fin cfg0.N, win0_14.index t = ![0, 0] := by decide +kernel
theorem idx15 : ∀ t : Fin cfg0.N, win0_15.index t = ![t.val, 0] := by decide +kernel
theorem idx16 : ∀ t : Fin cfg0.N, win0_16.index t = ![0, 0] := by decide +kernel
theorem idx17 : ∀ t : Fin cfg0.N, win0_17.index t = ![0, 0] := by decide +kernel
theorem idx18 : ∀ t : Fin cfg0.N, win0_18.index t = ![0, 0] := by decide +kernel

/-! A window's block at a point, of any array. -/

theorem read0 (A : Vec Ideal S8192x512 .f32) (t : Fin cfg0.N) (r : Fin 256) (k : Fin 512) :
    (((cfg0.win 0).blk t).view.read (Elt Ideal) A : _) (ix2 r k) = A (ix2 (row t r) k) := by
  blk_ext [idx0 t, row]
theorem read1 (A : Vec Ideal S8192x512 .bf16) (t : Fin cfg0.N) (r : Fin 256) (k : Fin 512) :
    (((cfg0.win 1).blk t).view.read (Elt Ideal) A : _) (ix2 r k) = A (ix2 (row t r) k) := by
  blk_ext [idx1 t, row]
theorem read2 (A : Vec Ideal S8192x512 .bf16) (t : Fin cfg0.N) (r : Fin 256) (k : Fin 512) :
    (((cfg0.win 2).blk t).view.read (Elt Ideal) A : _) (ix2 r k) = A (ix2 (row t r) k) := by
  blk_ext [idx2 t, row]
theorem read3 (A : Vec Ideal S8192x512 .bf16) (t : Fin cfg0.N) (r : Fin 256) (k : Fin 512) :
    (((cfg0.win 3).blk t).view.read (Elt Ideal) A : _) (ix2 r k) = A (ix2 (row t r) k) := by
  blk_ext [idx3 t, row]
theorem read4 (A : Vec Ideal S8192x512 .f32) (t : Fin cfg0.N) (r : Fin 256) (k : Fin 512) :
    (((cfg0.win 4).blk t).view.read (Elt Ideal) A : _) (ix2 r k) = A (ix2 (row t r) k) := by
  blk_ext [idx4 t, row]
theorem read5 (A : Vec Ideal S8192x512 .bf16) (t : Fin cfg0.N) (r : Fin 256) (k : Fin 512) :
    (((cfg0.win 5).blk t).view.read (Elt Ideal) A : _) (ix2 r k) = A (ix2 (row t r) k) := by
  blk_ext [idx5 t, row]
theorem read6 (A : Vec Ideal S8192x1024 .bf16) (t : Fin cfg0.N) (r : Fin 256) (k : Fin 1024) :
    (((cfg0.win 6).blk t).view.read (Elt Ideal) A : _) (ix2 r k) = A (ix2 (row t r) k) := by
  blk_ext [idx6 t, row]
theorem read7 (A : Vec Ideal S8192x1024 .bf16) (t : Fin cfg0.N) (r : Fin 256) (k : Fin 1024) :
    (((cfg0.win 7).blk t).view.read (Elt Ideal) A : _) (ix2 r k) = A (ix2 (row t r) k) := by
  blk_ext [idx7 t, row]
theorem read8 (A : Vec Ideal S8192x8 .f32) (t : Fin cfg0.N) (r : Fin 256) (k : Fin 8) :
    (((cfg0.win 8).blk t).view.read (Elt Ideal) A : _) (ix2 r k) = A (ix2 (row t r) k) := by
  blk_ext [idx8 t, row]
theorem read9 (A : Vec Ideal S8192x1024 .f32) (t : Fin cfg0.N) (r : Fin 256) (k : Fin 1024) :
    (((cfg0.win 9).blk t).view.read (Elt Ideal) A : _) (ix2 r k) = A (ix2 (row t r) k) := by
  blk_ext [idx9 t, row]
theorem read10 (A : Vec Ideal S8192x1024 .f32) (t : Fin cfg0.N) (r : Fin 256) (k : Fin 1024) :
    (((cfg0.win 10).blk t).view.read (Elt Ideal) A : _) (ix2 r k) = A (ix2 (row t r) k) := by
  blk_ext [idx10 t, row]
theorem read11 (A : Vec Ideal S1x1024 .f32) (t : Fin cfg0.N) (r : Fin 1) (k : Fin 1024) :
    (((cfg0.win 11).blk t).view.read (Elt Ideal) A : _) (ix2 r k) = A (ix2 r k) := by
  blk_ext [idx11 t]
theorem read12 (A : Vec Ideal S1x1024 .f32) (t : Fin cfg0.N) (r : Fin 1) (k : Fin 1024) :
    (((cfg0.win 12).blk t).view.read (Elt Ideal) A : _) (ix2 r k) = A (ix2 r k) := by
  blk_ext [idx12 t]
theorem read13 (A : Vec Ideal S1024x5120 .bf16) (t : Fin cfg0.N) (r : Fin 1024) (k : Fin 5120) :
    (((cfg0.win 13).blk t).view.read (Elt Ideal) A : _) (ix2 r k) = A (ix2 r k) := by
  blk_ext [idx13 t]
theorem read14 (A : Vec Ideal S8x1024 .f32) (t : Fin cfg0.N) (r : Fin 8) (k : Fin 1024) :
    (((cfg0.win 14).blk t).view.read (Elt Ideal) A : _) (ix2 r k) = A (ix2 r k) := by
  blk_ext [idx14 t]

/-! The blocks of the arguments. -/

theorem block0 (t : Fin cfg0.N) (r : Fin 256) (k : Fin 512) :
    (iblk m c 0 t (ix2 r k) : EReal) = argQ m c (ix2 (row t r) k) :=
  (read0 (V m c main_arg6) t r k).trans (congrFun (V_main_arg6 m c) _)
theorem block1 (t : Fin cfg0.N) (r : Fin 256) (k : Fin 512) :
    (iblk m c 1 t (ix2 r k) : EReal) = argK m c (ix2 (row t r) k) := by
  refine (read1 (V m c main_v7) t r k).trans ?_
  unfold V
  after_reads_at
theorem block2 (t : Fin cfg0.N) (r : Fin 256) (k : Fin 512) :
    (iblk m c 2 t (ix2 r k) : EReal) = argV m c (ix2 (row t r) k) := by
  refine (read2 (V m c main_v8) t r k).trans ?_
  unfold V
  after_reads_at
theorem block3 (t : Fin cfg0.N) (r : Fin 256) (k : Fin 512) :
    (iblk m c 3 t (ix2 r k) : EReal) = argZa m c (ix2 (row t r) k) := by
  refine (read3 (V m c main_v9) t r k).trans ?_
  unfold V
  after_reads_at
theorem block4 (t : Fin cfg0.N) (r : Fin 256) (k : Fin 512) :
    (iblk m c 4 t (ix2 r k) : EReal) = argU m c (ix2 (row t r) k) :=
  (read4 (V m c main_arg11) t r k).trans (congrFun (V_main_arg11 m c) _)
theorem block5 (t : Fin cfg0.N) (r : Fin 256) (k : Fin 512) :
    (iblk m c 5 t (ix2 r k) : EReal) = argZb m c (ix2 (row t r) k) := by
  refine (read5 (V m c main_v10) t r k).trans ?_
  unfold V
  after_reads_at
theorem block6 (t : Fin cfg0.N) (r : Fin 256) (k : Fin 1024) :
    (iblk m c 6 t (ix2 r k) : EReal) = argGa m c (ix2 (row t r) k) := by
  refine (read6 (V m c main_v11) t r k).trans ?_
  unfold V
  after_reads_at
theorem block7 (t : Fin cfg0.N) (r : Fin 256) (k : Fin 1024) :
    (iblk m c 7 t (ix2 r k) : EReal) = argGb m c (ix2 (row t r) k) := by
  refine (read7 (V m c main_v12) t r k).trans ?_
  unfold V
  after_reads_at
theorem block8 (t : Fin cfg0.N) (r : Fin 256) (k : Fin 8) :
    (iblk m c 8 t (ix2 r k) : EReal) = argF m c (ix2 (row t r) k) :=
  (read8 (V m c main_arg9) t r k).trans (congrFun (V_main_arg9 m c) _)
theorem block9 (t : Fin cfg0.N) (r : Fin 256) (k : Fin 1024) :
    (iblk m c 9 t (ix2 r k) : EReal) = argX m c (ix2 (row t r) k) :=
  (read9 (V m c main_arg0) t r k).trans (congrFun (V_main_arg0 m c) _)
theorem block10 (t : Fin cfg0.N) (r : Fin 256) (k : Fin 1024) :
    (iblk m c 10 t (ix2 r k) : EReal) = argD m c (ix2 (row t r) k) :=
  (read10 (V m c main_arg5) t r k).trans (congrFun (V_main_arg5 m c) _)
theorem block11 (t : Fin cfg0.N) (k : Fin 1024) :
    (iblk m c 11 t (ix2 0 k) : EReal) = argS m c (ix2 0 k) :=
  (read11 (V m c main_arg2) t 0 k).trans (congrFun (V_main_arg2 m c) _)
theorem block12 (t : Fin cfg0.N) (k : Fin 1024) :
    (iblk m c 12 t (ix2 0 k) : EReal) = argG m c (ix2 0 k) :=
  (read12 (V m c main_arg3) t 0 k).trans (congrFun (V_main_arg3 m c) _)

/-- The weight without the forget gate's columns, before them. -/
theorem block13_low (t : Fin cfg0.N) (d : Fin 1024) (k : Fin 5120) (h : k.val < 1536) :
    (iblk m c 13 t (ix2 d k) : EReal) = argW m c (ix2 d ⟨k.val, by omega⟩) := by
  refine (read13 (V m c main_v3) t d k).trans ?_
  unfold V
  after_reads_at
  pointwise []
  rw [dif_pos h]

/-- The weight without the forget gate's columns, after them. -/
theorem block13_high (t : Fin cfg0.N) (d : Fin 1024) (k : Fin 5120) (h : ¬ k.val < 1536) :
    (iblk m c 13 t (ix2 d k) : EReal) = argW m c (ix2 d ⟨k.val + 8, by omega⟩) := by
  refine (read13 (V m c main_v3) t d k).trans ?_
  unfold V
  after_reads_at
  pointwise []
  rw [dif_neg h]
  congr 3
  omega

/-- The forget gate's columns of the weight, as rows. -/
theorem block14 (t : Fin cfg0.N) (k : Fin 8) (d : Fin 1024) :
    (iblk m c 14 t (ix2 k d) : EReal) = argW m c (ix2 d ⟨1536 + k.val, by omega⟩) := by
  refine (read14 (V m c main_v6) t k d).trans ?_
  unfold V
  after_reads_at

end Cert.ProjProof.Host

end
-- ==== Proof.ProjArray.lean ====
/- The four result arrays of the projection backward kernel, as sums over its arguments. -/
module

public import proofs.«01_k».proof.Proof.ProjHost

@[expose] public section

set_option maxRecDepth 16384

noncomputable section

namespace Cert.ProjProof.Array

open Cert.ProjIdeal Cert.ProjIdeal.Gen Cert.ProjProof.Out Cert.ProjProof.Block Cert.ProjProof.Host Idealize.ShloMosaic Idealize.ShloMosaic.TcCoe

variable (m : (ℓ : Loc nD τ sig) → Buf (Elt Ideal) ℓ) (c : Dev nD)

/-- The weight's entry `d` of column `j`. -/
def wt (d : Fin 1024) (j : Fin 5128) : EReal := argW m c (ix2 d j)

/-- The gradient of the modulated row `R` at `d`: the cotangent of each part of the projection against its columns of the weight. -/
def dh (R : Fin 8192) (d : Fin 1024) : EReal :=
  (∑ k : Fin 512, argQ m c (ix2 R k) * wt m c d ⟨k.val, by omega⟩)
    + (∑ k : Fin 512, argK m c (ix2 R k) * wt m c d ⟨512 + k.val, by omega⟩)
    + (∑ k : Fin 512, argV m c (ix2 R k) * wt m c d ⟨1024 + k.val, by omega⟩)
    + (∑ k : Fin 512, argZa m c (ix2 R k) * wt m c d ⟨1544 + k.val, by omega⟩)
    + (∑ k : Fin 512, argU m c (ix2 R k) * wt m c d ⟨2056 + k.val, by omega⟩)
    + (∑ k : Fin 512, argZb m c (ix2 R k) * wt m c d ⟨2568 + k.val, by omega⟩)
    + (∑ k : Fin 1024, argGa m c (ix2 R k) * wt m c d ⟨3080 + k.val, by omega⟩)
    + (∑ k : Fin 1024, argGb m c (ix2 R k) * wt m c d ⟨4104 + k.val, by omega⟩)
    + (∑ k : Fin 8, argF m c (ix2 R k) * wt m c d ⟨1536 + k.val, by omega⟩)

theorem low (t : Fin cfg0.N) (d : Fin 1024) (k : Fin 5120) (j : Fin 5128) (h : k.val < 1536) (hj : k.val = j.val) :
    (iblk m c 13 t (ix2 d k) : EReal) = wt m c d j :=
  (block13_low m c t d k h).trans (congrArg (fun j => wt m c d j) (Fin.ext hj))

theorem high (t : Fin cfg0.N) (d : Fin 1024) (k : Fin 5120) (j : Fin 5128) (h : ¬ k.val < 1536) (hj : k.val + 8 = j.val) :
    (iblk m c 13 t (ix2 d k) : EReal) = wt m c d j :=
  (block13_high m c t d k h).trans (congrArg (fun j => wt m c d j) (Fin.ext hj))

/-- What the body computes from the blocks at point `t` is the gradient of the block's modulated rows. -/
abbrev blockRows (t : Fin cfg0.N) : FVec Ideal S256x1024 .f32 :=
  rows (iblk m c 0 t) (iblk m c 1 t) (iblk m c 2 t) (iblk m c 3 t) (iblk m c 4 t) (iblk m c 5 t) (iblk m c 6 t) (iblk m c 7 t)
    (iblk m c 8 t) (iblk m c 13 t) (iblk m c 14 t)

theorem rows_at (t : Fin cfg0.N) (r : Fin 256) (d : Fin 1024) : (blockRows m c t (ix2 r d) : EReal) = dh m c (row t r) d := by
  unfold blockRows rows
  rw [pay7_apply, pay5_apply, pay6_apply]
  unfold dh
  refine congrArg₂ (· + ·) (congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_) ?_
  · refine Finset.sum_congr rfl fun k _ => ?_
    rw [cut_512 _ _ (by omega), block0, low m c t d _ ⟨k.val, by omega⟩ (by show 0 + k.val < _; omega) (Nat.zero_add _)]
  · refine Finset.sum_congr rfl fun k _ => ?_
    rw [cut_512 _ _ (by omega), block1, low m c t d _ ⟨512 + k.val, by omega⟩ (by show 512 + k.val < _; omega) rfl]
  · refine Finset.sum_congr rfl fun k _ => ?_
    rw [cut_512 _ _ (by omega), block2, low m c t d _ ⟨1024 + k.val, by omega⟩ (by show 1024 + k.val < _; omega) rfl]
  · refine Finset.sum_congr rfl fun k _ => ?_
    rw [cut_512 _ _ (by omega), block3, high m c t d _ ⟨1544 + k.val, by omega⟩ (by show ¬ 1536 + k.val < _; omega)
      (by show 1536 + k.val + 8 = 1544 + k.val; omega)]
  · refine Finset.sum_congr rfl fun k _ => ?_
    rw [cut_512 _ _ (by omega), block4, high m c t d _ ⟨2056 + k.val, by omega⟩ (by show ¬ 2048 + k.val < _; omega)
      (by show 2048 + k.val + 8 = 2056 + k.val; omega)]
  · refine Finset.sum_congr rfl fun k _ => ?_
    rw [cut_512 _ _ (by omega), block5, high m c t d _ ⟨2568 + k.val, by omega⟩ (by show ¬ 2560 + k.val < _; omega)
      (by show 2560 + k.val + 8 = 2568 + k.val; omega)]
  · refine Finset.sum_congr rfl fun k _ => ?_
    rw [cut_1024 _ _ (by omega), block6, high m c t d _ ⟨3080 + k.val, by omega⟩ (by show ¬ 3072 + k.val < _; omega)
      (by show 3072 + k.val + 8 = 3080 + k.val; omega)]
  · refine Finset.sum_congr rfl fun k _ => ?_
    rw [cut_1024 _ _ (by omega), block7, high m c t d _ ⟨4104 + k.val, by omega⟩ (by show ¬ 4096 + k.val < _; omega)
      (by show 4096 + k.val + 8 = 4104 + k.val; omega)]
  · refine Finset.sum_congr rfl fun k _ => ?_
    rw [block8, block14]
    rfl

/-- The reciprocal root of row `R`'s mean square, and the normalised row. -/
def rinv (R : Fin 8192) : EReal := inv fun d => argX m c (ix2 R d)
def xn (R : Fin 8192) (d : Fin 1024) : EReal := argX m c (ix2 R d) * rinv m c R

/-- The norm's weight, and one more than the scale. -/
def gn (d : Fin 1024) : EReal := argG m c (ix2 0 d)
def s1 (d : Fin 1024) : EReal := 1 + (argS m c (ix2 0 d) : EReal)

/-- The gradient of the normalised row. -/
def dxn (R : Fin 8192) (d : Fin 1024) : EReal := dh m c R d * (gn m c d * s1 m c d)

/-- The gradient of `x`, as the kernel writes it. -/
def gradX (R : Fin 8192) (d : Fin 1024) : EReal :=
  argD m c (ix2 R d) + rinv m c R * (dxn m c R d
    - xn m c R d * Ideal.div (∑ e : Fin 1024, dxn m c R e * xn m c R e) (Ideal.ofBits FTy.f32 0x44800000#32))

theorem inv_at (t : Fin cfg0.N) (r : Fin 256) : (inv fun d => (iblk m c 9 t (ix2 r d) : EReal)) = rinv m c (row t r) := by
  unfold rinv
  exact congrArg inv (funext fun d => block9 m c t r d)

theorem xn_at (t : Fin cfg0.N) (r : Fin 256) (d : Fin 1024) : (k0_pay9 (F := Ideal) (iblk m c 9 t) (ix2 r d) : EReal) = xn m c (row t r) d := by
  rw [pay9_apply, inv_at, block9]
  rfl

theorem pay15_at (t : Fin cfg0.N) (r : Fin 256) (d : Fin 1024) :
    (k0_pay15 (F := Ideal) (blockRows m c t) (iblk m c 12 t) (iblk m c 11 t) (ix2 r d) : EReal) = dxn m c (row t r) d := by
  rw [pay15_apply, rows_at, block12, block11]
  rfl

/-- What a point leaves in the block of the gradient of `x`. -/
theorem gx_at (t : Fin cfg0.N) (r : Fin 256) (d : Fin 1024) :
    (gx (F := Ideal) (blockRows m c t) (iblk m c 9 t) (iblk m c 10 t) (iblk m c 11 t) (iblk m c 12 t) (ix2 r d) : EReal)
      = gradX m c (row t r) d := by
  unfold gx
  rw [pay1_apply, pay8_apply, inv_at, xn_at, pay15_at, pay17_apply, block10]
  have e : (k0_pay16 (F := Ideal) (blockRows m c t) (k0_pay9 (iblk m c 9 t)) (iblk m c 12 t) (iblk m c 11 t) (ix2 r 0) : EReal)
      = ∑ e : Fin 1024, dxn m c (row t r) e * xn m c (row t r) e := by
    rw [pay16_apply]
    refine Finset.sum_congr rfl fun e _ => ?_
    rw [← pay15_apply, pay15_at, xn_at]
  rw [e]
  rfl

/-- The sums a point adds to the three row gradients. -/
def sumH (t : Fin cfg0.N) (d : Fin 1024) : EReal := ∑ r : Fin 256, dh m c (row t r) d
def sumX (t : Fin cfg0.N) (d : Fin 1024) : EReal := ∑ r : Fin 256, dh m c (row t r) d * xn m c (row t r) d

theorem pay11_at (t : Fin cfg0.N) (a : Vec Ideal S1x1024 .f32) (d : Fin 1024) :
    (k0_pay11 (F := Ideal) (blockRows m c t) a (ix2 0 d) : EReal) = a (ix2 0 d) + sumH m c t d := by
  rw [pay11_apply]
  exact congrArg _ (Finset.sum_congr rfl fun r _ => rows_at m c t r d)

theorem sumX_at (t : Fin cfg0.N) (d : Fin 1024) :
    (∑ r : Fin 256, (blockRows m c t (ix2 r d) : EReal) * k0_pay9 (F := Ideal) (iblk m c 9 t) (ix2 r d)) = sumX m c t d :=
  Finset.sum_congr rfl fun r _ => by rw [rows_at, xn_at]

theorem pay13_at (t : Fin cfg0.N) (a : Vec Ideal S1x1024 .f32) (d : Fin 1024) :
    (k0_pay13 (F := Ideal) (blockRows m c t) (k0_pay9 (iblk m c 9 t)) (iblk m c 12 t) a (ix2 0 d) : EReal)
      = a (ix2 0 d) + sumX m c t d * gn m c d := by
  rw [pay13_apply, sumX_at, block12]
  rfl

theorem pay14_at (t : Fin cfg0.N) (a : Vec Ideal S1x1024 .f32) (d : Fin 1024) :
    (k0_pay14 (F := Ideal) (blockRows m c t) (k0_pay9 (iblk m c 9 t)) (iblk m c 11 t) a (ix2 0 d) : EReal)
      = a (ix2 0 d) + sumX m c t d * s1 m c d := by
  rw [pay14_apply, sumX_at, block11]
  rfl

/-- What a point adds, by the point's number. -/
def part (f : Fin cfg0.N → Fin 1024 → EReal) (d : Fin 1024) (n : ℕ) : EReal := if h : n < cfg0.N then f ⟨n, h⟩ d else 0

theorem part_at (f : Fin cfg0.N → Fin 1024 → EReal) (d : Fin 1024) (n : ℕ) (h : n < cfg0.N) : part f d n = f ⟨n, h⟩ d := dif_pos h

/-- After point `n` the three row gradients hold what the points up to it added. -/
theorem acc (d : Fin 1024) : ∀ (n : ℕ) (hn : n < cfg0.N),
    ((outsAt0 m c n hn).2.1 (ix2 0 d) : EReal) = ∑ t ∈ Finset.range (n + 1), part (sumH m c) d t
    ∧ ((outsAt0 m c n hn).2.2.1 (ix2 0 d) : EReal) = ∑ t ∈ Finset.range (n + 1), part (fun t d => sumX m c t d * gn m c d) d t
    ∧ ((outsAt0 m c n hn).2.2.2 (ix2 0 d) : EReal) = ∑ t ∈ Finset.range (n + 1), part (fun t d => sumX m c t d * s1 m c d) d t
  | 0, hn => by
    rw [outsAt0_A m c ⟨0, hn⟩ rfl]
    dsimp only
    rw [out_A_16, out_A_17, out_A_18, pay11_at, pay13_at, pay14_at, pay2_apply, pay3_apply, pay4_apply]
    simp only [Finset.sum_range_succ, Finset.range_zero, Finset.sum_empty]
    rw [part_at _ _ _ hn, part_at _ _ _ hn, part_at _ _ _ hn]
    exact ⟨rfl, rfl, rfl⟩
  | n + 1, hn => by
    have hN : n + 1 < 32 := lt_of_lt_of_eq hn N_0
    obtain ⟨i1, i2, i3⟩ := acc d n (Nat.lt_of_succ_lt hn)
    rw [outsAt0_B m c ⟨n + 1, hn⟩ (by dsimp only; omega)]
    dsimp only
    rw [out_B_16, out_B_17, out_B_18, pay11_at, pay13_at, pay14_at, Finset.sum_range_succ, Finset.sum_range_succ _ (n + 1),
      Finset.sum_range_succ _ (n + 1), part_at _ _ _ hn, part_at _ _ _ hn, part_at _ _ _ hn]
    exact ⟨congrArg (· + _) i1, congrArg (· + _) i2, congrArg (· + _) i3⟩

/-- What point `t` leaves in the block of the gradient of `x`. -/
theorem out15 (t : Fin cfg0.N) (r : Fin 256) (d : Fin 1024) :
    ((outsAt0 m c t.val t.isLt).1 (ix2 r d) : EReal) = gradX m c (row t r) d := by
  by_cases h : t.val % 32 = 0
  · rw [outsAt0_A m c t h]
    dsimp only
    rw [out_A_15]
    exact gx_at m c t r d
  · rw [outsAt0_B m c t h]
    dsimp only
    rw [out_B_15]
    exact gx_at m c t r d

theorem final15 : (dats m 0 c).arrAt 15 cfg0.N = fun j : S8192x1024.Idx => gradX m c (j 0) (j 1) := by
  refine (dats m 0 c).arrAt_eq_of_covers 15 _ (by decide +kernel) fun t hf y => ?_
  blk_simp
  rw [after0_15]
  obtain ⟨r, d, rfl⟩ : ∃ r d, y = ix2 r d := ⟨_, _, eq_ix2 y⟩
  refine (out15 m c t r d).trans ?_
  congr 1
  · apply Fin.ext; blk_simp [idx15 t]; show 256 * t.val + r.val = _; omega
  · apply Fin.ext; blk_simp [idx15 t]

/-- The points' parts of a row gradient, added up. -/
def total (f : Fin cfg0.N → Fin 1024 → EReal) (d : Fin 1024) : EReal := ∑ t ∈ Finset.range 32, part f d t

theorem final16 : (dats m 0 c).arrAt 16 cfg0.N = fun j : S1x1024.Idx => total (sumH m c) (j 1) := by
  refine (dats m 0 c).arrAt_eq_of_covers 16 _ (by decide +kernel) fun t hf y => ?_
  blk_simp
  rw [after0_16]
  obtain ⟨r, d, rfl⟩ : ∃ r d, y = ix2 r d := ⟨_, _, eq_ix2 y⟩
  have hN : t.val < 32 := lt_of_lt_of_eq t.isLt N_0
  have hl : t.val = 31 := by have := (flush0_16 t).mp hf; omega
  obtain rfl : r = 0 := Subsingleton.elim _ _
  refine (acc m c d t.val t.isLt).1.trans ?_
  have he : ((win0_16.blk t).view.emb (ix2 0 d)) 1 = d := by apply Fin.ext; blk_simp [idx16 t]
  rw [he, hl]
  rfl

theorem final17 : (dats m 0 c).arrAt 17 cfg0.N = fun j : S1x1024.Idx => total (fun t d => sumX m c t d * gn m c d) (j 1) := by
  refine (dats m 0 c).arrAt_eq_of_covers 17 _ (by decide +kernel) fun t hf y => ?_
  blk_simp
  rw [after0_17]
  obtain ⟨r, d, rfl⟩ : ∃ r d, y = ix2 r d := ⟨_, _, eq_ix2 y⟩
  have hN : t.val < 32 := lt_of_lt_of_eq t.isLt N_0
  have hl : t.val = 31 := by have := (flush0_17 t).mp hf; omega
  obtain rfl : r = 0 := Subsingleton.elim _ _
  refine (acc m c d t.val t.isLt).2.1.trans ?_
  have he : ((win0_17.blk t).view.emb (ix2 0 d)) 1 = d := by apply Fin.ext; blk_simp [idx17 t]
  rw [he, hl]
  rfl

theorem final18 : (dats m 0 c).arrAt 18 cfg0.N = fun j : S1x1024.Idx => total (fun t d => sumX m c t d * s1 m c d) (j 1) := by
  refine (dats m 0 c).arrAt_eq_of_covers 18 _ (by decide +kernel) fun t hf y => ?_
  blk_simp
  rw [after0_18]
  obtain ⟨r, d, rfl⟩ : ∃ r d, y = ix2 r d := ⟨_, _, eq_ix2 y⟩
  have hN : t.val < 32 := lt_of_lt_of_eq t.isLt N_0
  have hl : t.val = 31 := by have := (flush0_18 t).mp hf; omega
  obtain rfl : r = 0 := Subsingleton.elim _ _
  refine (acc m c d t.val t.isLt).2.2.trans ?_
  have he : ((win0_18.blk t).view.emb (ix2 0 d)) 1 = d := by apply Fin.ext; blk_simp [idx18 t]
  rw [he, hl]
  rfl

end Cert.ProjProof.Array

end
-- ==== Proof.ProjReference.lean ====
/- The reference of the projection backward, read at an index over the extended reals. -/
module

public import proofs.«01_k».proof.Proof.Gen.ProjRefIdeal.Run
public import proofs.«01_k».proof.Proof.Gen.ProjRefIdeal.Read
public import proofs.«01_k».proof.Proof.ProjBlock

@[expose] public section

set_option maxRecDepth 16384

noncomputable section

namespace Cert.ProjProof.Reference

open Cert.ProjRefIdeal Cert.ProjRefIdeal.Gen Cert.ProjRefIdeal.Read Idealize.ShloMosaic Idealize.ShloMosaic.TcCoe
open Cert.ProjProof.Block (inv eps)

variable (x0 : Vec Ideal S8192x1024 .f32) (x2 x3 : Vec Ideal S1x1024 .f32) (x4 : Vec Ideal S1024x5128 .f32)
  (x5 : Vec Ideal S8192x1024 .f32) (x6 x7 x8 : Vec Ideal S8192x512 .f32) (x9 : Vec Ideal S8192x8 .f32)
  (x10 x11 x12 : Vec Ideal S8192x512 .f32) (x13 x14 : Vec Ideal S8192x1024 .f32)

/-! The cotangents joined, read in each part. -/

theorem part_q (R : Fin 8192) (k : Fin 512) :
    (val_main_v31 (F := Ideal) x6 x7 x8 x9 x10 x11 x12 x13 x14 (ix2 R ⟨k.val, by omega⟩) : EReal) = x6 (ix2 R k) := by
  pointwise [val_main_v31]
theorem part_k (R : Fin 8192) (k : Fin 512) :
    (val_main_v31 (F := Ideal) x6 x7 x8 x9 x10 x11 x12 x13 x14 (ix2 R ⟨512 + k.val, by omega⟩) : EReal) = x7 (ix2 R k) := by
  pointwise [val_main_v31]
theorem part_v (R : Fin 8192) (k : Fin 512) :
    (val_main_v31 (F := Ideal) x6 x7 x8 x9 x10 x11 x12 x13 x14 (ix2 R ⟨1024 + k.val, by omega⟩) : EReal) = x8 (ix2 R k) := by
  pointwise [val_main_v31]
  rw [dif_neg (by omega)]; rw [dif_neg (by omega)]; rw [dif_pos (by omega)]
  exact congrArg (fun j => (x8 (ix2 R j) : EReal)) (Fin.ext (by dsimp only; omega))
theorem part_f (R : Fin 8192) (k : Fin 8) :
    (val_main_v31 (F := Ideal) x6 x7 x8 x9 x10 x11 x12 x13 x14 (ix2 R ⟨1536 + k.val, by omega⟩) : EReal) = x9 (ix2 R k) := by
  pointwise [val_main_v31]
  rw [dif_neg (by omega)]; rw [dif_neg (by omega)]; rw [dif_neg (by omega)]; rw [dif_pos (by omega)]
  exact congrArg (fun j => (x9 (ix2 R j) : EReal)) (Fin.ext (by dsimp only; omega))
theorem part_za (R : Fin 8192) (k : Fin 512) :
    (val_main_v31 (F := Ideal) x6 x7 x8 x9 x10 x11 x12 x13 x14 (ix2 R ⟨1544 + k.val, by omega⟩) : EReal) = x10 (ix2 R k) := by
  pointwise [val_main_v31]
  rw [dif_neg (by omega)]; rw [dif_neg (by omega)]; rw [dif_neg (by omega)]; rw [dif_neg (by omega)]; rw [dif_pos (by omega)]
  exact congrArg (fun j => (x10 (ix2 R j) : EReal)) (Fin.ext (by dsimp only; omega))
theorem part_u (R : Fin 8192) (k : Fin 512) :
    (val_main_v31 (F := Ideal) x6 x7 x8 x9 x10 x11 x12 x13 x14 (ix2 R ⟨2056 + k.val, by omega⟩) : EReal) = x11 (ix2 R k) := by
  pointwise [val_main_v31]
  rw [dif_neg (by omega)]; rw [dif_neg (by omega)]; rw [dif_neg (by omega)]; rw [dif_neg (by omega)]; rw [dif_neg (by omega)]; rw [dif_pos (by omega)]
  exact congrArg (fun j => (x11 (ix2 R j) : EReal)) (Fin.ext (by dsimp only; omega))
theorem part_zb (R : Fin 8192) (k : Fin 512) :
    (val_main_v31 (F := Ideal) x6 x7 x8 x9 x10 x11 x12 x13 x14 (ix2 R ⟨2568 + k.val, by omega⟩) : EReal) = x12 (ix2 R k) := by
  pointwise [val_main_v31]
  rw [dif_neg (by omega)]; rw [dif_neg (by omega)]; rw [dif_neg (by omega)]; rw [dif_neg (by omega)]; rw [dif_neg (by omega)]; rw [dif_neg (by omega)]; rw [dif_pos (by omega)]
  exact congrArg (fun j => (x12 (ix2 R j) : EReal)) (Fin.ext (by dsimp only; omega))
theorem part_ga (R : Fin 8192) (k : Fin 1024) :
    (val_main_v31 (F := Ideal) x6 x7 x8 x9 x10 x11 x12 x13 x14 (ix2 R ⟨3080 + k.val, by omega⟩) : EReal) = x13 (ix2 R k) := by
  pointwise [val_main_v31]
  rw [dif_neg (by omega)]; rw [dif_neg (by omega)]; rw [dif_neg (by omega)]; rw [dif_neg (by omega)]; rw [dif_neg (by omega)]; rw [dif_neg (by omega)]; rw [dif_neg (by omega)]; rw [dif_pos (by omega)]
  exact congrArg (fun j => (x13 (ix2 R j) : EReal)) (Fin.ext (by dsimp only; omega))
theorem part_gb (R : Fin 8192) (k : Fin 1024) :
    (val_main_v31 (F := Ideal) x6 x7 x8 x9 x10 x11 x12 x13 x14 (ix2 R ⟨4104 + k.val, by omega⟩) : EReal) = x14 (ix2 R k) := by
  pointwise [val_main_v31]
  rw [dif_neg (by omega)]; rw [dif_neg (by omega)]; rw [dif_neg (by omega)]; rw [dif_neg (by omega)]; rw [dif_neg (by omega)]; rw [dif_neg (by omega)]; rw [dif_neg (by omega)]; rw [dif_neg (by omega)]; skip
  exact congrArg (fun j => (x14 (ix2 R j) : EReal)) (Fin.ext (by dsimp only; omega))

theorem sum_parts (f : Fin 5128 → EReal) : ∑ j, f j
    = (∑ k : Fin 512, f ⟨k.val, by omega⟩) + (∑ k : Fin 512, f ⟨512 + k.val, by omega⟩) + (∑ k : Fin 512, f ⟨1024 + k.val, by omega⟩)
      + (∑ k : Fin 512, f ⟨1544 + k.val, by omega⟩) + (∑ k : Fin 512, f ⟨2056 + k.val, by omega⟩)
      + (∑ k : Fin 512, f ⟨2568 + k.val, by omega⟩) + (∑ k : Fin 1024, f ⟨3080 + k.val, by omega⟩)
      + (∑ k : Fin 1024, f ⟨4104 + k.val, by omega⟩) + (∑ k : Fin 8, f ⟨1536 + k.val, by omega⟩) := by
  let t : ℕ → EReal := fun j => if h : j < 5128 then f ⟨j, h⟩ else 0
  have ht : ∀ j (h : j < 5128), t j = f ⟨j, h⟩ := fun j h => dif_pos h
  have e : ∀ n o : ℕ, ∀ h : o + n ≤ 5128, (∑ k : Fin n, f ⟨o + k.val, by omega⟩) = ∑ k ∈ Finset.range n, t (o + k) := fun n o h => by
    rw [Finset.sum_range]
    exact Finset.sum_congr rfl fun k _ => (ht (o + k.val) (by omega)).symm
  have e0 : ∀ n : ℕ, ∀ h : n ≤ 5128, (∑ k : Fin n, f ⟨k.val, by omega⟩) = ∑ k ∈ Finset.range n, t k := fun n h => by
    rw [Finset.sum_range]
    exact Finset.sum_congr rfl fun k _ => (ht k.val (by omega)).symm
  rw [e 512 512 (by omega), e 512 1024 (by omega), e 512 1544 (by omega), e 512 2056 (by omega), e 512 2568 (by omega),
    e 1024 3080 (by omega), e 1024 4104 (by omega), e 8 1536 (by omega), e0 512 (by omega)]
  refine (e0 5128 (by omega)).trans ?_
  generalize t = t
  rw [show (5128 : ℕ) = 512 + 512 + 512 + 8 + 512 + 512 + 512 + 1024 + 1024 from rfl]
  simp only [Finset.sum_range_add]
  norm_num only
  abel

/-- The gradient of the modulated rows: the joined cotangents against the weight. -/
def h (R : Fin 8192) (d : Fin 1024) : EReal := val_main_v32 (F := Ideal) x4 x6 x7 x8 x9 x10 x11 x12 x13 x14 (ix2 R d)

theorem h_eq (R : Fin 8192) (d : Fin 1024) : h x4 x6 x7 x8 x9 x10 x11 x12 x13 x14 R d
    = (∑ k : Fin 512, x6 (ix2 R k) * x4 (ix2 d ⟨k.val, by omega⟩))
      + (∑ k : Fin 512, x7 (ix2 R k) * x4 (ix2 d ⟨512 + k.val, by omega⟩))
      + (∑ k : Fin 512, x8 (ix2 R k) * x4 (ix2 d ⟨1024 + k.val, by omega⟩))
      + (∑ k : Fin 512, x10 (ix2 R k) * x4 (ix2 d ⟨1544 + k.val, by omega⟩))
      + (∑ k : Fin 512, x11 (ix2 R k) * x4 (ix2 d ⟨2056 + k.val, by omega⟩))
      + (∑ k : Fin 512, x12 (ix2 R k) * x4 (ix2 d ⟨2568 + k.val, by omega⟩))
      + (∑ k : Fin 1024, x13 (ix2 R k) * x4 (ix2 d ⟨3080 + k.val, by omega⟩))
      + (∑ k : Fin 1024, x14 (ix2 R k) * x4 (ix2 d ⟨4104 + k.val, by omega⟩))
      + (∑ k : Fin 8, x9 (ix2 R k) * x4 (ix2 d ⟨1536 + k.val, by omega⟩)) := by
  unfold h
  pointwise [val_main_v32]
  rw [sum_parts]
  simp only [part_q, part_k, part_v, part_f, part_za, part_u, part_zb, part_ga, part_gb]

/-- What the mean square of row `R` contributes to the gradient of that row, before the row's entry. -/
def coef (R : Fin 8192) : EReal :=
  Ideal.div ((∑ e : Fin 1024, x0 (ix2 R e) * (h x4 x6 x7 x8 x9 x10 x11 x12 x13 x14 R e * (1 + x2 (ix2 0 e)) * x3 (ix2 0 e)))
      * (Ideal.ofBits FTy.f32 0xBF000000#32 * Ideal.div (inv fun d => x0 (ix2 R d))
        (Ideal.div (∑ d, x0 (ix2 R d) * x0 (ix2 R d)) (Ideal.ofBits FTy.f32 0x44800000#32) + eps)))
    (Ideal.ofBits FTy.f32 0x44800000#32)

theorem r7 (R : Fin 8192) : (val_main_v7 (F := Ideal) x0 (ix2 R 0) : EReal) = inv fun d => x0 (ix2 R d) := by
  pointwise [val_main_v0, val_main_cst, val_main_v1, val_main_v2, val_main_cst_0, val_main_v3, val_main_v4, val_main_cst_1, val_main_v5, val_main_v6, val_main_v7]
  rfl

theorem r10 (R : Fin 8192) : (val_main_v10 (F := Ideal) x0 (ix2 R 0) : EReal)
    = Ideal.ofBits FTy.f32 0xBF000000#32 * Ideal.div (inv fun d => x0 (ix2 R d))
        (Ideal.div (∑ d, x0 (ix2 R d) * x0 (ix2 R d)) (Ideal.ofBits FTy.f32 0x44800000#32) + eps) := by
  pointwise [val_main_v0, val_main_cst, val_main_v1, val_main_v2, val_main_cst_0, val_main_v3, val_main_v4, val_main_cst_1, val_main_v5, val_main_v6, val_main_v8, val_main_cst_2, val_main_v9, val_main_v10]
  rw [r7]
  rfl

theorem r34 (d : Fin 1024) : (val_main_v34 (F := Ideal) x4 x6 x7 x8 x9 x10 x11 x12 x13 x14 (ix2 0 d) : EReal) = ∑ R, h x4 x6 x7 x8 x9 x10 x11 x12 x13 x14 R d := by
  unfold h
  pointwise [val_main_cst_4, val_main_v33, val_main_v34]

theorem r37 (d : Fin 1024) : (val_main_v37 (F := Ideal) x0 x3 x4 x6 x7 x8 x9 x10 x11 x12 x13 x14 (ix2 0 d) : EReal)
    = ∑ R : Fin 8192, x0 (ix2 R d) * (inv fun d => x0 (ix2 R d)) * x3 (ix2 0 d) * h x4 x6 x7 x8 x9 x10 x11 x12 x13 x14 R d := by
  unfold h
  pointwise [val_main_v11, val_main_v12, val_main_v13, val_main_v14, val_main_v35, val_main_cst_5, val_main_v36, val_main_v37]
  simp only [r7]

theorem r42 (d : Fin 1024) : (val_main_v42 (F := Ideal) x0 x2 x4 x6 x7 x8 x9 x10 x11 x12 x13 x14 (ix2 0 d) : EReal)
    = ∑ R : Fin 8192, x0 (ix2 R d) * (inv fun d => x0 (ix2 R d)) * (h x4 x6 x7 x8 x9 x10 x11 x12 x13 x14 R d * (1 + x2 (ix2 0 d))) := by
  unfold h
  pointwise [val_main_v11, val_main_v12, val_main_cst_3, val_main_v15, val_main_v16, val_main_v38, val_main_v39, val_main_v40, val_main_cst_6, val_main_v41, val_main_v42]
  simp only [r7]

theorem r44 (R : Fin 8192) (d : Fin 1024) : (val_main_v44 (F := Ideal) x2 x3 x4 x6 x7 x8 x9 x10 x11 x12 x13 x14 (ix2 R d) : EReal)
    = h x4 x6 x7 x8 x9 x10 x11 x12 x13 x14 R d * (1 + x2 (ix2 0 d)) * x3 (ix2 0 d) := by
  unfold h
  pointwise [val_main_cst_3, val_main_v15, val_main_v16, val_main_v38, val_main_v39, val_main_v43, val_main_v44]

theorem r54 (R : Fin 8192) : (val_main_v54 (F := Ideal) x0 x2 x3 x4 x6 x7 x8 x9 x10 x11 x12 x13 x14 (ix1 R) : EReal) = coef x0 x2 x3 x4 x6 x7 x8 x9 x10 x11 x12 x13 x14 R := by
  pointwise [val_main_v45, val_main_cst_7, val_main_v46, val_main_v47, val_main_v51, val_main_cst_8, val_main_v52, val_main_v53, val_main_cst_9, val_main_v54]
  simp only [Fin.sum_univ_one, r44, r10]
  rfl

theorem r59 (R : Fin 8192) (d : Fin 1024) : (val_main_v59 (F := Ideal) x0 x2 x3 x4 x5 x6 x7 x8 x9 x10 x11 x12 x13 x14 (ix2 R d) : EReal)
    = x5 (ix2 R d) + h x4 x6 x7 x8 x9 x10 x11 x12 x13 x14 R d * (1 + x2 (ix2 0 d)) * x3 (ix2 0 d) * (inv fun d => x0 (ix2 R d))
      + x0 (ix2 R d) * coef x0 x2 x3 x4 x6 x7 x8 x9 x10 x11 x12 x13 x14 R + coef x0 x2 x3 x4 x6 x7 x8 x9 x10 x11 x12 x13 x14 R * x0 (ix2 R d) := by
  pointwise [val_main_v48, val_main_v49, val_main_v50, val_main_v55, val_main_v56, val_main_v57, val_main_v58, val_main_v59]
  simp only [r44, r7, r54]

end Cert.ProjProof.Reference

end
-- ==== Proof.ProjEquation.lean ====
/- The projection backward over real numbers: the gradient of the modulated rows, the gradient of the norm in the two forms
   the programs write it, and the sums over the blocks of rows as sums over all rows. -/
module

public import proofs.«01_k».proof.Proof.ProjArray
public import proofs.«01_k».proof.Proof.ProjReference
public import proofs.«01_k».proof.Proof.AttnCast

@[expose] public section

set_option maxRecDepth 16384

noncomputable section

namespace Cert.ProjProof.Equation

open Cert.ProjIdeal Cert.ProjIdeal.Gen Cert.ProjProof.Block Cert.ProjProof.Host Cert.ProjProof.Array Idealize.ShloMosaic Idealize.ShloMosaic.TcCoe
open Cert.AttnProof.Cast (coe_sum div_real)

/-! The three literals. -/

theorem width : Ideal.ofBits FTy.f32 0x44800000#32 = ((1024 : ℝ) : EReal) := by
  simp [Ideal.ofBits, Ideal.ieee, -EReal.coe_mul]; norm_num

theorem minus_half : Ideal.ofBits FTy.f32 0xBF000000#32 = ((-1 / 2 : ℝ) : EReal) := by
  simp [Ideal.ofBits, Ideal.ieee, -EReal.coe_mul]; norm_num

/-- The small number added to a mean square. -/
def tiny : ℝ := 8796093 / 8796093022208

theorem tiny_pos : 0 < tiny := by unfold tiny; norm_num

theorem eps_real : eps = (tiny : EReal) := by
  unfold eps tiny
  simp [Ideal.ofBits, Ideal.ieee, -EReal.coe_mul]; norm_num

/-! The norm of a row of real numbers. -/

/-- A row's mean square, with the small number added. -/
def square (x : Fin 1024 → ℝ) : ℝ := (∑ d, x d * x d) / 1024 + tiny

theorem square_pos (x : Fin 1024 → ℝ) : 0 < square x :=
  add_pos_of_nonneg_of_pos (div_nonneg (Finset.sum_nonneg fun d _ => mul_self_nonneg _) (by norm_num)) tiny_pos

theorem square_real (x : Fin 1024 → ℝ) :
    Ideal.div (∑ d, (x d : EReal) * x d) (Ideal.ofBits .f32 0x44800000#32) + eps = (square x : EReal) := by
  have e : (∑ d, (x d : EReal) * x d) = ((∑ d, x d * x d : ℝ) : EReal) := by
    rw [coe_sum]
    exact Finset.sum_congr rfl fun d _ => (EReal.coe_mul _ _).symm
  rw [e, width, div_real _ _ (by norm_num), eps_real, ← EReal.coe_add]
  rfl

/-- One over the root of the mean square. -/
def root (x : Fin 1024 → ℝ) : ℝ := (_root_.Real.sqrt (square x))⁻¹

theorem inv_real (x : Fin 1024 → ℝ) : Block.inv (fun d => (x d : EReal)) = (root x : EReal) := by
  unfold Block.inv
  rw [square_real, Ideal.rsqrt_coe, if_neg (not_lt.mpr (square_pos x).le), if_neg (square_pos x).ne']
  rfl

theorem root_sq (x : Fin 1024 → ℝ) : root x * root x * square x = 1 := by
  unfold root
  rw [← mul_inv, _root_.Real.mul_self_sqrt (square_pos x).le, inv_mul_cancel₀ (square_pos x).ne']

/-- The two forms of the norm's gradient: through the mean square, and with the normalised row's projection taken off. -/
theorem norm_gradient (x y : Fin 1024 → ℝ) (d : Fin 1024) :
    y d * root x + x d * ((∑ e, x e * y e) * (-1 / 2 * (root x / square x)) / 1024)
        + (∑ e, x e * y e) * (-1 / 2 * (root x / square x)) / 1024 * x d
      = root x * (y d - x d * root x * ((∑ e, y e * (x e * root x)) / 1024)) := by
  have hv := (square_pos x).ne'
  have e : (∑ e, y e * (x e * root x)) = (∑ e, x e * y e) * root x := by
    rw [Finset.sum_mul]
    exact Finset.sum_congr rfl fun e _ => by ring
  have hq : root x / square x = root x * (root x * root x) := by
    rw [div_eq_iff hv]
    linear_combination (-root x) * root_sq x
  rw [e, hq]
  ring

/-! The rows of the blocks are all rows. -/

theorem block_rows (f : Fin 8192 → EReal) : (∑ t : Fin 32, ∑ r : Fin 256, f ⟨256 * t.val + r.val, by omega⟩) = ∑ R, f R := by
  rw [← Fintype.sum_prod_type (f := fun p : Fin 32 × Fin 256 => f ⟨256 * p.1.val + p.2.val, by omega⟩)]
  refine Fintype.sum_equiv (finProdFinEquiv (m := 32) (n := 256)) _ _ fun p => congrArg f (Fin.ext ?_)
  show 256 * p.1.val + p.2.val = p.2.val + 256 * p.1.val
  omega

theorem total_rows (f : Fin 8192 → EReal) (g : Fin cfg0.N → Fin 1024 → EReal) (d : Fin 1024)
    (h : ∀ t, g t d = ∑ r : Fin 256, f (row t r)) : total g d = ∑ R, f R := by
  unfold total
  rw [Finset.sum_range, ← block_rows]
  refine Finset.sum_congr rfl fun t _ => ?_
  rw [part_at g d t.val (lt_of_lt_of_eq t.isLt N_0.symm), h]
  rfl

/-! The two programs on real numbers. -/

variable {m : (ℓ : Loc nD τ sig) → Buf (Elt Ideal) ℓ} {c : Dev nD}

/-- The gradient of the modulated rows, as the reference forms it, is the kernel's. -/
theorem rows_eq (R : Fin 8192) (d : Fin 1024) :
    Reference.h (argW m c) (argQ m c) (argK m c) (argV m c) (argF m c) (argZa m c) (argU m c) (argZb m c) (argGa m c) (argGb m c) R d
      = dh m c R d := by
  rw [Reference.h_eq]
  rfl

/-- The real numbers of a run: the rows, the scale, the norm's weight, and the gradient of the modulated rows. -/
structure Data where
  x : Fin 8192 → Fin 1024 → ℝ
  s : Fin 1024 → ℝ
  g : Fin 1024 → ℝ
  h : Fin 8192 → Fin 1024 → ℝ

/-- The arguments hold these real numbers. -/
structure Holds (m : (ℓ : Loc nD τ sig) → Buf (Elt Ideal) ℓ) (c : Dev nD) (D : Data) : Prop where
  x : ∀ R d, (argX m c (ix2 R d) : EReal) = D.x R d
  s : ∀ d, (argS m c (ix2 0 d) : EReal) = D.s d
  g : ∀ d, (argG m c (ix2 0 d) : EReal) = D.g d
  h : ∀ R d, dh m c R d = D.h R d

section Results

variable {D : Data} (H : Holds m c D)
include H

theorem inv_row (R : Fin 8192) : (Block.inv fun d => (argX m c (ix2 R d) : EReal)) = (root (D.x R) : EReal) := by
  rw [← inv_real]
  exact congrArg Block.inv (funext fun d => H.x R d)

theorem rinv_real (R : Fin 8192) : rinv m c R = (root (D.x R) : EReal) := inv_row H R

theorem xn_real (R : Fin 8192) (d : Fin 1024) : xn m c R d = ((D.x R d * root (D.x R) : ℝ) : EReal) := by
  unfold xn
  rw [rinv_real H, H.x, EReal.coe_mul]

theorem s1_real (d : Fin 1024) : s1 m c d = ((1 + D.s d : ℝ) : EReal) := by
  unfold s1
  rw [H.s, EReal.coe_add, EReal.coe_one]

theorem gn_real (d : Fin 1024) : gn m c d = (D.g d : EReal) := H.g d

/-- The gradient of the normalised row, over the reals. -/
theorem dxn_real (R : Fin 8192) (d : Fin 1024) : dxn m c R d = ((D.h R d * (1 + D.s d) * D.g d : ℝ) : EReal) := by
  unfold dxn
  rw [H.h, gn_real H, s1_real H, ← EReal.coe_mul, ← EReal.coe_mul]
  exact congrArg _ (by ring)

theorem gradX_real (R : Fin 8192) (d : Fin 1024) : gradX m c R d = argD m c (ix2 R d)
    + ((root (D.x R) * (D.h R d * (1 + D.s d) * D.g d - D.x R d * root (D.x R)
        * ((∑ e, D.h R e * (1 + D.s e) * D.g e * (D.x R e * root (D.x R))) / 1024)) : ℝ) : EReal) := by
  unfold gradX
  have e : (∑ e : Fin 1024, dxn m c R e * xn m c R e)
      = ((∑ e, D.h R e * (1 + D.s e) * D.g e * (D.x R e * root (D.x R)) : ℝ) : EReal) := by
    rw [coe_sum]
    exact Finset.sum_congr rfl fun e _ => by rw [dxn_real H, xn_real H, ← EReal.coe_mul]
  rw [e, width, div_real _ _ (by norm_num), dxn_real H, xn_real H, rinv_real H, ← EReal.coe_mul, ← EReal.coe_sub, ← EReal.coe_mul]

theorem square_row (R : Fin 8192) :
    Ideal.div (∑ d, (argX m c (ix2 R d) : EReal) * argX m c (ix2 R d)) (Ideal.ofBits .f32 0x44800000#32) + eps = (square (D.x R) : EReal) := by
  rw [← square_real]
  simp only [H.x]

/-- The reference's row coefficient, over the reals. -/
theorem coef_real (R : Fin 8192) :
    Reference.coef (argX m c) (argS m c) (argG m c) (argW m c) (argQ m c) (argK m c) (argV m c) (argF m c) (argZa m c) (argU m c) (argZb m c)
        (argGa m c) (argGb m c) R
      = (((∑ e, D.x R e * (D.h R e * (1 + D.s e) * D.g e)) * (-1 / 2 * (root (D.x R) / square (D.x R))) / 1024 : ℝ) : EReal) := by
  unfold Reference.coef
  have e : (∑ e : Fin 1024, (argX m c (ix2 R e) : EReal) * (Reference.h (argW m c) (argQ m c) (argK m c) (argV m c) (argF m c) (argZa m c)
        (argU m c) (argZb m c) (argGa m c) (argGb m c) R e * (1 + (argS m c (ix2 0 e) : EReal)) * argG m c (ix2 0 e)))
      = ((∑ e, D.x R e * (D.h R e * (1 + D.s e) * D.g e) : ℝ) : EReal) := by
    rw [coe_sum]
    exact Finset.sum_congr rfl fun e _ => by
      rw [rows_eq, H.x, H.h, H.s, H.g, ← EReal.coe_one, ← EReal.coe_add, ← EReal.coe_mul, ← EReal.coe_mul, ← EReal.coe_mul]
  rw [e, square_row H, inv_row H, width, minus_half, div_real _ _ (square_pos _).ne', ← EReal.coe_mul, ← EReal.coe_mul, div_real _ _ (by norm_num)]

theorem result_x (R : Fin 8192) (d : Fin 1024) :
    (Cert.ProjRefIdeal.Read.val_main_v59 (F := Ideal) (argX m c) (argS m c) (argG m c) (argW m c) (argD m c) (argQ m c) (argK m c) (argV m c)
        (argF m c) (argZa m c) (argU m c) (argZb m c) (argGa m c) (argGb m c) (ix2 R d) : EReal) = gradX m c R d := by
  rw [Reference.r59, gradX_real H, ← norm_gradient (D.x R) (fun e => D.h R e * (1 + D.s e) * D.g e), coef_real H, rows_eq, inv_row H, H.h,
    H.x, H.s, H.g, ← EReal.coe_one]
  simp only [← EReal.coe_add, ← EReal.coe_mul, add_assoc]

theorem result_shift (d : Fin 1024) :
    (Cert.ProjRefIdeal.Read.val_main_v34 (F := Ideal) (argW m c) (argQ m c) (argK m c) (argV m c) (argF m c) (argZa m c) (argU m c) (argZb m c)
        (argGa m c) (argGb m c) (ix2 0 d) : EReal) = total (sumH m c) d := by
  rw [Reference.r34, total_rows (fun R => dh m c R d) _ d fun t => rfl]
  exact Finset.sum_congr rfl fun R _ => rows_eq R d

/-- What a block adds to the gradient of the modulated rows against the normalised rows, over the reals. -/
theorem sumX_real (t : Fin cfg0.N) (d : Fin 1024) (w : ℝ) : sumX m c t d * (w : EReal)
    = ∑ r : Fin 256, ((D.h (row t r) d * (D.x (row t r) d * root (D.x (row t r))) * w : ℝ) : EReal) := by
  have e : sumX m c t d = ((∑ r : Fin 256, D.h (row t r) d * (D.x (row t r) d * root (D.x (row t r))) : ℝ) : EReal) := by
    unfold sumX
    rw [coe_sum]
    exact Finset.sum_congr rfl fun r _ => by rw [H.h, xn_real H, ← EReal.coe_mul]
  rw [e, ← EReal.coe_mul, Finset.sum_mul, coe_sum]

theorem result_scale (d : Fin 1024) :
    (Cert.ProjRefIdeal.Read.val_main_v37 (F := Ideal) (argX m c) (argG m c) (argW m c) (argQ m c) (argK m c) (argV m c) (argF m c) (argZa m c)
        (argU m c) (argZb m c) (argGa m c) (argGb m c) (ix2 0 d) : EReal) = total (fun t d => sumX m c t d * gn m c d) d := by
  rw [Reference.r37, total_rows (fun R => ((D.h R d * (D.x R d * root (D.x R)) * D.g d : ℝ) : EReal)) _ d fun t => by
    rw [gn_real H]; exact sumX_real H t d (D.g d)]
  refine Finset.sum_congr rfl fun R _ => ?_
  rw [rows_eq, inv_row H, H.x, H.h, H.g, ← EReal.coe_mul, ← EReal.coe_mul, ← EReal.coe_mul]
  exact congrArg _ (by ring)

theorem result_weight (d : Fin 1024) :
    (Cert.ProjRefIdeal.Read.val_main_v42 (F := Ideal) (argX m c) (argS m c) (argW m c) (argQ m c) (argK m c) (argV m c) (argF m c) (argZa m c)
        (argU m c) (argZb m c) (argGa m c) (argGb m c) (ix2 0 d) : EReal) = total (fun t d => sumX m c t d * s1 m c d) d := by
  rw [Reference.r42, total_rows (fun R => ((D.h R d * (D.x R d * root (D.x R)) * (1 + D.s d) : ℝ) : EReal)) _ d fun t => by
    rw [s1_real H]; exact sumX_real H t d (1 + D.s d)]
  refine Finset.sum_congr rfl fun R _ => ?_
  rw [rows_eq, inv_row H, H.x, H.h, H.s, ← EReal.coe_one, ← EReal.coe_add, ← EReal.coe_mul, ← EReal.coe_mul, ← EReal.coe_mul]
  exact congrArg _ (by ring)

end Results

end Cert.ProjProof.Equation

end
-- ==== Proof.ProjClaim.lean ====
/- The projection backward call: from finite arguments its four results are the derivatives of the forward lines. -/
module

public import proofs.«01_k».proof.Proof.ProjEquation
public import proofs.«01_k».proof.Proof.AttnClaim

@[expose] public section

set_option maxRecDepth 16384

noncomputable section

namespace Cert.ProjProof.Claim

open Idealize.ShloMosaic Idealize.ShloMosaic.TcCoe Idealize.SL.Sem
open Cert.ProjProof.Equation Cert.ProjRefIdeal.Read
open Cert.AttnProof.Claim (and_one real_of_all)
open Cert.AttnProof.Cast (coe_sum)

/-- The side conditions of the precondition. -/
theorem finite_facts : Cert.Pre_finite_projection.Facts where
  bcast_S_S8192x1024 := by decide
  reducesTo_S8192x1024_S_d0_1 := by decide
  h_S_ := by decide
  bcast_S_S1x1024 := by decide
  reducesTo_S1x1024_S_d0_1 := by decide
  bcast_S_S1024x5128 := by decide
  reducesTo_S1024x5128_S_d0_1 := by decide
  bcast_S_S8192x512 := by decide
  reducesTo_S8192x512_S_d0_1 := by decide
  bcast_S_S8192x8 := by decide
  reducesTo_S8192x8_S_d0_1 := by decide

/-- A product of two matrices of real numbers has real numbers for entries. -/
theorem sum_real {n : ℕ} (x w : Fin n → EReal) (hx : ∀ k, ∃ r : ℝ, x k = r) (hw : ∀ k, ∃ r : ℝ, w k = r) : ∃ r : ℝ, (∑ k, x k * w k) = r := by
  choose f ef using hx
  choose g eg using hw
  refine ⟨∑ k, f k * g k, ?_⟩
  rw [coe_sum]
  exact Finset.sum_congr rfl fun k _ => by rw [ef, eg, EReal.coe_mul]

theorem add_real {a b : EReal} (ha : ∃ r : ℝ, a = r) (hb : ∃ r : ℝ, b = r) : ∃ r : ℝ, a + b = r := by
  obtain ⟨r, rfl⟩ := ha
  obtain ⟨s, rfl⟩ := hb
  exact ⟨r + s, (EReal.coe_add r s).symm⟩

variable {m : (ℓ : Loc Cert.ProjIdeal.nD Cert.ProjIdeal.τ Cert.ProjIdeal.sig) → Buf (Elt Ideal) ℓ}

/-- From finite arguments, the real numbers the arguments hold. -/
theorem data (hpre : Cert.Pre_ProjIdeal_finite_projection (hPre_finite_projection := finite_facts) m) (c : Dev Cert.ProjIdeal.nD) :
    ∃ D : Data, Holds m c D := by
  have h := congrFun (hpre c) (fun i => i.elim0)
  dsimp only [Cert.Pre_finite_projection.fn, Cert.Pre_finite_projection.fn_part1, Cert.Pre_finite_projection.fn_part2,
    Cert.Pre_finite_projection.fn_part3] at h
  obtain ⟨h, hgb⟩ := and_one h
  obtain ⟨h, hga⟩ := and_one h
  obtain ⟨h, hzb⟩ := and_one h
  obtain ⟨h, hu⟩ := and_one h
  obtain ⟨h, hza⟩ := and_one h
  obtain ⟨h, hf⟩ := and_one h
  obtain ⟨h, hv⟩ := and_one h
  obtain ⟨h, hk⟩ := and_one h
  obtain ⟨h, hq⟩ := and_one h
  obtain ⟨h, hw⟩ := and_one h
  obtain ⟨h, hg⟩ := and_one h
  obtain ⟨hx, hs⟩ := and_one h
  choose fx ex using real_of_all (Host.argX m c) _ _ _ _ hx
  choose fs es using real_of_all (Host.argS m c) _ _ _ _ hs
  choose fg eg using real_of_all (Host.argG m c) _ _ _ _ hg
  have rw' := real_of_all (Host.argW m c) _ _ _ _ hw
  have rows : ∀ R d, ∃ r : ℝ, Array.dh m c R d = r := fun R d =>
    add_real (add_real (add_real (add_real (add_real (add_real (add_real (add_real
      (sum_real _ _ (fun k => real_of_all (Host.argQ m c) _ _ _ _ hq _) fun k => rw' _)
      (sum_real _ _ (fun k => real_of_all (Host.argK m c) _ _ _ _ hk _) fun k => rw' _))
      (sum_real _ _ (fun k => real_of_all (Host.argV m c) _ _ _ _ hv _) fun k => rw' _))
      (sum_real _ _ (fun k => real_of_all (Host.argZa m c) _ _ _ _ hza _) fun k => rw' _))
      (sum_real _ _ (fun k => real_of_all (Host.argU m c) _ _ _ _ hu _) fun k => rw' _))
      (sum_real _ _ (fun k => real_of_all (Host.argZb m c) _ _ _ _ hzb _) fun k => rw' _))
      (sum_real _ _ (fun k => real_of_all (Host.argGa m c) _ _ _ _ hga _) fun k => rw' _))
      (sum_real _ _ (fun k => real_of_all (Host.argGb m c) _ _ _ _ hgb _) fun k => rw' _))
      (sum_real _ _ (fun k => real_of_all (Host.argF m c) _ _ _ _ hf _) fun k => rw' _)
  choose fh eh using rows
  exact ⟨⟨fun R d => fx (ix2 R d), fun d => fs (ix2 0 d), fun d => fg (ix2 0 d), fh⟩,
    ⟨fun R d => ex _, fun d => es _, fun d => eg _, eh⟩⟩

/-- The reference runs and leaves its arguments unchanged. -/
theorem frame_reference : Cert.quiescent_ProjRefIdeal := fun m ρ _ =>
  (θ_run Cert.ProjRefIdeal.defs _ _).mono (fun r h => ⟨fun c => (h c).2.2.2.2,
      Idealize.ShloMosaic.sem_eq_zero_of_no_sems (by decide) r.2⟩)
    (Cert.ProjRefIdeal.Value.run (F := Ideal) m ρ)

set_option maxHeartbeats 2000000 in
theorem algebraic : Cert.algebraic_ProjIdeal_ProjRefIdeal_pre_finite_projection (hPre_finite_projection := finite_facts) := by
  intro m ρ m' ρ' hpre hagree
  refine ⟨fun c y => Array.gradX m c (y 0) (y 1), fun c y => Array.total (Array.sumH m c) (y 1),
    fun c y => Array.total (fun t d => Array.sumX m c t d * Array.gn m c d) (y 1),
    fun c y => Array.total (fun t d => Array.sumX m c t d * Array.s1 m c d) (y 1), ?_, ?_⟩
  · refine (θ_run Cert.ProjIdeal.defs _ _).mono (fun _ h c => ?_) (Cert.ProjIdeal.Value.run_blocks (F := Ideal) m ρ)
    exact ⟨(h c).1.trans (Array.final15 m c), (h c).2.1.trans (Array.final16 m c), (h c).2.2.1.trans (Array.final17 m c),
      (h c).2.2.2.1.trans (Array.final18 m c), (h c).2.2.2.2⟩
  · refine (θ_run Cert.ProjRefIdeal.defs _ _).mono (fun _ h c => ?_) (Cert.ProjRefIdeal.Value.run (F := Ideal) m' ρ')
    obtain ⟨h0, h1, h2, h3, h4, h5, h6, h7, h8, h9, h10, h11, h12, h13, h14⟩ := hagree c
    obtain ⟨D, H⟩ := data hpre c
    refine ⟨(h c).1.trans ?_, (h c).2.1.trans ?_, (h c).2.2.1.trans ?_, (h c).2.2.2.1.trans ?_, (h c).2.2.2.2⟩
    · rw [val_main_v59_eq, h0, h2, h3, h4, h5, h6, h7, h8, h9, h10, h11, h12, h13, h14]
      funext y
      exact (congrArg _ (eq_ix2 y)).trans (result_x H (y 0) (y 1))
    · rw [val_main_v34_eq, h4, h6, h7, h8, h9, h10, h11, h12, h13, h14]
      funext y
      obtain ⟨z, d, rfl⟩ : ∃ z d, y = ix2 z d := ⟨_, _, eq_ix2 y⟩
      obtain rfl : z = 0 := Subsingleton.elim _ _
      exact result_shift H d
    · rw [val_main_v37_eq, h0, h3, h4, h6, h7, h8, h9, h10, h11, h12, h13, h14]
      funext y
      obtain ⟨z, d, rfl⟩ : ∃ z d, y = ix2 z d := ⟨_, _, eq_ix2 y⟩
      obtain rfl : z = 0 := Subsingleton.elim _ _
      exact result_scale H d
    · rw [val_main_v42_eq, h0, h2, h4, h6, h7, h8, h9, h10, h11, h12, h13, h14]
      funext y
      obtain ⟨z, d, rfl⟩ : ∃ z d, y = ix2 z d := ⟨_, _, eq_ix2 y⟩
      obtain rfl : z = 0 := Subsingleton.elim _ _
      exact result_weight H d

end Cert.ProjProof.Claim

end
-- ==== Proof.MixForms.lean ====
/- What the mixing kernel leaves in each of its results at a grid point, as a function of the blocks it has read. -/
module

public import proofs.«01_k».proof.Proof.Gen.MixIdeal.Frame.Runs

@[expose] public section

set_option maxRecDepth 16384

noncomputable section

namespace Cert.MixProof

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The blocks the body reads at a grid point. -/
structure Blocks (F : FTy → Type) where
  o : Vec F S256x512 .f32
  za : Vec F S256x512 .f32
  ys : Vec F S256x512 .f32
  zb : Vec F S256x512 .f32
  ga : Vec F S256x1024 .f32
  gb : Vec F S256x1024 .f32
  x : Vec F S256x1024 .f32
  tgt : Vec F S256x1024 .f32
  gate : Vec F S1x1024 .f32
  bglu : Vec F S1x512 .f32
  gf : Vec F S1x1024 .f32
  wglu : Vec F S512x512 .bf16
  wua : Vec F S512x1024 .bf16
  wub : Vec F S512x1024 .bf16
  wout : Vec F S1024x1024 .bf16
  hsel : Vec F S8x512 .f32

/-- The sums over the rows that the kernel carries from one grid point to the next. -/
structure Sums (F : FTy → Type) where
  bglu : Vec F S1x512 .f32
  gate : Vec F S1x1024 .f32
  gf : Vec F S1x1024 .f32
  loss : Vec F S1x1 .f32

/-- The zero block a product is added to. -/
def zeros : FVec F S256x512 .f32 := constant S256x512 .f32 0x00000000#32

/-- The number one. -/
def one : F .f32 := Scalar.ofBits .f32 0x3F800000#32

namespace Blocks

variable (X : Blocks F)

def ygf : FVec F S256x512 .f32 := k0_pay12 X.ys

def yg : FVec F S256x512 .bf16 := k0_pay13 X.ys

def sg : FVec F S256x512 .f32 := k0_pay15 X.yg (k0_pay14 X.wglu) zeros X.bglu

def glu : FVec F S256x512 .f32 := k0_pay16 X.ygf X.yg (k0_pay14 X.wglu) zeros X.bglu

def ya : FVec F S256x512 .bf16 := k0_pay10 X.o X.za

def yb : FVec F S256x512 .bf16 := k0_pay19 X.ygf X.yg (k0_pay14 X.wglu) zeros X.bglu X.zb

def ua : FVec F S256x1024 .f32 := k0_pay20 X.ya X.wua

def ub : FVec F S256x1024 .f32 := k0_pay21 X.ygf X.yg (k0_pay14 X.wglu) zeros X.bglu X.zb X.wub

def ea : FVec F S256x1024 .f32 := k0_pay22 X.ga

def sa : FVec F S256x1024 .f32 := k0_pay23 X.ea one

def sb : FVec F S256x1024 .f32 := k0_pay24 X.gb

def merged : FVec F S256x1024 .bf16 := k0_pay25 X.ua X.ub X.ea one X.gb

def mo : FVec F S256x1024 .f32 := k0_pay26 X.ua X.ub X.ea one X.gb X.wout

def inv : FVec F S256x1 .f32 := k0_pay28 X.ua X.ub X.ea one X.gb X.wout X.gate X.x

def xn : FVec F S256x1024 .f32 := k0_pay29 X.ua X.ub X.ea one X.gb X.wout X.gate X.x

def y : FVec F S256x1024 .f32 := k0_pay31 X.ua X.ub X.ea one X.gb X.wout X.gate X.x X.gf

def dx2 : FVec F S256x1024 .f32 := k0_pay35 X.inv X.xn (k0_pay30 X.gf) X.y X.tgt

def dmo : FVec F S256x1024 .bf16 := k0_pay37 X.gate X.dx2

def dua : FVec F S256x1024 .bf16 := k0_pay41 X.sa X.gate X.dx2 X.wout

def dub : FVec F S256x1024 .bf16 := k0_pay42 X.sb X.gate X.dx2 X.wout

def dga : FVec F S256x1024 .bf16 := k0_pay43 X.ua X.sa X.gate X.dx2 X.wout

def dgb : FVec F S256x1024 .bf16 := k0_pay44 X.ub X.sb X.gate X.dx2 X.wout

def do_ : FVec F S256x512 .bf16 := k0_pay49 (k0_pay9 X.za) X.dua (k0_pay45 X.wua) zeros

def dl : FVec F S8x256 .f32 := k0_pay50 X.o (k0_pay9 X.za) X.dua (k0_pay45 X.wua) zeros X.hsel

def dza : FVec F S256x512 .bf16 := k0_pay51 X.o (k0_pay8 X.za) (k0_pay9 X.za) X.dua (k0_pay45 X.wua) zeros

def dglu : FVec F S256x512 .f32 := k0_pay52 (k0_pay18 X.zb) X.dub X.wub

def dzb : FVec F S256x512 .bf16 := k0_pay53 X.glu (k0_pay17 X.zb) (k0_pay18 X.zb) X.dub X.wub

def dglf : FVec F S256x512 .f32 := k0_pay54 X.ygf X.sg (k0_pay18 X.zb) X.dub X.wub

def dgl : FVec F S256x512 .bf16 := k0_pay2 X.dglf

def dys : FVec F S256x512 .f32 := k0_pay3 X.ys (k0_pay11 X.ys) X.sg X.dglu X.dglf X.wglu

end Blocks

namespace Sums

/-- The sums before the first grid point. -/
def start : Sums F := ⟨k0_pay4, k0_pay5, k0_pay6, k0_pay7⟩

/-- The sums after one more block. -/
def step (a : Sums F) (X : Blocks F) : Sums F :=
  ⟨k0_pay1 (k0_pay55 a.bglu) (k0_pay56 X.ygf X.sg (k0_pay18 X.zb) X.dub X.wub), k0_pay36 X.mo X.dx2 a.gate,
    k0_pay34 X.xn X.y X.tgt a.gf, k0_pay33 X.y X.tgt a.loss⟩

end Sums

end Cert.MixProof

end
-- ==== Proof.MixState.lean ====
/- The mixing kernel's body run at a grid point: what its staging buffers hold afterwards. -/
module

public import proofs.«01_k».proof.Proof.MixForms
public import Idealize.ShloMosaic.Lib.Pipeline.Value

@[expose] public section

set_option maxRecDepth 16384

noncomputable section

namespace Cert.MixProof

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The staging buffers of the blocks the body reads. -/
def reads (c : Dev nD)
    (arg1 : Memref sig .tc .vmem S256x512 .f32) (arg2 : Memref sig .tc .vmem S256x512 .f32)
    (arg3 : Memref sig .tc .vmem S256x512 .f32) (arg4 : Memref sig .tc .vmem S256x512 .f32)
    (arg5 : Memref sig .tc .vmem S256x1024 .f32) (arg6 : Memref sig .tc .vmem S256x1024 .f32)
    (arg7 : Memref sig .tc .vmem S256x1024 .f32) (arg8 : Memref sig .tc .vmem S256x1024 .f32)
    (arg9 : Memref sig .tc .vmem S1x1024 .f32) (arg10 : Memref sig .tc .vmem S1x512 .f32)
    (arg11 : Memref sig .tc .vmem S1x1024 .f32) (arg12 : Memref sig .tc .vmem S512x512 .bf16)
    (arg13 : Memref sig .tc .vmem S512x1024 .bf16) (arg14 : Memref sig .tc .vmem S512x1024 .bf16)
    (arg15 : Memref sig .tc .vmem S1024x1024 .bf16) (arg16 : Memref sig .tc .vmem S8x512 .f32)
    (X : Blocks F) : sProp 𝕄 :=
  iprop(owns (c : Thread nD τ) arg1 fullShare X.o ∗ owns (c : Thread nD τ) arg2 fullShare X.za ∗ owns (c : Thread nD τ) arg3 fullShare X.ys ∗ owns (c : Thread nD τ) arg4 fullShare X.zb ∗ owns (c : Thread nD τ) arg5 fullShare X.ga ∗ owns (c : Thread nD τ) arg6 fullShare X.gb ∗ owns (c : Thread nD τ) arg7 fullShare X.x ∗ owns (c : Thread nD τ) arg8 fullShare X.tgt ∗ owns (c : Thread nD τ) arg9 fullShare X.gate ∗ owns (c : Thread nD τ) arg10 fullShare X.bglu ∗ owns (c : Thread nD τ) arg11 fullShare X.gf ∗ owns (c : Thread nD τ) arg12 fullShare X.wglu ∗ owns (c : Thread nD τ) arg13 fullShare X.wua ∗ owns (c : Thread nD τ) arg14 fullShare X.wub ∗ owns (c : Thread nD τ) arg15 fullShare X.wout ∗ owns (c : Thread nD τ) arg16 fullShare X.hsel)

/-- The staging buffers of the results, at any contents. -/
def free (c : Dev nD)
    (arg17 : Memref sig .tc .vmem S256x1024 .f32) (arg18 : Memref sig .tc .vmem S256x512 .bf16)
    (arg19 : Memref sig .tc .vmem S256x512 .bf16) (arg20 : Memref sig .tc .vmem S256x512 .bf16)
    (arg21 : Memref sig .tc .vmem S256x1024 .bf16) (arg22 : Memref sig .tc .vmem S256x1024 .bf16)
    (arg23 : Memref sig .tc .vmem S256x512 .f32) (arg24 : Memref sig .tc .vmem S8x256 .f32)
    (arg25 : Memref sig .tc .vmem S256x1024 .bf16) (arg26 : Memref sig .tc .vmem S256x1024 .bf16)
    (arg27 : Memref sig .tc .vmem S256x512 .bf16) (arg28 : Memref sig .tc .vmem S256x1024 .bf16)
    (arg29 : Memref sig .tc .vmem S256x512 .bf16) (arg30 : Memref sig .tc .vmem S256x1024 .bf16)
    (arg31 : Memref sig .tc .vmem S256x512 .bf16) (arg32 : Memref sig .tc .vmem S256x512 .bf16) : sProp 𝕄 :=
  iprop((∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d))

/-- The staging buffers of the results at a point's values. -/
def written (c : Dev nD)
    (arg17 : Memref sig .tc .vmem S256x1024 .f32) (arg18 : Memref sig .tc .vmem S256x512 .bf16)
    (arg19 : Memref sig .tc .vmem S256x512 .bf16) (arg20 : Memref sig .tc .vmem S256x512 .bf16)
    (arg21 : Memref sig .tc .vmem S256x1024 .bf16) (arg22 : Memref sig .tc .vmem S256x1024 .bf16)
    (arg23 : Memref sig .tc .vmem S256x512 .f32) (arg24 : Memref sig .tc .vmem S8x256 .f32)
    (arg25 : Memref sig .tc .vmem S256x1024 .bf16) (arg26 : Memref sig .tc .vmem S256x1024 .bf16)
    (arg27 : Memref sig .tc .vmem S256x512 .bf16) (arg28 : Memref sig .tc .vmem S256x1024 .bf16)
    (arg29 : Memref sig .tc .vmem S256x512 .bf16) (arg30 : Memref sig .tc .vmem S256x1024 .bf16)
    (arg31 : Memref sig .tc .vmem S256x512 .bf16) (arg32 : Memref sig .tc .vmem S256x512 .bf16)
    (X : Blocks F) : sProp 𝕄 :=
  iprop(owns (c : Thread nD τ) arg17 fullShare X.dx2 ∗ owns (c : Thread nD τ) arg18 fullShare X.do_ ∗ owns (c : Thread nD τ) arg19 fullShare X.dza ∗ owns (c : Thread nD τ) arg20 fullShare X.dzb ∗ owns (c : Thread nD τ) arg21 fullShare X.dga ∗ owns (c : Thread nD τ) arg22 fullShare X.dgb ∗ owns (c : Thread nD τ) arg23 fullShare X.dys ∗ owns (c : Thread nD τ) arg24 fullShare X.dl ∗ owns (c : Thread nD τ) arg25 fullShare X.merged ∗ owns (c : Thread nD τ) arg26 fullShare X.dmo ∗ owns (c : Thread nD τ) arg27 fullShare X.ya ∗ owns (c : Thread nD τ) arg28 fullShare X.dua ∗ owns (c : Thread nD τ) arg29 fullShare X.yb ∗ owns (c : Thread nD τ) arg30 fullShare X.dub ∗ owns (c : Thread nD τ) arg31 fullShare X.yg ∗ owns (c : Thread nD τ) arg32 fullShare X.dgl)

/-- The staging buffers of the carried sums, at any contents. -/
def freeSums (c : Dev nD)
    (arg33 : Memref sig .tc .vmem S1x512 .f32) (arg34 : Memref sig .tc .vmem S1x1024 .f32)
    (arg35 : Memref sig .tc .vmem S1x1024 .f32) (arg36 : Memref sig .tc .vmem S1x1 .f32) : sProp 𝕄 :=
  iprop((∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d))

/-- The staging buffers of the carried sums. -/
def sums (c : Dev nD)
    (arg33 : Memref sig .tc .vmem S1x512 .f32) (arg34 : Memref sig .tc .vmem S1x1024 .f32)
    (arg35 : Memref sig .tc .vmem S1x1024 .f32) (arg36 : Memref sig .tc .vmem S1x1 .f32)
    (a : Sums F) : sProp 𝕄 :=
  iprop(owns (c : Thread nD τ) arg33 fullShare a.bglu ∗ owns (c : Thread nD τ) arg34 fullShare a.gate ∗ owns (c : Thread nD τ) arg35 fullShare a.gf ∗ owns (c : Thread nD τ) arg36 fullShare a.loss)

theorem hz : (![0, 0] : Fin 2 → Nat) = fun _ => 0 := funext fun a => by fin_cases a <;> rfl

/-- A block stored whole is what its buffer holds afterwards. -/
theorem stored {S : Shape} {e : EltTy} (v : View sig .tc .vmem S e) (f : v.ty.Contents (Elt F))
    {off : Fin S.rank → ℕ} (hoff : off = fun _ => 0) (inb : ∀ a, off a + S.size a ≤ S.size a) (d : S.Idx → Elt F e)
    (L : List (View.Piece (Elt F) S e)) :
    v.read (Elt F) (v.writes (Elt F) f (⟨Rect.unit off S.size inb, d⟩ :: L)) = d := by
  rw [View.read_writes_eq_canon _ _ _ fun y => ⟨_, List.mem_cons_self, View.mem_set_unit_zero hoff inb y⟩]
  exact View.canon_cons_unit_zero (S := S) hoff inb d L

theorem loaded_256x512 {e : EltTy} (X : S256x512.Idx → Elt F e) (inb : ∀ a, (![0, 0] : Fin 2 → ℕ) a + (![256, 512] : Fin 2 → ℕ) a ≤ S256x512.size a) :
    View.ld X (Rect.unit (s := S256x512) ![0, 0] ![256, 512] inb) = X := View.ld_unit_zero (S := S256x512) hz inb X

theorem loaded_256x1024 {e : EltTy} (X : S256x1024.Idx → Elt F e) (inb : ∀ a, (![0, 0] : Fin 2 → ℕ) a + (![256, 1024] : Fin 2 → ℕ) a ≤ S256x1024.size a) :
    View.ld X (Rect.unit (s := S256x1024) ![0, 0] ![256, 1024] inb) = X := View.ld_unit_zero (S := S256x1024) hz inb X

theorem loaded_1x1024 {e : EltTy} (X : S1x1024.Idx → Elt F e) (inb : ∀ a, (![0, 0] : Fin 2 → ℕ) a + (![1, 1024] : Fin 2 → ℕ) a ≤ S1x1024.size a) :
    View.ld X (Rect.unit (s := S1x1024) ![0, 0] ![1, 1024] inb) = X := View.ld_unit_zero (S := S1x1024) hz inb X

theorem loaded_1x512 {e : EltTy} (X : S1x512.Idx → Elt F e) (inb : ∀ a, (![0, 0] : Fin 2 → ℕ) a + (![1, 512] : Fin 2 → ℕ) a ≤ S1x512.size a) :
    View.ld X (Rect.unit (s := S1x512) ![0, 0] ![1, 512] inb) = X := View.ld_unit_zero (S := S1x512) hz inb X

theorem loaded_512x512 {e : EltTy} (X : S512x512.Idx → Elt F e) (inb : ∀ a, (![0, 0] : Fin 2 → ℕ) a + (![512, 512] : Fin 2 → ℕ) a ≤ S512x512.size a) :
    View.ld X (Rect.unit (s := S512x512) ![0, 0] ![512, 512] inb) = X := View.ld_unit_zero (S := S512x512) hz inb X

theorem loaded_512x1024 {e : EltTy} (X : S512x1024.Idx → Elt F e) (inb : ∀ a, (![0, 0] : Fin 2 → ℕ) a + (![512, 1024] : Fin 2 → ℕ) a ≤ S512x1024.size a) :
    View.ld X (Rect.unit (s := S512x1024) ![0, 0] ![512, 1024] inb) = X := View.ld_unit_zero (S := S512x1024) hz inb X

theorem loaded_1024x1024 {e : EltTy} (X : S1024x1024.Idx → Elt F e) (inb : ∀ a, (![0, 0] : Fin 2 → ℕ) a + (![1024, 1024] : Fin 2 → ℕ) a ≤ S1024x1024.size a) :
    View.ld X (Rect.unit (s := S1024x1024) ![0, 0] ![1024, 1024] inb) = X := View.ld_unit_zero (S := S1024x1024) hz inb X

theorem loaded_8x512 {e : EltTy} (X : S8x512.Idx → Elt F e) (inb : ∀ a, (![0, 0] : Fin 2 → ℕ) a + (![8, 512] : Fin 2 → ℕ) a ≤ S8x512.size a) :
    View.ld X (Rect.unit (s := S8x512) ![0, 0] ![8, 512] inb) = X := View.ld_unit_zero (S := S8x512) hz inb X

theorem loaded_1x1 {e : EltTy} (X : S1x1.Idx → Elt F e) (inb : ∀ a, (![0, 0] : Fin 2 → ℕ) a + (![1, 1] : Fin 2 → ℕ) a ≤ S1x1.size a) :
    View.ld X (Rect.unit (s := S1x1) ![0, 0] ![1, 1] inb) = X := View.ld_unit_zero (S := S1x1) hz inb X

theorem again_1x512 {e : EltTy} (v : View sig .tc .vmem S1x512 e) (X : S1x512.Idx → Elt F e)
    (inb : ∀ a, (![0, 0] : Fin 2 → ℕ) a + (![1, 512] : Fin 2 → ℕ) a ≤ S1x512.size a) :
    v.readCov [(⟨Rect.unit (s := S1x512) ![0, 0] ![1, 512] inb, X⟩ : View.Piece (Elt F) S1x512 e)]
      (Rect.unit (s := S1x512) ![0, 0] ![1, 512] inb).toLoadRect = X := View.readCov_unit_zero (S := S1x512) v hz inb X

theorem again_1x1024 {e : EltTy} (v : View sig .tc .vmem S1x1024 e) (X : S1x1024.Idx → Elt F e)
    (inb : ∀ a, (![0, 0] : Fin 2 → ℕ) a + (![1, 1024] : Fin 2 → ℕ) a ≤ S1x1024.size a) :
    v.readCov [(⟨Rect.unit (s := S1x1024) ![0, 0] ![1, 1024] inb, X⟩ : View.Piece (Elt F) S1x1024 e)]
      (Rect.unit (s := S1x1024) ![0, 0] ![1, 1024] inb).toLoadRect = X := View.readCov_unit_zero (S := S1x1024) v hz inb X

theorem again_1x1 {e : EltTy} (v : View sig .tc .vmem S1x1 e) (X : S1x1.Idx → Elt F e)
    (inb : ∀ a, (![0, 0] : Fin 2 → ℕ) a + (![1, 1] : Fin 2 → ℕ) a ≤ S1x1.size a) :
    v.readCov [(⟨Rect.unit (s := S1x1) ![0, 0] ![1, 1] inb, X⟩ : View.Piece (Elt F) S1x1 e)]
      (Rect.unit (s := S1x1) ![0, 0] ![1, 1] inb).toLoadRect = X := View.readCov_unit_zero (S := S1x1) v hz inb X

end Cert.MixProof

end
-- ==== Proof.MixRunA.lean ====
/- The mixing kernel's body run at the first grid point. -/
module

public import proofs.«01_k».proof.Proof.MixState

@[expose] public section

set_option maxRecDepth 16384

noncomputable section

namespace Cert.MixProof

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem run_A (c : Dev nD) (i : grid0.Coords)
    (arg1 : Memref sig .tc .vmem S256x512 .f32) (harg1 : arg1.IsWhole)
    (arg2 : Memref sig .tc .vmem S256x512 .f32) (harg2 : arg2.IsWhole)
    (arg3 : Memref sig .tc .vmem S256x512 .f32) (harg3 : arg3.IsWhole)
    (arg4 : Memref sig .tc .vmem S256x512 .f32) (harg4 : arg4.IsWhole)
    (arg5 : Memref sig .tc .vmem S256x1024 .f32) (harg5 : arg5.IsWhole)
    (arg6 : Memref sig .tc .vmem S256x1024 .f32) (harg6 : arg6.IsWhole)
    (arg7 : Memref sig .tc .vmem S256x1024 .f32) (harg7 : arg7.IsWhole)
    (arg8 : Memref sig .tc .vmem S256x1024 .f32) (harg8 : arg8.IsWhole)
    (arg9 : Memref sig .tc .vmem S1x1024 .f32) (harg9 : arg9.IsWhole)
    (arg10 : Memref sig .tc .vmem S1x512 .f32) (harg10 : arg10.IsWhole)
    (arg11 : Memref sig .tc .vmem S1x1024 .f32) (harg11 : arg11.IsWhole)
    (arg12 : Memref sig .tc .vmem S512x512 .bf16) (harg12 : arg12.IsWhole)
    (arg13 : Memref sig .tc .vmem S512x1024 .bf16) (harg13 : arg13.IsWhole)
    (arg14 : Memref sig .tc .vmem S512x1024 .bf16) (harg14 : arg14.IsWhole)
    (arg15 : Memref sig .tc .vmem S1024x1024 .bf16) (harg15 : arg15.IsWhole)
    (arg16 : Memref sig .tc .vmem S8x512 .f32) (harg16 : arg16.IsWhole)
    (arg17 : Memref sig .tc .vmem S256x1024 .f32) (harg17 : arg17.IsWhole)
    (arg18 : Memref sig .tc .vmem S256x512 .bf16) (harg18 : arg18.IsWhole)
    (arg19 : Memref sig .tc .vmem S256x512 .bf16) (harg19 : arg19.IsWhole)
    (arg20 : Memref sig .tc .vmem S256x512 .bf16) (harg20 : arg20.IsWhole)
    (arg21 : Memref sig .tc .vmem S256x1024 .bf16) (harg21 : arg21.IsWhole)
    (arg22 : Memref sig .tc .vmem S256x1024 .bf16) (harg22 : arg22.IsWhole)
    (arg23 : Memref sig .tc .vmem S256x512 .f32) (harg23 : arg23.IsWhole)
    (arg24 : Memref sig .tc .vmem S8x256 .f32) (harg24 : arg24.IsWhole)
    (arg25 : Memref sig .tc .vmem S256x1024 .bf16) (harg25 : arg25.IsWhole)
    (arg26 : Memref sig .tc .vmem S256x1024 .bf16) (harg26 : arg26.IsWhole)
    (arg27 : Memref sig .tc .vmem S256x512 .bf16) (harg27 : arg27.IsWhole)
    (arg28 : Memref sig .tc .vmem S256x1024 .bf16) (harg28 : arg28.IsWhole)
    (arg29 : Memref sig .tc .vmem S256x512 .bf16) (harg29 : arg29.IsWhole)
    (arg30 : Memref sig .tc .vmem S256x1024 .bf16) (harg30 : arg30.IsWhole)
    (arg31 : Memref sig .tc .vmem S256x512 .bf16) (harg31 : arg31.IsWhole)
    (arg32 : Memref sig .tc .vmem S256x512 .bf16) (harg32 : arg32.IsWhole)
    (arg33 : Memref sig .tc .vmem S1x512 .f32) (harg33 : arg33.IsWhole)
    (arg34 : Memref sig .tc .vmem S1x1024 .f32) (harg34 : arg34.IsWhole)
    (arg35 : Memref sig .tc .vmem S1x1024 .f32) (harg35 : arg35.IsWhole)
    (arg36 : Memref sig .tc .vmem S1x1 .f32) (harg36 : arg36.IsWhole)
    (hc0 : cond0_0 i) (X : Blocks F) (E : Set ℕ) (K : PUnit → sProp 𝕄) :
    iprop(reads c arg1 arg2 arg3 arg4 arg5 arg6 arg7 arg8 arg9 arg10 arg11 arg12 arg13 arg14 arg15 arg16 X
        ∗ free c arg17 arg18 arg19 arg20 arg21 arg22 arg23 arg24 arg25 arg26 arg27 arg28 arg29 arg30 arg31 arg32 ∗ freeSums c arg33 arg34 arg35 arg36
        ∗ (iprop(reads c arg1 arg2 arg3 arg4 arg5 arg6 arg7 arg8 arg9 arg10 arg11 arg12 arg13 arg14 arg15 arg16 X
          ∗ written c arg17 arg18 arg19 arg20 arg21 arg22 arg23 arg24 arg25 arg26 arg27 arg28 arg29 arg30 arg31 arg32 X
          ∗ sums c arg33 arg34 arg35 arg36 (Sums.start.step X)) -∗ K ⟨⟩))
      ⊢ wp frame (wpE (defs₀ (F := F)) Variants.none c none) E
        (cc0_mix i
          arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18
          arg19 harg19 arg20 harg20 arg21 harg21 arg22 harg22 arg23 harg23 arg24 harg24 arg25 harg25 arg26 harg26
          arg27 harg27 arg28 harg28 arg29 harg29 arg30 harg30 arg31 harg31 arg32 harg32 arg33 harg33 arg34 harg34
          arg35 harg35 arg36 harg36) K := by
  simp only [cc0_mix_eq_skeleton]; unfold cc0_mix_skel
  simp only [k0_part1_eq_skeleton, k0_part2_eq_skeleton, k0_part3_eq_skeleton, k0_part4_eq_skeleton, k0_part5_eq_skeleton,
    k0_part6_eq_skeleton]
  unfold reads free freeSums written sums owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩,
    ⟨⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩⟩,
    ⟨⟨%d32, %f32, -, H32⟩, ⟨%d33, %f33, -, H33⟩, ⟨%d34, %f34, -, H34⟩, ⟨%d35, %f35, -, H35⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
  sl_exec (disch := first | sl_exact hc0)
  sl_step
  iapply Hk
  isplitl [H0 H1 H2 H3 H4 H5 H6 H7 H8 H9 H10 H11 H12 H13 H14 H15]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    iexists _; isplitr; · ipureintro; exact harg16.read_unread _
    iexact H15
  isplitl [H16 H17 H18 H19 H20 H21 H22 H23 H24 H25 H26 H27 H28 H29 H30 H31]
  isplitl [H16]; iexists _; isplitr; rotate_left; iexact H16
  isplitl [H17]; iexists _; isplitr; rotate_left; iexact H17
  isplitl [H18]; iexists _; isplitr; rotate_left; iexact H18
  isplitl [H19]; iexists _; isplitr; rotate_left; iexact H19
  isplitl [H20]; iexists _; isplitr; rotate_left; iexact H20
  isplitl [H21]; iexists _; isplitr; rotate_left; iexact H21
  isplitl [H22]; iexists _; isplitr; rotate_left; iexact H22
  isplitl [H23]; iexists _; isplitr; rotate_left; iexact H23
  isplitl [H24]; iexists _; isplitr; rotate_left; iexact H24
  isplitl [H25]; iexists _; isplitr; rotate_left; iexact H25
  isplitl [H26]; iexists _; isplitr; rotate_left; iexact H26
  isplitl [H27]; iexists _; isplitr; rotate_left; iexact H27
  isplitl [H28]; iexists _; isplitr; rotate_left; iexact H28
  isplitl [H29]; iexists _; isplitr; rotate_left; iexact H29
  isplitl [H30]; iexists _; isplitr; rotate_left; iexact H30
  iexists _; isplitr; rotate_left; iexact H31
  isplitl [H32]; iexists _; isplitr; rotate_left; iexact H32
  isplitl [H33]; iexists _; isplitr; rotate_left; iexact H33
  isplitl [H34]; iexists _; isplitr; rotate_left; iexact H34
  iexists _; isplitr; rotate_left; iexact H35
  all_goals
    ipureintro
    refine (stored _ _ hz _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
      loaded_256x512, loaded_256x1024, loaded_1x1024, loaded_1x512, loaded_512x512, loaded_512x1024, loaded_1024x1024, loaded_8x512,
      again_1x512, again_1x1024, again_1x1]
    rfl

end Cert.MixProof

end
-- ==== Proof.MixRunB.lean ====
/- The mixing kernel's body run at a later grid point. -/
module

public import proofs.«01_k».proof.Proof.MixRunA

@[expose] public section

set_option maxRecDepth 16384

noncomputable section

namespace Cert.MixProof

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem run_B (c : Dev nD) (i : grid0.Coords)
    (arg1 : Memref sig .tc .vmem S256x512 .f32) (harg1 : arg1.IsWhole)
    (arg2 : Memref sig .tc .vmem S256x512 .f32) (harg2 : arg2.IsWhole)
    (arg3 : Memref sig .tc .vmem S256x512 .f32) (harg3 : arg3.IsWhole)
    (arg4 : Memref sig .tc .vmem S256x512 .f32) (harg4 : arg4.IsWhole)
    (arg5 : Memref sig .tc .vmem S256x1024 .f32) (harg5 : arg5.IsWhole)
    (arg6 : Memref sig .tc .vmem S256x1024 .f32) (harg6 : arg6.IsWhole)
    (arg7 : Memref sig .tc .vmem S256x1024 .f32) (harg7 : arg7.IsWhole)
    (arg8 : Memref sig .tc .vmem S256x1024 .f32) (harg8 : arg8.IsWhole)
    (arg9 : Memref sig .tc .vmem S1x1024 .f32) (harg9 : arg9.IsWhole)
    (arg10 : Memref sig .tc .vmem S1x512 .f32) (harg10 : arg10.IsWhole)
    (arg11 : Memref sig .tc .vmem S1x1024 .f32) (harg11 : arg11.IsWhole)
    (arg12 : Memref sig .tc .vmem S512x512 .bf16) (harg12 : arg12.IsWhole)
    (arg13 : Memref sig .tc .vmem S512x1024 .bf16) (harg13 : arg13.IsWhole)
    (arg14 : Memref sig .tc .vmem S512x1024 .bf16) (harg14 : arg14.IsWhole)
    (arg15 : Memref sig .tc .vmem S1024x1024 .bf16) (harg15 : arg15.IsWhole)
    (arg16 : Memref sig .tc .vmem S8x512 .f32) (harg16 : arg16.IsWhole)
    (arg17 : Memref sig .tc .vmem S256x1024 .f32) (harg17 : arg17.IsWhole)
    (arg18 : Memref sig .tc .vmem S256x512 .bf16) (harg18 : arg18.IsWhole)
    (arg19 : Memref sig .tc .vmem S256x512 .bf16) (harg19 : arg19.IsWhole)
    (arg20 : Memref sig .tc .vmem S256x512 .bf16) (harg20 : arg20.IsWhole)
    (arg21 : Memref sig .tc .vmem S256x1024 .bf16) (harg21 : arg21.IsWhole)
    (arg22 : Memref sig .tc .vmem S256x1024 .bf16) (harg22 : arg22.IsWhole)
    (arg23 : Memref sig .tc .vmem S256x512 .f32) (harg23 : arg23.IsWhole)
    (arg24 : Memref sig .tc .vmem S8x256 .f32) (harg24 : arg24.IsWhole)
    (arg25 : Memref sig .tc .vmem S256x1024 .bf16) (harg25 : arg25.IsWhole)
    (arg26 : Memref sig .tc .vmem S256x1024 .bf16) (harg26 : arg26.IsWhole)
    (arg27 : Memref sig .tc .vmem S256x512 .bf16) (harg27 : arg27.IsWhole)
    (arg28 : Memref sig .tc .vmem S256x1024 .bf16) (harg28 : arg28.IsWhole)
    (arg29 : Memref sig .tc .vmem S256x512 .bf16) (harg29 : arg29.IsWhole)
    (arg30 : Memref sig .tc .vmem S256x1024 .bf16) (harg30 : arg30.IsWhole)
    (arg31 : Memref sig .tc .vmem S256x512 .bf16) (harg31 : arg31.IsWhole)
    (arg32 : Memref sig .tc .vmem S256x512 .bf16) (harg32 : arg32.IsWhole)
    (arg33 : Memref sig .tc .vmem S1x512 .f32) (harg33 : arg33.IsWhole)
    (arg34 : Memref sig .tc .vmem S1x1024 .f32) (harg34 : arg34.IsWhole)
    (arg35 : Memref sig .tc .vmem S1x1024 .f32) (harg35 : arg35.IsWhole)
    (arg36 : Memref sig .tc .vmem S1x1 .f32) (harg36 : arg36.IsWhole)
    (hc0 : ¬cond0_0 i) (X : Blocks F) (a : Sums F) (E : Set ℕ) (K : PUnit → sProp 𝕄) :
    iprop(reads c arg1 arg2 arg3 arg4 arg5 arg6 arg7 arg8 arg9 arg10 arg11 arg12 arg13 arg14 arg15 arg16 X
        ∗ free c arg17 arg18 arg19 arg20 arg21 arg22 arg23 arg24 arg25 arg26 arg27 arg28 arg29 arg30 arg31 arg32 ∗ sums c arg33 arg34 arg35 arg36 a
        ∗ (iprop(reads c arg1 arg2 arg3 arg4 arg5 arg6 arg7 arg8 arg9 arg10 arg11 arg12 arg13 arg14 arg15 arg16 X
          ∗ written c arg17 arg18 arg19 arg20 arg21 arg22 arg23 arg24 arg25 arg26 arg27 arg28 arg29 arg30 arg31 arg32 X
          ∗ sums c arg33 arg34 arg35 arg36 (a.step X)) -∗ K ⟨⟩))
      ⊢ wp frame (wpE (defs₀ (F := F)) Variants.none c none) E
        (cc0_mix i
          arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18
          arg19 harg19 arg20 harg20 arg21 harg21 arg22 harg22 arg23 harg23 arg24 harg24 arg25 harg25 arg26 harg26
          arg27 harg27 arg28 harg28 arg29 harg29 arg30 harg30 arg31 harg31 arg32 harg32 arg33 harg33 arg34 harg34
          arg35 harg35 arg36 harg36) K := by
  simp only [cc0_mix_eq_skeleton]; unfold cc0_mix_skel
  simp only [k0_part1_eq_skeleton, k0_part2_eq_skeleton, k0_part3_eq_skeleton, k0_part4_eq_skeleton, k0_part5_eq_skeleton,
    k0_part6_eq_skeleton]
  unfold reads free written sums owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩,
    ⟨⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩⟩,
    ⟨⟨%f32, %hf32, H32⟩, ⟨%f33, %hf33, H33⟩, ⟨%f34, %hf34, H34⟩, ⟨%f35, %hf35, H35⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg33.eq_unread hf32; obtain rfl := harg34.eq_unread hf33; obtain rfl := harg35.eq_unread hf34; obtain rfl := harg36.eq_unread hf35
  sl_exec (disch := first | sl_exact hc0)
  sl_step
  iapply Hk
  isplitl [H0 H1 H2 H3 H4 H5 H6 H7 H8 H9 H10 H11 H12 H13 H14 H15]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    iexists _; isplitr; · ipureintro; exact harg16.read_unread _
    iexact H15
  isplitl [H16 H17 H18 H19 H20 H21 H22 H23 H24 H25 H26 H27 H28 H29 H30 H31]
  isplitl [H16]; iexists _; isplitr; rotate_left; iexact H16
  isplitl [H17]; iexists _; isplitr; rotate_left; iexact H17
  isplitl [H18]; iexists _; isplitr; rotate_left; iexact H18
  isplitl [H19]; iexists _; isplitr; rotate_left; iexact H19
  isplitl [H20]; iexists _; isplitr; rotate_left; iexact H20
  isplitl [H21]; iexists _; isplitr; rotate_left; iexact H21
  isplitl [H22]; iexists _; isplitr; rotate_left; iexact H22
  isplitl [H23]; iexists _; isplitr; rotate_left; iexact H23
  isplitl [H24]; iexists _; isplitr; rotate_left; iexact H24
  isplitl [H25]; iexists _; isplitr; rotate_left; iexact H25
  isplitl [H26]; iexists _; isplitr; rotate_left; iexact H26
  isplitl [H27]; iexists _; isplitr; rotate_left; iexact H27
  isplitl [H28]; iexists _; isplitr; rotate_left; iexact H28
  isplitl [H29]; iexists _; isplitr; rotate_left; iexact H29
  isplitl [H30]; iexists _; isplitr; rotate_left; iexact H30
  iexists _; isplitr; rotate_left; iexact H31
  isplitl [H32]; iexists _; isplitr; rotate_left; iexact H32
  isplitl [H33]; iexists _; isplitr; rotate_left; iexact H33
  isplitl [H34]; iexists _; isplitr; rotate_left; iexact H34
  iexists _; isplitr; rotate_left; iexact H35
  all_goals
    ipureintro
    refine (stored _ _ hz _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg33.read_unread, harg34.read_unread, harg35.read_unread, harg36.read_unread,
      loaded_256x512, loaded_256x1024, loaded_1x1024, loaded_1x512, loaded_512x512, loaded_512x1024, loaded_1024x1024, loaded_8x512,
      loaded_1x1]
    rfl

end Cert.MixProof

end
-- ==== Proof.MixFrame.lean ====
/- The mixing kernel's certificate data and its frame. -/
module

public import proofs.«01_k».proof.Proof.MixRunB
public import Idealize.ShloMosaic.Lib.Claim

@[expose] public section

set_option maxRecDepth 16384

noncomputable section

namespace Cert.MixProof

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The blocks read at a grid point. -/
def blocks (c : Dev nD) (t : Fin cfg0.N) : Blocks F where
  o := iblk m c 0 t
  za := iblk m c 1 t
  ys := iblk m c 2 t
  zb := iblk m c 3 t
  ga := iblk m c 4 t
  gb := iblk m c 5 t
  x := iblk m c 6 t
  tgt := iblk m c 7 t
  gate := iblk m c 8 t
  bglu := iblk m c 9 t
  gf := iblk m c 10 t
  wglu := iblk m c 11 t
  wua := iblk m c 12 t
  wub := iblk m c 13 t
  wout := iblk m c 14 t
  hsel := iblk m c 15 t

/-- The sums after a grid point. -/
def carried (c : Dev nD) : (n : ℕ) → n < cfg0.N → Sums F
  | 0, h => Sums.start.step (blocks m c ⟨0, h⟩)
  | n + 1, h => (carried c n (Nat.lt_of_succ_lt h)).step (blocks m c ⟨n + 1, h⟩)

theorem carried_first (c : Dev nD) (t : Fin cfg0.N) (h : t.val % 32 = 0) :
    carried m c t.val t.isLt = Sums.start.step (blocks m c t) := by
  have hN : t.val < 32 := lt_of_lt_of_eq t.isLt (show cfg0.N = 32 from N_0)
  obtain ⟨n, hn⟩ := t
  obtain rfl : n = 0 := by dsimp only at h hN; omega
  rfl

theorem carried_later (c : Dev nD) (t : Fin cfg0.N) (h : ¬t.val % 32 = 0) :
    carried m c t.val t.isLt
      = (carried m c (t.val - 1) (Nat.lt_of_le_of_lt (Nat.sub_le _ _) t.isLt)).step (blocks m c t) := by
  obtain ⟨n, hn⟩ := t
  cases n with
  | zero => exact absurd rfl h
  | succ n => rfl

/-- The arrays as the region finds them, and what each staging buffer holds after the body at each grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (blocks m c t).dx2
    | ⟨17, _⟩ => (blocks m c t).do_
    | ⟨18, _⟩ => (blocks m c t).dza
    | ⟨19, _⟩ => (blocks m c t).dzb
    | ⟨20, _⟩ => (blocks m c t).dga
    | ⟨21, _⟩ => (blocks m c t).dgb
    | ⟨22, _⟩ => (blocks m c t).dys
    | ⟨23, _⟩ => (blocks m c t).dl
    | ⟨24, _⟩ => (blocks m c t).merged
    | ⟨25, _⟩ => (blocks m c t).dmo
    | ⟨26, _⟩ => (blocks m c t).ya
    | ⟨27, _⟩ => (blocks m c t).dua
    | ⟨28, _⟩ => (blocks m c t).yb
    | ⟨29, _⟩ => (blocks m c t).dub
    | ⟨30, _⟩ => (blocks m c t).yg
    | ⟨31, _⟩ => (blocks m c t).dgl
    | ⟨32, _⟩ => (carried m c t.val t.isLt).bglu
    | ⟨33, _⟩ => (carried m c t.val t.isLt).gate
    | ⟨34, _⟩ => (carried m c t.val t.isLt).gf
    | ⟨35, _⟩ => (carried m c t.val t.isLt).loss
    | ⟨_ + 36, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = (blocks m c t).dx2 := by dsimp only [dats]
theorem after17 (c : Dev nD) (t : Fin cfg0.N) : (dats m 0 c).after 17 t = (blocks m c t).do_ := by dsimp only [dats]
theorem after18 (c : Dev nD) (t : Fin cfg0.N) : (dats m 0 c).after 18 t = (blocks m c t).dza := by dsimp only [dats]
theorem after19 (c : Dev nD) (t : Fin cfg0.N) : (dats m 0 c).after 19 t = (blocks m c t).dzb := by dsimp only [dats]
theorem after20 (c : Dev nD) (t : Fin cfg0.N) : (dats m 0 c).after 20 t = (blocks m c t).dga := by dsimp only [dats]
theorem after21 (c : Dev nD) (t : Fin cfg0.N) : (dats m 0 c).after 21 t = (blocks m c t).dgb := by dsimp only [dats]
theorem after22 (c : Dev nD) (t : Fin cfg0.N) : (dats m 0 c).after 22 t = (blocks m c t).dys := by dsimp only [dats]
theorem after23 (c : Dev nD) (t : Fin cfg0.N) : (dats m 0 c).after 23 t = (blocks m c t).dl := by dsimp only [dats]
theorem after24 (c : Dev nD) (t : Fin cfg0.N) : (dats m 0 c).after 24 t = (blocks m c t).merged := by dsimp only [dats]
theorem after25 (c : Dev nD) (t : Fin cfg0.N) : (dats m 0 c).after 25 t = (blocks m c t).dmo := by dsimp only [dats]
theorem after26 (c : Dev nD) (t : Fin cfg0.N) : (dats m 0 c).after 26 t = (blocks m c t).ya := by dsimp only [dats]
theorem after27 (c : Dev nD) (t : Fin cfg0.N) : (dats m 0 c).after 27 t = (blocks m c t).dua := by dsimp only [dats]
theorem after28 (c : Dev nD) (t : Fin cfg0.N) : (dats m 0 c).after 28 t = (blocks m c t).yb := by dsimp only [dats]
theorem after29 (c : Dev nD) (t : Fin cfg0.N) : (dats m 0 c).after 29 t = (blocks m c t).dub := by dsimp only [dats]
theorem after30 (c : Dev nD) (t : Fin cfg0.N) : (dats m 0 c).after 30 t = (blocks m c t).yg := by dsimp only [dats]
theorem after31 (c : Dev nD) (t : Fin cfg0.N) : (dats m 0 c).after 31 t = (blocks m c t).dgl := by dsimp only [dats]
theorem after32 (c : Dev nD) (t : Fin cfg0.N) : (dats m 0 c).after 32 t = (carried m c t.val t.isLt).bglu := by dsimp only [dats]
theorem after33 (c : Dev nD) (t : Fin cfg0.N) : (dats m 0 c).after 33 t = (carried m c t.val t.isLt).gate := by dsimp only [dats]
theorem after34 (c : Dev nD) (t : Fin cfg0.N) : (dats m 0 c).after 34 t = (carried m c t.val t.isLt).gf := by dsimp only [dats]
theorem after35 (c : Dev nD) (t : Fin cfg0.N) : (dats m 0 c).after 35 t = (carried m c t.val t.isLt).loss := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d
theorem before15 (c : Dev nD) (t : Fin cfg0.N) (d) : (dats m 0 c).before 15 t d = iblk m c 15 t :=
  before0_15_of m (dats m 0 c) (A_eq m c 15) (after15 m c) t d

theorem before32 (c : Dev nD) (t : Fin cfg0.N) (h : ¬t.val % 32 = 0) (d) : (dats m 0 c).before 32 t d
    = (carried m c (t.val - 1) (Nat.lt_of_le_of_lt (Nat.sub_le _ _) t.isLt)).bglu := by
  have hN : t.val < 32 := lt_of_lt_of_eq t.isLt (show cfg0.N = 32 from N_0)
  rw [Dat.before_out_kept _ 32 rfl t (by omega)
    (Bool.eq_false_iff.mpr fun h => by have := (flush0_32 _).mp h; dsimp only at this; omega) (fun _ => rfl) (fun _ _ => rfl)]
  dsimp only [dats]

theorem before33 (c : Dev nD) (t : Fin cfg0.N) (h : ¬t.val % 32 = 0) (d) : (dats m 0 c).before 33 t d
    = (carried m c (t.val - 1) (Nat.lt_of_le_of_lt (Nat.sub_le _ _) t.isLt)).gate := by
  have hN : t.val < 32 := lt_of_lt_of_eq t.isLt (show cfg0.N = 32 from N_0)
  rw [Dat.before_out_kept _ 33 rfl t (by omega)
    (Bool.eq_false_iff.mpr fun h => by have := (flush0_33 _).mp h; dsimp only at this; omega) (fun _ => rfl) (fun _ _ => rfl)]
  dsimp only [dats]

theorem before34 (c : Dev nD) (t : Fin cfg0.N) (h : ¬t.val % 32 = 0) (d) : (dats m 0 c).before 34 t d
    = (carried m c (t.val - 1) (Nat.lt_of_le_of_lt (Nat.sub_le _ _) t.isLt)).gf := by
  have hN : t.val < 32 := lt_of_lt_of_eq t.isLt (show cfg0.N = 32 from N_0)
  rw [Dat.before_out_kept _ 34 rfl t (by omega)
    (Bool.eq_false_iff.mpr fun h => by have := (flush0_34 _).mp h; dsimp only at this; omega) (fun _ => rfl) (fun _ _ => rfl)]
  dsimp only [dats]

theorem before35 (c : Dev nD) (t : Fin cfg0.N) (h : ¬t.val % 32 = 0) (d) : (dats m 0 c).before 35 t d
    = (carried m c (t.val - 1) (Nat.lt_of_le_of_lt (Nat.sub_le _ _) t.isLt)).loss := by
  have hN : t.val < 32 := lt_of_lt_of_eq t.isLt (show cfg0.N = 32 from N_0)
  rw [Dat.before_out_kept _ 35 rfl t (by omega)
    (Bool.eq_false_iff.mpr fun h => by have := (flush0_35 _).mp h; dsimp only at this; omega) (fun _ => rfl) (fun _ _ => rfl)]
  dsimp only [dats]

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t))

set_option maxHeartbeats 7200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13,
    after14, after15, after16, after17, after18, after19, after20, after21, after22, after23, after24, after25, after26,
    after27, after28, after29, after30, after31, after32, after33, after34, after35]
  have hN : t.val < 32 := lt_of_lt_of_eq t.isLt (show cfg0.N = 32 from N_0)
  by_cases h0 : t.val % 32 = 0
  · rw [carried_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
    iapply (run_A c (grid0.coords t)
      _ _ _ _ _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _
      ((hcond0_0 t).mpr h0) (blocks m c t) Set.univ _)
    unfold reads free freeSums written sums
    isplitl [H0 H1 H2 H3 H4 H5 H6 H7 H8 H9 H10 H11 H12 H13 H14 H15]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    isplitl [H16 H17 H18 H19 H20 H21 H22 H23 H24 H25 H26 H27 H28 H29 H30 H31]
    · isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; iexact H30
      iexists _; iexact H31
    isplitl [H32 H33 H34 H35]
    · isplitl [H32]; · iexists _; iexact H32
      isplitl [H33]; · iexists _; iexact H33
      isplitl [H34]; · iexists _; iexact H34
      iexists _; iexact H35
    iintro ⟨⟨H0, H1, H2, H3, H4, H5, H6, H7, H8, H9, H10, H11, H12, H13, H14, H15⟩,
      ⟨H16, H17, H18, H19, H20, H21, H22, H23, H24, H25, H26, H27, H28, H29, H30, H31⟩,
      ⟨H32, H33, H34, H35⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    iexact H35
  · rw [carried_later m c t h0]
    simp only [before32 m c t h0, before33 m c t h0, before34 m c t h0, before35 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
    iapply (run_B c (grid0.coords t)
      _ _ _ _ _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _
      (fun hc => h0 ((hcond0_0 t).mp hc)) (blocks m c t) (carried m c (t.val - 1) (Nat.lt_of_le_of_lt (Nat.sub_le _ _) t.isLt)) Set.univ _)
    unfold reads free written sums
    isplitl [H0 H1 H2 H3 H4 H5 H6 H7 H8 H9 H10 H11 H12 H13 H14 H15]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    isplitl [H16 H17 H18 H19 H20 H21 H22 H23 H24 H25 H26 H27 H28 H29 H30 H31]
    · isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; iexact H30
      iexists _; iexact H31
    isplitl [H32 H33 H34 H35]
    · isplitl [H32]; · iexact H32
      isplitl [H33]; · iexact H33
      isplitl [H34]; · iexact H34
      iexact H35
    iintro ⟨⟨H0, H1, H2, H3, H4, H5, H6, H7, H8, H9, H10, H11, H12, H13, H14, H15⟩,
      ⟨H16, H17, H18, H19, H20, H21, H22, H23, H24, H25, H26, H27, H28, H29, H30, H31⟩,
      ⟨H32, H33, H34, H35⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    iexact H35

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends, with every array at what the grid points leave in it and every semaphore at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (frame_of m ρ (dats m) (A_eq m) (run_main m ρ)) ((θ_run defs _ _).mono (fun _ h => h.2) (run_main_quiescent m ρ))

end Cert.MixProof

end
-- ==== Proof.MixBits.lean ====
/- The frame of the program as the kernel runs it: its text is the idealized one's, over the machine's words. -/
module

public import proofs.«01_k».proof.Proof.MixFrame
public import proofs.«01_k».proof.Proof.Gen.Mix
public import Idealize.ShloMosaic.PureOps.BitExact

@[expose] public section

set_option maxRecDepth 16384

noncomputable section

namespace Cert.MixProof.Bits

open Idealize.ShloMosaic Idealize.ShloMosaic.TcCoe Idealize.ShloMosaic.Tactic Idealize.SL.Sem

/-- A named constant is its word on the machine. -/
local instance words : Idealize.ShloMosaic.Named Bits where
  named _ _ {_} b := b

/-- The frame over the machine's words, of the program with its constants named. -/
def Named : Prop :=
  ∀ (m : (ℓ : Loc MixIdeal.nD MixIdeal.τ MixIdeal.sig) → Buf (Elt Bits) ℓ) (ρ : Dev MixIdeal.nD → PrngReg),
    θ_run (MixIdeal.defs (F := Bits)) (onTc (τ := MixIdeal.τ) (MixIdeal.main (F := Bits))) ⟨m, fun _ => 0, ρ⟩ (fun r => (∀ c : Dev MixIdeal.nD,
      r.2.mem ((c.tc : Thread MixIdeal.nD MixIdeal.τ).loc MixIdeal.main_arg0) = m ((c.tc : Thread MixIdeal.nD MixIdeal.τ).loc MixIdeal.main_arg0)
      ∧ r.2.mem ((c.tc : Thread MixIdeal.nD MixIdeal.τ).loc MixIdeal.main_arg1) = m ((c.tc : Thread MixIdeal.nD MixIdeal.τ).loc MixIdeal.main_arg1)
      ∧ r.2.mem ((c.tc : Thread MixIdeal.nD MixIdeal.τ).loc MixIdeal.main_arg2) = m ((c.tc : Thread MixIdeal.nD MixIdeal.τ).loc MixIdeal.main_arg2)
      ∧ r.2.mem ((c.tc : Thread MixIdeal.nD MixIdeal.τ).loc MixIdeal.main_arg3) = m ((c.tc : Thread MixIdeal.nD MixIdeal.τ).loc MixIdeal.main_arg3)
      ∧ r.2.mem ((c.tc : Thread MixIdeal.nD MixIdeal.τ).loc MixIdeal.main_arg4) = m ((c.tc : Thread MixIdeal.nD MixIdeal.τ).loc MixIdeal.main_arg4)
      ∧ r.2.mem ((c.tc : Thread MixIdeal.nD MixIdeal.τ).loc MixIdeal.main_arg5) = m ((c.tc : Thread MixIdeal.nD MixIdeal.τ).loc MixIdeal.main_arg5)
      ∧ r.2.mem ((c.tc : Thread MixIdeal.nD MixIdeal.τ).loc MixIdeal.main_arg6) = m ((c.tc : Thread MixIdeal.nD MixIdeal.τ).loc MixIdeal.main_arg6)
      ∧ r.2.mem ((c.tc : Thread MixIdeal.nD MixIdeal.τ).loc MixIdeal.main_arg7) = m ((c.tc : Thread MixIdeal.nD MixIdeal.τ).loc MixIdeal.main_arg7)
      ∧ r.2.mem ((c.tc : Thread MixIdeal.nD MixIdeal.τ).loc MixIdeal.main_arg8) = m ((c.tc : Thread MixIdeal.nD MixIdeal.τ).loc MixIdeal.main_arg8)
      ∧ r.2.mem ((c.tc : Thread MixIdeal.nD MixIdeal.τ).loc MixIdeal.main_arg9) = m ((c.tc : Thread MixIdeal.nD MixIdeal.τ).loc MixIdeal.main_arg9)
      ∧ r.2.mem ((c.tc : Thread MixIdeal.nD MixIdeal.τ).loc MixIdeal.main_arg10) = m ((c.tc : Thread MixIdeal.nD MixIdeal.τ).loc MixIdeal.main_arg10)
      ∧ r.2.mem ((c.tc : Thread MixIdeal.nD MixIdeal.τ).loc MixIdeal.main_arg11) = m ((c.tc : Thread MixIdeal.nD MixIdeal.τ).loc MixIdeal.main_arg11)
      ∧ r.2.mem ((c.tc : Thread MixIdeal.nD MixIdeal.τ).loc MixIdeal.main_arg12) = m ((c.tc : Thread MixIdeal.nD MixIdeal.τ).loc MixIdeal.main_arg12)
      ∧ r.2.mem ((c.tc : Thread MixIdeal.nD MixIdeal.τ).loc MixIdeal.main_arg13) = m ((c.tc : Thread MixIdeal.nD MixIdeal.τ).loc MixIdeal.main_arg13)
      ∧ r.2.mem ((c.tc : Thread MixIdeal.nD MixIdeal.τ).loc MixIdeal.main_arg14) = m ((c.tc : Thread MixIdeal.nD MixIdeal.τ).loc MixIdeal.main_arg14))
      ∧ r.2.sem = fun _ => 0)

/-- The frame over the machine's words, of the program as printed. -/
def Printed : Prop :=
  ∀ (m : (ℓ : Loc Mix.nD Mix.τ Mix.sig) → Buf (Elt Bits) ℓ) (ρ : Dev Mix.nD → PrngReg),
    θ_run (Mix.defs (F := Bits)) (onTc (τ := Mix.τ) (Mix.main (F := Bits))) ⟨m, fun _ => 0, ρ⟩ (fun r => (∀ c : Dev Mix.nD,
      r.2.mem ((c.tc : Thread Mix.nD Mix.τ).loc Mix.main_arg0) = m ((c.tc : Thread Mix.nD Mix.τ).loc Mix.main_arg0)
      ∧ r.2.mem ((c.tc : Thread Mix.nD Mix.τ).loc Mix.main_arg1) = m ((c.tc : Thread Mix.nD Mix.τ).loc Mix.main_arg1)
      ∧ r.2.mem ((c.tc : Thread Mix.nD Mix.τ).loc Mix.main_arg2) = m ((c.tc : Thread Mix.nD Mix.τ).loc Mix.main_arg2)
      ∧ r.2.mem ((c.tc : Thread Mix.nD Mix.τ).loc Mix.main_arg3) = m ((c.tc : Thread Mix.nD Mix.τ).loc Mix.main_arg3)
      ∧ r.2.mem ((c.tc : Thread Mix.nD Mix.τ).loc Mix.main_arg4) = m ((c.tc : Thread Mix.nD Mix.τ).loc Mix.main_arg4)
      ∧ r.2.mem ((c.tc : Thread Mix.nD Mix.τ).loc Mix.main_arg5) = m ((c.tc : Thread Mix.nD Mix.τ).loc Mix.main_arg5)
      ∧ r.2.mem ((c.tc : Thread Mix.nD Mix.τ).loc Mix.main_arg6) = m ((c.tc : Thread Mix.nD Mix.τ).loc Mix.main_arg6)
      ∧ r.2.mem ((c.tc : Thread Mix.nD Mix.τ).loc Mix.main_arg7) = m ((c.tc : Thread Mix.nD Mix.τ).loc Mix.main_arg7)
      ∧ r.2.mem ((c.tc : Thread Mix.nD Mix.τ).loc Mix.main_arg8) = m ((c.tc : Thread Mix.nD Mix.τ).loc Mix.main_arg8)
      ∧ r.2.mem ((c.tc : Thread Mix.nD Mix.τ).loc Mix.main_arg9) = m ((c.tc : Thread Mix.nD Mix.τ).loc Mix.main_arg9)
      ∧ r.2.mem ((c.tc : Thread Mix.nD Mix.τ).loc Mix.main_arg10) = m ((c.tc : Thread Mix.nD Mix.τ).loc Mix.main_arg10)
      ∧ r.2.mem ((c.tc : Thread Mix.nD Mix.τ).loc Mix.main_arg11) = m ((c.tc : Thread Mix.nD Mix.τ).loc Mix.main_arg11)
      ∧ r.2.mem ((c.tc : Thread Mix.nD Mix.τ).loc Mix.main_arg12) = m ((c.tc : Thread Mix.nD Mix.τ).loc Mix.main_arg12)
      ∧ r.2.mem ((c.tc : Thread Mix.nD Mix.τ).loc Mix.main_arg13) = m ((c.tc : Thread Mix.nD Mix.τ).loc Mix.main_arg13)
      ∧ r.2.mem ((c.tc : Thread Mix.nD Mix.τ).loc Mix.main_arg14) = m ((c.tc : Thread Mix.nD Mix.τ).loc Mix.main_arg14))
      ∧ r.2.sem = fun _ => 0)

theorem same : Named = Printed := by sl_kernel_rfl

theorem frame : Printed := same ▸ (fun m ρ => Cert.MixProof.frame (F := Bits) m ρ : Named)

end Cert.MixProof.Bits

end
-- ==== Proof.MixModel.lean ====
/- The mixing block over real numbers, one row at a time: the two gated branches, their merge, the norm and the squared error,
   and the gradient of each. -/
module

public import proofs.«01_k».proof.Proof.ProjEquation

@[expose] public section

noncomputable section

namespace Cert.MixProof

open Cert.ProjProof.Equation (root)

/-- One row of every array that has rows. -/
structure Row where
  o : Fin 512 → ℝ
  za : Fin 512 → ℝ
  ys : Fin 512 → ℝ
  zb : Fin 512 → ℝ
  ga : Fin 1024 → ℝ
  gb : Fin 1024 → ℝ
  x : Fin 1024 → ℝ
  tgt : Fin 1024 → ℝ

/-- The weights, which all rows share. -/
structure Weights where
  gate : Fin 1024 → ℝ
  bglu : Fin 512 → ℝ
  gf : Fin 1024 → ℝ
  wglu : Fin 512 → Fin 512 → ℝ
  wua : Fin 512 → Fin 1024 → ℝ
  wub : Fin 512 → Fin 1024 → ℝ
  wout : Fin 1024 → Fin 1024 → ℝ

/-- The logistic function. -/
def logistic (z : ℝ) : ℝ := 1 / (1 + _root_.Real.exp (-z))

/-- The gelu's cubic coefficient. -/
def cub : ℝ := 8943 / 200000

/-- The gelu's scale, the root of two over pi as the programs hold it. -/
def scale : ℝ := 6693141 / 8388608

namespace Row

variable (W : Weights) (p : Row)

def siluA (k : Fin 512) : ℝ := p.za k * logistic (p.za k)
def siluB (k : Fin 512) : ℝ := p.zb k * logistic (p.zb k)
/-- The gelu's hyperbolic tangent. -/
def th (k : Fin 512) : ℝ := _root_.Real.tanh (scale * (p.ys k + cub * p.ys k * p.ys k * p.ys k))
def yg (k : Fin 512) : ℝ := 1 / 2 * p.ys k * (1 + p.th k)
def sg (k : Fin 512) : ℝ := logistic ((∑ j, p.yg j * W.wglu j k) + W.bglu k)
def glu (k : Fin 512) : ℝ := p.yg k * p.sg W k
def ya (k : Fin 512) : ℝ := p.o k * p.siluA k
def yb (k : Fin 512) : ℝ := p.glu W k * p.siluB k
def ua (d : Fin 1024) : ℝ := ∑ k, p.ya k * W.wua k d
def ub (d : Fin 1024) : ℝ := ∑ k, p.yb W k * W.wub k d
def sa (d : Fin 1024) : ℝ := logistic (p.ga d)
def sb (d : Fin 1024) : ℝ := logistic (p.gb d)
def merged (d : Fin 1024) : ℝ := p.sa d * p.ua W d + p.sb d * p.ub W d
def mo (d : Fin 1024) : ℝ := ∑ e, p.merged W e * W.wout e d
/-- The stream after the mixer. -/
def x2 (d : Fin 1024) : ℝ := p.x d + W.gate d * p.mo W d
def xn (d : Fin 1024) : ℝ := p.x2 W d * root (p.x2 W)
def y (d : Fin 1024) : ℝ := p.xn W d * W.gf d
def diff (d : Fin 1024) : ℝ := p.y W d - p.tgt d
/-- The gradient of the normalised row. -/
def dxn (d : Fin 1024) : ℝ := p.diff W d * (W.gf d * (1 / 1024))
def dx2 (d : Fin 1024) : ℝ := root (p.x2 W) * (p.dxn W d - p.xn W d * ((∑ e, p.dxn W e * p.xn W e) / 1024))
def dmo (d : Fin 1024) : ℝ := p.dx2 W d * W.gate d
def dm (d : Fin 1024) : ℝ := ∑ e, p.dmo W e * W.wout d e
def dua (d : Fin 1024) : ℝ := p.dm W d * p.sa d
def dub (d : Fin 1024) : ℝ := p.dm W d * p.sb d
def dga (d : Fin 1024) : ℝ := p.dua W d * p.ua W d * (1 - p.sa d)
def dgb (d : Fin 1024) : ℝ := p.dub W d * p.ub W d * (1 - p.sb d)
def dya (k : Fin 512) : ℝ := ∑ d, p.dua W d * W.wua k d
def dyb (k : Fin 512) : ℝ := ∑ d, p.dub W d * W.wub k d
def do_ (k : Fin 512) : ℝ := p.dya W k * p.siluA k
def dza (k : Fin 512) : ℝ := p.dya W k * p.o k * (logistic (p.za k) + p.siluA k * (1 - logistic (p.za k)))
def dglu (k : Fin 512) : ℝ := p.dyb W k * p.siluB k
def dzb (k : Fin 512) : ℝ := p.dyb W k * p.glu W k * (logistic (p.zb k) + p.siluB k * (1 - logistic (p.zb k)))
def dgl (k : Fin 512) : ℝ := p.dglu W k * p.yg k * p.sg W k * (1 - p.sg W k)
def dys (k : Fin 512) : ℝ :=
  (p.dglu W k * p.sg W k + ∑ j, p.dgl W j * W.wglu k j)
    * (1 / 2 * (1 + p.th k) + 1 / 2 * p.ys k * (1 - p.th k * p.th k) * scale * (1 + 3 * cub * p.ys k * p.ys k))
/-- A head's column of the row. -/
def col (h : Fin 8) (j : Fin 64) : Fin 512 := ⟨64 * h.val + j.val, by omega⟩
def dl (h : Fin 8) : ℝ := ∑ j, p.do_ W (col h j) * p.o (col h j)
/-- A row's part of the weights' gradients and of the loss. -/
def pbglu (k : Fin 512) : ℝ := p.dgl W k
def pgate (d : Fin 1024) : ℝ := p.dx2 W d * p.mo W d
def pgf (d : Fin 1024) : ℝ := p.diff W d * p.xn W d
def ploss : ℝ := ∑ d, p.diff W d * p.diff W d

end Row

/-- A sum over the columns of one head, written with a selector or over the head's own columns. -/
theorem head_sum (f : Fin 512 → ℝ) (h : Fin 8) :
    (∑ k : Fin 512, (if k.val / 64 = h.val then (1 : ℝ) else 0) * f k) = ∑ j, f (Row.col h j) := by
  rw [← (Fintype.sum_equiv (finProdFinEquiv (m := 8) (n := 64)) (fun q => (if q.1 = h then (1 : ℝ) else 0) * f (Row.col q.1 q.2)) _ fun q => ?_)]
  · rw [Fintype.sum_prod_type]
    rw [Finset.sum_eq_single h (fun b _ hb => by simp [hb]) (by simp)]
    simp
  · obtain ⟨a, b⟩ := q
    have e : finProdFinEquiv (m := 8) (n := 64) (a, b) = Row.col a b := Fin.ext (Nat.add_comm _ _)
    rw [e]
    have hd : (Row.col a b).val / 64 = a.val := by
      show (64 * a.val + b.val) / 64 = a.val
      omega
    rw [hd]
    simp only [Fin.ext_iff]

end Cert.MixProof

end
-- ==== Proof.MixBlock.lean ====
/- What the mixing kernel leaves at a grid point, as real numbers. -/
module

public import proofs.«01_k».proof.Proof.MixForms
public import proofs.«01_k».proof.Proof.MixModel
public import Idealize.ShloMosaic.Lib.Pointwise
public import Idealize.ShloMosaic.PureOps.Ideal.Laws

@[expose] public section

set_option maxRecDepth 16384

noncomputable section

namespace Cert.MixProof.Block

open Cert.MixIdeal Cert.MixIdeal.Gen Cert.MixProof Idealize.ShloMosaic Idealize.ShloMosaic.TcCoe
open Cert.AttnProof.Cast (coe_sum div_real)
open Cert.ProjProof.Equation (width root inv_real)

/-! The literals. -/

theorem half : Ideal.ofBits FTy.f32 0x3F000000#32 = ((1 / 2 : ℝ) : EReal) := by
  simp [Ideal.ofBits, Ideal.ieee, -EReal.coe_mul]; norm_num

theorem part : Ideal.ofBits FTy.f32 0x3A800000#32 = ((1 / 1024 : ℝ) : EReal) := by
  simp [Ideal.ofBits, Ideal.ieee, -EReal.coe_mul]; norm_num

theorem half_part : Ideal.ofBits FTy.f32 0x3A000000#32 = ((1 / 2048 : ℝ) : EReal) := by
  simp [Ideal.ofBits, Ideal.ieee, -EReal.coe_mul]; norm_num

theorem scale_real : Ideal.ofBits FTy.f32 0x3F4C422A#32 = (scale : EReal) := by
  unfold scale
  simp [Ideal.ofBits, Ideal.ieee, -EReal.coe_mul]; norm_num

theorem lit_one : Ideal.ofBits FTy.f32 0x3F800000#32 = ((1 : ℝ) : EReal) := by
  simp [Ideal.ofBits, Ideal.ieee, -EReal.coe_mul]; norm_num

theorem lit_zero : Ideal.ofBits FTy.f32 0x00000000#32 = ((0 : ℝ) : EReal) := by
  simp [Ideal.ofBits, Ideal.ieee, -EReal.coe_mul]

theorem one_real : (1 : EReal) = ((1 : ℝ) : EReal) := rfl

theorem cub_real : (Named.named (F := Ideal) κ "cubic" (φ := .f32) 0x3D372713#32 : EReal) = (cub : EReal) := rfl

theorem slope_real : (Named.named (F := Ideal) κ "slope" (φ := .f32) 0x3E095D4F#32 : EReal) = ((3 * cub : ℝ) : EReal) :=
  (show (Named.named (F := Ideal) κ "slope" (φ := .f32) 0x3E095D4F#32 : EReal) = ((26829 / 200000 : ℝ) : EReal) from rfl).trans
    (congrArg _ (by unfold cub; norm_num))

theorem logistic_real (z : ℝ) : Ideal.div 1 (1 + Ideal.exp (0 - (z : EReal))) = (logistic z : EReal) := by
  rw [zero_sub, ← EReal.coe_neg, Ideal.exp_coe, one_real, ← EReal.coe_add, div_real _ _ (by positivity)]
  rfl

/-! The sums before the first point. -/

theorem start_bglu (k : Fin 512) : ((Sums.start (F := Ideal)).bglu (ix2 0 k) : EReal) = 0 := by
  unfold Sums.start
  pointwise [k0_pay4]
theorem start_gate (d : Fin 1024) : ((Sums.start (F := Ideal)).gate (ix2 0 d) : EReal) = 0 := by
  unfold Sums.start
  pointwise [k0_pay5]
theorem start_gf (d : Fin 1024) : ((Sums.start (F := Ideal)).gf (ix2 0 d) : EReal) = 0 := by
  unfold Sums.start
  pointwise [k0_pay6]
theorem start_loss : ((Sums.start (F := Ideal)).loss (ix2 0 0) : EReal) = 0 := by
  unfold Sums.start
  pointwise [k0_pay7]

/-- The blocks hold these rows and weights. -/
structure Holds (X : Blocks Ideal) (W : Weights) (p : Fin 256 → Row) : Prop where
  o : ∀ r k, (X.o (ix2 r k) : EReal) = (p r).o k
  za : ∀ r k, (X.za (ix2 r k) : EReal) = (p r).za k
  ys : ∀ r k, (X.ys (ix2 r k) : EReal) = (p r).ys k
  zb : ∀ r k, (X.zb (ix2 r k) : EReal) = (p r).zb k
  ga : ∀ r k, (X.ga (ix2 r k) : EReal) = (p r).ga k
  gb : ∀ r k, (X.gb (ix2 r k) : EReal) = (p r).gb k
  x : ∀ r k, (X.x (ix2 r k) : EReal) = (p r).x k
  tgt : ∀ r k, (X.tgt (ix2 r k) : EReal) = (p r).tgt k
  gate : ∀ k, (X.gate (ix2 0 k) : EReal) = W.gate k
  bglu : ∀ k, (X.bglu (ix2 0 k) : EReal) = W.bglu k
  gf : ∀ k, (X.gf (ix2 0 k) : EReal) = W.gf k
  wglu : ∀ j k, (X.wglu (ix2 j k) : EReal) = W.wglu j k
  wua : ∀ j k, (X.wua (ix2 j k) : EReal) = W.wua j k
  wub : ∀ j k, (X.wub (ix2 j k) : EReal) = W.wub j k
  wout : ∀ j k, (X.wout (ix2 j k) : EReal) = W.wout j k
  hsel : ∀ h k, (X.hsel (ix2 h k) : EReal) = ((if k.val / 64 = h.val then 1 else 0 : ℝ) : EReal)

section Point

variable {X : Blocks Ideal} {W : Weights} {p : Fin 256 → Row} (H : Holds X W p)
include H

theorem sza (r : Fin 256) (k : Fin 512) : (k0_pay8 (F := Ideal) X.za (ix2 r k) : EReal) = logistic ((p r).za k) := by
  pointwise [k0_pay8]
  rw [H.za, logistic_real]

theorem siluA (r : Fin 256) (k : Fin 512) : (k0_pay9 (F := Ideal) X.za (ix2 r k) : EReal) = (p r).siluA k := by
  pointwise [k0_pay9]
  rw [H.za, sza H, ← EReal.coe_mul]; rfl

theorem szb (r : Fin 256) (k : Fin 512) : (k0_pay17 (F := Ideal) X.zb (ix2 r k) : EReal) = logistic ((p r).zb k) := by
  pointwise [k0_pay17]
  rw [H.zb, logistic_real]

theorem siluB (r : Fin 256) (k : Fin 512) : (k0_pay18 (F := Ideal) X.zb (ix2 r k) : EReal) = (p r).siluB k := by
  pointwise [k0_pay18]
  rw [H.zb, szb H, ← EReal.coe_mul]; rfl

theorem th (r : Fin 256) (k : Fin 512) : (k0_pay11 (F := Ideal) X.ys (ix2 r k) : EReal) = (p r).th k := by
  pointwise [k0_pay11]
  simp only [H.ys, scale_real, cub_real, ← EReal.coe_mul, ← EReal.coe_add, Ideal.tanh_coe]; rfl

theorem ygf (r : Fin 256) (k : Fin 512) : (X.ygf (ix2 r k) : EReal) = (p r).yg k := by
  unfold Blocks.ygf
  pointwise [k0_pay12]
  simp only [H.ys, th H, half, one_real, ← EReal.coe_mul, ← EReal.coe_add]; rfl

theorem yg (r : Fin 256) (k : Fin 512) : (X.yg (ix2 r k) : EReal) = (p r).yg k := by
  unfold Blocks.yg
  pointwise [k0_pay13]
  exact ygf H r k

theorem sg (r : Fin 256) (k : Fin 512) : (X.sg (ix2 r k) : EReal) = (p r).sg W k := by
  unfold Blocks.sg
  pointwise [k0_pay15, k0_pay14, zeros]
  simp only [yg H, H.wglu, H.bglu, ← EReal.coe_mul, ← coe_sum, ← EReal.coe_add, logistic_real]; rfl

theorem glu (r : Fin 256) (k : Fin 512) : (X.glu (ix2 r k) : EReal) = (p r).glu W k := by
  unfold Blocks.glu
  pointwise [k0_pay16]
  rw [show k0_pay15 (F := Ideal) X.yg (k0_pay14 X.wglu) zeros X.bglu (ix2 r k) = _ from sg H r k]
  simp only [ygf H, ← EReal.coe_mul]; rfl

theorem ya (r : Fin 256) (k : Fin 512) : (X.ya (ix2 r k) : EReal) = (p r).ya k := by
  unfold Blocks.ya
  pointwise [k0_pay10]
  simp only [H.o, siluA H, ← EReal.coe_mul]; rfl

theorem yb (r : Fin 256) (k : Fin 512) : (X.yb (ix2 r k) : EReal) = (p r).yb W k := by
  unfold Blocks.yb
  pointwise [k0_pay19]
  rw [show k0_pay16 (F := Ideal) X.ygf X.yg (k0_pay14 X.wglu) zeros X.bglu (ix2 r k) = _ from glu H r k]
  simp only [siluB H, ← EReal.coe_mul]; rfl

theorem ua (r : Fin 256) (d : Fin 1024) : (X.ua (ix2 r d) : EReal) = (p r).ua W d := by
  unfold Blocks.ua
  pointwise [k0_pay20]
  simp only [ya H, H.wua, ← EReal.coe_mul, ← coe_sum]; rfl

theorem ub (r : Fin 256) (d : Fin 1024) : (X.ub (ix2 r d) : EReal) = (p r).ub W d := by
  unfold Blocks.ub
  pointwise [k0_pay21]
  simp only [show ∀ k, (k0_pay19 (F := Ideal) X.ygf X.yg (k0_pay14 X.wglu) zeros X.bglu X.zb (ix2 r k) : EReal) = (p r).yb W k from yb H r,
    H.wub, ← EReal.coe_mul, ← coe_sum]; rfl

theorem sa (r : Fin 256) (d : Fin 1024) : (X.sa (ix2 r d) : EReal) = (p r).sa d := by
  unfold Blocks.sa Blocks.ea one
  pointwise [k0_pay23, k0_pay22]
  rw [H.ga, logistic_real]; rfl

theorem sb (r : Fin 256) (d : Fin 1024) : (X.sb (ix2 r d) : EReal) = (p r).sb d := by
  unfold Blocks.sb
  pointwise [k0_pay24]
  rw [H.gb, logistic_real]; rfl

theorem merged (r : Fin 256) (d : Fin 1024) : (X.merged (ix2 r d) : EReal) = (p r).merged W d := by
  unfold Blocks.merged
  pointwise [k0_pay25]
  rw [show k0_pay23 (F := Ideal) X.ea one (ix2 r d) = _ from sa H r d, show k0_pay24 (F := Ideal) X.gb (ix2 r d) = _ from sb H r d]
  simp only [ua H, ub H, ← EReal.coe_mul, ← EReal.coe_add]; rfl

theorem mo (r : Fin 256) (d : Fin 1024) : (X.mo (ix2 r d) : EReal) = (p r).mo W d := by
  unfold Blocks.mo
  pointwise [k0_pay26]
  simp only [show ∀ e, (k0_pay25 (F := Ideal) X.ua X.ub X.ea one X.gb (ix2 r e) : EReal) = (p r).merged W e from merged H r,
    H.wout, ← EReal.coe_mul, ← coe_sum]; rfl

theorem x2 (r : Fin 256) (d : Fin 1024) :
    (k0_pay27 (F := Ideal) X.ua X.ub X.ea one X.gb X.wout X.gate X.x (ix2 r d) : EReal) = (p r).x2 W d := by
  pointwise [k0_pay27]
  rw [show k0_pay26 (F := Ideal) X.ua X.ub X.ea one X.gb X.wout (ix2 r d) = _ from mo H r d]
  simp only [H.x, H.gate, ← EReal.coe_mul, ← EReal.coe_add]; rfl

theorem inv (r : Fin 256) : (X.inv (ix2 r 0) : EReal) = root ((p r).x2 W) := by
  unfold Blocks.inv
  rw [← inv_real]
  pointwise [k0_pay28]
  simp only [x2 H]; rfl

theorem xn (r : Fin 256) (d : Fin 1024) : (X.xn (ix2 r d) : EReal) = (p r).xn W d := by
  unfold Blocks.xn
  pointwise [k0_pay29]
  rw [x2 H, show k0_pay28 (F := Ideal) X.ua X.ub X.ea one X.gb X.wout X.gate X.x (ix2 r 0) = _ from inv H r, ← EReal.coe_mul]; rfl

theorem y (r : Fin 256) (d : Fin 1024) : (X.y (ix2 r d) : EReal) = (p r).y W d := by
  unfold Blocks.y
  pointwise [k0_pay31, k0_pay30]
  rw [show k0_pay29 (F := Ideal) X.ua X.ub X.ea one X.gb X.wout X.gate X.x (ix2 r d) = _ from xn H r d, H.gf, ← EReal.coe_mul]; rfl

theorem dx2 (r : Fin 256) (d : Fin 1024) : (X.dx2 (ix2 r d) : EReal) = (p r).dx2 W d := by
  unfold Blocks.dx2
  pointwise [k0_pay35, k0_pay30, k0_pay32]
  simp only [inv H, y H, H.tgt, H.gf, xn H, part, width, ← EReal.coe_sub, ← EReal.coe_mul, ← coe_sum]
  rw [div_real _ _ (by norm_num), ← EReal.coe_mul, ← EReal.coe_sub, ← EReal.coe_mul]; rfl

theorem dmo (r : Fin 256) (d : Fin 1024) : (X.dmo (ix2 r d) : EReal) = (p r).dmo W d := by
  unfold Blocks.dmo
  pointwise [k0_pay37]
  simp only [dx2 H, H.gate, ← EReal.coe_mul]; rfl

theorem dm (r : Fin 256) (d : Fin 1024) : (k0_pay38 (F := Ideal) X.gate X.dx2 X.wout (ix2 r d) : EReal) = (p r).dm W d := by
  pointwise [k0_pay38]
  simp only [show ∀ e, (k0_pay37 (F := Ideal) X.gate X.dx2 (ix2 r e) : EReal) = (p r).dmo W e from dmo H r,
    H.wout, ← EReal.coe_mul, ← coe_sum]; rfl

theorem dua (r : Fin 256) (d : Fin 1024) : (X.dua (ix2 r d) : EReal) = (p r).dua W d := by
  unfold Blocks.dua
  pointwise [k0_pay41, k0_pay39]
  simp only [dm H, sa H, ← EReal.coe_mul]; rfl

theorem dub (r : Fin 256) (d : Fin 1024) : (X.dub (ix2 r d) : EReal) = (p r).dub W d := by
  unfold Blocks.dub
  pointwise [k0_pay42, k0_pay40]
  simp only [dm H, sb H, ← EReal.coe_mul]; rfl

theorem dga (r : Fin 256) (d : Fin 1024) : (X.dga (ix2 r d) : EReal) = (p r).dga W d := by
  unfold Blocks.dga
  pointwise [k0_pay43, k0_pay39]
  simp only [dm H, sa H, ua H, one_real, ← EReal.coe_sub, ← EReal.coe_mul]; rfl

theorem dgb (r : Fin 256) (d : Fin 1024) : (X.dgb (ix2 r d) : EReal) = (p r).dgb W d := by
  unfold Blocks.dgb
  pointwise [k0_pay44, k0_pay40]
  simp only [dm H, sb H, ub H, one_real, ← EReal.coe_sub, ← EReal.coe_mul]; rfl

theorem dya (r : Fin 256) (k : Fin 512) : (k0_pay46 (F := Ideal) X.dua (k0_pay45 X.wua) zeros (ix2 r k) : EReal) = (p r).dya W k := by
  pointwise [k0_pay46, k0_pay45, zeros]
  simp only [dua H, H.wua, ← EReal.coe_mul, ← coe_sum]; rfl

theorem dyb (r : Fin 256) (k : Fin 512) : (k0_pay47 (F := Ideal) X.dub X.wub (ix2 r k) : EReal) = (p r).dyb W k := by
  pointwise [k0_pay47]
  simp only [dub H, H.wub, ← EReal.coe_mul, ← coe_sum]; rfl

theorem dof (r : Fin 256) (k : Fin 512) :
    (k0_pay48 (F := Ideal) (k0_pay9 X.za) X.dua (k0_pay45 X.wua) zeros (ix2 r k) : EReal) = (p r).do_ W k := by
  pointwise [k0_pay48]
  rw [dya H, siluA H, ← EReal.coe_mul]; rfl

theorem do_ (r : Fin 256) (k : Fin 512) : (X.do_ (ix2 r k) : EReal) = (p r).do_ W k := by
  unfold Blocks.do_
  pointwise [k0_pay49]
  exact dof H r k

theorem dl (h : Fin 8) (r : Fin 256) : (X.dl (ix2 h r) : EReal) = (p r).dl W h := by
  unfold Blocks.dl
  pointwise [k0_pay50]
  simp only [dof H, H.o, H.hsel, ← EReal.coe_mul, ← coe_sum]
  exact congrArg _ (head_sum _ h)

theorem dza (r : Fin 256) (k : Fin 512) : (X.dza (ix2 r k) : EReal) = (p r).dza W k := by
  unfold Blocks.dza
  pointwise [k0_pay51]
  rw [dya H, siluA H, sza H, H.o]
  simp only [one_real, ← EReal.coe_sub, ← EReal.coe_mul, ← EReal.coe_add]; rfl

theorem dglu (r : Fin 256) (k : Fin 512) : (X.dglu (ix2 r k) : EReal) = (p r).dglu W k := by
  unfold Blocks.dglu
  pointwise [k0_pay52]
  rw [dyb H, siluB H, ← EReal.coe_mul]; rfl

theorem dzb (r : Fin 256) (k : Fin 512) : (X.dzb (ix2 r k) : EReal) = (p r).dzb W k := by
  unfold Blocks.dzb
  pointwise [k0_pay53]
  rw [dyb H, siluB H, szb H, glu H]
  simp only [one_real, ← EReal.coe_sub, ← EReal.coe_mul, ← EReal.coe_add]; rfl

theorem dglf (r : Fin 256) (k : Fin 512) : (X.dglf (ix2 r k) : EReal) = (p r).dgl W k := by
  unfold Blocks.dglf
  pointwise [k0_pay54]
  rw [show k0_pay52 (F := Ideal) (k0_pay18 X.zb) X.dub X.wub (ix2 r k) = _ from dglu H r k, ygf H, sg H]
  simp only [one_real, ← EReal.coe_sub, ← EReal.coe_mul]; rfl

theorem dgl (r : Fin 256) (k : Fin 512) : (X.dgl (ix2 r k) : EReal) = (p r).dgl W k := by
  unfold Blocks.dgl
  pointwise [k0_pay2]
  exact dglf H r k

theorem dys (r : Fin 256) (k : Fin 512) : (X.dys (ix2 r k) : EReal) = (p r).dys W k := by
  unfold Blocks.dys
  pointwise [k0_pay3, k0_pay2]
  simp only [dglu H, sg H, dglf H, H.wglu, th H, H.ys, half, scale_real, slope_real, one_real, ← EReal.coe_sub, ← EReal.coe_mul,
    ← coe_sum, ← EReal.coe_add]; rfl

/-! The carried sums after one more block. -/

theorem step_bglu (a : Sums Ideal) (k : Fin 512) :
    ((a.step X).bglu (ix2 0 k) : EReal) = a.bglu (ix2 0 k) + ((∑ r, (p r).dgl W k : ℝ) : EReal) := by
  unfold Sums.step
  pointwise [k0_pay1, k0_pay55, k0_pay56]
  simp only [show ∀ r, (k0_pay54 (F := Ideal) X.ygf X.sg (k0_pay18 X.zb) X.dub X.wub (ix2 r k) : EReal) = (p r).dgl W k from fun r => dglf H r k,
    ← coe_sum]

theorem step_gate (a : Sums Ideal) (d : Fin 1024) :
    ((a.step X).gate (ix2 0 d) : EReal) = a.gate (ix2 0 d) + ((∑ r, (p r).pgate W d : ℝ) : EReal) := by
  unfold Sums.step
  pointwise [k0_pay36]
  simp only [mo H, dx2 H, ← EReal.coe_mul, ← coe_sum]; rfl

theorem step_gf (a : Sums Ideal) (d : Fin 1024) :
    ((a.step X).gf (ix2 0 d) : EReal) = a.gf (ix2 0 d) + (((∑ r, (p r).pgf W d) * (1 / 1024) : ℝ) : EReal) := by
  unfold Sums.step
  pointwise [k0_pay34, k0_pay32]
  simp only [y H, H.tgt, xn H, part, ← EReal.coe_sub, ← EReal.coe_mul, ← coe_sum]; rfl

theorem step_loss (a : Sums Ideal) :
    ((a.step X).loss (ix2 0 0) : EReal) = a.loss (ix2 0 0) + (((∑ r, (p r).ploss W) * (1 / 2048) : ℝ) : EReal) := by
  unfold Sums.step
  pointwise [k0_pay33, k0_pay32]
  simp only [y H, H.tgt, half_part, ← EReal.coe_sub, ← EReal.coe_mul, ← coe_sum]; rfl

end Point

end Cert.MixProof.Block

end
-- ==== Proof.MixHost.lean ====
/- The arrays the mixing kernel reads, as the real numbers its arguments hold. -/
module

public import proofs.«01_k».proof.Proof.MixBlock
public import proofs.«01_k».proof.Proof.MixFrame
public import Idealize.ShloMosaic.Lib.Pipeline.ValueKit
public import Idealize.ShloMosaic.Lib.StableHlo.ReadAt

@[expose] public section

set_option maxRecDepth 16384

noncomputable section

namespace Cert.MixProof.Host

open Cert.MixIdeal Cert.MixIdeal.Gen Cert.MixProof Idealize.ShloMosaic Idealize.ShloMosaic.TcCoe

variable (m : (ℓ : Loc nD τ sig) → Buf (Elt Ideal) ℓ) (c : Dev nD)

/-! The arguments. -/

abbrev argO : Vec Ideal S8192x512 .f32 := m (c, Proc.tc.devRef main_arg0)
abbrev argZa : Vec Ideal S8192x512 .f32 := m (c, Proc.tc.devRef main_arg1)
abbrev argYs : Vec Ideal S8192x512 .f32 := m (c, Proc.tc.devRef main_arg2)
abbrev argZb : Vec Ideal S8192x512 .f32 := m (c, Proc.tc.devRef main_arg3)
abbrev argGa : Vec Ideal S8192x1024 .f32 := m (c, Proc.tc.devRef main_arg4)
abbrev argGb : Vec Ideal S8192x1024 .f32 := m (c, Proc.tc.devRef main_arg5)
abbrev argX : Vec Ideal S8192x1024 .f32 := m (c, Proc.tc.devRef main_arg6)
abbrev argT : Vec Ideal S8192x1024 .f32 := m (c, Proc.tc.devRef main_arg7)
abbrev argGate : Vec Ideal S1x1024 .f32 := m (c, Proc.tc.devRef main_arg8)
abbrev argB : Vec Ideal S1x512 .f32 := m (c, Proc.tc.devRef main_arg9)
abbrev argGf : Vec Ideal S1024 .f32 := m (c, Proc.tc.devRef main_arg10)
abbrev argWg : Vec Ideal S512x512 .f32 := m (c, Proc.tc.devRef main_arg11)
abbrev argWa : Vec Ideal S512x1024 .f32 := m (c, Proc.tc.devRef main_arg12)
abbrev argWb : Vec Ideal S512x1024 .f32 := m (c, Proc.tc.devRef main_arg13)
abbrev argWo : Vec Ideal S1024x1024 .f32 := m (c, Proc.tc.devRef main_arg14)

/-- The real numbers of the arguments. -/
structure Data where
  rows : Fin 8192 → Row
  W : Weights

/-- The arguments hold these real numbers. -/
structure Holds (D : Data) : Prop where
  o : ∀ R k, (argO m c (ix2 R k) : EReal) = (D.rows R).o k
  za : ∀ R k, (argZa m c (ix2 R k) : EReal) = (D.rows R).za k
  ys : ∀ R k, (argYs m c (ix2 R k) : EReal) = (D.rows R).ys k
  zb : ∀ R k, (argZb m c (ix2 R k) : EReal) = (D.rows R).zb k
  ga : ∀ R k, (argGa m c (ix2 R k) : EReal) = (D.rows R).ga k
  gb : ∀ R k, (argGb m c (ix2 R k) : EReal) = (D.rows R).gb k
  x : ∀ R k, (argX m c (ix2 R k) : EReal) = (D.rows R).x k
  tgt : ∀ R k, (argT m c (ix2 R k) : EReal) = (D.rows R).tgt k
  gate : ∀ k, (argGate m c (ix2 0 k) : EReal) = D.W.gate k
  bglu : ∀ k, (argB m c (ix2 0 k) : EReal) = D.W.bglu k
  gf : ∀ k, (argGf m c (ix1 k) : EReal) = D.W.gf k
  wglu : ∀ j k, (argWg m c (ix2 j k) : EReal) = D.W.wglu j k
  wua : ∀ j k, (argWa m c (ix2 j k) : EReal) = D.W.wua j k
  wub : ∀ j k, (argWb m c (ix2 j k) : EReal) = D.W.wub j k
  wout : ∀ j k, (argWo m c (ix2 j k) : EReal) = D.W.wout j k

/-- The row of the arrays that is row `r` of the block at point `t`. -/
def row (t : Fin cfg0.N) (r : Fin 256) : Fin 8192 :=
  ⟨256 * t.val + r.val, by have : t.val < 32 := lt_of_lt_of_eq t.isLt N_0; omega⟩

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![0, 0] := by decide +kernel
theorem idx14 : ∀ t : Fin cfg0.N, win0_14.index t = ![0, 0] := by decide +kernel
theorem idx15 : ∀ t : Fin cfg0.N, win0_15.index t = ![0, 0] := by decide +kernel
theorem idx16 : ∀ t : Fin cfg0.N, win0_16.index t = ![t.val, 0] := by decide +kernel
theorem idx17 : ∀ t : Fin cfg0.N, win0_17.index t = ![t.val, 0] := by decide +kernel
theorem idx18 : ∀ t : Fin cfg0.N, win0_18.index t = ![t.val, 0] := by decide +kernel
theorem idx19 : ∀ t : Fin cfg0.N, win0_19.index t = ![t.val, 0] := by decide +kernel
theorem idx20 : ∀ t : Fin cfg0.N, win0_20.index t = ![t.val, 0] := by decide +kernel
theorem idx21 : ∀ t : Fin cfg0.N, win0_21.index t = ![t.val, 0] := by decide +kernel
theorem idx22 : ∀ t : Fin cfg0.N, win0_22.index t = ![t.val, 0] := by decide +kernel
theorem idx23 : ∀ t : Fin cfg0.N, win0_23.index t = ![0, t.val] := by decide +kernel
theorem idx24 : ∀ t : Fin cfg0.N, win0_24.index t = ![t.val, 0] := by decide +kernel
theorem idx25 : ∀ t : Fin cfg0.N, win0_25.index t = ![t.val, 0] := by decide +kernel
theorem idx26 : ∀ t : Fin cfg0.N, win0_26.index t = ![t.val, 0] := by decide +kernel
theorem idx27 : ∀ t : Fin cfg0.N, win0_27.index t = ![t.val, 0] := by decide +kernel
theorem idx28 : ∀ t : Fin cfg0.N, win0_28.index t = ![t.val, 0] := by decide +kernel
theorem idx29 : ∀ t : Fin cfg0.N, win0_29.index t = ![t.val, 0] := by decide +kernel
theorem idx30 : ∀ t : Fin cfg0.N, win0_30.index t = ![t.val, 0] := by decide +kernel
theorem idx31 : ∀ t : Fin cfg0.N, win0_31.index t = ![t.val, 0] := by decide +kernel
theorem idx32 : ∀ t : Fin cfg0.N, win0_32.index t = ![0, 0] := by decide +kernel
theorem idx33 : ∀ t : Fin cfg0.N, win0_33.index t = ![0, 0] := by decide +kernel
theorem idx34 : ∀ t : Fin cfg0.N, win0_34.index t = ![0, 0] := by decide +kernel
theorem idx35 : ∀ t : Fin cfg0.N, win0_35.index t = ![0, 0] := by decide +kernel

/-! A window's block at a point, of any array. -/

theorem read0 (A : Vec Ideal S8192x512 .f32) (t : Fin cfg0.N) (r : Fin 256) (k : Fin 512) :
    (((cfg0.win 0).blk t).view.read (Elt Ideal) A : _) (ix2 r k) = A (ix2 (row t r) k) := by
  blk_ext [idx0 t, row]
theorem read1 (A : Vec Ideal S8192x512 .f32) (t : Fin cfg0.N) (r : Fin 256) (k : Fin 512) :
    (((cfg0.win 1).blk t).view.read (Elt Ideal) A : _) (ix2 r k) = A (ix2 (row t r) k) := by
  blk_ext [idx1 t, row]
theorem read2 (A : Vec Ideal S8192x512 .f32) (t : Fin cfg0.N) (r : Fin 256) (k : Fin 512) :
    (((cfg0.win 2).blk t).view.read (Elt Ideal) A : _) (ix2 r k) = A (ix2 (row t r) k) := by
  blk_ext [idx2 t, row]
theorem read3 (A : Vec Ideal S8192x512 .f32) (t : Fin cfg0.N) (r : Fin 256) (k : Fin 512) :
    (((cfg0.win 3).blk t).view.read (Elt Ideal) A : _) (ix2 r k) = A (ix2 (row t r) k) := by
  blk_ext [idx3 t, row]
theorem read4 (A : Vec Ideal S8192x1024 .f32) (t : Fin cfg0.N) (r : Fin 256) (k : Fin 1024) :
    (((cfg0.win 4).blk t).view.read (Elt Ideal) A : _) (ix2 r k) = A (ix2 (row t r) k) := by
  blk_ext [idx4 t, row]
theorem read5 (A : Vec Ideal S8192x1024 .f32) (t : Fin cfg0.N) (r : Fin 256) (k : Fin 1024) :
    (((cfg0.win 5).blk t).view.read (Elt Ideal) A : _) (ix2 r k) = A (ix2 (row t r) k) := by
  blk_ext [idx5 t, row]
theorem read6 (A : Vec Ideal S8192x1024 .f32) (t : Fin cfg0.N) (r : Fin 256) (k : Fin 1024) :
    (((cfg0.win 6).blk t).view.read (Elt Ideal) A : _) (ix2 r k) = A (ix2 (row t r) k) := by
  blk_ext [idx6 t, row]
theorem read7 (A : Vec Ideal S8192x1024 .f32) (t : Fin cfg0.N) (r : Fin 256) (k : Fin 1024) :
    (((cfg0.win 7).blk t).view.read (Elt Ideal) A : _) (ix2 r k) = A (ix2 (row t r) k) := by
  blk_ext [idx7 t, row]
theorem read8 (A : Vec Ideal S1x1024 .f32) (t : Fin cfg0.N) (r : Fin 1) (k : Fin 1024) :
    (((cfg0.win 8).blk t).view.read (Elt Ideal) A : _) (ix2 r k) = A (ix2 r k) := by
  blk_ext [idx8 t]
theorem read9 (A : Vec Ideal S1x512 .f32) (t : Fin cfg0.N) (r : Fin 1) (k : Fin 512) :
    (((cfg0.win 9).blk t).view.read (Elt Ideal) A : _) (ix2 r k) = A (ix2 r k) := by
  blk_ext [idx9 t]
theorem read10 (A : Vec Ideal S1x1024 .f32) (t : Fin cfg0.N) (r : Fin 1) (k : Fin 1024) :
    (((cfg0.win 10).blk t).view.read (Elt Ideal) A : _) (ix2 r k) = A (ix2 r k) := by
  blk_ext [idx10 t]
theorem read11 (A : Vec Ideal S512x512 .bf16) (t : Fin cfg0.N) (r : Fin 512) (k : Fin 512) :
    (((cfg0.win 11).blk t).view.read (Elt Ideal) A : _) (ix2 r k) = A (ix2 r k) := by
  blk_ext [idx11 t]
theorem read12 (A : Vec Ideal S512x1024 .bf16) (t : Fin cfg0.N) (r : Fin 512) (k : Fin 1024) :
    (((cfg0.win 12).blk t).view.read (Elt Ideal) A : _) (ix2 r k) = A (ix2 r k) := by
  blk_ext [idx12 t]
theorem read13 (A : Vec Ideal S512x1024 .bf16) (t : Fin cfg0.N) (r : Fin 512) (k : Fin 1024) :
    (((cfg0.win 13).blk t).view.read (Elt Ideal) A : _) (ix2 r k) = A (ix2 r k) := by
  blk_ext [idx13 t]
theorem read14 (A : Vec Ideal S1024x1024 .bf16) (t : Fin cfg0.N) (r : Fin 1024) (k : Fin 1024) :
    (((cfg0.win 14).blk t).view.read (Elt Ideal) A : _) (ix2 r k) = A (ix2 r k) := by
  blk_ext [idx14 t]
theorem read15 (A : Vec Ideal S8x512 .f32) (t : Fin cfg0.N) (r : Fin 8) (k : Fin 512) :
    (((cfg0.win 15).blk t).view.read (Elt Ideal) A : _) (ix2 r k) = A (ix2 r k) := by
  blk_ext [idx15 t]

/-- The selector of heads is a constant: one in a head's own columns and zero elsewhere. -/
theorem selector : ∀ (h : Fin 8) (k : Fin 512),
    lit0 (S8x512.rowMajor (ix2 h k)) = if k.val / 64 = h.val then 0x3F800000#32 else 0x00000000#32 := by decide +kernel

/-- No later host operation writes it. -/
theorem V_cst : V m c main_cst = (fun i => FloatOps.ofBits (F := Ideal) .f32 (lit0 (S8x512.rowMajor i)) : Vec Ideal S8x512 .f32) := by
  refine (StableHlo.after_of_forall_not_mem (b := Proc.devRef .tc main_cst) (List.tail hostOps0) _
    (List.forall_iff_forall_mem.mp ?_)).trans (StableHlo.nullary_result main_cst _ _ _)
  simp only [hostOps0, List.tail_cons, List.flatten_cons, List.flatten_nil, List.append_nil, List.cons_append, List.nil_append,
    List.Forall, StableHlo.unary_writes, StableHlo.reshape_writes, Finset.mem_singleton]
  repeat' apply And.intro
  all_goals exact StableHlo.devRef_ne_of_ne (by decide)

variable {m c} {D : Data} (H : Holds m c D)
include H

/-! The blocks a point reads. -/

theorem block0 (t : Fin cfg0.N) (r : Fin 256) (k : Fin 512) : (iblk m c 0 t (ix2 r k) : EReal) = ((((D.rows (row t r)).o k : ℝ)) : EReal) :=
  ((read0 (V m c main_arg0) t r k).trans (congrFun (V_main_arg0 m c) _)).trans (H.o _ k)
theorem block1 (t : Fin cfg0.N) (r : Fin 256) (k : Fin 512) : (iblk m c 1 t (ix2 r k) : EReal) = ((((D.rows (row t r)).za k : ℝ)) : EReal) :=
  ((read1 (V m c main_arg1) t r k).trans (congrFun (V_main_arg1 m c) _)).trans (H.za _ k)
theorem block2 (t : Fin cfg0.N) (r : Fin 256) (k : Fin 512) : (iblk m c 2 t (ix2 r k) : EReal) = ((((D.rows (row t r)).ys k : ℝ)) : EReal) :=
  ((read2 (V m c main_arg2) t r k).trans (congrFun (V_main_arg2 m c) _)).trans (H.ys _ k)
theorem block3 (t : Fin cfg0.N) (r : Fin 256) (k : Fin 512) : (iblk m c 3 t (ix2 r k) : EReal) = ((((D.rows (row t r)).zb k : ℝ)) : EReal) :=
  ((read3 (V m c main_arg3) t r k).trans (congrFun (V_main_arg3 m c) _)).trans (H.zb _ k)
theorem block4 (t : Fin cfg0.N) (r : Fin 256) (k : Fin 1024) : (iblk m c 4 t (ix2 r k) : EReal) = ((((D.rows (row t r)).ga k : ℝ)) : EReal) :=
  ((read4 (V m c main_arg4) t r k).trans (congrFun (V_main_arg4 m c) _)).trans (H.ga _ k)
theorem block5 (t : Fin cfg0.N) (r : Fin 256) (k : Fin 1024) : (iblk m c 5 t (ix2 r k) : EReal) = ((((D.rows (row t r)).gb k : ℝ)) : EReal) :=
  ((read5 (V m c main_arg5) t r k).trans (congrFun (V_main_arg5 m c) _)).trans (H.gb _ k)
theorem block6 (t : Fin cfg0.N) (r : Fin 256) (k : Fin 1024) : (iblk m c 6 t (ix2 r k) : EReal) = ((((D.rows (row t r)).x k : ℝ)) : EReal) :=
  ((read6 (V m c main_arg6) t r k).trans (congrFun (V_main_arg6 m c) _)).trans (H.x _ k)
theorem block7 (t : Fin cfg0.N) (r : Fin 256) (k : Fin 1024) : (iblk m c 7 t (ix2 r k) : EReal) = ((((D.rows (row t r)).tgt k : ℝ)) : EReal) :=
  ((read7 (V m c main_arg7) t r k).trans (congrFun (V_main_arg7 m c) _)).trans (H.tgt _ k)
theorem block8 (t : Fin cfg0.N) (k : Fin 1024) : (iblk m c 8 t (ix2 0 k) : EReal) = ((D.W.gate k : ℝ) : EReal) :=
  ((read8 (V m c main_arg8) t 0 k).trans (congrFun (V_main_arg8 m c) _)).trans (H.gate k)
theorem block9 (t : Fin cfg0.N) (k : Fin 512) : (iblk m c 9 t (ix2 0 k) : EReal) = ((D.W.bglu k : ℝ) : EReal) :=
  ((read9 (V m c main_arg9) t 0 k).trans (congrFun (V_main_arg9 m c) _)).trans (H.bglu k)
theorem block10 (t : Fin cfg0.N) (k : Fin 1024) : (iblk m c 10 t (ix2 0 k) : EReal) = ((D.W.gf k : ℝ) : EReal) := by
  refine (read10 (V m c main_v0) t 0 k).trans (Eq.trans ?_ (H.gf k))
  unfold V
  after_reads_at
theorem block11 (t : Fin cfg0.N) (j : Fin 512) (k : Fin 512) : (iblk m c 11 t (ix2 j k) : EReal) = ((D.W.wglu j k : ℝ) : EReal) := by
  refine (read11 (V m c main_v1) t j k).trans (Eq.trans ?_ (H.wglu j k))
  unfold V
  after_reads_at
theorem block12 (t : Fin cfg0.N) (j : Fin 512) (k : Fin 1024) : (iblk m c 12 t (ix2 j k) : EReal) = ((D.W.wua j k : ℝ) : EReal) := by
  refine (read12 (V m c main_v2) t j k).trans (Eq.trans ?_ (H.wua j k))
  unfold V
  after_reads_at
theorem block13 (t : Fin cfg0.N) (j : Fin 512) (k : Fin 1024) : (iblk m c 13 t (ix2 j k) : EReal) = ((D.W.wub j k : ℝ) : EReal) := by
  refine (read13 (V m c main_v3) t j k).trans (Eq.trans ?_ (H.wub j k))
  unfold V
  after_reads_at
theorem block14 (t : Fin cfg0.N) (j : Fin 1024) (k : Fin 1024) : (iblk m c 14 t (ix2 j k) : EReal) = ((D.W.wout j k : ℝ) : EReal) := by
  refine (read14 (V m c main_v4) t j k).trans (Eq.trans ?_ (H.wout j k))
  unfold V
  after_reads_at

omit H in
theorem block15 (t : Fin cfg0.N) (h : Fin 8) (k : Fin 512) :
    (iblk m c 15 t (ix2 h k) : EReal) = ((if k.val / 64 = h.val then 1 else 0 : ℝ) : EReal) := by
  refine ((read15 (V m c main_cst) t h k).trans (congrFun (V_cst m c) _)).trans ?_
  dsimp only
  rw [selector]
  by_cases e : k.val / 64 = h.val
  · rw [if_pos e, if_pos e]
    exact Block.lit_one
  · rw [if_neg e, if_neg e]
    exact Block.lit_zero

set_option maxHeartbeats 2000000 in
/-- They hold the rows and the weights. -/
theorem blocks_hold (t : Fin cfg0.N) : Block.Holds (blocks m c t) D.W fun r => D.rows (row t r) :=
  ⟨block0 H t, block1 H t, block2 H t, block3 H t, block4 H t, block5 H t, block6 H t, block7 H t, block8 H t, block9 H t,
    block10 H t, block11 H t, block12 H t, block13 H t, block14 H t, block15 (m := m) (c := c) t⟩

end Cert.MixProof.Host

end
-- ==== Proof.MixArray.lean ====
/- The twenty result arrays of the mixing kernel, as real numbers. -/
module

public import proofs.«01_k».proof.Proof.MixHost

@[expose] public section

set_option maxRecDepth 16384

noncomputable section

namespace Cert.MixProof.Array

open Cert.MixIdeal Cert.MixIdeal.Gen Cert.MixProof Cert.MixProof.Host Idealize.ShloMosaic Idealize.ShloMosaic.TcCoe

/-- What the rows of a point's block add to a sum over all rows. -/
def part (f : Fin 8192 → ℝ) (n : ℕ) : ℝ := if h : n < cfg0.N then ∑ r, f (row ⟨n, h⟩ r) else 0

theorem part_at (f : Fin 8192 → ℝ) (n : ℕ) (h : n < cfg0.N) : part f n = ∑ r, f (row ⟨n, h⟩ r) := dif_pos h

/-- The points' parts add up to the sum over all rows. -/
theorem total (f : Fin 8192 → ℝ) : ∑ t ∈ Finset.range (31 + 1), part f t = ∑ R, f R := by
  rw [Finset.sum_range, ← Fintype.sum_equiv (finProdFinEquiv (m := 32) (n := 256))
    (fun p => f ⟨256 * p.1.val + p.2.val, by omega⟩) f fun p => congrArg f (Fin.ext (by
      show 256 * p.1.val + p.2.val = p.2.val + 256 * p.1.val
      omega)), Fintype.sum_prod_type]
  refine Finset.sum_congr rfl fun t _ => ?_
  rw [part_at f t.val (lt_of_lt_of_eq t.isLt N_0.symm)]
  rfl

variable {m : (ℓ : Loc nD τ sig) → Buf (Elt Ideal) ℓ} {c : Dev nD} {D : Data} (H : Holds m c D)
include H

theorem final16 : (dats m 0 c).arrAt 16 cfg0.N = fun j : S8192x1024.Idx => (((D.rows (j 0)).dx2 D.W (j 1) : ℝ) : EReal) := by
  refine (dats m 0 c).arrAt_eq_of_covers 16 _ (by decide +kernel) fun t hf y => ?_
  blk_simp
  rw [after16]
  obtain ⟨r, d, rfl⟩ : ∃ r d, y = ix2 r d := ⟨_, _, eq_ix2 y⟩
  refine (Block.dx2 (blocks_hold H t) r d).trans ?_
  have e0 : (((win0_16.blk t).view.emb (ix2 r d)) 0 : Fin 8192) = row t r := by
    apply Fin.ext; blk_simp [idx16 t]; show t.val * 256 + r.val = 256 * t.val + r.val; omega
  have e1 : (((win0_16.blk t).view.emb (ix2 r d)) 1 : Fin 1024) = d := by apply Fin.ext; blk_simp [idx16 t]
  rw [e0, e1]

theorem final17 : (dats m 0 c).arrAt 17 cfg0.N = fun j : S8192x512.Idx => (((D.rows (j 0)).do_ D.W (j 1) : ℝ) : EReal) := by
  refine (dats m 0 c).arrAt_eq_of_covers 17 _ (by decide +kernel) fun t hf y => ?_
  blk_simp
  rw [after17]
  obtain ⟨r, d, rfl⟩ : ∃ r d, y = ix2 r d := ⟨_, _, eq_ix2 y⟩
  refine (Block.do_ (blocks_hold H t) r d).trans ?_
  have e0 : (((win0_17.blk t).view.emb (ix2 r d)) 0 : Fin 8192) = row t r := by
    apply Fin.ext; blk_simp [idx17 t]; show t.val * 256 + r.val = 256 * t.val + r.val; omega
  have e1 : (((win0_17.blk t).view.emb (ix2 r d)) 1 : Fin 512) = d := by apply Fin.ext; blk_simp [idx17 t]
  rw [e0, e1]

theorem final18 : (dats m 0 c).arrAt 18 cfg0.N = fun j : S8192x512.Idx => (((D.rows (j 0)).dza D.W (j 1) : ℝ) : EReal) := by
  refine (dats m 0 c).arrAt_eq_of_covers 18 _ (by decide +kernel) fun t hf y => ?_
  blk_simp
  rw [after18]
  obtain ⟨r, d, rfl⟩ : ∃ r d, y = ix2 r d := ⟨_, _, eq_ix2 y⟩
  refine (Block.dza (blocks_hold H t) r d).trans ?_
  have e0 : (((win0_18.blk t).view.emb (ix2 r d)) 0 : Fin 8192) = row t r := by
    apply Fin.ext; blk_simp [idx18 t]; show t.val * 256 + r.val = 256 * t.val + r.val; omega
  have e1 : (((win0_18.blk t).view.emb (ix2 r d)) 1 : Fin 512) = d := by apply Fin.ext; blk_simp [idx18 t]
  rw [e0, e1]

theorem final19 : (dats m 0 c).arrAt 19 cfg0.N = fun j : S8192x512.Idx => (((D.rows (j 0)).dzb D.W (j 1) : ℝ) : EReal) := by
  refine (dats m 0 c).arrAt_eq_of_covers 19 _ (by decide +kernel) fun t hf y => ?_
  blk_simp
  rw [after19]
  obtain ⟨r, d, rfl⟩ : ∃ r d, y = ix2 r d := ⟨_, _, eq_ix2 y⟩
  refine (Block.dzb (blocks_hold H t) r d).trans ?_
  have e0 : (((win0_19.blk t).view.emb (ix2 r d)) 0 : Fin 8192) = row t r := by
    apply Fin.ext; blk_simp [idx19 t]; show t.val * 256 + r.val = 256 * t.val + r.val; omega
  have e1 : (((win0_19.blk t).view.emb (ix2 r d)) 1 : Fin 512) = d := by apply Fin.ext; blk_simp [idx19 t]
  rw [e0, e1]

theorem final20 : (dats m 0 c).arrAt 20 cfg0.N = fun j : S8192x1024.Idx => (((D.rows (j 0)).dga D.W (j 1) : ℝ) : EReal) := by
  refine (dats m 0 c).arrAt_eq_of_covers 20 _ (by decide +kernel) fun t hf y => ?_
  blk_simp
  rw [after20]
  obtain ⟨r, d, rfl⟩ : ∃ r d, y = ix2 r d := ⟨_, _, eq_ix2 y⟩
  refine (Block.dga (blocks_hold H t) r d).trans ?_
  have e0 : (((win0_20.blk t).view.emb (ix2 r d)) 0 : Fin 8192) = row t r := by
    apply Fin.ext; blk_simp [idx20 t]; show t.val * 256 + r.val = 256 * t.val + r.val; omega
  have e1 : (((win0_20.blk t).view.emb (ix2 r d)) 1 : Fin 1024) = d := by apply Fin.ext; blk_simp [idx20 t]
  rw [e0, e1]

theorem final21 : (dats m 0 c).arrAt 21 cfg0.N = fun j : S8192x1024.Idx => (((D.rows (j 0)).dgb D.W (j 1) : ℝ) : EReal) := by
  refine (dats m 0 c).arrAt_eq_of_covers 21 _ (by decide +kernel) fun t hf y => ?_
  blk_simp
  rw [after21]
  obtain ⟨r, d, rfl⟩ : ∃ r d, y = ix2 r d := ⟨_, _, eq_ix2 y⟩
  refine (Block.dgb (blocks_hold H t) r d).trans ?_
  have e0 : (((win0_21.blk t).view.emb (ix2 r d)) 0 : Fin 8192) = row t r := by
    apply Fin.ext; blk_simp [idx21 t]; show t.val * 256 + r.val = 256 * t.val + r.val; omega
  have e1 : (((win0_21.blk t).view.emb (ix2 r d)) 1 : Fin 1024) = d := by apply Fin.ext; blk_simp [idx21 t]
  rw [e0, e1]

theorem final22 : (dats m 0 c).arrAt 22 cfg0.N = fun j : S8192x512.Idx => (((D.rows (j 0)).dys D.W (j 1) : ℝ) : EReal) := by
  refine (dats m 0 c).arrAt_eq_of_covers 22 _ (by decide +kernel) fun t hf y => ?_
  blk_simp
  rw [after22]
  obtain ⟨r, d, rfl⟩ : ∃ r d, y = ix2 r d := ⟨_, _, eq_ix2 y⟩
  refine (Block.dys (blocks_hold H t) r d).trans ?_
  have e0 : (((win0_22.blk t).view.emb (ix2 r d)) 0 : Fin 8192) = row t r := by
    apply Fin.ext; blk_simp [idx22 t]; show t.val * 256 + r.val = 256 * t.val + r.val; omega
  have e1 : (((win0_22.blk t).view.emb (ix2 r d)) 1 : Fin 512) = d := by apply Fin.ext; blk_simp [idx22 t]
  rw [e0, e1]

theorem final23 : (dats m 0 c).arrAt 23 cfg0.N = fun j : S8x8192.Idx => (((D.rows (j 1)).dl D.W (j 0) : ℝ) : EReal) := by
  refine (dats m 0 c).arrAt_eq_of_covers 23 _ (by decide +kernel) fun t hf y => ?_
  blk_simp
  rw [after23]
  obtain ⟨h, r, rfl⟩ : ∃ h r, y = ix2 h r := ⟨_, _, eq_ix2 y⟩
  refine (Block.dl (blocks_hold H t) h r).trans ?_
  have e0 : (((win0_23.blk t).view.emb (ix2 h r)) 0 : Fin 8) = h := by apply Fin.ext; blk_simp [idx23 t]
  have e1 : (((win0_23.blk t).view.emb (ix2 h r)) 1 : Fin 8192) = row t r := by
    apply Fin.ext; blk_simp [idx23 t]; show t.val * 256 + r.val = 256 * t.val + r.val; omega
  rw [e0, e1]

theorem final24 : (dats m 0 c).arrAt 24 cfg0.N = fun j : S8192x1024.Idx => (((D.rows (j 0)).merged D.W (j 1) : ℝ) : EReal) := by
  refine (dats m 0 c).arrAt_eq_of_covers 24 _ (by decide +kernel) fun t hf y => ?_
  blk_simp
  rw [after24]
  obtain ⟨r, d, rfl⟩ : ∃ r d, y = ix2 r d := ⟨_, _, eq_ix2 y⟩
  refine (Block.merged (blocks_hold H t) r d).trans ?_
  have e0 : (((win0_24.blk t).view.emb (ix2 r d)) 0 : Fin 8192) = row t r := by
    apply Fin.ext; blk_simp [idx24 t]; show t.val * 256 + r.val = 256 * t.val + r.val; omega
  have e1 : (((win0_24.blk t).view.emb (ix2 r d)) 1 : Fin 1024) = d := by apply Fin.ext; blk_simp [idx24 t]
  rw [e0, e1]

theorem final25 : (dats m 0 c).arrAt 25 cfg0.N = fun j : S8192x1024.Idx => (((D.rows (j 0)).dmo D.W (j 1) : ℝ) : EReal) := by
  refine (dats m 0 c).arrAt_eq_of_covers 25 _ (by decide +kernel) fun t hf y => ?_
  blk_simp
  rw [after25]
  obtain ⟨r, d, rfl⟩ : ∃ r d, y = ix2 r d := ⟨_, _, eq_ix2 y⟩
  refine (Block.dmo (blocks_hold H t) r d).trans ?_
  have e0 : (((win0_25.blk t).view.emb (ix2 r d)) 0 : Fin 8192) = row t r := by
    apply Fin.ext; blk_simp [idx25 t]; show t.val * 256 + r.val = 256 * t.val + r.val; omega
  have e1 : (((win0_25.blk t).view.emb (ix2 r d)) 1 : Fin 1024) = d := by apply Fin.ext; blk_simp [idx25 t]
  rw [e0, e1]

theorem final26 : (dats m 0 c).arrAt 26 cfg0.N = fun j : S8192x512.Idx => (((D.rows (j 0)).ya (j 1) : ℝ) : EReal) := by
  refine (dats m 0 c).arrAt_eq_of_covers 26 _ (by decide +kernel) fun t hf y => ?_
  blk_simp
  rw [after26]
  obtain ⟨r, d, rfl⟩ : ∃ r d, y = ix2 r d := ⟨_, _, eq_ix2 y⟩
  refine (Block.ya (blocks_hold H t) r d).trans ?_
  have e0 : (((win0_26.blk t).view.emb (ix2 r d)) 0 : Fin 8192) = row t r := by
    apply Fin.ext; blk_simp [idx26 t]; show t.val * 256 + r.val = 256 * t.val + r.val; omega
  have e1 : (((win0_26.blk t).view.emb (ix2 r d)) 1 : Fin 512) = d := by apply Fin.ext; blk_simp [idx26 t]
  rw [e0, e1]

theorem final27 : (dats m 0 c).arrAt 27 cfg0.N = fun j : S8192x1024.Idx => (((D.rows (j 0)).dua D.W (j 1) : ℝ) : EReal) := by
  refine (dats m 0 c).arrAt_eq_of_covers 27 _ (by decide +kernel) fun t hf y => ?_
  blk_simp
  rw [after27]
  obtain ⟨r, d, rfl⟩ : ∃ r d, y = ix2 r d := ⟨_, _, eq_ix2 y⟩
  refine (Block.dua (blocks_hold H t) r d).trans ?_
  have e0 : (((win0_27.blk t).view.emb (ix2 r d)) 0 : Fin 8192) = row t r := by
    apply Fin.ext; blk_simp [idx27 t]; show t.val * 256 + r.val = 256 * t.val + r.val; omega
  have e1 : (((win0_27.blk t).view.emb (ix2 r d)) 1 : Fin 1024) = d := by apply Fin.ext; blk_simp [idx27 t]
  rw [e0, e1]

theorem final28 : (dats m 0 c).arrAt 28 cfg0.N = fun j : S8192x512.Idx => (((D.rows (j 0)).yb D.W (j 1) : ℝ) : EReal) := by
  refine (dats m 0 c).arrAt_eq_of_covers 28 _ (by decide +kernel) fun t hf y => ?_
  blk_simp
  rw [after28]
  obtain ⟨r, d, rfl⟩ : ∃ r d, y = ix2 r d := ⟨_, _, eq_ix2 y⟩
  refine (Block.yb (blocks_hold H t) r d).trans ?_
  have e0 : (((win0_28.blk t).view.emb (ix2 r d)) 0 : Fin 8192) = row t r := by
    apply Fin.ext; blk_simp [idx28 t]; show t.val * 256 + r.val = 256 * t.val + r.val; omega
  have e1 : (((win0_28.blk t).view.emb (ix2 r d)) 1 : Fin 512) = d := by apply Fin.ext; blk_simp [idx28 t]
  rw [e0, e1]

theorem final29 : (dats m 0 c).arrAt 29 cfg0.N = fun j : S8192x1024.Idx => (((D.rows (j 0)).dub D.W (j 1) : ℝ) : EReal) := by
  refine (dats m 0 c).arrAt_eq_of_covers 29 _ (by decide +kernel) fun t hf y => ?_
  blk_simp
  rw [after29]
  obtain ⟨r, d, rfl⟩ : ∃ r d, y = ix2 r d := ⟨_, _, eq_ix2 y⟩
  refine (Block.dub (blocks_hold H t) r d).trans ?_
  have e0 : (((win0_29.blk t).view.emb (ix2 r d)) 0 : Fin 8192) = row t r := by
    apply Fin.ext; blk_simp [idx29 t]; show t.val * 256 + r.val = 256 * t.val + r.val; omega
  have e1 : (((win0_29.blk t).view.emb (ix2 r d)) 1 : Fin 1024) = d := by apply Fin.ext; blk_simp [idx29 t]
  rw [e0, e1]

theorem final30 : (dats m 0 c).arrAt 30 cfg0.N = fun j : S8192x512.Idx => (((D.rows (j 0)).yg (j 1) : ℝ) : EReal) := by
  refine (dats m 0 c).arrAt_eq_of_covers 30 _ (by decide +kernel) fun t hf y => ?_
  blk_simp
  rw [after30]
  obtain ⟨r, d, rfl⟩ : ∃ r d, y = ix2 r d := ⟨_, _, eq_ix2 y⟩
  refine (Block.yg (blocks_hold H t) r d).trans ?_
  have e0 : (((win0_30.blk t).view.emb (ix2 r d)) 0 : Fin 8192) = row t r := by
    apply Fin.ext; blk_simp [idx30 t]; show t.val * 256 + r.val = 256 * t.val + r.val; omega
  have e1 : (((win0_30.blk t).view.emb (ix2 r d)) 1 : Fin 512) = d := by apply Fin.ext; blk_simp [idx30 t]
  rw [e0, e1]

theorem final31 : (dats m 0 c).arrAt 31 cfg0.N = fun j : S8192x512.Idx => (((D.rows (j 0)).dgl D.W (j 1) : ℝ) : EReal) := by
  refine (dats m 0 c).arrAt_eq_of_covers 31 _ (by decide +kernel) fun t hf y => ?_
  blk_simp
  rw [after31]
  obtain ⟨r, d, rfl⟩ : ∃ r d, y = ix2 r d := ⟨_, _, eq_ix2 y⟩
  refine (Block.dgl (blocks_hold H t) r d).trans ?_
  have e0 : (((win0_31.blk t).view.emb (ix2 r d)) 0 : Fin 8192) = row t r := by
    apply Fin.ext; blk_simp [idx31 t]; show t.val * 256 + r.val = 256 * t.val + r.val; omega
  have e1 : (((win0_31.blk t).view.emb (ix2 r d)) 1 : Fin 512) = d := by apply Fin.ext; blk_simp [idx31 t]
  rw [e0, e1]

/-- After point `n` the four sums hold what the rows of the points up to it add. -/
theorem acc : ∀ (n : ℕ) (hn : n < cfg0.N),
    (∀ k, ((carried m c n hn).bglu (ix2 0 k) : EReal) = ((∑ t ∈ Finset.range (n + 1), part (fun R => (D.rows R).dgl D.W k) t : ℝ) : EReal))
    ∧ (∀ d, ((carried m c n hn).gate (ix2 0 d) : EReal) = ((∑ t ∈ Finset.range (n + 1), part (fun R => (D.rows R).pgate D.W d) t : ℝ) : EReal))
    ∧ (∀ d, ((carried m c n hn).gf (ix2 0 d) : EReal)
      = ((∑ t ∈ Finset.range (n + 1), part (fun R => (D.rows R).pgf D.W d * (1 / 1024)) t : ℝ) : EReal))
    ∧ ((carried m c n hn).loss (ix2 0 0) : EReal)
      = ((∑ t ∈ Finset.range (n + 1), part (fun R => (D.rows R).ploss D.W * (1 / 2048)) t : ℝ) : EReal)
  | 0, hn => by
    have K := blocks_hold H ⟨0, hn⟩
    refine ⟨fun k => ?_, fun d => ?_, fun d => ?_, ?_⟩
    all_goals
      rw [Finset.sum_range_succ, Finset.range_zero, Finset.sum_empty, zero_add, part_at _ _ hn]
      unfold carried
    · rw [Block.step_bglu K, Block.start_bglu, zero_add]
    · rw [Block.step_gate K, Block.start_gate, zero_add]
    · rw [Block.step_gf K, Block.start_gf, zero_add, Finset.sum_mul]
    · rw [Block.step_loss K, Block.start_loss, zero_add, Finset.sum_mul]
  | n + 1, hn => by
    have K := blocks_hold H ⟨n + 1, hn⟩
    obtain ⟨i1, i2, i3, i4⟩ := acc n (Nat.lt_of_succ_lt hn)
    refine ⟨fun k => ?_, fun d => ?_, fun d => ?_, ?_⟩
    all_goals
      rw [Finset.sum_range_succ, part_at _ _ hn, EReal.coe_add]
      unfold carried
    · rw [Block.step_bglu K, i1]
    · rw [Block.step_gate K, i2]
    · rw [Block.step_gf K, i3, Finset.sum_mul]
    · rw [Block.step_loss K, i4, Finset.sum_mul]

theorem final32 : (dats m 0 c).arrAt 32 cfg0.N = fun j : S1x512.Idx => ((∑ R, (D.rows R).dgl D.W (j 1) : ℝ) : EReal) := by
  refine (dats m 0 c).arrAt_eq_of_covers 32 _ (by decide +kernel) fun t hf y => ?_
  blk_simp
  rw [after32]
  obtain ⟨r, d, rfl⟩ : ∃ r d, y = ix2 r d := ⟨_, _, eq_ix2 y⟩
  have hN : t.val < 32 := lt_of_lt_of_eq t.isLt N_0
  have hl : t.val = 31 := by have := (flush0_32 t).mp hf; omega
  obtain rfl : r = 0 := Subsingleton.elim _ _
  refine ((acc H t.val t.isLt).1 d).trans ?_
  rw [hl, total]
  have e1 : (((win0_32.blk t).view.emb (ix2 0 d)) 1 : Fin 512) = d := by apply Fin.ext; blk_simp [idx32 t]
  rw [e1]

theorem final33 : (dats m 0 c).arrAt 33 cfg0.N = fun j : S1x1024.Idx => ((∑ R, (D.rows R).pgate D.W (j 1) : ℝ) : EReal) := by
  refine (dats m 0 c).arrAt_eq_of_covers 33 _ (by decide +kernel) fun t hf y => ?_
  blk_simp
  rw [after33]
  obtain ⟨r, d, rfl⟩ : ∃ r d, y = ix2 r d := ⟨_, _, eq_ix2 y⟩
  have hN : t.val < 32 := lt_of_lt_of_eq t.isLt N_0
  have hl : t.val = 31 := by have := (flush0_33 t).mp hf; omega
  obtain rfl : r = 0 := Subsingleton.elim _ _
  refine ((acc H t.val t.isLt).2.1 d).trans ?_
  rw [hl, total]
  have e1 : (((win0_33.blk t).view.emb (ix2 0 d)) 1 : Fin 1024) = d := by apply Fin.ext; blk_simp [idx33 t]
  rw [e1]

theorem final34 : (dats m 0 c).arrAt 34 cfg0.N = fun j : S1x1024.Idx => ((∑ R, (D.rows R).pgf D.W (j 1) * (1 / 1024) : ℝ) : EReal) := by
  refine (dats m 0 c).arrAt_eq_of_covers 34 _ (by decide +kernel) fun t hf y => ?_
  blk_simp
  rw [after34]
  obtain ⟨r, d, rfl⟩ : ∃ r d, y = ix2 r d := ⟨_, _, eq_ix2 y⟩
  have hN : t.val < 32 := lt_of_lt_of_eq t.isLt N_0
  have hl : t.val = 31 := by have := (flush0_34 t).mp hf; omega
  obtain rfl : r = 0 := Subsingleton.elim _ _
  refine ((acc H t.val t.isLt).2.2.1 d).trans ?_
  rw [hl, total]
  have e1 : (((win0_34.blk t).view.emb (ix2 0 d)) 1 : Fin 1024) = d := by apply Fin.ext; blk_simp [idx34 t]
  rw [e1]

theorem final35 : (dats m 0 c).arrAt 35 cfg0.N = fun _ : S1x1.Idx => ((∑ R, (D.rows R).ploss D.W * (1 / 2048) : ℝ) : EReal) := by
  refine (dats m 0 c).arrAt_eq_of_covers 35 _ (by decide +kernel) fun t hf y => ?_
  blk_simp
  rw [after35]
  obtain ⟨r, d, rfl⟩ : ∃ r d, y = ix2 r d := ⟨_, _, eq_ix2 y⟩
  have hN : t.val < 32 := lt_of_lt_of_eq t.isLt N_0
  have hl : t.val = 31 := by have := (flush0_35 t).mp hf; omega
  obtain rfl : r = 0 := Subsingleton.elim _ _
  obtain rfl : d = 0 := Subsingleton.elim _ _
  refine ((acc H t.val t.isLt).2.2.2).trans ?_
  rw [hl, total]

end Cert.MixProof.Array

end
-- ==== Proof.MixReference.lean ====
/- The reference of the mixing call, read at an index as real numbers: each operation of the forward lines and of their
   derivative holds what the model of a row says. -/
module

public import proofs.«01_k».proof.Proof.Gen.MixRefIdeal.Run
public import proofs.«01_k».proof.Proof.Gen.MixRefIdeal.Read
public import proofs.«01_k».proof.Proof.MixHost

@[expose] public section

set_option maxRecDepth 16384

noncomputable section

namespace Cert.MixProof.Reference

open Cert.MixRefIdeal Cert.MixRefIdeal.Gen Cert.MixRefIdeal.Read Cert.MixProof Idealize.ShloMosaic Idealize.ShloMosaic.TcCoe
open Cert.MixProof.Block (half scale_real one_real)
open Cert.MixProof.Host (Data)
open Cert.AttnProof.Cast (coe_sum div_real)
open Cert.ProjProof.Equation (width minus_half square square_pos square_real root norm_gradient)

/-! The literals only the reference has. -/

theorem many : Ideal.ofBits FTy.f32 0x472EAB00#32 = ((44715 : ℝ) : EReal) := by
  simp [Ideal.ofBits, Ideal.ieee, -EReal.coe_mul]; norm_num

theorem million : Ideal.ofBits FTy.f32 0x49742400#32 = ((1000000 : ℝ) : EReal) := by
  simp [Ideal.ofBits, Ideal.ieee, -EReal.coe_mul]; norm_num

theorem two : Ideal.ofBits FTy.f32 0x40000000#32 = ((2 : ℝ) : EReal) := by
  simp [Ideal.ofBits, Ideal.ieee, -EReal.coe_mul]; norm_num

theorem three : Ideal.ofBits FTy.f32 0x40400000#32 = ((3 : ℝ) : EReal) := by
  simp [Ideal.ofBits, Ideal.ieee, -EReal.coe_mul]; norm_num

theorem logistic_neg (z : ℝ) : Ideal.div 1 (1 + Ideal.exp (-(z : EReal))) = (logistic z : EReal) := by
  rw [← zero_sub]
  exact Block.logistic_real z

variable {x0 x1 x2 x3 : Vec Ideal S8192x512 .f32} {x4 x5 x6 x7 : Vec Ideal S8192x1024 .f32} {x8 : Vec Ideal S1x1024 .f32}
  {x9 : Vec Ideal S1x512 .f32} {x10 : Vec Ideal S1024 .f32} {x11 : Vec Ideal S512x512 .f32} {x12 x13 : Vec Ideal S512x1024 .f32}
  {x14 : Vec Ideal S1024x1024 .f32}

variable (x0 x1 x2 x3 x4 x5 x6 x7 x8 x9 x10 x11 x12 x13 x14) in
/-- The arguments hold these real numbers. -/
structure Reads (D : Data) : Prop where
  o : ∀ R k, (x0 (ix2 R k) : EReal) = (D.rows R).o k
  za : ∀ R k, (x1 (ix2 R k) : EReal) = (D.rows R).za k
  ys : ∀ R k, (x2 (ix2 R k) : EReal) = (D.rows R).ys k
  zb : ∀ R k, (x3 (ix2 R k) : EReal) = (D.rows R).zb k
  ga : ∀ R k, (x4 (ix2 R k) : EReal) = (D.rows R).ga k
  gb : ∀ R k, (x5 (ix2 R k) : EReal) = (D.rows R).gb k
  x : ∀ R k, (x6 (ix2 R k) : EReal) = (D.rows R).x k
  tgt : ∀ R k, (x7 (ix2 R k) : EReal) = (D.rows R).tgt k
  gate : ∀ k, (x8 (ix2 0 k) : EReal) = D.W.gate k
  bglu : ∀ k, (x9 (ix2 0 k) : EReal) = D.W.bglu k
  gf : ∀ k, (x10 (ix1 k) : EReal) = D.W.gf k
  wglu : ∀ j k, (x11 (ix2 j k) : EReal) = D.W.wglu j k
  wua : ∀ j k, (x12 (ix2 j k) : EReal) = D.W.wua j k
  wub : ∀ j k, (x13 (ix2 j k) : EReal) = D.W.wub j k
  wout : ∀ j k, (x14 (ix2 j k) : EReal) = D.W.wout j k

section Stages

variable {D : Data} (H : Reads x0 x1 x2 x3 x4 x5 x6 x7 x8 x9 x10 x11 x12 x13 x14 D)
include H

theorem sza (R : Fin 8192) (k : Fin 512) :
    (val_main_v2_2 (F := Ideal) x1 (ix2 R k) : EReal) = ((logistic ((D.rows R).za k) : ℝ) : EReal) := by
  pointwise [val_main_call0_cst_0, val_main_call0_v4, val_main_call0_cst, val_main_call0_v2, val_main_call0_v0, val_main_call0_v1, val_main_call0_v3, val_main_v2_2]
  rw [H.za, logistic_neg]

theorem dsza (R : Fin 8192) (k : Fin 512) :
    (val_main_v2_1 (F := Ideal) x1 (ix2 R k) : EReal) = ((logistic ((D.rows R).za k) * (1 - logistic ((D.rows R).za k)) : ℝ) : EReal) := by
  pointwise [val_main_call0_cst_1, val_main_call0_v6, val_main_call0_v7, val_main_v2_1]
  simp only [sza H, one_real, ← EReal.coe_sub, ← EReal.coe_add, ← EReal.coe_mul, ← coe_sum]

theorem siluA (R : Fin 8192) (k : Fin 512) :
    (val_main_v2_0 (F := Ideal) x1 (ix2 R k) : EReal) = (((D.rows R).siluA k : ℝ) : EReal) := by
  pointwise [val_main_v2_0]
  simp only [sza H, H.za, one_real, ← EReal.coe_sub, ← EReal.coe_add, ← EReal.coe_mul, ← coe_sum]
  rfl

theorem ya (R : Fin 8192) (k : Fin 512) :
    (val_main_v3 (F := Ideal) x0 x1 (ix2 R k) : EReal) = (((D.rows R).ya k : ℝ) : EReal) := by
  pointwise [val_main_v3]
  simp only [siluA H, H.o, one_real, ← EReal.coe_sub, ← EReal.coe_add, ← EReal.coe_mul, ← coe_sum]
  rfl

theorem cubic :
    (val_main_v10 (F := Ideal)  ix0 : EReal) = ((cub : ℝ) : EReal) := by
  show Ideal.div (Ideal.ofBits FTy.f32 0x472EAB00#32) (Ideal.ofBits FTy.f32 0x49742400#32) = _
  rw [many, million, div_real _ _ (by norm_num)]
  exact congrArg _ (by unfold cub; norm_num)

theorem th (R : Fin 8192) (k : Fin 512) :
    (val_main_v16 (F := Ideal) x2 (ix2 R k) : EReal) = (((D.rows R).th k : ℝ) : EReal) := by
  pointwise [val_main_cst_4, val_main_v14, val_main_v11, val_main_v5, val_main_v6, val_main_v12, val_main_v13, val_main_v15, val_main_v16]
  simp only [cubic H, H.ys, scale_real, ← EReal.coe_add, ← EReal.coe_mul, Ideal.tanh_coe]
  exact congrArg (fun z : ℝ => ((_root_.Real.tanh z : ℝ) : EReal)) (by ring)

theorem v9 (R : Fin 8192) (k : Fin 512) :
    (val_main_v9 (F := Ideal) x2 (ix2 R k) : EReal) = ((3 * ((D.rows R).ys k * (D.rows R).ys k) : ℝ) : EReal) := by
  pointwise [val_main_cst_3, val_main_v8, val_main_v7, val_main_v9]
  simp only [H.ys, three, one_real, ← EReal.coe_sub, ← EReal.coe_add, ← EReal.coe_mul, ← coe_sum]

theorem v21 (R : Fin 8192) (k : Fin 512) :
    (val_main_v21 (F := Ideal) x2 (ix2 R k) : EReal) = (((1 + (D.rows R).th k) * (1 - (D.rows R).th k) : ℝ) : EReal) := by
  pointwise [val_main_cst_5, val_main_v17, val_main_v18, val_main_cst_6, val_main_v19, val_main_v20, val_main_v21]
  simp only [th H, one_real, ← EReal.coe_sub, ← EReal.coe_add, ← EReal.coe_mul, ← coe_sum]

theorem v25 (R : Fin 8192) (k : Fin 512) :
    (val_main_v25 (F := Ideal) x2 (ix2 R k) : EReal) = ((1 / 2 * (1 + (D.rows R).th k) : ℝ) : EReal) := by
  pointwise [val_main_cst_8, val_main_v24, val_main_cst_7, val_main_v22, val_main_v23, val_main_v25]
  simp only [th H, half, one_real, ← EReal.coe_sub, ← EReal.coe_add, ← EReal.coe_mul, ← coe_sum]

theorem yg (R : Fin 8192) (k : Fin 512) :
    (val_main_v26 (F := Ideal) x2 (ix2 R k) : EReal) = (((D.rows R).yg k : ℝ) : EReal) := by
  pointwise [val_main_v26]
  simp only [v25 H, H.ys, one_real, ← EReal.coe_sub, ← EReal.coe_add, ← EReal.coe_mul, ← coe_sum]
  exact congrArg _ (by unfold Row.yg; ring)

theorem sg (R : Fin 8192) (k : Fin 512) :
    (val_main_v36 (F := Ideal) x2 x9 x11 (ix2 R k) : EReal) = (((D.rows R).sg D.W k : ℝ) : EReal) := by
  pointwise [val_main_cst_10, val_main_v35, val_main_cst_9, val_main_v33, val_main_v27, val_main_v28, val_main_v29, val_main_cst_0, val_main_v1, val_main_v30, val_main_v31, val_main_v32, val_main_v34, val_main_v36]
  simp only [yg H, H.wglu, H.bglu, add_zero, ← EReal.coe_add, ← EReal.coe_mul, ← coe_sum, logistic_neg]
  rfl

theorem v39 (R : Fin 8192) (k : Fin 512) :
    (val_main_v39 (F := Ideal) x2 x9 x11 (ix2 R k) : EReal) = (((D.rows R).sg D.W k * (1 - (D.rows R).sg D.W k) : ℝ) : EReal) := by
  pointwise [val_main_cst_11, val_main_v37, val_main_v38, val_main_v39]
  simp only [sg H, one_real, ← EReal.coe_sub, ← EReal.coe_add, ← EReal.coe_mul, ← coe_sum]

theorem glu (R : Fin 8192) (k : Fin 512) :
    (val_main_v40 (F := Ideal) x2 x9 x11 (ix2 R k) : EReal) = (((D.rows R).glu D.W k : ℝ) : EReal) := by
  pointwise [val_main_v40]
  simp only [yg H, sg H, one_real, ← EReal.coe_sub, ← EReal.coe_add, ← EReal.coe_mul, ← coe_sum]
  rfl

theorem szb (R : Fin 8192) (k : Fin 512) :
    (val_main_v41_2 (F := Ideal) x3 (ix2 R k) : EReal) = ((logistic ((D.rows R).zb k) : ℝ) : EReal) := by
  pointwise [val_main_call1_cst_0, val_main_call1_v4, val_main_call1_cst, val_main_call1_v2, val_main_call1_v0, val_main_call1_v1, val_main_call1_v3, val_main_v41_2]
  rw [H.zb, logistic_neg]

theorem dszb (R : Fin 8192) (k : Fin 512) :
    (val_main_v41_1 (F := Ideal) x3 (ix2 R k) : EReal) = ((logistic ((D.rows R).zb k) * (1 - logistic ((D.rows R).zb k)) : ℝ) : EReal) := by
  pointwise [val_main_call1_cst_1, val_main_call1_v6, val_main_call1_v7, val_main_v41_1]
  simp only [szb H, one_real, ← EReal.coe_sub, ← EReal.coe_add, ← EReal.coe_mul, ← coe_sum]

theorem siluB (R : Fin 8192) (k : Fin 512) :
    (val_main_v41_0 (F := Ideal) x3 (ix2 R k) : EReal) = (((D.rows R).siluB k : ℝ) : EReal) := by
  pointwise [val_main_v41_0]
  simp only [szb H, H.zb, one_real, ← EReal.coe_sub, ← EReal.coe_add, ← EReal.coe_mul, ← coe_sum]
  rfl

theorem yb (R : Fin 8192) (k : Fin 512) :
    (val_main_v42 (F := Ideal) x2 x3 x9 x11 (ix2 R k) : EReal) = (((D.rows R).yb D.W k : ℝ) : EReal) := by
  pointwise [val_main_v42]
  simp only [glu H, siluB H, one_real, ← EReal.coe_sub, ← EReal.coe_add, ← EReal.coe_mul, ← coe_sum]
  rfl

theorem sa (R : Fin 8192) (d : Fin 1024) :
    (val_main_v48 (F := Ideal) x4 (ix2 R d) : EReal) = (((D.rows R).sa d : ℝ) : EReal) := by
  pointwise [val_main_cst_13, val_main_v47, val_main_cst_12, val_main_v45, val_main_v43, val_main_v44, val_main_v46, val_main_v48]
  rw [H.ga, logistic_neg]; rfl

theorem dsa (R : Fin 8192) (d : Fin 1024) :
    (val_main_v51 (F := Ideal) x4 (ix2 R d) : EReal) = (((D.rows R).sa d * (1 - (D.rows R).sa d) : ℝ) : EReal) := by
  pointwise [val_main_cst_14, val_main_v49, val_main_v50, val_main_v51]
  simp only [sa H, one_real, ← EReal.coe_sub, ← EReal.coe_add, ← EReal.coe_mul, ← coe_sum]

theorem ua (R : Fin 8192) (d : Fin 1024) :
    (val_main_v53 (F := Ideal) x0 x1 x12 (ix2 R d) : EReal) = (((D.rows R).ua D.W d : ℝ) : EReal) := by
  pointwise [val_main_v52, val_main_cst, val_main_v0, val_main_v53]
  simp only [ya H, H.wua, add_zero, one_real, ← EReal.coe_sub, ← EReal.coe_add, ← EReal.coe_mul, ← coe_sum]
  rfl

theorem sb (R : Fin 8192) (d : Fin 1024) :
    (val_main_v60 (F := Ideal) x5 (ix2 R d) : EReal) = (((D.rows R).sb d : ℝ) : EReal) := by
  pointwise [val_main_cst_16, val_main_v59, val_main_cst_15, val_main_v57, val_main_v55, val_main_v56, val_main_v58, val_main_v60]
  rw [H.gb, logistic_neg]; rfl

theorem dsb (R : Fin 8192) (d : Fin 1024) :
    (val_main_v63 (F := Ideal) x5 (ix2 R d) : EReal) = (((D.rows R).sb d * (1 - (D.rows R).sb d) : ℝ) : EReal) := by
  pointwise [val_main_cst_17, val_main_v61, val_main_v62, val_main_v63]
  simp only [sb H, one_real, ← EReal.coe_sub, ← EReal.coe_add, ← EReal.coe_mul, ← coe_sum]

theorem ub (R : Fin 8192) (d : Fin 1024) :
    (val_main_v65 (F := Ideal) x2 x3 x9 x11 x13 (ix2 R d) : EReal) = (((D.rows R).ub D.W d : ℝ) : EReal) := by
  pointwise [val_main_v64, val_main_cst, val_main_v0, val_main_v65]
  simp only [yb H, H.wub, add_zero, one_real, ← EReal.coe_sub, ← EReal.coe_add, ← EReal.coe_mul, ← coe_sum]
  rfl

theorem merged (R : Fin 8192) (d : Fin 1024) :
    (val_main_v67 (F := Ideal) x0 x1 x2 x3 x4 x5 x9 x11 x12 x13 (ix2 R d) : EReal) = (((D.rows R).merged D.W d : ℝ) : EReal) := by
  pointwise [val_main_v54, val_main_v66, val_main_v67]
  simp only [sa H, ua H, sb H, ub H, one_real, ← EReal.coe_sub, ← EReal.coe_add, ← EReal.coe_mul, ← coe_sum]
  rfl

theorem mo (R : Fin 8192) (d : Fin 1024) :
    (val_main_v69 (F := Ideal) x0 x1 x2 x3 x4 x5 x9 x11 x12 x13 x14 (ix2 R d) : EReal) = (((D.rows R).mo D.W d : ℝ) : EReal) := by
  pointwise [val_main_v68, val_main_cst, val_main_v0, val_main_v69]
  simp only [merged H, H.wout, add_zero, one_real, ← EReal.coe_sub, ← EReal.coe_add, ← EReal.coe_mul, ← coe_sum]
  rfl

theorem stream (R : Fin 8192) (d : Fin 1024) :
    (val_main_v72 (F := Ideal) x0 x1 x2 x3 x4 x5 x6 x8 x9 x11 x12 x13 x14 (ix2 R d) : EReal) = (((D.rows R).x2 D.W d : ℝ) : EReal) := by
  pointwise [val_main_v70, val_main_v71, val_main_v72]
  simp only [mo H, H.gate, H.x, one_real, ← EReal.coe_sub, ← EReal.coe_add, ← EReal.coe_mul, ← coe_sum]
  rfl

theorem ms (R : Fin 8192) :
    (val_main_v79 (F := Ideal) x0 x1 x2 x3 x4 x5 x6 x8 x9 x11 x12 x13 x14 (ix2 R 0) : EReal) = ((square ((D.rows R).x2 D.W) : ℝ) : EReal) := by
  pointwise [val_main_v73, val_main_cst_18, val_main_v74, val_main_v75, val_main_cst_19, val_main_v76, val_main_v77, val_main_cst_20, val_main_v78, val_main_v79]
  simp only [stream H]
  exact square_real _

theorem inv (R : Fin 8192) :
    (val_main_v80 (F := Ideal) x0 x1 x2 x3 x4 x5 x6 x8 x9 x11 x12 x13 x14 (ix2 R 0) : EReal) = ((root ((D.rows R).x2 D.W) : ℝ) : EReal) := by
  pointwise [val_main_v80]
  rw [ms H, Ideal.rsqrt_coe, if_neg (not_lt.mpr (square_pos _).le), if_neg (square_pos _).ne']
  rfl

theorem v83 (R : Fin 8192) :
    (val_main_v83 (F := Ideal) x0 x1 x2 x3 x4 x5 x6 x8 x9 x11 x12 x13 x14 (ix2 R 0) : EReal) = ((-1 / 2 * (root ((D.rows R).x2 D.W) / square ((D.rows R).x2 D.W)) : ℝ) : EReal) := by
  pointwise [val_main_cst_21, val_main_v82, val_main_v81, val_main_v83]
  rw [inv H, ms H, minus_half, div_real _ _ (square_pos _).ne', ← EReal.coe_mul]

theorem xn (R : Fin 8192) (d : Fin 1024) :
    (val_main_v85 (F := Ideal) x0 x1 x2 x3 x4 x5 x6 x8 x9 x11 x12 x13 x14 (ix2 R d) : EReal) = (((D.rows R).xn D.W d : ℝ) : EReal) := by
  pointwise [val_main_v84, val_main_v85]
  simp only [stream H, inv H, one_real, ← EReal.coe_sub, ← EReal.coe_add, ← EReal.coe_mul, ← coe_sum]
  rfl

theorem diff (R : Fin 8192) (d : Fin 1024) :
    (val_main_v89 (F := Ideal) x0 x1 x2 x3 x4 x5 x6 x7 x8 x9 x10 x11 x12 x13 x14 (ix2 R d) : EReal) = (((D.rows R).diff D.W d : ℝ) : EReal) := by
  pointwise [val_main_v86, val_main_v87, val_main_v88, val_main_v89]
  simp only [xn H, H.gf, H.tgt, one_real, ← EReal.coe_sub, ← EReal.coe_add, ← EReal.coe_mul, ← coe_sum]
  rfl

theorem loss :
    (val_main_v181 (F := Ideal) x0 x1 x2 x3 x4 x5 x6 x7 x8 x9 x10 x11 x12 x13 x14 (ix2 0 0) : EReal) = ((∑ R, (D.rows R).ploss D.W * (1 / 2048) : ℝ) : EReal) := by
  pointwise [val_main_cst_26, val_main_v90, val_main_cst_23, val_main_v93, val_main_cst_24, val_main_v94, val_main_v95, val_main_cst_25, val_main_v96, val_main_v97, val_main_v181]
  simp only [diff H, ← EReal.coe_mul, ← coe_sum, width, div_real _ _ (show (1024 : ℝ) ≠ 0 by norm_num), half]
  refine congrArg _ ?_
  rw [Finset.mul_sum]
  exact Finset.sum_congr rfl fun R _ => by unfold Row.ploss; ring

theorem dy (R : Fin 8192) (d : Fin 1024) :
    (val_main_v103 (F := Ideal) x0 x1 x2 x3 x4 x5 x6 x7 x8 x9 x10 x11 x12 x13 x14 (ix2 R d) : EReal) = (((D.rows R).diff D.W d * (1 / 1024) : ℝ) : EReal) := by
  pointwise [val_main_cst_27, val_main_cst_28, val_main_v98, val_main_v99, val_main_cst_29, val_main_v100, val_main_v101, val_main_v102, val_main_cst_22, val_main_v91, val_main_v92, val_main_v103]
  simp only [diff H, half, one_real, width, two, ← EReal.coe_mul, div_real _ _ (show (1024 : ℝ) ≠ 0 by norm_num)]
  exact congrArg _ (by ring)

theorem dgf (d : Fin 1024) :
    (val_main_v180 (F := Ideal) x0 x1 x2 x3 x4 x5 x6 x7 x8 x9 x10 x11 x12 x13 x14 (ix2 0 d) : EReal) = ((∑ R, (D.rows R).pgf D.W d * (1 / 1024) : ℝ) : EReal) := by
  pointwise [val_main_v104, val_main_cst_30, val_main_v105, val_main_v106, val_main_cst_31, val_main_v109, val_main_v180]
  simp only [Fin.sum_univ_one, xn H, dy H, ← EReal.coe_mul, ← coe_sum]
  exact congrArg _ (Finset.sum_congr rfl fun R _ => by unfold Row.pgf; ring)

theorem dxn (R : Fin 8192) (d : Fin 1024) :
    (val_main_v108 (F := Ideal) x0 x1 x2 x3 x4 x5 x6 x7 x8 x9 x10 x11 x12 x13 x14 (ix2 R d) : EReal) = (((D.rows R).dxn D.W d : ℝ) : EReal) := by
  pointwise [val_main_v86, val_main_v107, val_main_v108]
  simp only [dy H, H.gf, one_real, ← EReal.coe_sub, ← EReal.coe_add, ← EReal.coe_mul, ← coe_sum]
  exact congrArg _ (by unfold Row.dxn; ring)

theorem coef (R : Fin 8192) (d : Fin 1024) :
    (val_main_v119 (F := Ideal) x0 x1 x2 x3 x4 x5 x6 x7 x8 x9 x10 x11 x12 x13 x14 (ix2 R d) : EReal) = (((∑ e, (D.rows R).x2 D.W e * (D.rows R).dxn D.W e) * (-1 / 2 * (root ((D.rows R).x2 D.W) / square ((D.rows R).x2 D.W))) / 1024 : ℝ) : EReal) := by
  pointwise [val_main_v110, val_main_cst_32, val_main_v111, val_main_v112, val_main_v115, val_main_cst_33, val_main_v116, val_main_v117, val_main_cst_34, val_main_v118, val_main_v119]
  simp only [Fin.sum_univ_one, stream H, dxn H, v83 H, width, ← EReal.coe_mul, ← coe_sum, div_real _ _ (show (1024 : ℝ) ≠ 0 by norm_num)]

theorem dx2 (R : Fin 8192) (d : Fin 1024) :
    (val_main_v123 (F := Ideal) x0 x1 x2 x3 x4 x5 x6 x7 x8 x9 x10 x11 x12 x13 x14 (ix2 R d) : EReal) = (((D.rows R).dx2 D.W d : ℝ) : EReal) := by
  pointwise [val_main_v113, val_main_v114, val_main_v120, val_main_v121, val_main_v122, val_main_v123]
  simp only [stream H, dxn H, inv H, coef H, one_real, ← EReal.coe_sub, ← EReal.coe_add, ← EReal.coe_mul, ← coe_sum]
  exact congrArg _ (norm_gradient _ _ d)

theorem dmo (R : Fin 8192) (d : Fin 1024) :
    (val_main_v125 (F := Ideal) x0 x1 x2 x3 x4 x5 x6 x7 x8 x9 x10 x11 x12 x13 x14 (ix2 R d) : EReal) = (((D.rows R).dmo D.W d : ℝ) : EReal) := by
  pointwise [val_main_v124, val_main_v125]
  simp only [dx2 H, H.gate, one_real, ← EReal.coe_sub, ← EReal.coe_add, ← EReal.coe_mul, ← coe_sum]
  exact congrArg _ (by unfold Row.dmo; ring)

theorem dgate (d : Fin 1024) :
    (val_main_v128 (F := Ideal) x0 x1 x2 x3 x4 x5 x6 x7 x8 x9 x10 x11 x12 x13 x14 (ix2 0 d) : EReal) = ((∑ R, (D.rows R).pgate D.W d : ℝ) : EReal) := by
  pointwise [val_main_v126, val_main_cst_35, val_main_v127, val_main_v128]
  simp only [dx2 H, mo H, one_real, ← EReal.coe_sub, ← EReal.coe_add, ← EReal.coe_mul, ← coe_sum]
  rfl

theorem dm (R : Fin 8192) (d : Fin 1024) :
    (val_main_v129 (F := Ideal) x0 x1 x2 x3 x4 x5 x6 x7 x8 x9 x10 x11 x12 x13 x14 (ix2 R d) : EReal) = (((D.rows R).dm D.W d : ℝ) : EReal) := by
  pointwise [val_main_v129]
  simp only [dmo H, H.wout, one_real, ← EReal.coe_sub, ← EReal.coe_add, ← EReal.coe_mul, ← coe_sum]
  rfl

theorem dub (R : Fin 8192) (d : Fin 1024) :
    (val_main_v130 (F := Ideal) x0 x1 x2 x3 x4 x5 x6 x7 x8 x9 x10 x11 x12 x13 x14 (ix2 R d) : EReal) = (((D.rows R).dub D.W d : ℝ) : EReal) := by
  pointwise [val_main_v130]
  simp only [sb H, dm H, one_real, ← EReal.coe_sub, ← EReal.coe_add, ← EReal.coe_mul, ← coe_sum]
  exact congrArg _ (by unfold Row.dub; ring)

theorem dyb (R : Fin 8192) (k : Fin 512) :
    (val_main_v132 (F := Ideal) x0 x1 x2 x3 x4 x5 x6 x7 x8 x9 x10 x11 x12 x13 x14 (ix2 R k) : EReal) = (((D.rows R).dyb D.W k : ℝ) : EReal) := by
  pointwise [val_main_v132]
  simp only [dub H, H.wub, one_real, ← EReal.coe_sub, ← EReal.coe_add, ← EReal.coe_mul, ← coe_sum]
  rfl

theorem dgb (R : Fin 8192) (d : Fin 1024) :
    (val_main_v133 (F := Ideal) x0 x1 x2 x3 x4 x5 x6 x7 x8 x9 x10 x11 x12 x13 x14 (ix2 R d) : EReal) = (((D.rows R).dgb D.W d : ℝ) : EReal) := by
  pointwise [val_main_v131, val_main_v133]
  simp only [dm H, ub H, dsb H, one_real, ← EReal.coe_sub, ← EReal.coe_add, ← EReal.coe_mul, ← coe_sum]
  exact congrArg _ (by unfold Row.dgb Row.dub; ring)

theorem dua (R : Fin 8192) (d : Fin 1024) :
    (val_main_v134 (F := Ideal) x0 x1 x2 x3 x4 x5 x6 x7 x8 x9 x10 x11 x12 x13 x14 (ix2 R d) : EReal) = (((D.rows R).dua D.W d : ℝ) : EReal) := by
  pointwise [val_main_v134]
  simp only [sa H, dm H, one_real, ← EReal.coe_sub, ← EReal.coe_add, ← EReal.coe_mul, ← coe_sum]
  exact congrArg _ (by unfold Row.dua; ring)

theorem dya (R : Fin 8192) (k : Fin 512) :
    (val_main_v136 (F := Ideal) x0 x1 x2 x3 x4 x5 x6 x7 x8 x9 x10 x11 x12 x13 x14 (ix2 R k) : EReal) = (((D.rows R).dya D.W k : ℝ) : EReal) := by
  pointwise [val_main_v136]
  simp only [dua H, H.wua, one_real, ← EReal.coe_sub, ← EReal.coe_add, ← EReal.coe_mul, ← coe_sum]
  rfl

theorem dga (R : Fin 8192) (d : Fin 1024) :
    (val_main_v137 (F := Ideal) x0 x1 x2 x3 x4 x5 x6 x7 x8 x9 x10 x11 x12 x13 x14 (ix2 R d) : EReal) = (((D.rows R).dga D.W d : ℝ) : EReal) := by
  pointwise [val_main_v135, val_main_v137]
  simp only [dm H, ua H, dsa H, one_real, ← EReal.coe_sub, ← EReal.coe_add, ← EReal.coe_mul, ← coe_sum]
  exact congrArg _ (by unfold Row.dga Row.dua; ring)

theorem dglu (R : Fin 8192) (k : Fin 512) :
    (val_main_v139 (F := Ideal) x0 x1 x2 x3 x4 x5 x6 x7 x8 x9 x10 x11 x12 x13 x14 (ix2 R k) : EReal) = (((D.rows R).dglu D.W k : ℝ) : EReal) := by
  pointwise [val_main_v139]
  simp only [dyb H, siluB H, one_real, ← EReal.coe_sub, ← EReal.coe_add, ← EReal.coe_mul, ← coe_sum]
  rfl

theorem dzb (R : Fin 8192) (k : Fin 512) :
    (val_main_v140 (F := Ideal) x0 x1 x2 x3 x4 x5 x6 x7 x8 x9 x10 x11 x12 x13 x14 (ix2 R k) : EReal) = (((D.rows R).dzb D.W k : ℝ) : EReal) := by
  pointwise [val_main_v138, val_main_call2_v1, val_main_call2_v0, val_main_call2_v2, val_main_v140]
  simp only [glu H, dyb H, szb H, dszb H, H.zb, one_real, ← EReal.coe_sub, ← EReal.coe_add, ← EReal.coe_mul, ← coe_sum]
  exact congrArg _ (by unfold Row.dzb Row.siluB; ring)

theorem dgl (R : Fin 8192) (k : Fin 512) :
    (val_main_v143 (F := Ideal) x0 x1 x2 x3 x4 x5 x6 x7 x8 x9 x10 x11 x12 x13 x14 (ix2 R k) : EReal) = (((D.rows R).dgl D.W k : ℝ) : EReal) := by
  pointwise [val_main_v141, val_main_v143]
  simp only [yg H, dglu H, v39 H, one_real, ← EReal.coe_sub, ← EReal.coe_add, ← EReal.coe_mul, ← coe_sum]
  exact congrArg _ (by unfold Row.dgl; ring)

theorem dbglu (k : Fin 512) :
    (val_main_v145 (F := Ideal) x0 x1 x2 x3 x4 x5 x6 x7 x8 x9 x10 x11 x12 x13 x14 (ix2 0 k) : EReal) = ((∑ R, (D.rows R).dgl D.W k : ℝ) : EReal) := by
  pointwise [val_main_cst_36, val_main_v144, val_main_v145]
  simp only [dgl H, one_real, ← EReal.coe_sub, ← EReal.coe_add, ← EReal.coe_mul, ← coe_sum]

theorem dyg (R : Fin 8192) (k : Fin 512) :
    (val_main_v147 (F := Ideal) x0 x1 x2 x3 x4 x5 x6 x7 x8 x9 x10 x11 x12 x13 x14 (ix2 R k) : EReal) = (((D.rows R).dglu D.W k * (D.rows R).sg D.W k + ∑ j, (D.rows R).dgl D.W j * D.W.wglu k j : ℝ) : EReal) := by
  pointwise [val_main_v142, val_main_v146, val_main_v147]
  simp only [dglu H, sg H, dgl H, H.wglu, one_real, ← EReal.coe_sub, ← EReal.coe_add, ← EReal.coe_mul, ← coe_sum]

theorem dys (R : Fin 8192) (k : Fin 512) :
    (val_main_v159 (F := Ideal) x0 x1 x2 x3 x4 x5 x6 x7 x8 x9 x10 x11 x12 x13 x14 (ix2 R k) : EReal) = (((D.rows R).dys D.W k : ℝ) : EReal) := by
  pointwise [val_main_v149, val_main_cst_38, val_main_v153, val_main_cst_37, val_main_v150, val_main_v148, val_main_v151, val_main_v152, val_main_v154, val_main_v155, val_main_v156, val_main_v157, val_main_v158, val_main_v159]
  simp only [dyg H, cubic H, v25 H, v21 H, v9 H, H.ys, half, scale_real, one_real, ← EReal.coe_sub, ← EReal.coe_add, ← EReal.coe_mul, ← coe_sum]
  exact congrArg _ (by unfold Row.dys; ring)

theorem do_ (R : Fin 8192) (k : Fin 512) :
    (val_main_v161 (F := Ideal) x0 x1 x2 x3 x4 x5 x6 x7 x8 x9 x10 x11 x12 x13 x14 (ix2 R k) : EReal) = (((D.rows R).do_ D.W k : ℝ) : EReal) := by
  pointwise [val_main_v161]
  simp only [dya H, siluA H, one_real, ← EReal.coe_sub, ← EReal.coe_add, ← EReal.coe_mul, ← coe_sum]
  rfl

theorem dza (R : Fin 8192) (k : Fin 512) :
    (val_main_v162 (F := Ideal) x0 x1 x2 x3 x4 x5 x6 x7 x8 x9 x10 x11 x12 x13 x14 (ix2 R k) : EReal) = (((D.rows R).dza D.W k : ℝ) : EReal) := by
  pointwise [val_main_v160, val_main_call3_v1, val_main_call3_v0, val_main_call3_v2, val_main_v162]
  simp only [H.o, dya H, sza H, dsza H, H.za, one_real, ← EReal.coe_sub, ← EReal.coe_add, ← EReal.coe_mul, ← coe_sum]
  exact congrArg _ (by unfold Row.dza Row.siluA; ring)

theorem dl (h : Fin 8) (R : Fin 8192) :
    (val_main_v166 (F := Ideal) x0 x1 x2 x3 x4 x5 x6 x7 x8 x9 x10 x11 x12 x13 x14 (ix2 h R) : EReal) = (((D.rows R).dl D.W h : ℝ) : EReal) := by
  pointwise [val_main_v163, val_main_v164, val_main_cst_39, val_main_v165, val_main_v166]
  simp only [do_ H, H.o, one_real, ← EReal.coe_sub, ← EReal.coe_add, ← EReal.coe_mul, ← coe_sum]
  refine congrArg _ (Finset.sum_congr rfl fun j _ => ?_)
  rw [show (⟨h.val * 64 + j.val, by omega⟩ : Fin 512) = Row.col h j from Fin.ext (by show h.val * 64 + j.val = 64 * h.val + j.val; omega)]

end Stages

end Cert.MixProof.Reference

end
-- ==== Proof.MixClaim.lean ====
/- The mixing call: from finite arguments its twenty results are the forward lines' values and the derivatives of the
   forward lines. -/
module

public import proofs.«01_k».proof.Proof.MixArray
public import proofs.«01_k».proof.Proof.MixReference
public import proofs.«01_k».proof.Proof.AttnClaim
public import Idealize.ShloMosaic.Lib.Claim

@[expose] public section

set_option maxRecDepth 16384

noncomputable section

namespace Cert.MixProof.Claim

open Idealize.ShloMosaic Idealize.ShloMosaic.TcCoe Idealize.SL.Sem
open Cert.MixProof.Host (Data Holds)
open Cert.MixRefIdeal.Read
open Cert.AttnProof.Claim (and_one real_of_all)

/-- The side conditions of the precondition. -/
theorem finite_facts : Cert.Pre_finite_mix.Facts where
  bcast_S_S8192x512 := by decide
  reducesTo_S8192x512_S_d0_1 := by decide
  h_S_ := by decide
  bcast_S_S8192x1024 := by decide
  reducesTo_S8192x1024_S_d0_1 := by decide
  bcast_S_S1x1024 := by decide
  reducesTo_S1x1024_S_d0_1 := by decide
  bcast_S_S1x512 := by decide
  reducesTo_S1x512_S_d0_1 := by decide
  bcast_S_S1024 := by decide
  reducesTo_S1024_S_d0 := by decide
  bcast_S_S512x512 := by decide
  reducesTo_S512x512_S_d0_1 := by decide
  bcast_S_S512x1024 := by decide
  reducesTo_S512x1024_S_d0_1 := by decide
  bcast_S_S1024x1024 := by decide
  reducesTo_S1024x1024_S_d0_1 := by decide

variable {m : (ℓ : Loc Cert.MixIdeal.nD Cert.MixIdeal.τ Cert.MixIdeal.sig) → Buf (Elt Ideal) ℓ}

set_option maxHeartbeats 2000000 in
/-- From finite arguments, the real numbers the arguments hold. -/
theorem data (hpre : Cert.Pre_MixIdeal_finite_mix (hPre_finite_mix := finite_facts) m) (c : Dev Cert.MixIdeal.nD) :
    ∃ D : Data, Holds m c D := by
  have h := congrFun (hpre c) (fun i => i.elim0)
  dsimp only [Cert.Pre_finite_mix.fn, Cert.Pre_finite_mix.fn_part1, Cert.Pre_finite_mix.fn_part2, Cert.Pre_finite_mix.fn_part3,
    Cert.Pre_finite_mix.fn_part4] at h
  obtain ⟨h, h14⟩ := and_one h
  obtain ⟨h, h13⟩ := and_one h
  obtain ⟨h, h12⟩ := and_one h
  obtain ⟨h, h11⟩ := and_one h
  obtain ⟨h, h10⟩ := and_one h
  obtain ⟨h, h9⟩ := and_one h
  obtain ⟨h, h8⟩ := and_one h
  obtain ⟨h, h7⟩ := and_one h
  obtain ⟨h, h6⟩ := and_one h
  obtain ⟨h, h5⟩ := and_one h
  obtain ⟨h, h4⟩ := and_one h
  obtain ⟨h, h3⟩ := and_one h
  obtain ⟨h, h2⟩ := and_one h
  obtain ⟨h0, h1⟩ := and_one h
  choose f0 e0 using real_of_all (Host.argO m c) _ _ _ _ h0
  choose f1 e1 using real_of_all (Host.argZa m c) _ _ _ _ h1
  choose f2 e2 using real_of_all (Host.argYs m c) _ _ _ _ h2
  choose f3 e3 using real_of_all (Host.argZb m c) _ _ _ _ h3
  choose f4 e4 using real_of_all (Host.argGa m c) _ _ _ _ h4
  choose f5 e5 using real_of_all (Host.argGb m c) _ _ _ _ h5
  choose f6 e6 using real_of_all (Host.argX m c) _ _ _ _ h6
  choose f7 e7 using real_of_all (Host.argT m c) _ _ _ _ h7
  choose f8 e8 using real_of_all (Host.argGate m c) _ _ _ _ h8
  choose f9 e9 using real_of_all (Host.argB m c) _ _ _ _ h9
  choose f10 e10 using real_of_all (Host.argGf m c) _ _ _ _ h10
  choose f11 e11 using real_of_all (Host.argWg m c) _ _ _ _ h11
  choose f12 e12 using real_of_all (Host.argWa m c) _ _ _ _ h12
  choose f13 e13 using real_of_all (Host.argWb m c) _ _ _ _ h13
  choose f14 e14 using real_of_all (Host.argWo m c) _ _ _ _ h14
  exact ⟨⟨fun R => ⟨fun k => f0 (ix2 R k), fun k => f1 (ix2 R k), fun k => f2 (ix2 R k), fun k => f3 (ix2 R k), fun k => f4 (ix2 R k), fun k => f5 (ix2 R k), fun k => f6 (ix2 R k), fun k => f7 (ix2 R k)⟩,
      ⟨fun k => f8 (ix2 0 k), fun k => f9 (ix2 0 k), fun k => f10 (ix1 k), fun j k => f11 (ix2 j k), fun j k => f12 (ix2 j k),
        fun j k => f13 (ix2 j k), fun j k => f14 (ix2 j k)⟩⟩,
    ⟨fun _ _ => e0 _, fun _ _ => e1 _, fun _ _ => e2 _, fun _ _ => e3 _, fun _ _ => e4 _, fun _ _ => e5 _, fun _ _ => e6 _, fun _ _ => e7 _,
      fun _ => e8 _, fun _ => e9 _, fun _ => e10 _, fun _ _ => e11 _, fun _ _ => e12 _, fun _ _ => e13 _, fun _ _ => e14 _⟩⟩

/-- The reference runs and leaves its arguments unchanged. -/
theorem frame_reference : Cert.quiescent_MixRefIdeal := fun m ρ _ =>
  (θ_run Cert.MixRefIdeal.defs _ _).mono (fun r h => ⟨fun c => (h c).2.2.2.2.2.2.2.2.2.2.2.2.2.2.2.2.2.2.2.2,
      Idealize.ShloMosaic.sem_eq_zero_of_no_sems (by decide) r.2⟩)
    (Cert.MixRefIdeal.Value.run (F := Ideal) m ρ)

/-- The same real numbers in the reference's arguments. -/
abbrev Agree (m' : (ℓ : Loc Cert.MixRefIdeal.nD Cert.MixRefIdeal.τ Cert.MixRefIdeal.sig) → Buf (Elt Ideal) ℓ) (c : Dev Cert.MixRefIdeal.nD)
    (D : Data) : Prop :=
  Reference.Reads (m' ((c.tc : Thread Cert.MixRefIdeal.nD Cert.MixRefIdeal.τ).loc Cert.MixRefIdeal.main_arg0))
    (m' ((c.tc : Thread Cert.MixRefIdeal.nD Cert.MixRefIdeal.τ).loc Cert.MixRefIdeal.main_arg1))
    (m' ((c.tc : Thread Cert.MixRefIdeal.nD Cert.MixRefIdeal.τ).loc Cert.MixRefIdeal.main_arg2))
    (m' ((c.tc : Thread Cert.MixRefIdeal.nD Cert.MixRefIdeal.τ).loc Cert.MixRefIdeal.main_arg3))
    (m' ((c.tc : Thread Cert.MixRefIdeal.nD Cert.MixRefIdeal.τ).loc Cert.MixRefIdeal.main_arg4))
    (m' ((c.tc : Thread Cert.MixRefIdeal.nD Cert.MixRefIdeal.τ).loc Cert.MixRefIdeal.main_arg5))
    (m' ((c.tc : Thread Cert.MixRefIdeal.nD Cert.MixRefIdeal.τ).loc Cert.MixRefIdeal.main_arg6))
    (m' ((c.tc : Thread Cert.MixRefIdeal.nD Cert.MixRefIdeal.τ).loc Cert.MixRefIdeal.main_arg7))
    (m' ((c.tc : Thread Cert.MixRefIdeal.nD Cert.MixRefIdeal.τ).loc Cert.MixRefIdeal.main_arg8))
    (m' ((c.tc : Thread Cert.MixRefIdeal.nD Cert.MixRefIdeal.τ).loc Cert.MixRefIdeal.main_arg9))
    (m' ((c.tc : Thread Cert.MixRefIdeal.nD Cert.MixRefIdeal.τ).loc Cert.MixRefIdeal.main_arg10))
    (m' ((c.tc : Thread Cert.MixRefIdeal.nD Cert.MixRefIdeal.τ).loc Cert.MixRefIdeal.main_arg11))
    (m' ((c.tc : Thread Cert.MixRefIdeal.nD Cert.MixRefIdeal.τ).loc Cert.MixRefIdeal.main_arg12))
    (m' ((c.tc : Thread Cert.MixRefIdeal.nD Cert.MixRefIdeal.τ).loc Cert.MixRefIdeal.main_arg13))
    (m' ((c.tc : Thread Cert.MixRefIdeal.nD Cert.MixRefIdeal.τ).loc Cert.MixRefIdeal.main_arg14)) D

set_option maxHeartbeats 4000000 in
theorem algebraic : Cert.algebraic_MixIdeal_MixRefIdeal_pre_finite_mix (hPre_finite_mix := finite_facts) := by
  intro m ρ m' ρ' hpre hagree
  choose D H using fun c => data hpre c
  refine ⟨fun c y => ((((D c).rows (y 0)).dx2 (D c).W (y 1) : ℝ) : EReal),
    fun c y => ((((D c).rows (y 0)).do_ (D c).W (y 1) : ℝ) : EReal),
    fun c y => ((((D c).rows (y 0)).dza (D c).W (y 1) : ℝ) : EReal),
    fun c y => ((((D c).rows (y 0)).dzb (D c).W (y 1) : ℝ) : EReal),
    fun c y => ((((D c).rows (y 0)).dga (D c).W (y 1) : ℝ) : EReal),
    fun c y => ((((D c).rows (y 0)).dgb (D c).W (y 1) : ℝ) : EReal),
    fun c y => ((((D c).rows (y 0)).dys (D c).W (y 1) : ℝ) : EReal),
    fun c y => ((((D c).rows (y 1)).dl (D c).W (y 0) : ℝ) : EReal),
    fun c y => ((((D c).rows (y 0)).merged (D c).W (y 1) : ℝ) : EReal),
    fun c y => ((((D c).rows (y 0)).dmo (D c).W (y 1) : ℝ) : EReal),
    fun c y => ((((D c).rows (y 0)).ya (y 1) : ℝ) : EReal),
    fun c y => ((((D c).rows (y 0)).dua (D c).W (y 1) : ℝ) : EReal),
    fun c y => ((((D c).rows (y 0)).yb (D c).W (y 1) : ℝ) : EReal),
    fun c y => ((((D c).rows (y 0)).dub (D c).W (y 1) : ℝ) : EReal),
    fun c y => ((((D c).rows (y 0)).yg (y 1) : ℝ) : EReal),
    fun c y => ((((D c).rows (y 0)).dgl (D c).W (y 1) : ℝ) : EReal),
    fun c y => ((∑ R, ((D c).rows R).dgl (D c).W (y 1) : ℝ) : EReal),
    fun c y => ((∑ R, ((D c).rows R).pgate (D c).W (y 1) : ℝ) : EReal),
    fun c y => ((∑ R, ((D c).rows R).pgf (D c).W (y 1) * (1 / 1024) : ℝ) : EReal),
    fun c _ => ((∑ R, ((D c).rows R).ploss (D c).W * (1 / 2048) : ℝ) : EReal), ?_, ?_⟩
  · refine (θ_run Cert.MixIdeal.defs _ _).mono (fun _ h c => ?_)
      (θ_run_and (Cert.MixProof.run_main (F := Ideal) m ρ) (Cert.MixProof.frame (F := Ideal) m ρ))
    have w := (h.1 c).1
    exact ⟨(w 16).trans (Array.final16 (H c)),
      (w 17).trans (Array.final17 (H c)),
      (w 18).trans (Array.final18 (H c)),
      (w 19).trans (Array.final19 (H c)),
      (w 20).trans (Array.final20 (H c)),
      (w 21).trans (Array.final21 (H c)),
      (w 22).trans (Array.final22 (H c)),
      (w 23).trans (Array.final23 (H c)),
      (w 24).trans (Array.final24 (H c)),
      (w 25).trans (Array.final25 (H c)),
      (w 26).trans (Array.final26 (H c)),
      (w 27).trans (Array.final27 (H c)),
      (w 28).trans (Array.final28 (H c)),
      (w 29).trans (Array.final29 (H c)),
      (w 30).trans (Array.final30 (H c)),
      (w 31).trans (Array.final31 (H c)),
      (w 32).trans (Array.final32 (H c)),
      (w 33).trans (Array.final33 (H c)),
      (w 34).trans (Array.final34 (H c)),
      (w 35).trans (Array.final35 (H c)), h.2.1 c⟩
  · refine (θ_run Cert.MixRefIdeal.defs _ _).mono (fun _ h c => ?_) (Cert.MixRefIdeal.Value.run (F := Ideal) m' ρ')
    have G : Agree m' c (D c) := by
      obtain ⟨a0, a1, a2, a3, a4, a5, a6, a7, a8, a9, a10, a11, a12, a13, a14⟩ := hagree c
      exact ⟨fun R k => (congrFun a0 _).trans ((H c).o R k),
        fun R k => (congrFun a1 _).trans ((H c).za R k),
        fun R k => (congrFun a2 _).trans ((H c).ys R k),
        fun R k => (congrFun a3 _).trans ((H c).zb R k),
        fun R k => (congrFun a4 _).trans ((H c).ga R k),
        fun R k => (congrFun a5 _).trans ((H c).gb R k),
        fun R k => (congrFun a6 _).trans ((H c).x R k),
        fun R k => (congrFun a7 _).trans ((H c).tgt R k),
        fun k => (congrFun a8 _).trans ((H c).gate k),
        fun k => (congrFun a9 _).trans ((H c).bglu k),
        fun k => (congrFun a10 _).trans ((H c).gf k),
        fun R k => (congrFun a11 _).trans ((H c).wglu R k),
        fun R k => (congrFun a12 _).trans ((H c).wua R k),
        fun R k => (congrFun a13 _).trans ((H c).wub R k),
        fun R k => (congrFun a14 _).trans ((H c).wout R k)⟩
    obtain ⟨r0, r1, r2, r3, r4, r5, r6, r7, r8, r9, r10, r11, r12, r13, r14, r15, r16, r17, r18, r19, args⟩ := h c
    refine ⟨r0.trans ((val_main_v123_eq _).trans (funext fun y => ?_)), r1.trans ((val_main_v167_eq _).trans (funext fun y => ?_)), r2.trans ((val_main_v168_eq _).trans (funext fun y => ?_)), r3.trans ((val_main_v169_eq _).trans (funext fun y => ?_)), r4.trans ((val_main_v170_eq _).trans (funext fun y => ?_)), r5.trans ((val_main_v171_eq _).trans (funext fun y => ?_)), r6.trans ((val_main_v159_eq _).trans (funext fun y => ?_)), r7.trans ((val_main_v166_eq _).trans (funext fun y => ?_)), r8.trans ((val_main_v172_eq _).trans (funext fun y => ?_)), r9.trans ((val_main_v173_eq _).trans (funext fun y => ?_)), r10.trans ((val_main_v174_eq _).trans (funext fun y => ?_)), r11.trans ((val_main_v175_eq _).trans (funext fun y => ?_)), r12.trans ((val_main_v176_eq _).trans (funext fun y => ?_)), r13.trans ((val_main_v177_eq _).trans (funext fun y => ?_)), r14.trans ((val_main_v178_eq _).trans (funext fun y => ?_)), r15.trans ((val_main_v179_eq _).trans (funext fun y => ?_)), r16.trans ((val_main_v145_eq _).trans (funext fun y => ?_)), r17.trans ((val_main_v128_eq _).trans (funext fun y => ?_)), r18.trans ((val_main_v180_eq _).trans (funext fun y => ?_)), r19.trans ((val_main_v181_eq _).trans (funext fun y => ?_)), args⟩
    · exact (congrArg _ (eq_ix2 y)).trans (Reference.dx2 G (y 0) (y 1))
    · exact (congrArg _ (eq_ix2 y)).trans (Reference.do_ G (y 0) (y 1))
    · exact (congrArg _ (eq_ix2 y)).trans (Reference.dza G (y 0) (y 1))
    · exact (congrArg _ (eq_ix2 y)).trans (Reference.dzb G (y 0) (y 1))
    · exact (congrArg _ (eq_ix2 y)).trans (Reference.dga G (y 0) (y 1))
    · exact (congrArg _ (eq_ix2 y)).trans (Reference.dgb G (y 0) (y 1))
    · exact (congrArg _ (eq_ix2 y)).trans (Reference.dys G (y 0) (y 1))
    · exact (congrArg _ (eq_ix2 y)).trans (Reference.dl G (y 0) (y 1))
    · exact (congrArg _ (eq_ix2 y)).trans (Reference.merged G (y 0) (y 1))
    · exact (congrArg _ (eq_ix2 y)).trans (Reference.dmo G (y 0) (y 1))
    · exact (congrArg _ (eq_ix2 y)).trans (Reference.ya G (y 0) (y 1))
    · exact (congrArg _ (eq_ix2 y)).trans (Reference.dua G (y 0) (y 1))
    · exact (congrArg _ (eq_ix2 y)).trans (Reference.yb G (y 0) (y 1))
    · exact (congrArg _ (eq_ix2 y)).trans (Reference.dub G (y 0) (y 1))
    · exact (congrArg _ (eq_ix2 y)).trans (Reference.yg G (y 0) (y 1))
    · exact (congrArg _ (eq_ix2 y)).trans (Reference.dgl G (y 0) (y 1))
    · obtain ⟨z, d, rfl⟩ : ∃ z d, y = ix2 z d := ⟨_, _, eq_ix2 y⟩
      obtain rfl : z = 0 := Subsingleton.elim _ _
      exact Reference.dbglu G d
    · obtain ⟨z, d, rfl⟩ : ∃ z d, y = ix2 z d := ⟨_, _, eq_ix2 y⟩
      obtain rfl : z = 0 := Subsingleton.elim _ _
      exact Reference.dgate G d
    · obtain ⟨z, d, rfl⟩ : ∃ z d, y = ix2 z d := ⟨_, _, eq_ix2 y⟩
      obtain rfl : z = 0 := Subsingleton.elim _ _
      exact Reference.dgf G d
    · obtain ⟨z, d, rfl⟩ : ∃ z d, y = ix2 z d := ⟨_, _, eq_ix2 y⟩
      obtain rfl : z = 0 := Subsingleton.elim _ _
      obtain rfl : d = 0 := Subsingleton.elim _ _
      exact Reference.loss G

end Cert.MixProof.Claim

end
-- ==== Proof.AfwdRow.lean ====
/- The running softmax of one query over the real numbers: the largest score so far, the sum of the exponentials
   relative to it and the weighted sums of the values, and what a further block of keys makes of them. -/
module

public import proofs.«01_k».proof.Proof.AttnCast

@[expose] public section

noncomputable section

namespace Cert.AfwdProof.Row

open Idealize.ShloMosaic Cert.AttnProof.Cast

/-- The weight of key `j` relative to `μ`, for the query `R`; `s` are the query's scores. -/
def w (s : ℕ → ℝ) (R : ℕ) (μ : ℝ) (j : ℕ) : ℝ := if j ≤ R then Real.exp (s j - μ) else 0

/-- What is held of a query after its first `n` keys: nothing yet, or a real number `μ` and the sums relative to it. -/
def Row {ι : Type} (s : ℕ → ℝ) (v : ι → ℕ → ℝ) (R n : ℕ) (m l : EReal) (a : ι → EReal) : Prop :=
  (n = 0 ∧ m = ⊥ ∧ l = 0 ∧ ∀ d, a d = 0) ∨
    ∃ μ : ℝ, m = (μ : EReal) ∧ l = ((∑ j ∈ Finset.range n, w s R μ j : ℝ) : EReal)
      ∧ ∀ d, a d = ((∑ j ∈ Finset.range n, v d j * w s R μ j : ℝ) : EReal)

theorem w_shift (s : ℕ → ℝ) (R : ℕ) (μ μ' : ℝ) (j : ℕ) : Real.exp (μ - μ') * w s R μ j = w s R μ' j := by
  unfold w
  split
  · rw [← Real.exp_add]
    congr 1
    ring
  · rw [mul_zero]

theorem w_nonneg (s : ℕ → ℝ) (R : ℕ) (μ : ℝ) (j : ℕ) : 0 ≤ w s R μ j := by
  unfold w
  split
  · exact (Real.exp_pos _).le
  · exact le_rfl

variable {ι : Type} {s : ℕ → ℝ} {v : ι → ℕ → ℝ} {R n : ℕ} {m l : EReal} {a : ι → EReal}

/-- The largest score after a further block is a real number, where the block's first key counts. -/
theorem max_real (H : Row s v R n m l a) {N : ℕ} (hN : 0 < N) (hn : n ≤ R) (x : Fin N → EReal)
    (hx : ∀ j, x j = if n + j.val ≤ R then (s (n + j.val) : EReal) else ⊥) :
    ∃ μ : ℝ, max m ((Finset.univ : Finset (Fin N)).fold max ⊥ x) = (μ : EReal) := by
  have hm : m ≠ ⊤ := by
    rcases H with ⟨_, h, _⟩ | ⟨μ, h, _⟩ <;> rw [h]
    · exact bot_ne_top
    · exact EReal.coe_ne_top _
  have htop : (Finset.univ : Finset (Fin N)).fold max ⊥ x ≠ ⊤ := by
    refine ((Finset.fold_max_lt (⊤ : EReal)).mpr ⟨bot_lt_top, fun y _ => lt_top_iff_ne_top.mpr ?_⟩).ne
    rw [hx]
    split
    · exact EReal.coe_ne_top _
    · exact bot_ne_top
  have hbot : (Finset.univ : Finset (Fin N)).fold max ⊥ x ≠ ⊥ := by
    refine ((Finset.lt_fold_max (⊥ : EReal)).mpr (Or.inr ⟨⟨0, hN⟩, Finset.mem_univ _, ?_⟩)).ne'
    rw [hx, if_pos (by simpa using hn)]
    exact EReal.bot_lt_coe _
  refine ⟨_, (EReal.coe_toReal ?_ ?_).symm⟩
  · exact (max_lt (lt_top_iff_ne_top.mpr hm) (lt_top_iff_ne_top.mpr htop)).ne
  · exact (lt_max_of_lt_right (bot_lt_iff_ne_bot.mpr hbot)).ne'

/-- What was held, brought to the new largest score. -/
theorem rescale (H : Row s v R n m l a) (μ' : ℝ) :
    Ideal.exp (m - (μ' : EReal)) * l = ((∑ j ∈ Finset.range n, w s R μ' j : ℝ) : EReal)
      ∧ ∀ d, Ideal.exp (m - (μ' : EReal)) * a d = ((∑ j ∈ Finset.range n, v d j * w s R μ' j : ℝ) : EReal) := by
  rcases H with ⟨hn, hm, hl, ha⟩ | ⟨μ, hm, hl, ha⟩
  · subst hn
    refine ⟨?_, fun d => ?_⟩
    · rw [hl, mul_zero]; simp
    · rw [ha, mul_zero]; simp
  · rw [hm, ← EReal.coe_sub, Ideal.exp_coe]
    refine ⟨?_, fun d => ?_⟩
    · rw [hl, ← EReal.coe_mul, Finset.mul_sum]
      simp only [w_shift]
    · rw [ha, ← EReal.coe_mul, Finset.mul_sum]
      refine congrArg _ (Finset.sum_congr rfl fun j _ => ?_)
      rw [← w_shift s R μ μ' j]
      ring

theorem expo_score (μ : ℝ) (j : ℕ) (x : EReal) (hx : x = if j ≤ R then (s j : EReal) else ⊥) :
    Ideal.exp (x - (μ : EReal)) = (w s R μ j : EReal) := by
  rw [hx]
  unfold w
  split
  · rw [← EReal.coe_sub, Ideal.exp_coe]
  · rw [EReal.bot_sub, Ideal.exp_bot, EReal.coe_zero]

theorem sum_block (f : ℕ → ℝ) (n N : ℕ) :
    ((∑ j ∈ Finset.range n, f j : ℝ) : EReal) + ∑ j : Fin N, (f (n + j.val) : EReal) = ((∑ j ∈ Finset.range (n + N), f j : ℝ) : EReal) := by
  rw [← coe_sum, ← EReal.coe_add, Finset.sum_range_add, Fin.sum_univ_eq_sum_range (fun j => f (n + j)) N]

/-- The step: a block of `N` keys, its scores `x` masked, and the block's own weighted values. -/
theorem step (H : Row s v R n m l a) {N : ℕ} (hN : 0 < N) (hn : n ≤ R) (x : Fin N → EReal)
    (hx : ∀ j, x j = if n + j.val ≤ R then (s (n + j.val) : EReal) else ⊥) (m' l' : EReal) (a' : ι → EReal)
    (hm : m' = max m ((Finset.univ : Finset (Fin N)).fold max ⊥ x))
    (hl : l' = Ideal.exp (m - m') * l + ∑ j, Ideal.exp (x j - m'))
    (ha : ∀ d, a' d = Ideal.exp (m - m') * a d + ∑ j : Fin N, (v d (n + j.val) : EReal) * Ideal.exp (x j - m')) :
    Row s v R (n + N) m' l' a' := by
  obtain ⟨μ, hμ⟩ := max_real H hN hn x hx
  rw [hμ] at hm
  subst hm
  obtain ⟨h1, h2⟩ := rescale H μ
  have e : ∀ j : Fin N, Ideal.exp (x j - (μ : EReal)) = (w s R μ (n + j.val) : EReal) := fun j => expo_score μ _ _ (hx j)
  refine Or.inr ⟨μ, rfl, ?_, fun d => ?_⟩
  · rw [hl, h1]
    simp only [e]
    exact sum_block (fun j => w s R μ j) n N
  · rw [ha, h2]
    simp only [e, ← EReal.coe_mul]
    exact sum_block (fun j => v d j * w s R μ j) n N

end Cert.AfwdProof.Row
end
-- ==== Proof.AfwdStep.lean ====
/- One step of the attention forward kernel (one or two blocks of keys against a block of queries), entry by entry, and
   what it makes of the running softmax of a query. -/
module

public import proofs.«01_k».proof.Proof.AfwdRow
public import proofs.«01_k».proof.Proof.Gen.AfwdIdeal.Value
public import Idealize.ShloMosaic.Lib.Pointwise
public import Idealize.ShloMosaic.Lib.ValueIdx
public import Idealize.ShloMosaic.Lib.WordArith
public import Idealize.ShloMosaic.PureOps.Ideal.Laws

@[expose] public section

set_option maxRecDepth 16384

noncomputable section

namespace Cert.AfwdProof.Step

open Cert.AfwdIdeal Cert.AfwdIdeal.Gen Idealize.ShloMosaic Idealize.ShloMosaic.TcCoe
open Cert.AfwdProof.Row Cert.AttnProof.Cast

variable {F : FTy → Type} [FloatOps F]

/-! ## The step as a function of its block of scores: rows the keys, columns the queries -/

def max2 (x : FVec F S1024x512 .f32) (m : FVec F S1x512 .f32) : FVec F S1x512 .f32 :=
  maximumf m (shapeCast S1x512 (multiReduction .maximumf [0] S512 x 0xFF800000#32 reduces_S1024x512_S512 (.inl rfl) rfl) shapeCasts_S512_S1x512)

def exp2 (x : FVec F S1024x512 .f32) (m : FVec F S1x512 .f32) : FVec F S1024x512 .f32 :=
  exp (subf x (broadcastTo S1024x512 (max2 x m) broadcasts_S1x512_S1024x512))

def old2 (x : FVec F S1024x512 .f32) (m : FVec F S1x512 .f32) : FVec F S1x512 .f32 := exp (subf m (max2 x m))

def sum2 (x : FVec F S1024x512 .f32) (m l : FVec F S1x512 .f32) : FVec F S1x512 .f32 :=
  addf (mulf (old2 x m) l) (shapeCast S1x512 (multiReduction .add [0] S512 (exp2 x m) 0x00000000#32 reduces_S1024x512_S512 (.inl rfl) rfl) shapeCasts_S512_S1x512)

def acc2 (x : FVec F S1024x512 .f32) (m : FVec F S1x512 .f32) (A B : Vec F S1x1x128x512 .bf16) (a : Vec F S1x128x512 .f32) : FVec F S1x128x512 .f32 :=
  k0_pay12 (old2 x m) (exp2 x m) A B a

def max1 (x : FVec F S512x512 .f32) (m : FVec F S1x512 .f32) : FVec F S1x512 .f32 :=
  maximumf m (shapeCast S1x512 (multiReduction .maximumf [0] S512 x 0xFF800000#32 reduces_S512x512_S512 (.inl rfl) rfl) shapeCasts_S512_S1x512)

def exp1 (x : FVec F S512x512 .f32) (m : FVec F S1x512 .f32) : FVec F S512x512 .f32 :=
  exp (subf x (broadcastTo S512x512 (max1 x m) broadcasts_S1x512_S512x512))

def old1 (x : FVec F S512x512 .f32) (m : FVec F S1x512 .f32) : FVec F S1x512 .f32 := exp (subf m (max1 x m))

def sum1 (x : FVec F S512x512 .f32) (m l : FVec F S1x512 .f32) : FVec F S1x512 .f32 :=
  addf (mulf (old1 x m) l) (shapeCast S1x512 (multiReduction .add [0] S512 (exp1 x m) 0x00000000#32 reduces_S512x512_S512 (.inl rfl) rfl) shapeCasts_S512_S1x512)

def acc1 (x : FVec F S512x512 .f32) (m : FVec F S1x512 .f32) (A : Vec F S1x1x128x512 .bf16) (a : Vec F S1x128x512 .f32) : FVec F S1x128x512 .f32 :=
  k0_pay65 (old1 x m) (exp1 x m) A a

/-! ## Entry by entry -/

theorem top_word : (FloatOps.ofBits FTy.f32 0xFF800000#32 : Ideal .f32) = (⊥ : EReal) := lower

section
variable (x : FVec Ideal S1024x512 .f32) (m l : FVec Ideal S1x512 .f32) (A B : Vec Ideal S1x1x128x512 .bf16) (a : Vec Ideal S1x128x512 .f32) (q : Fin 512)

theorem max2_apply : max2 x m (ix2 0 q) = max (m (ix2 0 q) : EReal) ((Finset.univ : Finset (Fin 1024)).fold max ⊥ fun j => (x (ix2 j q) : EReal)) := by
  have e : multiReduction .maximumf [0] S512 x 0xFF800000#32 reduces_S1024x512_S512 (.inl rfl) rfl (ix1 q)
      = (Finset.univ : Finset (Fin 1024)).fold max (⊥ : EReal) fun j => (x (ix2 j q) : EReal) := by
    refine (Ideal.multiReduction_maximumf_single x _ _ _ _ _).trans ?_
    rw [top_word]
    refine congrArg (fun f => Finset.fold (β := EReal) max ⊥ f (Finset.univ : Finset (Fin 1024))) (funext fun k => congrArg x (funext fun b => ?_))
    match b with | ⟨0, _⟩ => rfl | ⟨1, _⟩ => rfl
  rw [← e]
  unfold max2
  generalize multiReduction .maximumf [0] S512 x 0xFF800000#32 reduces_S1024x512_S512 (.inl rfl) rfl = y
  pointwise []

theorem exp2_apply (j : Fin 1024) : exp2 x m (ix2 j q) = Ideal.exp ((x (ix2 j q) : EReal) - max2 x m (ix2 0 q)) := by
  unfold exp2; generalize max2 x m = y; pointwise []

theorem old2_apply : old2 x m (ix2 0 q) = Ideal.exp ((m (ix2 0 q) : EReal) - max2 x m (ix2 0 q)) := by
  unfold old2; generalize max2 x m = y; pointwise []

theorem sum2_apply : sum2 x m l (ix2 0 q) = (old2 x m (ix2 0 q) : EReal) * l (ix2 0 q) + ∑ j : Fin 1024, (exp2 x m (ix2 j q) : EReal) := by
  unfold sum2; generalize exp2 x m = y; generalize old2 x m = z; pointwise []

theorem acc2_apply (d : Fin 128) : acc2 x m A B a (ix3 0 d q)
    = (old2 x m (ix2 0 q) : EReal) * a (ix3 0 d q) + ((∑ j : Fin 512, (A (ix4 0 0 d j) : EReal) * exp2 x m (ix2 ⟨j.val, by omega⟩ q))
      + ∑ j : Fin 512, (B (ix4 0 0 d j) : EReal) * exp2 x m (ix2 ⟨512 + j.val, by omega⟩ q)) := by
  unfold acc2; generalize exp2 x m = y; generalize old2 x m = z; pointwise [k0_pay12]
end

section
variable (x : FVec Ideal S512x512 .f32) (m l : FVec Ideal S1x512 .f32) (A : Vec Ideal S1x1x128x512 .bf16) (a : Vec Ideal S1x128x512 .f32) (q : Fin 512)

theorem max1_apply : max1 x m (ix2 0 q) = max (m (ix2 0 q) : EReal) ((Finset.univ : Finset (Fin 512)).fold max ⊥ fun j => (x (ix2 j q) : EReal)) := by
  have e : multiReduction .maximumf [0] S512 x 0xFF800000#32 reduces_S512x512_S512 (.inl rfl) rfl (ix1 q)
      = (Finset.univ : Finset (Fin 512)).fold max (⊥ : EReal) fun j => (x (ix2 j q) : EReal) := by
    refine (Ideal.multiReduction_maximumf_single x _ _ _ _ _).trans ?_
    rw [top_word]
    refine congrArg (fun f => Finset.fold (β := EReal) max ⊥ f (Finset.univ : Finset (Fin 512))) (funext fun k => congrArg x (funext fun b => ?_))
    match b with | ⟨0, _⟩ => rfl | ⟨1, _⟩ => rfl
  rw [← e]
  unfold max1
  generalize multiReduction .maximumf [0] S512 x 0xFF800000#32 reduces_S512x512_S512 (.inl rfl) rfl = y
  pointwise []

theorem exp1_apply (j : Fin 512) : exp1 x m (ix2 j q) = Ideal.exp ((x (ix2 j q) : EReal) - max1 x m (ix2 0 q)) := by
  unfold exp1; generalize max1 x m = y; pointwise []

theorem old1_apply : old1 x m (ix2 0 q) = Ideal.exp ((m (ix2 0 q) : EReal) - max1 x m (ix2 0 q)) := by
  unfold old1; generalize max1 x m = y; pointwise []

theorem sum1_apply : sum1 x m l (ix2 0 q) = (old1 x m (ix2 0 q) : EReal) * l (ix2 0 q) + ∑ j : Fin 512, (exp1 x m (ix2 j q) : EReal) := by
  unfold sum1; generalize exp1 x m = y; generalize old1 x m = z; pointwise []

theorem acc1_apply (d : Fin 128) : acc1 x m A a (ix3 0 d q)
    = (old1 x m (ix2 0 q) : EReal) * a (ix3 0 d q) + ∑ j : Fin 512, (A (ix4 0 0 d j) : EReal) * exp1 x m (ix2 j q) := by
  unfold acc1; generalize exp1 x m = y; generalize old1 x m = z; pointwise [k0_pay65]
end

/-! ## What the step makes of the running softmax -/

theorem row2 {s : ℕ → ℝ} {v : Fin 128 → ℕ → ℝ} {R n : ℕ} {m l : FVec Ideal S1x512 .f32} {a : Vec Ideal S1x128x512 .f32} {q : Fin 512}
    (H : Row s v R n (m (ix2 0 q)) (l (ix2 0 q)) fun d => a (ix3 0 d q)) (hn : n ≤ R) (x : FVec Ideal S1024x512 .f32)
    (hx : ∀ j : Fin 1024, (x (ix2 j q) : EReal) = if n + j.val ≤ R then (s (n + j.val) : EReal) else ⊥) (A B : Vec Ideal S1x1x128x512 .bf16)
    (hA : ∀ d j, (A (ix4 0 0 d j) : EReal) = (v d (n + j.val) : EReal)) (hB : ∀ d j, (B (ix4 0 0 d j) : EReal) = (v d (n + (512 + j.val)) : EReal)) :
    Row s v R (n + 1024) (max2 x m (ix2 0 q)) (sum2 x m l (ix2 0 q)) fun d => acc2 x m A B a (ix3 0 d q) := by
  refine Row.step H (by decide) hn (fun j => (x (ix2 j q) : EReal)) hx _ _ _ (max2_apply x m q) ?_ fun d => ?_
  · rw [sum2_apply, old2_apply]; simp only [exp2_apply]
  · rw [acc2_apply, old2_apply]; simp only [exp2_apply, hA, hB]
    exact congrArg (_ + ·) (Fin.sum_univ_add (a := 512) (b := 512) fun j : Fin 1024 => (v d (n + j.val) : EReal) * Ideal.exp ((x (ix2 j q) : EReal) - max2 x m (ix2 0 q))).symm

theorem row1 {s : ℕ → ℝ} {v : Fin 128 → ℕ → ℝ} {R n : ℕ} {m l : FVec Ideal S1x512 .f32} {a : Vec Ideal S1x128x512 .f32} {q : Fin 512}
    (H : Row s v R n (m (ix2 0 q)) (l (ix2 0 q)) fun d => a (ix3 0 d q)) (hn : n ≤ R) (x : FVec Ideal S512x512 .f32)
    (hx : ∀ j : Fin 512, (x (ix2 j q) : EReal) = if n + j.val ≤ R then (s (n + j.val) : EReal) else ⊥) (A : Vec Ideal S1x1x128x512 .bf16)
    (hA : ∀ d j, (A (ix4 0 0 d j) : EReal) = (v d (n + j.val) : EReal)) :
    Row s v R (n + 512) (max1 x m (ix2 0 q)) (sum1 x m l (ix2 0 q)) fun d => acc1 x m A a (ix3 0 d q) := by
  refine Row.step H (by decide) hn (fun j => (x (ix2 j q) : EReal)) hx _ _ _ (max1_apply x m q) ?_ fun d => ?_
  · rw [sum1_apply, old1_apply]; simp only [exp1_apply]
  · rw [acc1_apply, old1_apply]; simp only [exp1_apply, hA]

/-! ## The blocks of scores -/

theorem ge_select {α : Type} (a : ℕ) (ha : a < 1024) (o : ℕ) (ho : o ≤ 512) (b : Fin 512) (x y : α) :
    Scalar.select (IntOp.cmpi CmpIPredicate.sge (BitVec.ofNat 32 b.val) (IntOp.subi (BitVec.ofNat 32 a) (BitVec.ofNat 32 o))) x y
      = if a ≤ b.val + o then x else y := by
  have e : (IntOp.subi (BitVec.ofNat 32 a) (BitVec.ofNat 32 o)).toInt = (a : ℤ) - o := by
    show (BitVec.ofNat 32 a - BitVec.ofNat 32 o).toInt = _
    rw [BitVec.toInt_sub, WordArith.toInt_ofNat_small _ (by omega), WordArith.toInt_ofNat_small _ (by omega)]
    exact Int.bmod_eq_of_le (by omega) (by omega)
  show Scalar.select (BitVec.ofBool (BitVec.sle (IntOp.subi (BitVec.ofNat 32 a) (BitVec.ofNat 32 o)) (BitVec.ofNat 32 b.val))) x y = _
  rw [BitVec.sle_eq_decide, e, WordArith.toInt_ofNat_small _ (by omega)]
  by_cases h : a ≤ b.val + o
  · rw [if_pos h, decide_eq_true (by omega)]; rfl
  · rw [if_neg h, decide_eq_false (by omega)]; rfl

theorem score2 (K : Vec Ideal S1x1024x128 .bf16) (Q : Vec Ideal S1x512x128 .bf16) (j : Fin 1024) (q : Fin 512) :
    (k0_pay2 K Q (ix2 j q) : EReal) = ∑ l : Fin 128, (K (ix3 0 j l) : EReal) * Q (ix3 0 q l) := by
  pointwise [k0_pay2]

theorem masked2 (K : Vec Ideal S1x1024x128 .bf16) (Q : Vec Ideal S1x512x128 .bf16) (j : Fin 1024) (q : Fin 512) :
    (k0_pay26 K Q (ix2 j q) : EReal) = if j.val ≤ q.val + 512 then ∑ l : Fin 128, (K (ix3 0 j l) : EReal) * Q (ix3 0 q l) else ⊥ := by
  pointwise [k0_pay26]
  refine (ge_select j.val j.isLt 512 le_rfl q _ _).trans ?_
  rw [lower]

theorem masked1 (K : Vec Ideal S1x512x128 .bf16) (Q : Vec Ideal S1x512x128 .bf16) (j q : Fin 512) :
    (k0_pay54 K Q (ix2 j q) : EReal) = if j.val ≤ q.val then ∑ l : Fin 128, (K (ix3 0 j l) : EReal) * Q (ix3 0 q l) else ⊥ := by
  pointwise [k0_pay54]
  refine (ge_select j.val (by omega) 0 (by omega) q _ _).trans ?_
  rw [lower]; rfl

end Cert.AfwdProof.Step
end
-- ==== Proof.AfwdTrip.lean ====
/- One trip of the attention forward kernel's loops: the carried values, and the accumulator it stores. -/
module

public import proofs.«01_k».proof.Proof.AfwdStep
public import Idealize.ShloMosaic.Lib.WritesUnit
public import Idealize.ShloMosaic.Lib.VecWindow
public import Idealize.ShloMosaic.Lib.Pipeline.ValueKit

@[expose] public section

set_option maxRecDepth 16384

noncomputable section

namespace Cert.AfwdProof.Trip

open Cert.AfwdProof.Row Cert.AfwdProof.Step Cert.AfwdIdeal Cert.AfwdIdeal.Gen Idealize.ShloMosaic Idealize.ShloMosaic.TcCoe

variable {F : FTy → Type} [FloatOps F]

/-- The kernel's buffers: the queries, the keys, the values, the two outputs and the accumulator. -/
structure Bufs where
  a2 : Memref sig .tc .vmem S2x512x128 .bf16
  h2 : a2.IsWhole
  a3 : Memref sig .tc .vmem S2x8192x128 .bf16
  h3 : a3.IsWhole
  a4 : Memref sig .tc .vmem S1x16x128x512 .bf16
  h4 : a4.IsWhole
  a5 : Memref sig .tc .vmem S512x128 .f32
  h5 : a5.IsWhole
  a6 : Memref sig .tc .vmem S1x1x2x512 .f32
  h6 : a6.IsWhole
  a7 : Memref sig .tc .vmem S2x128x512 .f32
  h7 : a7.IsWhole

/-- What the loops read and do not write. -/
structure Ins (F : FTy → Type) [FloatOps F] (B : Bufs) where
  X2 : BufTy.Contents (Elt F) B.a2.view.ty
  X3 : BufTy.Contents (Elt F) B.a3.view.ty
  X4 : BufTy.Contents (Elt F) B.a4.view.ty

/-- What the loops carry: the greatest score of each head's queries so far, and the sums of exponentials. -/
abbrev Car (F : FTy → Type) [FloatOps F] : Type := FVec F S1x512 .f32 × FVec F S1x512 .f32 × FVec F S1x512 .f32 × FVec F S1x512 .f32

abbrev Acc (F : FTy → Type) [FloatOps F] (B : Bufs) : Type := BufTy.Contents (Elt F) B.a7.view.ty

abbrev Pcs (F : FTy → Type) [FloatOps F] : Type := List (View.Piece (Elt F) S2x128x512 .f32)

/-! ## What is loaded -/

section
variable (B : Bufs) (X : Ins F B) (f : Acc F B)

abbrev ldQ (h : Fin 2) (n : ∀ a, (![h.val, 0, 0] : Fin 3 → ℕ) a + S1x512x128.size a ≤ S2x512x128.size a) : Vec F S1x512x128 .bf16 :=
  B.a2.view.readAt (Elt F) (Rect.unit (s := S2x512x128) ![h.val, 0, 0] S1x512x128.size n).toLoadRect X.X2

abbrev ldK2 (off : Fin 3 → ℕ) (n : ∀ a, off a + S1x1024x128.size a ≤ S2x8192x128.size a) : Vec F S1x1024x128 .bf16 :=
  B.a3.view.readAt (Elt F) (Rect.unit (s := S2x8192x128) off S1x1024x128.size n).toLoadRect X.X3

abbrev ldK1 (off : Fin 3 → ℕ) (n : ∀ a, off a + S1x512x128.size a ≤ S2x8192x128.size a) : Vec F S1x512x128 .bf16 :=
  B.a3.view.readAt (Elt F) (Rect.unit (s := S2x8192x128) off S1x512x128.size n).toLoadRect X.X3

abbrev ldV (off : Fin 4 → ℕ) (n : ∀ a, off a + S1x1x128x512.size a ≤ S1x16x128x512.size a) : Vec F S1x1x128x512 .bf16 :=
  B.a4.view.readAt (Elt F) (Rect.unit (s := S1x16x128x512) off S1x1x128x512.size n).toLoadRect X.X4

abbrev ldA (h : Fin 2) (n : ∀ a, (![h.val, 0, 0] : Fin 3 → ℕ) a + S1x128x512.size a ≤ S2x128x512.size a) : Vec F S1x128x512 .f32 :=
  B.a7.view.readAt (Elt F) (Rect.unit (s := S2x128x512) ![h.val, 0, 0] S1x128x512.size n).toLoadRect f

theorem ldQ_apply (h : Fin 2) (n) (q : Fin 512) (l : Fin 128) : ldQ B X h n (ix3 0 q l) = B.a2.view.read (Elt F) X.X2 (ix3 h q l) := by
  refine congrArg (B.a2.view.read (Elt F) X.X2) (funext fun a => Fin.ext ?_)
  fin_cases a
  · show h.val + 1 * 0 = h.val; omega
  · show 0 + 1 * q.val = q.val; omega
  · show 0 + 1 * l.val = l.val; omega

theorem ldA_apply (h : Fin 2) (n) (d : Fin 128) (q : Fin 512) : ldA B f h n (ix3 0 d q) = B.a7.view.read (Elt F) f (ix3 h d q) := by
  refine congrArg (B.a7.view.read (Elt F) f) (funext fun a => Fin.ext ?_)
  fin_cases a
  · show h.val + 1 * 0 = h.val; omega
  · show 0 + 1 * d.val = d.val; omega
  · show 0 + 1 * q.val = q.val; omega

theorem ldK2_apply (h : Fin 2) (b : ℕ) (off : Fin 3 → ℕ) (e : off = ![h.val, b, 0]) (n) (j : Fin 1024) (l : Fin 128) (hj : b + j.val < 8192) :
    ldK2 B X off n (ix3 0 j l) = B.a3.view.read (Elt F) X.X3 (ix3 h ⟨b + j.val, hj⟩ l) := by
  subst e
  refine congrArg (B.a3.view.read (Elt F) X.X3) (funext fun a => Fin.ext ?_)
  fin_cases a
  · show h.val + 1 * 0 = h.val; omega
  · show b + 1 * j.val = b + j.val; omega
  · show 0 + 1 * l.val = l.val; omega

theorem ldK1_apply (h : Fin 2) (b : ℕ) (off : Fin 3 → ℕ) (e : off = ![h.val, b, 0]) (n) (j : Fin 512) (l : Fin 128) (hj : b + j.val < 8192) :
    ldK1 B X off n (ix3 0 j l) = B.a3.view.read (Elt F) X.X3 (ix3 h ⟨b + j.val, hj⟩ l) := by
  subst e
  refine congrArg (B.a3.view.read (Elt F) X.X3) (funext fun a => Fin.ext ?_)
  fin_cases a
  · show h.val + 1 * 0 = h.val; omega
  · show b + 1 * j.val = b + j.val; omega
  · show 0 + 1 * l.val = l.val; omega

theorem ldV_apply (t : Fin 16) (off : Fin 4 → ℕ) (e : off = ![0, t.val, 0, 0]) (n) (d : Fin 128) (r : Fin 512) :
    ldV B X off n (ix4 0 0 d r) = B.a4.view.read (Elt F) X.X4 (ix4 0 t d r) := by
  subst e
  refine congrArg (B.a4.view.read (Elt F) X.X4) (funext fun a => Fin.ext ?_)
  fin_cases a
  · show 0 + 1 * 0 = 0; omega
  · show t.val + 1 * 0 = t.val; omega
  · show 0 + 1 * d.val = d.val; omega
  · show 0 + 1 * r.val = r.val; omega

/-- The two heads' stores into the accumulator. -/
abbrev store (u w : Vec F S1x128x512 .f32) : Pcs F :=
  [⟨Rect.unit (s := S2x128x512) ![1, 0, 0] S1x128x512.size inb_S2x128x512_S1x128x512_1_0_0, w⟩, ⟨Rect.unit (s := S2x128x512) ![0, 0, 0] S1x128x512.size inb_S2x128x512_S1x128x512_0_0_0, u⟩]

theorem read_store (u w : Vec F S1x128x512 .f32) (h : Fin 2) (d : Fin 128) (q : Fin 512) :
    B.a7.view.read (Elt F) (B.a7.view.writes (Elt F) f (store u w)) (ix3 h d q) = (![u, w] h) (ix3 0 d q) := by
  fin_cases h
  · refine (View.read_writes_cons_unit_of_not_mem B.a7.view f inb_S2x128x512_S1x128x512_1_0_0 _ _ (ix3 0 d q : S2x128x512.Idx) rfl 0 (by show 0 < 1 ∨ 1 + 1 ≤ 0; omega)).trans ?_
    refine View.read_writes_cons_unit_of_mem B.a7.view f inb_S2x128x512_S1x128x512_0_0_0 _ _ (ix3 0 d q : S2x128x512.Idx) (ix3 0 d q : S1x128x512.Idx) rfl fun a => ?_
    fin_cases a
    · rfl
    · show d.val = 0 + d.val; omega
    · show q.val = 0 + q.val; omega
  · refine View.read_writes_cons_unit_of_mem B.a7.view f inb_S2x128x512_S1x128x512_1_0_0 _ _ (ix3 1 d q : S2x128x512.Idx) (ix3 0 d q : S1x128x512.Idx) rfl fun a => ?_
    fin_cases a
    · rfl
    · show d.val = 0 + d.val; omega
    · show q.val = 0 + q.val; omega
end

/-! ## The trips -/

section
variable (c : Dev nD) (i : grid0.Coords) (B : Bufs) (X : Ins F B) (a : Car F) (f : Acc F B)

abbrev A0 : Vec F S1x128x512 .f32 := ldA B f 0 inb_S2x128x512_S1x128x512_0_0_0
abbrev A1 : Vec F S1x128x512 .f32 := ldA B f 1 inb_S2x128x512_S1x128x512_1_0_0

/-- The carried values after a step of 1024 keys, and of 512. -/
abbrev car2 (x0 x1 : FVec F S1024x512 .f32) : Car F := (max2 x0 a.1, max2 x1 a.2.1, sum2 x0 a.1 a.2.2.1, sum2 x1 a.2.1 a.2.2.2)
abbrev car1 (x0 x1 : FVec F S512x512 .f32) : Car F := (max1 x0 a.1, max1 x1 a.2.1, sum1 x0 a.1 a.2.2.1, sum1 x1 a.2.1 a.2.2.2)

abbrev Q0 : Vec F S1x512x128 .bf16 := ldQ B X 0 inb_S2x512x128_S1x512x128_0_0_0
abbrev Q1 : Vec F S1x512x128 .bf16 := ldQ B X 1 inb_S2x512x128_S1x512x128_1_0_0

theorem trip1R (k : Fin (k0_t1_loop i).trips) :
    tripR_k0_t1 (F := F) Variants.none c none i B.a2 B.h2 B.a3 B.h3 B.a4 B.h4 B.a5 B.h5 B.a6 B.h6 B.a7 B.h7 X.X2 X.X3 X.X4 k a f
      = car2 a (k0_pay2 (ldK2 B X (k0_off1 i k) (k0_off1_inb i k)) (Q0 B X)) (k0_pay2 (ldK2 B X (k0_off2 i k) (k0_off2_inb i k)) (Q1 B X)) := by
  unfold tripR_k0_t1 trip_k0_t1; rfl

theorem trip1L (k : Fin (k0_t1_loop i).trips) :
    tripL_k0_t1 (F := F) Variants.none c none i B.a2 B.h2 B.a3 B.h3 B.a4 B.h4 B.a5 B.h5 B.a6 B.h6 B.a7 B.h7 X.X2 X.X3 X.X4 k a f
      = store (acc2 (k0_pay2 (ldK2 B X (k0_off1 i k) (k0_off1_inb i k)) (Q0 B X)) a.1 (ldV B X (k0_off3 i k) (k0_off3_inb i k)) (ldV B X (k0_off4 i k) (k0_off4_inb i k)) (A0 B f))
          (acc2 (k0_pay2 (ldK2 B X (k0_off2 i k) (k0_off2_inb i k)) (Q1 B X)) a.2.1 (ldV B X (k0_off3 i k) (k0_off3_inb i k)) (ldV B X (k0_off4 i k) (k0_off4_inb i k)) (A1 B f)) := by
  unfold tripL_k0_t1 trip_k0_t1; rfl

variable (w1 w31 w32 : BitVec 32) (v0 v1 v2 v3 : FVec F S1x512 .f32) (b1 b2 : BitVec 1)

theorem trip3R (k : Fin (k0_t3_loop i).trips) :
    tripR_k0_t3 (F := F) Variants.none c none i B.a2 B.h2 B.a3 B.h3 B.a4 B.h4 B.a5 B.h5 B.a6 B.h6 B.a7 B.h7 w1 v0 v1 v2 v3 w31 w32 b1 b2 X.X2 X.X3 X.X4 k a f
      = car2 a (k0_pay26 (ldK2 B X (k0_off9 i) (k0_off9_inb i k)) (Q0 B X)) (k0_pay26 (ldK2 B X (k0_off10 i) (k0_off10_inb i k)) (Q1 B X)) := by
  unfold tripR_k0_t3 trip_k0_t3; rfl

theorem trip3L (k : Fin (k0_t3_loop i).trips) :
    tripL_k0_t3 (F := F) Variants.none c none i B.a2 B.h2 B.a3 B.h3 B.a4 B.h4 B.a5 B.h5 B.a6 B.h6 B.a7 B.h7 w1 v0 v1 v2 v3 w31 w32 b1 b2 X.X2 X.X3 X.X4 k a f
      = store (acc2 (k0_pay26 (ldK2 B X (k0_off9 i) (k0_off9_inb i k)) (Q0 B X)) a.1 (ldV B X (k0_off11 i) (k0_off11_inb i k)) (ldV B X (k0_off12 i) (k0_off12_inb i)) (A0 B f))
          (acc2 (k0_pay26 (ldK2 B X (k0_off10 i) (k0_off10_inb i k)) (Q1 B X)) a.2.1 (ldV B X (k0_off11 i) (k0_off11_inb i k)) (ldV B X (k0_off12 i) (k0_off12_inb i)) (A1 B f)) := by
  unfold tripL_k0_t3 trip_k0_t3; rfl

theorem trip5R (k : Fin (k0_t5_loop i).trips) :
    tripR_k0_t5 (F := F) Variants.none c none i B.a2 B.h2 B.a3 B.h3 B.a4 B.h4 B.a5 B.h5 B.a6 B.h6 B.a7 B.h7 w1 v0 v1 v2 v3 w31 w32 b1 b2 X.X2 X.X3 X.X4 k a f
      = car1 a (k0_pay54 (ldK1 B X (k0_off17 i) (k0_off17_inb i)) (Q0 B X)) (k0_pay54 (ldK1 B X (k0_off18 i) (k0_off18_inb i)) (Q1 B X)) := by
  unfold tripR_k0_t5 trip_k0_t5; rfl

theorem trip5L (k : Fin (k0_t5_loop i).trips) :
    tripL_k0_t5 (F := F) Variants.none c none i B.a2 B.h2 B.a3 B.h3 B.a4 B.h4 B.a5 B.h5 B.a6 B.h6 B.a7 B.h7 w1 v0 v1 v2 v3 w31 w32 b1 b2 X.X2 X.X3 X.X4 k a f
      = store (acc1 (k0_pay54 (ldK1 B X (k0_off17 i) (k0_off17_inb i)) (Q0 B X)) a.1 (ldV B X (k0_off19 i) (k0_off19_inb i)) (A0 B f))
          (acc1 (k0_pay54 (ldK1 B X (k0_off18 i) (k0_off18_inb i)) (Q1 B X)) a.2.1 (ldV B X (k0_off19 i) (k0_off19_inb i)) (A1 B f)) := by
  unfold tripL_k0_t5 trip_k0_t5; rfl
end

/-! ## What a trip makes of the running softmax of every query -/

/-- The scores and the values the buffers hold. -/
structure Holds (B : Bufs) (X : Ins Ideal B) (S : Fin 2 → Fin 512 → ℕ → ℝ) (v : Fin 128 → ℕ → ℝ) : Prop where
  score : ∀ (h : Fin 2) (j : ℕ) (hj : j < 8192) (q : Fin 512),
    ∑ l : Fin 128, (B.a3.view.read (Elt Ideal) X.X3 (ix3 h ⟨j, hj⟩ l) : EReal) * B.a2.view.read (Elt Ideal) X.X2 (ix3 h q l) = (S h q j : EReal)
  vals : ∀ (d : Fin 128) (t : Fin 16) (r : Fin 512), (B.a4.view.read (Elt Ideal) X.X4 (ix4 0 t d r) : EReal) = (v d (512 * t.val + r.val) : EReal)

/-- After `n` keys, of the block of queries `b`. -/
structure Inv (B : Bufs) (S : Fin 2 → Fin 512 → ℕ → ℝ) (v : Fin 128 → ℕ → ℝ) (b n : ℕ) (a : Car Ideal) (f : Acc Ideal B) : Prop where
  one : ∀ q : Fin 512, Row (S 0 q) v (512 * b + q.val) n (a.1 (ix2 0 q)) (a.2.2.1 (ix2 0 q)) fun d => B.a7.view.read (Elt Ideal) f (ix3 0 d q)
  two : ∀ q : Fin 512, Row (S 1 q) v (512 * b + q.val) n (a.2.1 (ix2 0 q)) (a.2.2.2 (ix2 0 q)) fun d => B.a7.view.read (Elt Ideal) f (ix3 1 d q)

section
variable {B : Bufs} {X : Ins Ideal B} {S : Fin 2 → Fin 512 → ℕ → ℝ} {v : Fin 128 → ℕ → ℝ} {b n : ℕ} {a : Car Ideal} {f : Acc Ideal B}

/-- The accumulator's entries after the stores. -/
theorem acc_fun (u w : Vec Ideal S1x128x512 .f32) (h : Fin 2) (q : Fin 512) :
    (fun d => (B.a7.view.read (Elt Ideal) (B.a7.view.writes (Elt Ideal) f (store u w)) (ix3 h d q) : EReal)) = fun d => ((![u, w] h) (ix3 0 d q) : EReal) :=
  funext fun d => read_store B f u w h d q

theorem inv2 (I : Inv B S v b n a f) (hn : n ≤ 512 * b) (x : Fin 2 → FVec Ideal S1024x512 .f32)
    (hx : ∀ h (q : Fin 512) (j : Fin 1024), (x h (ix2 j q) : EReal) = if n + j.val ≤ 512 * b + q.val then (S h q (n + j.val) : EReal) else ⊥)
    (V W : Vec Ideal S1x1x128x512 .bf16) (hV : ∀ d j, (V (ix4 0 0 d j) : EReal) = (v d (n + j.val) : EReal)) (hW : ∀ d j, (W (ix4 0 0 d j) : EReal) = (v d (n + (512 + j.val)) : EReal)) :
    Inv B S v b (n + 1024) (car2 a (x 0) (x 1)) (B.a7.view.writes (Elt Ideal) f (store (acc2 (x 0) a.1 V W (A0 B f)) (acc2 (x 1) a.2.1 V W (A1 B f)))) where
  one q := by
    rw [acc_fun]
    refine row2 (a := A0 B f) ?_ (by omega) (x 0) (hx 0 q) V W hV hW
    exact (funext fun d => ldA_apply B f 0 _ d q : (fun d => (A0 B f (ix3 0 d q) : EReal)) = _) ▸ I.one q
  two q := by
    rw [acc_fun]
    refine row2 (a := A1 B f) ?_ (by omega) (x 1) (hx 1 q) V W hV hW
    exact (funext fun d => ldA_apply B f 1 _ d q : (fun d => (A1 B f (ix3 0 d q) : EReal)) = _) ▸ I.two q

theorem inv1 (I : Inv B S v b n a f) (hn : n ≤ 512 * b) (x : Fin 2 → FVec Ideal S512x512 .f32)
    (hx : ∀ h (q : Fin 512) (j : Fin 512), (x h (ix2 j q) : EReal) = if n + j.val ≤ 512 * b + q.val then (S h q (n + j.val) : EReal) else ⊥)
    (V : Vec Ideal S1x1x128x512 .bf16) (hV : ∀ d j, (V (ix4 0 0 d j) : EReal) = (v d (n + j.val) : EReal)) :
    Inv B S v b (n + 512) (car1 a (x 0) (x 1)) (B.a7.view.writes (Elt Ideal) f (store (acc1 (x 0) a.1 V (A0 B f)) (acc1 (x 1) a.2.1 V (A1 B f)))) where
  one q := by
    rw [acc_fun]
    refine row1 (a := A0 B f) ?_ (by omega) (x 0) (hx 0 q) V hV
    exact (funext fun d => ldA_apply B f 0 _ d q : (fun d => (A0 B f (ix3 0 d q) : EReal)) = _) ▸ I.one q
  two q := by
    rw [acc_fun]
    refine row1 (a := A1 B f) ?_ (by omega) (x 1) (hx 1 q) V hV
    exact (funext fun d => ldA_apply B f 1 _ d q : (fun d => (A1 B f (ix3 0 d q) : EReal)) = _) ▸ I.two q

variable (H : Holds B X S v)
include H

/-- The scores of 1024 keys, and of 512, from the loads. -/
theorem sum_ld2 (m : ℕ) (hm : m + 1024 ≤ 8192) (h : Fin 2) (off : Fin 3 → ℕ) (e : off = ![h.val, m, 0]) (nk) (nq) (j : Fin 1024) (q : Fin 512) :
    ∑ l : Fin 128, (ldK2 B X off nk (ix3 0 j l) : EReal) * ldQ B X h nq (ix3 0 q l) = (S h q (m + j.val) : EReal) :=
  (Finset.sum_congr rfl fun l _ => by rw [ldK2_apply B X h m off e nk j l (by omega), ldQ_apply]).trans (H.score h (m + j.val) _ q)

theorem sum_ld1 (m : ℕ) (hm : m + 512 ≤ 8192) (h : Fin 2) (off : Fin 3 → ℕ) (e : off = ![h.val, m, 0]) (nk) (nq) (j : Fin 512) (q : Fin 512) :
    ∑ l : Fin 128, (ldK1 B X off nk (ix3 0 j l) : EReal) * ldQ B X h nq (ix3 0 q l) = (S h q (m + j.val) : EReal) :=
  (Finset.sum_congr rfl fun l _ => by rw [ldK1_apply B X h m off e nk j l (by omega), ldQ_apply]).trans (H.score h (m + j.val) _ q)

theorem ld_val (t : Fin 16) (off : Fin 4 → ℕ) (e : off = ![0, t.val, 0, 0]) (nv) (d : Fin 128) (r : Fin 512) :
    (ldV B X off nv (ix4 0 0 d r) : EReal) = (v d (512 * t.val + r.val) : EReal) :=
  (ldV_apply B X t off e nv d r).trans (H.vals d t r)
end

/-! ## Where the trips read -/

theorem iv_nat (k : ℕ) : Scf.iv (0#32) 1#32 k = BitVec.ofNat 32 k := by
  unfold Scf.iv; rw [BitVec.mul_one, BitVec.zero_add]

section
variable (i : grid0.Coords)

theorem at1 (k : ℕ) (hk : k < 8) : ((2#32 * Scf.iv (0#32) 1#32 k) * 512#32).toNat = 1024 * k := by
  rw [iv_nat, show (512#32 : BitVec 32) = BitVec.ofNat 32 512 from rfl, show (2#32 : BitVec 32) = BitVec.ofNat 32 2 from rfl, ← BitVec.ofNat_mul, ← BitVec.ofNat_mul, BitVec.toNat_ofNat]; omega
theorem at1a (k : ℕ) (hk : k < 8) : (2#32 * Scf.iv (0#32) 1#32 k).toNat = 2 * k := by
  rw [iv_nat, show (2#32 : BitVec 32) = BitVec.ofNat 32 2 from rfl, ← BitVec.ofNat_mul, BitVec.toNat_ofNat]; omega
theorem at1b (k : ℕ) (hk : k < 8) : (2#32 * Scf.iv (0#32) 1#32 k + 1#32).toNat = 2 * k + 1 := by
  rw [iv_nat, show (2#32 : BitVec 32) = BitVec.ofNat 32 2 from rfl, show (1#32 : BitVec 32) = BitVec.ofNat 32 1 from rfl, ← BitVec.ofNat_mul, ← BitVec.ofNat_add, BitVec.toNat_ofNat]; omega

theorem off1 (k : Fin (k0_t1_loop i).trips) (hk : k.val < 8) : k0_off1 i k = ![0, 1024 * k.val, 0] := by
  show ![0, ((2#32 * Scf.iv (0#32) 1#32 k.val) * 512#32).toNat, 0] = _; rw [at1 _ hk]
theorem off2 (k : Fin (k0_t1_loop i).trips) (hk : k.val < 8) : k0_off2 i k = ![1, 1024 * k.val, 0] := by
  show ![1, ((2#32 * Scf.iv (0#32) 1#32 k.val) * 512#32).toNat, 0] = _; rw [at1 _ hk]
theorem off3 (k : Fin (k0_t1_loop i).trips) (hk : k.val < 8) : k0_off3 i k = ![0, 2 * k.val, 0, 0] := by
  show ![0, (2#32 * Scf.iv (0#32) 1#32 k.val).toNat, 0, 0] = _; rw [at1a _ hk]
theorem off4 (k : Fin (k0_t1_loop i).trips) (hk : k.val < 8) : k0_off4 i k = ![0, 2 * k.val + 1, 0, 0] := by
  show ![0, (2#32 * Scf.iv (0#32) 1#32 k.val + 1#32).toNat, 0, 0] = _; rw [at1b _ hk]

theorem at3 : ∀ a : Fin 16, a.val % 2 = 1 → ((BitVec.ofNat 32 a.val - 1#32) * 512#32).toNat = 512 * (a.val - 1) := by decide +kernel
theorem at3a : ∀ a : Fin 16, a.val % 2 = 1 → (BitVec.ofNat 32 a.val - 1#32).toNat = a.val - 1 := by decide +kernel
theorem at3b : ∀ a : Fin 16, a.val % 2 = 1 → (BitVec.ofNat 32 a.val - 1#32 + 1#32).toNat = a.val := by decide +kernel
theorem at5 : ∀ a : Fin 16, (BitVec.ofNat 32 a.val * 512#32).toNat = 512 * a.val := by decide +kernel
theorem at5a : ∀ a : Fin 16, (BitVec.ofNat 32 a.val).toNat = a.val := by decide +kernel

theorem off9 (h : (i 1).val % 2 = 1) : k0_off9 i = ![0, 512 * ((i 1).val - 1), 0] := by
  show ![0, ((BitVec.ofNat 32 (i 1).val - 1#32) * 512#32).toNat, 0] = _; exact congrArg (fun z => ![0, z, 0]) (at3 (i 1) h)
theorem off10 (h : (i 1).val % 2 = 1) : k0_off10 i = ![1, 512 * ((i 1).val - 1), 0] := by
  show ![1, ((BitVec.ofNat 32 (i 1).val - 1#32) * 512#32).toNat, 0] = _; exact congrArg (fun z => ![1, z, 0]) (at3 (i 1) h)
theorem off11 (h : (i 1).val % 2 = 1) : k0_off11 i = ![0, (i 1).val - 1, 0, 0] := by
  show ![0, (BitVec.ofNat 32 (i 1).val - 1#32).toNat, 0, 0] = _; exact congrArg (fun z => ![0, z, 0, 0]) (at3a (i 1) h)
theorem off12 (h : (i 1).val % 2 = 1) : k0_off12 i = ![0, (i 1).val, 0, 0] := by
  show ![0, (BitVec.ofNat 32 (i 1).val - 1#32 + 1#32).toNat, 0, 0] = _; exact congrArg (fun z => ![0, z, 0, 0]) (at3b (i 1) h)
theorem off17 : k0_off17 i = ![0, 512 * (i 1).val, 0] := by
  show ![0, (BitVec.ofNat 32 (i 1).val * 512#32).toNat, 0] = _; exact congrArg (fun z => ![0, z, 0]) (at5 (i 1))
theorem off18 : k0_off18 i = ![1, 512 * (i 1).val, 0] := by
  show ![1, (BitVec.ofNat 32 (i 1).val * 512#32).toNat, 0] = _; exact congrArg (fun z => ![1, z, 0]) (at5 (i 1))
theorem off19 : k0_off19 i = ![0, (i 1).val, 0, 0] := by
  show ![0, (BitVec.ofNat 32 (i 1).val).toNat, 0, 0] = _; exact congrArg (fun z => ![0, z, 0, 0]) (at5a (i 1))
end

end Cert.AfwdProof.Trip
end
-- ==== Proof.AfwdFold.lean ====
/- The attention forward kernel's loops, one after the other: every query has then seen the keys up to the end of its block. -/
module

public import proofs.«01_k».proof.Proof.AfwdTrip

@[expose] public section

set_option maxRecDepth 16384

noncomputable section

namespace Cert.AfwdProof.Fold

open Cert.AfwdProof.Row Cert.AfwdProof.Step Cert.AfwdProof.Trip Cert.AfwdIdeal Cert.AfwdIdeal.Gen Idealize.ShloMosaic Idealize.ShloMosaic.TcCoe

variable {F : FTy → Type} [FloatOps F]

/-! ## How often the loops run -/

theorem trips1 : ∀ i : grid0.Coords, (k0_t1_loop i).trips = (i 1).val / 2 := by decide +kernel
theorem trips2 : ∀ i : grid0.Coords, (k0_t2_loop i).trips = 0 := by decide +kernel
theorem trips3 : ∀ i : grid0.Coords, (k0_t3_loop i).trips = (i 1).val % 2 := by decide +kernel
theorem trips4 : ∀ i : grid0.Coords, (k0_t4_loop i).trips = 0 := by decide +kernel
theorem trips5 : ∀ i : grid0.Coords, (k0_t5_loop i).trips = 1 - (i 1).val % 2 := by decide +kernel
theorem trips6 : ∀ i : grid0.Coords, (k0_t6_loop i).trips = 0 := by decide +kernel

/-! ## The loops -/

/-- What is carried, and the stores into the accumulator so far. -/
abbrev State (F : FTy → Type) [FloatOps F] : Type := Car F × Pcs F

/-- The values the later loops also name. -/
structure Ext (F : FTy → Type) [FloatOps F] where
  w1 : BitVec 32
  v0 : FVec F S1x512 .f32
  v1 : FVec F S1x512 .f32
  v2 : FVec F S1x512 .f32
  v3 : FVec F S1x512 .f32
  w31 : BitVec 32
  w32 : BitVec 32
  b1 : BitVec 1
  b2 : BitVec 1

section
variable (c : Dev nD) (i : grid0.Coords) (B : Bufs) (X : Ins F B) (w : BitVec 32) (e : Ext F) (s : State F)

/-- The accumulator's contents after stores. -/
abbrev cont (P : Pcs F) : Acc F B := B.a7.view.writes (Elt F) B.a7.view.junk P

abbrev s1 (n : ℕ) : State F := st_k0_t1 (F := F) Variants.none c none i B.a2 B.h2 B.a3 B.h3 B.a4 B.h4 B.a5 B.h5 B.a6 B.h6 B.a7 B.h7 X.X2 X.X3 X.X4 (cont B s.2) s.1 n
abbrev s2 (n : ℕ) : State F := st_k0_t2 (F := F) Variants.none c none i B.a2 B.h2 B.a3 B.h3 B.a4 B.h4 B.a5 B.h5 B.a6 B.h6 B.a7 B.h7 w X.X2 X.X3 X.X4 (cont B s.2) (s.1.1, s.1.2.1, s.1.2.2.1, s.1.2.2.2) n
abbrev s3 (n : ℕ) : State F := st_k0_t3 (F := F) Variants.none c none i B.a2 B.h2 B.a3 B.h3 B.a4 B.h4 B.a5 B.h5 B.a6 B.h6 B.a7 B.h7 e.w1 e.v0 e.v1 e.v2 e.v3 e.w31 e.w32 e.b1 e.b2 X.X2 X.X3 X.X4 (cont B s.2) (s.1.1, s.1.2.1, s.1.2.2.1, s.1.2.2.2) n
abbrev s4 (n : ℕ) : State F := st_k0_t4 (F := F) Variants.none c none i B.a2 B.h2 B.a3 B.h3 B.a4 B.h4 B.a5 B.h5 B.a6 B.h6 B.a7 B.h7 e.w1 e.v0 e.v1 e.v2 e.v3 e.w31 e.w32 e.b1 e.b2 w X.X2 X.X3 X.X4 (cont B s.2) (s.1.1, s.1.2.1, s.1.2.2.1, s.1.2.2.2) n
abbrev s5 (n : ℕ) : State F := st_k0_t5 (F := F) Variants.none c none i B.a2 B.h2 B.a3 B.h3 B.a4 B.h4 B.a5 B.h5 B.a6 B.h6 B.a7 B.h7 e.w1 e.v0 e.v1 e.v2 e.v3 e.w31 e.w32 e.b1 e.b2 X.X2 X.X3 X.X4 (cont B s.2) (s.1.1, s.1.2.1, s.1.2.2.1, s.1.2.2.2) n
abbrev s6 (n : ℕ) : State F := st_k0_t6 (F := F) Variants.none c none i B.a2 B.h2 B.a3 B.h3 B.a4 B.h4 B.a5 B.h5 B.a6 B.h6 B.a7 B.h7 e.w1 e.v0 e.v1 e.v2 e.v3 e.w31 e.w32 e.b1 e.b2 w X.X2 X.X3 X.X4 (cont B s.2) (s.1.1, s.1.2.1, s.1.2.2.1, s.1.2.2.2) n

/-- A loop's stores after those before it. -/
abbrev after (t : State F) : State F := (t.1, t.2 ++ s.2)

abbrev L1 : State F := after s (s1 c i B X s (k0_t1_loop i).trips)
abbrev L2 : State F := after s (s2 c i B X w s (k0_t2_loop i).trips)
abbrev L3 : State F := after s (s3 c i B X e s (k0_t3_loop i).trips)
abbrev L4 : State F := after s (s4 c i B X w e s (k0_t4_loop i).trips)
abbrev L5 : State F := after s (s5 c i B X e s (k0_t5_loop i).trips)
abbrev L6 : State F := after s (s6 c i B X w e s (k0_t6_loop i).trips)

theorem L2_eq : L2 c i B X w s = s := by unfold L2 s2; rw [trips2]; rfl
theorem L4_eq : L4 c i B X w e s = s := by unfold L4 s4; rw [trips4]; rfl
theorem L6_eq : L6 c i B X w e s = s := by unfold L6 s6; rw [trips6]; rfl

theorem step1 (k : Fin (k0_t1_loop i).trips) (t : State F) (ht : t = s1 c i B X s k.val) : s1 c i B X s (k.val + 1)
    = (tripR_k0_t1 (F := F) Variants.none c none i B.a2 B.h2 B.a3 B.h3 B.a4 B.h4 B.a5 B.h5 B.a6 B.h6 B.a7 B.h7 X.X2 X.X3 X.X4 k t.1 (cont B (t.2 ++ s.2)),
      tripL_k0_t1 (F := F) Variants.none c none i B.a2 B.h2 B.a3 B.h3 B.a4 B.h4 B.a5 B.h5 B.a6 B.h6 B.a7 B.h7 X.X2 X.X3 X.X4 k t.1 (cont B (t.2 ++ s.2)) ++ t.2) := by
  subst ht; unfold cont; rw [View.writes_append]
  exact st_k0_t1_succ Variants.none c none i B.a2 B.h2 B.a3 B.h3 B.a4 B.h4 B.a5 B.h5 B.a6 B.h6 B.a7 B.h7 X.X2 X.X3 X.X4 (cont B s.2) s.1 k

theorem L3_one (h : (i 1).val % 2 = 1) (k : Fin (k0_t3_loop i).trips) (hk : k.val = 0) : L3 c i B X e s
    = (tripR_k0_t3 (F := F) Variants.none c none i B.a2 B.h2 B.a3 B.h3 B.a4 B.h4 B.a5 B.h5 B.a6 B.h6 B.a7 B.h7 e.w1 e.v0 e.v1 e.v2 e.v3 e.w31 e.w32 e.b1 e.b2 X.X2 X.X3 X.X4 k s.1 (cont B s.2),
      tripL_k0_t3 (F := F) Variants.none c none i B.a2 B.h2 B.a3 B.h3 B.a4 B.h4 B.a5 B.h5 B.a6 B.h6 B.a7 B.h7 e.w1 e.v0 e.v1 e.v2 e.v3 e.w31 e.w32 e.b1 e.b2 X.X2 X.X3 X.X4 k s.1 (cont B s.2) ++ s.2) := by
  have h3 := st_k0_t3_succ (F := F) Variants.none c none i B.a2 B.h2 B.a3 B.h3 B.a4 B.h4 B.a5 B.h5 B.a6 B.h6 B.a7 B.h7 e.w1 e.v0 e.v1 e.v2 e.v3 e.w31 e.w32 e.b1 e.b2 X.X2 X.X3 X.X4 (cont B s.2) s.1 k
  unfold L3 s3; rw [trips3, h]
  rw [hk] at h3
  refine (congrArg (after s) h3).trans ?_
  exact congrArg (fun L => (_, L ++ s.2)) (List.append_nil _)

theorem L3_zero (h : (i 1).val % 2 = 0) : L3 c i B X e s = s := by unfold L3 s3; rw [trips3, h]; rfl

theorem L5_one (h : (i 1).val % 2 = 0) (k : Fin (k0_t5_loop i).trips) (hk : k.val = 0) : L5 c i B X e s
    = (tripR_k0_t5 (F := F) Variants.none c none i B.a2 B.h2 B.a3 B.h3 B.a4 B.h4 B.a5 B.h5 B.a6 B.h6 B.a7 B.h7 e.w1 e.v0 e.v1 e.v2 e.v3 e.w31 e.w32 e.b1 e.b2 X.X2 X.X3 X.X4 k s.1 (cont B s.2),
      tripL_k0_t5 (F := F) Variants.none c none i B.a2 B.h2 B.a3 B.h3 B.a4 B.h4 B.a5 B.h5 B.a6 B.h6 B.a7 B.h7 e.w1 e.v0 e.v1 e.v2 e.v3 e.w31 e.w32 e.b1 e.b2 X.X2 X.X3 X.X4 k s.1 (cont B s.2) ++ s.2) := by
  have h5 := st_k0_t5_succ (F := F) Variants.none c none i B.a2 B.h2 B.a3 B.h3 B.a4 B.h4 B.a5 B.h5 B.a6 B.h6 B.a7 B.h7 e.w1 e.v0 e.v1 e.v2 e.v3 e.w31 e.w32 e.b1 e.b2 X.X2 X.X3 X.X4 (cont B s.2) s.1 k
  unfold L5 s5; rw [trips5, h]
  rw [hk] at h5
  refine (congrArg (after s) h5).trans ?_
  exact congrArg (fun L => (_, L ++ s.2)) (List.append_nil _)

theorem L5_zero (h : (i 1).val % 2 = 1) : L5 c i B X e s = s := by unfold L5 s5; rw [trips5, h]; rfl
end

/-! ## What they make of the running softmax -/

section
variable {c : Dev nD} {i : grid0.Coords} {B : Bufs} {X : Ins Ideal B} {S : Fin 2 → Fin 512 → ℕ → ℝ} {v : Fin 128 → ℕ → ℝ} {s : State Ideal}
variable (H : Holds B X S v)
include H

omit H in
theorem cont_app (P Q : Pcs Ideal) : cont B (P ++ Q) = B.a7.view.writes (Elt Ideal) (cont B Q) P := View.writes_append _ _ _ _

theorem inv_s1 (I : Inv B S v (i 1).val 0 s.1 (cont B s.2)) (k : ℕ) (hk : k ≤ (i 1).val / 2) :
    Inv B S v (i 1).val (1024 * k) (s1 c i B X s k).1 (cont B ((s1 c i B X s k).2 ++ s.2)) := by
  induction k with
  | zero => exact I
  | succ k ih =>
    have hb : (i 1).val < 16 := (i 1).isLt
    have ht : k < (k0_t1_loop i).trips := by rw [trips1]; omega
    have ih := ih (by omega)
    have e := step1 c i B X s ⟨k, ht⟩ _ rfl
    rw [show s1 c i B X s (k + 1) = _ from e, trip1R, trip1L]
    have ih : Inv B S v (i 1).val (1024 * k) (s1 c i B X s (⟨k, ht⟩ : Fin (k0_t1_loop i).trips).val).1 (cont B ((s1 c i B X s (⟨k, ht⟩ : Fin (k0_t1_loop i).trips).val).2 ++ s.2)) := ih
    revert ih
    generalize (s1 c i B X s (⟨k, ht⟩ : Fin (k0_t1_loop i).trips).val) = t
    intro ih
    dsimp only
    rw [List.append_assoc, cont_app]
    refine inv2 ih (by omega) ![k0_pay2 _ _, k0_pay2 _ _] (fun h q j => ?_) _ _ (fun d r => ?_) fun d r => ?_
    · rw [if_pos (by omega)]
      fin_cases h
      · exact (score2 _ _ j q).trans (sum_ld2 H (1024 * k) (by omega) 0 _ (off1 i ⟨k, ht⟩ (by show k < 8; omega)) _ _ j q)
      · exact (score2 _ _ j q).trans (sum_ld2 H (1024 * k) (by omega) 1 _ (off2 i ⟨k, ht⟩ (by show k < 8; omega)) _ _ j q)
    · refine (ld_val H ⟨2 * k, by omega⟩ _ (off3 i ⟨k, ht⟩ (by show k < 8; omega)) _ d r).trans ?_
      rw [show 512 * (2 * k) + r.val = 1024 * k + r.val by omega]
    · refine (ld_val H ⟨2 * k + 1, by omega⟩ _ (off4 i ⟨k, ht⟩ (by show k < 8; omega)) _ d r).trans ?_
      rw [show 512 * (2 * k + 1) + r.val = 1024 * k + (512 + r.val) by omega]

theorem inv_L1 (I : Inv B S v (i 1).val 0 s.1 (cont B s.2)) : Inv B S v (i 1).val (1024 * ((i 1).val / 2)) (L1 c i B X s).1 (cont B (L1 c i B X s).2) := by
  unfold L1; rw [trips1]; exact inv_s1 H I _ le_rfl

theorem inv_L3 (e : Ext Ideal) (h : (i 1).val % 2 = 1) (I : Inv B S v (i 1).val (512 * ((i 1).val - 1)) s.1 (cont B s.2)) :
    Inv B S v (i 1).val (512 * ((i 1).val + 1)) (L3 c i B X e s).1 (cont B (L3 c i B X e s).2) := by
  have hb : (i 1).val < 16 := (i 1).isLt
  have ht : 0 < (k0_t3_loop i).trips := by rw [trips3, h]; decide
  rw [L3_one c i B X e s h ⟨0, ht⟩ rfl, trip3R, trip3L]
  dsimp only
  rw [cont_app, show 512 * ((i 1).val + 1) = 512 * ((i 1).val - 1) + 1024 by omega]
  refine inv2 I (by omega) ![k0_pay26 _ _, k0_pay26 _ _] (fun g q j => ?_) _ _ (fun d r => ?_) fun d r => ?_
  · have hc : (512 * ((i 1).val - 1) + j.val ≤ 512 * (i 1).val + q.val) ↔ j.val ≤ q.val + 512 := by omega
    rw [if_congr hc rfl rfl]
    fin_cases g
    · exact (masked2 _ _ j q).trans (by rw [sum_ld2 H (512 * ((i 1).val - 1)) (by omega) 0 _ (off9 i h) _ _ j q]; rfl)
    · exact (masked2 _ _ j q).trans (by rw [sum_ld2 H (512 * ((i 1).val - 1)) (by omega) 1 _ (off10 i h) _ _ j q]; rfl)
  · exact ld_val H ⟨(i 1).val - 1, by omega⟩ _ (off11 i h) _ d r
  · refine (ld_val H ⟨(i 1).val, hb⟩ _ (off12 i h) _ d r).trans ?_
    rw [show 512 * (i 1).val + r.val = 512 * ((i 1).val - 1) + (512 + r.val) by omega]

theorem inv_L5 (e : Ext Ideal) (h : (i 1).val % 2 = 0) (I : Inv B S v (i 1).val (512 * (i 1).val) s.1 (cont B s.2)) :
    Inv B S v (i 1).val (512 * ((i 1).val + 1)) (L5 c i B X e s).1 (cont B (L5 c i B X e s).2) := by
  have hb : (i 1).val < 16 := (i 1).isLt
  have ht : 0 < (k0_t5_loop i).trips := by rw [trips5, h]; decide
  rw [L5_one c i B X e s h ⟨0, ht⟩ rfl, trip5R, trip5L]
  dsimp only
  rw [cont_app, show 512 * ((i 1).val + 1) = 512 * (i 1).val + 512 by omega]
  refine inv1 I le_rfl ![k0_pay54 _ _, k0_pay54 _ _] (fun g q j => ?_) _ (fun d r => ?_)
  · have hc : (512 * (i 1).val + j.val ≤ 512 * (i 1).val + q.val) ↔ j.val ≤ q.val := by omega
    rw [if_congr hc rfl rfl]
    fin_cases g
    · exact (masked1 _ _ j q).trans (by rw [sum_ld1 H (512 * (i 1).val) (by omega) 0 _ (off17 i) _ _ j q]; rfl)
    · exact (masked1 _ _ j q).trans (by rw [sum_ld1 H (512 * (i 1).val) (by omega) 1 _ (off18 i) _ _ j q]; rfl)
  · exact ld_val H ⟨(i 1).val, hb⟩ _ (off19 i) _ d r

/-- After all the loops. -/
theorem inv_all (w4 w6 : BitVec 32) (e3 e4 e5 e6 : Ext Ideal) (s' : State Ideal) (hs : s' = L1 c i B X s) (I : Inv B S v (i 1).val 0 s.1 (cont B s.2)) :
    Inv B S v (i 1).val (512 * ((i 1).val + 1)) (L6 c i B X w6 e6 (L5 c i B X e5 (L4 c i B X w4 e4 (L3 c i B X e3 s')))).1
      (cont B (L6 c i B X w6 e6 (L5 c i B X e5 (L4 c i B X w4 e4 (L3 c i B X e3 s')))).2) := by
  rw [L6_eq, L4_eq]
  have I1 := inv_L1 (c := c) H I
  rw [← hs] at I1
  rcases Nat.mod_two_eq_zero_or_one (i 1).val with h | h
  · rw [L3_zero c i B X e3 s' h]
    exact inv_L5 H e5 h (by rw [show 512 * (i 1).val = 1024 * ((i 1).val / 2) by omega]; exact I1)
  · rw [L5_zero c i B X e5 _ h]
    exact inv_L3 H e3 h (by rw [show 512 * ((i 1).val - 1) = 1024 * ((i 1).val / 2) by omega]; exact I1)
end

/-! ## What the body leaves in the two outputs -/

section
variable (c : Dev nD) (i : grid0.Coords) (B : Bufs) (x0 : Vec F S2x512x128 .bf16) (x1 : Vec F S2x8192x128 .bf16) (x2 : Vec F S1x16x128x512 .bf16)

abbrev ins : Ins F B where
  X2 := B.h2.unread x0
  X3 := B.h3.unread x1
  X4 := B.h4.unread x2

/-- What is there before the loops. -/
abbrev init : State F := ((k0_pay81, k0_pay81, k0_pay82, k0_pay82), [⟨Rect.unit (s := S2x128x512) ![0, 0, 0] S2x128x512.size inb_S2x128x512_S2x128x512_0_0_0, k0_pay80⟩])

/-- What is there after them: the later loops name words and values that do not matter. -/
abbrev last (w2 w4 w6 : BitVec 32) (e3 e4 e5 e6 : Ext F) : State F :=
  let X := ins B x0 x1 x2
  L6 c i B X w6 e6 (L5 c i B X e5 (L4 c i B X w4 e4 (L3 c i B X e3 (L2 c i B X w2 (L1 c i B X init)))))

set_option maxHeartbeats 4000000 in
theorem run : ∃ (w2 w4 w6 : BitVec 32) (e3 e4 e5 e6 : Ext F),
    (kernelRun0_A (F := F) c i B.a2 B.h2 B.a3 B.h3 B.a4 B.h4 B.a5 B.h5 B.a6 B.h6 B.a7 B.h7 x0 x1 x2).1
      = [⟨Rect.unit (s := S512x128) ![0, 0] S512x128.size inb_S512x128_S512x128_0_0,
          k0_pay87 (last c i B x0 x1 x2 w2 w4 w6 e3 e4 e5 e6).1.2.2.1 (last c i B x0 x1 x2 w2 w4 w6 e3 e4 e5 e6).1.2.2.2
            (A0 B (cont B (last c i B x0 x1 x2 w2 w4 w6 e3 e4 e5 e6).2)) (A1 B (cont B (last c i B x0 x1 x2 w2 w4 w6 e3 e4 e5 e6).2))⟩]
    ∧ (kernelRun0_A (F := F) c i B.a2 B.h2 B.a3 B.h3 B.a4 B.h4 B.a5 B.h5 B.a6 B.h6 B.a7 B.h7 x0 x1 x2).2.1
      = [⟨Rect.unit (s := S1x1x2x512) ![0, 0, 0, 0] S1x1x2x512.size inb_S1x1x2x512_S1x1x2x512_0_0_0_0,
          k0_pay1 (k0_pay88 (last c i B x0 x1 x2 w2 w4 w6 e3 e4 e5 e6).1.1 (last c i B x0 x1 x2 w2 w4 w6 e3 e4 e5 e6).1.2.1
            (last c i B x0 x1 x2 w2 w4 w6 e3 e4 e5 e6).1.2.2.1 (last c i B x0 x1 x2 w2 w4 w6 e3 e4 e5 e6).1.2.2.2)⟩] := by
  let e : Ext F := ⟨BitVec.ofNat 32 (i 1).val, kernelRun0_A.sl.r c i B.a2 B.h2 B.a3 B.h3 B.a4 B.h4 B.a5 B.h5 B.a6 B.h6 B.a7 B.h7 x0 x1 x2,
    kernelRun0_A.sl.r_1 c i B.a2 B.h2 B.a3 B.h3 B.a4 B.h4 B.a5 B.h5 B.a6 B.h6 B.a7 B.h7 x0 x1 x2, kernelRun0_A.sl.r_2 c i B.a2 B.h2 B.a3 B.h3 B.a4 B.h4 B.a5 B.h5 B.a6 B.h6 B.a7 B.h7 x0 x1 x2,
    kernelRun0_A.sl.r_3 c i B.a2 B.h2 B.a3 B.h3 B.a4 B.h4 B.a5 B.h5 B.a6 B.h6 B.a7 B.h7 x0 x1 x2, 2#32, kernelRun0_A.sl.v32 i, kernelRun0_A.sl.v33 i, kernelRun0_A.sl.v34 i⟩
  refine ⟨kernelRun0_A.sl.v27 i, kernelRun0_A.sl.v44 i, kernelRun0_A.sl.v52 i, e, e, e, e, ?_, ?_⟩
  · unfold kernelRun0_A; rfl
  · unfold kernelRun0_A; dsimp only; unfold kernelRun0_A.sl.r_4; rfl
end

end Cert.AfwdProof.Fold
end
-- ==== Proof.AfwdOut.lean ====
/- What a grid point of the attention forward leaves in its two outputs, as real numbers. -/
module

public import proofs.«01_k».proof.Proof.AfwdFold

@[expose] public section

set_option maxRecDepth 16384

noncomputable section

namespace Cert.AfwdProof.Row
open Idealize.ShloMosaic Cert.AttnProof.Cast

variable {ι : Type} {s : ℕ → ℝ} {v : ι → ℕ → ℝ} {R n : ℕ} {m l : EReal} {a : ι → EReal}

/-- The sum of the weights of the first `n` keys, and the weighted sum of the values. -/
def tot (s : ℕ → ℝ) (R n : ℕ) : ℝ := ∑ j ∈ Finset.range n, w s R 0 j
def num (s : ℕ → ℝ) (v : ι → ℕ → ℝ) (R n : ℕ) (d : ι) : ℝ := ∑ j ∈ Finset.range n, v d j * w s R 0 j

theorem sum_pos (hR : R < n) (μ : ℝ) : 0 < ∑ j ∈ Finset.range n, w s R μ j :=
  Finset.sum_pos' (fun j _ => w_nonneg s R μ j) ⟨R, Finset.mem_range.mpr hR, by unfold w; rw [if_pos le_rfl]; exact Real.exp_pos _⟩

theorem tot_shift (μ : ℝ) : tot s R n = Real.exp μ * ∑ j ∈ Finset.range n, w s R μ j := by
  unfold tot
  rw [Finset.mul_sum]
  exact Finset.sum_congr rfl fun j _ => by rw [← w_shift s R μ 0 j, sub_zero]

theorem num_shift (μ : ℝ) (d : ι) : num s v R n d = Real.exp μ * ∑ j ∈ Finset.range n, v d j * w s R μ j := by
  unfold num
  rw [Finset.mul_sum]
  exact Finset.sum_congr rfl fun j _ => by rw [← w_shift s R μ 0 j, sub_zero]; ring

/-- The quotient at the end does not depend on what the weights are relative to. -/
theorem quot (H : Row s v R n m l a) (hR : R < n) (d : ι) : Ideal.div (a d) l = ((num s v R n d / tot s R n : ℝ) : EReal) := by
  rcases H with ⟨h, _⟩ | ⟨μ, _, hl, ha⟩
  · omega
  · rw [hl, ha, div_real _ _ (sum_pos hR μ).ne', tot_shift μ, num_shift μ, mul_div_mul_left _ _ (Real.exp_pos μ).ne']

/-- Nor does the logarithm. -/
theorem logs (H : Row s v R n m l a) (hR : R < n) : m + Ideal.log l = ((Real.log (tot s R n) : ℝ) : EReal) := by
  rcases H with ⟨h, _⟩ | ⟨μ, hm, hl, _⟩
  · omega
  · rw [hl, hm, Ideal.log_coe, if_neg (not_le.mpr (sum_pos hR μ)), ← EReal.coe_add, tot_shift μ,
      Real.log_mul (Real.exp_pos μ).ne' (sum_pos hR μ).ne', Real.log_exp]

end Cert.AfwdProof.Row

namespace Cert.AfwdProof.Out

open Cert.AfwdProof.Row Cert.AfwdProof.Step Cert.AfwdProof.Trip Cert.AfwdProof.Fold Cert.AfwdIdeal Cert.AfwdIdeal.Gen Idealize.ShloMosaic Idealize.ShloMosaic.TcCoe
open Cert.AttnProof.Cast

variable {B : Bufs} {S : Fin 2 → Fin 512 → ℕ → ℝ} {v : Fin 128 → ℕ → ℝ}

/-- Nothing is held before the loops. -/
theorem inv_init (b : ℕ) : Inv B S v b 0 (init (F := Ideal)).1 (cont B (init (F := Ideal)).2) := by
  have hm (q : Fin 512) : (k0_pay81 (F := Ideal) (ix2 0 q) : EReal) = ⊥ := by
    pointwise [k0_pay81]
    exact lower
  have hl (q : Fin 512) : (k0_pay82 (F := Ideal) (ix2 0 q) : EReal) = 0 := by pointwise [k0_pay82]
  have ha (h : Fin 2) (d : Fin 128) (q : Fin 512) :
      (B.a7.view.read (Elt Ideal) (cont B (init (F := Ideal)).2) (ix3 h d q) : EReal) = 0 := by
    refine (congrFun (View.read_writes_full (Val := Elt Ideal) B.a7.view B.a7.view.junk inb_S2x128x512_S2x128x512_0_0_0 (k0_pay80 (F := Ideal)) []) (ix3 h d q)).trans ?_
    pointwise [k0_pay80]
  exact ⟨fun q => Or.inl ⟨rfl, hm q, hl q, fun d => ha 0 d q⟩, fun q => Or.inl ⟨rfl, hm q, hl q, fun d => ha 1 d q⟩⟩

variable (c : Dev nD) (i : grid0.Coords) (x0 : Vec Ideal S2x512x128 .bf16) (x1 : Vec Ideal S2x8192x128 .bf16) (x2 : Vec Ideal S1x16x128x512 .bf16)

/-- After the loops every query has seen all the keys it may. -/
theorem inv_last (H : Holds B (ins B x0 x1 x2) S v) (w2 w4 w6 : BitVec 32) (e3 e4 e5 e6 : Ext Ideal) :
    Inv B S v (i 1).val (512 * ((i 1).val + 1)) (last c i B x0 x1 x2 w2 w4 w6 e3 e4 e5 e6).1
      (cont B (last c i B x0 x1 x2 w2 w4 w6 e3 e4 e5 e6).2) := by
  refine inv_all H w4 w6 e3 e4 e5 e6 _ (L2_eq c i B _ _ _) (inv_init _)

/-- The output block. -/
theorem pay87_apply (l0 l1 : FVec Ideal S1x512 .f32) (a0 a1 : Vec Ideal S1x128x512 .f32) (q : Fin 512) (d : Fin 128) :
    (k0_pay87 l0 l1 a0 a1 (ix2 q d) : EReal)
      = if d.val < 64 then Ideal.div (a0 (ix3 0 d q)) (l0 (ix2 0 q)) else Ideal.div (a1 (ix3 0 d q)) (l1 (ix2 0 q)) := by
  have hb : ∀ d : Fin 128, IntOp.cmpi CmpIPredicate.slt (BitVec.ofNat 32 d.val) 64#32 = BitVec.ofBool (decide (d.val < 64)) := by decide +kernel
  pointwise [k0_pay87]
  rw [hb]
  by_cases h : d.val < 64
  · rw [if_pos h, decide_eq_true h]; rfl
  · rw [if_neg h, decide_eq_false h]; rfl

theorem pay88_apply (m0 m1 l0 l1 : FVec Ideal S1x512 .f32) (h : Fin 2) (q : Fin 512) :
    (k0_pay1 (k0_pay88 m0 m1 l0 l1) (ix4 0 0 h q) : EReal)
      = if h = 0 then (m0 (ix2 0 q) : EReal) + Ideal.log (l0 (ix2 0 q)) else (m1 (ix2 0 q) : EReal) + Ideal.log (l1 (ix2 0 q)) := by
  pointwise [k0_pay1, k0_pay88]
  obtain rfl | rfl : h = 0 ∨ h = 1 := by omega
  · rfl
  · rfl

theorem out3 (H : Holds B (ins B x0 x1 x2) S v) (q : Fin 512) (d : Fin 128) (h : Fin 2) (hd : h = 0 ↔ d.val < 64) :
    (out0_A_3 c i B.a2 B.h2 B.a3 B.h3 B.a4 B.h4 B.a5 B.h5 B.a6 B.h6 B.a7 B.h7 x0 x1 x2 (ix2 q d) : EReal)
      = ((num (S h q) v (512 * (i 1).val + q.val) (512 * ((i 1).val + 1)) d
          / tot (S h q) (512 * (i 1).val + q.val) (512 * ((i 1).val + 1)) : ℝ) : EReal) := by
  obtain ⟨w2, w4, w6, e3, e4, e5, e6, hr, -⟩ := run c i B x0 x1 x2
  have I := inv_last c i x0 x1 x2 H w2 w4 w6 e3 e4 e5 e6
  unfold out0_A_3
  rw [hr, View.read_writes_full]
  generalize last c i B x0 x1 x2 w2 w4 w6 e3 e4 e5 e6 = s at I
  refine (pay87_apply _ _ _ _ q d).trans ?_
  have hR : 512 * (i 1).val + q.val < 512 * ((i 1).val + 1) := by omega
  by_cases h0 : d.val < 64
  · obtain rfl := hd.mpr h0
    rw [if_pos h0, ← quot (I.one q) hR d]
    exact congrArg (fun x : EReal => Ideal.div x _) (ldA_apply B _ 0 _ d q)
  · obtain rfl : h = 1 := by have : ¬ h = 0 := fun e => h0 (hd.mp e); omega
    rw [if_neg h0, ← quot (I.two q) hR d]
    exact congrArg (fun x : EReal => Ideal.div x _) (ldA_apply B _ 1 _ d q)

theorem out4 (H : Holds B (ins B x0 x1 x2) S v) (h : Fin 2) (q : Fin 512) :
    (out0_A_4 c i B.a2 B.h2 B.a3 B.h3 B.a4 B.h4 B.a5 B.h5 B.a6 B.h6 B.a7 B.h7 x0 x1 x2 (ix4 0 0 h q) : EReal)
      = ((Real.log (tot (S h q) (512 * (i 1).val + q.val) (512 * ((i 1).val + 1))) : ℝ) : EReal) := by
  obtain ⟨w2, w4, w6, e3, e4, e5, e6, -, hr⟩ := run c i B x0 x1 x2
  have I := inv_last c i x0 x1 x2 H w2 w4 w6 e3 e4 e5 e6
  unfold out0_A_4
  rw [hr, View.read_writes_full]
  generalize last c i B x0 x1 x2 w2 w4 w6 e3 e4 e5 e6 = s at I
  refine (pay88_apply _ _ _ _ h q).trans ?_
  have hR : 512 * (i 1).val + q.val < 512 * ((i 1).val + 1) := by omega
  obtain rfl | rfl : h = 0 ∨ h = 1 := by omega
  · exact (if_pos rfl).trans (logs (I.one q) hR)
  · exact (if_neg one_ne_zero).trans (logs (I.two q) hR)

end Cert.AfwdProof.Out
end
-- ==== Proof.AfwdHost.lean ====
/- The host lines before the attention forward call, read as real numbers: the gate sums and the packed heads. -/
module

public import proofs.«01_k».proof.Proof.Gen.AfwdIdeal.Value
public import proofs.«01_k».proof.Proof.AttnHost
public import Idealize.ShloMosaic.Lib.StableHlo.ReadAt

@[expose] public section

set_option maxRecDepth 16384

noncomputable section

namespace Cert.AfwdProof.Host

open Cert.AfwdIdeal Cert.AfwdIdeal.Gen Idealize.ShloMosaic Idealize.ShloMosaic.TcCoe
open Cert.AttnProof.Real Cert.AttnProof.Cast
open Cert.AttnProof.Host (lsig_coe packQ packK extraQ extraK own_word place_word select_ofBool pair_head)

variable (m : (ℓ : Loc nD τ sig) → Buf (Elt Ideal) ℓ) (c : Dev nD)

abbrev argQ : Vec Ideal S8192x512 .f32 := m (c, Proc.tc.devRef main_arg0)
abbrev argK : Vec Ideal S8192x512 .f32 := m (c, Proc.tc.devRef main_arg1)
abbrev argV : Vec Ideal S8192x512 .f32 := m (c, Proc.tc.devRef main_arg2)
abbrev argL : Vec Ideal S8192x8 .f32 := m (c, Proc.tc.devRef main_arg3)
abbrev argB : Vec Ideal S1x8 .f32 := m (c, Proc.tc.devRef main_arg4)

/-- The arguments hold the real numbers of `D`. -/
structure Holds (D : Data) : Prop where
  q : ∀ R j, (argQ m c (ix2 R j) : EReal) = (D.q R j : EReal)
  k : ∀ R j, (argK m c (ix2 R j) : EReal) = (D.k R j : EReal)
  v : ∀ R j, (argV m c (ix2 R j) : EReal) = (D.v R j : EReal)
  x : ∀ R h, (argL m c (ix2 R h) : EReal) + (argB m c (ix2 0 h) : EReal) = (D.x R h : EReal)

variable {m c} {D : Data}

theorem gate_at (H : Holds m c D) (S : Fin 8192) (h : Fin 8) :
    (Host.reduceWindowAdd (F := Ideal) (φ := .f32) ![8192, 1] ![1, 1] ![8191, 0] ![0, 0]
      (subf
        (minimumf
          (addf (m (c, Proc.tc.devRef main_arg3))
            (broadcastInDim S8192x8 ![0, 1] bcast_S1x8_S8192x8_0_1 (m (c, Proc.tc.devRef main_arg4))))
          (broadcastInDim S8192x8 ![] bcast_S_S8192x8 (constant S_ FTy.f32 0#32)))
        (Host.log
          (addf (broadcastInDim S8192x8 ![] bcast_S_S8192x8 (constant S_ FTy.f32 1065353216#32))
            (Host.exp
              (Host.negf
                (Host.absf
                  (addf (m (c, Proc.tc.devRef main_arg3))
                    (broadcastInDim S8192x8 ![0, 1] bcast_S1x8_S8192x8_0_1 (m (c, Proc.tc.devRef main_arg4))))))))))
      (broadcastInDim S_ ![] bcast_S_S_ (constant S_ FTy.f32 0#32))
      reduceWindows_S8192x8_S8192x8_w8192s1p8191_0_w1s1p0_0 h_S_ (ix2 S h) : EReal) = (gate D S h : EReal) := by
  refine (cumsum _ _ _ _ ?_ S h).trans ?_
  · pointwise []
  · unfold gate
    rw [coe_sum]
    refine Finset.sum_congr rfl fun j _ => ?_
    rw [coe_ite, EReal.coe_zero]
    refine congrArg (fun z : EReal => if j ≤ S then z else 0) ?_
    pointwise []
    rw [Ideal.absf_def, H.x, lsig_coe]

theorem place_select (a : Fin 4) (b : Fin 2) (S : Fin 8192) (l : Fin 128) :
    (id (select (cmpi CmpIPredicate.eq (iotaInDim S4x2x8192x128 32 1)
        (broadcastInDim S4x2x8192x128 ![] bcast_S_S4x2x8192x128 (constantI S_ 32 0#32)))
      (broadcastInDim S4x2x8192x128 ![] bcast_S_S4x2x8192x128 (constantI S_ 32 64#32))
      (broadcastInDim S4x2x8192x128 ![] bcast_S_S4x2x8192x128 (constantI S_ 32 0#32))) : IVec S4x2x8192x128 32) (ix4 a b S l)
      = Scalar.select (IntOp.cmpi CmpIPredicate.eq (BitVec.ofNat 32 b.val) 0#32) 64#32 0#32 := by
  rw [id]
  pointwise []

theorem place_pick {α : Type} (p : Fin 8) (l : Fin 128) (S : Fin 8192) (a : Fin 4) (k : ℕ) (hk : k < 6)
    (hn : ¬ (p.val % 2 = 0 ↔ l.val < 64)) (hb : p.val % 2 < 2) (x y : α) :
    Scalar.select (IntOp.cmpi CmpIPredicate.eq (IntOp.subi (BitVec.ofNat 32 l.val)
      ((id (select (cmpi CmpIPredicate.eq (iotaInDim S4x2x8192x128 32 1)
          (broadcastInDim S4x2x8192x128 ![] bcast_S_S4x2x8192x128 (constantI S_ 32 0#32)))
        (broadcastInDim S4x2x8192x128 ![] bcast_S_S4x2x8192x128 (constantI S_ 32 64#32))
        (broadcastInDim S4x2x8192x128 ![] bcast_S_S4x2x8192x128 (constantI S_ 32 0#32))) : IVec S4x2x8192x128 32)
          (ix4 a ⟨p.val % 2, hb⟩ S l))) (BitVec.ofNat 32 k)) x y = if l.val % 64 = k then x else y := by
  rw [place_select, place_word p l ⟨k, hk⟩ hn, select_ofBool]

set_option maxHeartbeats 2000000 in
theorem qh_at (H : Holds m c D) (p : Fin 8) (S : Fin 8192) (l : Fin 128) :
    (V m c main_v84 (ix3 p S l) : EReal) = (packQ D p S l : EReal) := by
  unfold V
  after_reads_at
  simp only [gate_at H, pair_head]
  rw [own_word, select_ofBool]
  unfold packQ
  split
  · rw [eighth, EReal.coe_mul, ← H.q]
    rfl
  · rename_i hn
    rw [place_pick p l S _ 5 (by decide) hn, place_pick p l S _ 2 (by decide) hn, place_pick p l S _ 4 (by decide) hn, place_pick p l S _ 1 (by decide) hn, place_pick p l S _ 3 (by decide) hn,
      place_pick p l S _ 0 (by decide) hn]
    simp only [← EReal.coe_sub, sub_self]
    unfold extraQ
    simp only [coe_ite, EReal.coe_one, EReal.coe_zero]

set_option maxHeartbeats 2000000 in
theorem kh_at (H : Holds m c D) (p : Fin 8) (S : Fin 8192) (l : Fin 128) :
    (V m c main_v88 (ix3 p S l) : EReal) = (packK D p S l : EReal) := by
  unfold V
  after_reads_at
  simp only [gate_at H, pair_head]
  rw [own_word, select_ofBool]
  unfold packK
  split
  · rw [← H.k]
    rfl
  · rename_i hn
    rw [place_pick p l S _ 5 (by decide) hn, place_pick p l S _ 2 (by decide) hn, place_pick p l S _ 4 (by decide) hn, place_pick p l S _ 1 (by decide) hn, place_pick p l S _ 3 (by decide) hn,
      place_pick p l S _ 0 (by decide) hn]
    simp only [← EReal.coe_sub, ← EReal.coe_neg, sub_self, neg_zero]
    unfold extraK
    simp only [coe_ite, EReal.coe_one, EReal.coe_zero]

theorem v_at (H : Holds m c D) (S : Fin 8192) (j : Fin 512) : (V m c main_v4 (ix2 S j) : EReal) = (D.v S j : EReal) := by
  unfold V
  after_reads_at
  exact H.v S j

theorem vt_at (H : Holds m c D) (p : Fin 4) (b : Fin 16) (l : Fin 128) (r : Fin 512) :
    (V m c main_v90 (ix4 p b l r) : EReal) = (D.v ⟨512 * b.val + r.val, by omega⟩ ⟨128 * p.val + l.val, by omega⟩ : EReal) := by
  unfold V
  after_reads_at
  rw [← H.v]
  refine congrArg (argV m c) (funext fun a => Fin.ext ?_)
  match a with
  | ⟨0, _⟩ => show _ = 512 * b.val + r.val; simp; try omega
  | ⟨1, _⟩ => show _ = 128 * p.val + l.val; simp; try omega

end Cert.AfwdProof.Host
-- ==== Proof.AfwdFinal.lean ====
/- The attention forward kernel's two result arrays, as real numbers. -/
module

public import proofs.«01_k».proof.Proof.AfwdOut
public import proofs.«01_k».proof.Proof.AfwdHost
public import Idealize.ShloMosaic.Lib.Pipeline.ValueKit

@[expose] public section

set_option maxRecDepth 16384

noncomputable section

namespace Cert.AfwdProof.Final

open Cert.AfwdProof.Row Cert.AfwdProof.Step Cert.AfwdProof.Trip Cert.AfwdProof.Fold Cert.AfwdProof.Out Cert.AfwdProof.Host
open Cert.AfwdIdeal Cert.AfwdIdeal.Gen Idealize.ShloMosaic Idealize.ShloMosaic.TcCoe
open Cert.AttnProof.Real (Data weight total prob score lane head)
open Cert.AttnProof.Cast
open Cert.AttnProof.Host (packQ packK pack_score)

/-- The pair of heads and the block of queries of a grid point. -/
def pr (t : Fin cfg0.N) : Fin 4 := ⟨t.val / 16, by have : t.val < 64 := lt_of_lt_of_eq t.isLt N_0; omega⟩
def qb (t : Fin cfg0.N) : Fin 16 := ⟨t.val % 16, by omega⟩

/-- Head `h` of the pair `p`; lane `l` of the pair's 128 columns; row `r` of block `b`. -/
def hh (p : Fin 4) (h : Fin 2) : Fin 8 := ⟨2 * p.val + h.val, by omega⟩
def cl (p : Fin 4) (l : Fin 128) : Fin 512 := ⟨128 * p.val + l.val, by omega⟩
def row (b : Fin 16) (r : Fin 512) : Fin 8192 := ⟨512 * b.val + r.val, by omega⟩

theorem idx0 : ∀ t : Fin cfg0.N, win0_0.index t = ![t.val / 16, t.val % 16, 0] := by decide +kernel
theorem idx1 : ∀ t : Fin cfg0.N, win0_1.index t = ![t.val / 16, 0, 0] := by decide +kernel
theorem idx2 : ∀ t : Fin cfg0.N, win0_2.index t = ![t.val / 16, 0, 0, 0] := by decide +kernel
theorem idx3 : ∀ t : Fin cfg0.N, win0_3.index t = ![t.val % 16, t.val / 16] := by decide +kernel
theorem idx4 : ∀ t : Fin cfg0.N, win0_4.index t = ![t.val / 16, t.val % 16, 0, 0] := by decide +kernel

theorem read0 (A : Vec Ideal S8x8192x128 .bf16) (t : Fin cfg0.N) (h : Fin 2) (q : Fin 512) (l : Fin 128) :
    (((cfg0.win 0).blk t).view.read (Elt Ideal) A : _) (ix3 h q l) = A (ix3 (hh (pr t) h) (row (qb t) q) l) := by
  blk_ext [idx0 t, hh, pr, qb, row]
theorem read1 (A : Vec Ideal S8x8192x128 .bf16) (t : Fin cfg0.N) (h : Fin 2) (j : Fin 8192) (l : Fin 128) :
    (((cfg0.win 1).blk t).view.read (Elt Ideal) A : _) (ix3 h j l) = A (ix3 (hh (pr t) h) j l) := by
  blk_ext [idx1 t, hh, pr]
theorem read2 (A : Vec Ideal S4x16x128x512 .bf16) (t : Fin cfg0.N) (b : Fin 16) (d : Fin 128) (r : Fin 512) :
    (((cfg0.win 2).blk t).view.read (Elt Ideal) A : _) (ix4 0 b d r) = A (ix4 (pr t) b d r) := by
  blk_ext [idx2 t, pr]

theorem coord1 (t : Fin cfg0.N) : ((grid0.coords t) 1).val = (qb t).val := by
  have e := Pipeline.Grid.coords_val t 1 (S := 1) (B := 16) rfl rfl
  rw [Nat.div_one] at e
  exact e

/-! ## Sums over the keys seen are sums over all keys -/

/-- The scores of query `R` of head `h`, and the values of lane `y`, at every place. -/
def sc (D : Data) (h : Fin 8) (R : Fin 8192) (j : ℕ) : ℝ := if hj : j < 8192 then score D h R ⟨j, hj⟩ else 0
def vl (D : Data) (y : Fin 512) (j : ℕ) : ℝ := if hj : j < 8192 then D.v ⟨j, hj⟩ y else 0

theorem w_weight (D : Data) (h : Fin 8) (R S : Fin 8192) : w (sc D h R) R.val 0 S.val = weight D 0 h R S := by
  unfold w weight sc
  rw [dif_pos S.isLt]
  rfl

theorem sum_keys (f : ℕ → ℝ) (R : Fin 8192) (n : ℕ) (hn : R.val < n) (hn' : n ≤ 8192) (hf : ∀ j, R.val < j → f j = 0) :
    ∑ j ∈ Finset.range n, f j = ∑ S : Fin 8192, f S.val := by
  rw [← Finset.sum_range f]
  refine Finset.sum_subset (Finset.range_mono hn') fun j _ hj => hf j ?_
  rw [Finset.mem_range] at hj
  omega

theorem w_zero (s : ℕ → ℝ) (R : ℕ) (j : ℕ) (h : R < j) : w s R 0 j = 0 := by
  unfold w
  rw [if_neg (by omega)]

theorem tot_total (D : Data) (h : Fin 8) (R : Fin 8192) (n : ℕ) (hn : R.val < n) (hn' : n ≤ 8192) :
    tot (sc D h R) R.val n = total D 0 h R := by
  unfold tot total
  rw [sum_keys _ R n hn hn' fun j hj => w_zero _ _ _ hj]
  exact Finset.sum_congr rfl fun S _ => w_weight D h R S

theorem num_total {v : Fin 128 → ℕ → ℝ} {d : Fin 128} (D : Data) (h : Fin 8) (R : Fin 8192) (y : Fin 512) (hv : v d = vl D y) (n : ℕ) (hn : R.val < n) (hn' : n ≤ 8192) :
    num (sc D h R) v R.val n d / tot (sc D h R) R.val n = ∑ S, D.v S y * prob D h R S := by
  rw [tot_total D h R n hn hn']
  unfold num
  rw [sum_keys _ R n hn hn' fun j hj => by rw [w_zero _ _ _ hj, mul_zero], Finset.sum_div]
  refine Finset.sum_congr rfl fun S _ => ?_
  rw [w_weight, hv, mul_div_assoc]
  unfold vl
  rw [dif_pos S.isLt]
  rfl

/-! ## The grid points -/

variable (m : (ℓ : Loc nD τ sig) → Buf (Elt Ideal) ℓ) (c : Dev nD) {D : Data}

/-- The buffers of a grid point. -/
abbrev bufs (t : Fin cfg0.N) : Bufs where
  a2 := ms0_0 t
  h2 := hs0_0 t
  a3 := ms0_1 t
  h3 := hs0_1 t
  a4 := ms0_2 t
  h4 := hs0_2 t
  a5 := ms0_3 t
  h5 := hs0_3 t
  a6 := ms0_4 t
  h6 := hs0_4 t
  a7 := scM0_0
  h7 := Memref.isWhole_whole _

theorem holds (H : Cert.AfwdProof.Host.Holds m c D) (t : Fin cfg0.N) :
    Cert.AfwdProof.Trip.Holds (bufs t) (ins (bufs t) (iblk m c 0 t) (iblk m c 1 t) (iblk m c 2 t))
      (fun h q => sc D (hh (pr t) h) (row (qb t) q)) (fun d => vl D (cl (pr t) d)) where
  score := fun h j hj q => by
    have e1 (l : Fin 128) : ((bufs t).a3.view.read (Elt Ideal) ((bufs t).h3.unread (iblk m c 1 t)) (ix3 h ⟨j, hj⟩ l) : EReal)
        = (packK D (hh (pr t) h) ⟨j, hj⟩ l : EReal) := by
      rw [(bufs t).h3.read_unread]
      exact (read1 _ t h ⟨j, hj⟩ l).trans (kh_at H _ _ _)
    have e2 (l : Fin 128) : ((bufs t).a2.view.read (Elt Ideal) ((bufs t).h2.unread (iblk m c 0 t)) (ix3 h q l) : EReal)
        = (packQ D (hh (pr t) h) (row (qb t) q) l : EReal) := by
      rw [(bufs t).h2.read_unread]
      exact (read0 _ t h q l).trans (qh_at H _ _ _)
    simp only [e1, e2, ← EReal.coe_mul]
    rw [← coe_sum, pack_score]
    unfold sc
    rw [dif_pos hj]
  vals := fun d b r => by
    refine (congrFun ((bufs t).h4.read_unread _) (ix4 0 b d r)).trans ?_
    refine (read2 _ t b d r).trans ((vt_at H _ _ _ _).trans ?_)
    unfold vl
    rw [dif_pos (show 512 * b.val + r.val < 8192 by omega)]
    rfl

theorem lane_half (p : Fin 4) (d : Fin 128) :
    ∃ h : Fin 2, (h = 0 ↔ d.val < 64) ∧ hh p h = head (cl p d) := by
  refine ⟨⟨d.val / 64, by omega⟩, ?_, Fin.ext ?_⟩
  · rw [Fin.ext_iff]
    show d.val / 64 = 0 ↔ _
    omega
  · show 2 * p.val + d.val / 64 = (128 * p.val + d.val) / 64
    omega

theorem row_lt (b : Fin 16) (q : Fin 512) : (row b q).val < 512 * (b.val + 1) := by
  show 512 * b.val + q.val < _
  omega

theorem block_le (b : Fin 16) : 512 * (b.val + 1) ≤ 8192 := by omega

set_option maxHeartbeats 2000000 in
theorem block3 (H : Cert.AfwdProof.Host.Holds m c D) (t : Fin cfg0.N) (q : Fin 512) (d : Fin 128) :
    ((outsAt0 m c t).1 (ix2 q d) : EReal)
      = ((∑ S, D.v S (cl (pr t) d) * prob D (head (cl (pr t) d)) (row (qb t) q) S : ℝ) : EReal) := by
  obtain ⟨h, hd, e⟩ := lane_half (pr t) d
  rw [← e]
  unfold outsAt0
  dsimp only
  refine (out3 (B := bufs t) c (grid0.coords t) _ _ _ (holds m c H t) q d h hd).trans ?_
  rw [coord1]
  exact congrArg _ (num_total D (hh (pr t) h) (row (qb t) q) (cl (pr t) d) rfl _ (row_lt _ _) (block_le _))

set_option maxHeartbeats 2000000 in
theorem block4 (H : Cert.AfwdProof.Host.Holds m c D) (t : Fin cfg0.N) (h : Fin 2) (q : Fin 512) :
    ((outsAt0 m c t).2 (ix4 0 0 h q) : EReal) = ((_root_.Real.log (total D 0 (hh (pr t) h) (row (qb t) q)) : ℝ) : EReal) := by
  unfold outsAt0
  dsimp only
  refine (out4 (B := bufs t) c (grid0.coords t) _ _ _ (holds m c H t) h q).trans ?_
  rw [coord1]
  exact congrArg (fun x : ℝ => ((_root_.Real.log x : ℝ) : EReal))
    (tot_total D (hh (pr t) h) (row (qb t) q) _ (row_lt _ _) (block_le _))

/-- The output of a query, entry by entry. -/
def out (D : Data) (R : Fin 8192) (y : Fin 512) : EReal := ((∑ S, D.v S y * prob D (head y) R S : ℝ) : EReal)

/-! ## The arrays -/

theorem final3 (H : Cert.AfwdProof.Host.Holds m c D) : (dats m 0 c).arrAt 3 cfg0.N
    = fun y : S8192x512.Idx => out D (y 0) (y 1) := by
  refine (dats m 0 c).arrAt_eq_of_covers 3 _ (by decide +kernel) fun t hf y => ?_
  blk_simp
  rw [after0_3]
  obtain ⟨q, d, rfl⟩ : ∃ q d, y = ix2 q d := ⟨_, _, eq_ix2 y⟩
  refine (block3 m c H t q d).trans (show out D (row (qb t) q) (cl (pr t) d) = _ from ?_)
  congr 1
  · apply Fin.ext; blk_simp [idx3 t, qb, row]; dsimp only; omega
  · apply Fin.ext; blk_simp [idx3 t, pr, cl]; dsimp only; omega

theorem final4 (H : Cert.AfwdProof.Host.Holds m c D) : (dats m 0 c).arrAt 4 cfg0.N
    = fun y : S4x16x2x512.Idx => ((_root_.Real.log (total D 0 (hh (y 0) (y 2)) (row (y 1) (y 3))) : ℝ) : EReal) := by
  refine (dats m 0 c).arrAt_eq_of_covers 4 _ (by decide +kernel) fun t hf y => ?_
  blk_simp
  rw [after0_4]
  obtain ⟨z, z', h, q, rfl⟩ : ∃ z z' h q, y = ix4 z z' h q := ⟨_, _, _, _, eq_ix4 y⟩
  obtain rfl : z = 0 := Subsingleton.elim _ _
  obtain rfl : z' = 0 := Subsingleton.elim _ _
  refine (block4 m c H t h q).trans ?_
  congr 4
  · apply Fin.ext; blk_simp [idx4 t, pr]; exact (Nat.add_zero _).symm
  · apply Fin.ext; blk_simp [idx4 t]
  · apply Fin.ext; blk_simp [idx4 t, qb]; exact (Nat.add_zero _).symm
  · apply Fin.ext; blk_simp [idx4 t]

end Cert.AfwdProof.Final
end
-- ==== Proof.AfwdReference.lean ====
/- The reference of the attention forward, read as real numbers. -/
module

public import proofs.«01_k».proof.Proof.Gen.AfwdRefIdeal.Run
public import proofs.«01_k».proof.Proof.Gen.AfwdRefIdeal.Read
public import proofs.«01_k».proof.Proof.AttnReference

@[expose] public section

set_option maxRecDepth 16384

noncomputable section

namespace Cert.AfwdProof.Reference

open Cert.AfwdRefIdeal Cert.AfwdRefIdeal.Gen Cert.AfwdRefIdeal.Read Idealize.ShloMosaic Idealize.ShloMosaic.TcCoe
open Cert.AttnProof.Real Cert.AttnProof.Cast Cert.AttnProof.Reference

variable {D : Data} {x0 x1 x2 : Vec Ideal S8192x512 .f32} {x3 : Vec Ideal S8192x8 .f32} {x4 : Vec Ideal S1x8 .f32}
  {x5 : Vec Ideal S8192x512 .f32}

/-- The masked scores are those of the backward's reference. -/
theorem same21 : (val_main_v21 (F := Ideal) x0 x1 x3 x4 : FVec Ideal S8x8192x8192 .f32) = Cert.AttnRefIdeal.Read.val_main_v21_0 (F := Ideal) x0 x1 x3 x4 := rfl

/-- So are the probabilities. -/
theorem same32 : (val_main_v32 (F := Ideal) x0 x1 x3 x4 : FVec Ideal S8x8192x8192 .f32) = Cert.AttnRefIdeal.Read.val_main_v46 (F := Ideal) x0 x1 x3 x4 := rfl

/-- So are the largest scores. -/
theorem same36 : (val_main_v36 (F := Ideal) x0 x1 x3 x4 : FVec Ideal S8x8192 .f32) = Cert.AttnRefIdeal.Read.val_main_v22 (F := Ideal) x0 x1 x3 x4 := rfl

theorem o32 (H : Holds D x0 x1 x2 x3 x4 x5) (h : Fin 8) (R S : Fin 8192) :
    (val_main_v32 (F := Ideal) x0 x1 x3 x4 (ix3 h R S) : EReal) = (prob D h R S : EReal) :=
  (congrFun same32 (ix3 h R S)).trans (r46 H h R S)

theorem o35 (H : Holds D x0 x1 x2 x3 x4 x5) (R : Fin 8192) (j : Fin 512) :
    (val_main_v35 (F := Ideal) x0 x1 x2 x3 x4 (ix2 R j) : EReal) = ((∑ S, D.v S j * prob D (head j) R S : ℝ) : EReal) := by
  pointwise [val_main_v6, val_main_v33, val_main_v34, val_main_v35]
  simp only [o32 H]
  rw [coe_sum]
  simp only [EReal.coe_mul, ← H.v]
  refine Finset.sum_congr rfl fun S _ => congrArg₂ (· * ·) (congrArg x2 (funext fun a => Fin.ext ?_)) ?_
  · match a with
    | ⟨0, _⟩ => show _ = S.val; simp; try omega
    | ⟨1, _⟩ => show _ = j.val; simp; try omega
  · rfl

theorem o40 (H : Holds D x0 x1 x2 x3 x4 x5) (h : Fin 8) (R S : Fin 8192) :
    (val_main_v40 (F := Ideal) x0 x1 x3 x4 (ix3 h R S) : EReal) = (weight D (peak H h R) h R S : EReal) := by
  have e36 : (val_main_v36 (F := Ideal) x0 x1 x3 x4 (ix2 h R) : EReal) = (peak H h R : EReal) :=
    (congrFun same36 (ix2 h R)).trans (r22' H h R)
  have e21 : (val_main_v21 (F := Ideal) x0 x1 x3 x4 (ix3 h R S) : EReal) = if S ≤ R then (score D h R S : EReal) else ⊥ :=
    (congrFun same21 (ix3 h R S)).trans (r21 H h R S)
  have e : (val_main_v38 (F := Ideal) x0 x1 x3 x4 (ix3 h R S) : EReal) = (peak H h R : EReal) := by
    refine Eq.trans ?_ e36
    unfold val_main_v38 val_main_v37
    generalize val_main_v36 (F := Ideal) x0 x1 x3 x4 = y
    exact r40 y h R S
  rw [val_main_v40_apply, val_main_v39_apply, e, e21]
  show Ideal.exp ((if S ≤ R then (score D h R S : EReal) else ⊥) - (peak H h R : EReal)) = _
  unfold weight
  split
  · rw [← EReal.coe_sub, Ideal.exp_coe]
  · rw [EReal.bot_sub, Ideal.exp_bot, EReal.coe_zero]

/-- The log of a row's sum does not see what was subtracted. -/
theorem log_total (M : ℝ) (h : Fin 8) (R : Fin 8192) :
    M + _root_.Real.log (total D M h R) = _root_.Real.log (total D 0 h R) := by
  rw [total_scale, _root_.Real.log_mul (total_pos D 0 h R).ne' (_root_.Real.exp_pos _).ne', _root_.Real.log_exp]
  ring

theorem o43 (H : Holds D x0 x1 x2 x3 x4 x5) (h : Fin 8) (R : Fin 8192) :
    (val_main_v43 (F := Ideal) x0 x1 x3 x4 (ix2 h R) : EReal) = (_root_.Real.log (total D 0 h R) : EReal) := by
  have e36 : (val_main_v36 (F := Ideal) x0 x1 x3 x4 (ix2 h R) : EReal) = (peak H h R : EReal) :=
    (congrFun same36 (ix2 h R)).trans (r22' H h R)
  have e41 : (val_main_v41 (F := Ideal) x0 x1 x3 x4 (ix2 h R) : EReal) = (total D (peak H h R) h R : EReal) := by
    pointwise [val_main_cst_5, val_main_v41]
    simp only [o40 H]
    unfold total
    rw [coe_sum]
  rw [val_main_v43_apply, val_main_v42_apply, e36, e41]
  show (peak H h R : EReal) + Ideal.log (total D (peak H h R) h R : EReal) = _
  rw [Ideal.log_coe, if_neg (not_le.mpr (total_pos D _ h R)), ← EReal.coe_add, log_total]

theorem o45 (H : Holds D x0 x1 x2 x3 x4 x5) (p : Fin 4) (b : Fin 16) (h : Fin 2) (r : Fin 512) :
    (val_main_v45 (F := Ideal) x0 x1 x3 x4 (ix4 p b h r) : EReal)
      = (_root_.Real.log (total D 0 ⟨2 * p.val + h.val, by omega⟩ ⟨512 * b.val + r.val, by omega⟩) : EReal) := by
  rw [← o43 H]
  unfold val_main_v45 val_main_v44
  generalize val_main_v43 (F := Ideal) x0 x1 x3 x4 = y
  pointwise []
  refine congrArg y (funext fun a => Fin.ext ?_)
  match a with
  | ⟨0, _⟩ => show _ = 2 * p.val + h.val; simp; try omega
  | ⟨1, _⟩ => show _ = 512 * b.val + r.val; simp; try omega

end Cert.AfwdProof.Reference
end
-- ==== Proof.AfwdClaim.lean ====
/- The attention forward call: from finite arguments its two results are the attention output and the row log-sums. -/
module

public import proofs.«01_k».proof.Proof.AfwdFinal
public import proofs.«01_k».proof.Proof.AfwdReference
public import proofs.«01_k».proof.Proof.AttnClaim

@[expose] public section

set_option maxRecDepth 16384

noncomputable section

namespace Cert.AfwdProof.Claim

open Idealize.ShloMosaic Idealize.ShloMosaic.TcCoe Idealize.SL.Sem
open Cert.AttnProof.Real (Data total)
open Cert.AttnProof.Claim (real_of_all and_one)
open Cert.AfwdRefIdeal.Read

/-- The side conditions of the precondition. -/
theorem finite_facts : Cert.Pre_finite_inputs.Facts where
  bcast_S_S8192x512 := by decide
  reducesTo_S8192x512_S_d0_1 := by decide
  h_S_ := by decide
  bcast_S_S8192x8 := by decide
  reducesTo_S8192x8_S_d0_1 := by decide
  bcast_S_S1x8 := by decide
  reducesTo_S1x8_S_d0_1 := by decide

variable {m : (ℓ : Loc Cert.AfwdIdeal.nD Cert.AfwdIdeal.τ Cert.AfwdIdeal.sig) → Buf (Elt Ideal) ℓ}

/-- From finite arguments, the real numbers the arguments hold; the cotangent has no part here. -/
theorem data (hpre : Cert.Pre_AfwdIdeal_finite_inputs (hPre_finite_inputs := finite_facts) m) (c : Dev Cert.AfwdIdeal.nD) :
    ∃ D : Data, Host.Holds m c D ∧ D.d = fun _ _ => 0 := by
  have h := congrFun (hpre c) (fun i => i.elim0)
  dsimp only [Cert.Pre_finite_inputs.fn, Cert.Pre_finite_inputs.fn_part1] at h
  obtain ⟨h, h4⟩ := and_one h
  obtain ⟨h, h3⟩ := and_one h
  obtain ⟨h, h2⟩ := and_one h
  obtain ⟨h0, h1⟩ := and_one h
  choose f0 e0 using real_of_all (Host.argQ m c) _ _ _ _ h0
  choose f1 e1 using real_of_all (Host.argK m c) _ _ _ _ h1
  choose f2 e2 using real_of_all (Host.argV m c) _ _ _ _ h2
  choose f3 e3 using real_of_all (Host.argL m c) _ _ _ _ h3
  choose f4 e4 using real_of_all (Host.argB m c) _ _ _ _ h4
  exact ⟨⟨fun R j => f0 (ix2 R j), fun R j => f1 (ix2 R j), fun R j => f2 (ix2 R j), fun _ _ => 0,
      fun R h => f3 (ix2 R h) + f4 (ix2 0 h)⟩,
    ⟨fun R j => e0 _, fun R j => e1 _, fun R j => e2 _, fun R h => by rw [e3, e4, EReal.coe_add]⟩, rfl⟩

/-- The same real numbers in the reference's arguments. -/
theorem agree {c : Dev Cert.AfwdIdeal.nD} {D : Data} (H : Host.Holds m c D) (hd : D.d = fun _ _ => 0) :
    Cert.AttnProof.Reference.Holds D (Host.argQ m c) (Host.argK m c) (Host.argV m c) (Host.argL m c) (Host.argB m c) (fun _ => (0 : EReal)) :=
  ⟨H.q, H.k, H.v, fun R j => by rw [hd]; rfl, H.x⟩

/-- The reference runs and leaves its arguments unchanged. -/
theorem frame_reference : Cert.quiescent_AfwdRefIdeal := fun m ρ _ =>
  (θ_run Cert.AfwdRefIdeal.defs _ _).mono (fun r h => ⟨fun c => (h c).2.2,
      Idealize.ShloMosaic.sem_eq_zero_of_no_sems (by decide) r.2⟩)
    (Cert.AfwdRefIdeal.Value.run (F := Ideal) m ρ)

section Results

variable {c : Dev Cert.AfwdIdeal.nD} {D : Data} (H : Host.Holds m c D) (hd : D.d = fun _ _ => 0)
include H hd

theorem result_o (R : Fin 8192) (j : Fin 512) :
    (val_main_v35 (F := Ideal) (Host.argQ m c) (Host.argK m c) (Host.argV m c) (Host.argL m c) (Host.argB m c) (ix2 R j) : EReal)
      = Final.out D R j := Reference.o35 (agree H hd) R j

theorem result_s (p : Fin 4) (b : Fin 16) (h : Fin 2) (r : Fin 512) :
    (val_main_v45 (F := Ideal) (Host.argQ m c) (Host.argK m c) (Host.argL m c) (Host.argB m c) (ix4 p b h r) : EReal)
      = ((_root_.Real.log (total D 0 (Final.hh p h) (Final.row b r)) : ℝ) : EReal) := Reference.o45 (agree H hd) p b h r

end Results

set_option maxHeartbeats 2000000 in
theorem algebraic : Cert.algebraic_AfwdIdeal_AfwdRefIdeal_pre_finite_inputs (hPre_finite_inputs := finite_facts) := by
  intro m ρ m' ρ' hpre hagree
  choose D H hd using data hpre
  refine ⟨fun c y => Final.out (D c) (y 0) (y 1),
    fun c y => ((_root_.Real.log (total (D c) 0 (Final.hh (y 0) (y 2)) (Final.row (y 1) (y 3))) : ℝ) : EReal), ?_, ?_⟩
  · refine (θ_run Cert.AfwdIdeal.defs _ _).mono (fun _ h c => ?_) (Cert.AfwdIdeal.Value.run_blocks (F := Ideal) m ρ)
    exact ⟨(h c).1.trans (Final.final3 m c (H c)), (h c).2.1.trans (Final.final4 m c (H c)), (h c).2.2⟩
  · refine (θ_run Cert.AfwdRefIdeal.defs _ _).mono (fun _ h c => ?_) (Cert.AfwdRefIdeal.Value.run (F := Ideal) m' ρ')
    obtain ⟨h0, h1, h2, h3, h4⟩ := hagree c
    refine ⟨(h c).1.trans ?_, (h c).2.1.trans ?_, (h c).2.2⟩
    · rw [val_main_v35_eq, h0, h1, h2, h3, h4]
      funext y
      exact (congrArg _ (eq_ix2 y)).trans (result_o (H c) (hd c) (y 0) (y 1))
    · rw [val_main_v45_eq, h0, h1, h3, h4]
      funext y
      exact (congrArg _ (eq_ix4 y)).trans (result_s (H c) (hd c) (y 0) (y 1) (y 2) (y 3))

end Cert.AfwdProof.Claim
end
-- ==== Proof.PartsKernel.lean ====
/- The projection forward kernel: its ten result arrays as functions of its arguments. -/
module

public import proofs.«01_k».proof.Proof.Gen.PartsIdeal.Value
public import proofs.«01_k».proof.Proof.ProjBlock
public import Idealize.ShloMosaic.Lib.Pipeline.ValueKit
public import Idealize.ShloMosaic.Lib.StableHlo.ReadAt

@[expose] public section

set_option maxRecDepth 16384

noncomputable section

namespace Cert.PartsProof.Kernel

open Cert.PartsIdeal Cert.PartsIdeal.Gen Idealize.ShloMosaic Idealize.ShloMosaic.TcCoe
open Cert.ProjProof.Block (inv cut_512 cut_1024)
open Cert.ProjProof.Out (hz)

/-- An entry of the modulated row: the entry over the row's root mean square, by the norm's weight, by one more than the scale,
plus the shift. -/
def modulated (x : Fin 1024 → EReal) (g s h : Fin 1024 → EReal) (d : Fin 1024) : EReal := x d * inv x * g d * (1 + s d) + h d

theorem pay3_apply (x : Vec Ideal S256x1024 .f32) (g s h : Vec Ideal S1x1024 .f32) (r : Fin 256) (d : Fin 1024) :
    (k0_pay3 (F := Ideal) x g s h (ix2 r d) : EReal)
      = modulated (fun d => x (ix2 r d)) (fun d => g (ix2 0 d)) (fun d => s (ix2 0 d)) (fun d => h (ix2 0 d)) d := by
  pointwise [k0_pay3]
  rfl

theorem pay4_apply (x : Vec Ideal S256x1024 .f32) (g s h : Vec Ideal S1x1024 .f32) (r : Fin 256) (d : Fin 1024) :
    (k0_pay4 (F := Ideal) x g s h (ix2 r d) : EReal)
      = modulated (fun d => x (ix2 r d)) (fun d => g (ix2 0 d)) (fun d => s (ix2 0 d)) (fun d => h (ix2 0 d)) d :=
  pay3_apply x g s h r d

section Products
variable (a : FVec Ideal S256x1024 .bf16) (w : Vec Ideal S1024x512 .bf16) (w' : Vec Ideal S1024x1024 .bf16) (r : Fin 256)

theorem pay8_apply (k : Fin 512) : (k0_pay8 (F := Ideal) a w (ix2 r k) : EReal) = ∑ d : Fin 1024, a (ix2 r d) * w (ix2 d k) := by
  pointwise [k0_pay8]
theorem pay9_apply (k : Fin 512) : (k0_pay9 (F := Ideal) a w (ix2 r k) : EReal) = ∑ d : Fin 1024, a (ix2 r d) * w (ix2 d k) := by
  pointwise [k0_pay9]
theorem pay12_apply (k : Fin 1024) : (k0_pay12 (F := Ideal) a w' (ix2 r k) : EReal) = ∑ d : Fin 1024, a (ix2 r d) * w' (ix2 d k) := by
  pointwise [k0_pay12]
theorem pay13_apply (k : Fin 1024) :
    (k0_pay1 (F := Ideal) a (k0_pay13 w') (ix2 r k) : EReal) = ∑ d : Fin 1024, a (ix2 r d) * w' (ix2 d k) := by
  pointwise [k0_pay1, k0_pay13]
theorem pay2_apply (b : FVec Ideal S256x1024 .f32) (v : Vec Ideal S1024x8 .f32) (k : Fin 8) :
    (k0_pay2 (F := Ideal) b v (ix2 r k) : EReal) = ∑ d : Fin 1024, b (ix2 r d) * v (ix2 d k) := by
  pointwise [k0_pay2]

end Products

theorem pay5_apply (x : Vec Ideal S256x1024 .f32) (g s h : Vec Ideal S1x1024 .f32) (w : Vec Ideal S1024x512 .bf16) (r : Fin 256)
    (k : Fin 512) : (k0_pay5 (F := Ideal) x g s h w (ix2 r k) : EReal)
      = (∑ d : Fin 1024, k0_pay4 (F := Ideal) x g s h (ix2 r d) * w (ix2 d k)) * Ideal.ofBits FTy.f32 0x3E000000#32 := by
  unfold k0_pay5
  generalize k0_pay4 (F := Ideal) x g s h = a
  pointwise []

theorem pay7_apply (x : Vec Ideal S256x1024 .f32) (g s h : Vec Ideal S1x1024 .f32) (w : Vec Ideal S1024x512 .bf16) (r : Fin 256)
    (k : Fin 512) : (k0_pay7 (F := Ideal) (k0_pay6 x g s h w) (ix2 r k) : EReal)
      = ∑ d : Fin 1024, k0_pay4 (F := Ideal) x g s h (ix2 r d) * w (ix2 d k) := by
  unfold k0_pay7 k0_pay6
  generalize k0_pay4 (F := Ideal) x g s h = a
  pointwise []

variable (m : (ℓ : Loc nD τ sig) → Buf (Elt Ideal) ℓ) (c : Dev nD)

abbrev argX : Vec Ideal S8192x1024 .f32 := m (c, Proc.tc.devRef main_arg0)
abbrev argH : Vec Ideal S1x1024 .f32 := m (c, Proc.tc.devRef main_arg1)
abbrev argS : Vec Ideal S1x1024 .f32 := m (c, Proc.tc.devRef main_arg2)
abbrev argG : Vec Ideal S1x1024 .f32 := m (c, Proc.tc.devRef main_arg3)
abbrev argW : Vec Ideal S1024x5128 .f32 := m (c, Proc.tc.devRef main_arg4)

/-- The row of the arrays that is row `r` of the block at point `t`. -/
def row (t : Fin cfg0.N) (r : Fin 256) : Fin 8192 :=
  ⟨256 * t.val + r.val, by have : t.val < 32 := lt_of_lt_of_eq t.isLt N_0; omega⟩

/-! The blocks of the arguments. -/

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![t.val, 0] := by decide +kernel
theorem idx9 : ∀ t : Fin cfg0.N, win0_9.index t = ![t.val, 0] := by decide +kernel
theorem idx10 : ∀ t : Fin cfg0.N, win0_10.index t = ![t.val, 0] := by decide +kernel
theorem idx11 : ∀ t : Fin cfg0.N, win0_11.index t = ![t.val, 0] := by decide +kernel
theorem idx12 : ∀ t : Fin cfg0.N, win0_12.index t = ![t.val, 0] := by decide +kernel
theorem idx13 : ∀ t : Fin cfg0.N, win0_13.index t = ![t.val, 0] := by decide +kernel
theorem idx14 : ∀ t : Fin cfg0.N, win0_14.index t = ![t.val, 0] := by decide +kernel
theorem idx15 : ∀ t : Fin cfg0.N, win0_15.index t = ![t.val, 0] := by decide +kernel

theorem block0 (t : Fin cfg0.N) (r : Fin 256) (k : Fin 1024) : (iblk m c 0 t (ix2 r k) : EReal) = argX m c (ix2 (row t r) k) := by
  have e : ∀ A : Vec Ideal S8192x1024 .f32, (((cfg0.win 0).blk t).view.read (Elt Ideal) A : _) (ix2 r k) = A (ix2 (row t r) k) := by
    intro A
    blk_ext [idx0 t, row]
  exact (e (V m c main_arg0)).trans (congrFun (V_main_arg0 m c) _)
theorem block1 (t : Fin cfg0.N) (k : Fin 1024) : (iblk m c 1 t (ix2 0 k) : EReal) = argH m c (ix2 0 k) := by
  have e : ∀ A : Vec Ideal S1x1024 .f32, (((cfg0.win 1).blk t).view.read (Elt Ideal) A : _) (ix2 0 k) = A (ix2 0 k) := by
    intro A
    blk_ext [idx1 t]
  exact (e (V m c main_arg1)).trans (congrFun (V_main_arg1 m c) _)
theorem block2 (t : Fin cfg0.N) (k : Fin 1024) : (iblk m c 2 t (ix2 0 k) : EReal) = argS m c (ix2 0 k) := by
  have e : ∀ A : Vec Ideal S1x1024 .f32, (((cfg0.win 2).blk t).view.read (Elt Ideal) A : _) (ix2 0 k) = A (ix2 0 k) := by
    intro A
    blk_ext [idx2 t]
  exact (e (V m c main_arg2)).trans (congrFun (V_main_arg2 m c) _)
theorem block3 (t : Fin cfg0.N) (k : Fin 1024) : (iblk m c 3 t (ix2 0 k) : EReal) = argG m c (ix2 0 k) := by
  have e : ∀ A : Vec Ideal S1x1024 .f32, (((cfg0.win 3).blk t).view.read (Elt Ideal) A : _) (ix2 0 k) = A (ix2 0 k) := by
    intro A
    blk_ext [idx3 t]
  exact (e (V m c main_arg3)).trans (congrFun (V_main_arg3 m c) _)

theorem read4 (A : Vec Ideal S1024x5120 .bf16) (t : Fin cfg0.N) (d : Fin 1024) (k : Fin 5120) :
    (((cfg0.win 4).blk t).view.read (Elt Ideal) A : _) (ix2 d k) = A (ix2 d k) := by
  blk_ext [idx4 t]

/-- The weight without the forget gate's columns, before them and after them. -/
theorem block4_low (t : Fin cfg0.N) (d : Fin 1024) (k : Fin 5120) (j : Fin 5128) (h : k.val < 1536) (hj : k.val = j.val) :
    (iblk m c 4 t (ix2 d k) : EReal) = argW m c (ix2 d j) := by
  obtain ⟨j, hb⟩ := j
  dsimp only at hj
  subst hj
  refine (read4 (V m c main_v3) t d k).trans ?_
  unfold V
  after_reads_at
  pointwise []
  rw [dif_pos h]

theorem block4_high (t : Fin cfg0.N) (d : Fin 1024) (k : Fin 5120) (j : Fin 5128) (h : ¬ k.val < 1536) (hj : k.val + 8 = j.val) :
    (iblk m c 4 t (ix2 d k) : EReal) = argW m c (ix2 d j) := by
  obtain ⟨j, hb⟩ := j
  dsimp only at hj
  subst hj
  refine (read4 (V m c main_v3) t d k).trans ?_
  unfold V
  after_reads_at
  pointwise []
  rw [dif_neg h]
  congr 3
  omega

/-- The forget gate's columns of the weight. -/
theorem block5 (t : Fin cfg0.N) (d : Fin 1024) (k : Fin 8) :
    (iblk m c 5 t (ix2 d k) : EReal) = argW m c (ix2 d ⟨1536 + k.val, by omega⟩) := by
  have e : ∀ A : Vec Ideal S1024x8 .f32, (((cfg0.win 5).blk t).view.read (Elt Ideal) A : _) (ix2 d k) = A (ix2 d k) := by
    intro A
    blk_ext [idx5 t]
  refine (e (V m c main_v5)).trans ?_
  unfold V
  after_reads_at

/-- The modulated row `R`. -/
def hrow (R : Fin 8192) (d : Fin 1024) : EReal :=
  modulated (fun d => argX m c (ix2 R d)) (fun d => argG m c (ix2 0 d)) (fun d => argS m c (ix2 0 d)) (fun d => argH m c (ix2 0 d)) d

/-- The `n` columns from `o` on of the product of the modulated rows and the weight. -/
def part (n o : ℕ) (h : o + n ≤ 5128) (R : Fin 8192) (k : Fin n) : EReal :=
  ∑ d : Fin 1024, hrow m c R d * argW m c (ix2 d ⟨o + k.val, by omega⟩)

/-- What the body computes for the modulated rows at point `t`. -/
theorem rows_at (t : Fin cfg0.N) (r : Fin 256) (d : Fin 1024) :
    (k0_pay4 (F := Ideal) (iblk m c 0 t) (iblk m c 3 t) (iblk m c 2 t) (iblk m c 1 t) (ix2 r d) : EReal) = hrow m c (row t r) d := by
  rw [pay4_apply]
  simp only [block0, block1, block2, block3]
  rfl

/-- A product of the modulated rows with columns of the weight. -/
theorem product {n : ℕ} (o : ℕ) (h : o + n ≤ 5128) (t : Fin cfg0.N) (r : Fin 256) (k : Fin n) (w : Fin 1024 → EReal)
    (hw : ∀ d, w d = argW m c (ix2 d ⟨o + k.val, by omega⟩)) :
    (∑ d : Fin 1024, k0_pay4 (F := Ideal) (iblk m c 0 t) (iblk m c 3 t) (iblk m c 2 t) (iblk m c 1 t) (ix2 r d) * w d)
      = part m c n o h (row t r) k :=
  Finset.sum_congr rfl fun d _ => congrArg₂ (· * ·) (rows_at m c t r d) (hw d)

/-! What a point leaves in each result's block. -/

theorem out6 (t : Fin cfg0.N) (r : Fin 256) (k : Fin 512) :
    (out0_6 (F := Ideal) (iblk m c 0 t) (iblk m c 1 t) (iblk m c 2 t) (iblk m c 3 t) (iblk m c 4 t) (iblk m c 5 t) (ix2 r k) : EReal)
      = part m c 512 0 (by omega) (row t r) k * Ideal.ofBits FTy.f32 0x3E000000#32 := by
  unfold_out out0_6
  rw [View.canon_unit_zero hz, View.ld_unit_zero (S := S256x1024) hz, View.ld_unit_zero (S := S1x1024) hz, View.ld_unit_zero (S := S1x1024) hz,
    View.ld_unit_zero (S := S1x1024) hz]
  rw [pay5_apply]
  exact congrArg (· * _) (product m c 0 (by omega) t r k _ fun d => (cut_512 _ _ (by omega) d k).trans (block4_low m c t d _ _ (by show 0 + k.val < _; omega) rfl))
theorem out7 (t : Fin cfg0.N) (r : Fin 256) (k : Fin 512) :
    (out0_7 (F := Ideal) (iblk m c 0 t) (iblk m c 1 t) (iblk m c 2 t) (iblk m c 3 t) (iblk m c 4 t) (iblk m c 5 t) (ix2 r k) : EReal)
      = part m c 512 512 (by omega) (row t r) k := by
  unfold_out out0_7
  rw [View.canon_unit_zero hz, View.ld_unit_zero (S := S256x1024) hz, View.ld_unit_zero (S := S1x1024) hz, View.ld_unit_zero (S := S1x1024) hz,
    View.ld_unit_zero (S := S1x1024) hz]
  rw [pay7_apply]
  exact product m c 512 (by omega) t r k _ fun d => (cut_512 _ _ (by omega) d k).trans (block4_low m c t d _ _ (by show 512 + k.val < _; omega) rfl)
theorem out8 (t : Fin cfg0.N) (r : Fin 256) (k : Fin 512) :
    (out0_8 (F := Ideal) (iblk m c 0 t) (iblk m c 1 t) (iblk m c 2 t) (iblk m c 3 t) (iblk m c 4 t) (iblk m c 5 t) (ix2 r k) : EReal)
      = part m c 512 1024 (by omega) (row t r) k := by
  unfold_out out0_8
  rw [View.canon_unit_zero hz, View.ld_unit_zero (S := S256x1024) hz, View.ld_unit_zero (S := S1x1024) hz, View.ld_unit_zero (S := S1x1024) hz,
    View.ld_unit_zero (S := S1x1024) hz]
  rw [pay8_apply]
  exact product m c 1024 (by omega) t r k _ fun d => (cut_512 _ _ (by omega) d k).trans (block4_low m c t d _ _ (by show 1024 + k.val < _; omega) rfl)
theorem out9 (t : Fin cfg0.N) (r : Fin 256) (k : Fin 512) :
    (out0_9 (F := Ideal) (iblk m c 0 t) (iblk m c 1 t) (iblk m c 2 t) (iblk m c 3 t) (iblk m c 4 t) (iblk m c 5 t) (ix2 r k) : EReal)
      = part m c 512 1544 (by omega) (row t r) k := by
  unfold_out out0_9
  rw [View.canon_unit_zero hz, View.ld_unit_zero (S := S256x1024) hz, View.ld_unit_zero (S := S1x1024) hz, View.ld_unit_zero (S := S1x1024) hz,
    View.ld_unit_zero (S := S1x1024) hz]
  rw [pay9_apply]
  exact product m c 1544 (by omega) t r k _ fun d => (cut_512 _ _ (by omega) d k).trans (block4_high m c t d _ _ (by show ¬ 1536 + k.val < _; omega) (by show 1536 + k.val + 8 = 1544 + k.val; omega))
theorem out10 (t : Fin cfg0.N) (r : Fin 256) (k : Fin 512) :
    (out0_10 (F := Ideal) (iblk m c 0 t) (iblk m c 1 t) (iblk m c 2 t) (iblk m c 3 t) (iblk m c 4 t) (iblk m c 5 t) (ix2 r k) : EReal)
      = part m c 512 2056 (by omega) (row t r) k := by
  unfold_out out0_10
  rw [View.canon_unit_zero hz, View.ld_unit_zero (S := S256x1024) hz, View.ld_unit_zero (S := S1x1024) hz, View.ld_unit_zero (S := S1x1024) hz,
    View.ld_unit_zero (S := S1x1024) hz]
  exact (pay9_apply _ _ r k).trans (product m c 2056 (by omega) t r k _ fun d => (cut_512 _ _ (by omega) d k).trans (block4_high m c t d _ _ (by show ¬ 2048 + k.val < _; omega) (by show 2048 + k.val + 8 = 2056 + k.val; omega)))
theorem out11 (t : Fin cfg0.N) (r : Fin 256) (k : Fin 512) :
    (out0_11 (F := Ideal) (iblk m c 0 t) (iblk m c 1 t) (iblk m c 2 t) (iblk m c 3 t) (iblk m c 4 t) (iblk m c 5 t) (ix2 r k) : EReal)
      = part m c 512 2568 (by omega) (row t r) k := by
  unfold_out out0_11
  rw [View.canon_unit_zero hz, View.ld_unit_zero (S := S256x1024) hz, View.ld_unit_zero (S := S1x1024) hz, View.ld_unit_zero (S := S1x1024) hz,
    View.ld_unit_zero (S := S1x1024) hz]
  exact (pay9_apply _ _ r k).trans (product m c 2568 (by omega) t r k _ fun d => (cut_512 _ _ (by omega) d k).trans (block4_high m c t d _ _ (by show ¬ 2560 + k.val < _; omega) (by show 2560 + k.val + 8 = 2568 + k.val; omega)))
theorem out12 (t : Fin cfg0.N) (r : Fin 256) (k : Fin 1024) :
    (out0_12 (F := Ideal) (iblk m c 0 t) (iblk m c 1 t) (iblk m c 2 t) (iblk m c 3 t) (iblk m c 4 t) (iblk m c 5 t) (ix2 r k) : EReal)
      = part m c 1024 3080 (by omega) (row t r) k := by
  unfold_out out0_12
  rw [View.canon_unit_zero hz, View.ld_unit_zero (S := S256x1024) hz, View.ld_unit_zero (S := S1x1024) hz, View.ld_unit_zero (S := S1x1024) hz,
    View.ld_unit_zero (S := S1x1024) hz]
  rw [pay12_apply]
  exact product m c 3080 (by omega) t r k _ fun d => (cut_1024 _ _ (by omega) d k).trans (block4_high m c t d _ _ (by show ¬ 3072 + k.val < _; omega) (by show 3072 + k.val + 8 = 3080 + k.val; omega))
theorem out13 (t : Fin cfg0.N) (r : Fin 256) (k : Fin 1024) :
    (out0_13 (F := Ideal) (iblk m c 0 t) (iblk m c 1 t) (iblk m c 2 t) (iblk m c 3 t) (iblk m c 4 t) (iblk m c 5 t) (ix2 r k) : EReal)
      = part m c 1024 4104 (by omega) (row t r) k := by
  unfold_out out0_13
  rw [View.canon_unit_zero hz, View.ld_unit_zero (S := S256x1024) hz, View.ld_unit_zero (S := S1x1024) hz, View.ld_unit_zero (S := S1x1024) hz,
    View.ld_unit_zero (S := S1x1024) hz]
  rw [pay13_apply]
  exact product m c 4104 (by omega) t r k _ fun d => (cut_1024 _ _ (by omega) d k).trans (block4_high m c t d _ _ (by show ¬ 4096 + k.val < _; omega) (by show 4096 + k.val + 8 = 4104 + k.val; omega))
theorem out14 (t : Fin cfg0.N) (r : Fin 256) (k : Fin 8) :
    (out0_14 (F := Ideal) (iblk m c 0 t) (iblk m c 1 t) (iblk m c 2 t) (iblk m c 3 t) (iblk m c 4 t) (iblk m c 5 t) (ix2 r k) : EReal)
      = part m c 8 1536 (by omega) (row t r) k := by
  unfold_out out0_14
  rw [View.canon_unit_zero hz, View.ld_unit_zero (S := S256x1024) hz, View.ld_unit_zero (S := S1x1024) hz, View.ld_unit_zero (S := S1x1024) hz,
    View.ld_unit_zero (S := S1x1024) hz, View.ld_unit_zero (S := S1024x8) hz, pay2_apply]
  exact product m c 1536 (by omega) t r k _ fun d => block5 m c t d k
theorem out15 (t : Fin cfg0.N) (r : Fin 256) (k : Fin 1024) :
    (out0_15 (F := Ideal) (iblk m c 0 t) (iblk m c 1 t) (iblk m c 2 t) (iblk m c 3 t) (iblk m c 4 t) (iblk m c 5 t) (ix2 r k) : EReal)
      = hrow m c (row t r) k := by
  unfold_out out0_15
  rw [View.canon_unit_zero hz, View.ld_unit_zero (S := S256x1024) hz, View.ld_unit_zero (S := S1x1024) hz, View.ld_unit_zero (S := S1x1024) hz,
    View.ld_unit_zero (S := S1x1024) hz]
  exact rows_at m c t r k

/-! The result arrays. -/

theorem final6 : (dats m 0 c).arrAt 6 cfg0.N = fun j : S8192x512.Idx => part m c 512 0 (by omega) (j 0) (j 1) * Ideal.ofBits FTy.f32 0x3E000000#32 := by
  refine (dats m 0 c).arrAt_eq_of_covers 6 _ (by decide +kernel) fun t hf y => ?_
  blk_simp
  rw [after0_6]
  obtain ⟨r, k, rfl⟩ : ∃ r k, y = ix2 r k := ⟨_, _, eq_ix2 y⟩
  refine (out6 m c t r k).trans ?_
  congr 2
  · apply Fin.ext; blk_simp [idx6 t]; show 256 * t.val + r.val = _; omega
  · apply Fin.ext; blk_simp [idx6 t]

theorem final7 : (dats m 0 c).arrAt 7 cfg0.N = fun j : S8192x512.Idx => part m c 512 512 (by omega) (j 0) (j 1) := by
  refine (dats m 0 c).arrAt_eq_of_covers 7 _ (by decide +kernel) fun t hf y => ?_
  blk_simp
  rw [after0_7]
  obtain ⟨r, k, rfl⟩ : ∃ r k, y = ix2 r k := ⟨_, _, eq_ix2 y⟩
  refine (out7 m c t r k).trans ?_
  congr 1
  · apply Fin.ext; blk_simp [idx7 t]; show 256 * t.val + r.val = _; omega
  · apply Fin.ext; blk_simp [idx7 t]

theorem final8 : (dats m 0 c).arrAt 8 cfg0.N = fun j : S8192x512.Idx => part m c 512 1024 (by omega) (j 0) (j 1) := by
  refine (dats m 0 c).arrAt_eq_of_covers 8 _ (by decide +kernel) fun t hf y => ?_
  blk_simp
  rw [after0_8]
  obtain ⟨r, k, rfl⟩ : ∃ r k, y = ix2 r k := ⟨_, _, eq_ix2 y⟩
  refine (out8 m c t r k).trans ?_
  congr 1
  · apply Fin.ext; blk_simp [idx8 t]; show 256 * t.val + r.val = _; omega
  · apply Fin.ext; blk_simp [idx8 t]

theorem final9 : (dats m 0 c).arrAt 9 cfg0.N = fun j : S8192x512.Idx => part m c 512 1544 (by omega) (j 0) (j 1) := by
  refine (dats m 0 c).arrAt_eq_of_covers 9 _ (by decide +kernel) fun t hf y => ?_
  blk_simp
  rw [after0_9]
  obtain ⟨r, k, rfl⟩ : ∃ r k, y = ix2 r k := ⟨_, _, eq_ix2 y⟩
  refine (out9 m c t r k).trans ?_
  congr 1
  · apply Fin.ext; blk_simp [idx9 t]; show 256 * t.val + r.val = _; omega
  · apply Fin.ext; blk_simp [idx9 t]

theorem final10 : (dats m 0 c).arrAt 10 cfg0.N = fun j : S8192x512.Idx => part m c 512 2056 (by omega) (j 0) (j 1) := by
  refine (dats m 0 c).arrAt_eq_of_covers 10 _ (by decide +kernel) fun t hf y => ?_
  blk_simp
  rw [after0_10]
  obtain ⟨r, k, rfl⟩ : ∃ r k, y = ix2 r k := ⟨_, _, eq_ix2 y⟩
  refine (out10 m c t r k).trans ?_
  congr 1
  · apply Fin.ext; blk_simp [idx10 t]; show 256 * t.val + r.val = _; omega
  · apply Fin.ext; blk_simp [idx10 t]

theorem final11 : (dats m 0 c).arrAt 11 cfg0.N = fun j : S8192x512.Idx => part m c 512 2568 (by omega) (j 0) (j 1) := by
  refine (dats m 0 c).arrAt_eq_of_covers 11 _ (by decide +kernel) fun t hf y => ?_
  blk_simp
  rw [after0_11]
  obtain ⟨r, k, rfl⟩ : ∃ r k, y = ix2 r k := ⟨_, _, eq_ix2 y⟩
  refine (out11 m c t r k).trans ?_
  congr 1
  · apply Fin.ext; blk_simp [idx11 t]; show 256 * t.val + r.val = _; omega
  · apply Fin.ext; blk_simp [idx11 t]

theorem final12 : (dats m 0 c).arrAt 12 cfg0.N = fun j : S8192x1024.Idx => part m c 1024 3080 (by omega) (j 0) (j 1) := by
  refine (dats m 0 c).arrAt_eq_of_covers 12 _ (by decide +kernel) fun t hf y => ?_
  blk_simp
  rw [after0_12]
  obtain ⟨r, k, rfl⟩ : ∃ r k, y = ix2 r k := ⟨_, _, eq_ix2 y⟩
  refine (out12 m c t r k).trans ?_
  congr 1
  · apply Fin.ext; blk_simp [idx12 t]; show 256 * t.val + r.val = _; omega
  · apply Fin.ext; blk_simp [idx12 t]

theorem final13 : (dats m 0 c).arrAt 13 cfg0.N = fun j : S8192x1024.Idx => part m c 1024 4104 (by omega) (j 0) (j 1) := by
  refine (dats m 0 c).arrAt_eq_of_covers 13 _ (by decide +kernel) fun t hf y => ?_
  blk_simp
  rw [after0_13]
  obtain ⟨r, k, rfl⟩ : ∃ r k, y = ix2 r k := ⟨_, _, eq_ix2 y⟩
  refine (out13 m c t r k).trans ?_
  congr 1
  · apply Fin.ext; blk_simp [idx13 t]; show 256 * t.val + r.val = _; omega
  · apply Fin.ext; blk_simp [idx13 t]

theorem final14 : (dats m 0 c).arrAt 14 cfg0.N = fun j : S8192x8.Idx => part m c 8 1536 (by omega) (j 0) (j 1) := by
  refine (dats m 0 c).arrAt_eq_of_covers 14 _ (by decide +kernel) fun t hf y => ?_
  blk_simp
  rw [after0_14]
  obtain ⟨r, k, rfl⟩ : ∃ r k, y = ix2 r k := ⟨_, _, eq_ix2 y⟩
  refine (out14 m c t r k).trans ?_
  congr 1
  · apply Fin.ext; blk_simp [idx14 t]; show 256 * t.val + r.val = _; omega
  · apply Fin.ext; blk_simp [idx14 t]

theorem final15 : (dats m 0 c).arrAt 15 cfg0.N = fun j : S8192x1024.Idx => hrow m c (j 0) (j 1) := by
  refine (dats m 0 c).arrAt_eq_of_covers 15 _ (by decide +kernel) fun t hf y => ?_
  blk_simp
  rw [after0_15]
  obtain ⟨r, k, rfl⟩ : ∃ r k, y = ix2 r k := ⟨_, _, eq_ix2 y⟩
  refine (out15 m c t r k).trans ?_
  congr 1
  · apply Fin.ext; blk_simp [idx15 t]; show 256 * t.val + r.val = _; omega
  · apply Fin.ext; blk_simp [idx15 t]

end Cert.PartsProof.Kernel

end
-- ==== Proof.PartsClaim.lean ====
/- The projection forward call: its ten results are the parts of the projection of the normed and modulated rows. -/
module

public import proofs.«01_k».proof.Proof.PartsKernel
public import proofs.«01_k».proof.Proof.Gen.PartsRefIdeal.Run
public import proofs.«01_k».proof.Proof.Gen.PartsRefIdeal.Read

@[expose] public section

set_option maxRecDepth 16384

noncomputable section

namespace Cert.PartsProof.Claim

open Cert.PartsRefIdeal.Read Idealize.ShloMosaic Idealize.ShloMosaic.TcCoe Idealize.SL.Sem
open Cert.PartsProof.Kernel

section Reference
variable (x0 : Vec Ideal Cert.PartsRefIdeal.S8192x1024 .f32) (x1 x2 x3 : Vec Ideal Cert.PartsRefIdeal.S1x1024 .f32)
  (x4 : Vec Ideal Cert.PartsRefIdeal.S1024x5128 .f32) (R : Fin 8192)

/-- The reference's modulated row. -/
theorem row_apply (d : Fin 1024) : (val_main_v17 (F := Ideal) x0 x1 x2 x3 (ix2 R d) : EReal)
    = modulated (fun d => x0 (ix2 R d)) (fun d => x3 (ix2 0 d)) (fun d => x2 (ix2 0 d)) (fun d => x1 (ix2 0 d)) d := by
  pointwise [val_main_v17, val_main_v16, val_main_v15, val_main_v14, val_main_v13, val_main_v12, val_main_cst_2, val_main_v11, val_main_v10,
    val_main_v9, val_main_v8, val_main_v7, val_main_v6, val_main_v5, val_main_cst_1, val_main_v4, val_main_v3, val_main_cst_0, val_main_v2,
    val_main_v1, val_main_cst, val_main_v0]
  rfl

/-- The reference's product of the modulated rows and the weight. -/
theorem product_apply (j : Fin 5128) : (val_main_v18 (F := Ideal) x0 x1 x2 x3 x4 (ix2 R j) : EReal)
    = ∑ d : Fin 1024, val_main_v17 (F := Ideal) x0 x1 x2 x3 (ix2 R d) * x4 (ix2 d j) := by
  unfold val_main_v18
  generalize val_main_v17 (F := Ideal) x0 x1 x2 x3 = a
  pointwise []

end Reference

variable (m : (ℓ : Loc Cert.PartsIdeal.nD Cert.PartsIdeal.τ Cert.PartsIdeal.sig) → Buf (Elt Ideal) ℓ) (c : Dev Cert.PartsIdeal.nD)

/-- An entry of the reference's product, in the kernel's arguments. -/
theorem entry (n o : ℕ) (h : o + n ≤ 5128) (R : Fin 8192) (k : Fin n) (j : Fin 5128) (hj : o + k.val = j.val) :
    (val_main_v18 (F := Ideal) (argX m c) (argH m c) (argS m c) (argG m c) (argW m c) (ix2 R j) : EReal) = part m c n o h R k := by
  obtain ⟨j, hb⟩ := j
  dsimp only at hj
  subst hj
  rw [product_apply]
  exact Finset.sum_congr rfl fun d _ => congrArg (· * _) (row_apply _ _ _ _ R d)

theorem result6 : (val_main_v30 (F := Ideal) (argX m c) (argH m c) (argS m c) (argG m c) (argW m c) : _) = fun y => part m c 512 0 (by omega) (y 0) (y 1) * Ideal.ofBits FTy.f32 0x3E000000#32 := by
  funext y
  obtain ⟨R, k, rfl⟩ : ∃ R k, y = ix2 R k := ⟨_, _, eq_ix2 y⟩
  refine Eq.trans ?_ (congrArg (· * _) (entry m c 512 0 (by omega) R k ⟨k.val, by omega⟩ (Nat.zero_add _)))
  unfold val_main_v30 val_main_v29 val_main_v28 val_main_cst_3 val_main_v19
  generalize val_main_v18 (F := Ideal) _ _ _ _ _ = a
  pointwise []

theorem result7 : (val_main_v31 (F := Ideal) (argX m c) (argH m c) (argS m c) (argG m c) (argW m c) : _) = fun y => part m c 512 512 (by omega) (y 0) (y 1) := by
  funext y
  obtain ⟨R, k, rfl⟩ : ∃ R k, y = ix2 R k := ⟨_, _, eq_ix2 y⟩
  refine Eq.trans ?_ (entry m c 512 512 (by omega) R k ⟨512 + k.val, by omega⟩ rfl)
  unfold val_main_v31 val_main_v20
  generalize val_main_v18 (F := Ideal) _ _ _ _ _ = a
  pointwise []

theorem result8 : (val_main_v32 (F := Ideal) (argX m c) (argH m c) (argS m c) (argG m c) (argW m c) : _) = fun y => part m c 512 1024 (by omega) (y 0) (y 1) := by
  funext y
  obtain ⟨R, k, rfl⟩ : ∃ R k, y = ix2 R k := ⟨_, _, eq_ix2 y⟩
  refine Eq.trans ?_ (entry m c 512 1024 (by omega) R k ⟨1024 + k.val, by omega⟩ rfl)
  unfold val_main_v32 val_main_v21
  generalize val_main_v18 (F := Ideal) _ _ _ _ _ = a
  pointwise []

theorem result9 : (val_main_v23 (F := Ideal) (argX m c) (argH m c) (argS m c) (argG m c) (argW m c) : _) = fun y => part m c 512 1544 (by omega) (y 0) (y 1) := by
  funext y
  obtain ⟨R, k, rfl⟩ : ∃ R k, y = ix2 R k := ⟨_, _, eq_ix2 y⟩
  refine Eq.trans ?_ (entry m c 512 1544 (by omega) R k ⟨1544 + k.val, by omega⟩ rfl)
  unfold val_main_v23
  generalize val_main_v18 (F := Ideal) _ _ _ _ _ = a
  pointwise []

theorem result10 : (val_main_v24 (F := Ideal) (argX m c) (argH m c) (argS m c) (argG m c) (argW m c) : _) = fun y => part m c 512 2056 (by omega) (y 0) (y 1) := by
  funext y
  obtain ⟨R, k, rfl⟩ : ∃ R k, y = ix2 R k := ⟨_, _, eq_ix2 y⟩
  refine Eq.trans ?_ (entry m c 512 2056 (by omega) R k ⟨2056 + k.val, by omega⟩ rfl)
  unfold val_main_v24
  generalize val_main_v18 (F := Ideal) _ _ _ _ _ = a
  pointwise []

theorem result11 : (val_main_v25 (F := Ideal) (argX m c) (argH m c) (argS m c) (argG m c) (argW m c) : _) = fun y => part m c 512 2568 (by omega) (y 0) (y 1) := by
  funext y
  obtain ⟨R, k, rfl⟩ : ∃ R k, y = ix2 R k := ⟨_, _, eq_ix2 y⟩
  refine Eq.trans ?_ (entry m c 512 2568 (by omega) R k ⟨2568 + k.val, by omega⟩ rfl)
  unfold val_main_v25
  generalize val_main_v18 (F := Ideal) _ _ _ _ _ = a
  pointwise []

theorem result12 : (val_main_v26 (F := Ideal) (argX m c) (argH m c) (argS m c) (argG m c) (argW m c) : _) = fun y => part m c 1024 3080 (by omega) (y 0) (y 1) := by
  funext y
  obtain ⟨R, k, rfl⟩ : ∃ R k, y = ix2 R k := ⟨_, _, eq_ix2 y⟩
  refine Eq.trans ?_ (entry m c 1024 3080 (by omega) R k ⟨3080 + k.val, by omega⟩ rfl)
  unfold val_main_v26
  generalize val_main_v18 (F := Ideal) _ _ _ _ _ = a
  pointwise []

theorem result13 : (val_main_v27 (F := Ideal) (argX m c) (argH m c) (argS m c) (argG m c) (argW m c) : _) = fun y => part m c 1024 4104 (by omega) (y 0) (y 1) := by
  funext y
  obtain ⟨R, k, rfl⟩ : ∃ R k, y = ix2 R k := ⟨_, _, eq_ix2 y⟩
  refine Eq.trans ?_ (entry m c 1024 4104 (by omega) R k ⟨4104 + k.val, by omega⟩ rfl)
  unfold val_main_v27
  generalize val_main_v18 (F := Ideal) _ _ _ _ _ = a
  pointwise []

theorem result14 : (val_main_v22 (F := Ideal) (argX m c) (argH m c) (argS m c) (argG m c) (argW m c) : _) = fun y => part m c 8 1536 (by omega) (y 0) (y 1) := by
  funext y
  obtain ⟨R, k, rfl⟩ : ∃ R k, y = ix2 R k := ⟨_, _, eq_ix2 y⟩
  refine Eq.trans ?_ (entry m c 8 1536 (by omega) R k ⟨1536 + k.val, by omega⟩ rfl)
  unfold val_main_v22
  generalize val_main_v18 (F := Ideal) _ _ _ _ _ = a
  pointwise []

theorem result15 : (val_main_v33 (F := Ideal) (argX m c) (argH m c) (argS m c) (argG m c) : _) = fun y => hrow m c (y 0) (y 1) := by
  funext y
  obtain ⟨R, k, rfl⟩ : ∃ R k, y = ix2 R k := ⟨_, _, eq_ix2 y⟩
  exact row_apply _ _ _ _ R k

/-- The reference runs and leaves its arguments unchanged. -/
theorem frame_reference : Cert.quiescent_PartsRefIdeal := fun m ρ _ =>
  (θ_run Cert.PartsRefIdeal.defs _ _).mono (fun r h => ⟨fun c => (h c).2.2.2.2.2.2.2.2.2.2,
      Idealize.ShloMosaic.sem_eq_zero_of_no_sems (by decide) r.2⟩)
    (Cert.PartsRefIdeal.Value.run (F := Ideal) m ρ)

set_option maxHeartbeats 2000000 in
theorem algebraic : Cert.algebraic_PartsIdeal_PartsRefIdeal := by
  intro m ρ m' ρ' _ hagree
  refine ⟨fun c y => part m c 512 0 (by omega) (y 0) (y 1) * Ideal.ofBits FTy.f32 0x3E000000#32,
    fun c y => part m c 512 512 (by omega) (y 0) (y 1),
    fun c y => part m c 512 1024 (by omega) (y 0) (y 1),
    fun c y => part m c 512 1544 (by omega) (y 0) (y 1),
    fun c y => part m c 512 2056 (by omega) (y 0) (y 1),
    fun c y => part m c 512 2568 (by omega) (y 0) (y 1),
    fun c y => part m c 1024 3080 (by omega) (y 0) (y 1),
    fun c y => part m c 1024 4104 (by omega) (y 0) (y 1),
    fun c y => part m c 8 1536 (by omega) (y 0) (y 1),
    fun c y => hrow m c (y 0) (y 1), ?_, ?_⟩
  · refine (θ_run Cert.PartsIdeal.defs _ _).mono (fun _ h c => ?_) (Cert.PartsIdeal.Value.run_blocks (F := Ideal) m ρ)
    obtain ⟨h6, h7, h8, h9, h10, h11, h12, h13, h14, h15, hk⟩ := h c
    exact ⟨h6.trans (final6 m c), h7.trans (final7 m c), h8.trans (final8 m c), h9.trans (final9 m c), h10.trans (final10 m c), h11.trans (final11 m c), h12.trans (final12 m c), h13.trans (final13 m c), h14.trans (final14 m c), h15.trans (final15 m c), hk⟩
  · refine (θ_run Cert.PartsRefIdeal.defs _ _).mono (fun _ h c => ?_) (Cert.PartsRefIdeal.Value.run (F := Ideal) m' ρ')
    obtain ⟨a0, a1, a2, a3, a4⟩ := hagree c
    obtain ⟨h6, h7, h8, h9, h10, h11, h12, h13, h14, h15, hk⟩ := h c
    refine ⟨h6.trans ?_, h7.trans ?_, h8.trans ?_, h9.trans ?_, h10.trans ?_, h11.trans ?_, h12.trans ?_, h13.trans ?_, h14.trans ?_, h15.trans ?_, hk⟩
    · rw [val_main_v30_eq, a0, a1, a2, a3, a4]
      exact result6 m c
    · rw [val_main_v31_eq, a0, a1, a2, a3, a4]
      exact result7 m c
    · rw [val_main_v32_eq, a0, a1, a2, a3, a4]
      exact result8 m c
    · rw [val_main_v23_eq, a0, a1, a2, a3, a4]
      exact result9 m c
    · rw [val_main_v24_eq, a0, a1, a2, a3, a4]
      exact result10 m c
    · rw [val_main_v25_eq, a0, a1, a2, a3, a4]
      exact result11 m c
    · rw [val_main_v26_eq, a0, a1, a2, a3, a4]
      exact result12 m c
    · rw [val_main_v27_eq, a0, a1, a2, a3, a4]
      exact result13 m c
    · rw [val_main_v22_eq, a0, a1, a2, a3, a4]
      exact result14 m c
    · rw [val_main_v33_eq, a0, a1, a2, a3]
      exact result15 m c

end Cert.PartsProof.Claim

end
-- ==== Proof.UpdateClaim.lean ====
/- The optimiser's call: the sum of the gradient's planes, the update, and the two moments. -/
module

public import proofs.«01_k».proof.Defs
public import Idealize.ShloMosaic.Lib.Pointwise
public import Idealize.ShloMosaic.Lib.ValueIdx
public import Idealize.ShloMosaic.Lib.Quiescent
public import Idealize.ShloMosaic.PureOps.Ideal.Laws
public import proofs.«01_k».proof.Proof.Gen.UpdateIdeal.Value
public import proofs.«01_k».proof.Proof.Gen.UpdateRefIdeal.Run
public import proofs.«01_k».proof.Proof.Gen.UpdateRefIdeal.Read
public import Idealize.ShloMosaic.Lib.Pipeline.ValueKit

@[expose] public section

set_option maxRecDepth 16384

noncomputable section

namespace Cert.UpdateProof.Claim

open Cert.UpdateIdeal Cert.UpdateIdeal.Gen Cert.UpdateRefIdeal.Read Idealize.ShloMosaic Idealize.ShloMosaic.TcCoe Idealize.SL.Sem

/-- The first moment after the step. -/
def first (m g : EReal) : EReal := Ideal.ofBits FTy.f32 0x3F666666#32 * m + Ideal.ofBits FTy.f32 0x3DCCCCCD#32 * g

/-- The second moment after the step. -/
def second (v g : EReal) : EReal := Ideal.ofBits FTy.f32 0x3F7FBE77#32 * v + Ideal.ofBits FTy.f32 0x3A83126F#32 * (g * g)

/-- The update from the new moments and the weight. -/
def update (w m v : EReal) : EReal :=
  Ideal.ofBits FTy.f32 0xBA83126F#32 * (Ideal.div (Ideal.div m (Ideal.ofBits FTy.f32 0x3F26BD02#32))
      (Ideal.sqrt (Ideal.div v (Ideal.ofBits FTy.f32 0x3C231ACC#32)) + Ideal.ofBits FTy.f32 0x322BCC77#32)
    + Ideal.ofBits FTy.f32 0x3C23D70A#32 * w)

theorem pay1_apply (m v w : Vec Ideal S256x641 .f32) (r : Fin 256) (k : Fin 641) :
    (k0_pay1 (F := Ideal) m v w (ix2 r k) : EReal) = update (w (ix2 r k)) (m (ix2 r k)) (v (ix2 r k)) := by
  pointwise [k0_pay1]
  rfl

section Planes
variable (p0 p1 p2 p3 : Vec Ideal S1x256x641 .bf16) (r : Fin 256) (k : Fin 641)

theorem pay2_apply : (k0_pay2 (F := Ideal) p0 p1 p2 p3 (ix2 r k) : EReal)
    = p0 (ix3 0 r k) + p1 (ix3 0 r k) + p2 (ix3 0 r k) + p3 (ix3 0 r k) := by
  pointwise [k0_pay2]

theorem pay3_apply (m : Vec Ideal S256x641 .f32) : (k0_pay3 (F := Ideal) p0 p1 p2 p3 m (ix2 r k) : EReal)
    = first (m (ix2 r k)) (k0_pay2 (F := Ideal) p0 p1 p2 p3 (ix2 r k)) := by
  unfold k0_pay3
  generalize k0_pay2 (F := Ideal) p0 p1 p2 p3 = g
  pointwise []
  rfl

theorem pay4_apply (v : Vec Ideal S256x641 .f32) : (k0_pay4 (F := Ideal) p0 p1 p2 p3 v (ix2 r k) : EReal)
    = second (v (ix2 r k)) (k0_pay2 (F := Ideal) p0 p1 p2 p3 (ix2 r k)) := by
  unfold k0_pay4
  generalize k0_pay2 (F := Ideal) p0 p1 p2 p3 = g
  pointwise []
  rfl

end Planes

variable (m : (ℓ : Loc nD τ sig) → Buf (Elt Ideal) ℓ) (c : Dev nD)

abbrev argP : Vec Ideal S4x1024x641 .bf16 := m (c, Proc.tc.devRef main_arg0)
abbrev argW : Vec Ideal S1024x641 .f32 := m (c, Proc.tc.devRef main_arg1)
abbrev argM : Vec Ideal S1024x641 .f32 := m (c, Proc.tc.devRef main_arg2)
abbrev argV : Vec Ideal S1024x641 .f32 := m (c, Proc.tc.devRef main_arg3)

/-- The row of the arrays that is row `r` of the block at point `t`. -/
def row (t : Fin cfg0.N) (r : Fin 256) : Fin 1024 :=
  ⟨256 * t.val + r.val, by have : t.val < 4 := lt_of_lt_of_eq t.isLt N_0; omega⟩

theorem idx0 : ∀ t : Fin cfg0.N, win0_0.index t = ![0, t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel

theorem block0 (t : Fin cfg0.N) (a : Fin 4) (r : Fin 256) (k : Fin 641) :
    (iblk m c 0 t (ix3 a r k) : EReal) = argP m c (ix3 a (row t r) k) := by
  have e : ∀ A : Vec Ideal S4x1024x641 .bf16, (((cfg0.win 0).blk t).view.read (Elt Ideal) A : _) (ix3 a r k) = A (ix3 a (row t r) k) := by
    intro A
    blk_ext [idx0 t, row]
  exact (e (V m c main_arg0)).trans (congrFun (V_main_arg0 m c) _)
theorem block1 (t : Fin cfg0.N) (r : Fin 256) (k : Fin 641) : (iblk m c 1 t (ix2 r k) : EReal) = argW m c (ix2 (row t r) k) := by
  have e : ∀ A : Vec Ideal S1024x641 .f32, (((cfg0.win 1).blk t).view.read (Elt Ideal) A : _) (ix2 r k) = A (ix2 (row t r) k) := by
    intro A
    blk_ext [idx1 t, row]
  exact (e (V m c main_arg1)).trans (congrFun (V_main_arg1 m c) _)
theorem block2 (t : Fin cfg0.N) (r : Fin 256) (k : Fin 641) : (iblk m c 2 t (ix2 r k) : EReal) = argM m c (ix2 (row t r) k) := by
  have e : ∀ A : Vec Ideal S1024x641 .f32, (((cfg0.win 2).blk t).view.read (Elt Ideal) A : _) (ix2 r k) = A (ix2 (row t r) k) := by
    intro A
    blk_ext [idx2 t, row]
  exact (e (V m c main_arg2)).trans (congrFun (V_main_arg2 m c) _)
theorem block3 (t : Fin cfg0.N) (r : Fin 256) (k : Fin 641) : (iblk m c 3 t (ix2 r k) : EReal) = argV m c (ix2 (row t r) k) := by
  have e : ∀ A : Vec Ideal S1024x641 .f32, (((cfg0.win 3).blk t).view.read (Elt Ideal) A : _) (ix2 r k) = A (ix2 (row t r) k) := by
    intro A
    blk_ext [idx3 t, row]
  exact (e (V m c main_arg3)).trans (congrFun (V_main_arg3 m c) _)

/-- A load of one plane of the block of planes. -/
theorem plane (x : Vec Ideal S4x256x641 .bf16) (a : Fin 4) (h) (r : Fin 256) (k : Fin 641) :
    (View.ld x (Rect.unit (s := S4x256x641) ![a.val, 0, 0] S1x256x641.size h) (ix3 0 r k) : EReal) = x (ix3 a r k) := by
  unfold View.ld
  refine congrArg x ?_
  funext b
  fin_cases b <;> apply Fin.ext <;> simp [Rect.unit]

/-- The gradient: the sum of the planes. -/
def grad (R : Fin 1024) (k : Fin 641) : EReal :=
  argP m c (ix3 0 R k) + argP m c (ix3 1 R k) + argP m c (ix3 2 R k) + argP m c (ix3 3 R k)
def newM (R : Fin 1024) (k : Fin 641) : EReal := first (argM m c (ix2 R k)) (grad m c R k)
def newV (R : Fin 1024) (k : Fin 641) : EReal := second (argV m c (ix2 R k)) (grad m c R k)
def step (R : Fin 1024) (k : Fin 641) : EReal := update (argW m c (ix2 R k)) (newM m c R k) (newV m c R k)

theorem hz : (![0, 0] : Fin 2 → ℕ) = fun _ => 0 := funext fun a => by fin_cases a <;> rfl

theorem grad_at (t : Fin cfg0.N) (r : Fin 256) (k : Fin 641) :
    (k0_pay2 (F := Ideal) (View.ld (iblk m c 0 t) r0_0) (View.ld (iblk m c 0 t) r0_1) (View.ld (iblk m c 0 t) r0_2) (View.ld (iblk m c 0 t) r0_3)
      (ix2 r k) : EReal) = grad m c (row t r) k := by
  rw [pay2_apply]
  unfold grad
  rw [← block0, ← block0, ← block0, ← block0]
  exact congrArg₂ (· + ·) (congrArg₂ (· + ·) (congrArg₂ (· + ·) (plane _ 0 _ r k) (plane _ 1 _ r k)) (plane _ 2 _ r k)) (plane _ 3 _ r k)

theorem newM_at (t : Fin cfg0.N) (r : Fin 256) (k : Fin 641) :
    (k0_pay3 (F := Ideal) (View.ld (iblk m c 0 t) r0_0) (View.ld (iblk m c 0 t) r0_1) (View.ld (iblk m c 0 t) r0_2) (View.ld (iblk m c 0 t) r0_3)
      (iblk m c 2 t) (ix2 r k) : EReal) = newM m c (row t r) k := by
  rw [pay3_apply, grad_at, block2]
  rfl

theorem newV_at (t : Fin cfg0.N) (r : Fin 256) (k : Fin 641) :
    (k0_pay4 (F := Ideal) (View.ld (iblk m c 0 t) r0_0) (View.ld (iblk m c 0 t) r0_1) (View.ld (iblk m c 0 t) r0_2) (View.ld (iblk m c 0 t) r0_3)
      (iblk m c 3 t) (ix2 r k) : EReal) = newV m c (row t r) k := by
  rw [pay4_apply, grad_at, block3]
  rfl

/-! What a point leaves in each result's block. -/

theorem out4 (t : Fin cfg0.N) (r : Fin 256) (k : Fin 641) :
    (out0_4 (F := Ideal) (iblk m c 0 t) (iblk m c 1 t) (iblk m c 2 t) (iblk m c 3 t) (ix2 r k) : EReal) = grad m c (row t r) k := by
  unfold_out out0_4
  rw [View.canon_unit_zero hz]
  exact grad_at m c t r k

theorem out5 (t : Fin cfg0.N) (r : Fin 256) (k : Fin 641) :
    (out0_5 (F := Ideal) (iblk m c 0 t) (iblk m c 1 t) (iblk m c 2 t) (iblk m c 3 t) (ix2 r k) : EReal) = step m c (row t r) k := by
  unfold_out out0_5
  rw [View.canon_unit_zero hz]
  simp only [View.ld_unit_zero (S := S256x641) hz]
  rw [pay1_apply]
  exact congr (congrArg₂ update (block1 m c t r k) (newM_at m c t r k)) (newV_at m c t r k)

theorem out6 (t : Fin cfg0.N) (r : Fin 256) (k : Fin 641) :
    (out0_6 (F := Ideal) (iblk m c 0 t) (iblk m c 1 t) (iblk m c 2 t) (iblk m c 3 t) (ix2 r k) : EReal) = newM m c (row t r) k := by
  unfold_out out0_6
  rw [View.canon_unit_zero hz]
  simp only [View.ld_unit_zero (S := S256x641) hz]
  exact newM_at m c t r k

theorem out7 (t : Fin cfg0.N) (r : Fin 256) (k : Fin 641) :
    (out0_7 (F := Ideal) (iblk m c 0 t) (iblk m c 1 t) (iblk m c 2 t) (iblk m c 3 t) (ix2 r k) : EReal) = newV m c (row t r) k := by
  unfold_out out0_7
  rw [View.canon_unit_zero hz]
  simp only [View.ld_unit_zero (S := S256x641) hz]
  exact newV_at m c t r k

/-! The result arrays. -/

theorem final4 : (dats m 0 c).arrAt 4 cfg0.N = fun j : S1024x641.Idx => grad m c (j 0) (j 1) := by
  refine (dats m 0 c).arrAt_eq_of_covers 4 _ (by decide +kernel) fun t hf y => ?_
  blk_simp
  rw [after0_4]
  obtain ⟨r, k, rfl⟩ : ∃ r k, y = ix2 r k := ⟨_, _, eq_ix2 y⟩
  refine (out4 m c t r k).trans ?_
  congr 1
  · apply Fin.ext; blk_simp [idx4 t]; show 256 * t.val + r.val = _; omega
  · apply Fin.ext; blk_simp [idx4 t]

theorem final5 : (dats m 0 c).arrAt 5 cfg0.N = fun j : S1024x641.Idx => step m c (j 0) (j 1) := by
  refine (dats m 0 c).arrAt_eq_of_covers 5 _ (by decide +kernel) fun t hf y => ?_
  blk_simp
  rw [after0_5]
  obtain ⟨r, k, rfl⟩ : ∃ r k, y = ix2 r k := ⟨_, _, eq_ix2 y⟩
  refine (out5 m c t r k).trans ?_
  congr 1
  · apply Fin.ext; blk_simp [idx5 t]; show 256 * t.val + r.val = _; omega
  · apply Fin.ext; blk_simp [idx5 t]

theorem final6 : (dats m 0 c).arrAt 6 cfg0.N = fun j : S1024x641.Idx => newM m c (j 0) (j 1) := by
  refine (dats m 0 c).arrAt_eq_of_covers 6 _ (by decide +kernel) fun t hf y => ?_
  blk_simp
  rw [after0_6]
  obtain ⟨r, k, rfl⟩ : ∃ r k, y = ix2 r k := ⟨_, _, eq_ix2 y⟩
  refine (out6 m c t r k).trans ?_
  congr 1
  · apply Fin.ext; blk_simp [idx6 t]; show 256 * t.val + r.val = _; omega
  · apply Fin.ext; blk_simp [idx6 t]

theorem final7 : (dats m 0 c).arrAt 7 cfg0.N = fun j : S1024x641.Idx => newV m c (j 0) (j 1) := by
  refine (dats m 0 c).arrAt_eq_of_covers 7 _ (by decide +kernel) fun t hf y => ?_
  blk_simp
  rw [after0_7]
  obtain ⟨r, k, rfl⟩ : ∃ r k, y = ix2 r k := ⟨_, _, eq_ix2 y⟩
  refine (out7 m c t r k).trans ?_
  congr 1
  · apply Fin.ext; blk_simp [idx7 t]; show 256 * t.val + r.val = _; omega
  · apply Fin.ext; blk_simp [idx7 t]

/-! The reference's results. -/

theorem result4 : (val_main_v1 (F := Ideal) (argP m c) : _) = fun j : S1024x641.Idx => grad m c (j 0) (j 1) := by
  funext j
  obtain ⟨R, k, rfl⟩ : ∃ R k, j = ix2 R k := ⟨_, _, eq_ix2 j⟩
  show _ = grad m c R k
  unfold grad
  have e : (val_main_v1 (F := Ideal) (argP m c) (ix2 R k) : EReal) = ∑ a : Fin 4, argP m c (ix3 a R k) := by
    pointwise [val_main_v1, val_main_cst, val_main_v0]
  rw [e, Fin.sum_univ_four]

theorem ref_grad (R : Fin 1024) (k : Fin 641) : (val_main_v1 (F := Ideal) (argP m c) (ix2 R k) : EReal) = grad m c R k :=
  congrFun (result4 m c) (ix2 R k)

theorem ref_newM (R : Fin 1024) (k : Fin 641) : (val_main_v6 (F := Ideal) (argP m c) (argM m c) (ix2 R k) : EReal) = newM m c R k := by
  unfold newM
  rw [← ref_grad]
  unfold val_main_v6 val_main_v5 val_main_v4 val_main_v3 val_main_v2 val_main_cst_1 val_main_cst_0
  generalize val_main_v1 (F := Ideal) _ = g
  pointwise []
  rfl

theorem ref_newV (R : Fin 1024) (k : Fin 641) : (val_main_v12 (F := Ideal) (argP m c) (argV m c) (ix2 R k) : EReal) = newV m c R k := by
  unfold newV
  rw [← ref_grad]
  unfold val_main_v12 val_main_v11 val_main_v10 val_main_v9 val_main_v8 val_main_v7 val_main_cst_3 val_main_cst_2
  generalize val_main_v1 (F := Ideal) _ = g
  pointwise []
  rfl

theorem ref_step (R : Fin 1024) (k : Fin 641) :
    (val_main_v25 (F := Ideal) (argP m c) (argW m c) (argM m c) (argV m c) (ix2 R k) : EReal) = step m c R k := by
  unfold step
  rw [← ref_newM, ← ref_newV]
  unfold val_main_v25 val_main_v24 val_main_v23 val_main_v22 val_main_v21 val_main_v20 val_main_v19 val_main_v18 val_main_v17 val_main_v16
    val_main_v15 val_main_v14 val_main_v13 val_main_cst_8 val_main_cst_7 val_main_cst_6 val_main_cst_5 val_main_cst_4
  generalize val_main_v6 (F := Ideal) _ _ = p
  generalize val_main_v12 (F := Ideal) _ _ = q
  pointwise []
  rfl

/-- The reference runs and leaves its arguments unchanged. -/
theorem frame_reference : Cert.quiescent_UpdateRefIdeal := fun m ρ _ =>
  (θ_run Cert.UpdateRefIdeal.defs _ _).mono (fun r h => ⟨fun c => (h c).2.2.2.2,
      Idealize.ShloMosaic.sem_eq_zero_of_no_sems (by decide) r.2⟩)
    (Cert.UpdateRefIdeal.Value.run (F := Ideal) m ρ)

theorem algebraic : Cert.algebraic_UpdateIdeal_UpdateRefIdeal := by
  intro m ρ m' ρ' _ hagree
  refine ⟨fun c y => grad m c (y 0) (y 1), fun c y => step m c (y 0) (y 1), fun c y => newM m c (y 0) (y 1), fun c y => newV m c (y 0) (y 1), ?_, ?_⟩
  · refine (θ_run Cert.UpdateIdeal.defs _ _).mono (fun _ h c => ?_) (Cert.UpdateIdeal.Value.run_blocks (F := Ideal) m ρ)
    obtain ⟨h4, h5, h6, h7, hk⟩ := h c
    exact ⟨h4.trans (final4 m c), h5.trans (final5 m c), h6.trans (final6 m c), h7.trans (final7 m c), hk⟩
  · refine (θ_run Cert.UpdateRefIdeal.defs _ _).mono (fun _ h c => ?_) (Cert.UpdateRefIdeal.Value.run (F := Ideal) m' ρ')
    obtain ⟨a0, a1, a2, a3⟩ := hagree c
    obtain ⟨h4, h5, h6, h7, hk⟩ := h c
    refine ⟨h4.trans ?_, h5.trans ?_, h6.trans ?_, h7.trans ?_, hk⟩
    · rw [val_main_v1_eq, a0]
      exact result4 m c
    · rw [val_main_v25_eq, a0, a1, a2, a3]
      exact funext fun y => (congrArg _ (eq_ix2 y)).trans (ref_step m c (y 0) (y 1))
    · rw [val_main_v6_eq, a0, a2]
      exact funext fun y => (congrArg _ (eq_ix2 y)).trans (ref_newM m c (y 0) (y 1))
    · rw [val_main_v12_eq, a0, a3]
      exact funext fun y => (congrArg _ (eq_ix2 y)).trans (ref_newV m c (y 0) (y 1))

end Cert.UpdateProof.Claim

end
-- ==== Proof.RowSums.lean ====
/- A sum over all rows, gathered block by block in the order of the grid's points. -/
module

public import proofs.«01_k».proof.Defs
public import Idealize.ShloMosaic.Lib.Pointwise
public import Idealize.ShloMosaic.Lib.ValueIdx
public import Idealize.ShloMosaic.Lib.Quiescent
public import Idealize.ShloMosaic.PureOps.Ideal.Laws
public import proofs.«01_k».proof.Proof.Gen.WoutIdeal.Value
public import Idealize.ShloMosaic.Lib.Pipeline.ValueKit

@[expose] public section

noncomputable section

namespace Cert.RowSums

open Idealize.ShloMosaic

/-- A function of the rows, continued by zero. -/
def col (g : Fin 8192 → EReal) (j : ℕ) : EReal := if h : j < 8192 then g ⟨j, h⟩ else 0

theorem col_at (g : Fin 8192 → EReal) (j : ℕ) (R : Fin 8192) (h : j = R.val) : col g j = g R := by
  subst h
  exact dif_pos R.isLt

theorem col_sum (g : Fin 8192 → EReal) (n : ℕ) (hn : n = 8192) : ∑ j ∈ Finset.range n, col g j = ∑ R : Fin 8192, g R := by
  subst hn
  rw [Finset.sum_range]
  exact Finset.sum_congr rfl fun R _ => col_at g _ R rfl

/-- An accumulator that starts at its first block's sum and adds the later blocks' holds the sum of all their rows. -/
theorem fold {S : Shape} {N : ℕ} (L : ℕ) (reset : (n : ℕ) → n < N → Vec Ideal S .f32)
    (step : (n : ℕ) → n < N → Vec Ideal S .f32 → Vec Ideal S .f32) (i : S.Idx) (f : ℕ → EReal)
    (hr : ∀ n h, (reset n h i : EReal) = ∑ p : Fin L, f (L * n + p.val))
    (hs : ∀ n h a, (step n h a i : EReal) = a i + ∑ p : Fin L, f (L * n + p.val))
    (b : ℕ) (hb : b = 0) (k : ℕ) (h : b + k < N) :
    (Pipeline.accAt reset step b k h i : EReal) = ∑ j ∈ Finset.range (L * (k + 1)), f j := by
  subst hb
  induction k with
  | zero =>
    rw [Pipeline.accAt_zero, hr, Nat.zero_add, Nat.mul_one, Finset.sum_range]
    simp
  | succ k ih =>
    rw [Pipeline.accAt_succ, hs, ih, Nat.mul_succ L (k + 1), Finset.sum_range_add, Finset.sum_range (fun x => f (L * (k + 1) + x)), Nat.zero_add]

end Cert.RowSums

end
-- ==== Proof.WoutClaim.lean ====
/- The weight gradient's product: the sum over the rows, gathered in four blocks. -/
module

public import proofs.«01_k».proof.Proof.RowSums
public import proofs.«01_k».proof.Proof.Gen.WoutRefIdeal.Run
public import proofs.«01_k».proof.Proof.Gen.WoutRefIdeal.Read

@[expose] public section

set_option maxRecDepth 16384

noncomputable section

namespace Cert.WoutProof.Claim

open Cert.WoutIdeal Cert.WoutIdeal.Gen Cert.WoutIdeal.Value Idealize.ShloMosaic Idealize.ShloMosaic.TcCoe Idealize.SL.Sem
open Cert.WoutRefIdeal.Read (val_main_v0 val_main_v1 val_main_v1_eq)
open Cert.RowSums

theorem pay2_apply (a : Vec Ideal S1024x1024 .f32) (x y : Vec Ideal S2048x1024 .bf16) (r s : Fin 1024) :
    (k0_pay2 (F := Ideal) a x y (ix2 r s) : EReal) = a (ix2 r s) + ∑ p : Fin 2048, x (ix2 p r) * y (ix2 p s) := by
  pointwise [k0_pay2]

theorem pay1_apply (r s : Fin 1024) : (k0_pay1 (F := Ideal) (ix2 r s) : EReal) = 0 := by
  pointwise [k0_pay1]

variable (m : (ℓ : Loc nD τ sig) → Buf (Elt Ideal) ℓ) (c : Dev nD)

abbrev argA : Vec Ideal S8192x1024 .bf16 := m (c, Proc.tc.devRef main_arg0)
abbrev argB : Vec Ideal S8192x1024 .bf16 := m (c, Proc.tc.devRef main_arg1)

/-- The row of the arrays that is row `p` of the block at point `t`. -/
def row (t : Fin cfg0.N) (p : Fin 2048) : Fin 8192 :=
  ⟨2048 * t.val + p.val, by have : t.val < 4 := lt_of_lt_of_eq t.isLt N_0; omega⟩

theorem idx0 : ∀ t : Fin cfg0.N, win0_0.index t = ![t.val, 0] := by decide +kernel
theorem idx1 : ∀ t : Fin cfg0.N, win0_1.index t = ![t.val, 0] := by decide +kernel

theorem block0 (t : Fin cfg0.N) (p : Fin 2048) (k : Fin 1024) : (iblk m c 0 t (ix2 p k) : EReal) = argA m c (ix2 (row t p) k) := by
  have e : ∀ A : Vec Ideal S8192x1024 .bf16, (((cfg0.win 0).blk t).view.read (Elt Ideal) A : _) (ix2 p k) = A (ix2 (row t p) k) := by
    intro A
    blk_ext [idx0 t, row]
  exact (e (V m c main_arg0)).trans (congrFun (V_main_arg0 m c) _)
theorem block1 (t : Fin cfg0.N) (p : Fin 2048) (k : Fin 1024) : (iblk m c 1 t (ix2 p k) : EReal) = argB m c (ix2 (row t p) k) := by
  have e : ∀ A : Vec Ideal S8192x1024 .bf16, (((cfg0.win 1).blk t).view.read (Elt Ideal) A : _) (ix2 p k) = A (ix2 (row t p) k) := by
    intro A
    blk_ext [idx1 t, row]
  exact (e (V m c main_arg1)).trans (congrFun (V_main_arg1 m c) _)

/-- A row's part of an entry of the product. -/
def term (r s : Fin 1024) (R : Fin 8192) : EReal := argA m c (ix2 R r) * argB m c (ix2 R s)

theorem blocks (n : ℕ) (h : n < cfg0.N) (r s : Fin 1024) (x y : Fin 2048 → EReal) (hx : ∀ p, x p = argA m c (ix2 (row ⟨n, h⟩ p) r))
    (hy : ∀ p, y p = argB m c (ix2 (row ⟨n, h⟩ p) s)) :
    (∑ p : Fin 2048, x p * y p) = ∑ p : Fin 2048, col (term m c r s) (2048 * n + p.val) :=
  Finset.sum_congr rfl fun p _ => by
    rw [hx, hy]
    exact (col_at (term m c r s) (2048 * n + p.val) (row ⟨n, h⟩ p) rfl).symm

/-- The product of the first array's transpose and the second. -/
def product : Vec Ideal S1024x1024 .f32 := fun y => (∑ R : Fin 8192, term m c (y 0) (y 1) R : EReal)

theorem final : G2 m c = product m c := by
  funext y
  obtain ⟨r, s, rfl⟩ : ∃ r s, y = ix2 r s := ⟨_, _, eq_ix2 y⟩
  have hb : 4 * run2Of (ix2 r s) = 0 := by
    show 4 * (1 * (r.val / 1024 - 0) + 1 * (s.val / 1024 - 0)) = 0
    omega
  have hl : loc2Of (ix2 r s) = ix2 r s := by
    funext a
    fin_cases a
    · exact Fin.ext (Nat.mod_eq_of_lt r.isLt)
    · exact Fin.ext (Nat.mod_eq_of_lt s.isLt)
  have hN : 4 * run2Of (ix2 r s) + 3 < cfg0.N := by
    rw [hb, show cfg0.N = 4 from N_0]
    decide
  unfold G2
  rw [dif_pos hN, hl]
  refine (fold 2048 _ _ (ix2 r s) (col (term m c r s)) ?_ ?_ _ hb 3 hN).trans (col_sum _ _ rfl)
  · intro n h
    unfold reset2
    rw [pay2_apply, pay1_apply, zero_add]
    exact blocks m c n h r s (fun p => iblk m c 0 ⟨n, h⟩ (ix2 p r)) (fun p => iblk m c 1 ⟨n, h⟩ (ix2 p s)) (fun p => block0 m c _ p r)
      fun p => block1 m c _ p s
  · intro n h a
    unfold step2
    rw [pay2_apply]
    exact congrArg _ (blocks m c n h r s (fun p => iblk m c 0 ⟨n, h⟩ (ix2 p r)) (fun p => iblk m c 1 ⟨n, h⟩ (ix2 p s))
      (fun p => block0 m c _ p r) fun p => block1 m c _ p s)

theorem result : (val_main_v1 (F := Ideal) (argA m c) (argB m c) : _) = product m c := by
  funext y
  obtain ⟨r, s, rfl⟩ : ∃ r s, y = ix2 r s := ⟨_, _, eq_ix2 y⟩
  unfold product term
  pointwise [val_main_v1, val_main_v0]

/-- The reference runs and leaves its arguments unchanged. -/
theorem frame_reference : Cert.quiescent_WoutRefIdeal := fun m ρ _ =>
  (θ_run Cert.WoutRefIdeal.defs _ _).mono (fun r h => ⟨fun c => (h c).2,
      Idealize.ShloMosaic.sem_eq_zero_of_no_sems (by decide) r.2⟩)
    (Cert.WoutRefIdeal.Value.run (F := Ideal) m ρ)

theorem algebraic : Cert.algebraic_WoutIdeal_WoutRefIdeal := by
  intro m ρ m' ρ' _ hagree
  refine ⟨fun c => product m c, ?_, ?_⟩
  · refine (θ_run Cert.WoutIdeal.defs _ _).mono (fun _ h c => ?_) (Cert.WoutIdeal.Value.run (F := Ideal) m ρ)
    exact ⟨(h c).1.trans (final m c), (h c).2⟩
  · refine (θ_run Cert.WoutRefIdeal.defs _ _).mono (fun _ h c => ?_) (Cert.WoutRefIdeal.Value.run (F := Ideal) m' ρ')
    obtain ⟨a0, a1⟩ := hagree c
    refine ⟨(h c).1.trans ?_, (h c).2⟩
    rw [val_main_v1_eq, a0, a1]
    exact result m c

end Cert.WoutProof.Claim

end
-- ==== Proof.NarrowClaim.lean ====
/- The weight gradient's narrow columns: seven products with one transpose, each summed over the rows in eight blocks. -/
module

public import proofs.«01_k».proof.Proof.RowSums
public import proofs.«01_k».proof.Proof.Gen.NarrowIdeal.Value
public import proofs.«01_k».proof.Proof.Gen.NarrowRefIdeal.Run
public import proofs.«01_k».proof.Proof.Gen.NarrowRefIdeal.Read

@[expose] public section

set_option maxRecDepth 16384

noncomputable section

namespace Cert.NarrowProof.Claim

open Cert.NarrowIdeal Cert.NarrowIdeal.Gen Cert.NarrowIdeal.Value Cert.NarrowRefIdeal.Read Idealize.ShloMosaic Idealize.ShloMosaic.TcCoe Idealize.SL.Sem
open Cert.RowSums

section Steps
variable (x : Vec Ideal S1024x1024 .bf16) (a : Vec Ideal S1024x512 .f32) (y : Vec Ideal S1024x512 .f32) (z : Vec Ideal S1024x512 .bf16)
  (r : Fin 1024) (s : Fin 512)

theorem pay12_apply : (k0_pay12 (F := Ideal) x a y (ix2 r s) : EReal) = a (ix2 r s) + ∑ p : Fin 1024, x (ix2 p r) * y (ix2 p s) := by
  pointwise [k0_pay12]
theorem pay5_apply : (k0_pay5 (F := Ideal) (ix2 r s) : EReal) = 0 := by
  pointwise [k0_pay5]

theorem pay13_apply : (k0_pay13 (F := Ideal) x a z (ix2 r s) : EReal) = a (ix2 r s) + ∑ p : Fin 1024, x (ix2 p r) * z (ix2 p s) := by
  pointwise [k0_pay13]
theorem pay6_apply : (k0_pay6 (F := Ideal) (ix2 r s) : EReal) = 0 := by
  pointwise [k0_pay6]

theorem pay14_apply : (k0_pay14 (F := Ideal) x a z (ix2 r s) : EReal) = a (ix2 r s) + ∑ p : Fin 1024, x (ix2 p r) * z (ix2 p s) := by
  pointwise [k0_pay14]
theorem pay7_apply : (k0_pay7 (F := Ideal) (ix2 r s) : EReal) = 0 := by
  pointwise [k0_pay7]

theorem pay1_apply (a y : Vec Ideal S1024x8 .f32) (s : Fin 8) :
    (k0_pay1 (F := Ideal) x (k0_pay15 a) y (ix2 r s) : EReal) = a (ix2 r s) + ∑ p : Fin 1024, x (ix2 p r) * y (ix2 p s) := by
  pointwise [k0_pay1, k0_pay15]
theorem pay8_apply (s : Fin 8) : (k0_pay8 (F := Ideal) (ix2 r s) : EReal) = 0 := by
  pointwise [k0_pay8]

theorem pay2_apply : (k0_pay2 (F := Ideal) x a z (ix2 r s) : EReal) = a (ix2 r s) + ∑ p : Fin 1024, x (ix2 p r) * z (ix2 p s) := by
  pointwise [k0_pay2]
theorem pay9_apply : (k0_pay9 (F := Ideal) (ix2 r s) : EReal) = 0 := by
  pointwise [k0_pay9]

theorem pay3_apply : (k0_pay3 (F := Ideal) x a y (ix2 r s) : EReal) = a (ix2 r s) + ∑ p : Fin 1024, x (ix2 p r) * y (ix2 p s) := by
  pointwise [k0_pay3]
theorem pay10_apply : (k0_pay10 (F := Ideal) (ix2 r s) : EReal) = 0 := by
  pointwise [k0_pay10]

theorem pay4_apply : (k0_pay4 (F := Ideal) x a z (ix2 r s) : EReal) = a (ix2 r s) + ∑ p : Fin 1024, x (ix2 p r) * z (ix2 p s) := by
  pointwise [k0_pay4]
theorem pay11_apply : (k0_pay11 (F := Ideal) (ix2 r s) : EReal) = 0 := by
  pointwise [k0_pay11]

end Steps

variable (m : (ℓ : Loc nD τ sig) → Buf (Elt Ideal) ℓ) (c : Dev nD)

abbrev arg0 : Vec Ideal S8192x1024 .bf16 := m (c, Proc.tc.devRef main_arg0)
abbrev arg1 : Vec Ideal S8192x512 .f32 := m (c, Proc.tc.devRef main_arg1)
abbrev arg2 : Vec Ideal S8192x512 .bf16 := m (c, Proc.tc.devRef main_arg2)
abbrev arg3 : Vec Ideal S8192x512 .bf16 := m (c, Proc.tc.devRef main_arg3)
abbrev arg4 : Vec Ideal S8192x8 .f32 := m (c, Proc.tc.devRef main_arg4)
abbrev arg5 : Vec Ideal S8192x512 .bf16 := m (c, Proc.tc.devRef main_arg5)
abbrev arg6 : Vec Ideal S8192x512 .f32 := m (c, Proc.tc.devRef main_arg6)
abbrev arg7 : Vec Ideal S8192x512 .bf16 := m (c, Proc.tc.devRef main_arg7)

/-- The row of the arrays that is row `p` of the block at point `t`. -/
def row (t : Fin cfg0.N) (p : Fin 1024) : Fin 8192 :=
  ⟨1024 * t.val + p.val, by have : t.val < 8 := lt_of_lt_of_eq t.isLt N_0; omega⟩

/-! The blocks of the arguments. -/

theorem idx0 : ∀ t : Fin cfg0.N, win0_0.index t = ![t.val, 0] := by decide +kernel
theorem block0 (t : Fin cfg0.N) (p : Fin 1024) (k : Fin 1024) : (iblk m c 0 t (ix2 p k) : EReal) = arg0 m c (ix2 (row t p) k) := by
  have e : ∀ A : Vec Ideal S8192x1024 .bf16, (((cfg0.win 0).blk t).view.read (Elt Ideal) A : _) (ix2 p k) = A (ix2 (row t p) k) := by
    intro A
    blk_ext [idx0 t, row]
  exact (e (V m c main_arg0)).trans (congrFun (V_main_arg0 m c) _)

theorem idx1 : ∀ t : Fin cfg0.N, win0_1.index t = ![t.val, 0] := by decide +kernel
theorem block1 (t : Fin cfg0.N) (p : Fin 1024) (k : Fin 512) : (iblk m c 1 t (ix2 p k) : EReal) = arg1 m c (ix2 (row t p) k) := by
  have e : ∀ A : Vec Ideal S8192x512 .f32, (((cfg0.win 1).blk t).view.read (Elt Ideal) A : _) (ix2 p k) = A (ix2 (row t p) k) := by
    intro A
    blk_ext [idx1 t, row]
  exact (e (V m c main_arg1)).trans (congrFun (V_main_arg1 m c) _)

theorem idx2 : ∀ t : Fin cfg0.N, win0_2.index t = ![t.val, 0] := by decide +kernel
theorem block2 (t : Fin cfg0.N) (p : Fin 1024) (k : Fin 512) : (iblk m c 2 t (ix2 p k) : EReal) = arg2 m c (ix2 (row t p) k) := by
  have e : ∀ A : Vec Ideal S8192x512 .bf16, (((cfg0.win 2).blk t).view.read (Elt Ideal) A : _) (ix2 p k) = A (ix2 (row t p) k) := by
    intro A
    blk_ext [idx2 t, row]
  exact (e (V m c main_arg2)).trans (congrFun (V_main_arg2 m c) _)

theorem idx3 : ∀ t : Fin cfg0.N, win0_3.index t = ![t.val, 0] := by decide +kernel
theorem block3 (t : Fin cfg0.N) (p : Fin 1024) (k : Fin 512) : (iblk m c 3 t (ix2 p k) : EReal) = arg3 m c (ix2 (row t p) k) := by
  have e : ∀ A : Vec Ideal S8192x512 .bf16, (((cfg0.win 3).blk t).view.read (Elt Ideal) A : _) (ix2 p k) = A (ix2 (row t p) k) := by
    intro A
    blk_ext [idx3 t, row]
  exact (e (V m c main_arg3)).trans (congrFun (V_main_arg3 m c) _)

theorem idx4 : ∀ t : Fin cfg0.N, win0_4.index t = ![t.val, 0] := by decide +kernel
theorem block4 (t : Fin cfg0.N) (p : Fin 1024) (k : Fin 8) : (iblk m c 4 t (ix2 p k) : EReal) = arg4 m c (ix2 (row t p) k) := by
  have e : ∀ A : Vec Ideal S8192x8 .f32, (((cfg0.win 4).blk t).view.read (Elt Ideal) A : _) (ix2 p k) = A (ix2 (row t p) k) := by
    intro A
    blk_ext [idx4 t, row]
  exact (e (V m c main_arg4)).trans (congrFun (V_main_arg4 m c) _)

theorem idx5 : ∀ t : Fin cfg0.N, win0_5.index t = ![t.val, 0] := by decide +kernel
theorem block5 (t : Fin cfg0.N) (p : Fin 1024) (k : Fin 512) : (iblk m c 5 t (ix2 p k) : EReal) = arg5 m c (ix2 (row t p) k) := by
  have e : ∀ A : Vec Ideal S8192x512 .bf16, (((cfg0.win 5).blk t).view.read (Elt Ideal) A : _) (ix2 p k) = A (ix2 (row t p) k) := by
    intro A
    blk_ext [idx5 t, row]
  exact (e (V m c main_arg5)).trans (congrFun (V_main_arg5 m c) _)

theorem idx6 : ∀ t : Fin cfg0.N, win0_6.index t = ![t.val, 0] := by decide +kernel
theorem block6 (t : Fin cfg0.N) (p : Fin 1024) (k : Fin 512) : (iblk m c 6 t (ix2 p k) : EReal) = arg6 m c (ix2 (row t p) k) := by
  have e : ∀ A : Vec Ideal S8192x512 .f32, (((cfg0.win 6).blk t).view.read (Elt Ideal) A : _) (ix2 p k) = A (ix2 (row t p) k) := by
    intro A
    blk_ext [idx6 t, row]
  exact (e (V m c main_arg6)).trans (congrFun (V_main_arg6 m c) _)

theorem idx7 : ∀ t : Fin cfg0.N, win0_7.index t = ![t.val, 0] := by decide +kernel
theorem block7 (t : Fin cfg0.N) (p : Fin 1024) (k : Fin 512) : (iblk m c 7 t (ix2 p k) : EReal) = arg7 m c (ix2 (row t p) k) := by
  have e : ∀ A : Vec Ideal S8192x512 .bf16, (((cfg0.win 7).blk t).view.read (Elt Ideal) A : _) (ix2 p k) = A (ix2 (row t p) k) := by
    intro A
    blk_ext [idx7 t, row]
  exact (e (V m c main_arg7)).trans (congrFun (V_main_arg7 m c) _)

/-- A row's part of an entry of a product. -/
def term (r : Fin 1024) (B : Fin 8192 → EReal) (R : Fin 8192) : EReal := arg0 m c (ix2 R r) * B R

/-- The product of the first array's transpose and the columns `B`. -/
def product {n : ℕ} (B : Fin 8192 → Fin n → EReal) (y : (⟨2, ![1024, n]⟩ : Shape).Idx) : EReal :=
  ∑ R : Fin 8192, term m c (y 0) (fun R => B R (y 1)) R

theorem blocks (n : ℕ) (h : n < cfg0.N) (r : Fin 1024) (B : Fin 8192 → EReal) (y : Fin 1024 → EReal) (hy : ∀ p, y p = B (row ⟨n, h⟩ p))
    (x : Fin 1024 → EReal) (hx : ∀ p, x p = iblk m c 0 ⟨n, h⟩ (ix2 p r)) :
    (∑ p : Fin 1024, x p * y p) = ∑ p : Fin 1024, col (term m c r B) (1024 * n + p.val) :=
  Finset.sum_congr rfl fun p _ => by
    rw [hx, block0, hy]
    exact (col_at (term m c r B) (1024 * n + p.val) (row ⟨n, h⟩ p) rfl).symm

theorem size : cfg0.N = 8 := N_0

theorem place {n : ℕ} (r : Fin 1024) (s : Fin n) (i : (⟨2, ![1024, n]⟩ : Shape).Idx) (h0 : (i 0).val = r.val % 1024) (h1 : (i 1).val = s.val % n) :
    i = ix2 r s := by
  funext a
  fin_cases a
  · exact Fin.ext (h0.trans (Nat.mod_eq_of_lt r.isLt))
  · exact Fin.ext (h1.trans (Nat.mod_eq_of_lt s.isLt))

/-! The result arrays. -/

theorem final8 : G8 m c = product m c fun R (k : Fin 512) => arg1 m c (ix2 R k) := by
  funext y
  obtain ⟨r, s, rfl⟩ : ∃ r s, y = ix2 r s := ⟨_, _, eq_ix2 y⟩
  have hb : 8 * run8Of (ix2 r s) = 0 := by show 8 * (1 * (r.val / 1024 - 0) + 1 * (s.val / 512 - 0)) = 0; omega
  have hl : loc8Of (ix2 r s) = ix2 r s := place r s _ rfl rfl
  have hN : 8 * run8Of (ix2 r s) + 7 < cfg0.N := by rw [hb, size]; decide
  unfold G8
  rw [dif_pos hN, hl]
  refine (fold 1024 _ _ (ix2 r s) (col (term m c r fun R => arg1 m c (ix2 R s))) (fun k h => ?_) (fun k h a => ?_) _ hb 7 hN).trans (col_sum _ _ rfl)
  · unfold reset8
    rw [pay12_apply, pay5_apply, zero_add]
    exact blocks m c k h r (fun R => arg1 m c (ix2 R s)) (fun p => iblk m c 1 ⟨k, h⟩ (ix2 p s)) (fun p => block1 m c _ p s) _ fun _ => rfl
  · unfold step8
    rw [pay12_apply]
    exact congrArg _ (blocks m c k h r (fun R => arg1 m c (ix2 R s)) (fun p => iblk m c 1 ⟨k, h⟩ (ix2 p s)) (fun p => block1 m c _ p s) _ fun _ => rfl)
theorem result8 : (val_main_v2 (F := Ideal) (arg0 m c) (arg1 m c) : _) = product m c fun R (k : Fin 512) => arg1 m c (ix2 R k) := by
  funext y
  obtain ⟨r, s, rfl⟩ : ∃ r s, y = ix2 r s := ⟨_, _, eq_ix2 y⟩
  unfold product term
  pointwise [val_main_v2, val_main_v1, val_main_v0]

theorem final9 : G9 m c = product m c fun R (k : Fin 512) => arg2 m c (ix2 R k) := by
  funext y
  obtain ⟨r, s, rfl⟩ : ∃ r s, y = ix2 r s := ⟨_, _, eq_ix2 y⟩
  have hb : 8 * run9Of (ix2 r s) = 0 := by show 8 * (1 * (r.val / 1024 - 0) + 1 * (s.val / 512 - 0)) = 0; omega
  have hl : loc9Of (ix2 r s) = ix2 r s := place r s _ rfl rfl
  have hN : 8 * run9Of (ix2 r s) + 7 < cfg0.N := by rw [hb, size]; decide
  unfold G9
  rw [dif_pos hN, hl]
  refine (fold 1024 _ _ (ix2 r s) (col (term m c r fun R => arg2 m c (ix2 R s))) (fun k h => ?_) (fun k h a => ?_) _ hb 7 hN).trans (col_sum _ _ rfl)
  · unfold reset9
    rw [pay13_apply, pay6_apply, zero_add]
    exact blocks m c k h r (fun R => arg2 m c (ix2 R s)) (fun p => iblk m c 2 ⟨k, h⟩ (ix2 p s)) (fun p => block2 m c _ p s) _ fun _ => rfl
  · unfold step9
    rw [pay13_apply]
    exact congrArg _ (blocks m c k h r (fun R => arg2 m c (ix2 R s)) (fun p => iblk m c 2 ⟨k, h⟩ (ix2 p s)) (fun p => block2 m c _ p s) _ fun _ => rfl)
theorem result9 : (val_main_v4 (F := Ideal) (arg0 m c) (arg2 m c) : _) = product m c fun R (k : Fin 512) => arg2 m c (ix2 R k) := by
  funext y
  obtain ⟨r, s, rfl⟩ : ∃ r s, y = ix2 r s := ⟨_, _, eq_ix2 y⟩
  unfold product term
  pointwise [val_main_v4, val_main_v3]

theorem final10 : G10 m c = product m c fun R (k : Fin 512) => arg3 m c (ix2 R k) := by
  funext y
  obtain ⟨r, s, rfl⟩ : ∃ r s, y = ix2 r s := ⟨_, _, eq_ix2 y⟩
  have hb : 8 * run10Of (ix2 r s) = 0 := by show 8 * (1 * (r.val / 1024 - 0) + 1 * (s.val / 512 - 0)) = 0; omega
  have hl : loc10Of (ix2 r s) = ix2 r s := place r s _ rfl rfl
  have hN : 8 * run10Of (ix2 r s) + 7 < cfg0.N := by rw [hb, size]; decide
  unfold G10
  rw [dif_pos hN, hl]
  refine (fold 1024 _ _ (ix2 r s) (col (term m c r fun R => arg3 m c (ix2 R s))) (fun k h => ?_) (fun k h a => ?_) _ hb 7 hN).trans (col_sum _ _ rfl)
  · unfold reset10
    rw [pay14_apply, pay7_apply, zero_add]
    exact blocks m c k h r (fun R => arg3 m c (ix2 R s)) (fun p => iblk m c 3 ⟨k, h⟩ (ix2 p s)) (fun p => block3 m c _ p s) _ fun _ => rfl
  · unfold step10
    rw [pay14_apply]
    exact congrArg _ (blocks m c k h r (fun R => arg3 m c (ix2 R s)) (fun p => iblk m c 3 ⟨k, h⟩ (ix2 p s)) (fun p => block3 m c _ p s) _ fun _ => rfl)
theorem result10 : (val_main_v6 (F := Ideal) (arg0 m c) (arg3 m c) : _) = product m c fun R (k : Fin 512) => arg3 m c (ix2 R k) := by
  funext y
  obtain ⟨r, s, rfl⟩ : ∃ r s, y = ix2 r s := ⟨_, _, eq_ix2 y⟩
  unfold product term
  pointwise [val_main_v6, val_main_v5]

theorem final11 : G11 m c = product m c fun R (k : Fin 8) => arg4 m c (ix2 R k) := by
  funext y
  obtain ⟨r, s, rfl⟩ : ∃ r s, y = ix2 r s := ⟨_, _, eq_ix2 y⟩
  have hb : 8 * run11Of (ix2 r s) = 0 := by show 8 * (1 * (r.val / 1024 - 0) + 1 * (s.val / 8 - 0)) = 0; omega
  have hl : loc11Of (ix2 r s) = ix2 r s := place r s _ rfl rfl
  have hN : 8 * run11Of (ix2 r s) + 7 < cfg0.N := by rw [hb, size]; decide
  unfold G11
  rw [dif_pos hN, hl]
  refine (fold 1024 _ _ (ix2 r s) (col (term m c r fun R => arg4 m c (ix2 R s))) (fun k h => ?_) (fun k h a => ?_) _ hb 7 hN).trans (col_sum _ _ rfl)
  · unfold reset11
    rw [pay1_apply, pay8_apply, zero_add]
    exact blocks m c k h r (fun R => arg4 m c (ix2 R s)) (fun p => iblk m c 4 ⟨k, h⟩ (ix2 p s)) (fun p => block4 m c _ p s) _ fun _ => rfl
  · unfold step11
    rw [pay1_apply]
    exact congrArg _ (blocks m c k h r (fun R => arg4 m c (ix2 R s)) (fun p => iblk m c 4 ⟨k, h⟩ (ix2 p s)) (fun p => block4 m c _ p s) _ fun _ => rfl)
theorem result11 : (val_main_v9 (F := Ideal) (arg0 m c) (arg4 m c) : _) = product m c fun R (k : Fin 8) => arg4 m c (ix2 R k) := by
  funext y
  obtain ⟨r, s, rfl⟩ : ∃ r s, y = ix2 r s := ⟨_, _, eq_ix2 y⟩
  unfold product term
  pointwise [val_main_v9, val_main_v8, val_main_v7]

theorem final12 : G12 m c = product m c fun R (k : Fin 512) => arg5 m c (ix2 R k) := by
  funext y
  obtain ⟨r, s, rfl⟩ : ∃ r s, y = ix2 r s := ⟨_, _, eq_ix2 y⟩
  have hb : 8 * run12Of (ix2 r s) = 0 := by show 8 * (1 * (r.val / 1024 - 0) + 1 * (s.val / 512 - 0)) = 0; omega
  have hl : loc12Of (ix2 r s) = ix2 r s := place r s _ rfl rfl
  have hN : 8 * run12Of (ix2 r s) + 7 < cfg0.N := by rw [hb, size]; decide
  unfold G12
  rw [dif_pos hN, hl]
  refine (fold 1024 _ _ (ix2 r s) (col (term m c r fun R => arg5 m c (ix2 R s))) (fun k h => ?_) (fun k h a => ?_) _ hb 7 hN).trans (col_sum _ _ rfl)
  · unfold reset12
    rw [pay2_apply, pay9_apply, zero_add]
    exact blocks m c k h r (fun R => arg5 m c (ix2 R s)) (fun p => iblk m c 5 ⟨k, h⟩ (ix2 p s)) (fun p => block5 m c _ p s) _ fun _ => rfl
  · unfold step12
    rw [pay2_apply]
    exact congrArg _ (blocks m c k h r (fun R => arg5 m c (ix2 R s)) (fun p => iblk m c 5 ⟨k, h⟩ (ix2 p s)) (fun p => block5 m c _ p s) _ fun _ => rfl)
theorem result12 : (val_main_v11 (F := Ideal) (arg0 m c) (arg5 m c) : _) = product m c fun R (k : Fin 512) => arg5 m c (ix2 R k) := by
  funext y
  obtain ⟨r, s, rfl⟩ : ∃ r s, y = ix2 r s := ⟨_, _, eq_ix2 y⟩
  unfold product term
  pointwise [val_main_v11, val_main_v10]

theorem final13 : G13 m c = product m c fun R (k : Fin 512) => arg6 m c (ix2 R k) := by
  funext y
  obtain ⟨r, s, rfl⟩ : ∃ r s, y = ix2 r s := ⟨_, _, eq_ix2 y⟩
  have hb : 8 * run13Of (ix2 r s) = 0 := by show 8 * (1 * (r.val / 1024 - 0) + 1 * (s.val / 512 - 0)) = 0; omega
  have hl : loc13Of (ix2 r s) = ix2 r s := place r s _ rfl rfl
  have hN : 8 * run13Of (ix2 r s) + 7 < cfg0.N := by rw [hb, size]; decide
  unfold G13
  rw [dif_pos hN, hl]
  refine (fold 1024 _ _ (ix2 r s) (col (term m c r fun R => arg6 m c (ix2 R s))) (fun k h => ?_) (fun k h a => ?_) _ hb 7 hN).trans (col_sum _ _ rfl)
  · unfold reset13
    rw [pay3_apply, pay10_apply, zero_add]
    exact blocks m c k h r (fun R => arg6 m c (ix2 R s)) (fun p => iblk m c 6 ⟨k, h⟩ (ix2 p s)) (fun p => block6 m c _ p s) _ fun _ => rfl
  · unfold step13
    rw [pay3_apply]
    exact congrArg _ (blocks m c k h r (fun R => arg6 m c (ix2 R s)) (fun p => iblk m c 6 ⟨k, h⟩ (ix2 p s)) (fun p => block6 m c _ p s) _ fun _ => rfl)
theorem result13 : (val_main_v14 (F := Ideal) (arg0 m c) (arg6 m c) : _) = product m c fun R (k : Fin 512) => arg6 m c (ix2 R k) := by
  funext y
  obtain ⟨r, s, rfl⟩ : ∃ r s, y = ix2 r s := ⟨_, _, eq_ix2 y⟩
  unfold product term
  pointwise [val_main_v14, val_main_v13, val_main_v12]

theorem final14 : G14 m c = product m c fun R (k : Fin 512) => arg7 m c (ix2 R k) := by
  funext y
  obtain ⟨r, s, rfl⟩ : ∃ r s, y = ix2 r s := ⟨_, _, eq_ix2 y⟩
  have hb : 8 * run14Of (ix2 r s) = 0 := by show 8 * (1 * (r.val / 1024 - 0) + 1 * (s.val / 512 - 0)) = 0; omega
  have hl : loc14Of (ix2 r s) = ix2 r s := place r s _ rfl rfl
  have hN : 8 * run14Of (ix2 r s) + 7 < cfg0.N := by rw [hb, size]; decide
  unfold G14
  rw [dif_pos hN, hl]
  refine (fold 1024 _ _ (ix2 r s) (col (term m c r fun R => arg7 m c (ix2 R s))) (fun k h => ?_) (fun k h a => ?_) _ hb 7 hN).trans (col_sum _ _ rfl)
  · unfold reset14
    rw [pay4_apply, pay11_apply, zero_add]
    exact blocks m c k h r (fun R => arg7 m c (ix2 R s)) (fun p => iblk m c 7 ⟨k, h⟩ (ix2 p s)) (fun p => block7 m c _ p s) _ fun _ => rfl
  · unfold step14
    rw [pay4_apply]
    exact congrArg _ (blocks m c k h r (fun R => arg7 m c (ix2 R s)) (fun p => iblk m c 7 ⟨k, h⟩ (ix2 p s)) (fun p => block7 m c _ p s) _ fun _ => rfl)
theorem result14 : (val_main_v16 (F := Ideal) (arg0 m c) (arg7 m c) : _) = product m c fun R (k : Fin 512) => arg7 m c (ix2 R k) := by
  funext y
  obtain ⟨r, s, rfl⟩ : ∃ r s, y = ix2 r s := ⟨_, _, eq_ix2 y⟩
  unfold product term
  pointwise [val_main_v16, val_main_v15]

/-- The reference runs and leaves its arguments unchanged. -/
theorem frame_reference : Cert.quiescent_NarrowRefIdeal := fun m ρ _ =>
  (θ_run Cert.NarrowRefIdeal.defs _ _).mono (fun r h => ⟨fun c => (h c).2.2.2.2.2.2.2,
      Idealize.ShloMosaic.sem_eq_zero_of_no_sems (by decide) r.2⟩)
    (Cert.NarrowRefIdeal.Value.run (F := Ideal) m ρ)

set_option maxHeartbeats 2000000 in
theorem algebraic : Cert.algebraic_NarrowIdeal_NarrowRefIdeal := by
  intro m ρ m' ρ' _ hagree
  refine ⟨fun c => product m c fun R (k : Fin 512) => arg1 m c (ix2 R k), fun c => product m c fun R (k : Fin 512) => arg2 m c (ix2 R k), fun c => product m c fun R (k : Fin 512) => arg3 m c (ix2 R k), fun c => product m c fun R (k : Fin 8) => arg4 m c (ix2 R k), fun c => product m c fun R (k : Fin 512) => arg5 m c (ix2 R k), fun c => product m c fun R (k : Fin 512) => arg6 m c (ix2 R k), fun c => product m c fun R (k : Fin 512) => arg7 m c (ix2 R k), ?_, ?_⟩
  · refine (θ_run Cert.NarrowIdeal.defs _ _).mono (fun _ h c => ?_) (Cert.NarrowIdeal.Value.run (F := Ideal) m ρ)
    obtain ⟨h8, h9, h10, h11, h12, h13, h14, hk⟩ := h c
    exact ⟨h8.trans (final8 m c), h9.trans (final9 m c), h10.trans (final10 m c), h11.trans (final11 m c), h12.trans (final12 m c), h13.trans (final13 m c), h14.trans (final14 m c), hk⟩
  · refine (θ_run Cert.NarrowRefIdeal.defs _ _).mono (fun _ h c => ?_) (Cert.NarrowRefIdeal.Value.run (F := Ideal) m' ρ')
    obtain ⟨a0, a1, a2, a3, a4, a5, a6, a7⟩ := hagree c
    obtain ⟨h8, h9, h10, h11, h12, h13, h14, hk⟩ := h c
    refine ⟨h8.trans ?_, h9.trans ?_, h10.trans ?_, h11.trans ?_, h12.trans ?_, h13.trans ?_, h14.trans ?_, hk⟩
    · rw [val_main_v2_eq, a0, a1]
      exact result8 m c
    · rw [val_main_v4_eq, a0, a2]
      exact result9 m c
    · rw [val_main_v6_eq, a0, a3]
      exact result10 m c
    · rw [val_main_v9_eq, a0, a4]
      exact result11 m c
    · rw [val_main_v11_eq, a0, a5]
      exact result12 m c
    · rw [val_main_v14_eq, a0, a6]
      exact result13 m c
    · rw [val_main_v16_eq, a0, a7]
      exact result14 m c

end Cert.NarrowProof.Claim

end
-- ==== Proof.WadaClaim.lean ====
/- The gradient of the modulation's weight: the transpose of the conditioning times its cotangent. -/
module

public import proofs.«01_k».proof.Defs
public import Idealize.ShloMosaic.Lib.Pointwise
public import Idealize.ShloMosaic.Lib.ValueIdx
public import Idealize.ShloMosaic.Lib.Quiescent
public import Idealize.ShloMosaic.PureOps.Ideal.Laws
public import proofs.«01_k».proof.Proof.Gen.WadaIdeal.Value
public import proofs.«01_k».proof.Proof.Gen.WadaRefIdeal.Run
public import proofs.«01_k».proof.Proof.Gen.WadaRefIdeal.Read

@[expose] public section

set_option maxRecDepth 16384

noncomputable section

namespace Cert.WadaProof.Claim

open Cert.WadaRefIdeal.Read Idealize.ShloMosaic Idealize.ShloMosaic.TcCoe Idealize.SL.Sem

/-- The body's one product is the reference's. -/
theorem value (x : Vec Ideal Cert.WadaIdeal.S8x1024 .f32) (y : Vec Ideal Cert.WadaIdeal.S8x384 .f32) :
    (val_main_v2 (F := Ideal) x y : _) = Cert.WadaIdeal.Gen.k0_pay1 (F := Ideal) x y := by
  funext j
  obtain ⟨z, r, s, rfl⟩ : ∃ z r s, j = ix3 z r s := ⟨_, _, _, eq_ix3 j⟩
  have a : (val_main_v2 (F := Ideal) x y (ix3 z r s) : EReal) = ∑ p : Fin 8, x (ix2 p r) * y (ix2 p s) := by
    pointwise [val_main_v2, val_main_v1, val_main_v0]
  have b : (Cert.WadaIdeal.Gen.k0_pay1 (F := Ideal) x y (ix3 z r s) : EReal) = ∑ p : Fin 8, x (ix2 p r) * y (ix2 p s) := by
    pointwise [Cert.WadaIdeal.Gen.k0_pay1]
  exact a.trans b.symm

/-- The reference runs and leaves its arguments unchanged. -/
theorem frame_reference : Cert.quiescent_WadaRefIdeal := fun m ρ _ =>
  (θ_run Cert.WadaRefIdeal.defs _ _).mono (fun r h => ⟨fun c => (h c).2,
      Idealize.ShloMosaic.sem_eq_zero_of_no_sems (by decide) r.2⟩)
    (Cert.WadaRefIdeal.Value.run (F := Ideal) m ρ)

theorem algebraic : Cert.algebraic_WadaIdeal_WadaRefIdeal := by
  intro m ρ m' ρ' _ hagree
  refine ⟨fun c => Cert.WadaIdeal.Value.G2 (F := Ideal) (m (c, Proc.tc.devRef Cert.WadaIdeal.main_arg0)) (m (c, Proc.tc.devRef Cert.WadaIdeal.main_arg1)), ?_, ?_⟩
  · exact (θ_run Cert.WadaIdeal.defs _ _).mono (fun _ h c => h c) (Cert.WadaIdeal.Value.run (F := Ideal) m ρ)
  · refine (θ_run Cert.WadaRefIdeal.defs _ _).mono (fun _ h c => ?_) (Cert.WadaRefIdeal.Value.run (F := Ideal) m' ρ')
    obtain ⟨a0, a1⟩ := hagree c
    refine ⟨(h c).1.trans ?_, (h c).2⟩
    rw [val_main_v2_eq, a0, a1]
    exact value _ _

end Cert.WadaProof.Claim

end
-- ==== Proof.lean ====
/- The claims of this certificate, assembled: each call's frame and value from its own modules. -/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Fgate
public import proofs.«01_k».proof.Proof.Gen.Fgate.Skeleton
public import proofs.«01_k».proof.Proof.Gen.Fgate.Launch
public import proofs.«01_k».proof.Proof.Gen.Fgate.Points
public import proofs.«01_k».proof.Proof.Gen.Fgate.Frame
public import proofs.«01_k».proof.Proof.Gen.FgateIdeal
public import proofs.«01_k».proof.Proof.Gen.FgateIdeal.Skeleton
public import proofs.«01_k».proof.Proof.Gen.FgateIdeal.Launch
public import proofs.«01_k».proof.Proof.Gen.FgateIdeal.Points
public import proofs.«01_k».proof.Proof.Gen.FgateIdeal.Frame
public import proofs.«01_k».proof.Proof.Gen.FgateRefIdeal
public import proofs.«01_k».proof.Proof.Gen.FgateIdeal.Value
public import proofs.«01_k».proof.Proof.Gen.FgateRefIdeal.Run
public import proofs.«01_k».proof.Proof.Gen.FgateRefIdeal.Read
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Afwd.Frame
public import proofs.«01_k».proof.Proof.Gen.AfwdIdeal.Frame
public import proofs.«01_k».proof.Proof.Gen.AfwdIdeal.Value
public import proofs.«01_k».proof.Proof.Gen.AfwdRefIdeal.Run
public import proofs.«01_k».proof.Proof.Gen.AfwdRefIdeal.Read
public import proofs.«01_k».proof.Proof.Gen.Parts.Frame
public import proofs.«01_k».proof.Proof.Gen.PartsIdeal.Frame
public import proofs.«01_k».proof.Proof.Gen.PartsIdeal.Value
public import proofs.«01_k».proof.Proof.Gen.PartsRefIdeal.Run
public import proofs.«01_k».proof.Proof.Gen.PartsRefIdeal.Read
public import proofs.«01_k».proof.Proof.Gen.Update.Frame
public import proofs.«01_k».proof.Proof.Gen.UpdateIdeal.Frame
public import proofs.«01_k».proof.Proof.Gen.UpdateIdeal.Value
public import proofs.«01_k».proof.Proof.Gen.UpdateRefIdeal.Run
public import proofs.«01_k».proof.Proof.Gen.UpdateRefIdeal.Read
public import proofs.«01_k».proof.Proof.Gen.Wout.Frame
public import proofs.«01_k».proof.Proof.Gen.WoutIdeal.Frame
public import proofs.«01_k».proof.Proof.Gen.WoutIdeal.Value
public import proofs.«01_k».proof.Proof.Gen.WoutRefIdeal.Run
public import proofs.«01_k».proof.Proof.Gen.WoutRefIdeal.Read
public import proofs.«01_k».proof.Proof.Gen.Narrow.Frame
public import proofs.«01_k».proof.Proof.Gen.NarrowIdeal.Frame
public import proofs.«01_k».proof.Proof.Gen.NarrowIdeal.Value
public import proofs.«01_k».proof.Proof.Gen.NarrowRefIdeal.Run
public import proofs.«01_k».proof.Proof.Gen.NarrowRefIdeal.Read
public import proofs.«01_k».proof.Proof.Gen.Wada.Frame
public import proofs.«01_k».proof.Proof.Gen.WadaIdeal.Frame
public import proofs.«01_k».proof.Proof.Gen.WadaIdeal.Value
public import proofs.«01_k».proof.Proof.Gen.WadaRefIdeal.Run
public import proofs.«01_k».proof.Proof.Gen.WadaRefIdeal.Read
public import proofs.«01_k».proof.Proof.FgateEquation
public import proofs.«01_k».proof.Proof.AttnClaim
public import proofs.«01_k».proof.Proof.ProjClaim
public import proofs.«01_k».proof.Proof.MixBits
public import proofs.«01_k».proof.Proof.MixClaim
public import proofs.«01_k».proof.Proof.AfwdClaim
public import proofs.«01_k».proof.Proof.PartsClaim
public import proofs.«01_k».proof.Proof.UpdateClaim
public import proofs.«01_k».proof.Proof.WoutClaim
public import proofs.«01_k».proof.Proof.NarrowClaim
public import proofs.«01_k».proof.Proof.WadaClaim
public import Idealize.ShloMosaic.Adequacy
public import Idealize.ShloMosaic.Init

@[expose] public section

noncomputable section

namespace Cert.Proof

open Idealize.ShloMosaic

theorem claim : Cert.Claim := ⟨Cert.Fgate.Gen.facts, Cert.FgateIdeal.Gen.facts, Cert.FgateRefIdeal.Gen.facts,
  Cert.Attn.Gen.facts, Cert.AttnIdeal.Gen.facts, Cert.AttnRefIdeal.Gen.facts, Cert.Proj.Gen.facts,
  Cert.ProjIdeal.Gen.facts, Cert.ProjRefIdeal.Gen.facts, Cert.Mix.Gen.facts, Cert.MixIdeal.Gen.facts, Cert.MixRefIdeal.Gen.facts,
  Cert.Afwd.Gen.facts, Cert.AfwdIdeal.Gen.facts, Cert.AfwdRefIdeal.Gen.facts,
  Cert.Parts.Gen.facts, Cert.PartsIdeal.Gen.facts, Cert.PartsRefIdeal.Gen.facts,
  Cert.Update.Gen.facts, Cert.UpdateIdeal.Gen.facts, Cert.UpdateRefIdeal.Gen.facts,
  Cert.Wout.Gen.facts, Cert.WoutIdeal.Gen.facts, Cert.WoutRefIdeal.Gen.facts,
  Cert.Narrow.Gen.facts, Cert.NarrowIdeal.Gen.facts, Cert.NarrowRefIdeal.Gen.facts,
  Cert.Wada.Gen.facts, Cert.WadaIdeal.Gen.facts, Cert.WadaRefIdeal.Gen.facts,
  Cert.AttnProof.Claim.finite_facts, Cert.ProjProof.Claim.finite_facts, Cert.MixProof.Claim.finite_facts, Cert.AfwdProof.Claim.finite_facts,
  fun m ρ _ => Cert.Fgate.Gen.frame m ρ,
  fun m ρ _ => Cert.FgateIdeal.Gen.frame m ρ,
  Cert.FgateProof.Equation.frame_reference,
  fun m ρ _ => Cert.Attn.Gen.frame m ρ,
  fun m ρ _ => Cert.AttnIdeal.Gen.frame m ρ,
  fun m ρ _ => Cert.AttnIdeal.Gen.frame m ρ,
  Cert.AttnProof.Claim.frame_reference,
  fun m ρ _ => Cert.AttnProof.Claim.frame_reference m ρ trivial,
  fun m ρ _ => Cert.Proj.Gen.frame m ρ,
  fun m ρ _ => Cert.ProjIdeal.Gen.frame m ρ,
  fun m ρ _ => Cert.ProjIdeal.Gen.frame m ρ,
  Cert.ProjProof.Claim.frame_reference,
  fun m ρ _ => Cert.ProjProof.Claim.frame_reference m ρ trivial,
  fun m ρ _ => Cert.MixProof.Bits.frame m ρ,
  fun m ρ _ => Cert.MixProof.frame m ρ,
  fun m ρ _ => Cert.MixProof.frame m ρ,
  Cert.MixProof.Claim.frame_reference,
  fun m ρ _ => Cert.MixProof.Claim.frame_reference m ρ trivial,
  fun m ρ _ => Cert.Afwd.Gen.frame m ρ,
  fun m ρ _ => Cert.AfwdIdeal.Gen.frame m ρ,
  fun m ρ _ => Cert.AfwdIdeal.Gen.frame m ρ,
  Cert.AfwdProof.Claim.frame_reference,
  fun m ρ _ => Cert.AfwdProof.Claim.frame_reference m ρ trivial,
  fun m ρ _ => Cert.Parts.Gen.frame m ρ,
  fun m ρ _ => Cert.PartsIdeal.Gen.frame m ρ,
  Cert.PartsProof.Claim.frame_reference,
  fun m ρ _ => Cert.Update.Gen.frame m ρ,
  fun m ρ _ => Cert.UpdateIdeal.Gen.frame m ρ,
  Cert.UpdateProof.Claim.frame_reference,
  fun m ρ _ => Cert.Wout.Gen.frame m ρ,
  fun m ρ _ => Cert.WoutIdeal.Gen.frame m ρ,
  Cert.WoutProof.Claim.frame_reference,
  fun m ρ _ => Cert.Narrow.Gen.frame m ρ,
  fun m ρ _ => Cert.NarrowIdeal.Gen.frame m ρ,
  Cert.NarrowProof.Claim.frame_reference,
  fun m ρ _ => Cert.Wada.Gen.frame m ρ,
  fun m ρ _ => Cert.WadaIdeal.Gen.frame m ρ,
  Cert.WadaProof.Claim.frame_reference,
  trivial,
  Cert.FgateProof.Equation.algebraic,
  IdealRules.named_const.statement Cert.AttnIdeal.κ "mask" .f32 0xFF7FFFFF#32 ⊥ rfl,
  Cert.AttnProof.Claim.algebraic,
  trivial,
  Cert.ProjProof.Claim.algebraic,
  ⟨IdealRules.named_const.statement Cert.MixIdeal.κ "cubic" .f32 0x3D372713#32 ((8943 / 200000 : ℝ) : EReal) rfl,
    IdealRules.named_const.statement Cert.MixIdeal.κ "slope" .f32 0x3E095D4F#32 ((26829 / 200000 : ℝ) : EReal) rfl⟩,
  Cert.MixProof.Claim.algebraic,
  trivial,
  Cert.AfwdProof.Claim.algebraic,
  trivial,
  Cert.PartsProof.Claim.algebraic,
  trivial,
  Cert.UpdateProof.Claim.algebraic,
  trivial,
  Cert.WoutProof.Claim.algebraic,
  trivial,
  Cert.NarrowProof.Claim.algebraic,
  trivial,
  Cert.WadaProof.Claim.algebraic⟩

end Cert.Proof

end
